-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_RefGatesIdeal (m : (ℓ : Loc Cert.RefGatesIdeal.nD Cert.RefGatesIdeal.τ Cert.RefGatesIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_RefGradInIdeal (m : (ℓ : Loc Cert.RefGradInIdeal.nD Cert.RefGradInIdeal.τ Cert.RefGradInIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_RefGradGateIdeal (m : (ℓ : Loc Cert.RefGradGateIdeal.nD Cert.RefGradGateIdeal.τ Cert.RefGradGateIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_RefDhInIdeal (m : (ℓ : Loc Cert.RefDhInIdeal.nD Cert.RefDhInIdeal.τ Cert.RefDhInIdeal.sig) → Buf (Elt Ideal) ℓ) : Prop :=
  True

def Pre_DhGate (m : (ℓ : Loc Cert.DhGate.nD Cert.DhGate.τ Cert.DhGate.sig) → Buf (Elt Bits) ℓ) : Prop :=
  True

def Pre_DhGateIdeal (m : (ℓ : Loc Cert.DhGateIdeal.nD Cert.DhGateIdeal.τ Cert.DhGateIdeal.sig) → Buf (Elt Ideal) ℓ) : Prop :=
  True

def Pre_RefDhGateIdeal (m : (ℓ : Loc Cert.RefDhGateIdeal.nD Cert.RefDhGateIdeal.τ Cert.RefDhGateIdeal.sig) → Buf (Elt Ideal) ℓ) : Prop :=
  True

def Pre_Gates0 (m : (ℓ : Loc Cert.Gates0.nD Cert.Gates0.τ Cert.Gates0.sig) → Buf (Elt Bits) ℓ) : Prop :=
  True

def Pre_Gates0Ideal (m : (ℓ : Loc Cert.Gates0Ideal.nD Cert.Gates0Ideal.τ Cert.Gates0Ideal.sig) → Buf (Elt Ideal) ℓ) : Prop :=
  True

def Pre_RefGates0Ideal (m : (ℓ : Loc Cert.RefGates0Ideal.nD Cert.RefGates0Ideal.τ Cert.RefGates0Ideal.sig) → Buf (Elt Ideal) ℓ) : Prop :=
  True

def Pre_DhIn0 (m : (ℓ : Loc Cert.DhIn0.nD Cert.DhIn0.τ Cert.DhIn0.sig) → Buf (Elt Bits) ℓ) : Prop :=
  True

def Pre_DhIn0Ideal (m : (ℓ : Loc Cert.DhIn0Ideal.nD Cert.DhIn0Ideal.τ Cert.DhIn0Ideal.sig) → Buf (Elt Ideal) ℓ) : Prop :=
  True

def Pre_RefDhIn0Ideal (m : (ℓ : Loc Cert.RefDhIn0Ideal.nD Cert.RefDhIn0Ideal.τ Cert.RefDhIn0Ideal.sig) → Buf (Elt Ideal) ℓ) : Prop :=
  True

def Pre_DhGate0 (m : (ℓ : Loc Cert.DhGate0.nD Cert.DhGate0.τ Cert.DhGate0.sig) → Buf (Elt Bits) ℓ) : Prop :=
  True

def Pre_DhGate0Ideal (m : (ℓ : Loc Cert.DhGate0Ideal.nD Cert.DhGate0Ideal.τ Cert.DhGate0Ideal.sig) → Buf (Elt Ideal) ℓ) : Prop :=
  True

def Pre_RefDhGate0Ideal (m : (ℓ : Loc Cert.RefDhGate0Ideal.nD Cert.RefDhGate0Ideal.τ Cert.RefDhGate0Ideal.sig) → Buf (Elt Ideal) ℓ) : Prop :=
  True

def Pre_GradRow (m : (ℓ : Loc Cert.GradRow.nD Cert.GradRow.τ Cert.GradRow.sig) → Buf (Elt Bits) ℓ) : Prop :=
  True

def Pre_GradRowIdeal (m : (ℓ : Loc Cert.GradRowIdeal.nD Cert.GradRowIdeal.τ Cert.GradRowIdeal.sig) → Buf (Elt Ideal) ℓ) : Prop :=
  True

def Pre_RefGradRowIdeal (m : (ℓ : Loc Cert.RefGradRowIdeal.nD Cert.RefGradRowIdeal.τ Cert.RefGradRowIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_RefAdamGateIdeal (m : (ℓ : Loc Cert.RefAdamGateIdeal.nD Cert.RefAdamGateIdeal.τ Cert.RefAdamGateIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_RefAdamBranchIdeal (m : (ℓ : Loc Cert.RefAdamBranchIdeal.nD Cert.RefAdamBranchIdeal.τ Cert.RefAdamBranchIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_RefAdamBiasIdeal (m : (ℓ : Loc Cert.RefAdamBiasIdeal.nD Cert.RefAdamBiasIdeal.τ Cert.RefAdamBiasIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_RefAdamNormIdeal (m : (ℓ : Loc Cert.RefAdamNormIdeal.nD Cert.RefAdamNormIdeal.τ Cert.RefAdamNormIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_RefAdamScaleIdeal (m : (ℓ : Loc Cert.RefAdamScaleIdeal.nD Cert.RefAdamScaleIdeal.τ Cert.RefAdamScaleIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_RefAdamFinalIdeal (m : (ℓ : Loc Cert.RefAdamFinalIdeal.nD Cert.RefAdamFinalIdeal.τ Cert.RefAdamFinalIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_RefAdamConvIdeal (m : (ℓ : Loc Cert.RefAdamConvIdeal.nD Cert.RefAdamConvIdeal.τ Cert.RefAdamConvIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_RefAdamPoolIdeal (m : (ℓ : Loc Cert.RefAdamPoolIdeal.nD Cert.RefAdamPoolIdeal.τ Cert.RefAdamPoolIdeal.sig) → Buf (Elt Ideal) ℓ) : Prop :=
  True

def Pre_GradCol (m : (ℓ : Loc Cert.GradCol.nD Cert.GradCol.τ Cert.GradCol.sig) → Buf (Elt Bits) ℓ) : Prop :=
  True

def Pre_GradColIdeal (m : (ℓ : Loc Cert.GradColIdeal.nD Cert.GradColIdeal.τ Cert.GradColIdeal.sig) → Buf (Elt Ideal) ℓ) : Prop :=
  True

def Pre_RefGradColIdeal (m : (ℓ : Loc Cert.RefGradColIdeal.nD Cert.RefGradColIdeal.τ Cert.RefGradColIdeal.sig) → Buf (Elt Ideal) ℓ) : Prop :=
  True

def Pre_DRow (m : (ℓ : Loc Cert.DRow.nD Cert.DRow.τ Cert.DRow.sig) → Buf (Elt Bits) ℓ) : Prop :=
  True

def Pre_DRowIdeal (m : (ℓ : Loc Cert.DRowIdeal.nD Cert.DRowIdeal.τ Cert.DRowIdeal.sig) → Buf (Elt Ideal) ℓ) : Prop :=
  True

def Pre_RefDRowIdeal (m : (ℓ : Loc Cert.RefDRowIdeal.nD Cert.RefDRowIdeal.τ Cert.RefDRowIdeal.sig) → Buf (Elt Ideal) ℓ) : Prop :=
  True

def Pre_DRow0 (m : (ℓ : Loc Cert.DRow0.nD Cert.DRow0.τ Cert.DRow0.sig) → Buf (Elt Bits) ℓ) : Prop :=
  True

def Pre_DRow0Ideal (m : (ℓ : Loc Cert.DRow0Ideal.nD Cert.DRow0Ideal.τ Cert.DRow0Ideal.sig) → Buf (Elt Ideal) ℓ) : Prop :=
  True

def Pre_RefDRow0Ideal (m : (ℓ : Loc Cert.RefDRow0Ideal.nD Cert.RefDRow0Ideal.τ Cert.RefDRow0Ideal.sig) → Buf (Elt Ideal) ℓ) : Prop :=
  True

def Pre_DCol (m : (ℓ : Loc Cert.DCol.nD Cert.DCol.τ Cert.DCol.sig) → Buf (Elt Bits) ℓ) : Prop :=
  True

def Pre_DColIdeal (m : (ℓ : Loc Cert.DColIdeal.nD Cert.DColIdeal.τ Cert.DColIdeal.sig) → Buf (Elt Ideal) ℓ) : Prop :=
  True

def Pre_RefDColIdeal (m : (ℓ : Loc Cert.RefDColIdeal.nD Cert.RefDColIdeal.τ Cert.RefDColIdeal.sig) → Buf (Elt Ideal) ℓ) : Prop :=
  True

def Pre_DCol0 (m : (ℓ : Loc Cert.DCol0.nD Cert.DCol0.τ Cert.DCol0.sig) → Buf (Elt Bits) ℓ) : Prop :=
  True

def Pre_DCol0Ideal (m : (ℓ : Loc Cert.DCol0Ideal.nD Cert.DCol0Ideal.τ Cert.DCol0Ideal.sig) → Buf (Elt Ideal) ℓ) : Prop :=
  True

def Pre_RefDCol0Ideal (m : (ℓ : Loc Cert.RefDCol0Ideal.nD Cert.RefDCol0Ideal.τ Cert.RefDCol0Ideal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_RefBranchAIdeal (m : (ℓ : Loc Cert.RefBranchAIdeal.nD Cert.RefBranchAIdeal.τ Cert.RefBranchAIdeal.sig) → Buf (Elt Ideal) ℓ) : Prop :=
  True

def Pre_BranchA0 (m : (ℓ : Loc Cert.BranchA0.nD Cert.BranchA0.τ Cert.BranchA0.sig) → Buf (Elt Bits) ℓ) : Prop :=
  True

def Pre_BranchA0Ideal (m : (ℓ : Loc Cert.BranchA0Ideal.nD Cert.BranchA0Ideal.τ Cert.BranchA0Ideal.sig) → Buf (Elt Ideal) ℓ) : Prop :=
  True

def Pre_RefBranchA0Ideal (m : (ℓ : Loc Cert.RefBranchA0Ideal.nD Cert.RefBranchA0Ideal.τ Cert.RefBranchA0Ideal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_RefBranchBIdeal (m : (ℓ : Loc Cert.RefBranchBIdeal.nD Cert.RefBranchBIdeal.τ Cert.RefBranchBIdeal.sig) → Buf (Elt Ideal) ℓ) : Prop :=
  True

def Pre_BranchB0 (m : (ℓ : Loc Cert.BranchB0.nD Cert.BranchB0.τ Cert.BranchB0.sig) → Buf (Elt Bits) ℓ) : Prop :=
  True

def Pre_BranchB0Ideal (m : (ℓ : Loc Cert.BranchB0Ideal.nD Cert.BranchB0Ideal.τ Cert.BranchB0Ideal.sig) → Buf (Elt Ideal) ℓ) : Prop :=
  True

def Pre_RefBranchB0Ideal (m : (ℓ : Loc Cert.RefBranchB0Ideal.nD Cert.RefBranchB0Ideal.τ Cert.RefBranchB0Ideal.sig) → Buf (Elt Ideal) ℓ) : Prop :=
  True

def Pre_BranchC (m : (ℓ : Loc Cert.BranchC.nD Cert.BranchC.τ Cert.BranchC.sig) → Buf (Elt Bits) ℓ) : Prop :=
  True

def Pre_BranchCIdeal (m : (ℓ : Loc Cert.BranchCIdeal.nD Cert.BranchCIdeal.τ Cert.BranchCIdeal.sig) → Buf (Elt Ideal) ℓ) : Prop :=
  True

def Pre_RefBranchCIdeal (m : (ℓ : Loc Cert.RefBranchCIdeal.nD Cert.RefBranchCIdeal.τ Cert.RefBranchCIdeal.sig) → Buf (Elt Ideal) ℓ) : Prop :=
  True

def Pre_BranchC0 (m : (ℓ : Loc Cert.BranchC0.nD Cert.BranchC0.τ Cert.BranchC0.sig) → Buf (Elt Bits) ℓ) : Prop :=
  True

def Pre_BranchC0Ideal (m : (ℓ : Loc Cert.BranchC0Ideal.nD Cert.BranchC0Ideal.τ Cert.BranchC0Ideal.sig) → Buf (Elt Ideal) ℓ) : Prop :=
  True

def Pre_RefBranchC0Ideal (m : (ℓ : Loc Cert.RefBranchC0Ideal.nD Cert.RefBranchC0Ideal.τ Cert.RefBranchC0Ideal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_OutProj0 (m : (ℓ : Loc Cert.OutProj0.nD Cert.OutProj0.τ Cert.OutProj0.sig) → Buf (Elt Bits) ℓ) : Prop :=
  True

def Pre_OutProj0Ideal (m : (ℓ : Loc Cert.OutProj0Ideal.nD Cert.OutProj0Ideal.τ Cert.OutProj0Ideal.sig) → Buf (Elt Ideal) ℓ) : Prop :=
  True

def Pre_RefOutProj0Ideal (m : (ℓ : Loc Cert.RefOutProj0Ideal.nD Cert.RefOutProj0Ideal.τ Cert.RefOutProj0Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_RefGatesIdeal [hRefGatesIdeal : Cert.RefGatesIdeal.Facts] : Prop :=
  ∀ (m : (ℓ : Loc Cert.RefGatesIdeal.nD Cert.RefGatesIdeal.τ Cert.RefGatesIdeal.sig) → Buf (Elt Ideal) ℓ) (g : Dev Cert.RefGatesIdeal.nD → PrngReg), Pre_RefGatesIdeal m →
    θ_run (Cert.RefGatesIdeal.defs (F := Ideal)) (onTc (τ := Cert.RefGatesIdeal.τ) (Cert.RefGatesIdeal.main (F := Ideal))) ⟨m, fun _ => 0, g⟩ (fun r => (∀ c : Dev Cert.RefGatesIdeal.nD,
      r.2.mem ((c.tc : Thread Cert.RefGatesIdeal.nD Cert.RefGatesIdeal.τ).loc Cert.RefGatesIdeal.main_arg0) = m ((c.tc : Thread Cert.RefGatesIdeal.nD Cert.RefGatesIdeal.τ).loc Cert.RefGatesIdeal.main_arg0)
      ∧ r.2.mem ((c.tc : Thread Cert.RefGatesIdeal.nD Cert.RefGatesIdeal.τ).loc Cert.RefGatesIdeal.main_arg1) = m ((c.tc : Thread Cert.RefGatesIdeal.nD Cert.RefGatesIdeal.τ).loc Cert.RefGatesIdeal.main_arg1)
      ∧ r.2.mem ((c.tc : Thread Cert.RefGatesIdeal.nD Cert.RefGatesIdeal.τ).loc Cert.RefGatesIdeal.main_arg2) = m ((c.tc : Thread Cert.RefGatesIdeal.nD Cert.RefGatesIdeal.τ).loc Cert.RefGatesIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_RefGradInIdeal [hRefGradInIdeal : Cert.RefGradInIdeal.Facts] : Prop :=
  ∀ (m : (ℓ : Loc Cert.RefGradInIdeal.nD Cert.RefGradInIdeal.τ Cert.RefGradInIdeal.sig) → Buf (Elt Ideal) ℓ) (g : Dev Cert.RefGradInIdeal.nD → PrngReg), Pre_RefGradInIdeal m →
    θ_run (Cert.RefGradInIdeal.defs (F := Ideal)) (onTc (τ := Cert.RefGradInIdeal.τ) (Cert.RefGradInIdeal.main (F := Ideal))) ⟨m, fun _ => 0, g⟩ (fun r => (∀ c : Dev Cert.RefGradInIdeal.nD,
      r.2.mem ((c.tc : Thread Cert.RefGradInIdeal.nD Cert.RefGradInIdeal.τ).loc Cert.RefGradInIdeal.main_arg0) = m ((c.tc : Thread Cert.RefGradInIdeal.nD Cert.RefGradInIdeal.τ).loc Cert.RefGradInIdeal.main_arg0)
      ∧ r.2.mem ((c.tc : Thread Cert.RefGradInIdeal.nD Cert.RefGradInIdeal.τ).loc Cert.RefGradInIdeal.main_arg1) = m ((c.tc : Thread Cert.RefGradInIdeal.nD Cert.RefGradInIdeal.τ).loc Cert.RefGradInIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_RefGradGateIdeal [hRefGradGateIdeal : Cert.RefGradGateIdeal.Facts] : Prop :=
  ∀ (m : (ℓ : Loc Cert.RefGradGateIdeal.nD Cert.RefGradGateIdeal.τ Cert.RefGradGateIdeal.sig) → Buf (Elt Ideal) ℓ) (g : Dev Cert.RefGradGateIdeal.nD → PrngReg), Pre_RefGradGateIdeal m →
    θ_run (Cert.RefGradGateIdeal.defs (F := Ideal)) (onTc (τ := Cert.RefGradGateIdeal.τ) (Cert.RefGradGateIdeal.main (F := Ideal))) ⟨m, fun _ => 0, g⟩ (fun r => (∀ c : Dev Cert.RefGradGateIdeal.nD,
      r.2.mem ((c.tc : Thread Cert.RefGradGateIdeal.nD Cert.RefGradGateIdeal.τ).loc Cert.RefGradGateIdeal.main_arg0) = m ((c.tc : Thread Cert.RefGradGateIdeal.nD Cert.RefGradGateIdeal.τ).loc Cert.RefGradGateIdeal.main_arg0)
      ∧ r.2.mem ((c.tc : Thread Cert.RefGradGateIdeal.nD Cert.RefGradGateIdeal.τ).loc Cert.RefGradGateIdeal.main_arg1) = m ((c.tc : Thread Cert.RefGradGateIdeal.nD Cert.RefGradGateIdeal.τ).loc Cert.RefGradGateIdeal.main_arg1))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ r.2.sem = fun _ => 0)

def quiescent_RefDhInIdeal [hRefDhInIdeal : Cert.RefDhInIdeal.Facts] : Prop :=
  ∀ (m : (ℓ : Loc Cert.RefDhInIdeal.nD Cert.RefDhInIdeal.τ Cert.RefDhInIdeal.sig) → Buf (Elt Ideal) ℓ) (g : Dev Cert.RefDhInIdeal.nD → PrngReg), Pre_RefDhInIdeal m →
    θ_run (Cert.RefDhInIdeal.defs (F := Ideal)) (onTc (τ := Cert.RefDhInIdeal.τ) (Cert.RefDhInIdeal.main (F := Ideal))) ⟨m, fun _ => 0, g⟩ (fun r => (∀ c : Dev Cert.RefDhInIdeal.nD,
      r.2.mem ((c.tc : Thread Cert.RefDhInIdeal.nD Cert.RefDhInIdeal.τ).loc Cert.RefDhInIdeal.main_arg0) = m ((c.tc : Thread Cert.RefDhInIdeal.nD Cert.RefDhInIdeal.τ).loc Cert.RefDhInIdeal.main_arg0)
      ∧ r.2.mem ((c.tc : Thread Cert.RefDhInIdeal.nD Cert.RefDhInIdeal.τ).loc Cert.RefDhInIdeal.main_arg1) = m ((c.tc : Thread Cert.RefDhInIdeal.nD Cert.RefDhInIdeal.τ).loc Cert.RefDhInIdeal.main_arg1))
      ∧ r.2.sem = fun _ => 0)

def quiescent_DhGate [hDhGate : Cert.DhGate.Facts] : Prop :=
  ∀ (m : (ℓ : Loc Cert.DhGate.nD Cert.DhGate.τ Cert.DhGate.sig) → Buf (Elt Bits) ℓ) (g : Dev Cert.DhGate.nD → PrngReg), Pre_DhGate m →
    θ_run (Cert.DhGate.defs (F := Bits)) (onTc (τ := Cert.DhGate.τ) (Cert.DhGate.main (F := Bits))) ⟨m, fun _ => 0, g⟩ (fun r => (∀ c : Dev Cert.DhGate.nD,
      r.2.mem ((c.tc : Thread Cert.DhGate.nD Cert.DhGate.τ).loc Cert.DhGate.main_arg0) = m ((c.tc : Thread Cert.DhGate.nD Cert.DhGate.τ).loc Cert.DhGate.main_arg0)
      ∧ r.2.mem ((c.tc : Thread Cert.DhGate.nD Cert.DhGate.τ).loc Cert.DhGate.main_arg1) = m ((c.tc : Thread Cert.DhGate.nD Cert.DhGate.τ).loc Cert.DhGate.main_arg1)
      ∧ r.2.mem ((c.tc : Thread Cert.DhGate.nD Cert.DhGate.τ).loc Cert.DhGate.main_arg2) = m ((c.tc : Thread Cert.DhGate.nD Cert.DhGate.τ).loc Cert.DhGate.main_arg2))
      ∧ r.2.sem = fun _ => 0)

def quiescent_DhGateIdeal [hDhGateIdeal : Cert.DhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
      ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2))
      ∧ r.2.sem = fun _ => 0)

def quiescent_RefDhGateIdeal [hRefDhGateIdeal : Cert.RefDhGateIdeal.Facts] : Prop :=
  ∀ (m : (ℓ : Loc Cert.RefDhGateIdeal.nD Cert.RefDhGateIdeal.τ Cert.RefDhGateIdeal.sig) → Buf (Elt Ideal) ℓ) (g : Dev Cert.RefDhGateIdeal.nD → PrngReg), Pre_RefDhGateIdeal m →
    θ_run (Cert.RefDhGateIdeal.defs (F := Ideal)) (onTc (τ := Cert.RefDhGateIdeal.τ) (Cert.RefDhGateIdeal.main (F := Ideal))) ⟨m, fun _ => 0, g⟩ (fun r => (∀ c : Dev Cert.RefDhGateIdeal.nD,
      r.2.mem ((c.tc : Thread Cert.RefDhGateIdeal.nD Cert.RefDhGateIdeal.τ).loc Cert.RefDhGateIdeal.main_arg0) = m ((c.tc : Thread Cert.RefDhGateIdeal.nD Cert.RefDhGateIdeal.τ).loc Cert.RefDhGateIdeal.main_arg0)
      ∧ r.2.mem ((c.tc : Thread Cert.RefDhGateIdeal.nD Cert.RefDhGateIdeal.τ).loc Cert.RefDhGateIdeal.main_arg1) = m ((c.tc : Thread Cert.RefDhGateIdeal.nD Cert.RefDhGateIdeal.τ).loc Cert.RefDhGateIdeal.main_arg1)
      ∧ r.2.mem ((c.tc : Thread Cert.RefDhGateIdeal.nD Cert.RefDhGateIdeal.τ).loc Cert.RefDhGateIdeal.main_arg2) = m ((c.tc : Thread Cert.RefDhGateIdeal.nD Cert.RefDhGateIdeal.τ).loc Cert.RefDhGateIdeal.main_arg2))
      ∧ r.2.sem = fun _ => 0)

def quiescent_Gates0 [hGates0 : Cert.Gates0.Facts] : Prop :=
  ∀ (m : (ℓ : Loc Cert.Gates0.nD Cert.Gates0.τ Cert.Gates0.sig) → Buf (Elt Bits) ℓ) (g : Dev Cert.Gates0.nD → PrngReg), Pre_Gates0 m →
    θ_run (Cert.Gates0.defs (F := Bits)) (onTc (τ := Cert.Gates0.τ) (Cert.Gates0.main (F := Bits))) ⟨m, fun _ => 0, g⟩ (fun r => (∀ c : Dev Cert.Gates0.nD,
      r.2.mem ((c.tc : Thread Cert.Gates0.nD Cert.Gates0.τ).loc Cert.Gates0.main_arg0) = m ((c.tc : Thread Cert.Gates0.nD Cert.Gates0.τ).loc Cert.Gates0.main_arg0)
      ∧ r.2.mem ((c.tc : Thread Cert.Gates0.nD Cert.Gates0.τ).loc Cert.Gates0.main_arg1) = m ((c.tc : Thread Cert.Gates0.nD Cert.Gates0.τ).loc Cert.Gates0.main_arg1)
      ∧ r.2.mem ((c.tc : Thread Cert.Gates0.nD Cert.Gates0.τ).loc Cert.Gates0.main_arg2) = m ((c.tc : Thread Cert.Gates0.nD Cert.Gates0.τ).loc Cert.Gates0.main_arg2))
      ∧ r.2.sem = fun _ => 0)

def quiescent_Gates0Ideal [hGates0Ideal : Cert.Gates0Ideal.Facts] : Prop :=
  ∀ (m : (ℓ : Loc Cert.Gates0Ideal.nD Cert.Gates0Ideal.τ Cert.Gates0Ideal.sig) → Buf (Elt Ideal) ℓ) (g : Dev Cert.Gates0Ideal.nD → PrngReg), Pre_Gates0Ideal m →
    θ_run (Cert.Gates0Ideal.defs (F := Ideal)) (onTc (τ := Cert.Gates0Ideal.τ) (Cert.Gates0Ideal.main (F := Ideal))) ⟨m, fun _ => 0, g⟩ (fun r => (∀ c : Dev Cert.Gates0Ideal.nD,
      r.2.mem ((c.tc : Thread Cert.Gates0Ideal.nD Cert.Gates0Ideal.τ).loc Cert.Gates0Ideal.main_arg0) = m ((c.tc : Thread Cert.Gates0Ideal.nD Cert.Gates0Ideal.τ).loc Cert.Gates0Ideal.main_arg0)
      ∧ r.2.mem ((c.tc : Thread Cert.Gates0Ideal.nD Cert.Gates0Ideal.τ).loc Cert.Gates0Ideal.main_arg1) = m ((c.tc : Thread Cert.Gates0Ideal.nD Cert.Gates0Ideal.τ).loc Cert.Gates0Ideal.main_arg1)
      ∧ r.2.mem ((c.tc : Thread Cert.Gates0Ideal.nD Cert.Gates0Ideal.τ).loc Cert.Gates0Ideal.main_arg2) = m ((c.tc : Thread Cert.Gates0Ideal.nD Cert.Gates0Ideal.τ).loc Cert.Gates0Ideal.main_arg2))
      ∧ r.2.sem = fun _ => 0)

def quiescent_RefGates0Ideal [hRefGates0Ideal : Cert.RefGates0Ideal.Facts] : Prop :=
  ∀ (m : (ℓ : Loc Cert.RefGates0Ideal.nD Cert.RefGates0Ideal.τ Cert.RefGates0Ideal.sig) → Buf (Elt Ideal) ℓ) (g : Dev Cert.RefGates0Ideal.nD → PrngReg), Pre_RefGates0Ideal m →
    θ_run (Cert.RefGates0Ideal.defs (F := Ideal)) (onTc (τ := Cert.RefGates0Ideal.τ) (Cert.RefGates0Ideal.main (F := Ideal))) ⟨m, fun _ => 0, g⟩ (fun r => (∀ c : Dev Cert.RefGates0Ideal.nD,
      r.2.mem ((c.tc : Thread Cert.RefGates0Ideal.nD Cert.RefGates0Ideal.τ).loc Cert.RefGates0Ideal.main_arg0) = m ((c.tc : Thread Cert.RefGates0Ideal.nD Cert.RefGates0Ideal.τ).loc Cert.RefGates0Ideal.main_arg0)
      ∧ r.2.mem ((c.tc : Thread Cert.RefGates0Ideal.nD Cert.RefGates0Ideal.τ).loc Cert.RefGates0Ideal.main_arg1) = m ((c.tc : Thread Cert.RefGates0Ideal.nD Cert.RefGates0Ideal.τ).loc Cert.RefGates0Ideal.main_arg1)
      ∧ r.2.mem ((c.tc : Thread Cert.RefGates0Ideal.nD Cert.RefGates0Ideal.τ).loc Cert.RefGates0Ideal.main_arg2) = m ((c.tc : Thread Cert.RefGates0Ideal.nD Cert.RefGates0Ideal.τ).loc Cert.RefGates0Ideal.main_arg2))
      ∧ r.2.sem = fun _ => 0)

def quiescent_DhIn0 [hDhIn0 : Cert.DhIn0.Facts] : Prop :=
  ∀ (m : (ℓ : Loc Cert.DhIn0.nD Cert.DhIn0.τ Cert.DhIn0.sig) → Buf (Elt Bits) ℓ) (g : Dev Cert.DhIn0.nD → PrngReg), Pre_DhIn0 m →
    θ_run (Cert.DhIn0.defs (F := Bits)) (onTc (τ := Cert.DhIn0.τ) (Cert.DhIn0.main (F := Bits))) ⟨m, fun _ => 0, g⟩ (fun r => (∀ c : Dev Cert.DhIn0.nD,
      r.2.mem ((c.tc : Thread Cert.DhIn0.nD Cert.DhIn0.τ).loc Cert.DhIn0.main_arg0) = m ((c.tc : Thread Cert.DhIn0.nD Cert.DhIn0.τ).loc Cert.DhIn0.main_arg0)
      ∧ r.2.mem ((c.tc : Thread Cert.DhIn0.nD Cert.DhIn0.τ).loc Cert.DhIn0.main_arg1) = m ((c.tc : Thread Cert.DhIn0.nD Cert.DhIn0.τ).loc Cert.DhIn0.main_arg1))
      ∧ r.2.sem = fun _ => 0)

def quiescent_DhIn0Ideal [hDhIn0Ideal : Cert.DhIn0Ideal.Facts] : Prop :=
  ∀ (m : (ℓ : Loc Cert.DhIn0Ideal.nD Cert.DhIn0Ideal.τ Cert.DhIn0Ideal.sig) → Buf (Elt Ideal) ℓ) (g : Dev Cert.DhIn0Ideal.nD → PrngReg), Pre_DhIn0Ideal m →
    θ_run (Cert.DhIn0Ideal.defs (F := Ideal)) (onTc (τ := Cert.DhIn0Ideal.τ) (Cert.DhIn0Ideal.main (F := Ideal))) ⟨m, fun _ => 0, g⟩ (fun r => (∀ c : Dev Cert.DhIn0Ideal.nD,
      r.2.mem ((c.tc : Thread Cert.DhIn0Ideal.nD Cert.DhIn0Ideal.τ).loc Cert.DhIn0Ideal.main_arg0) = m ((c.tc : Thread Cert.DhIn0Ideal.nD Cert.DhIn0Ideal.τ).loc Cert.DhIn0Ideal.main_arg0)
      ∧ r.2.mem ((c.tc : Thread Cert.DhIn0Ideal.nD Cert.DhIn0Ideal.τ).loc Cert.DhIn0Ideal.main_arg1) = m ((c.tc : Thread Cert.DhIn0Ideal.nD Cert.DhIn0Ideal.τ).loc Cert.DhIn0Ideal.main_arg1))
      ∧ r.2.sem = fun _ => 0)

def quiescent_RefDhIn0Ideal [hRefDhIn0Ideal : Cert.RefDhIn0Ideal.Facts] : Prop :=
  ∀ (m : (ℓ : Loc Cert.RefDhIn0Ideal.nD Cert.RefDhIn0Ideal.τ Cert.RefDhIn0Ideal.sig) → Buf (Elt Ideal) ℓ) (g : Dev Cert.RefDhIn0Ideal.nD → PrngReg), Pre_RefDhIn0Ideal m →
    θ_run (Cert.RefDhIn0Ideal.defs (F := Ideal)) (onTc (τ := Cert.RefDhIn0Ideal.τ) (Cert.RefDhIn0Ideal.main (F := Ideal))) ⟨m, fun _ => 0, g⟩ (fun r => (∀ c : Dev Cert.RefDhIn0Ideal.nD,
      r.2.mem ((c.tc : Thread Cert.RefDhIn0Ideal.nD Cert.RefDhIn0Ideal.τ).loc Cert.RefDhIn0Ideal.main_arg0) = m ((c.tc : Thread Cert.RefDhIn0Ideal.nD Cert.RefDhIn0Ideal.τ).loc Cert.RefDhIn0Ideal.main_arg0)
      ∧ r.2.mem ((c.tc : Thread Cert.RefDhIn0Ideal.nD Cert.RefDhIn0Ideal.τ).loc Cert.RefDhIn0Ideal.main_arg1) = m ((c.tc : Thread Cert.RefDhIn0Ideal.nD Cert.RefDhIn0Ideal.τ).loc Cert.RefDhIn0Ideal.main_arg1))
      ∧ r.2.sem = fun _ => 0)

def quiescent_DhGate0 [hDhGate0 : Cert.DhGate0.Facts] : Prop :=
  ∀ (m : (ℓ : Loc Cert.DhGate0.nD Cert.DhGate0.τ Cert.DhGate0.sig) → Buf (Elt Bits) ℓ) (g : Dev Cert.DhGate0.nD → PrngReg), Pre_DhGate0 m →
    θ_run (Cert.DhGate0.defs (F := Bits)) (onTc (τ := Cert.DhGate0.τ) (Cert.DhGate0.main (F := Bits))) ⟨m, fun _ => 0, g⟩ (fun r => (∀ c : Dev Cert.DhGate0.nD,
      r.2.mem ((c.tc : Thread Cert.DhGate0.nD Cert.DhGate0.τ).loc Cert.DhGate0.main_arg0) = m ((c.tc : Thread Cert.DhGate0.nD Cert.DhGate0.τ).loc Cert.DhGate0.main_arg0)
      ∧ r.2.mem ((c.tc : Thread Cert.DhGate0.nD Cert.DhGate0.τ).loc Cert.DhGate0.main_arg1) = m ((c.tc : Thread Cert.DhGate0.nD Cert.DhGate0.τ).loc Cert.DhGate0.main_arg1)
      ∧ r.2.mem ((c.tc : Thread Cert.DhGate0.nD Cert.DhGate0.τ).loc Cert.DhGate0.main_arg2) = m ((c.tc : Thread Cert.DhGate0.nD Cert.DhGate0.τ).loc Cert.DhGate0.main_arg2))
      ∧ r.2.sem = fun _ => 0)

def quiescent_DhGate0Ideal [hDhGate0Ideal : Cert.DhGate0Ideal.Facts] : Prop :=
  ∀ (m : (ℓ : Loc Cert.DhGate0Ideal.nD Cert.DhGate0Ideal.τ Cert.DhGate0Ideal.sig) → Buf (Elt Ideal) ℓ) (g : Dev Cert.DhGate0Ideal.nD → PrngReg), Pre_DhGate0Ideal m →
    θ_run (Cert.DhGate0Ideal.defs (F := Ideal)) (onTc (τ := Cert.DhGate0Ideal.τ) (Cert.DhGate0Ideal.main (F := Ideal))) ⟨m, fun _ => 0, g⟩ (fun r => (∀ c : Dev Cert.DhGate0Ideal.nD,
      r.2.mem ((c.tc : Thread Cert.DhGate0Ideal.nD Cert.DhGate0Ideal.τ).loc Cert.DhGate0Ideal.main_arg0) = m ((c.tc : Thread Cert.DhGate0Ideal.nD Cert.DhGate0Ideal.τ).loc Cert.DhGate0Ideal.main_arg0)
      ∧ r.2.mem ((c.tc : Thread Cert.DhGate0Ideal.nD Cert.DhGate0Ideal.τ).loc Cert.DhGate0Ideal.main_arg1) = m ((c.tc : Thread Cert.DhGate0Ideal.nD Cert.DhGate0Ideal.τ).loc Cert.DhGate0Ideal.main_arg1)
      ∧ r.2.mem ((c.tc : Thread Cert.DhGate0Ideal.nD Cert.DhGate0Ideal.τ).loc Cert.DhGate0Ideal.main_arg2) = m ((c.tc : Thread Cert.DhGate0Ideal.nD Cert.DhGate0Ideal.τ).loc Cert.DhGate0Ideal.main_arg2))
      ∧ r.2.sem = fun _ => 0)

def quiescent_RefDhGate0Ideal [hRefDhGate0Ideal : Cert.RefDhGate0Ideal.Facts] : Prop :=
  ∀ (m : (ℓ : Loc Cert.RefDhGate0Ideal.nD Cert.RefDhGate0Ideal.τ Cert.RefDhGate0Ideal.sig) → Buf (Elt Ideal) ℓ) (g : Dev Cert.RefDhGate0Ideal.nD → PrngReg), Pre_RefDhGate0Ideal m →
    θ_run (Cert.RefDhGate0Ideal.defs (F := Ideal)) (onTc (τ := Cert.RefDhGate0Ideal.τ) (Cert.RefDhGate0Ideal.main (F := Ideal))) ⟨m, fun _ => 0, g⟩ (fun r => (∀ c : Dev Cert.RefDhGate0Ideal.nD,
      r.2.mem ((c.tc : Thread Cert.RefDhGate0Ideal.nD Cert.RefDhGate0Ideal.τ).loc Cert.RefDhGate0Ideal.main_arg0) = m ((c.tc : Thread Cert.RefDhGate0Ideal.nD Cert.RefDhGate0Ideal.τ).loc Cert.RefDhGate0Ideal.main_arg0)
      ∧ r.2.mem ((c.tc : Thread Cert.RefDhGate0Ideal.nD Cert.RefDhGate0Ideal.τ).loc Cert.RefDhGate0Ideal.main_arg1) = m ((c.tc : Thread Cert.RefDhGate0Ideal.nD Cert.RefDhGate0Ideal.τ).loc Cert.RefDhGate0Ideal.main_arg1)
      ∧ r.2.mem ((c.tc : Thread Cert.RefDhGate0Ideal.nD Cert.RefDhGate0Ideal.τ).loc Cert.RefDhGate0Ideal.main_arg2) = m ((c.tc : Thread Cert.RefDhGate0Ideal.nD Cert.RefDhGate0Ideal.τ).loc Cert.RefDhGate0Ideal.main_arg2))
      ∧ r.2.sem = fun _ => 0)

def quiescent_GradRow [hGradRow : Cert.GradRow.Facts] : Prop :=
  ∀ (m : (ℓ : Loc Cert.GradRow.nD Cert.GradRow.τ Cert.GradRow.sig) → Buf (Elt Bits) ℓ) (g : Dev Cert.GradRow.nD → PrngReg), Pre_GradRow m →
    θ_run (Cert.GradRow.defs (F := Bits)) (onTc (τ := Cert.GradRow.τ) (Cert.GradRow.main (F := Bits))) ⟨m, fun _ => 0, g⟩ (fun r => (∀ c : Dev Cert.GradRow.nD,
      r.2.mem ((c.tc : Thread Cert.GradRow.nD Cert.GradRow.τ).loc Cert.GradRow.main_arg0) = m ((c.tc : Thread Cert.GradRow.nD Cert.GradRow.τ).loc Cert.GradRow.main_arg0)
      ∧ r.2.mem ((c.tc : Thread Cert.GradRow.nD Cert.GradRow.τ).loc Cert.GradRow.main_arg1) = m ((c.tc : Thread Cert.GradRow.nD Cert.GradRow.τ).loc Cert.GradRow.main_arg1))
      ∧ r.2.sem = fun _ => 0)

def quiescent_GradRowIdeal [hGradRowIdeal : Cert.GradRowIdeal.Facts] : Prop :=
  ∀ (m : (ℓ : Loc Cert.GradRowIdeal.nD Cert.GradRowIdeal.τ Cert.GradRowIdeal.sig) → Buf (Elt Ideal) ℓ) (g : Dev Cert.GradRowIdeal.nD → PrngReg), Pre_GradRowIdeal m →
    θ_run (Cert.GradRowIdeal.defs (F := Ideal)) (onTc (τ := Cert.GradRowIdeal.τ) (Cert.GradRowIdeal.main (F := Ideal))) ⟨m, fun _ => 0, g⟩ (fun r => (∀ c : Dev Cert.GradRowIdeal.nD,
      r.2.mem ((c.tc : Thread Cert.GradRowIdeal.nD Cert.GradRowIdeal.τ).loc Cert.GradRowIdeal.main_arg0) = m ((c.tc : Thread Cert.GradRowIdeal.nD Cert.GradRowIdeal.τ).loc Cert.GradRowIdeal.main_arg0)
      ∧ r.2.mem ((c.tc : Thread Cert.GradRowIdeal.nD Cert.GradRowIdeal.τ).loc Cert.GradRowIdeal.main_arg1) = m ((c.tc : Thread Cert.GradRowIdeal.nD Cert.GradRowIdeal.τ).loc Cert.GradRowIdeal.main_arg1))
      ∧ r.2.sem = fun _ => 0)

def quiescent_RefGradRowIdeal [hRefGradRowIdeal : Cert.RefGradRowIdeal.Facts] : Prop :=
  ∀ (m : (ℓ : Loc Cert.RefGradRowIdeal.nD Cert.RefGradRowIdeal.τ Cert.RefGradRowIdeal.sig) → Buf (Elt Ideal) ℓ) (g : Dev Cert.RefGradRowIdeal.nD → PrngReg), Pre_RefGradRowIdeal m →
    θ_run (Cert.RefGradRowIdeal.defs (F := Ideal)) (onTc (τ := Cert.RefGradRowIdeal.τ) (Cert.RefGradRowIdeal.main (F := Ideal))) ⟨m, fun _ => 0, g⟩ (fun r => (∀ c : Dev Cert.RefGradRowIdeal.nD,
      r.2.mem ((c.tc : Thread Cert.RefGradRowIdeal.nD Cert.RefGradRowIdeal.τ).loc Cert.RefGradRowIdeal.main_arg0) = m ((c.tc : Thread Cert.RefGradRowIdeal.nD Cert.RefGradRowIdeal.τ).loc Cert.RefGradRowIdeal.main_arg0)
      ∧ r.2.mem ((c.tc : Thread Cert.RefGradRowIdeal.nD Cert.RefGradRowIdeal.τ).loc Cert.RefGradRowIdeal.main_arg1) = m ((c.tc : Thread Cert.RefGradRowIdeal.nD Cert.RefGradRowIdeal.τ).loc Cert.RefGradRowIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_RefAdamGateIdeal [hRefAdamGateIdeal : Cert.RefAdamGateIdeal.Facts] : Prop :=
  ∀ (m : (ℓ : Loc Cert.RefAdamGateIdeal.nD Cert.RefAdamGateIdeal.τ Cert.RefAdamGateIdeal.sig) → Buf (Elt Ideal) ℓ) (g : Dev Cert.RefAdamGateIdeal.nD → PrngReg), Pre_RefAdamGateIdeal m →
    θ_run (Cert.RefAdamGateIdeal.defs (F := Ideal)) (onTc (τ := Cert.RefAdamGateIdeal.τ) (Cert.RefAdamGateIdeal.main (F := Ideal))) ⟨m, fun _ => 0, g⟩ (fun r => (∀ c : Dev Cert.RefAdamGateIdeal.nD,
      r.2.mem ((c.tc : Thread Cert.RefAdamGateIdeal.nD Cert.RefAdamGateIdeal.τ).loc Cert.RefAdamGateIdeal.main_arg0) = m ((c.tc : Thread Cert.RefAdamGateIdeal.nD Cert.RefAdamGateIdeal.τ).loc Cert.RefAdamGateIdeal.main_arg0)
      ∧ r.2.mem ((c.tc : Thread Cert.RefAdamGateIdeal.nD Cert.RefAdamGateIdeal.τ).loc Cert.RefAdamGateIdeal.main_arg1) = m ((c.tc : Thread Cert.RefAdamGateIdeal.nD Cert.RefAdamGateIdeal.τ).loc Cert.RefAdamGateIdeal.main_arg1)
      ∧ r.2.mem ((c.tc : Thread Cert.RefAdamGateIdeal.nD Cert.RefAdamGateIdeal.τ).loc Cert.RefAdamGateIdeal.main_arg2) = m ((c.tc : Thread Cert.RefAdamGateIdeal.nD Cert.RefAdamGateIdeal.τ).loc Cert.RefAdamGateIdeal.main_arg2)
      ∧ r.2.mem ((c.tc : Thread Cert.RefAdamGateIdeal.nD Cert.RefAdamGateIdeal.τ).loc Cert.RefAdamGateIdeal.main_arg3) = m ((c.tc : Thread Cert.RefAdamGateIdeal.nD Cert.RefAdamGateIdeal.τ).loc Cert.RefAdamGateIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_RefAdamBranchIdeal [hRefAdamBranchIdeal : Cert.RefAdamBranchIdeal.Facts] : Prop :=
  ∀ (m : (ℓ : Loc Cert.RefAdamBranchIdeal.nD Cert.RefAdamBranchIdeal.τ Cert.RefAdamBranchIdeal.sig) → Buf (Elt Ideal) ℓ) (g : Dev Cert.RefAdamBranchIdeal.nD → PrngReg), Pre_RefAdamBranchIdeal m →
    θ_run (Cert.RefAdamBranchIdeal.defs (F := Ideal)) (onTc (τ := Cert.RefAdamBranchIdeal.τ) (Cert.RefAdamBranchIdeal.main (F := Ideal))) ⟨m, fun _ => 0, g⟩ (fun r => (∀ c : Dev Cert.RefAdamBranchIdeal.nD,
      r.2.mem ((c.tc : Thread Cert.RefAdamBranchIdeal.nD Cert.RefAdamBranchIdeal.τ).loc Cert.RefAdamBranchIdeal.main_arg0) = m ((c.tc : Thread Cert.RefAdamBranchIdeal.nD Cert.RefAdamBranchIdeal.τ).loc Cert.RefAdamBranchIdeal.main_arg0)
      ∧ r.2.mem ((c.tc : Thread Cert.RefAdamBranchIdeal.nD Cert.RefAdamBranchIdeal.τ).loc Cert.RefAdamBranchIdeal.main_arg1) = m ((c.tc : Thread Cert.RefAdamBranchIdeal.nD Cert.RefAdamBranchIdeal.τ).loc Cert.RefAdamBranchIdeal.main_arg1)
      ∧ r.2.mem ((c.tc : Thread Cert.RefAdamBranchIdeal.nD Cert.RefAdamBranchIdeal.τ).loc Cert.RefAdamBranchIdeal.main_arg2) = m ((c.tc : Thread Cert.RefAdamBranchIdeal.nD Cert.RefAdamBranchIdeal.τ).loc Cert.RefAdamBranchIdeal.main_arg2)
      ∧ r.2.mem ((c.tc : Thread Cert.RefAdamBranchIdeal.nD Cert.RefAdamBranchIdeal.τ).loc Cert.RefAdamBranchIdeal.main_arg3) = m ((c.tc : Thread Cert.RefAdamBranchIdeal.nD Cert.RefAdamBranchIdeal.τ).loc Cert.RefAdamBranchIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_RefAdamBiasIdeal [hRefAdamBiasIdeal : Cert.RefAdamBiasIdeal.Facts] : Prop :=
  ∀ (m : (ℓ : Loc Cert.RefAdamBiasIdeal.nD Cert.RefAdamBiasIdeal.τ Cert.RefAdamBiasIdeal.sig) → Buf (Elt Ideal) ℓ) (g : Dev Cert.RefAdamBiasIdeal.nD → PrngReg), Pre_RefAdamBiasIdeal m →
    θ_run (Cert.RefAdamBiasIdeal.defs (F := Ideal)) (onTc (τ := Cert.RefAdamBiasIdeal.τ) (Cert.RefAdamBiasIdeal.main (F := Ideal))) ⟨m, fun _ => 0, g⟩ (fun r => (∀ c : Dev Cert.RefAdamBiasIdeal.nD,
      r.2.mem ((c.tc : Thread Cert.RefAdamBiasIdeal.nD Cert.RefAdamBiasIdeal.τ).loc Cert.RefAdamBiasIdeal.main_arg0) = m ((c.tc : Thread Cert.RefAdamBiasIdeal.nD Cert.RefAdamBiasIdeal.τ).loc Cert.RefAdamBiasIdeal.main_arg0)
      ∧ r.2.mem ((c.tc : Thread Cert.RefAdamBiasIdeal.nD Cert.RefAdamBiasIdeal.τ).loc Cert.RefAdamBiasIdeal.main_arg1) = m ((c.tc : Thread Cert.RefAdamBiasIdeal.nD Cert.RefAdamBiasIdeal.τ).loc Cert.RefAdamBiasIdeal.main_arg1)
      ∧ r.2.mem ((c.tc : Thread Cert.RefAdamBiasIdeal.nD Cert.RefAdamBiasIdeal.τ).loc Cert.RefAdamBiasIdeal.main_arg2) = m ((c.tc : Thread Cert.RefAdamBiasIdeal.nD Cert.RefAdamBiasIdeal.τ).loc Cert.RefAdamBiasIdeal.main_arg2)
      ∧ r.2.mem ((c.tc : Thread Cert.RefAdamBiasIdeal.nD Cert.RefAdamBiasIdeal.τ).loc Cert.RefAdamBiasIdeal.main_arg3) = m ((c.tc : Thread Cert.RefAdamBiasIdeal.nD Cert.RefAdamBiasIdeal.τ).loc Cert.RefAdamBiasIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_RefAdamNormIdeal [hRefAdamNormIdeal : Cert.RefAdamNormIdeal.Facts] : Prop :=
  ∀ (m : (ℓ : Loc Cert.RefAdamNormIdeal.nD Cert.RefAdamNormIdeal.τ Cert.RefAdamNormIdeal.sig) → Buf (Elt Ideal) ℓ) (g : Dev Cert.RefAdamNormIdeal.nD → PrngReg), Pre_RefAdamNormIdeal m →
    θ_run (Cert.RefAdamNormIdeal.defs (F := Ideal)) (onTc (τ := Cert.RefAdamNormIdeal.τ) (Cert.RefAdamNormIdeal.main (F := Ideal))) ⟨m, fun _ => 0, g⟩ (fun r => (∀ c : Dev Cert.RefAdamNormIdeal.nD,
      r.2.mem ((c.tc : Thread Cert.RefAdamNormIdeal.nD Cert.RefAdamNormIdeal.τ).loc Cert.RefAdamNormIdeal.main_arg0) = m ((c.tc : Thread Cert.RefAdamNormIdeal.nD Cert.RefAdamNormIdeal.τ).loc Cert.RefAdamNormIdeal.main_arg0)
      ∧ r.2.mem ((c.tc : Thread Cert.RefAdamNormIdeal.nD Cert.RefAdamNormIdeal.τ).loc Cert.RefAdamNormIdeal.main_arg1) = m ((c.tc : Thread Cert.RefAdamNormIdeal.nD Cert.RefAdamNormIdeal.τ).loc Cert.RefAdamNormIdeal.main_arg1)
      ∧ r.2.mem ((c.tc : Thread Cert.RefAdamNormIdeal.nD Cert.RefAdamNormIdeal.τ).loc Cert.RefAdamNormIdeal.main_arg2) = m ((c.tc : Thread Cert.RefAdamNormIdeal.nD Cert.RefAdamNormIdeal.τ).loc Cert.RefAdamNormIdeal.main_arg2)
      ∧ r.2.mem ((c.tc : Thread Cert.RefAdamNormIdeal.nD Cert.RefAdamNormIdeal.τ).loc Cert.RefAdamNormIdeal.main_arg3) = m ((c.tc : Thread Cert.RefAdamNormIdeal.nD Cert.RefAdamNormIdeal.τ).loc Cert.RefAdamNormIdeal.main_arg3))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ r.2.sem = fun _ => 0)

def quiescent_RefAdamScaleIdeal [hRefAdamScaleIdeal : Cert.RefAdamScaleIdeal.Facts] : Prop :=
  ∀ (m : (ℓ : Loc Cert.RefAdamScaleIdeal.nD Cert.RefAdamScaleIdeal.τ Cert.RefAdamScaleIdeal.sig) → Buf (Elt Ideal) ℓ) (g : Dev Cert.RefAdamScaleIdeal.nD → PrngReg), Pre_RefAdamScaleIdeal m →
    θ_run (Cert.RefAdamScaleIdeal.defs (F := Ideal)) (onTc (τ := Cert.RefAdamScaleIdeal.τ) (Cert.RefAdamScaleIdeal.main (F := Ideal))) ⟨m, fun _ => 0, g⟩ (fun r => (∀ c : Dev Cert.RefAdamScaleIdeal.nD,
      r.2.mem ((c.tc : Thread Cert.RefAdamScaleIdeal.nD Cert.RefAdamScaleIdeal.τ).loc Cert.RefAdamScaleIdeal.main_arg0) = m ((c.tc : Thread Cert.RefAdamScaleIdeal.nD Cert.RefAdamScaleIdeal.τ).loc Cert.RefAdamScaleIdeal.main_arg0)
      ∧ r.2.mem ((c.tc : Thread Cert.RefAdamScaleIdeal.nD Cert.RefAdamScaleIdeal.τ).loc Cert.RefAdamScaleIdeal.main_arg1) = m ((c.tc : Thread Cert.RefAdamScaleIdeal.nD Cert.RefAdamScaleIdeal.τ).loc Cert.RefAdamScaleIdeal.main_arg1)
      ∧ r.2.mem ((c.tc : Thread Cert.RefAdamScaleIdeal.nD Cert.RefAdamScaleIdeal.τ).loc Cert.RefAdamScaleIdeal.main_arg2) = m ((c.tc : Thread Cert.RefAdamScaleIdeal.nD Cert.RefAdamScaleIdeal.τ).loc Cert.RefAdamScaleIdeal.main_arg2)
      ∧ r.2.mem ((c.tc : Thread Cert.RefAdamScaleIdeal.nD Cert.RefAdamScaleIdeal.τ).loc Cert.RefAdamScaleIdeal.main_arg3) = m ((c.tc : Thread Cert.RefAdamScaleIdeal.nD Cert.RefAdamScaleIdeal.τ).loc Cert.RefAdamScaleIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_RefAdamFinalIdeal [hRefAdamFinalIdeal : Cert.RefAdamFinalIdeal.Facts] : Prop :=
  ∀ (m : (ℓ : Loc Cert.RefAdamFinalIdeal.nD Cert.RefAdamFinalIdeal.τ Cert.RefAdamFinalIdeal.sig) → Buf (Elt Ideal) ℓ) (g : Dev Cert.RefAdamFinalIdeal.nD → PrngReg), Pre_RefAdamFinalIdeal m →
    θ_run (Cert.RefAdamFinalIdeal.defs (F := Ideal)) (onTc (τ := Cert.RefAdamFinalIdeal.τ) (Cert.RefAdamFinalIdeal.main (F := Ideal))) ⟨m, fun _ => 0, g⟩ (fun r => (∀ c : Dev Cert.RefAdamFinalIdeal.nD,
      r.2.mem ((c.tc : Thread Cert.RefAdamFinalIdeal.nD Cert.RefAdamFinalIdeal.τ).loc Cert.RefAdamFinalIdeal.main_arg0) = m ((c.tc : Thread Cert.RefAdamFinalIdeal.nD Cert.RefAdamFinalIdeal.τ).loc Cert.RefAdamFinalIdeal.main_arg0)
      ∧ r.2.mem ((c.tc : Thread Cert.RefAdamFinalIdeal.nD Cert.RefAdamFinalIdeal.τ).loc Cert.RefAdamFinalIdeal.main_arg1) = m ((c.tc : Thread Cert.RefAdamFinalIdeal.nD Cert.RefAdamFinalIdeal.τ).loc Cert.RefAdamFinalIdeal.main_arg1)
      ∧ r.2.mem ((c.tc : Thread Cert.RefAdamFinalIdeal.nD Cert.RefAdamFinalIdeal.τ).loc Cert.RefAdamFinalIdeal.main_arg2) = m ((c.tc : Thread Cert.RefAdamFinalIdeal.nD Cert.RefAdamFinalIdeal.τ).loc Cert.RefAdamFinalIdeal.main_arg2)
      ∧ r.2.mem ((c.tc : Thread Cert.RefAdamFinalIdeal.nD Cert.RefAdamFinalIdeal.τ).loc Cert.RefAdamFinalIdeal.main_arg3) = m ((c.tc : Thread Cert.RefAdamFinalIdeal.nD Cert.RefAdamFinalIdeal.τ).loc Cert.RefAdamFinalIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_RefAdamConvIdeal [hRefAdamConvIdeal : Cert.RefAdamConvIdeal.Facts] : Prop :=
  ∀ (m : (ℓ : Loc Cert.RefAdamConvIdeal.nD Cert.RefAdamConvIdeal.τ Cert.RefAdamConvIdeal.sig) → Buf (Elt Ideal) ℓ) (g : Dev Cert.RefAdamConvIdeal.nD → PrngReg), Pre_RefAdamConvIdeal m →
    θ_run (Cert.RefAdamConvIdeal.defs (F := Ideal)) (onTc (τ := Cert.RefAdamConvIdeal.τ) (Cert.RefAdamConvIdeal.main (F := Ideal))) ⟨m, fun _ => 0, g⟩ (fun r => (∀ c : Dev Cert.RefAdamConvIdeal.nD,
      r.2.mem ((c.tc : Thread Cert.RefAdamConvIdeal.nD Cert.RefAdamConvIdeal.τ).loc Cert.RefAdamConvIdeal.main_arg0) = m ((c.tc : Thread Cert.RefAdamConvIdeal.nD Cert.RefAdamConvIdeal.τ).loc Cert.RefAdamConvIdeal.main_arg0)
      ∧ r.2.mem ((c.tc : Thread Cert.RefAdamConvIdeal.nD Cert.RefAdamConvIdeal.τ).loc Cert.RefAdamConvIdeal.main_arg1) = m ((c.tc : Thread Cert.RefAdamConvIdeal.nD Cert.RefAdamConvIdeal.τ).loc Cert.RefAdamConvIdeal.main_arg1)
      ∧ r.2.mem ((c.tc : Thread Cert.RefAdamConvIdeal.nD Cert.RefAdamConvIdeal.τ).loc Cert.RefAdamConvIdeal.main_arg2) = m ((c.tc : Thread Cert.RefAdamConvIdeal.nD Cert.RefAdamConvIdeal.τ).loc Cert.RefAdamConvIdeal.main_arg2)
      ∧ r.2.mem ((c.tc : Thread Cert.RefAdamConvIdeal.nD Cert.RefAdamConvIdeal.τ).loc Cert.RefAdamConvIdeal.main_arg3) = m ((c.tc : Thread Cert.RefAdamConvIdeal.nD Cert.RefAdamConvIdeal.τ).loc Cert.RefAdamConvIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_RefAdamPoolIdeal [hRefAdamPoolIdeal : Cert.RefAdamPoolIdeal.Facts] : Prop :=
  ∀ (m : (ℓ : Loc Cert.RefAdamPoolIdeal.nD Cert.RefAdamPoolIdeal.τ Cert.RefAdamPoolIdeal.sig) → Buf (Elt Ideal) ℓ) (g : Dev Cert.RefAdamPoolIdeal.nD → PrngReg), Pre_RefAdamPoolIdeal m →
    θ_run (Cert.RefAdamPoolIdeal.defs (F := Ideal)) (onTc (τ := Cert.RefAdamPoolIdeal.τ) (Cert.RefAdamPoolIdeal.main (F := Ideal))) ⟨m, fun _ => 0, g⟩ (fun r => (∀ c : Dev Cert.RefAdamPoolIdeal.nD,
      r.2.mem ((c.tc : Thread Cert.RefAdamPoolIdeal.nD Cert.RefAdamPoolIdeal.τ).loc Cert.RefAdamPoolIdeal.main_arg0) = m ((c.tc : Thread Cert.RefAdamPoolIdeal.nD Cert.RefAdamPoolIdeal.τ).loc Cert.RefAdamPoolIdeal.main_arg0)
      ∧ r.2.mem ((c.tc : Thread Cert.RefAdamPoolIdeal.nD Cert.RefAdamPoolIdeal.τ).loc Cert.RefAdamPoolIdeal.main_arg1) = m ((c.tc : Thread Cert.RefAdamPoolIdeal.nD Cert.RefAdamPoolIdeal.τ).loc Cert.RefAdamPoolIdeal.main_arg1)
      ∧ r.2.mem ((c.tc : Thread Cert.RefAdamPoolIdeal.nD Cert.RefAdamPoolIdeal.τ).loc Cert.RefAdamPoolIdeal.main_arg2) = m ((c.tc : Thread Cert.RefAdamPoolIdeal.nD Cert.RefAdamPoolIdeal.τ).loc Cert.RefAdamPoolIdeal.main_arg2)
      ∧ r.2.mem ((c.tc : Thread Cert.RefAdamPoolIdeal.nD Cert.RefAdamPoolIdeal.τ).loc Cert.RefAdamPoolIdeal.main_arg3) = m ((c.tc : Thread Cert.RefAdamPoolIdeal.nD Cert.RefAdamPoolIdeal.τ).loc Cert.RefAdamPoolIdeal.main_arg3))
      ∧ r.2.sem = fun _ => 0)

def quiescent_GradCol [hGradCol : Cert.GradCol.Facts] : Prop :=
  ∀ (m : (ℓ : Loc Cert.GradCol.nD Cert.GradCol.τ Cert.GradCol.sig) → Buf (Elt Bits) ℓ) (g : Dev Cert.GradCol.nD → PrngReg), Pre_GradCol m →
    θ_run (Cert.GradCol.defs (F := Bits)) (onTc (τ := Cert.GradCol.τ) (Cert.GradCol.main (F := Bits))) ⟨m, fun _ => 0, g⟩ (fun r => (∀ c : Dev Cert.GradCol.nD,
      r.2.mem ((c.tc : Thread Cert.GradCol.nD Cert.GradCol.τ).loc Cert.GradCol.main_arg0) = m ((c.tc : Thread Cert.GradCol.nD Cert.GradCol.τ).loc Cert.GradCol.main_arg0)
      ∧ r.2.mem ((c.tc : Thread Cert.GradCol.nD Cert.GradCol.τ).loc Cert.GradCol.main_arg1) = m ((c.tc : Thread Cert.GradCol.nD Cert.GradCol.τ).loc Cert.GradCol.main_arg1))
      ∧ r.2.sem = fun _ => 0)

def quiescent_GradColIdeal [hGradColIdeal : Cert.GradColIdeal.Facts] : Prop :=
  ∀ (m : (ℓ : Loc Cert.GradColIdeal.nD Cert.GradColIdeal.τ Cert.GradColIdeal.sig) → Buf (Elt Ideal) ℓ) (g : Dev Cert.GradColIdeal.nD → PrngReg), Pre_GradColIdeal m →
    θ_run (Cert.GradColIdeal.defs (F := Ideal)) (onTc (τ := Cert.GradColIdeal.τ) (Cert.GradColIdeal.main (F := Ideal))) ⟨m, fun _ => 0, g⟩ (fun r => (∀ c : Dev Cert.GradColIdeal.nD,
      r.2.mem ((c.tc : Thread Cert.GradColIdeal.nD Cert.GradColIdeal.τ).loc Cert.GradColIdeal.main_arg0) = m ((c.tc : Thread Cert.GradColIdeal.nD Cert.GradColIdeal.τ).loc Cert.GradColIdeal.main_arg0)
      ∧ r.2.mem ((c.tc : Thread Cert.GradColIdeal.nD Cert.GradColIdeal.τ).loc Cert.GradColIdeal.main_arg1) = m ((c.tc : Thread Cert.GradColIdeal.nD Cert.GradColIdeal.τ).loc Cert.GradColIdeal.main_arg1))
      ∧ r.2.sem = fun _ => 0)

def quiescent_RefGradColIdeal [hRefGradColIdeal : Cert.RefGradColIdeal.Facts] : Prop :=
  ∀ (m : (ℓ : Loc Cert.RefGradColIdeal.nD Cert.RefGradColIdeal.τ Cert.RefGradColIdeal.sig) → Buf (Elt Ideal) ℓ) (g : Dev Cert.RefGradColIdeal.nD → PrngReg), Pre_RefGradColIdeal m →
    θ_run (Cert.RefGradColIdeal.defs (F := Ideal)) (onTc (τ := Cert.RefGradColIdeal.τ) (Cert.RefGradColIdeal.main (F := Ideal))) ⟨m, fun _ => 0, g⟩ (fun r => (∀ c : Dev Cert.RefGradColIdeal.nD,
      r.2.mem ((c.tc : Thread Cert.RefGradColIdeal.nD Cert.RefGradColIdeal.τ).loc Cert.RefGradColIdeal.main_arg0) = m ((c.tc : Thread Cert.RefGradColIdeal.nD Cert.RefGradColIdeal.τ).loc Cert.RefGradColIdeal.main_arg0)
      ∧ r.2.mem ((c.tc : Thread Cert.RefGradColIdeal.nD Cert.RefGradColIdeal.τ).loc Cert.RefGradColIdeal.main_arg1) = m ((c.tc : Thread Cert.RefGradColIdeal.nD Cert.RefGradColIdeal.τ).loc Cert.RefGradColIdeal.main_arg1))
      ∧ r.2.sem = fun _ => 0)

def quiescent_DRow [hDRow : Cert.DRow.Facts] : Prop :=
  ∀ (m : (ℓ : Loc Cert.DRow.nD Cert.DRow.τ Cert.DRow.sig) → Buf (Elt Bits) ℓ) (g : Dev Cert.DRow.nD → PrngReg), Pre_DRow m →
    θ_run (Cert.DRow.defs (F := Bits)) (onTc (τ := Cert.DRow.τ) (Cert.DRow.main (F := Bits))) ⟨m, fun _ => 0, g⟩ (fun r => (∀ c : Dev Cert.DRow.nD,
      r.2.mem ((c.tc : Thread Cert.DRow.nD Cert.DRow.τ).loc Cert.DRow.main_arg0) = m ((c.tc : Thread Cert.DRow.nD Cert.DRow.τ).loc Cert.DRow.main_arg0)
      ∧ r.2.mem ((c.tc : Thread Cert.DRow.nD Cert.DRow.τ).loc Cert.DRow.main_arg1) = m ((c.tc : Thread Cert.DRow.nD Cert.DRow.τ).loc Cert.DRow.main_arg1))
      ∧ r.2.sem = fun _ => 0)

def quiescent_DRowIdeal [hDRowIdeal : Cert.DRowIdeal.Facts] : Prop :=
  ∀ (m : (ℓ : Loc Cert.DRowIdeal.nD Cert.DRowIdeal.τ Cert.DRowIdeal.sig) → Buf (Elt Ideal) ℓ) (g : Dev Cert.DRowIdeal.nD → PrngReg), Pre_DRowIdeal m →
    θ_run (Cert.DRowIdeal.defs (F := Ideal)) (onTc (τ := Cert.DRowIdeal.τ) (Cert.DRowIdeal.main (F := Ideal))) ⟨m, fun _ => 0, g⟩ (fun r => (∀ c : Dev Cert.DRowIdeal.nD,
      r.2.mem ((c.tc : Thread Cert.DRowIdeal.nD Cert.DRowIdeal.τ).loc Cert.DRowIdeal.main_arg0) = m ((c.tc : Thread Cert.DRowIdeal.nD Cert.DRowIdeal.τ).loc Cert.DRowIdeal.main_arg0)
      ∧ r.2.mem ((c.tc : Thread Cert.DRowIdeal.nD Cert.DRowIdeal.τ).loc Cert.DRowIdeal.main_arg1) = m ((c.tc : Thread Cert.DRowIdeal.nD Cert.DRowIdeal.τ).loc Cert.DRowIdeal.main_arg1))
      ∧ r.2.sem = fun _ => 0)

def quiescent_RefDRowIdeal [hRefDRowIdeal : Cert.RefDRowIdeal.Facts] : Prop :=
  ∀ (m : (ℓ : Loc Cert.RefDRowIdeal.nD Cert.RefDRowIdeal.τ Cert.RefDRowIdeal.sig) → Buf (Elt Ideal) ℓ) (g : Dev Cert.RefDRowIdeal.nD → PrngReg), Pre_RefDRowIdeal m →
    θ_run (Cert.RefDRowIdeal.defs (F := Ideal)) (onTc (τ := Cert.RefDRowIdeal.τ) (Cert.RefDRowIdeal.main (F := Ideal))) ⟨m, fun _ => 0, g⟩ (fun r => (∀ c : Dev Cert.RefDRowIdeal.nD,
      r.2.mem ((c.tc : Thread Cert.RefDRowIdeal.nD Cert.RefDRowIdeal.τ).loc Cert.RefDRowIdeal.main_arg0) = m ((c.tc : Thread Cert.RefDRowIdeal.nD Cert.RefDRowIdeal.τ).loc Cert.RefDRowIdeal.main_arg0)
      ∧ r.2.mem ((c.tc : Thread Cert.RefDRowIdeal.nD Cert.RefDRowIdeal.τ).loc Cert.RefDRowIdeal.main_arg1) = m ((c.tc : Thread Cert.RefDRowIdeal.nD Cert.RefDRowIdeal.τ).loc Cert.RefDRowIdeal.main_arg1))
      ∧ r.2.sem = fun _ => 0)

def quiescent_DRow0 [hDRow0 : Cert.DRow0.Facts] : Prop :=
  ∀ (m : (ℓ : Loc Cert.DRow0.nD Cert.DRow0.τ Cert.DRow0.sig) → Buf (Elt Bits) ℓ) (g : Dev Cert.DRow0.nD → PrngReg), Pre_DRow0 m →
    θ_run (Cert.DRow0.defs (F := Bits)) (onTc (τ := Cert.DRow0.τ) (Cert.DRow0.main (F := Bits))) ⟨m, fun _ => 0, g⟩ (fun r => (∀ c : Dev Cert.DRow0.nD,
      r.2.mem ((c.tc : Thread Cert.DRow0.nD Cert.DRow0.τ).loc Cert.DRow0.main_arg0) = m ((c.tc : Thread Cert.DRow0.nD Cert.DRow0.τ).loc Cert.DRow0.main_arg0)
      ∧ r.2.mem ((c.tc : Thread Cert.DRow0.nD Cert.DRow0.τ).loc Cert.DRow0.main_arg1) = m ((c.tc : Thread Cert.DRow0.nD Cert.DRow0.τ).loc Cert.DRow0.main_arg1))
      ∧ r.2.sem = fun _ => 0)

def quiescent_DRow0Ideal [hDRow0Ideal : Cert.DRow0Ideal.Facts] : Prop :=
  ∀ (m : (ℓ : Loc Cert.DRow0Ideal.nD Cert.DRow0Ideal.τ Cert.DRow0Ideal.sig) → Buf (Elt Ideal) ℓ) (g : Dev Cert.DRow0Ideal.nD → PrngReg), Pre_DRow0Ideal m →
    θ_run (Cert.DRow0Ideal.defs (F := Ideal)) (onTc (τ := Cert.DRow0Ideal.τ) (Cert.DRow0Ideal.main (F := Ideal))) ⟨m, fun _ => 0, g⟩ (fun r => (∀ c : Dev Cert.DRow0Ideal.nD,
      r.2.mem ((c.tc : Thread Cert.DRow0Ideal.nD Cert.DRow0Ideal.τ).loc Cert.DRow0Ideal.main_arg0) = m ((c.tc : Thread Cert.DRow0Ideal.nD Cert.DRow0Ideal.τ).loc Cert.DRow0Ideal.main_arg0)
      ∧ r.2.mem ((c.tc : Thread Cert.DRow0Ideal.nD Cert.DRow0Ideal.τ).loc Cert.DRow0Ideal.main_arg1) = m ((c.tc : Thread Cert.DRow0Ideal.nD Cert.DRow0Ideal.τ).loc Cert.DRow0Ideal.main_arg1))
      ∧ r.2.sem = fun _ => 0)

def quiescent_RefDRow0Ideal [hRefDRow0Ideal : Cert.RefDRow0Ideal.Facts] : Prop :=
  ∀ (m : (ℓ : Loc Cert.RefDRow0Ideal.nD Cert.RefDRow0Ideal.τ Cert.RefDRow0Ideal.sig) → Buf (Elt Ideal) ℓ) (g : Dev Cert.RefDRow0Ideal.nD → PrngReg), Pre_RefDRow0Ideal m →
    θ_run (Cert.RefDRow0Ideal.defs (F := Ideal)) (onTc (τ := Cert.RefDRow0Ideal.τ) (Cert.RefDRow0Ideal.main (F := Ideal))) ⟨m, fun _ => 0, g⟩ (fun r => (∀ c : Dev Cert.RefDRow0Ideal.nD,
      r.2.mem ((c.tc : Thread Cert.RefDRow0Ideal.nD Cert.RefDRow0Ideal.τ).loc Cert.RefDRow0Ideal.main_arg0) = m ((c.tc : Thread Cert.RefDRow0Ideal.nD Cert.RefDRow0Ideal.τ).loc Cert.RefDRow0Ideal.main_arg0)
      ∧ r.2.mem ((c.tc : Thread Cert.RefDRow0Ideal.nD Cert.RefDRow0Ideal.τ).loc Cert.RefDRow0Ideal.main_arg1) = m ((c.tc : Thread Cert.RefDRow0Ideal.nD Cert.RefDRow0Ideal.τ).loc Cert.RefDRow0Ideal.main_arg1))
      ∧ r.2.sem = fun _ => 0)

def quiescent_DCol [hDCol : Cert.DCol.Facts] : Prop :=
  ∀ (m : (ℓ : Loc Cert.DCol.nD Cert.DCol.τ Cert.DCol.sig) → Buf (Elt Bits) ℓ) (g : Dev Cert.DCol.nD → PrngReg), Pre_DCol m →
    θ_run (Cert.DCol.defs (F := Bits)) (onTc (τ := Cert.DCol.τ) (Cert.DCol.main (F := Bits))) ⟨m, fun _ => 0, g⟩ (fun r => (∀ c : Dev Cert.DCol.nD,
      r.2.mem ((c.tc : Thread Cert.DCol.nD Cert.DCol.τ).loc Cert.DCol.main_arg0) = m ((c.tc : Thread Cert.DCol.nD Cert.DCol.τ).loc Cert.DCol.main_arg0)
      ∧ r.2.mem ((c.tc : Thread Cert.DCol.nD Cert.DCol.τ).loc Cert.DCol.main_arg1) = m ((c.tc : Thread Cert.DCol.nD Cert.DCol.τ).loc Cert.DCol.main_arg1))
      ∧ r.2.sem = fun _ => 0)

def quiescent_DColIdeal [hDColIdeal : Cert.DColIdeal.Facts] : Prop :=
  ∀ (m : (ℓ : Loc Cert.DColIdeal.nD Cert.DColIdeal.τ Cert.DColIdeal.sig) → Buf (Elt Ideal) ℓ) (g : Dev Cert.DColIdeal.nD → PrngReg), Pre_DColIdeal m →
    θ_run (Cert.DColIdeal.defs (F := Ideal)) (onTc (τ := Cert.DColIdeal.τ) (Cert.DColIdeal.main (F := Ideal))) ⟨m, fun _ => 0, g⟩ (fun r => (∀ c : Dev Cert.DColIdeal.nD,
      r.2.mem ((c.tc : Thread Cert.DColIdeal.nD Cert.DColIdeal.τ).loc Cert.DColIdeal.main_arg0) = m ((c.tc : Thread Cert.DColIdeal.nD Cert.DColIdeal.τ).loc Cert.DColIdeal.main_arg0)
      ∧ r.2.mem ((c.tc : Thread Cert.DColIdeal.nD Cert.DColIdeal.τ).loc Cert.DColIdeal.main_arg1) = m ((c.tc : Thread Cert.DColIdeal.nD Cert.DColIdeal.τ).loc Cert.DColIdeal.main_arg1))
      ∧ r.2.sem = fun _ => 0)

def quiescent_RefDColIdeal [hRefDColIdeal : Cert.RefDColIdeal.Facts] : Prop :=
  ∀ (m : (ℓ : Loc Cert.RefDColIdeal.nD Cert.RefDColIdeal.τ Cert.RefDColIdeal.sig) → Buf (Elt Ideal) ℓ) (g : Dev Cert.RefDColIdeal.nD → PrngReg), Pre_RefDColIdeal m →
    θ_run (Cert.RefDColIdeal.defs (F := Ideal)) (onTc (τ := Cert.RefDColIdeal.τ) (Cert.RefDColIdeal.main (F := Ideal))) ⟨m, fun _ => 0, g⟩ (fun r => (∀ c : Dev Cert.RefDColIdeal.nD,
      r.2.mem ((c.tc : Thread Cert.RefDColIdeal.nD Cert.RefDColIdeal.τ).loc Cert.RefDColIdeal.main_arg0) = m ((c.tc : Thread Cert.RefDColIdeal.nD Cert.RefDColIdeal.τ).loc Cert.RefDColIdeal.main_arg0)
      ∧ r.2.mem ((c.tc : Thread Cert.RefDColIdeal.nD Cert.RefDColIdeal.τ).loc Cert.RefDColIdeal.main_arg1) = m ((c.tc : Thread Cert.RefDColIdeal.nD Cert.RefDColIdeal.τ).loc Cert.RefDColIdeal.main_arg1))
      ∧ r.2.sem = fun _ => 0)

def quiescent_DCol0 [hDCol0 : Cert.DCol0.Facts] : Prop :=
  ∀ (m : (ℓ : Loc Cert.DCol0.nD Cert.DCol0.τ Cert.DCol0.sig) → Buf (Elt Bits) ℓ) (g : Dev Cert.DCol0.nD → PrngReg), Pre_DCol0 m →
    θ_run (Cert.DCol0.defs (F := Bits)) (onTc (τ := Cert.DCol0.τ) (Cert.DCol0.main (F := Bits))) ⟨m, fun _ => 0, g⟩ (fun r => (∀ c : Dev Cert.DCol0.nD,
      r.2.mem ((c.tc : Thread Cert.DCol0.nD Cert.DCol0.τ).loc Cert.DCol0.main_arg0) = m ((c.tc : Thread Cert.DCol0.nD Cert.DCol0.τ).loc Cert.DCol0.main_arg0)
      ∧ r.2.mem ((c.tc : Thread Cert.DCol0.nD Cert.DCol0.τ).loc Cert.DCol0.main_arg1) = m ((c.tc : Thread Cert.DCol0.nD Cert.DCol0.τ).loc Cert.DCol0.main_arg1))
      ∧ r.2.sem = fun _ => 0)

def quiescent_DCol0Ideal [hDCol0Ideal : Cert.DCol0Ideal.Facts] : Prop :=
  ∀ (m : (ℓ : Loc Cert.DCol0Ideal.nD Cert.DCol0Ideal.τ Cert.DCol0Ideal.sig) → Buf (Elt Ideal) ℓ) (g : Dev Cert.DCol0Ideal.nD → PrngReg), Pre_DCol0Ideal m →
    θ_run (Cert.DCol0Ideal.defs (F := Ideal)) (onTc (τ := Cert.DCol0Ideal.τ) (Cert.DCol0Ideal.main (F := Ideal))) ⟨m, fun _ => 0, g⟩ (fun r => (∀ c : Dev Cert.DCol0Ideal.nD,
      r.2.mem ((c.tc : Thread Cert.DCol0Ideal.nD Cert.DCol0Ideal.τ).loc Cert.DCol0Ideal.main_arg0) = m ((c.tc : Thread Cert.DCol0Ideal.nD Cert.DCol0Ideal.τ).loc Cert.DCol0Ideal.main_arg0)
      ∧ r.2.mem ((c.tc : Thread Cert.DCol0Ideal.nD Cert.DCol0Ideal.τ).loc Cert.DCol0Ideal.main_arg1) = m ((c.tc : Thread Cert.DCol0Ideal.nD Cert.DCol0Ideal.τ).loc Cert.DCol0Ideal.main_arg1))
      ∧ r.2.sem = fun _ => 0)

def quiescent_RefDCol0Ideal [hRefDCol0Ideal : Cert.RefDCol0Ideal.Facts] : Prop :=
  ∀ (m : (ℓ : Loc Cert.RefDCol0Ideal.nD Cert.RefDCol0Ideal.τ Cert.RefDCol0Ideal.sig) → Buf (Elt Ideal) ℓ) (g : Dev Cert.RefDCol0Ideal.nD → PrngReg), Pre_RefDCol0Ideal m →
    θ_run (Cert.RefDCol0Ideal.defs (F := Ideal)) (onTc (τ := Cert.RefDCol0Ideal.τ) (Cert.RefDCol0Ideal.main (F := Ideal))) ⟨m, fun _ => 0, g⟩ (fun r => (∀ c : Dev Cert.RefDCol0Ideal.nD,
      r.2.mem ((c.tc : Thread Cert.RefDCol0Ideal.nD Cert.RefDCol0Ideal.τ).loc Cert.RefDCol0Ideal.main_arg0) = m ((c.tc : Thread Cert.RefDCol0Ideal.nD Cert.RefDCol0Ideal.τ).loc Cert.RefDCol0Ideal.main_arg0)
      ∧ r.2.mem ((c.tc : Thread Cert.RefDCol0Ideal.nD Cert.RefDCol0Ideal.τ).loc Cert.RefDCol0Ideal.main_arg1) = m ((c.tc : Thread Cert.RefDCol0Ideal.nD Cert.RefDCol0Ideal.τ).loc Cert.RefDCol0Ideal.main_arg1))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ r.2.sem = fun _ => 0)

def quiescent_RefBranchAIdeal [hRefBranchAIdeal : Cert.RefBranchAIdeal.Facts] : Prop :=
  ∀ (m : (ℓ : Loc Cert.RefBranchAIdeal.nD Cert.RefBranchAIdeal.τ Cert.RefBranchAIdeal.sig) → Buf (Elt Ideal) ℓ) (g : Dev Cert.RefBranchAIdeal.nD → PrngReg), Pre_RefBranchAIdeal m →
    θ_run (Cert.RefBranchAIdeal.defs (F := Ideal)) (onTc (τ := Cert.RefBranchAIdeal.τ) (Cert.RefBranchAIdeal.main (F := Ideal))) ⟨m, fun _ => 0, g⟩ (fun r => (∀ c : Dev Cert.RefBranchAIdeal.nD,
      r.2.mem ((c.tc : Thread Cert.RefBranchAIdeal.nD Cert.RefBranchAIdeal.τ).loc Cert.RefBranchAIdeal.main_arg0) = m ((c.tc : Thread Cert.RefBranchAIdeal.nD Cert.RefBranchAIdeal.τ).loc Cert.RefBranchAIdeal.main_arg0)
      ∧ r.2.mem ((c.tc : Thread Cert.RefBranchAIdeal.nD Cert.RefBranchAIdeal.τ).loc Cert.RefBranchAIdeal.main_arg1) = m ((c.tc : Thread Cert.RefBranchAIdeal.nD Cert.RefBranchAIdeal.τ).loc Cert.RefBranchAIdeal.main_arg1))
      ∧ r.2.sem = fun _ => 0)

def quiescent_BranchA0 [hBranchA0 : Cert.BranchA0.Facts] : Prop :=
  ∀ (m : (ℓ : Loc Cert.BranchA0.nD Cert.BranchA0.τ Cert.BranchA0.sig) → Buf (Elt Bits) ℓ) (g : Dev Cert.BranchA0.nD → PrngReg), Pre_BranchA0 m →
    θ_run (Cert.BranchA0.defs (F := Bits)) (onTc (τ := Cert.BranchA0.τ) (Cert.BranchA0.main (F := Bits))) ⟨m, fun _ => 0, g⟩ (fun r => (∀ c : Dev Cert.BranchA0.nD,
      r.2.mem ((c.tc : Thread Cert.BranchA0.nD Cert.BranchA0.τ).loc Cert.BranchA0.main_arg0) = m ((c.tc : Thread Cert.BranchA0.nD Cert.BranchA0.τ).loc Cert.BranchA0.main_arg0)
      ∧ r.2.mem ((c.tc : Thread Cert.BranchA0.nD Cert.BranchA0.τ).loc Cert.BranchA0.main_arg1) = m ((c.tc : Thread Cert.BranchA0.nD Cert.BranchA0.τ).loc Cert.BranchA0.main_arg1))
      ∧ r.2.sem = fun _ => 0)

def quiescent_BranchA0Ideal [hBranchA0Ideal : Cert.BranchA0Ideal.Facts] : Prop :=
  ∀ (m : (ℓ : Loc Cert.BranchA0Ideal.nD Cert.BranchA0Ideal.τ Cert.BranchA0Ideal.sig) → Buf (Elt Ideal) ℓ) (g : Dev Cert.BranchA0Ideal.nD → PrngReg), Pre_BranchA0Ideal m →
    θ_run (Cert.BranchA0Ideal.defs (F := Ideal)) (onTc (τ := Cert.BranchA0Ideal.τ) (Cert.BranchA0Ideal.main (F := Ideal))) ⟨m, fun _ => 0, g⟩ (fun r => (∀ c : Dev Cert.BranchA0Ideal.nD,
      r.2.mem ((c.tc : Thread Cert.BranchA0Ideal.nD Cert.BranchA0Ideal.τ).loc Cert.BranchA0Ideal.main_arg0) = m ((c.tc : Thread Cert.BranchA0Ideal.nD Cert.BranchA0Ideal.τ).loc Cert.BranchA0Ideal.main_arg0)
      ∧ r.2.mem ((c.tc : Thread Cert.BranchA0Ideal.nD Cert.BranchA0Ideal.τ).loc Cert.BranchA0Ideal.main_arg1) = m ((c.tc : Thread Cert.BranchA0Ideal.nD Cert.BranchA0Ideal.τ).loc Cert.BranchA0Ideal.main_arg1))
      ∧ r.2.sem = fun _ => 0)

def quiescent_RefBranchA0Ideal [hRefBranchA0Ideal : Cert.RefBranchA0Ideal.Facts] : Prop :=
  ∀ (m : (ℓ : Loc Cert.RefBranchA0Ideal.nD Cert.RefBranchA0Ideal.τ Cert.RefBranchA0Ideal.sig) → Buf (Elt Ideal) ℓ) (g : Dev Cert.RefBranchA0Ideal.nD → PrngReg), Pre_RefBranchA0Ideal m →
    θ_run (Cert.RefBranchA0Ideal.defs (F := Ideal)) (onTc (τ := Cert.RefBranchA0Ideal.τ) (Cert.RefBranchA0Ideal.main (F := Ideal))) ⟨m, fun _ => 0, g⟩ (fun r => (∀ c : Dev Cert.RefBranchA0Ideal.nD,
      r.2.mem ((c.tc : Thread Cert.RefBranchA0Ideal.nD Cert.RefBranchA0Ideal.τ).loc Cert.RefBranchA0Ideal.main_arg0) = m ((c.tc : Thread Cert.RefBranchA0Ideal.nD Cert.RefBranchA0Ideal.τ).loc Cert.RefBranchA0Ideal.main_arg0)
      ∧ r.2.mem ((c.tc : Thread Cert.RefBranchA0Ideal.nD Cert.RefBranchA0Ideal.τ).loc Cert.RefBranchA0Ideal.main_arg1) = m ((c.tc : Thread Cert.RefBranchA0Ideal.nD Cert.RefBranchA0Ideal.τ).loc Cert.RefBranchA0Ideal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_RefBranchBIdeal [hRefBranchBIdeal : Cert.RefBranchBIdeal.Facts] : Prop :=
  ∀ (m : (ℓ : Loc Cert.RefBranchBIdeal.nD Cert.RefBranchBIdeal.τ Cert.RefBranchBIdeal.sig) → Buf (Elt Ideal) ℓ) (g : Dev Cert.RefBranchBIdeal.nD → PrngReg), Pre_RefBranchBIdeal m →
    θ_run (Cert.RefBranchBIdeal.defs (F := Ideal)) (onTc (τ := Cert.RefBranchBIdeal.τ) (Cert.RefBranchBIdeal.main (F := Ideal))) ⟨m, fun _ => 0, g⟩ (fun r => (∀ c : Dev Cert.RefBranchBIdeal.nD,
      r.2.mem ((c.tc : Thread Cert.RefBranchBIdeal.nD Cert.RefBranchBIdeal.τ).loc Cert.RefBranchBIdeal.main_arg0) = m ((c.tc : Thread Cert.RefBranchBIdeal.nD Cert.RefBranchBIdeal.τ).loc Cert.RefBranchBIdeal.main_arg0)
      ∧ r.2.mem ((c.tc : Thread Cert.RefBranchBIdeal.nD Cert.RefBranchBIdeal.τ).loc Cert.RefBranchBIdeal.main_arg1) = m ((c.tc : Thread Cert.RefBranchBIdeal.nD Cert.RefBranchBIdeal.τ).loc Cert.RefBranchBIdeal.main_arg1))
      ∧ r.2.sem = fun _ => 0)

def quiescent_BranchB0 [hBranchB0 : Cert.BranchB0.Facts] : Prop :=
  ∀ (m : (ℓ : Loc Cert.BranchB0.nD Cert.BranchB0.τ Cert.BranchB0.sig) → Buf (Elt Bits) ℓ) (g : Dev Cert.BranchB0.nD → PrngReg), Pre_BranchB0 m →
    θ_run (Cert.BranchB0.defs (F := Bits)) (onTc (τ := Cert.BranchB0.τ) (Cert.BranchB0.main (F := Bits))) ⟨m, fun _ => 0, g⟩ (fun r => (∀ c : Dev Cert.BranchB0.nD,
      r.2.mem ((c.tc : Thread Cert.BranchB0.nD Cert.BranchB0.τ).loc Cert.BranchB0.main_arg0) = m ((c.tc : Thread Cert.BranchB0.nD Cert.BranchB0.τ).loc Cert.BranchB0.main_arg0)
      ∧ r.2.mem ((c.tc : Thread Cert.BranchB0.nD Cert.BranchB0.τ).loc Cert.BranchB0.main_arg1) = m ((c.tc : Thread Cert.BranchB0.nD Cert.BranchB0.τ).loc Cert.BranchB0.main_arg1))
      ∧ r.2.sem = fun _ => 0)

def quiescent_BranchB0Ideal [hBranchB0Ideal : Cert.BranchB0Ideal.Facts] : Prop :=
  ∀ (m : (ℓ : Loc Cert.BranchB0Ideal.nD Cert.BranchB0Ideal.τ Cert.BranchB0Ideal.sig) → Buf (Elt Ideal) ℓ) (g : Dev Cert.BranchB0Ideal.nD → PrngReg), Pre_BranchB0Ideal m →
    θ_run (Cert.BranchB0Ideal.defs (F := Ideal)) (onTc (τ := Cert.BranchB0Ideal.τ) (Cert.BranchB0Ideal.main (F := Ideal))) ⟨m, fun _ => 0, g⟩ (fun r => (∀ c : Dev Cert.BranchB0Ideal.nD,
      r.2.mem ((c.tc : Thread Cert.BranchB0Ideal.nD Cert.BranchB0Ideal.τ).loc Cert.BranchB0Ideal.main_arg0) = m ((c.tc : Thread Cert.BranchB0Ideal.nD Cert.BranchB0Ideal.τ).loc Cert.BranchB0Ideal.main_arg0)
      ∧ r.2.mem ((c.tc : Thread Cert.BranchB0Ideal.nD Cert.BranchB0Ideal.τ).loc Cert.BranchB0Ideal.main_arg1) = m ((c.tc : Thread Cert.BranchB0Ideal.nD Cert.BranchB0Ideal.τ).loc Cert.BranchB0Ideal.main_arg1))
      ∧ r.2.sem = fun _ => 0)

def quiescent_RefBranchB0Ideal [hRefBranchB0Ideal : Cert.RefBranchB0Ideal.Facts] : Prop :=
  ∀ (m : (ℓ : Loc Cert.RefBranchB0Ideal.nD Cert.RefBranchB0Ideal.τ Cert.RefBranchB0Ideal.sig) → Buf (Elt Ideal) ℓ) (g : Dev Cert.RefBranchB0Ideal.nD → PrngReg), Pre_RefBranchB0Ideal m →
    θ_run (Cert.RefBranchB0Ideal.defs (F := Ideal)) (onTc (τ := Cert.RefBranchB0Ideal.τ) (Cert.RefBranchB0Ideal.main (F := Ideal))) ⟨m, fun _ => 0, g⟩ (fun r => (∀ c : Dev Cert.RefBranchB0Ideal.nD,
      r.2.mem ((c.tc : Thread Cert.RefBranchB0Ideal.nD Cert.RefBranchB0Ideal.τ).loc Cert.RefBranchB0Ideal.main_arg0) = m ((c.tc : Thread Cert.RefBranchB0Ideal.nD Cert.RefBranchB0Ideal.τ).loc Cert.RefBranchB0Ideal.main_arg0)
      ∧ r.2.mem ((c.tc : Thread Cert.RefBranchB0Ideal.nD Cert.RefBranchB0Ideal.τ).loc Cert.RefBranchB0Ideal.main_arg1) = m ((c.tc : Thread Cert.RefBranchB0Ideal.nD Cert.RefBranchB0Ideal.τ).loc Cert.RefBranchB0Ideal.main_arg1))
      ∧ r.2.sem = fun _ => 0)

def quiescent_BranchC [hBranchC : Cert.BranchC.Facts] : Prop :=
  ∀ (m : (ℓ : Loc Cert.BranchC.nD Cert.BranchC.τ Cert.BranchC.sig) → Buf (Elt Bits) ℓ) (g : Dev Cert.BranchC.nD → PrngReg), Pre_BranchC m →
    θ_run (Cert.BranchC.defs (F := Bits)) (onTc (τ := Cert.BranchC.τ) (Cert.BranchC.main (F := Bits))) ⟨m, fun _ => 0, g⟩ (fun r => (∀ c : Dev Cert.BranchC.nD,
      r.2.mem ((c.tc : Thread Cert.BranchC.nD Cert.BranchC.τ).loc Cert.BranchC.main_arg0) = m ((c.tc : Thread Cert.BranchC.nD Cert.BranchC.τ).loc Cert.BranchC.main_arg0)
      ∧ r.2.mem ((c.tc : Thread Cert.BranchC.nD Cert.BranchC.τ).loc Cert.BranchC.main_arg1) = m ((c.tc : Thread Cert.BranchC.nD Cert.BranchC.τ).loc Cert.BranchC.main_arg1)
      ∧ r.2.mem ((c.tc : Thread Cert.BranchC.nD Cert.BranchC.τ).loc Cert.BranchC.main_arg2) = m ((c.tc : Thread Cert.BranchC.nD Cert.BranchC.τ).loc Cert.BranchC.main_arg2)
      ∧ r.2.mem ((c.tc : Thread Cert.BranchC.nD Cert.BranchC.τ).loc Cert.BranchC.main_arg3) = m ((c.tc : Thread Cert.BranchC.nD Cert.BranchC.τ).loc Cert.BranchC.main_arg3)
      ∧ r.2.mem ((c.tc : Thread Cert.BranchC.nD Cert.BranchC.τ).loc Cert.BranchC.main_arg4) = m ((c.tc : Thread Cert.BranchC.nD Cert.BranchC.τ).loc Cert.BranchC.main_arg4))
      ∧ r.2.sem = fun _ => 0)

def quiescent_BranchCIdeal [hBranchCIdeal : Cert.BranchCIdeal.Facts] : Prop :=
  ∀ (m : (ℓ : Loc Cert.BranchCIdeal.nD Cert.BranchCIdeal.τ Cert.BranchCIdeal.sig) → Buf (Elt Ideal) ℓ) (g : Dev Cert.BranchCIdeal.nD → PrngReg), Pre_BranchCIdeal m →
    θ_run (Cert.BranchCIdeal.defs (F := Ideal)) (onTc (τ := Cert.BranchCIdeal.τ) (Cert.BranchCIdeal.main (F := Ideal))) ⟨m, fun _ => 0, g⟩ (fun r => (∀ c : Dev Cert.BranchCIdeal.nD,
      r.2.mem ((c.tc : Thread Cert.BranchCIdeal.nD Cert.BranchCIdeal.τ).loc Cert.BranchCIdeal.main_arg0) = m ((c.tc : Thread Cert.BranchCIdeal.nD Cert.BranchCIdeal.τ).loc Cert.BranchCIdeal.main_arg0)
      ∧ r.2.mem ((c.tc : Thread Cert.BranchCIdeal.nD Cert.BranchCIdeal.τ).loc Cert.BranchCIdeal.main_arg1) = m ((c.tc : Thread Cert.BranchCIdeal.nD Cert.BranchCIdeal.τ).loc Cert.BranchCIdeal.main_arg1)
      ∧ r.2.mem ((c.tc : Thread Cert.BranchCIdeal.nD Cert.BranchCIdeal.τ).loc Cert.BranchCIdeal.main_arg2) = m ((c.tc : Thread Cert.BranchCIdeal.nD Cert.BranchCIdeal.τ).loc Cert.BranchCIdeal.main_arg2)
      ∧ r.2.mem ((c.tc : Thread Cert.BranchCIdeal.nD Cert.BranchCIdeal.τ).loc Cert.BranchCIdeal.main_arg3) = m ((c.tc : Thread Cert.BranchCIdeal.nD Cert.BranchCIdeal.τ).loc Cert.BranchCIdeal.main_arg3)
      ∧ r.2.mem ((c.tc : Thread Cert.BranchCIdeal.nD Cert.BranchCIdeal.τ).loc Cert.BranchCIdeal.main_arg4) = m ((c.tc : Thread Cert.BranchCIdeal.nD Cert.BranchCIdeal.τ).loc Cert.BranchCIdeal.main_arg4))
      ∧ r.2.sem = fun _ => 0)

def quiescent_RefBranchCIdeal [hRefBranchCIdeal : Cert.RefBranchCIdeal.Facts] : Prop :=
  ∀ (m : (ℓ : Loc Cert.RefBranchCIdeal.nD Cert.RefBranchCIdeal.τ Cert.RefBranchCIdeal.sig) → Buf (Elt Ideal) ℓ) (g : Dev Cert.RefBranchCIdeal.nD → PrngReg), Pre_RefBranchCIdeal m →
    θ_run (Cert.RefBranchCIdeal.defs (F := Ideal)) (onTc (τ := Cert.RefBranchCIdeal.τ) (Cert.RefBranchCIdeal.main (F := Ideal))) ⟨m, fun _ => 0, g⟩ (fun r => (∀ c : Dev Cert.RefBranchCIdeal.nD,
      r.2.mem ((c.tc : Thread Cert.RefBranchCIdeal.nD Cert.RefBranchCIdeal.τ).loc Cert.RefBranchCIdeal.main_arg0) = m ((c.tc : Thread Cert.RefBranchCIdeal.nD Cert.RefBranchCIdeal.τ).loc Cert.RefBranchCIdeal.main_arg0)
      ∧ r.2.mem ((c.tc : Thread Cert.RefBranchCIdeal.nD Cert.RefBranchCIdeal.τ).loc Cert.RefBranchCIdeal.main_arg1) = m ((c.tc : Thread Cert.RefBranchCIdeal.nD Cert.RefBranchCIdeal.τ).loc Cert.RefBranchCIdeal.main_arg1)
      ∧ r.2.mem ((c.tc : Thread Cert.RefBranchCIdeal.nD Cert.RefBranchCIdeal.τ).loc Cert.RefBranchCIdeal.main_arg2) = m ((c.tc : Thread Cert.RefBranchCIdeal.nD Cert.RefBranchCIdeal.τ).loc Cert.RefBranchCIdeal.main_arg2)
      ∧ r.2.mem ((c.tc : Thread Cert.RefBranchCIdeal.nD Cert.RefBranchCIdeal.τ).loc Cert.RefBranchCIdeal.main_arg3) = m ((c.tc : Thread Cert.RefBranchCIdeal.nD Cert.RefBranchCIdeal.τ).loc Cert.RefBranchCIdeal.main_arg3)
      ∧ r.2.mem ((c.tc : Thread Cert.RefBranchCIdeal.nD Cert.RefBranchCIdeal.τ).loc Cert.RefBranchCIdeal.main_arg4) = m ((c.tc : Thread Cert.RefBranchCIdeal.nD Cert.RefBranchCIdeal.τ).loc Cert.RefBranchCIdeal.main_arg4))
      ∧ r.2.sem = fun _ => 0)

def quiescent_BranchC0 [hBranchC0 : Cert.BranchC0.Facts] : Prop :=
  ∀ (m : (ℓ : Loc Cert.BranchC0.nD Cert.BranchC0.τ Cert.BranchC0.sig) → Buf (Elt Bits) ℓ) (g : Dev Cert.BranchC0.nD → PrngReg), Pre_BranchC0 m →
    θ_run (Cert.BranchC0.defs (F := Bits)) (onTc (τ := Cert.BranchC0.τ) (Cert.BranchC0.main (F := Bits))) ⟨m, fun _ => 0, g⟩ (fun r => (∀ c : Dev Cert.BranchC0.nD,
      r.2.mem ((c.tc : Thread Cert.BranchC0.nD Cert.BranchC0.τ).loc Cert.BranchC0.main_arg0) = m ((c.tc : Thread Cert.BranchC0.nD Cert.BranchC0.τ).loc Cert.BranchC0.main_arg0)
      ∧ r.2.mem ((c.tc : Thread Cert.BranchC0.nD Cert.BranchC0.τ).loc Cert.BranchC0.main_arg1) = m ((c.tc : Thread Cert.BranchC0.nD Cert.BranchC0.τ).loc Cert.BranchC0.main_arg1)
      ∧ r.2.mem ((c.tc : Thread Cert.BranchC0.nD Cert.BranchC0.τ).loc Cert.BranchC0.main_arg2) = m ((c.tc : Thread Cert.BranchC0.nD Cert.BranchC0.τ).loc Cert.BranchC0.main_arg2)
      ∧ r.2.mem ((c.tc : Thread Cert.BranchC0.nD Cert.BranchC0.τ).loc Cert.BranchC0.main_arg3) = m ((c.tc : Thread Cert.BranchC0.nD Cert.BranchC0.τ).loc Cert.BranchC0.main_arg3)
      ∧ r.2.mem ((c.tc : Thread Cert.BranchC0.nD Cert.BranchC0.τ).loc Cert.BranchC0.main_arg4) = m ((c.tc : Thread Cert.BranchC0.nD Cert.BranchC0.τ).loc Cert.BranchC0.main_arg4))
      ∧ r.2.sem = fun _ => 0)

def quiescent_BranchC0Ideal [hBranchC0Ideal : Cert.BranchC0Ideal.Facts] : Prop :=
  ∀ (m : (ℓ : Loc Cert.BranchC0Ideal.nD Cert.BranchC0Ideal.τ Cert.BranchC0Ideal.sig) → Buf (Elt Ideal) ℓ) (g : Dev Cert.BranchC0Ideal.nD → PrngReg), Pre_BranchC0Ideal m →
    θ_run (Cert.BranchC0Ideal.defs (F := Ideal)) (onTc (τ := Cert.BranchC0Ideal.τ) (Cert.BranchC0Ideal.main (F := Ideal))) ⟨m, fun _ => 0, g⟩ (fun r => (∀ c : Dev Cert.BranchC0Ideal.nD,
      r.2.mem ((c.tc : Thread Cert.BranchC0Ideal.nD Cert.BranchC0Ideal.τ).loc Cert.BranchC0Ideal.main_arg0) = m ((c.tc : Thread Cert.BranchC0Ideal.nD Cert.BranchC0Ideal.τ).loc Cert.BranchC0Ideal.main_arg0)
      ∧ r.2.mem ((c.tc : Thread Cert.BranchC0Ideal.nD Cert.BranchC0Ideal.τ).loc Cert.BranchC0Ideal.main_arg1) = m ((c.tc : Thread Cert.BranchC0Ideal.nD Cert.BranchC0Ideal.τ).loc Cert.BranchC0Ideal.main_arg1)
      ∧ r.2.mem ((c.tc : Thread Cert.BranchC0Ideal.nD Cert.BranchC0Ideal.τ).loc Cert.BranchC0Ideal.main_arg2) = m ((c.tc : Thread Cert.BranchC0Ideal.nD Cert.BranchC0Ideal.τ).loc Cert.BranchC0Ideal.main_arg2)
      ∧ r.2.mem ((c.tc : Thread Cert.BranchC0Ideal.nD Cert.BranchC0Ideal.τ).loc Cert.BranchC0Ideal.main_arg3) = m ((c.tc : Thread Cert.BranchC0Ideal.nD Cert.BranchC0Ideal.τ).loc Cert.BranchC0Ideal.main_arg3)
      ∧ r.2.mem ((c.tc : Thread Cert.BranchC0Ideal.nD Cert.BranchC0Ideal.τ).loc Cert.BranchC0Ideal.main_arg4) = m ((c.tc : Thread Cert.BranchC0Ideal.nD Cert.BranchC0Ideal.τ).loc Cert.BranchC0Ideal.main_arg4))
      ∧ r.2.sem = fun _ => 0)

def quiescent_RefBranchC0Ideal [hRefBranchC0Ideal : Cert.RefBranchC0Ideal.Facts] : Prop :=
  ∀ (m : (ℓ : Loc Cert.RefBranchC0Ideal.nD Cert.RefBranchC0Ideal.τ Cert.RefBranchC0Ideal.sig) → Buf (Elt Ideal) ℓ) (g : Dev Cert.RefBranchC0Ideal.nD → PrngReg), Pre_RefBranchC0Ideal m →
    θ_run (Cert.RefBranchC0Ideal.defs (F := Ideal)) (onTc (τ := Cert.RefBranchC0Ideal.τ) (Cert.RefBranchC0Ideal.main (F := Ideal))) ⟨m, fun _ => 0, g⟩ (fun r => (∀ c : Dev Cert.RefBranchC0Ideal.nD,
      r.2.mem ((c.tc : Thread Cert.RefBranchC0Ideal.nD Cert.RefBranchC0Ideal.τ).loc Cert.RefBranchC0Ideal.main_arg0) = m ((c.tc : Thread Cert.RefBranchC0Ideal.nD Cert.RefBranchC0Ideal.τ).loc Cert.RefBranchC0Ideal.main_arg0)
      ∧ r.2.mem ((c.tc : Thread Cert.RefBranchC0Ideal.nD Cert.RefBranchC0Ideal.τ).loc Cert.RefBranchC0Ideal.main_arg1) = m ((c.tc : Thread Cert.RefBranchC0Ideal.nD Cert.RefBranchC0Ideal.τ).loc Cert.RefBranchC0Ideal.main_arg1)
      ∧ r.2.mem ((c.tc : Thread Cert.RefBranchC0Ideal.nD Cert.RefBranchC0Ideal.τ).loc Cert.RefBranchC0Ideal.main_arg2) = m ((c.tc : Thread Cert.RefBranchC0Ideal.nD Cert.RefBranchC0Ideal.τ).loc Cert.RefBranchC0Ideal.main_arg2)
      ∧ r.2.mem ((c.tc : Thread Cert.RefBranchC0Ideal.nD Cert.RefBranchC0Ideal.τ).loc Cert.RefBranchC0Ideal.main_arg3) = m ((c.tc : Thread Cert.RefBranchC0Ideal.nD Cert.RefBranchC0Ideal.τ).loc Cert.RefBranchC0Ideal.main_arg3)
      ∧ r.2.mem ((c.tc : Thread Cert.RefBranchC0Ideal.nD Cert.RefBranchC0Ideal.τ).loc Cert.RefBranchC0Ideal.main_arg4) = m ((c.tc : Thread Cert.RefBranchC0Ideal.nD Cert.RefBranchC0Ideal.τ).loc Cert.RefBranchC0Ideal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3))
      ∧ r.2.sem = fun _ => 0)

def quiescent_OutProj0 [hOutProj0 : Cert.OutProj0.Facts] : Prop :=
  ∀ (m : (ℓ : Loc Cert.OutProj0.nD Cert.OutProj0.τ Cert.OutProj0.sig) → Buf (Elt Bits) ℓ) (g : Dev Cert.OutProj0.nD → PrngReg), Pre_OutProj0 m →
    θ_run (Cert.OutProj0.defs (F := Bits)) (onTc (τ := Cert.OutProj0.τ) (Cert.OutProj0.main (F := Bits))) ⟨m, fun _ => 0, g⟩ (fun r => (∀ c : Dev Cert.OutProj0.nD,
      r.2.mem ((c.tc : Thread Cert.OutProj0.nD Cert.OutProj0.τ).loc Cert.OutProj0.main_arg0) = m ((c.tc : Thread Cert.OutProj0.nD Cert.OutProj0.τ).loc Cert.OutProj0.main_arg0)
      ∧ r.2.mem ((c.tc : Thread Cert.OutProj0.nD Cert.OutProj0.τ).loc Cert.OutProj0.main_arg1) = m ((c.tc : Thread Cert.OutProj0.nD Cert.OutProj0.τ).loc Cert.OutProj0.main_arg1)
      ∧ r.2.mem ((c.tc : Thread Cert.OutProj0.nD Cert.OutProj0.τ).loc Cert.OutProj0.main_arg2) = m ((c.tc : Thread Cert.OutProj0.nD Cert.OutProj0.τ).loc Cert.OutProj0.main_arg2)
      ∧ r.2.mem ((c.tc : Thread Cert.OutProj0.nD Cert.OutProj0.τ).loc Cert.OutProj0.main_arg3) = m ((c.tc : Thread Cert.OutProj0.nD Cert.OutProj0.τ).loc Cert.OutProj0.main_arg3))
      ∧ r.2.sem = fun _ => 0)

def quiescent_OutProj0Ideal [hOutProj0Ideal : Cert.OutProj0Ideal.Facts] : Prop :=
  ∀ (m : (ℓ : Loc Cert.OutProj0Ideal.nD Cert.OutProj0Ideal.τ Cert.OutProj0Ideal.sig) → Buf (Elt Ideal) ℓ) (g : Dev Cert.OutProj0Ideal.nD → PrngReg), Pre_OutProj0Ideal m →
    θ_run (Cert.OutProj0Ideal.defs (F := Ideal)) (onTc (τ := Cert.OutProj0Ideal.τ) (Cert.OutProj0Ideal.main (F := Ideal))) ⟨m, fun _ => 0, g⟩ (fun r => (∀ c : Dev Cert.OutProj0Ideal.nD,
      r.2.mem ((c.tc : Thread Cert.OutProj0Ideal.nD Cert.OutProj0Ideal.τ).loc Cert.OutProj0Ideal.main_arg0) = m ((c.tc : Thread Cert.OutProj0Ideal.nD Cert.OutProj0Ideal.τ).loc Cert.OutProj0Ideal.main_arg0)
      ∧ r.2.mem ((c.tc : Thread Cert.OutProj0Ideal.nD Cert.OutProj0Ideal.τ).loc Cert.OutProj0Ideal.main_arg1) = m ((c.tc : Thread Cert.OutProj0Ideal.nD Cert.OutProj0Ideal.τ).loc Cert.OutProj0Ideal.main_arg1)
      ∧ r.2.mem ((c.tc : Thread Cert.OutProj0Ideal.nD Cert.OutProj0Ideal.τ).loc Cert.OutProj0Ideal.main_arg2) = m ((c.tc : Thread Cert.OutProj0Ideal.nD Cert.OutProj0Ideal.τ).loc Cert.OutProj0Ideal.main_arg2)
      ∧ r.2.mem ((c.tc : Thread Cert.OutProj0Ideal.nD Cert.OutProj0Ideal.τ).loc Cert.OutProj0Ideal.main_arg3) = m ((c.tc : Thread Cert.OutProj0Ideal.nD Cert.OutProj0Ideal.τ).loc Cert.OutProj0Ideal.main_arg3))
      ∧ r.2.sem = fun _ => 0)

def quiescent_RefOutProj0Ideal [hRefOutProj0Ideal : Cert.RefOutProj0Ideal.Facts] : Prop :=
  ∀ (m : (ℓ : Loc Cert.RefOutProj0Ideal.nD Cert.RefOutProj0Ideal.τ Cert.RefOutProj0Ideal.sig) → Buf (Elt Ideal) ℓ) (g : Dev Cert.RefOutProj0Ideal.nD → PrngReg), Pre_RefOutProj0Ideal m →
    θ_run (Cert.RefOutProj0Ideal.defs (F := Ideal)) (onTc (τ := Cert.RefOutProj0Ideal.τ) (Cert.RefOutProj0Ideal.main (F := Ideal))) ⟨m, fun _ => 0, g⟩ (fun r => (∀ c : Dev Cert.RefOutProj0Ideal.nD,
      r.2.mem ((c.tc : Thread Cert.RefOutProj0Ideal.nD Cert.RefOutProj0Ideal.τ).loc Cert.RefOutProj0Ideal.main_arg0) = m ((c.tc : Thread Cert.RefOutProj0Ideal.nD Cert.RefOutProj0Ideal.τ).loc Cert.RefOutProj0Ideal.main_arg0)
      ∧ r.2.mem ((c.tc : Thread Cert.RefOutProj0Ideal.nD Cert.RefOutProj0Ideal.τ).loc Cert.RefOutProj0Ideal.main_arg1) = m ((c.tc : Thread Cert.RefOutProj0Ideal.nD Cert.RefOutProj0Ideal.τ).loc Cert.RefOutProj0Ideal.main_arg1)
      ∧ r.2.mem ((c.tc : Thread Cert.RefOutProj0Ideal.nD Cert.RefOutProj0Ideal.τ).loc Cert.RefOutProj0Ideal.main_arg2) = m ((c.tc : Thread Cert.RefOutProj0Ideal.nD Cert.RefOutProj0Ideal.τ).loc Cert.RefOutProj0Ideal.main_arg2)
      ∧ r.2.mem ((c.tc : Thread Cert.RefOutProj0Ideal.nD Cert.RefOutProj0Ideal.τ).loc Cert.RefOutProj0Ideal.main_arg3) = m ((c.tc : Thread Cert.RefOutProj0Ideal.nD Cert.RefOutProj0Ideal.τ).loc Cert.RefOutProj0Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11_1)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_v12_2)) (v4 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_1) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_v12_2) = v3 c
          ∧ r.2.mem ((c.tc : Thread Cert.KernelIdeal.nD Cert.KernelIdeal.τ).loc Cert.KernelIdeal.main_v12_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v2) = v0 c
          ∧ r.2.mem ((c.tc : Thread Cert.RefProjIdeal.nD Cert.RefProjIdeal.τ).loc Cert.RefProjIdeal.main_v14) = v1 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_Gates_GatesIdeal : Prop :=
  True

def algebraic_GatesIdeal_RefGatesIdeal [hGatesIdeal : Cert.GatesIdeal.Facts] [hRefGatesIdeal : Cert.RefGatesIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.RefGatesIdeal.nD Cert.RefGatesIdeal.τ Cert.RefGatesIdeal.sig) → Buf (Elt Ideal) ℓ) (g' : Dev Cert.RefGatesIdeal.nD → PrngReg), Pre_GatesIdeal m →
    (∀ c : Dev Cert.GatesIdeal.nD,
      m' ((c.tc : Thread Cert.RefGatesIdeal.nD Cert.RefGatesIdeal.τ).loc Cert.RefGatesIdeal.main_arg0) = m ((c.tc : Thread Cert.GatesIdeal.nD Cert.GatesIdeal.τ).loc Cert.GatesIdeal.main_arg0)
      ∧ m' ((c.tc : Thread Cert.RefGatesIdeal.nD Cert.RefGatesIdeal.τ).loc Cert.RefGatesIdeal.main_arg1) = m ((c.tc : Thread Cert.GatesIdeal.nD Cert.GatesIdeal.τ).loc Cert.GatesIdeal.main_arg1)
      ∧ m' ((c.tc : Thread Cert.RefGatesIdeal.nD Cert.RefGatesIdeal.τ).loc Cert.RefGatesIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.RefGatesIdeal.defs (F := Ideal)) (onTc (τ := Cert.RefGatesIdeal.τ) (Cert.RefGatesIdeal.main (F := Ideal))) ⟨m', fun _ => 0, g'⟩ (fun r => ∀ c : Dev Cert.RefGatesIdeal.nD,
          r.2.mem ((c.tc : Thread Cert.RefGatesIdeal.nD Cert.RefGatesIdeal.τ).loc Cert.RefGatesIdeal.main_v13) = v0 c
          ∧ r.2.mem ((c.tc : Thread Cert.RefGatesIdeal.nD Cert.RefGatesIdeal.τ).loc Cert.RefGatesIdeal.main_arg0) = m' ((c.tc : Thread Cert.RefGatesIdeal.nD Cert.RefGatesIdeal.τ).loc Cert.RefGatesIdeal.main_arg0)
          ∧ r.2.mem ((c.tc : Thread Cert.RefGatesIdeal.nD Cert.RefGatesIdeal.τ).loc Cert.RefGatesIdeal.main_arg1) = m' ((c.tc : Thread Cert.RefGatesIdeal.nD Cert.RefGatesIdeal.τ).loc Cert.RefGatesIdeal.main_arg1)
          ∧ r.2.mem ((c.tc : Thread Cert.RefGatesIdeal.nD Cert.RefGatesIdeal.τ).loc Cert.RefGatesIdeal.main_arg2) = m' ((c.tc : Thread Cert.RefGatesIdeal.nD Cert.RefGatesIdeal.τ).loc Cert.RefGatesIdeal.main_arg2))

def preserves_GradIn_GradInIdeal : Prop :=
  True

def algebraic_GradInIdeal_RefGradInIdeal [hGradInIdeal : Cert.GradInIdeal.Facts] [hRefGradInIdeal : Cert.RefGradInIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.RefGradInIdeal.nD Cert.RefGradInIdeal.τ Cert.RefGradInIdeal.sig) → Buf (Elt Ideal) ℓ) (g' : Dev Cert.RefGradInIdeal.nD → PrngReg), Pre_GradInIdeal m →
    (∀ c : Dev Cert.GradInIdeal.nD,
      m' ((c.tc : Thread Cert.RefGradInIdeal.nD Cert.RefGradInIdeal.τ).loc Cert.RefGradInIdeal.main_arg0) = m ((c.tc : Thread Cert.GradInIdeal.nD Cert.GradInIdeal.τ).loc Cert.GradInIdeal.main_arg0)
      ∧ m' ((c.tc : Thread Cert.RefGradInIdeal.nD Cert.RefGradInIdeal.τ).loc Cert.RefGradInIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v3)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v3) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.RefGradInIdeal.defs (F := Ideal)) (onTc (τ := Cert.RefGradInIdeal.τ) (Cert.RefGradInIdeal.main (F := Ideal))) ⟨m', fun _ => 0, g'⟩ (fun r => ∀ c : Dev Cert.RefGradInIdeal.nD,
          r.2.mem ((c.tc : Thread Cert.RefGradInIdeal.nD Cert.RefGradInIdeal.τ).loc Cert.RefGradInIdeal.main_v6) = v0 c
          ∧ r.2.mem ((c.tc : Thread Cert.RefGradInIdeal.nD Cert.RefGradInIdeal.τ).loc Cert.RefGradInIdeal.main_arg0) = m' ((c.tc : Thread Cert.RefGradInIdeal.nD Cert.RefGradInIdeal.τ).loc Cert.RefGradInIdeal.main_arg0)
          ∧ r.2.mem ((c.tc : Thread Cert.RefGradInIdeal.nD Cert.RefGradInIdeal.τ).loc Cert.RefGradInIdeal.main_arg1) = m' ((c.tc : Thread Cert.RefGradInIdeal.nD Cert.RefGradInIdeal.τ).loc Cert.RefGradInIdeal.main_arg1))

def preserves_GradGate_GradGateIdeal : Prop :=
  True

def algebraic_GradGateIdeal_RefGradGateIdeal [hGradGateIdeal : Cert.GradGateIdeal.Facts] [hRefGradGateIdeal : Cert.RefGradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.RefGradGateIdeal.nD Cert.RefGradGateIdeal.τ Cert.RefGradGateIdeal.sig) → Buf (Elt Ideal) ℓ) (g' : Dev Cert.RefGradGateIdeal.nD → PrngReg), Pre_GradGateIdeal m →
    (∀ c : Dev Cert.GradGateIdeal.nD,
      m' ((c.tc : Thread Cert.RefGradGateIdeal.nD Cert.RefGradGateIdeal.τ).loc Cert.RefGradGateIdeal.main_arg0) = m ((c.tc : Thread Cert.GradGateIdeal.nD Cert.GradGateIdeal.τ).loc Cert.GradGateIdeal.main_arg0)
      ∧ m' ((c.tc : Thread Cert.RefGradGateIdeal.nD Cert.RefGradGateIdeal.τ).loc Cert.RefGradGateIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v3)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v3) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.RefGradGateIdeal.defs (F := Ideal)) (onTc (τ := Cert.RefGradGateIdeal.τ) (Cert.RefGradGateIdeal.main (F := Ideal))) ⟨m', fun _ => 0, g'⟩ (fun r => ∀ c : Dev Cert.RefGradGateIdeal.nD,
          r.2.mem ((c.tc : Thread Cert.RefGradGateIdeal.nD Cert.RefGradGateIdeal.τ).loc Cert.RefGradGateIdeal.main_v6) = v0 c
          ∧ r.2.mem ((c.tc : Thread Cert.RefGradGateIdeal.nD Cert.RefGradGateIdeal.τ).loc Cert.RefGradGateIdeal.main_arg0) = m' ((c.tc : Thread Cert.RefGradGateIdeal.nD Cert.RefGradGateIdeal.τ).loc Cert.RefGradGateIdeal.main_arg0)
          ∧ r.2.mem ((c.tc : Thread Cert.RefGradGateIdeal.nD Cert.RefGradGateIdeal.τ).loc Cert.RefGradGateIdeal.main_arg1) = m' ((c.tc : Thread Cert.RefGradGateIdeal.nD Cert.RefGradGateIdeal.τ).loc Cert.RefGradGateIdeal.main_arg1))

def preserves_DhIn_DhInIdeal : Prop :=
  True

def algebraic_DhInIdeal_RefDhInIdeal [hDhInIdeal : Cert.DhInIdeal.Facts] [hRefDhInIdeal : Cert.RefDhInIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.RefDhInIdeal.nD Cert.RefDhInIdeal.τ Cert.RefDhInIdeal.sig) → Buf (Elt Ideal) ℓ) (g' : Dev Cert.RefDhInIdeal.nD → PrngReg), Pre_DhInIdeal m →
    (∀ c : Dev Cert.DhInIdeal.nD,
      m' ((c.tc : Thread Cert.RefDhInIdeal.nD Cert.RefDhInIdeal.τ).loc Cert.RefDhInIdeal.main_arg0) = m ((c.tc : Thread Cert.DhInIdeal.nD Cert.DhInIdeal.τ).loc Cert.DhInIdeal.main_arg0)
      ∧ m' ((c.tc : Thread Cert.RefDhInIdeal.nD Cert.RefDhInIdeal.τ).loc Cert.RefDhInIdeal.main_arg1) = m ((c.tc : Thread Cert.DhInIdeal.nD Cert.DhInIdeal.τ).loc Cert.DhInIdeal.main_arg1)) →
    ∃ (v0 : (c : Dev Cert.DhInIdeal.nD) → Buf (Elt Ideal) ((c.tc : Thread Cert.DhInIdeal.nD Cert.DhInIdeal.τ).loc Cert.DhInIdeal.main_v4)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v4) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ θ_run (Cert.RefDhInIdeal.defs (F := Ideal)) (onTc (τ := Cert.RefDhInIdeal.τ) (Cert.RefDhInIdeal.main (F := Ideal))) ⟨m', fun _ => 0, g'⟩ (fun r => ∀ c : Dev Cert.RefDhInIdeal.nD,
          r.2.mem ((c.tc : Thread Cert.RefDhInIdeal.nD Cert.RefDhInIdeal.τ).loc Cert.RefDhInIdeal.main_v4) = v0 c
          ∧ r.2.mem ((c.tc : Thread Cert.RefDhInIdeal.nD Cert.RefDhInIdeal.τ).loc Cert.RefDhInIdeal.main_arg0) = m' ((c.tc : Thread Cert.RefDhInIdeal.nD Cert.RefDhInIdeal.τ).loc Cert.RefDhInIdeal.main_arg0)
          ∧ r.2.mem ((c.tc : Thread Cert.RefDhInIdeal.nD Cert.RefDhInIdeal.τ).loc Cert.RefDhInIdeal.main_arg1) = m' ((c.tc : Thread Cert.RefDhInIdeal.nD Cert.RefDhInIdeal.τ).loc Cert.RefDhInIdeal.main_arg1))

def preserves_DhGate_DhGateIdeal : Prop :=
  True

def algebraic_DhGateIdeal_RefDhGateIdeal [hDhGateIdeal : Cert.DhGateIdeal.Facts] [hRefDhGateIdeal : Cert.RefDhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg)
    (m' : (ℓ : Loc Cert.RefDhGateIdeal.nD Cert.RefDhGateIdeal.τ Cert.RefDhGateIdeal.sig) → Buf (Elt Ideal) ℓ) (g' : Dev Cert.RefDhGateIdeal.nD → PrngReg), Pre_DhGateIdeal m →
    (∀ c : Dev Cert.DhGateIdeal.nD,
      m' ((c.tc : Thread Cert.RefDhGateIdeal.nD Cert.RefDhGateIdeal.τ).loc Cert.RefDhGateIdeal.main_arg0) = m ((c.tc : Thread Cert.DhGateIdeal.nD Cert.DhGateIdeal.τ).loc Cert.DhGateIdeal.main_arg0)
      ∧ m' ((c.tc : Thread Cert.RefDhGateIdeal.nD Cert.RefDhGateIdeal.τ).loc Cert.RefDhGateIdeal.main_arg1) = m ((c.tc : Thread Cert.DhGateIdeal.nD Cert.DhGateIdeal.τ).loc Cert.DhGateIdeal.main_arg1)
      ∧ m' ((c.tc : Thread Cert.RefDhGateIdeal.nD Cert.RefDhGateIdeal.τ).loc Cert.RefDhGateIdeal.main_arg2) = m ((c.tc : Thread Cert.DhGateIdeal.nD Cert.DhGateIdeal.τ).loc Cert.DhGateIdeal.main_arg2)) →
    ∃ (v0 : (c : Dev Cert.DhGateIdeal.nD) → Buf (Elt Ideal) ((c.tc : Thread Cert.DhGateIdeal.nD Cert.DhGateIdeal.τ).loc Cert.DhGateIdeal.main_v4)),
      θ_run (Cert.DhGateIdeal.defs (F := Ideal)) (onTc (τ := Cert.DhGateIdeal.τ) (Cert.DhGateIdeal.main (F := Ideal))) ⟨m, fun _ => 0, g⟩ (fun r => ∀ c : Dev Cert.DhGateIdeal.nD,
          r.2.mem ((c.tc : Thread Cert.DhGateIdeal.nD Cert.DhGateIdeal.τ).loc Cert.DhGateIdeal.main_v4) = v0 c
          ∧ r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
          ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
          ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2))
      ∧ θ_run (Cert.RefDhGateIdeal.defs (F := Ideal)) (onTc (τ := Cert.RefDhGateIdeal.τ) (Cert.RefDhGateIdeal.main (F := Ideal))) ⟨m', fun _ => 0, g'⟩ (fun r => ∀ c : Dev Cert.RefDhGateIdeal.nD,
          r.2.mem ((c.tc : Thread Cert.RefDhGateIdeal.nD Cert.RefDhGateIdeal.τ).loc Cert.RefDhGateIdeal.main_v5) = v0 c
          ∧ r.2.mem ((c.tc : Thread Cert.RefDhGateIdeal.nD Cert.RefDhGateIdeal.τ).loc Cert.RefDhGateIdeal.main_arg0) = m' ((c.tc : Thread Cert.RefDhGateIdeal.nD Cert.RefDhGateIdeal.τ).loc Cert.RefDhGateIdeal.main_arg0)
          ∧ r.2.mem ((c.tc : Thread Cert.RefDhGateIdeal.nD Cert.RefDhGateIdeal.τ).loc Cert.RefDhGateIdeal.main_arg1) = m' ((c.tc : Thread Cert.RefDhGateIdeal.nD Cert.RefDhGateIdeal.τ).loc Cert.RefDhGateIdeal.main_arg1)
          ∧ r.2.mem ((c.tc : Thread Cert.RefDhGateIdeal.nD Cert.RefDhGateIdeal.τ).loc Cert.RefDhGateIdeal.main_arg2) = m' ((c.tc : Thread Cert.RefDhGateIdeal.nD Cert.RefDhGateIdeal.τ).loc Cert.RefDhGateIdeal.main_arg2))

def preserves_Gates0_Gates0Ideal : Prop :=
  True

def algebraic_Gates0Ideal_RefGates0Ideal [hGates0Ideal : Cert.Gates0Ideal.Facts] [hRefGates0Ideal : Cert.RefGates0Ideal.Facts] : Prop :=
  ∀ (m : (ℓ : Loc Cert.Gates0Ideal.nD Cert.Gates0Ideal.τ Cert.Gates0Ideal.sig) → Buf (Elt Ideal) ℓ) (g : Dev Cert.Gates0Ideal.nD → PrngReg)
    (m' : (ℓ : Loc Cert.RefGates0Ideal.nD Cert.RefGates0Ideal.τ Cert.RefGates0Ideal.sig) → Buf (Elt Ideal) ℓ) (g' : Dev Cert.RefGates0Ideal.nD → PrngReg), Pre_Gates0Ideal m →
    (∀ c : Dev Cert.Gates0Ideal.nD,
      m' ((c.tc : Thread Cert.RefGates0Ideal.nD Cert.RefGates0Ideal.τ).loc Cert.RefGates0Ideal.main_arg0) = m ((c.tc : Thread Cert.Gates0Ideal.nD Cert.Gates0Ideal.τ).loc Cert.Gates0Ideal.main_arg0)
      ∧ m' ((c.tc : Thread Cert.RefGates0Ideal.nD Cert.RefGates0Ideal.τ).loc Cert.RefGates0Ideal.main_arg1) = m ((c.tc : Thread Cert.Gates0Ideal.nD Cert.Gates0Ideal.τ).loc Cert.Gates0Ideal.main_arg1)
      ∧ m' ((c.tc : Thread Cert.RefGates0Ideal.nD Cert.RefGates0Ideal.τ).loc Cert.RefGates0Ideal.main_arg2) = m ((c.tc : Thread Cert.Gates0Ideal.nD Cert.Gates0Ideal.τ).loc Cert.Gates0Ideal.main_arg2)) →
    ∃ (v0 : (c : Dev Cert.Gates0Ideal.nD) → Buf (Elt Ideal) ((c.tc : Thread Cert.Gates0Ideal.nD Cert.Gates0Ideal.τ).loc Cert.Gates0Ideal.main_v5)),
      θ_run (Cert.Gates0Ideal.defs (F := Ideal)) (onTc (τ := Cert.Gates0Ideal.τ) (Cert.Gates0Ideal.main (F := Ideal))) ⟨m, fun _ => 0, g⟩ (fun r => ∀ c : Dev Cert.Gates0Ideal.nD,
          r.2.mem ((c.tc : Thread Cert.Gates0Ideal.nD Cert.Gates0Ideal.τ).loc Cert.Gates0Ideal.main_v5) = v0 c
          ∧ r.2.mem ((c.tc : Thread Cert.Gates0Ideal.nD Cert.Gates0Ideal.τ).loc Cert.Gates0Ideal.main_arg0) = m ((c.tc : Thread Cert.Gates0Ideal.nD Cert.Gates0Ideal.τ).loc Cert.Gates0Ideal.main_arg0)
          ∧ r.2.mem ((c.tc : Thread Cert.Gates0Ideal.nD Cert.Gates0Ideal.τ).loc Cert.Gates0Ideal.main_arg1) = m ((c.tc : Thread Cert.Gates0Ideal.nD Cert.Gates0Ideal.τ).loc Cert.Gates0Ideal.main_arg1)
          ∧ r.2.mem ((c.tc : Thread Cert.Gates0Ideal.nD Cert.Gates0Ideal.τ).loc Cert.Gates0Ideal.main_arg2) = m ((c.tc : Thread Cert.Gates0Ideal.nD Cert.Gates0Ideal.τ).loc Cert.Gates0Ideal.main_arg2))
      ∧ θ_run (Cert.RefGates0Ideal.defs (F := Ideal)) (onTc (τ := Cert.RefGates0Ideal.τ) (Cert.RefGates0Ideal.main (F := Ideal))) ⟨m', fun _ => 0, g'⟩ (fun r => ∀ c : Dev Cert.RefGates0Ideal.nD,
          r.2.mem ((c.tc : Thread Cert.RefGates0Ideal.nD Cert.RefGates0Ideal.τ).loc Cert.RefGates0Ideal.main_v13) = v0 c
          ∧ r.2.mem ((c.tc : Thread Cert.RefGates0Ideal.nD Cert.RefGates0Ideal.τ).loc Cert.RefGates0Ideal.main_arg0) = m' ((c.tc : Thread Cert.RefGates0Ideal.nD Cert.RefGates0Ideal.τ).loc Cert.RefGates0Ideal.main_arg0)
          ∧ r.2.mem ((c.tc : Thread Cert.RefGates0Ideal.nD Cert.RefGates0Ideal.τ).loc Cert.RefGates0Ideal.main_arg1) = m' ((c.tc : Thread Cert.RefGates0Ideal.nD Cert.RefGates0Ideal.τ).loc Cert.RefGates0Ideal.main_arg1)
          ∧ r.2.mem ((c.tc : Thread Cert.RefGates0Ideal.nD Cert.RefGates0Ideal.τ).loc Cert.RefGates0Ideal.main_arg2) = m' ((c.tc : Thread Cert.RefGates0Ideal.nD Cert.RefGates0Ideal.τ).loc Cert.RefGates0Ideal.main_arg2))

def preserves_DhIn0_DhIn0Ideal : Prop :=
  True

def algebraic_DhIn0Ideal_RefDhIn0Ideal [hDhIn0Ideal : Cert.DhIn0Ideal.Facts] [hRefDhIn0Ideal : Cert.RefDhIn0Ideal.Facts] : Prop :=
  ∀ (m : (ℓ : Loc Cert.DhIn0Ideal.nD Cert.DhIn0Ideal.τ Cert.DhIn0Ideal.sig) → Buf (Elt Ideal) ℓ) (g : Dev Cert.DhIn0Ideal.nD → PrngReg)
    (m' : (ℓ : Loc Cert.RefDhIn0Ideal.nD Cert.RefDhIn0Ideal.τ Cert.RefDhIn0Ideal.sig) → Buf (Elt Ideal) ℓ) (g' : Dev Cert.RefDhIn0Ideal.nD → PrngReg), Pre_DhIn0Ideal m →
    (∀ c : Dev Cert.DhIn0Ideal.nD,
      m' ((c.tc : Thread Cert.RefDhIn0Ideal.nD Cert.RefDhIn0Ideal.τ).loc Cert.RefDhIn0Ideal.main_arg0) = m ((c.tc : Thread Cert.DhIn0Ideal.nD Cert.DhIn0Ideal.τ).loc Cert.DhIn0Ideal.main_arg0)
      ∧ m' ((c.tc : Thread Cert.RefDhIn0Ideal.nD Cert.RefDhIn0Ideal.τ).loc Cert.RefDhIn0Ideal.main_arg1) = m ((c.tc : Thread Cert.DhIn0Ideal.nD Cert.DhIn0Ideal.τ).loc Cert.DhIn0Ideal.main_arg1)) →
    ∃ (v0 : (c : Dev Cert.DhIn0Ideal.nD) → Buf (Elt Ideal) ((c.tc : Thread Cert.DhIn0Ideal.nD Cert.DhIn0Ideal.τ).loc Cert.DhIn0Ideal.main_v4)),
      θ_run (Cert.DhIn0Ideal.defs (F := Ideal)) (onTc (τ := Cert.DhIn0Ideal.τ) (Cert.DhIn0Ideal.main (F := Ideal))) ⟨m, fun _ => 0, g⟩ (fun r => ∀ c : Dev Cert.DhIn0Ideal.nD,
          r.2.mem ((c.tc : Thread Cert.DhIn0Ideal.nD Cert.DhIn0Ideal.τ).loc Cert.DhIn0Ideal.main_v4) = v0 c
          ∧ r.2.mem ((c.tc : Thread Cert.DhIn0Ideal.nD Cert.DhIn0Ideal.τ).loc Cert.DhIn0Ideal.main_arg0) = m ((c.tc : Thread Cert.DhIn0Ideal.nD Cert.DhIn0Ideal.τ).loc Cert.DhIn0Ideal.main_arg0)
          ∧ r.2.mem ((c.tc : Thread Cert.DhIn0Ideal.nD Cert.DhIn0Ideal.τ).loc Cert.DhIn0Ideal.main_arg1) = m ((c.tc : Thread Cert.DhIn0Ideal.nD Cert.DhIn0Ideal.τ).loc Cert.DhIn0Ideal.main_arg1))
      ∧ θ_run (Cert.RefDhIn0Ideal.defs (F := Ideal)) (onTc (τ := Cert.RefDhIn0Ideal.τ) (Cert.RefDhIn0Ideal.main (F := Ideal))) ⟨m', fun _ => 0, g'⟩ (fun r => ∀ c : Dev Cert.RefDhIn0Ideal.nD,
          r.2.mem ((c.tc : Thread Cert.RefDhIn0Ideal.nD Cert.RefDhIn0Ideal.τ).loc Cert.RefDhIn0Ideal.main_v4) = v0 c
          ∧ r.2.mem ((c.tc : Thread Cert.RefDhIn0Ideal.nD Cert.RefDhIn0Ideal.τ).loc Cert.RefDhIn0Ideal.main_arg0) = m' ((c.tc : Thread Cert.RefDhIn0Ideal.nD Cert.RefDhIn0Ideal.τ).loc Cert.RefDhIn0Ideal.main_arg0)
          ∧ r.2.mem ((c.tc : Thread Cert.RefDhIn0Ideal.nD Cert.RefDhIn0Ideal.τ).loc Cert.RefDhIn0Ideal.main_arg1) = m' ((c.tc : Thread Cert.RefDhIn0Ideal.nD Cert.RefDhIn0Ideal.τ).loc Cert.RefDhIn0Ideal.main_arg1))

def preserves_DhGate0_DhGate0Ideal : Prop :=
  True

def algebraic_DhGate0Ideal_RefDhGate0Ideal [hDhGate0Ideal : Cert.DhGate0Ideal.Facts] [hRefDhGate0Ideal : Cert.RefDhGate0Ideal.Facts] : Prop :=
  ∀ (m : (ℓ : Loc Cert.DhGate0Ideal.nD Cert.DhGate0Ideal.τ Cert.DhGate0Ideal.sig) → Buf (Elt Ideal) ℓ) (g : Dev Cert.DhGate0Ideal.nD → PrngReg)
    (m' : (ℓ : Loc Cert.RefDhGate0Ideal.nD Cert.RefDhGate0Ideal.τ Cert.RefDhGate0Ideal.sig) → Buf (Elt Ideal) ℓ) (g' : Dev Cert.RefDhGate0Ideal.nD → PrngReg), Pre_DhGate0Ideal m →
    (∀ c : Dev Cert.DhGate0Ideal.nD,
      m' ((c.tc : Thread Cert.RefDhGate0Ideal.nD Cert.RefDhGate0Ideal.τ).loc Cert.RefDhGate0Ideal.main_arg0) = m ((c.tc : Thread Cert.DhGate0Ideal.nD Cert.DhGate0Ideal.τ).loc Cert.DhGate0Ideal.main_arg0)
      ∧ m' ((c.tc : Thread Cert.RefDhGate0Ideal.nD Cert.RefDhGate0Ideal.τ).loc Cert.RefDhGate0Ideal.main_arg1) = m ((c.tc : Thread Cert.DhGate0Ideal.nD Cert.DhGate0Ideal.τ).loc Cert.DhGate0Ideal.main_arg1)
      ∧ m' ((c.tc : Thread Cert.RefDhGate0Ideal.nD Cert.RefDhGate0Ideal.τ).loc Cert.RefDhGate0Ideal.main_arg2) = m ((c.tc : Thread Cert.DhGate0Ideal.nD Cert.DhGate0Ideal.τ).loc Cert.DhGate0Ideal.main_arg2)) →
    ∃ (v0 : (c : Dev Cert.DhGate0Ideal.nD) → Buf (Elt Ideal) ((c.tc : Thread Cert.DhGate0Ideal.nD Cert.DhGate0Ideal.τ).loc Cert.DhGate0Ideal.main_v4)),
      θ_run (Cert.DhGate0Ideal.defs (F := Ideal)) (onTc (τ := Cert.DhGate0Ideal.τ) (Cert.DhGate0Ideal.main (F := Ideal))) ⟨m, fun _ => 0, g⟩ (fun r => ∀ c : Dev Cert.DhGate0Ideal.nD,
          r.2.mem ((c.tc : Thread Cert.DhGate0Ideal.nD Cert.DhGate0Ideal.τ).loc Cert.DhGate0Ideal.main_v4) = v0 c
          ∧ r.2.mem ((c.tc : Thread Cert.DhGate0Ideal.nD Cert.DhGate0Ideal.τ).loc Cert.DhGate0Ideal.main_arg0) = m ((c.tc : Thread Cert.DhGate0Ideal.nD Cert.DhGate0Ideal.τ).loc Cert.DhGate0Ideal.main_arg0)
          ∧ r.2.mem ((c.tc : Thread Cert.DhGate0Ideal.nD Cert.DhGate0Ideal.τ).loc Cert.DhGate0Ideal.main_arg1) = m ((c.tc : Thread Cert.DhGate0Ideal.nD Cert.DhGate0Ideal.τ).loc Cert.DhGate0Ideal.main_arg1)
          ∧ r.2.mem ((c.tc : Thread Cert.DhGate0Ideal.nD Cert.DhGate0Ideal.τ).loc Cert.DhGate0Ideal.main_arg2) = m ((c.tc : Thread Cert.DhGate0Ideal.nD Cert.DhGate0Ideal.τ).loc Cert.DhGate0Ideal.main_arg2))
      ∧ θ_run (Cert.RefDhGate0Ideal.defs (F := Ideal)) (onTc (τ := Cert.RefDhGate0Ideal.τ) (Cert.RefDhGate0Ideal.main (F := Ideal))) ⟨m', fun _ => 0, g'⟩ (fun r => ∀ c : Dev Cert.RefDhGate0Ideal.nD,
          r.2.mem ((c.tc : Thread Cert.RefDhGate0Ideal.nD Cert.RefDhGate0Ideal.τ).loc Cert.RefDhGate0Ideal.main_v5) = v0 c
          ∧ r.2.mem ((c.tc : Thread Cert.RefDhGate0Ideal.nD Cert.RefDhGate0Ideal.τ).loc Cert.RefDhGate0Ideal.main_arg0) = m' ((c.tc : Thread Cert.RefDhGate0Ideal.nD Cert.RefDhGate0Ideal.τ).loc Cert.RefDhGate0Ideal.main_arg0)
          ∧ r.2.mem ((c.tc : Thread Cert.RefDhGate0Ideal.nD Cert.RefDhGate0Ideal.τ).loc Cert.RefDhGate0Ideal.main_arg1) = m' ((c.tc : Thread Cert.RefDhGate0Ideal.nD Cert.RefDhGate0Ideal.τ).loc Cert.RefDhGate0Ideal.main_arg1)
          ∧ r.2.mem ((c.tc : Thread Cert.RefDhGate0Ideal.nD Cert.RefDhGate0Ideal.τ).loc Cert.RefDhGate0Ideal.main_arg2) = m' ((c.tc : Thread Cert.RefDhGate0Ideal.nD Cert.RefDhGate0Ideal.τ).loc Cert.RefDhGate0Ideal.main_arg2))

def preserves_GradRow_GradRowIdeal : Prop :=
  True

def algebraic_GradRowIdeal_RefGradRowIdeal [hGradRowIdeal : Cert.GradRowIdeal.Facts] [hRefGradRowIdeal : Cert.RefGradRowIdeal.Facts] : Prop :=
  ∀ (m : (ℓ : Loc Cert.GradRowIdeal.nD Cert.GradRowIdeal.τ Cert.GradRowIdeal.sig) → Buf (Elt Ideal) ℓ) (g : Dev Cert.GradRowIdeal.nD → PrngReg)
    (m' : (ℓ : Loc Cert.RefGradRowIdeal.nD Cert.RefGradRowIdeal.τ Cert.RefGradRowIdeal.sig) → Buf (Elt Ideal) ℓ) (g' : Dev Cert.RefGradRowIdeal.nD → PrngReg), Pre_GradRowIdeal m →
    (∀ c : Dev Cert.GradRowIdeal.nD,
      m' ((c.tc : Thread Cert.RefGradRowIdeal.nD Cert.RefGradRowIdeal.τ).loc Cert.RefGradRowIdeal.main_arg0) = m ((c.tc : Thread Cert.GradRowIdeal.nD Cert.GradRowIdeal.τ).loc Cert.GradRowIdeal.main_arg0)
      ∧ m' ((c.tc : Thread Cert.RefGradRowIdeal.nD Cert.RefGradRowIdeal.τ).loc Cert.RefGradRowIdeal.main_arg1) = m ((c.tc : Thread Cert.GradRowIdeal.nD Cert.GradRowIdeal.τ).loc Cert.GradRowIdeal.main_arg1)) →
    ∃ (v0 : (c : Dev Cert.GradRowIdeal.nD) → Buf (Elt Ideal) ((c.tc : Thread Cert.GradRowIdeal.nD Cert.GradRowIdeal.τ).loc Cert.GradRowIdeal.main_v2)),
      θ_run (Cert.GradRowIdeal.defs (F := Ideal)) (onTc (τ := Cert.GradRowIdeal.τ) (Cert.GradRowIdeal.main (F := Ideal))) ⟨m, fun _ => 0, g⟩ (fun r => ∀ c : Dev Cert.GradRowIdeal.nD,
          r.2.mem ((c.tc : Thread Cert.GradRowIdeal.nD Cert.GradRowIdeal.τ).loc Cert.GradRowIdeal.main_v2) = v0 c
          ∧ r.2.mem ((c.tc : Thread Cert.GradRowIdeal.nD Cert.GradRowIdeal.τ).loc Cert.GradRowIdeal.main_arg0) = m ((c.tc : Thread Cert.GradRowIdeal.nD Cert.GradRowIdeal.τ).loc Cert.GradRowIdeal.main_arg0)
          ∧ r.2.mem ((c.tc : Thread Cert.GradRowIdeal.nD Cert.GradRowIdeal.τ).loc Cert.GradRowIdeal.main_arg1) = m ((c.tc : Thread Cert.GradRowIdeal.nD Cert.GradRowIdeal.τ).loc Cert.GradRowIdeal.main_arg1))
      ∧ θ_run (Cert.RefGradRowIdeal.defs (F := Ideal)) (onTc (τ := Cert.RefGradRowIdeal.τ) (Cert.RefGradRowIdeal.main (F := Ideal))) ⟨m', fun _ => 0, g'⟩ (fun r => ∀ c : Dev Cert.RefGradRowIdeal.nD,
          r.2.mem ((c.tc : Thread Cert.RefGradRowIdeal.nD Cert.RefGradRowIdeal.τ).loc Cert.RefGradRowIdeal.main_v5) = v0 c
          ∧ r.2.mem ((c.tc : Thread Cert.RefGradRowIdeal.nD Cert.RefGradRowIdeal.τ).loc Cert.RefGradRowIdeal.main_arg0) = m' ((c.tc : Thread Cert.RefGradRowIdeal.nD Cert.RefGradRowIdeal.τ).loc Cert.RefGradRowIdeal.main_arg0)
          ∧ r.2.mem ((c.tc : Thread Cert.RefGradRowIdeal.nD Cert.RefGradRowIdeal.τ).loc Cert.RefGradRowIdeal.main_arg1) = m' ((c.tc : Thread Cert.RefGradRowIdeal.nD Cert.RefGradRowIdeal.τ).loc Cert.RefGradRowIdeal.main_arg1))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v24) = v0 c
          ∧ r.2.mem ((c.tc : Thread Cert.RefAdamInIdeal.nD Cert.RefAdamInIdeal.τ).loc Cert.RefAdamInIdeal.main_v25) = v1 c
          ∧ r.2.mem ((c.tc : Thread Cert.RefAdamInIdeal.nD Cert.RefAdamInIdeal.τ).loc Cert.RefAdamInIdeal.main_v26) = v2 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamGate_AdamGateIdeal : Prop :=
  True

def algebraic_AdamGateIdeal_RefAdamGateIdeal [hAdamGateIdeal : Cert.AdamGateIdeal.Facts] [hRefAdamGateIdeal : Cert.RefAdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.RefAdamGateIdeal.nD Cert.RefAdamGateIdeal.τ Cert.RefAdamGateIdeal.sig) → Buf (Elt Ideal) ℓ) (g' : Dev Cert.RefAdamGateIdeal.nD → PrngReg), Pre_AdamGateIdeal m →
    (∀ c : Dev Cert.AdamGateIdeal.nD,
      m' ((c.tc : Thread Cert.RefAdamGateIdeal.nD Cert.RefAdamGateIdeal.τ).loc Cert.RefAdamGateIdeal.main_arg0) = m ((c.tc : Thread Cert.AdamGateIdeal.nD Cert.AdamGateIdeal.τ).loc Cert.AdamGateIdeal.main_arg0)
      ∧ m' ((c.tc : Thread Cert.RefAdamGateIdeal.nD Cert.RefAdamGateIdeal.τ).loc Cert.RefAdamGateIdeal.main_arg1) = m ((c.tc : Thread Cert.AdamGateIdeal.nD Cert.AdamGateIdeal.τ).loc Cert.AdamGateIdeal.main_arg1)
      ∧ m' ((c.tc : Thread Cert.RefAdamGateIdeal.nD Cert.RefAdamGateIdeal.τ).loc Cert.RefAdamGateIdeal.main_arg2) = m ((c.tc : Thread Cert.AdamGateIdeal.nD Cert.AdamGateIdeal.τ).loc Cert.AdamGateIdeal.main_arg2)
      ∧ m' ((c.tc : Thread Cert.RefAdamGateIdeal.nD Cert.RefAdamGateIdeal.τ).loc Cert.RefAdamGateIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4_0)) (v1 : (c : Dev Cert.AdamGateIdeal.nD) → Buf (Elt Ideal) ((c.tc : Thread Cert.AdamGateIdeal.nD Cert.AdamGateIdeal.τ).loc Cert.AdamGateIdeal.main_v4_1)) (v2 : (c : Dev Cert.AdamGateIdeal.nD) → Buf (Elt Ideal) ((c.tc : Thread Cert.AdamGateIdeal.nD Cert.AdamGateIdeal.τ).loc Cert.AdamGateIdeal.main_v4_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4_0) = v0 c
          ∧ r.2.mem ((c.tc : Thread Cert.AdamGateIdeal.nD Cert.AdamGateIdeal.τ).loc Cert.AdamGateIdeal.main_v4_1) = v1 c
          ∧ r.2.mem ((c.tc : Thread Cert.AdamGateIdeal.nD Cert.AdamGateIdeal.τ).loc Cert.AdamGateIdeal.main_v4_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.RefAdamGateIdeal.defs (F := Ideal)) (onTc (τ := Cert.RefAdamGateIdeal.τ) (Cert.RefAdamGateIdeal.main (F := Ideal))) ⟨m', fun _ => 0, g'⟩ (fun r => ∀ c : Dev Cert.RefAdamGateIdeal.nD,
          r.2.mem ((c.tc : Thread Cert.RefAdamGateIdeal.nD Cert.RefAdamGateIdeal.τ).loc Cert.RefAdamGateIdeal.main_v24) = v0 c
          ∧ r.2.mem ((c.tc : Thread Cert.RefAdamGateIdeal.nD Cert.RefAdamGateIdeal.τ).loc Cert.RefAdamGateIdeal.main_v25) = v1 c
          ∧ r.2.mem ((c.tc : Thread Cert.RefAdamGateIdeal.nD Cert.RefAdamGateIdeal.τ).loc Cert.RefAdamGateIdeal.main_v26) = v2 c
          ∧ r.2.mem ((c.tc : Thread Cert.RefAdamGateIdeal.nD Cert.RefAdamGateIdeal.τ).loc Cert.RefAdamGateIdeal.main_arg0) = m' ((c.tc : Thread Cert.RefAdamGateIdeal.nD Cert.RefAdamGateIdeal.τ).loc Cert.RefAdamGateIdeal.main_arg0)
          ∧ r.2.mem ((c.tc : Thread Cert.RefAdamGateIdeal.nD Cert.RefAdamGateIdeal.τ).loc Cert.RefAdamGateIdeal.main_arg1) = m' ((c.tc : Thread Cert.RefAdamGateIdeal.nD Cert.RefAdamGateIdeal.τ).loc Cert.RefAdamGateIdeal.main_arg1)
          ∧ r.2.mem ((c.tc : Thread Cert.RefAdamGateIdeal.nD Cert.RefAdamGateIdeal.τ).loc Cert.RefAdamGateIdeal.main_arg2) = m' ((c.tc : Thread Cert.RefAdamGateIdeal.nD Cert.RefAdamGateIdeal.τ).loc Cert.RefAdamGateIdeal.main_arg2)
          ∧ r.2.mem ((c.tc : Thread Cert.RefAdamGateIdeal.nD Cert.RefAdamGateIdeal.τ).loc Cert.RefAdamGateIdeal.main_arg3) = m' ((c.tc : Thread Cert.RefAdamGateIdeal.nD Cert.RefAdamGateIdeal.τ).loc Cert.RefAdamGateIdeal.main_arg3))

def preserves_AdamBranch_AdamBranchIdeal : Prop :=
  True

def algebraic_AdamBranchIdeal_RefAdamBranchIdeal [hAdamBranchIdeal : Cert.AdamBranchIdeal.Facts] [hRefAdamBranchIdeal : Cert.RefAdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.RefAdamBranchIdeal.nD Cert.RefAdamBranchIdeal.τ Cert.RefAdamBranchIdeal.sig) → Buf (Elt Ideal) ℓ) (g' : Dev Cert.RefAdamBranchIdeal.nD → PrngReg), Pre_AdamBranchIdeal m →
    (∀ c : Dev Cert.AdamBranchIdeal.nD,
      m' ((c.tc : Thread Cert.RefAdamBranchIdeal.nD Cert.RefAdamBranchIdeal.τ).loc Cert.RefAdamBranchIdeal.main_arg0) = m ((c.tc : Thread Cert.AdamBranchIdeal.nD Cert.AdamBranchIdeal.τ).loc Cert.AdamBranchIdeal.main_arg0)
      ∧ m' ((c.tc : Thread Cert.RefAdamBranchIdeal.nD Cert.RefAdamBranchIdeal.τ).loc Cert.RefAdamBranchIdeal.main_arg1) = m ((c.tc : Thread Cert.AdamBranchIdeal.nD Cert.AdamBranchIdeal.τ).loc Cert.AdamBranchIdeal.main_arg1)
      ∧ m' ((c.tc : Thread Cert.RefAdamBranchIdeal.nD Cert.RefAdamBranchIdeal.τ).loc Cert.RefAdamBranchIdeal.main_arg2) = m ((c.tc : Thread Cert.AdamBranchIdeal.nD Cert.AdamBranchIdeal.τ).loc Cert.AdamBranchIdeal.main_arg2)
      ∧ m' ((c.tc : Thread Cert.RefAdamBranchIdeal.nD Cert.RefAdamBranchIdeal.τ).loc Cert.RefAdamBranchIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_0)) (v1 : (c : Dev Cert.AdamBranchIdeal.nD) → Buf (Elt Ideal) ((c.tc : Thread Cert.AdamBranchIdeal.nD Cert.AdamBranchIdeal.τ).loc Cert.AdamBranchIdeal.main_v4_1)) (v2 : (c : Dev Cert.AdamBranchIdeal.nD) → Buf (Elt Ideal) ((c.tc : Thread Cert.AdamBranchIdeal.nD Cert.AdamBranchIdeal.τ).loc Cert.AdamBranchIdeal.main_v4_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_0) = v0 c
          ∧ r.2.mem ((c.tc : Thread Cert.AdamBranchIdeal.nD Cert.AdamBranchIdeal.τ).loc Cert.AdamBranchIdeal.main_v4_1) = v1 c
          ∧ r.2.mem ((c.tc : Thread Cert.AdamBranchIdeal.nD Cert.AdamBranchIdeal.τ).loc Cert.AdamBranchIdeal.main_v4_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.RefAdamBranchIdeal.defs (F := Ideal)) (onTc (τ := Cert.RefAdamBranchIdeal.τ) (Cert.RefAdamBranchIdeal.main (F := Ideal))) ⟨m', fun _ => 0, g'⟩ (fun r => ∀ c : Dev Cert.RefAdamBranchIdeal.nD,
          r.2.mem ((c.tc : Thread Cert.RefAdamBranchIdeal.nD Cert.RefAdamBranchIdeal.τ).loc Cert.RefAdamBranchIdeal.main_v24) = v0 c
          ∧ r.2.mem ((c.tc : Thread Cert.RefAdamBranchIdeal.nD Cert.RefAdamBranchIdeal.τ).loc Cert.RefAdamBranchIdeal.main_v25) = v1 c
          ∧ r.2.mem ((c.tc : Thread Cert.RefAdamBranchIdeal.nD Cert.RefAdamBranchIdeal.τ).loc Cert.RefAdamBranchIdeal.main_v26) = v2 c
          ∧ r.2.mem ((c.tc : Thread Cert.RefAdamBranchIdeal.nD Cert.RefAdamBranchIdeal.τ).loc Cert.RefAdamBranchIdeal.main_arg0) = m' ((c.tc : Thread Cert.RefAdamBranchIdeal.nD Cert.RefAdamBranchIdeal.τ).loc Cert.RefAdamBranchIdeal.main_arg0)
          ∧ r.2.mem ((c.tc : Thread Cert.RefAdamBranchIdeal.nD Cert.RefAdamBranchIdeal.τ).loc Cert.RefAdamBranchIdeal.main_arg1) = m' ((c.tc : Thread Cert.RefAdamBranchIdeal.nD Cert.RefAdamBranchIdeal.τ).loc Cert.RefAdamBranchIdeal.main_arg1)
          ∧ r.2.mem ((c.tc : Thread Cert.RefAdamBranchIdeal.nD Cert.RefAdamBranchIdeal.τ).loc Cert.RefAdamBranchIdeal.main_arg2) = m' ((c.tc : Thread Cert.RefAdamBranchIdeal.nD Cert.RefAdamBranchIdeal.τ).loc Cert.RefAdamBranchIdeal.main_arg2)
          ∧ r.2.mem ((c.tc : Thread Cert.RefAdamBranchIdeal.nD Cert.RefAdamBranchIdeal.τ).loc Cert.RefAdamBranchIdeal.main_arg3) = m' ((c.tc : Thread Cert.RefAdamBranchIdeal.nD Cert.RefAdamBranchIdeal.τ).loc Cert.RefAdamBranchIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v24) = v0 c
          ∧ r.2.mem ((c.tc : Thread Cert.RefAdamOutIdeal.nD Cert.RefAdamOutIdeal.τ).loc Cert.RefAdamOutIdeal.main_v25) = v1 c
          ∧ r.2.mem ((c.tc : Thread Cert.RefAdamOutIdeal.nD Cert.RefAdamOutIdeal.τ).loc Cert.RefAdamOutIdeal.main_v26) = v2 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamBias_AdamBiasIdeal : Prop :=
  True

def algebraic_AdamBiasIdeal_RefAdamBiasIdeal [hAdamBiasIdeal : Cert.AdamBiasIdeal.Facts] [hRefAdamBiasIdeal : Cert.RefAdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.RefAdamBiasIdeal.nD Cert.RefAdamBiasIdeal.τ Cert.RefAdamBiasIdeal.sig) → Buf (Elt Ideal) ℓ) (g' : Dev Cert.RefAdamBiasIdeal.nD → PrngReg), Pre_AdamBiasIdeal m →
    (∀ c : Dev Cert.AdamBiasIdeal.nD,
      m' ((c.tc : Thread Cert.RefAdamBiasIdeal.nD Cert.RefAdamBiasIdeal.τ).loc Cert.RefAdamBiasIdeal.main_arg0) = m ((c.tc : Thread Cert.AdamBiasIdeal.nD Cert.AdamBiasIdeal.τ).loc Cert.AdamBiasIdeal.main_arg0)
      ∧ m' ((c.tc : Thread Cert.RefAdamBiasIdeal.nD Cert.RefAdamBiasIdeal.τ).loc Cert.RefAdamBiasIdeal.main_arg1) = m ((c.tc : Thread Cert.AdamBiasIdeal.nD Cert.AdamBiasIdeal.τ).loc Cert.AdamBiasIdeal.main_arg1)
      ∧ m' ((c.tc : Thread Cert.RefAdamBiasIdeal.nD Cert.RefAdamBiasIdeal.τ).loc Cert.RefAdamBiasIdeal.main_arg2) = m ((c.tc : Thread Cert.AdamBiasIdeal.nD Cert.AdamBiasIdeal.τ).loc Cert.AdamBiasIdeal.main_arg2)
      ∧ m' ((c.tc : Thread Cert.RefAdamBiasIdeal.nD Cert.RefAdamBiasIdeal.τ).loc Cert.RefAdamBiasIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.RefAdamBiasIdeal.defs (F := Ideal)) (onTc (τ := Cert.RefAdamBiasIdeal.τ) (Cert.RefAdamBiasIdeal.main (F := Ideal))) ⟨m', fun _ => 0, g'⟩ (fun r => ∀ c : Dev Cert.RefAdamBiasIdeal.nD,
          r.2.mem ((c.tc : Thread Cert.RefAdamBiasIdeal.nD Cert.RefAdamBiasIdeal.τ).loc Cert.RefAdamBiasIdeal.main_v23) = v0 c
          ∧ r.2.mem ((c.tc : Thread Cert.RefAdamBiasIdeal.nD Cert.RefAdamBiasIdeal.τ).loc Cert.RefAdamBiasIdeal.main_v4) = v1 c
          ∧ r.2.mem ((c.tc : Thread Cert.RefAdamBiasIdeal.nD Cert.RefAdamBiasIdeal.τ).loc Cert.RefAdamBiasIdeal.main_v10) = v2 c
          ∧ r.2.mem ((c.tc : Thread Cert.RefAdamBiasIdeal.nD Cert.RefAdamBiasIdeal.τ).loc Cert.RefAdamBiasIdeal.main_arg0) = m' ((c.tc : Thread Cert.RefAdamBiasIdeal.nD Cert.RefAdamBiasIdeal.τ).loc Cert.RefAdamBiasIdeal.main_arg0)
          ∧ r.2.mem ((c.tc : Thread Cert.RefAdamBiasIdeal.nD Cert.RefAdamBiasIdeal.τ).loc Cert.RefAdamBiasIdeal.main_arg1) = m' ((c.tc : Thread Cert.RefAdamBiasIdeal.nD Cert.RefAdamBiasIdeal.τ).loc Cert.RefAdamBiasIdeal.main_arg1)
          ∧ r.2.mem ((c.tc : Thread Cert.RefAdamBiasIdeal.nD Cert.RefAdamBiasIdeal.τ).loc Cert.RefAdamBiasIdeal.main_arg2) = m' ((c.tc : Thread Cert.RefAdamBiasIdeal.nD Cert.RefAdamBiasIdeal.τ).loc Cert.RefAdamBiasIdeal.main_arg2)
          ∧ r.2.mem ((c.tc : Thread Cert.RefAdamBiasIdeal.nD Cert.RefAdamBiasIdeal.τ).loc Cert.RefAdamBiasIdeal.main_arg3) = m' ((c.tc : Thread Cert.RefAdamBiasIdeal.nD Cert.RefAdamBiasIdeal.τ).loc Cert.RefAdamBiasIdeal.main_arg3))

def preserves_AdamNorm_AdamNormIdeal : Prop :=
  True

def algebraic_AdamNormIdeal_RefAdamNormIdeal [hAdamNormIdeal : Cert.AdamNormIdeal.Facts] [hRefAdamNormIdeal : Cert.RefAdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.RefAdamNormIdeal.nD Cert.RefAdamNormIdeal.τ Cert.RefAdamNormIdeal.sig) → Buf (Elt Ideal) ℓ) (g' : Dev Cert.RefAdamNormIdeal.nD → PrngReg), Pre_AdamNormIdeal m →
    (∀ c : Dev Cert.AdamNormIdeal.nD,
      m' ((c.tc : Thread Cert.RefAdamNormIdeal.nD Cert.RefAdamNormIdeal.τ).loc Cert.RefAdamNormIdeal.main_arg0) = m ((c.tc : Thread Cert.AdamNormIdeal.nD Cert.AdamNormIdeal.τ).loc Cert.AdamNormIdeal.main_arg0)
      ∧ m' ((c.tc : Thread Cert.RefAdamNormIdeal.nD Cert.RefAdamNormIdeal.τ).loc Cert.RefAdamNormIdeal.main_arg1) = m ((c.tc : Thread Cert.AdamNormIdeal.nD Cert.AdamNormIdeal.τ).loc Cert.AdamNormIdeal.main_arg1)
      ∧ m' ((c.tc : Thread Cert.RefAdamNormIdeal.nD Cert.RefAdamNormIdeal.τ).loc Cert.RefAdamNormIdeal.main_arg2) = m ((c.tc : Thread Cert.AdamNormIdeal.nD Cert.AdamNormIdeal.τ).loc Cert.AdamNormIdeal.main_arg2)
      ∧ m' ((c.tc : Thread Cert.RefAdamNormIdeal.nD Cert.RefAdamNormIdeal.τ).loc Cert.RefAdamNormIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.RefAdamNormIdeal.defs (F := Ideal)) (onTc (τ := Cert.RefAdamNormIdeal.τ) (Cert.RefAdamNormIdeal.main (F := Ideal))) ⟨m', fun _ => 0, g'⟩ (fun r => ∀ c : Dev Cert.RefAdamNormIdeal.nD,
          r.2.mem ((c.tc : Thread Cert.RefAdamNormIdeal.nD Cert.RefAdamNormIdeal.τ).loc Cert.RefAdamNormIdeal.main_v23) = v0 c
          ∧ r.2.mem ((c.tc : Thread Cert.RefAdamNormIdeal.nD Cert.RefAdamNormIdeal.τ).loc Cert.RefAdamNormIdeal.main_v4) = v1 c
          ∧ r.2.mem ((c.tc : Thread Cert.RefAdamNormIdeal.nD Cert.RefAdamNormIdeal.τ).loc Cert.RefAdamNormIdeal.main_v10) = v2 c
          ∧ r.2.mem ((c.tc : Thread Cert.RefAdamNormIdeal.nD Cert.RefAdamNormIdeal.τ).loc Cert.RefAdamNormIdeal.main_arg0) = m' ((c.tc : Thread Cert.RefAdamNormIdeal.nD Cert.RefAdamNormIdeal.τ).loc Cert.RefAdamNormIdeal.main_arg0)
          ∧ r.2.mem ((c.tc : Thread Cert.RefAdamNormIdeal.nD Cert.RefAdamNormIdeal.τ).loc Cert.RefAdamNormIdeal.main_arg1) = m' ((c.tc : Thread Cert.RefAdamNormIdeal.nD Cert.RefAdamNormIdeal.τ).loc Cert.RefAdamNormIdeal.main_arg1)
          ∧ r.2.mem ((c.tc : Thread Cert.RefAdamNormIdeal.nD Cert.RefAdamNormIdeal.τ).loc Cert.RefAdamNormIdeal.main_arg2) = m' ((c.tc : Thread Cert.RefAdamNormIdeal.nD Cert.RefAdamNormIdeal.τ).loc Cert.RefAdamNormIdeal.main_arg2)
          ∧ r.2.mem ((c.tc : Thread Cert.RefAdamNormIdeal.nD Cert.RefAdamNormIdeal.τ).loc Cert.RefAdamNormIdeal.main_arg3) = m' ((c.tc : Thread Cert.RefAdamNormIdeal.nD Cert.RefAdamNormIdeal.τ).loc Cert.RefAdamNormIdeal.main_arg3))

def preserves_AdamScale_AdamScaleIdeal : Prop :=
  True

def algebraic_AdamScaleIdeal_RefAdamScaleIdeal [hAdamScaleIdeal : Cert.AdamScaleIdeal.Facts] [hRefAdamScaleIdeal : Cert.RefAdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.RefAdamScaleIdeal.nD Cert.RefAdamScaleIdeal.τ Cert.RefAdamScaleIdeal.sig) → Buf (Elt Ideal) ℓ) (g' : Dev Cert.RefAdamScaleIdeal.nD → PrngReg), Pre_AdamScaleIdeal m →
    (∀ c : Dev Cert.AdamScaleIdeal.nD,
      m' ((c.tc : Thread Cert.RefAdamScaleIdeal.nD Cert.RefAdamScaleIdeal.τ).loc Cert.RefAdamScaleIdeal.main_arg0) = m ((c.tc : Thread Cert.AdamScaleIdeal.nD Cert.AdamScaleIdeal.τ).loc Cert.AdamScaleIdeal.main_arg0)
      ∧ m' ((c.tc : Thread Cert.RefAdamScaleIdeal.nD Cert.RefAdamScaleIdeal.τ).loc Cert.RefAdamScaleIdeal.main_arg1) = m ((c.tc : Thread Cert.AdamScaleIdeal.nD Cert.AdamScaleIdeal.τ).loc Cert.AdamScaleIdeal.main_arg1)
      ∧ m' ((c.tc : Thread Cert.RefAdamScaleIdeal.nD Cert.RefAdamScaleIdeal.τ).loc Cert.RefAdamScaleIdeal.main_arg2) = m ((c.tc : Thread Cert.AdamScaleIdeal.nD Cert.AdamScaleIdeal.τ).loc Cert.AdamScaleIdeal.main_arg2)
      ∧ m' ((c.tc : Thread Cert.RefAdamScaleIdeal.nD Cert.RefAdamScaleIdeal.τ).loc Cert.RefAdamScaleIdeal.main_arg3) = m ((c.tc : Thread Cert.AdamScaleIdeal.nD Cert.AdamScaleIdeal.τ).loc Cert.AdamScaleIdeal.main_arg3)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ θ_run (Cert.RefAdamScaleIdeal.defs (F := Ideal)) (onTc (τ := Cert.RefAdamScaleIdeal.τ) (Cert.RefAdamScaleIdeal.main (F := Ideal))) ⟨m', fun _ => 0, g'⟩ (fun r => ∀ c : Dev Cert.RefAdamScaleIdeal.nD,
          r.2.mem ((c.tc : Thread Cert.RefAdamScaleIdeal.nD Cert.RefAdamScaleIdeal.τ).loc Cert.RefAdamScaleIdeal.main_v23) = v0 c
          ∧ r.2.mem ((c.tc : Thread Cert.RefAdamScaleIdeal.nD Cert.RefAdamScaleIdeal.τ).loc Cert.RefAdamScaleIdeal.main_v4) = v1 c
          ∧ r.2.mem ((c.tc : Thread Cert.RefAdamScaleIdeal.nD Cert.RefAdamScaleIdeal.τ).loc Cert.RefAdamScaleIdeal.main_v10) = v2 c
          ∧ r.2.mem ((c.tc : Thread Cert.RefAdamScaleIdeal.nD Cert.RefAdamScaleIdeal.τ).loc Cert.RefAdamScaleIdeal.main_arg0) = m' ((c.tc : Thread Cert.RefAdamScaleIdeal.nD Cert.RefAdamScaleIdeal.τ).loc Cert.RefAdamScaleIdeal.main_arg0)
          ∧ r.2.mem ((c.tc : Thread Cert.RefAdamScaleIdeal.nD Cert.RefAdamScaleIdeal.τ).loc Cert.RefAdamScaleIdeal.main_arg1) = m' ((c.tc : Thread Cert.RefAdamScaleIdeal.nD Cert.RefAdamScaleIdeal.τ).loc Cert.RefAdamScaleIdeal.main_arg1)
          ∧ r.2.mem ((c.tc : Thread Cert.RefAdamScaleIdeal.nD Cert.RefAdamScaleIdeal.τ).loc Cert.RefAdamScaleIdeal.main_arg2) = m' ((c.tc : Thread Cert.RefAdamScaleIdeal.nD Cert.RefAdamScaleIdeal.τ).loc Cert.RefAdamScaleIdeal.main_arg2)
          ∧ r.2.mem ((c.tc : Thread Cert.RefAdamScaleIdeal.nD Cert.RefAdamScaleIdeal.τ).loc Cert.RefAdamScaleIdeal.main_arg3) = m' ((c.tc : Thread Cert.RefAdamScaleIdeal.nD Cert.RefAdamScaleIdeal.τ).loc Cert.RefAdamScaleIdeal.main_arg3))

def preserves_AdamFinal_AdamFinalIdeal : Prop :=
  True

def algebraic_AdamFinalIdeal_RefAdamFinalIdeal [hAdamFinalIdeal : Cert.AdamFinalIdeal.Facts] [hRefAdamFinalIdeal : Cert.RefAdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.RefAdamFinalIdeal.nD Cert.RefAdamFinalIdeal.τ Cert.RefAdamFinalIdeal.sig) → Buf (Elt Ideal) ℓ) (g' : Dev Cert.RefAdamFinalIdeal.nD → PrngReg), Pre_AdamFinalIdeal m →
    (∀ c : Dev Cert.AdamFinalIdeal.nD,
      m' ((c.tc : Thread Cert.RefAdamFinalIdeal.nD Cert.RefAdamFinalIdeal.τ).loc Cert.RefAdamFinalIdeal.main_arg0) = m ((c.tc : Thread Cert.AdamFinalIdeal.nD Cert.AdamFinalIdeal.τ).loc Cert.AdamFinalIdeal.main_arg0)
      ∧ m' ((c.tc : Thread Cert.RefAdamFinalIdeal.nD Cert.RefAdamFinalIdeal.τ).loc Cert.RefAdamFinalIdeal.main_arg1) = m ((c.tc : Thread Cert.AdamFinalIdeal.nD Cert.AdamFinalIdeal.τ).loc Cert.AdamFinalIdeal.main_arg1)
      ∧ m' ((c.tc : Thread Cert.RefAdamFinalIdeal.nD Cert.RefAdamFinalIdeal.τ).loc Cert.RefAdamFinalIdeal.main_arg2) = m ((c.tc : Thread Cert.AdamFinalIdeal.nD Cert.AdamFinalIdeal.τ).loc Cert.AdamFinalIdeal.main_arg2)
      ∧ m' ((c.tc : Thread Cert.RefAdamFinalIdeal.nD Cert.RefAdamFinalIdeal.τ).loc Cert.RefAdamFinalIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v4_0)) (v1 : (c : Dev Cert.AdamFinalIdeal.nD) → Buf (Elt Ideal) ((c.tc : Thread Cert.AdamFinalIdeal.nD Cert.AdamFinalIdeal.τ).loc Cert.AdamFinalIdeal.main_v4_1)) (v2 : (c : Dev Cert.AdamFinalIdeal.nD) → Buf (Elt Ideal) ((c.tc : Thread Cert.AdamFinalIdeal.nD Cert.AdamFinalIdeal.τ).loc Cert.AdamFinalIdeal.main_v4_2)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v4_0) = v0 c
          ∧ r.2.mem ((c.tc : Thread Cert.AdamFinalIdeal.nD Cert.AdamFinalIdeal.τ).loc Cert.AdamFinalIdeal.main_v4_1) = v1 c
          ∧ r.2.mem ((c.tc : Thread Cert.AdamFinalIdeal.nD Cert.AdamFinalIdeal.τ).loc Cert.AdamFinalIdeal.main_v4_2) = v2 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.RefAdamFinalIdeal.defs (F := Ideal)) (onTc (τ := Cert.RefAdamFinalIdeal.τ) (Cert.RefAdamFinalIdeal.main (F := Ideal))) ⟨m', fun _ => 0, g'⟩ (fun r => ∀ c : Dev Cert.RefAdamFinalIdeal.nD,
          r.2.mem ((c.tc : Thread Cert.RefAdamFinalIdeal.nD Cert.RefAdamFinalIdeal.τ).loc Cert.RefAdamFinalIdeal.main_v24) = v0 c
          ∧ r.2.mem ((c.tc : Thread Cert.RefAdamFinalIdeal.nD Cert.RefAdamFinalIdeal.τ).loc Cert.RefAdamFinalIdeal.main_v25) = v1 c
          ∧ r.2.mem ((c.tc : Thread Cert.RefAdamFinalIdeal.nD Cert.RefAdamFinalIdeal.τ).loc Cert.RefAdamFinalIdeal.main_v26) = v2 c
          ∧ r.2.mem ((c.tc : Thread Cert.RefAdamFinalIdeal.nD Cert.RefAdamFinalIdeal.τ).loc Cert.RefAdamFinalIdeal.main_arg0) = m' ((c.tc : Thread Cert.RefAdamFinalIdeal.nD Cert.RefAdamFinalIdeal.τ).loc Cert.RefAdamFinalIdeal.main_arg0)
          ∧ r.2.mem ((c.tc : Thread Cert.RefAdamFinalIdeal.nD Cert.RefAdamFinalIdeal.τ).loc Cert.RefAdamFinalIdeal.main_arg1) = m' ((c.tc : Thread Cert.RefAdamFinalIdeal.nD Cert.RefAdamFinalIdeal.τ).loc Cert.RefAdamFinalIdeal.main_arg1)
          ∧ r.2.mem ((c.tc : Thread Cert.RefAdamFinalIdeal.nD Cert.RefAdamFinalIdeal.τ).loc Cert.RefAdamFinalIdeal.main_arg2) = m' ((c.tc : Thread Cert.RefAdamFinalIdeal.nD Cert.RefAdamFinalIdeal.τ).loc Cert.RefAdamFinalIdeal.main_arg2)
          ∧ r.2.mem ((c.tc : Thread Cert.RefAdamFinalIdeal.nD Cert.RefAdamFinalIdeal.τ).loc Cert.RefAdamFinalIdeal.main_arg3) = m' ((c.tc : Thread Cert.RefAdamFinalIdeal.nD Cert.RefAdamFinalIdeal.τ).loc Cert.RefAdamFinalIdeal.main_arg3))

def preserves_AdamConv_AdamConvIdeal : Prop :=
  True

def algebraic_AdamConvIdeal_RefAdamConvIdeal [hAdamConvIdeal : Cert.AdamConvIdeal.Facts] [hRefAdamConvIdeal : Cert.RefAdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.RefAdamConvIdeal.nD Cert.RefAdamConvIdeal.τ Cert.RefAdamConvIdeal.sig) → Buf (Elt Ideal) ℓ) (g' : Dev Cert.RefAdamConvIdeal.nD → PrngReg), Pre_AdamConvIdeal m →
    (∀ c : Dev Cert.AdamConvIdeal.nD,
      m' ((c.tc : Thread Cert.RefAdamConvIdeal.nD Cert.RefAdamConvIdeal.τ).loc Cert.RefAdamConvIdeal.main_arg0) = m ((c.tc : Thread Cert.AdamConvIdeal.nD Cert.AdamConvIdeal.τ).loc Cert.AdamConvIdeal.main_arg0)
      ∧ m' ((c.tc : Thread Cert.RefAdamConvIdeal.nD Cert.RefAdamConvIdeal.τ).loc Cert.RefAdamConvIdeal.main_arg1) = m ((c.tc : Thread Cert.AdamConvIdeal.nD Cert.AdamConvIdeal.τ).loc Cert.AdamConvIdeal.main_arg1)
      ∧ m' ((c.tc : Thread Cert.RefAdamConvIdeal.nD Cert.RefAdamConvIdeal.τ).loc Cert.RefAdamConvIdeal.main_arg2) = m ((c.tc : Thread Cert.AdamConvIdeal.nD Cert.AdamConvIdeal.τ).loc Cert.AdamConvIdeal.main_arg2)
      ∧ m' ((c.tc : Thread Cert.RefAdamConvIdeal.nD Cert.RefAdamConvIdeal.τ).loc Cert.RefAdamConvIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.RefAdamConvIdeal.defs (F := Ideal)) (onTc (τ := Cert.RefAdamConvIdeal.τ) (Cert.RefAdamConvIdeal.main (F := Ideal))) ⟨m', fun _ => 0, g'⟩ (fun r => ∀ c : Dev Cert.RefAdamConvIdeal.nD,
          r.2.mem ((c.tc : Thread Cert.RefAdamConvIdeal.nD Cert.RefAdamConvIdeal.τ).loc Cert.RefAdamConvIdeal.main_v24) = v0 c
          ∧ r.2.mem ((c.tc : Thread Cert.RefAdamConvIdeal.nD Cert.RefAdamConvIdeal.τ).loc Cert.RefAdamConvIdeal.main_v25) = v1 c
          ∧ r.2.mem ((c.tc : Thread Cert.RefAdamConvIdeal.nD Cert.RefAdamConvIdeal.τ).loc Cert.RefAdamConvIdeal.main_v26) = v2 c
          ∧ r.2.mem ((c.tc : Thread Cert.RefAdamConvIdeal.nD Cert.RefAdamConvIdeal.τ).loc Cert.RefAdamConvIdeal.main_arg0) = m' ((c.tc : Thread Cert.RefAdamConvIdeal.nD Cert.RefAdamConvIdeal.τ).loc Cert.RefAdamConvIdeal.main_arg0)
          ∧ r.2.mem ((c.tc : Thread Cert.RefAdamConvIdeal.nD Cert.RefAdamConvIdeal.τ).loc Cert.RefAdamConvIdeal.main_arg1) = m' ((c.tc : Thread Cert.RefAdamConvIdeal.nD Cert.RefAdamConvIdeal.τ).loc Cert.RefAdamConvIdeal.main_arg1)
          ∧ r.2.mem ((c.tc : Thread Cert.RefAdamConvIdeal.nD Cert.RefAdamConvIdeal.τ).loc Cert.RefAdamConvIdeal.main_arg2) = m' ((c.tc : Thread Cert.RefAdamConvIdeal.nD Cert.RefAdamConvIdeal.τ).loc Cert.RefAdamConvIdeal.main_arg2)
          ∧ r.2.mem ((c.tc : Thread Cert.RefAdamConvIdeal.nD Cert.RefAdamConvIdeal.τ).loc Cert.RefAdamConvIdeal.main_arg3) = m' ((c.tc : Thread Cert.RefAdamConvIdeal.nD Cert.RefAdamConvIdeal.τ).loc Cert.RefAdamConvIdeal.main_arg3))

def preserves_AdamPool_AdamPoolIdeal : Prop :=
  True

def algebraic_AdamPoolIdeal_RefAdamPoolIdeal [hAdamPoolIdeal : Cert.AdamPoolIdeal.Facts] [hRefAdamPoolIdeal : Cert.RefAdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.RefAdamPoolIdeal.nD Cert.RefAdamPoolIdeal.τ Cert.RefAdamPoolIdeal.sig) → Buf (Elt Ideal) ℓ) (g' : Dev Cert.RefAdamPoolIdeal.nD → PrngReg), Pre_AdamPoolIdeal m →
    (∀ c : Dev Cert.AdamPoolIdeal.nD,
      m' ((c.tc : Thread Cert.RefAdamPoolIdeal.nD Cert.RefAdamPoolIdeal.τ).loc Cert.RefAdamPoolIdeal.main_arg0) = m ((c.tc : Thread Cert.AdamPoolIdeal.nD Cert.AdamPoolIdeal.τ).loc Cert.AdamPoolIdeal.main_arg0)
      ∧ m' ((c.tc : Thread Cert.RefAdamPoolIdeal.nD Cert.RefAdamPoolIdeal.τ).loc Cert.RefAdamPoolIdeal.main_arg1) = m ((c.tc : Thread Cert.AdamPoolIdeal.nD Cert.AdamPoolIdeal.τ).loc Cert.AdamPoolIdeal.main_arg1)
      ∧ m' ((c.tc : Thread Cert.RefAdamPoolIdeal.nD Cert.RefAdamPoolIdeal.τ).loc Cert.RefAdamPoolIdeal.main_arg2) = m ((c.tc : Thread Cert.AdamPoolIdeal.nD Cert.AdamPoolIdeal.τ).loc Cert.AdamPoolIdeal.main_arg2)
      ∧ m' ((c.tc : Thread Cert.RefAdamPoolIdeal.nD Cert.RefAdamPoolIdeal.τ).loc Cert.RefAdamPoolIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v4_0)) (v1 : (c : Dev Cert.AdamPoolIdeal.nD) → Buf (Elt Ideal) ((c.tc : Thread Cert.AdamPoolIdeal.nD Cert.AdamPoolIdeal.τ).loc Cert.AdamPoolIdeal.main_v4_1)) (v2 : (c : Dev Cert.AdamPoolIdeal.nD) → Buf (Elt Ideal) ((c.tc : Thread Cert.AdamPoolIdeal.nD Cert.AdamPoolIdeal.τ).loc Cert.AdamPoolIdeal.main_v4_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v4_0) = v0 c
          ∧ r.2.mem ((c.tc : Thread Cert.AdamPoolIdeal.nD Cert.AdamPoolIdeal.τ).loc Cert.AdamPoolIdeal.main_v4_1) = v1 c
          ∧ r.2.mem ((c.tc : Thread Cert.AdamPoolIdeal.nD Cert.AdamPoolIdeal.τ).loc Cert.AdamPoolIdeal.main_v4_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.RefAdamPoolIdeal.defs (F := Ideal)) (onTc (τ := Cert.RefAdamPoolIdeal.τ) (Cert.RefAdamPoolIdeal.main (F := Ideal))) ⟨m', fun _ => 0, g'⟩ (fun r => ∀ c : Dev Cert.RefAdamPoolIdeal.nD,
          r.2.mem ((c.tc : Thread Cert.RefAdamPoolIdeal.nD Cert.RefAdamPoolIdeal.τ).loc Cert.RefAdamPoolIdeal.main_v24) = v0 c
          ∧ r.2.mem ((c.tc : Thread Cert.RefAdamPoolIdeal.nD Cert.RefAdamPoolIdeal.τ).loc Cert.RefAdamPoolIdeal.main_v25) = v1 c
          ∧ r.2.mem ((c.tc : Thread Cert.RefAdamPoolIdeal.nD Cert.RefAdamPoolIdeal.τ).loc Cert.RefAdamPoolIdeal.main_v26) = v2 c
          ∧ r.2.mem ((c.tc : Thread Cert.RefAdamPoolIdeal.nD Cert.RefAdamPoolIdeal.τ).loc Cert.RefAdamPoolIdeal.main_arg0) = m' ((c.tc : Thread Cert.RefAdamPoolIdeal.nD Cert.RefAdamPoolIdeal.τ).loc Cert.RefAdamPoolIdeal.main_arg0)
          ∧ r.2.mem ((c.tc : Thread Cert.RefAdamPoolIdeal.nD Cert.RefAdamPoolIdeal.τ).loc Cert.RefAdamPoolIdeal.main_arg1) = m' ((c.tc : Thread Cert.RefAdamPoolIdeal.nD Cert.RefAdamPoolIdeal.τ).loc Cert.RefAdamPoolIdeal.main_arg1)
          ∧ r.2.mem ((c.tc : Thread Cert.RefAdamPoolIdeal.nD Cert.RefAdamPoolIdeal.τ).loc Cert.RefAdamPoolIdeal.main_arg2) = m' ((c.tc : Thread Cert.RefAdamPoolIdeal.nD Cert.RefAdamPoolIdeal.τ).loc Cert.RefAdamPoolIdeal.main_arg2)
          ∧ r.2.mem ((c.tc : Thread Cert.RefAdamPoolIdeal.nD Cert.RefAdamPoolIdeal.τ).loc Cert.RefAdamPoolIdeal.main_arg3) = m' ((c.tc : Thread Cert.RefAdamPoolIdeal.nD Cert.RefAdamPoolIdeal.τ).loc Cert.RefAdamPoolIdeal.main_arg3))

def preserves_GradCol_GradColIdeal : Prop :=
  True

def algebraic_GradColIdeal_RefGradColIdeal [hGradColIdeal : Cert.GradColIdeal.Facts] [hRefGradColIdeal : Cert.RefGradColIdeal.Facts] : Prop :=
  ∀ (m : (ℓ : Loc Cert.GradColIdeal.nD Cert.GradColIdeal.τ Cert.GradColIdeal.sig) → Buf (Elt Ideal) ℓ) (g : Dev Cert.GradColIdeal.nD → PrngReg)
    (m' : (ℓ : Loc Cert.RefGradColIdeal.nD Cert.RefGradColIdeal.τ Cert.RefGradColIdeal.sig) → Buf (Elt Ideal) ℓ) (g' : Dev Cert.RefGradColIdeal.nD → PrngReg), Pre_GradColIdeal m →
    (∀ c : Dev Cert.GradColIdeal.nD,
      m' ((c.tc : Thread Cert.RefGradColIdeal.nD Cert.RefGradColIdeal.τ).loc Cert.RefGradColIdeal.main_arg0) = m ((c.tc : Thread Cert.GradColIdeal.nD Cert.GradColIdeal.τ).loc Cert.GradColIdeal.main_arg0)
      ∧ m' ((c.tc : Thread Cert.RefGradColIdeal.nD Cert.RefGradColIdeal.τ).loc Cert.RefGradColIdeal.main_arg1) = m ((c.tc : Thread Cert.GradColIdeal.nD Cert.GradColIdeal.τ).loc Cert.GradColIdeal.main_arg1)) →
    ∃ (v0 : (c : Dev Cert.GradColIdeal.nD) → Buf (Elt Ideal) ((c.tc : Thread Cert.GradColIdeal.nD Cert.GradColIdeal.τ).loc Cert.GradColIdeal.main_v2)),
      θ_run (Cert.GradColIdeal.defs (F := Ideal)) (onTc (τ := Cert.GradColIdeal.τ) (Cert.GradColIdeal.main (F := Ideal))) ⟨m, fun _ => 0, g⟩ (fun r => ∀ c : Dev Cert.GradColIdeal.nD,
          r.2.mem ((c.tc : Thread Cert.GradColIdeal.nD Cert.GradColIdeal.τ).loc Cert.GradColIdeal.main_v2) = v0 c
          ∧ r.2.mem ((c.tc : Thread Cert.GradColIdeal.nD Cert.GradColIdeal.τ).loc Cert.GradColIdeal.main_arg0) = m ((c.tc : Thread Cert.GradColIdeal.nD Cert.GradColIdeal.τ).loc Cert.GradColIdeal.main_arg0)
          ∧ r.2.mem ((c.tc : Thread Cert.GradColIdeal.nD Cert.GradColIdeal.τ).loc Cert.GradColIdeal.main_arg1) = m ((c.tc : Thread Cert.GradColIdeal.nD Cert.GradColIdeal.τ).loc Cert.GradColIdeal.main_arg1))
      ∧ θ_run (Cert.RefGradColIdeal.defs (F := Ideal)) (onTc (τ := Cert.RefGradColIdeal.τ) (Cert.RefGradColIdeal.main (F := Ideal))) ⟨m', fun _ => 0, g'⟩ (fun r => ∀ c : Dev Cert.RefGradColIdeal.nD,
          r.2.mem ((c.tc : Thread Cert.RefGradColIdeal.nD Cert.RefGradColIdeal.τ).loc Cert.RefGradColIdeal.main_v6) = v0 c
          ∧ r.2.mem ((c.tc : Thread Cert.RefGradColIdeal.nD Cert.RefGradColIdeal.τ).loc Cert.RefGradColIdeal.main_arg0) = m' ((c.tc : Thread Cert.RefGradColIdeal.nD Cert.RefGradColIdeal.τ).loc Cert.RefGradColIdeal.main_arg0)
          ∧ r.2.mem ((c.tc : Thread Cert.RefGradColIdeal.nD Cert.RefGradColIdeal.τ).loc Cert.RefGradColIdeal.main_arg1) = m' ((c.tc : Thread Cert.RefGradColIdeal.nD Cert.RefGradColIdeal.τ).loc Cert.RefGradColIdeal.main_arg1))

def preserves_DRow_DRowIdeal : Prop :=
  True

def algebraic_DRowIdeal_RefDRowIdeal [hDRowIdeal : Cert.DRowIdeal.Facts] [hRefDRowIdeal : Cert.RefDRowIdeal.Facts] : Prop :=
  ∀ (m : (ℓ : Loc Cert.DRowIdeal.nD Cert.DRowIdeal.τ Cert.DRowIdeal.sig) → Buf (Elt Ideal) ℓ) (g : Dev Cert.DRowIdeal.nD → PrngReg)
    (m' : (ℓ : Loc Cert.RefDRowIdeal.nD Cert.RefDRowIdeal.τ Cert.RefDRowIdeal.sig) → Buf (Elt Ideal) ℓ) (g' : Dev Cert.RefDRowIdeal.nD → PrngReg), Pre_DRowIdeal m →
    (∀ c : Dev Cert.DRowIdeal.nD,
      m' ((c.tc : Thread Cert.RefDRowIdeal.nD Cert.RefDRowIdeal.τ).loc Cert.RefDRowIdeal.main_arg0) = m ((c.tc : Thread Cert.DRowIdeal.nD Cert.DRowIdeal.τ).loc Cert.DRowIdeal.main_arg0)
      ∧ m' ((c.tc : Thread Cert.RefDRowIdeal.nD Cert.RefDRowIdeal.τ).loc Cert.RefDRowIdeal.main_arg1) = m ((c.tc : Thread Cert.DRowIdeal.nD Cert.DRowIdeal.τ).loc Cert.DRowIdeal.main_arg1)) →
    ∃ (v0 : (c : Dev Cert.DRowIdeal.nD) → Buf (Elt Ideal) ((c.tc : Thread Cert.DRowIdeal.nD Cert.DRowIdeal.τ).loc Cert.DRowIdeal.main_v4)),
      θ_run (Cert.DRowIdeal.defs (F := Ideal)) (onTc (τ := Cert.DRowIdeal.τ) (Cert.DRowIdeal.main (F := Ideal))) ⟨m, fun _ => 0, g⟩ (fun r => ∀ c : Dev Cert.DRowIdeal.nD,
          r.2.mem ((c.tc : Thread Cert.DRowIdeal.nD Cert.DRowIdeal.τ).loc Cert.DRowIdeal.main_v4) = v0 c
          ∧ r.2.mem ((c.tc : Thread Cert.DRowIdeal.nD Cert.DRowIdeal.τ).loc Cert.DRowIdeal.main_arg0) = m ((c.tc : Thread Cert.DRowIdeal.nD Cert.DRowIdeal.τ).loc Cert.DRowIdeal.main_arg0)
          ∧ r.2.mem ((c.tc : Thread Cert.DRowIdeal.nD Cert.DRowIdeal.τ).loc Cert.DRowIdeal.main_arg1) = m ((c.tc : Thread Cert.DRowIdeal.nD Cert.DRowIdeal.τ).loc Cert.DRowIdeal.main_arg1))
      ∧ θ_run (Cert.RefDRowIdeal.defs (F := Ideal)) (onTc (τ := Cert.RefDRowIdeal.τ) (Cert.RefDRowIdeal.main (F := Ideal))) ⟨m', fun _ => 0, g'⟩ (fun r => ∀ c : Dev Cert.RefDRowIdeal.nD,
          r.2.mem ((c.tc : Thread Cert.RefDRowIdeal.nD Cert.RefDRowIdeal.τ).loc Cert.RefDRowIdeal.main_v4) = v0 c
          ∧ r.2.mem ((c.tc : Thread Cert.RefDRowIdeal.nD Cert.RefDRowIdeal.τ).loc Cert.RefDRowIdeal.main_arg0) = m' ((c.tc : Thread Cert.RefDRowIdeal.nD Cert.RefDRowIdeal.τ).loc Cert.RefDRowIdeal.main_arg0)
          ∧ r.2.mem ((c.tc : Thread Cert.RefDRowIdeal.nD Cert.RefDRowIdeal.τ).loc Cert.RefDRowIdeal.main_arg1) = m' ((c.tc : Thread Cert.RefDRowIdeal.nD Cert.RefDRowIdeal.τ).loc Cert.RefDRowIdeal.main_arg1))

def preserves_DRow0_DRow0Ideal : Prop :=
  True

def algebraic_DRow0Ideal_RefDRow0Ideal [hDRow0Ideal : Cert.DRow0Ideal.Facts] [hRefDRow0Ideal : Cert.RefDRow0Ideal.Facts] : Prop :=
  ∀ (m : (ℓ : Loc Cert.DRow0Ideal.nD Cert.DRow0Ideal.τ Cert.DRow0Ideal.sig) → Buf (Elt Ideal) ℓ) (g : Dev Cert.DRow0Ideal.nD → PrngReg)
    (m' : (ℓ : Loc Cert.RefDRow0Ideal.nD Cert.RefDRow0Ideal.τ Cert.RefDRow0Ideal.sig) → Buf (Elt Ideal) ℓ) (g' : Dev Cert.RefDRow0Ideal.nD → PrngReg), Pre_DRow0Ideal m →
    (∀ c : Dev Cert.DRow0Ideal.nD,
      m' ((c.tc : Thread Cert.RefDRow0Ideal.nD Cert.RefDRow0Ideal.τ).loc Cert.RefDRow0Ideal.main_arg0) = m ((c.tc : Thread Cert.DRow0Ideal.nD Cert.DRow0Ideal.τ).loc Cert.DRow0Ideal.main_arg0)
      ∧ m' ((c.tc : Thread Cert.RefDRow0Ideal.nD Cert.RefDRow0Ideal.τ).loc Cert.RefDRow0Ideal.main_arg1) = m ((c.tc : Thread Cert.DRow0Ideal.nD Cert.DRow0Ideal.τ).loc Cert.DRow0Ideal.main_arg1)) →
    ∃ (v0 : (c : Dev Cert.DRow0Ideal.nD) → Buf (Elt Ideal) ((c.tc : Thread Cert.DRow0Ideal.nD Cert.DRow0Ideal.τ).loc Cert.DRow0Ideal.main_v4)),
      θ_run (Cert.DRow0Ideal.defs (F := Ideal)) (onTc (τ := Cert.DRow0Ideal.τ) (Cert.DRow0Ideal.main (F := Ideal))) ⟨m, fun _ => 0, g⟩ (fun r => ∀ c : Dev Cert.DRow0Ideal.nD,
          r.2.mem ((c.tc : Thread Cert.DRow0Ideal.nD Cert.DRow0Ideal.τ).loc Cert.DRow0Ideal.main_v4) = v0 c
          ∧ r.2.mem ((c.tc : Thread Cert.DRow0Ideal.nD Cert.DRow0Ideal.τ).loc Cert.DRow0Ideal.main_arg0) = m ((c.tc : Thread Cert.DRow0Ideal.nD Cert.DRow0Ideal.τ).loc Cert.DRow0Ideal.main_arg0)
          ∧ r.2.mem ((c.tc : Thread Cert.DRow0Ideal.nD Cert.DRow0Ideal.τ).loc Cert.DRow0Ideal.main_arg1) = m ((c.tc : Thread Cert.DRow0Ideal.nD Cert.DRow0Ideal.τ).loc Cert.DRow0Ideal.main_arg1))
      ∧ θ_run (Cert.RefDRow0Ideal.defs (F := Ideal)) (onTc (τ := Cert.RefDRow0Ideal.τ) (Cert.RefDRow0Ideal.main (F := Ideal))) ⟨m', fun _ => 0, g'⟩ (fun r => ∀ c : Dev Cert.RefDRow0Ideal.nD,
          r.2.mem ((c.tc : Thread Cert.RefDRow0Ideal.nD Cert.RefDRow0Ideal.τ).loc Cert.RefDRow0Ideal.main_v4) = v0 c
          ∧ r.2.mem ((c.tc : Thread Cert.RefDRow0Ideal.nD Cert.RefDRow0Ideal.τ).loc Cert.RefDRow0Ideal.main_arg0) = m' ((c.tc : Thread Cert.RefDRow0Ideal.nD Cert.RefDRow0Ideal.τ).loc Cert.RefDRow0Ideal.main_arg0)
          ∧ r.2.mem ((c.tc : Thread Cert.RefDRow0Ideal.nD Cert.RefDRow0Ideal.τ).loc Cert.RefDRow0Ideal.main_arg1) = m' ((c.tc : Thread Cert.RefDRow0Ideal.nD Cert.RefDRow0Ideal.τ).loc Cert.RefDRow0Ideal.main_arg1))

def preserves_DCol_DColIdeal : Prop :=
  True

def algebraic_DColIdeal_RefDColIdeal [hDColIdeal : Cert.DColIdeal.Facts] [hRefDColIdeal : Cert.RefDColIdeal.Facts] : Prop :=
  ∀ (m : (ℓ : Loc Cert.DColIdeal.nD Cert.DColIdeal.τ Cert.DColIdeal.sig) → Buf (Elt Ideal) ℓ) (g : Dev Cert.DColIdeal.nD → PrngReg)
    (m' : (ℓ : Loc Cert.RefDColIdeal.nD Cert.RefDColIdeal.τ Cert.RefDColIdeal.sig) → Buf (Elt Ideal) ℓ) (g' : Dev Cert.RefDColIdeal.nD → PrngReg), Pre_DColIdeal m →
    (∀ c : Dev Cert.DColIdeal.nD,
      m' ((c.tc : Thread Cert.RefDColIdeal.nD Cert.RefDColIdeal.τ).loc Cert.RefDColIdeal.main_arg0) = m ((c.tc : Thread Cert.DColIdeal.nD Cert.DColIdeal.τ).loc Cert.DColIdeal.main_arg0)
      ∧ m' ((c.tc : Thread Cert.RefDColIdeal.nD Cert.RefDColIdeal.τ).loc Cert.RefDColIdeal.main_arg1) = m ((c.tc : Thread Cert.DColIdeal.nD Cert.DColIdeal.τ).loc Cert.DColIdeal.main_arg1)) →
    ∃ (v0 : (c : Dev Cert.DColIdeal.nD) → Buf (Elt Ideal) ((c.tc : Thread Cert.DColIdeal.nD Cert.DColIdeal.τ).loc Cert.DColIdeal.main_v4)),
      θ_run (Cert.DColIdeal.defs (F := Ideal)) (onTc (τ := Cert.DColIdeal.τ) (Cert.DColIdeal.main (F := Ideal))) ⟨m, fun _ => 0, g⟩ (fun r => ∀ c : Dev Cert.DColIdeal.nD,
          r.2.mem ((c.tc : Thread Cert.DColIdeal.nD Cert.DColIdeal.τ).loc Cert.DColIdeal.main_v4) = v0 c
          ∧ r.2.mem ((c.tc : Thread Cert.DColIdeal.nD Cert.DColIdeal.τ).loc Cert.DColIdeal.main_arg0) = m ((c.tc : Thread Cert.DColIdeal.nD Cert.DColIdeal.τ).loc Cert.DColIdeal.main_arg0)
          ∧ r.2.mem ((c.tc : Thread Cert.DColIdeal.nD Cert.DColIdeal.τ).loc Cert.DColIdeal.main_arg1) = m ((c.tc : Thread Cert.DColIdeal.nD Cert.DColIdeal.τ).loc Cert.DColIdeal.main_arg1))
      ∧ θ_run (Cert.RefDColIdeal.defs (F := Ideal)) (onTc (τ := Cert.RefDColIdeal.τ) (Cert.RefDColIdeal.main (F := Ideal))) ⟨m', fun _ => 0, g'⟩ (fun r => ∀ c : Dev Cert.RefDColIdeal.nD,
          r.2.mem ((c.tc : Thread Cert.RefDColIdeal.nD Cert.RefDColIdeal.τ).loc Cert.RefDColIdeal.main_v4) = v0 c
          ∧ r.2.mem ((c.tc : Thread Cert.RefDColIdeal.nD Cert.RefDColIdeal.τ).loc Cert.RefDColIdeal.main_arg0) = m' ((c.tc : Thread Cert.RefDColIdeal.nD Cert.RefDColIdeal.τ).loc Cert.RefDColIdeal.main_arg0)
          ∧ r.2.mem ((c.tc : Thread Cert.RefDColIdeal.nD Cert.RefDColIdeal.τ).loc Cert.RefDColIdeal.main_arg1) = m' ((c.tc : Thread Cert.RefDColIdeal.nD Cert.RefDColIdeal.τ).loc Cert.RefDColIdeal.main_arg1))

def preserves_DCol0_DCol0Ideal : Prop :=
  True

def algebraic_DCol0Ideal_RefDCol0Ideal [hDCol0Ideal : Cert.DCol0Ideal.Facts] [hRefDCol0Ideal : Cert.RefDCol0Ideal.Facts] : Prop :=
  ∀ (m : (ℓ : Loc Cert.DCol0Ideal.nD Cert.DCol0Ideal.τ Cert.DCol0Ideal.sig) → Buf (Elt Ideal) ℓ) (g : Dev Cert.DCol0Ideal.nD → PrngReg)
    (m' : (ℓ : Loc Cert.RefDCol0Ideal.nD Cert.RefDCol0Ideal.τ Cert.RefDCol0Ideal.sig) → Buf (Elt Ideal) ℓ) (g' : Dev Cert.RefDCol0Ideal.nD → PrngReg), Pre_DCol0Ideal m →
    (∀ c : Dev Cert.DCol0Ideal.nD,
      m' ((c.tc : Thread Cert.RefDCol0Ideal.nD Cert.RefDCol0Ideal.τ).loc Cert.RefDCol0Ideal.main_arg0) = m ((c.tc : Thread Cert.DCol0Ideal.nD Cert.DCol0Ideal.τ).loc Cert.DCol0Ideal.main_arg0)
      ∧ m' ((c.tc : Thread Cert.RefDCol0Ideal.nD Cert.RefDCol0Ideal.τ).loc Cert.RefDCol0Ideal.main_arg1) = m ((c.tc : Thread Cert.DCol0Ideal.nD Cert.DCol0Ideal.τ).loc Cert.DCol0Ideal.main_arg1)) →
    ∃ (v0 : (c : Dev Cert.DCol0Ideal.nD) → Buf (Elt Ideal) ((c.tc : Thread Cert.DCol0Ideal.nD Cert.DCol0Ideal.τ).loc Cert.DCol0Ideal.main_v4)),
      θ_run (Cert.DCol0Ideal.defs (F := Ideal)) (onTc (τ := Cert.DCol0Ideal.τ) (Cert.DCol0Ideal.main (F := Ideal))) ⟨m, fun _ => 0, g⟩ (fun r => ∀ c : Dev Cert.DCol0Ideal.nD,
          r.2.mem ((c.tc : Thread Cert.DCol0Ideal.nD Cert.DCol0Ideal.τ).loc Cert.DCol0Ideal.main_v4) = v0 c
          ∧ r.2.mem ((c.tc : Thread Cert.DCol0Ideal.nD Cert.DCol0Ideal.τ).loc Cert.DCol0Ideal.main_arg0) = m ((c.tc : Thread Cert.DCol0Ideal.nD Cert.DCol0Ideal.τ).loc Cert.DCol0Ideal.main_arg0)
          ∧ r.2.mem ((c.tc : Thread Cert.DCol0Ideal.nD Cert.DCol0Ideal.τ).loc Cert.DCol0Ideal.main_arg1) = m ((c.tc : Thread Cert.DCol0Ideal.nD Cert.DCol0Ideal.τ).loc Cert.DCol0Ideal.main_arg1))
      ∧ θ_run (Cert.RefDCol0Ideal.defs (F := Ideal)) (onTc (τ := Cert.RefDCol0Ideal.τ) (Cert.RefDCol0Ideal.main (F := Ideal))) ⟨m', fun _ => 0, g'⟩ (fun r => ∀ c : Dev Cert.RefDCol0Ideal.nD,
          r.2.mem ((c.tc : Thread Cert.RefDCol0Ideal.nD Cert.RefDCol0Ideal.τ).loc Cert.RefDCol0Ideal.main_v4) = v0 c
          ∧ r.2.mem ((c.tc : Thread Cert.RefDCol0Ideal.nD Cert.RefDCol0Ideal.τ).loc Cert.RefDCol0Ideal.main_arg0) = m' ((c.tc : Thread Cert.RefDCol0Ideal.nD Cert.RefDCol0Ideal.τ).loc Cert.RefDCol0Ideal.main_arg0)
          ∧ r.2.mem ((c.tc : Thread Cert.RefDCol0Ideal.nD Cert.RefDCol0Ideal.τ).loc Cert.RefDCol0Ideal.main_arg1) = m' ((c.tc : Thread Cert.RefDCol0Ideal.nD Cert.RefDCol0Ideal.τ).loc Cert.RefDCol0Ideal.main_arg1))

def preserves_BranchA_BranchAIdeal : Prop :=
  True

def algebraic_BranchAIdeal_RefBranchAIdeal [hBranchAIdeal : Cert.BranchAIdeal.Facts] [hRefBranchAIdeal : Cert.RefBranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.RefBranchAIdeal.nD Cert.RefBranchAIdeal.τ Cert.RefBranchAIdeal.sig) → Buf (Elt Ideal) ℓ) (g' : Dev Cert.RefBranchAIdeal.nD → PrngReg), Pre_BranchAIdeal m →
    (∀ c : Dev Cert.BranchAIdeal.nD,
      m' ((c.tc : Thread Cert.RefBranchAIdeal.nD Cert.RefBranchAIdeal.τ).loc Cert.RefBranchAIdeal.main_arg0) = m ((c.tc : Thread Cert.BranchAIdeal.nD Cert.BranchAIdeal.τ).loc Cert.BranchAIdeal.main_arg0)
      ∧ m' ((c.tc : Thread Cert.RefBranchAIdeal.nD Cert.RefBranchAIdeal.τ).loc Cert.RefBranchAIdeal.main_arg1) = m ((c.tc : Thread Cert.BranchAIdeal.nD Cert.BranchAIdeal.τ).loc Cert.BranchAIdeal.main_arg1)) →
    ∃ (v0 : (c : Dev Cert.BranchAIdeal.nD) → Buf (Elt Ideal) ((c.tc : Thread Cert.BranchAIdeal.nD Cert.BranchAIdeal.τ).loc Cert.BranchAIdeal.main_v4)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v4) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ θ_run (Cert.RefBranchAIdeal.defs (F := Ideal)) (onTc (τ := Cert.RefBranchAIdeal.τ) (Cert.RefBranchAIdeal.main (F := Ideal))) ⟨m', fun _ => 0, g'⟩ (fun r => ∀ c : Dev Cert.RefBranchAIdeal.nD,
          r.2.mem ((c.tc : Thread Cert.RefBranchAIdeal.nD Cert.RefBranchAIdeal.τ).loc Cert.RefBranchAIdeal.main_v2) = v0 c
          ∧ r.2.mem ((c.tc : Thread Cert.RefBranchAIdeal.nD Cert.RefBranchAIdeal.τ).loc Cert.RefBranchAIdeal.main_arg0) = m' ((c.tc : Thread Cert.RefBranchAIdeal.nD Cert.RefBranchAIdeal.τ).loc Cert.RefBranchAIdeal.main_arg0)
          ∧ r.2.mem ((c.tc : Thread Cert.RefBranchAIdeal.nD Cert.RefBranchAIdeal.τ).loc Cert.RefBranchAIdeal.main_arg1) = m' ((c.tc : Thread Cert.RefBranchAIdeal.nD Cert.RefBranchAIdeal.τ).loc Cert.RefBranchAIdeal.main_arg1))

def preserves_BranchA0_BranchA0Ideal : Prop :=
  True

def algebraic_BranchA0Ideal_RefBranchA0Ideal [hBranchA0Ideal : Cert.BranchA0Ideal.Facts] [hRefBranchA0Ideal : Cert.RefBranchA0Ideal.Facts] : Prop :=
  ∀ (m : (ℓ : Loc Cert.BranchA0Ideal.nD Cert.BranchA0Ideal.τ Cert.BranchA0Ideal.sig) → Buf (Elt Ideal) ℓ) (g : Dev Cert.BranchA0Ideal.nD → PrngReg)
    (m' : (ℓ : Loc Cert.RefBranchA0Ideal.nD Cert.RefBranchA0Ideal.τ Cert.RefBranchA0Ideal.sig) → Buf (Elt Ideal) ℓ) (g' : Dev Cert.RefBranchA0Ideal.nD → PrngReg), Pre_BranchA0Ideal m →
    (∀ c : Dev Cert.BranchA0Ideal.nD,
      m' ((c.tc : Thread Cert.RefBranchA0Ideal.nD Cert.RefBranchA0Ideal.τ).loc Cert.RefBranchA0Ideal.main_arg0) = m ((c.tc : Thread Cert.BranchA0Ideal.nD Cert.BranchA0Ideal.τ).loc Cert.BranchA0Ideal.main_arg0)
      ∧ m' ((c.tc : Thread Cert.RefBranchA0Ideal.nD Cert.RefBranchA0Ideal.τ).loc Cert.RefBranchA0Ideal.main_arg1) = m ((c.tc : Thread Cert.BranchA0Ideal.nD Cert.BranchA0Ideal.τ).loc Cert.BranchA0Ideal.main_arg1)) →
    ∃ (v0 : (c : Dev Cert.BranchA0Ideal.nD) → Buf (Elt Ideal) ((c.tc : Thread Cert.BranchA0Ideal.nD Cert.BranchA0Ideal.τ).loc Cert.BranchA0Ideal.main_v4)),
      θ_run (Cert.BranchA0Ideal.defs (F := Ideal)) (onTc (τ := Cert.BranchA0Ideal.τ) (Cert.BranchA0Ideal.main (F := Ideal))) ⟨m, fun _ => 0, g⟩ (fun r => ∀ c : Dev Cert.BranchA0Ideal.nD,
          r.2.mem ((c.tc : Thread Cert.BranchA0Ideal.nD Cert.BranchA0Ideal.τ).loc Cert.BranchA0Ideal.main_v4) = v0 c
          ∧ r.2.mem ((c.tc : Thread Cert.BranchA0Ideal.nD Cert.BranchA0Ideal.τ).loc Cert.BranchA0Ideal.main_arg0) = m ((c.tc : Thread Cert.BranchA0Ideal.nD Cert.BranchA0Ideal.τ).loc Cert.BranchA0Ideal.main_arg0)
          ∧ r.2.mem ((c.tc : Thread Cert.BranchA0Ideal.nD Cert.BranchA0Ideal.τ).loc Cert.BranchA0Ideal.main_arg1) = m ((c.tc : Thread Cert.BranchA0Ideal.nD Cert.BranchA0Ideal.τ).loc Cert.BranchA0Ideal.main_arg1))
      ∧ θ_run (Cert.RefBranchA0Ideal.defs (F := Ideal)) (onTc (τ := Cert.RefBranchA0Ideal.τ) (Cert.RefBranchA0Ideal.main (F := Ideal))) ⟨m', fun _ => 0, g'⟩ (fun r => ∀ c : Dev Cert.RefBranchA0Ideal.nD,
          r.2.mem ((c.tc : Thread Cert.RefBranchA0Ideal.nD Cert.RefBranchA0Ideal.τ).loc Cert.RefBranchA0Ideal.main_v2) = v0 c
          ∧ r.2.mem ((c.tc : Thread Cert.RefBranchA0Ideal.nD Cert.RefBranchA0Ideal.τ).loc Cert.RefBranchA0Ideal.main_arg0) = m' ((c.tc : Thread Cert.RefBranchA0Ideal.nD Cert.RefBranchA0Ideal.τ).loc Cert.RefBranchA0Ideal.main_arg0)
          ∧ r.2.mem ((c.tc : Thread Cert.RefBranchA0Ideal.nD Cert.RefBranchA0Ideal.τ).loc Cert.RefBranchA0Ideal.main_arg1) = m' ((c.tc : Thread Cert.RefBranchA0Ideal.nD Cert.RefBranchA0Ideal.τ).loc Cert.RefBranchA0Ideal.main_arg1))

def preserves_BranchB_BranchBIdeal : Prop :=
  True

def algebraic_BranchBIdeal_RefBranchBIdeal [hBranchBIdeal : Cert.BranchBIdeal.Facts] [hRefBranchBIdeal : Cert.RefBranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.RefBranchBIdeal.nD Cert.RefBranchBIdeal.τ Cert.RefBranchBIdeal.sig) → Buf (Elt Ideal) ℓ) (g' : Dev Cert.RefBranchBIdeal.nD → PrngReg), Pre_BranchBIdeal m →
    (∀ c : Dev Cert.BranchBIdeal.nD,
      m' ((c.tc : Thread Cert.RefBranchBIdeal.nD Cert.RefBranchBIdeal.τ).loc Cert.RefBranchBIdeal.main_arg0) = m ((c.tc : Thread Cert.BranchBIdeal.nD Cert.BranchBIdeal.τ).loc Cert.BranchBIdeal.main_arg0)
      ∧ m' ((c.tc : Thread Cert.RefBranchBIdeal.nD Cert.RefBranchBIdeal.τ).loc Cert.RefBranchBIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v4)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v4) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.RefBranchBIdeal.defs (F := Ideal)) (onTc (τ := Cert.RefBranchBIdeal.τ) (Cert.RefBranchBIdeal.main (F := Ideal))) ⟨m', fun _ => 0, g'⟩ (fun r => ∀ c : Dev Cert.RefBranchBIdeal.nD,
          r.2.mem ((c.tc : Thread Cert.RefBranchBIdeal.nD Cert.RefBranchBIdeal.τ).loc Cert.RefBranchBIdeal.main_v2) = v0 c
          ∧ r.2.mem ((c.tc : Thread Cert.RefBranchBIdeal.nD Cert.RefBranchBIdeal.τ).loc Cert.RefBranchBIdeal.main_arg0) = m' ((c.tc : Thread Cert.RefBranchBIdeal.nD Cert.RefBranchBIdeal.τ).loc Cert.RefBranchBIdeal.main_arg0)
          ∧ r.2.mem ((c.tc : Thread Cert.RefBranchBIdeal.nD Cert.RefBranchBIdeal.τ).loc Cert.RefBranchBIdeal.main_arg1) = m' ((c.tc : Thread Cert.RefBranchBIdeal.nD Cert.RefBranchBIdeal.τ).loc Cert.RefBranchBIdeal.main_arg1))

def preserves_BranchB0_BranchB0Ideal : Prop :=
  True

def algebraic_BranchB0Ideal_RefBranchB0Ideal [hBranchB0Ideal : Cert.BranchB0Ideal.Facts] [hRefBranchB0Ideal : Cert.RefBranchB0Ideal.Facts] : Prop :=
  ∀ (m : (ℓ : Loc Cert.BranchB0Ideal.nD Cert.BranchB0Ideal.τ Cert.BranchB0Ideal.sig) → Buf (Elt Ideal) ℓ) (g : Dev Cert.BranchB0Ideal.nD → PrngReg)
    (m' : (ℓ : Loc Cert.RefBranchB0Ideal.nD Cert.RefBranchB0Ideal.τ Cert.RefBranchB0Ideal.sig) → Buf (Elt Ideal) ℓ) (g' : Dev Cert.RefBranchB0Ideal.nD → PrngReg), Pre_BranchB0Ideal m →
    (∀ c : Dev Cert.BranchB0Ideal.nD,
      m' ((c.tc : Thread Cert.RefBranchB0Ideal.nD Cert.RefBranchB0Ideal.τ).loc Cert.RefBranchB0Ideal.main_arg0) = m ((c.tc : Thread Cert.BranchB0Ideal.nD Cert.BranchB0Ideal.τ).loc Cert.BranchB0Ideal.main_arg0)
      ∧ m' ((c.tc : Thread Cert.RefBranchB0Ideal.nD Cert.RefBranchB0Ideal.τ).loc Cert.RefBranchB0Ideal.main_arg1) = m ((c.tc : Thread Cert.BranchB0Ideal.nD Cert.BranchB0Ideal.τ).loc Cert.BranchB0Ideal.main_arg1)) →
    ∃ (v0 : (c : Dev Cert.BranchB0Ideal.nD) → Buf (Elt Ideal) ((c.tc : Thread Cert.BranchB0Ideal.nD Cert.BranchB0Ideal.τ).loc Cert.BranchB0Ideal.main_v4)),
      θ_run (Cert.BranchB0Ideal.defs (F := Ideal)) (onTc (τ := Cert.BranchB0Ideal.τ) (Cert.BranchB0Ideal.main (F := Ideal))) ⟨m, fun _ => 0, g⟩ (fun r => ∀ c : Dev Cert.BranchB0Ideal.nD,
          r.2.mem ((c.tc : Thread Cert.BranchB0Ideal.nD Cert.BranchB0Ideal.τ).loc Cert.BranchB0Ideal.main_v4) = v0 c
          ∧ r.2.mem ((c.tc : Thread Cert.BranchB0Ideal.nD Cert.BranchB0Ideal.τ).loc Cert.BranchB0Ideal.main_arg0) = m ((c.tc : Thread Cert.BranchB0Ideal.nD Cert.BranchB0Ideal.τ).loc Cert.BranchB0Ideal.main_arg0)
          ∧ r.2.mem ((c.tc : Thread Cert.BranchB0Ideal.nD Cert.BranchB0Ideal.τ).loc Cert.BranchB0Ideal.main_arg1) = m ((c.tc : Thread Cert.BranchB0Ideal.nD Cert.BranchB0Ideal.τ).loc Cert.BranchB0Ideal.main_arg1))
      ∧ θ_run (Cert.RefBranchB0Ideal.defs (F := Ideal)) (onTc (τ := Cert.RefBranchB0Ideal.τ) (Cert.RefBranchB0Ideal.main (F := Ideal))) ⟨m', fun _ => 0, g'⟩ (fun r => ∀ c : Dev Cert.RefBranchB0Ideal.nD,
          r.2.mem ((c.tc : Thread Cert.RefBranchB0Ideal.nD Cert.RefBranchB0Ideal.τ).loc Cert.RefBranchB0Ideal.main_v2) = v0 c
          ∧ r.2.mem ((c.tc : Thread Cert.RefBranchB0Ideal.nD Cert.RefBranchB0Ideal.τ).loc Cert.RefBranchB0Ideal.main_arg0) = m' ((c.tc : Thread Cert.RefBranchB0Ideal.nD Cert.RefBranchB0Ideal.τ).loc Cert.RefBranchB0Ideal.main_arg0)
          ∧ r.2.mem ((c.tc : Thread Cert.RefBranchB0Ideal.nD Cert.RefBranchB0Ideal.τ).loc Cert.RefBranchB0Ideal.main_arg1) = m' ((c.tc : Thread Cert.RefBranchB0Ideal.nD Cert.RefBranchB0Ideal.τ).loc Cert.RefBranchB0Ideal.main_arg1))

def preserves_BranchC_BranchCIdeal : Prop :=
  True

def algebraic_BranchCIdeal_RefBranchCIdeal [hBranchCIdeal : Cert.BranchCIdeal.Facts] [hRefBranchCIdeal : Cert.RefBranchCIdeal.Facts] : Prop :=
  ∀ (m : (ℓ : Loc Cert.BranchCIdeal.nD Cert.BranchCIdeal.τ Cert.BranchCIdeal.sig) → Buf (Elt Ideal) ℓ) (g : Dev Cert.BranchCIdeal.nD → PrngReg)
    (m' : (ℓ : Loc Cert.RefBranchCIdeal.nD Cert.RefBranchCIdeal.τ Cert.RefBranchCIdeal.sig) → Buf (Elt Ideal) ℓ) (g' : Dev Cert.RefBranchCIdeal.nD → PrngReg), Pre_BranchCIdeal m →
    (∀ c : Dev Cert.BranchCIdeal.nD,
      m' ((c.tc : Thread Cert.RefBranchCIdeal.nD Cert.RefBranchCIdeal.τ).loc Cert.RefBranchCIdeal.main_arg0) = m ((c.tc : Thread Cert.BranchCIdeal.nD Cert.BranchCIdeal.τ).loc Cert.BranchCIdeal.main_arg0)
      ∧ m' ((c.tc : Thread Cert.RefBranchCIdeal.nD Cert.RefBranchCIdeal.τ).loc Cert.RefBranchCIdeal.main_arg1) = m ((c.tc : Thread Cert.BranchCIdeal.nD Cert.BranchCIdeal.τ).loc Cert.BranchCIdeal.main_arg1)
      ∧ m' ((c.tc : Thread Cert.RefBranchCIdeal.nD Cert.RefBranchCIdeal.τ).loc Cert.RefBranchCIdeal.main_arg2) = m ((c.tc : Thread Cert.BranchCIdeal.nD Cert.BranchCIdeal.τ).loc Cert.BranchCIdeal.main_arg2)
      ∧ m' ((c.tc : Thread Cert.RefBranchCIdeal.nD Cert.RefBranchCIdeal.τ).loc Cert.RefBranchCIdeal.main_arg3) = m ((c.tc : Thread Cert.BranchCIdeal.nD Cert.BranchCIdeal.τ).loc Cert.BranchCIdeal.main_arg3)
      ∧ m' ((c.tc : Thread Cert.RefBranchCIdeal.nD Cert.RefBranchCIdeal.τ).loc Cert.RefBranchCIdeal.main_arg4) = m ((c.tc : Thread Cert.BranchCIdeal.nD Cert.BranchCIdeal.τ).loc Cert.BranchCIdeal.main_arg4)) →
    ∃ (v0 : (c : Dev Cert.BranchCIdeal.nD) → Buf (Elt Ideal) ((c.tc : Thread Cert.BranchCIdeal.nD Cert.BranchCIdeal.τ).loc Cert.BranchCIdeal.main_v4_0)) (v1 : (c : Dev Cert.BranchCIdeal.nD) → Buf (Elt Ideal) ((c.tc : Thread Cert.BranchCIdeal.nD Cert.BranchCIdeal.τ).loc Cert.BranchCIdeal.main_v4_1)),
      θ_run (Cert.BranchCIdeal.defs (F := Ideal)) (onTc (τ := Cert.BranchCIdeal.τ) (Cert.BranchCIdeal.main (F := Ideal))) ⟨m, fun _ => 0, g⟩ (fun r => ∀ c : Dev Cert.BranchCIdeal.nD,
          r.2.mem ((c.tc : Thread Cert.BranchCIdeal.nD Cert.BranchCIdeal.τ).loc Cert.BranchCIdeal.main_v4_0) = v0 c
          ∧ r.2.mem ((c.tc : Thread Cert.BranchCIdeal.nD Cert.BranchCIdeal.τ).loc Cert.BranchCIdeal.main_v4_1) = v1 c
          ∧ r.2.mem ((c.tc : Thread Cert.BranchCIdeal.nD Cert.BranchCIdeal.τ).loc Cert.BranchCIdeal.main_arg0) = m ((c.tc : Thread Cert.BranchCIdeal.nD Cert.BranchCIdeal.τ).loc Cert.BranchCIdeal.main_arg0)
          ∧ r.2.mem ((c.tc : Thread Cert.BranchCIdeal.nD Cert.BranchCIdeal.τ).loc Cert.BranchCIdeal.main_arg1) = m ((c.tc : Thread Cert.BranchCIdeal.nD Cert.BranchCIdeal.τ).loc Cert.BranchCIdeal.main_arg1)
          ∧ r.2.mem ((c.tc : Thread Cert.BranchCIdeal.nD Cert.BranchCIdeal.τ).loc Cert.BranchCIdeal.main_arg2) = m ((c.tc : Thread Cert.BranchCIdeal.nD Cert.BranchCIdeal.τ).loc Cert.BranchCIdeal.main_arg2)
          ∧ r.2.mem ((c.tc : Thread Cert.BranchCIdeal.nD Cert.BranchCIdeal.τ).loc Cert.BranchCIdeal.main_arg3) = m ((c.tc : Thread Cert.BranchCIdeal.nD Cert.BranchCIdeal.τ).loc Cert.BranchCIdeal.main_arg3)
          ∧ r.2.mem ((c.tc : Thread Cert.BranchCIdeal.nD Cert.BranchCIdeal.τ).loc Cert.BranchCIdeal.main_arg4) = m ((c.tc : Thread Cert.BranchCIdeal.nD Cert.BranchCIdeal.τ).loc Cert.BranchCIdeal.main_arg4))
      ∧ θ_run (Cert.RefBranchCIdeal.defs (F := Ideal)) (onTc (τ := Cert.RefBranchCIdeal.τ) (Cert.RefBranchCIdeal.main (F := Ideal))) ⟨m', fun _ => 0, g'⟩ (fun r => ∀ c : Dev Cert.RefBranchCIdeal.nD,
          r.2.mem ((c.tc : Thread Cert.RefBranchCIdeal.nD Cert.RefBranchCIdeal.τ).loc Cert.RefBranchCIdeal.main_v2) = v0 c
          ∧ r.2.mem ((c.tc : Thread Cert.RefBranchCIdeal.nD Cert.RefBranchCIdeal.τ).loc Cert.RefBranchCIdeal.main_v15) = v1 c
          ∧ r.2.mem ((c.tc : Thread Cert.RefBranchCIdeal.nD Cert.RefBranchCIdeal.τ).loc Cert.RefBranchCIdeal.main_arg0) = m' ((c.tc : Thread Cert.RefBranchCIdeal.nD Cert.RefBranchCIdeal.τ).loc Cert.RefBranchCIdeal.main_arg0)
          ∧ r.2.mem ((c.tc : Thread Cert.RefBranchCIdeal.nD Cert.RefBranchCIdeal.τ).loc Cert.RefBranchCIdeal.main_arg1) = m' ((c.tc : Thread Cert.RefBranchCIdeal.nD Cert.RefBranchCIdeal.τ).loc Cert.RefBranchCIdeal.main_arg1)
          ∧ r.2.mem ((c.tc : Thread Cert.RefBranchCIdeal.nD Cert.RefBranchCIdeal.τ).loc Cert.RefBranchCIdeal.main_arg2) = m' ((c.tc : Thread Cert.RefBranchCIdeal.nD Cert.RefBranchCIdeal.τ).loc Cert.RefBranchCIdeal.main_arg2)
          ∧ r.2.mem ((c.tc : Thread Cert.RefBranchCIdeal.nD Cert.RefBranchCIdeal.τ).loc Cert.RefBranchCIdeal.main_arg3) = m' ((c.tc : Thread Cert.RefBranchCIdeal.nD Cert.RefBranchCIdeal.τ).loc Cert.RefBranchCIdeal.main_arg3)
          ∧ r.2.mem ((c.tc : Thread Cert.RefBranchCIdeal.nD Cert.RefBranchCIdeal.τ).loc Cert.RefBranchCIdeal.main_arg4) = m' ((c.tc : Thread Cert.RefBranchCIdeal.nD Cert.RefBranchCIdeal.τ).loc Cert.RefBranchCIdeal.main_arg4))

def preserves_BranchC0_BranchC0Ideal : Prop :=
  True

def algebraic_BranchC0Ideal_RefBranchC0Ideal [hBranchC0Ideal : Cert.BranchC0Ideal.Facts] [hRefBranchC0Ideal : Cert.RefBranchC0Ideal.Facts] : Prop :=
  ∀ (m : (ℓ : Loc Cert.BranchC0Ideal.nD Cert.BranchC0Ideal.τ Cert.BranchC0Ideal.sig) → Buf (Elt Ideal) ℓ) (g : Dev Cert.BranchC0Ideal.nD → PrngReg)
    (m' : (ℓ : Loc Cert.RefBranchC0Ideal.nD Cert.RefBranchC0Ideal.τ Cert.RefBranchC0Ideal.sig) → Buf (Elt Ideal) ℓ) (g' : Dev Cert.RefBranchC0Ideal.nD → PrngReg), Pre_BranchC0Ideal m →
    (∀ c : Dev Cert.BranchC0Ideal.nD,
      m' ((c.tc : Thread Cert.RefBranchC0Ideal.nD Cert.RefBranchC0Ideal.τ).loc Cert.RefBranchC0Ideal.main_arg0) = m ((c.tc : Thread Cert.BranchC0Ideal.nD Cert.BranchC0Ideal.τ).loc Cert.BranchC0Ideal.main_arg0)
      ∧ m' ((c.tc : Thread Cert.RefBranchC0Ideal.nD Cert.RefBranchC0Ideal.τ).loc Cert.RefBranchC0Ideal.main_arg1) = m ((c.tc : Thread Cert.BranchC0Ideal.nD Cert.BranchC0Ideal.τ).loc Cert.BranchC0Ideal.main_arg1)
      ∧ m' ((c.tc : Thread Cert.RefBranchC0Ideal.nD Cert.RefBranchC0Ideal.τ).loc Cert.RefBranchC0Ideal.main_arg2) = m ((c.tc : Thread Cert.BranchC0Ideal.nD Cert.BranchC0Ideal.τ).loc Cert.BranchC0Ideal.main_arg2)
      ∧ m' ((c.tc : Thread Cert.RefBranchC0Ideal.nD Cert.RefBranchC0Ideal.τ).loc Cert.RefBranchC0Ideal.main_arg3) = m ((c.tc : Thread Cert.BranchC0Ideal.nD Cert.BranchC0Ideal.τ).loc Cert.BranchC0Ideal.main_arg3)
      ∧ m' ((c.tc : Thread Cert.RefBranchC0Ideal.nD Cert.RefBranchC0Ideal.τ).loc Cert.RefBranchC0Ideal.main_arg4) = m ((c.tc : Thread Cert.BranchC0Ideal.nD Cert.BranchC0Ideal.τ).loc Cert.BranchC0Ideal.main_arg4)) →
    ∃ (v0 : (c : Dev Cert.BranchC0Ideal.nD) → Buf (Elt Ideal) ((c.tc : Thread Cert.BranchC0Ideal.nD Cert.BranchC0Ideal.τ).loc Cert.BranchC0Ideal.main_v4_0)) (v1 : (c : Dev Cert.BranchC0Ideal.nD) → Buf (Elt Ideal) ((c.tc : Thread Cert.BranchC0Ideal.nD Cert.BranchC0Ideal.τ).loc Cert.BranchC0Ideal.main_v4_1)),
      θ_run (Cert.BranchC0Ideal.defs (F := Ideal)) (onTc (τ := Cert.BranchC0Ideal.τ) (Cert.BranchC0Ideal.main (F := Ideal))) ⟨m, fun _ => 0, g⟩ (fun r => ∀ c : Dev Cert.BranchC0Ideal.nD,
          r.2.mem ((c.tc : Thread Cert.BranchC0Ideal.nD Cert.BranchC0Ideal.τ).loc Cert.BranchC0Ideal.main_v4_0) = v0 c
          ∧ r.2.mem ((c.tc : Thread Cert.BranchC0Ideal.nD Cert.BranchC0Ideal.τ).loc Cert.BranchC0Ideal.main_v4_1) = v1 c
          ∧ r.2.mem ((c.tc : Thread Cert.BranchC0Ideal.nD Cert.BranchC0Ideal.τ).loc Cert.BranchC0Ideal.main_arg0) = m ((c.tc : Thread Cert.BranchC0Ideal.nD Cert.BranchC0Ideal.τ).loc Cert.BranchC0Ideal.main_arg0)
          ∧ r.2.mem ((c.tc : Thread Cert.BranchC0Ideal.nD Cert.BranchC0Ideal.τ).loc Cert.BranchC0Ideal.main_arg1) = m ((c.tc : Thread Cert.BranchC0Ideal.nD Cert.BranchC0Ideal.τ).loc Cert.BranchC0Ideal.main_arg1)
          ∧ r.2.mem ((c.tc : Thread Cert.BranchC0Ideal.nD Cert.BranchC0Ideal.τ).loc Cert.BranchC0Ideal.main_arg2) = m ((c.tc : Thread Cert.BranchC0Ideal.nD Cert.BranchC0Ideal.τ).loc Cert.BranchC0Ideal.main_arg2)
          ∧ r.2.mem ((c.tc : Thread Cert.BranchC0Ideal.nD Cert.BranchC0Ideal.τ).loc Cert.BranchC0Ideal.main_arg3) = m ((c.tc : Thread Cert.BranchC0Ideal.nD Cert.BranchC0Ideal.τ).loc Cert.BranchC0Ideal.main_arg3)
          ∧ r.2.mem ((c.tc : Thread Cert.BranchC0Ideal.nD Cert.BranchC0Ideal.τ).loc Cert.BranchC0Ideal.main_arg4) = m ((c.tc : Thread Cert.BranchC0Ideal.nD Cert.BranchC0Ideal.τ).loc Cert.BranchC0Ideal.main_arg4))
      ∧ θ_run (Cert.RefBranchC0Ideal.defs (F := Ideal)) (onTc (τ := Cert.RefBranchC0Ideal.τ) (Cert.RefBranchC0Ideal.main (F := Ideal))) ⟨m', fun _ => 0, g'⟩ (fun r => ∀ c : Dev Cert.RefBranchC0Ideal.nD,
          r.2.mem ((c.tc : Thread Cert.RefBranchC0Ideal.nD Cert.RefBranchC0Ideal.τ).loc Cert.RefBranchC0Ideal.main_v2) = v0 c
          ∧ r.2.mem ((c.tc : Thread Cert.RefBranchC0Ideal.nD Cert.RefBranchC0Ideal.τ).loc Cert.RefBranchC0Ideal.main_v15) = v1 c
          ∧ r.2.mem ((c.tc : Thread Cert.RefBranchC0Ideal.nD Cert.RefBranchC0Ideal.τ).loc Cert.RefBranchC0Ideal.main_arg0) = m' ((c.tc : Thread Cert.RefBranchC0Ideal.nD Cert.RefBranchC0Ideal.τ).loc Cert.RefBranchC0Ideal.main_arg0)
          ∧ r.2.mem ((c.tc : Thread Cert.RefBranchC0Ideal.nD Cert.RefBranchC0Ideal.τ).loc Cert.RefBranchC0Ideal.main_arg1) = m' ((c.tc : Thread Cert.RefBranchC0Ideal.nD Cert.RefBranchC0Ideal.τ).loc Cert.RefBranchC0Ideal.main_arg1)
          ∧ r.2.mem ((c.tc : Thread Cert.RefBranchC0Ideal.nD Cert.RefBranchC0Ideal.τ).loc Cert.RefBranchC0Ideal.main_arg2) = m' ((c.tc : Thread Cert.RefBranchC0Ideal.nD Cert.RefBranchC0Ideal.τ).loc Cert.RefBranchC0Ideal.main_arg2)
          ∧ r.2.mem ((c.tc : Thread Cert.RefBranchC0Ideal.nD Cert.RefBranchC0Ideal.τ).loc Cert.RefBranchC0Ideal.main_arg3) = m' ((c.tc : Thread Cert.RefBranchC0Ideal.nD Cert.RefBranchC0Ideal.τ).loc Cert.RefBranchC0Ideal.main_arg3)
          ∧ r.2.mem ((c.tc : Thread Cert.RefBranchC0Ideal.nD Cert.RefBranchC0Ideal.τ).loc Cert.RefBranchC0Ideal.main_arg4) = m' ((c.tc : Thread Cert.RefBranchC0Ideal.nD Cert.RefBranchC0Ideal.τ).loc Cert.RefBranchC0Ideal.main_arg4))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v2) = v0 c
          ∧ r.2.mem ((c.tc : Thread Cert.RefOutProjIdeal.nD Cert.RefOutProjIdeal.τ).loc Cert.RefOutProjIdeal.main_v5) = v1 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3))

def preserves_OutProj0_OutProj0Ideal : Prop :=
  True

def algebraic_OutProj0Ideal_RefOutProj0Ideal [hOutProj0Ideal : Cert.OutProj0Ideal.Facts] [hRefOutProj0Ideal : Cert.RefOutProj0Ideal.Facts] : Prop :=
  ∀ (m : (ℓ : Loc Cert.OutProj0Ideal.nD Cert.OutProj0Ideal.τ Cert.OutProj0Ideal.sig) → Buf (Elt Ideal) ℓ) (g : Dev Cert.OutProj0Ideal.nD → PrngReg)
    (m' : (ℓ : Loc Cert.RefOutProj0Ideal.nD Cert.RefOutProj0Ideal.τ Cert.RefOutProj0Ideal.sig) → Buf (Elt Ideal) ℓ) (g' : Dev Cert.RefOutProj0Ideal.nD → PrngReg), Pre_OutProj0Ideal m →
    (∀ c : Dev Cert.OutProj0Ideal.nD,
      m' ((c.tc : Thread Cert.RefOutProj0Ideal.nD Cert.RefOutProj0Ideal.τ).loc Cert.RefOutProj0Ideal.main_arg0) = m ((c.tc : Thread Cert.OutProj0Ideal.nD Cert.OutProj0Ideal.τ).loc Cert.OutProj0Ideal.main_arg0)
      ∧ m' ((c.tc : Thread Cert.RefOutProj0Ideal.nD Cert.RefOutProj0Ideal.τ).loc Cert.RefOutProj0Ideal.main_arg1) = m ((c.tc : Thread Cert.OutProj0Ideal.nD Cert.OutProj0Ideal.τ).loc Cert.OutProj0Ideal.main_arg1)
      ∧ m' ((c.tc : Thread Cert.RefOutProj0Ideal.nD Cert.RefOutProj0Ideal.τ).loc Cert.RefOutProj0Ideal.main_arg2) = m ((c.tc : Thread Cert.OutProj0Ideal.nD Cert.OutProj0Ideal.τ).loc Cert.OutProj0Ideal.main_arg2)
      ∧ m' ((c.tc : Thread Cert.RefOutProj0Ideal.nD Cert.RefOutProj0Ideal.τ).loc Cert.RefOutProj0Ideal.main_arg3) = m ((c.tc : Thread Cert.OutProj0Ideal.nD Cert.OutProj0Ideal.τ).loc Cert.OutProj0Ideal.main_arg3)) →
    ∃ (v0 : (c : Dev Cert.OutProj0Ideal.nD) → Buf (Elt Ideal) ((c.tc : Thread Cert.OutProj0Ideal.nD Cert.OutProj0Ideal.τ).loc Cert.OutProj0Ideal.main_v4_0)) (v1 : (c : Dev Cert.OutProj0Ideal.nD) → Buf (Elt Ideal) ((c.tc : Thread Cert.OutProj0Ideal.nD Cert.OutProj0Ideal.τ).loc Cert.OutProj0Ideal.main_v4_1)),
      θ_run (Cert.OutProj0Ideal.defs (F := Ideal)) (onTc (τ := Cert.OutProj0Ideal.τ) (Cert.OutProj0Ideal.main (F := Ideal))) ⟨m, fun _ => 0, g⟩ (fun r => ∀ c : Dev Cert.OutProj0Ideal.nD,
          r.2.mem ((c.tc : Thread Cert.OutProj0Ideal.nD Cert.OutProj0Ideal.τ).loc Cert.OutProj0Ideal.main_v4_0) = v0 c
          ∧ r.2.mem ((c.tc : Thread Cert.OutProj0Ideal.nD Cert.OutProj0Ideal.τ).loc Cert.OutProj0Ideal.main_v4_1) = v1 c
          ∧ r.2.mem ((c.tc : Thread Cert.OutProj0Ideal.nD Cert.OutProj0Ideal.τ).loc Cert.OutProj0Ideal.main_arg0) = m ((c.tc : Thread Cert.OutProj0Ideal.nD Cert.OutProj0Ideal.τ).loc Cert.OutProj0Ideal.main_arg0)
          ∧ r.2.mem ((c.tc : Thread Cert.OutProj0Ideal.nD Cert.OutProj0Ideal.τ).loc Cert.OutProj0Ideal.main_arg1) = m ((c.tc : Thread Cert.OutProj0Ideal.nD Cert.OutProj0Ideal.τ).loc Cert.OutProj0Ideal.main_arg1)
          ∧ r.2.mem ((c.tc : Thread Cert.OutProj0Ideal.nD Cert.OutProj0Ideal.τ).loc Cert.OutProj0Ideal.main_arg2) = m ((c.tc : Thread Cert.OutProj0Ideal.nD Cert.OutProj0Ideal.τ).loc Cert.OutProj0Ideal.main_arg2)
          ∧ r.2.mem ((c.tc : Thread Cert.OutProj0Ideal.nD Cert.OutProj0Ideal.τ).loc Cert.OutProj0Ideal.main_arg3) = m ((c.tc : Thread Cert.OutProj0Ideal.nD Cert.OutProj0Ideal.τ).loc Cert.OutProj0Ideal.main_arg3))
      ∧ θ_run (Cert.RefOutProj0Ideal.defs (F := Ideal)) (onTc (τ := Cert.RefOutProj0Ideal.τ) (Cert.RefOutProj0Ideal.main (F := Ideal))) ⟨m', fun _ => 0, g'⟩ (fun r => ∀ c : Dev Cert.RefOutProj0Ideal.nD,
          r.2.mem ((c.tc : Thread Cert.RefOutProj0Ideal.nD Cert.RefOutProj0Ideal.τ).loc Cert.RefOutProj0Ideal.main_v2) = v0 c
          ∧ r.2.mem ((c.tc : Thread Cert.RefOutProj0Ideal.nD Cert.RefOutProj0Ideal.τ).loc Cert.RefOutProj0Ideal.main_v5) = v1 c
          ∧ r.2.mem ((c.tc : Thread Cert.RefOutProj0Ideal.nD Cert.RefOutProj0Ideal.τ).loc Cert.RefOutProj0Ideal.main_arg0) = m' ((c.tc : Thread Cert.RefOutProj0Ideal.nD Cert.RefOutProj0Ideal.τ).loc Cert.RefOutProj0Ideal.main_arg0)
          ∧ r.2.mem ((c.tc : Thread Cert.RefOutProj0Ideal.nD Cert.RefOutProj0Ideal.τ).loc Cert.RefOutProj0Ideal.main_arg1) = m' ((c.tc : Thread Cert.RefOutProj0Ideal.nD Cert.RefOutProj0Ideal.τ).loc Cert.RefOutProj0Ideal.main_arg1)
          ∧ r.2.mem ((c.tc : Thread Cert.RefOutProj0Ideal.nD Cert.RefOutProj0Ideal.τ).loc Cert.RefOutProj0Ideal.main_arg2) = m' ((c.tc : Thread Cert.RefOutProj0Ideal.nD Cert.RefOutProj0Ideal.τ).loc Cert.RefOutProj0Ideal.main_arg2)
          ∧ r.2.mem ((c.tc : Thread Cert.RefOutProj0Ideal.nD Cert.RefOutProj0Ideal.τ).loc Cert.RefOutProj0Ideal.main_arg3) = m' ((c.tc : Thread Cert.RefOutProj0Ideal.nD Cert.RefOutProj0Ideal.τ).loc Cert.RefOutProj0Ideal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hRefProjIdeal : Cert.RefProjIdeal.Facts) (hGates : Cert.Gates.Facts) (hGatesIdeal : Cert.GatesIdeal.Facts) (hRefGatesIdeal : Cert.RefGatesIdeal.Facts) (hGradIn : Cert.GradIn.Facts) (hGradInIdeal : Cert.GradInIdeal.Facts) (hRefGradInIdeal : Cert.RefGradInIdeal.Facts) (hGradGate : Cert.GradGate.Facts) (hGradGateIdeal : Cert.GradGateIdeal.Facts) (hRefGradGateIdeal : Cert.RefGradGateIdeal.Facts) (hDhIn : Cert.DhIn.Facts) (hDhInIdeal : Cert.DhInIdeal.Facts) (hRefDhInIdeal : Cert.RefDhInIdeal.Facts) (hDhGate : Cert.DhGate.Facts) (hDhGateIdeal : Cert.DhGateIdeal.Facts) (hRefDhGateIdeal : Cert.RefDhGateIdeal.Facts) (hGates0 : Cert.Gates0.Facts) (hGates0Ideal : Cert.Gates0Ideal.Facts) (hRefGates0Ideal : Cert.RefGates0Ideal.Facts) (hDhIn0 : Cert.DhIn0.Facts) (hDhIn0Ideal : Cert.DhIn0Ideal.Facts) (hRefDhIn0Ideal : Cert.RefDhIn0Ideal.Facts) (hDhGate0 : Cert.DhGate0.Facts) (hDhGate0Ideal : Cert.DhGate0Ideal.Facts) (hRefDhGate0Ideal : Cert.RefDhGate0Ideal.Facts) (hGradRow : Cert.GradRow.Facts) (hGradRowIdeal : Cert.GradRowIdeal.Facts) (hRefGradRowIdeal : Cert.RefGradRowIdeal.Facts) (hAdamIn : Cert.AdamIn.Facts) (hAdamInIdeal : Cert.AdamInIdeal.Facts) (hRefAdamInIdeal : Cert.RefAdamInIdeal.Facts) (hAdamGate : Cert.AdamGate.Facts) (hAdamGateIdeal : Cert.AdamGateIdeal.Facts) (hRefAdamGateIdeal : Cert.RefAdamGateIdeal.Facts) (hAdamBranch : Cert.AdamBranch.Facts) (hAdamBranchIdeal : Cert.AdamBranchIdeal.Facts) (hRefAdamBranchIdeal : Cert.RefAdamBranchIdeal.Facts) (hAdamOut : Cert.AdamOut.Facts) (hAdamOutIdeal : Cert.AdamOutIdeal.Facts) (hRefAdamOutIdeal : Cert.RefAdamOutIdeal.Facts) (hAdamBias : Cert.AdamBias.Facts) (hAdamBiasIdeal : Cert.AdamBiasIdeal.Facts) (hRefAdamBiasIdeal : Cert.RefAdamBiasIdeal.Facts) (hAdamNorm : Cert.AdamNorm.Facts) (hAdamNormIdeal : Cert.AdamNormIdeal.Facts) (hRefAdamNormIdeal : Cert.RefAdamNormIdeal.Facts) (hAdamScale : Cert.AdamScale.Facts) (hAdamScaleIdeal : Cert.AdamScaleIdeal.Facts) (hRefAdamScaleIdeal : Cert.RefAdamScaleIdeal.Facts) (hAdamFinal : Cert.AdamFinal.Facts) (hAdamFinalIdeal : Cert.AdamFinalIdeal.Facts) (hRefAdamFinalIdeal : Cert.RefAdamFinalIdeal.Facts) (hAdamConv : Cert.AdamConv.Facts) (hAdamConvIdeal : Cert.AdamConvIdeal.Facts) (hRefAdamConvIdeal : Cert.RefAdamConvIdeal.Facts) (hAdamPool : Cert.AdamPool.Facts) (hAdamPoolIdeal : Cert.AdamPoolIdeal.Facts) (hRefAdamPoolIdeal : Cert.RefAdamPoolIdeal.Facts) (hGradCol : Cert.GradCol.Facts) (hGradColIdeal : Cert.GradColIdeal.Facts) (hRefGradColIdeal : Cert.RefGradColIdeal.Facts) (hDRow : Cert.DRow.Facts) (hDRowIdeal : Cert.DRowIdeal.Facts) (hRefDRowIdeal : Cert.RefDRowIdeal.Facts) (hDRow0 : Cert.DRow0.Facts) (hDRow0Ideal : Cert.DRow0Ideal.Facts) (hRefDRow0Ideal : Cert.RefDRow0Ideal.Facts) (hDCol : Cert.DCol.Facts) (hDColIdeal : Cert.DColIdeal.Facts) (hRefDColIdeal : Cert.RefDColIdeal.Facts) (hDCol0 : Cert.DCol0.Facts) (hDCol0Ideal : Cert.DCol0Ideal.Facts) (hRefDCol0Ideal : Cert.RefDCol0Ideal.Facts) (hBranchA : Cert.BranchA.Facts) (hBranchAIdeal : Cert.BranchAIdeal.Facts) (hRefBranchAIdeal : Cert.RefBranchAIdeal.Facts) (hBranchA0 : Cert.BranchA0.Facts) (hBranchA0Ideal : Cert.BranchA0Ideal.Facts) (hRefBranchA0Ideal : Cert.RefBranchA0Ideal.Facts) (hBranchB : Cert.BranchB.Facts) (hBranchBIdeal : Cert.BranchBIdeal.Facts) (hRefBranchBIdeal : Cert.RefBranchBIdeal.Facts) (hBranchB0 : Cert.BranchB0.Facts) (hBranchB0Ideal : Cert.BranchB0Ideal.Facts) (hRefBranchB0Ideal : Cert.RefBranchB0Ideal.Facts) (hBranchC : Cert.BranchC.Facts) (hBranchCIdeal : Cert.BranchCIdeal.Facts) (hRefBranchCIdeal : Cert.RefBranchCIdeal.Facts) (hBranchC0 : Cert.BranchC0.Facts) (hBranchC0Ideal : Cert.BranchC0Ideal.Facts) (hRefBranchC0Ideal : Cert.RefBranchC0Ideal.Facts) (hOutProj : Cert.OutProj.Facts) (hOutProjIdeal : Cert.OutProjIdeal.Facts) (hRefOutProjIdeal : Cert.RefOutProjIdeal.Facts) (hOutProj0 : Cert.OutProj0.Facts) (hOutProj0Ideal : Cert.OutProj0Ideal.Facts) (hRefOutProj0Ideal : Cert.RefOutProj0Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_RefProjIdeal (hRefProjIdeal := hRefProjIdeal)
    ∧ quiescent_Gates (hGates := hGates)
    ∧ quiescent_GatesIdeal (hGatesIdeal := hGatesIdeal)
    ∧ quiescent_RefGatesIdeal (hRefGatesIdeal := hRefGatesIdeal)
    ∧ quiescent_GradIn (hGradIn := hGradIn)
    ∧ quiescent_GradInIdeal (hGradInIdeal := hGradInIdeal)
    ∧ quiescent_RefGradInIdeal (hRefGradInIdeal := hRefGradInIdeal)
    ∧ quiescent_GradGate (hGradGate := hGradGate)
    ∧ quiescent_GradGateIdeal (hGradGateIdeal := hGradGateIdeal)
    ∧ quiescent_RefGradGateIdeal (hRefGradGateIdeal := hRefGradGateIdeal)
    ∧ quiescent_DhIn (hDhIn := hDhIn)
    ∧ quiescent_DhInIdeal (hDhInIdeal := hDhInIdeal)
    ∧ quiescent_RefDhInIdeal (hRefDhInIdeal := hRefDhInIdeal)
    ∧ quiescent_DhGate (hDhGate := hDhGate)
    ∧ quiescent_DhGateIdeal (hDhGateIdeal := hDhGateIdeal)
    ∧ quiescent_RefDhGateIdeal (hRefDhGateIdeal := hRefDhGateIdeal)
    ∧ quiescent_Gates0 (hGates0 := hGates0)
    ∧ quiescent_Gates0Ideal (hGates0Ideal := hGates0Ideal)
    ∧ quiescent_RefGates0Ideal (hRefGates0Ideal := hRefGates0Ideal)
    ∧ quiescent_DhIn0 (hDhIn0 := hDhIn0)
    ∧ quiescent_DhIn0Ideal (hDhIn0Ideal := hDhIn0Ideal)
    ∧ quiescent_RefDhIn0Ideal (hRefDhIn0Ideal := hRefDhIn0Ideal)
    ∧ quiescent_DhGate0 (hDhGate0 := hDhGate0)
    ∧ quiescent_DhGate0Ideal (hDhGate0Ideal := hDhGate0Ideal)
    ∧ quiescent_RefDhGate0Ideal (hRefDhGate0Ideal := hRefDhGate0Ideal)
    ∧ quiescent_GradRow (hGradRow := hGradRow)
    ∧ quiescent_GradRowIdeal (hGradRowIdeal := hGradRowIdeal)
    ∧ quiescent_RefGradRowIdeal (hRefGradRowIdeal := hRefGradRowIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamGate (hAdamGate := hAdamGate)
    ∧ quiescent_AdamGateIdeal (hAdamGateIdeal := hAdamGateIdeal)
    ∧ quiescent_RefAdamGateIdeal (hRefAdamGateIdeal := hRefAdamGateIdeal)
    ∧ quiescent_AdamBranch (hAdamBranch := hAdamBranch)
    ∧ quiescent_AdamBranchIdeal (hAdamBranchIdeal := hAdamBranchIdeal)
    ∧ quiescent_RefAdamBranchIdeal (hRefAdamBranchIdeal := hRefAdamBranchIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamBias (hAdamBias := hAdamBias)
    ∧ quiescent_AdamBiasIdeal (hAdamBiasIdeal := hAdamBiasIdeal)
    ∧ quiescent_RefAdamBiasIdeal (hRefAdamBiasIdeal := hRefAdamBiasIdeal)
    ∧ quiescent_AdamNorm (hAdamNorm := hAdamNorm)
    ∧ quiescent_AdamNormIdeal (hAdamNormIdeal := hAdamNormIdeal)
    ∧ quiescent_RefAdamNormIdeal (hRefAdamNormIdeal := hRefAdamNormIdeal)
    ∧ quiescent_AdamScale (hAdamScale := hAdamScale)
    ∧ quiescent_AdamScaleIdeal (hAdamScaleIdeal := hAdamScaleIdeal)
    ∧ quiescent_RefAdamScaleIdeal (hRefAdamScaleIdeal := hRefAdamScaleIdeal)
    ∧ quiescent_AdamFinal (hAdamFinal := hAdamFinal)
    ∧ quiescent_AdamFinalIdeal (hAdamFinalIdeal := hAdamFinalIdeal)
    ∧ quiescent_RefAdamFinalIdeal (hRefAdamFinalIdeal := hRefAdamFinalIdeal)
    ∧ quiescent_AdamConv (hAdamConv := hAdamConv)
    ∧ quiescent_AdamConvIdeal (hAdamConvIdeal := hAdamConvIdeal)
    ∧ quiescent_RefAdamConvIdeal (hRefAdamConvIdeal := hRefAdamConvIdeal)
    ∧ quiescent_AdamPool (hAdamPool := hAdamPool)
    ∧ quiescent_AdamPoolIdeal (hAdamPoolIdeal := hAdamPoolIdeal)
    ∧ quiescent_RefAdamPoolIdeal (hRefAdamPoolIdeal := hRefAdamPoolIdeal)
    ∧ quiescent_GradCol (hGradCol := hGradCol)
    ∧ quiescent_GradColIdeal (hGradColIdeal := hGradColIdeal)
    ∧ quiescent_RefGradColIdeal (hRefGradColIdeal := hRefGradColIdeal)
    ∧ quiescent_DRow (hDRow := hDRow)
    ∧ quiescent_DRowIdeal (hDRowIdeal := hDRowIdeal)
    ∧ quiescent_RefDRowIdeal (hRefDRowIdeal := hRefDRowIdeal)
    ∧ quiescent_DRow0 (hDRow0 := hDRow0)
    ∧ quiescent_DRow0Ideal (hDRow0Ideal := hDRow0Ideal)
    ∧ quiescent_RefDRow0Ideal (hRefDRow0Ideal := hRefDRow0Ideal)
    ∧ quiescent_DCol (hDCol := hDCol)
    ∧ quiescent_DColIdeal (hDColIdeal := hDColIdeal)
    ∧ quiescent_RefDColIdeal (hRefDColIdeal := hRefDColIdeal)
    ∧ quiescent_DCol0 (hDCol0 := hDCol0)
    ∧ quiescent_DCol0Ideal (hDCol0Ideal := hDCol0Ideal)
    ∧ quiescent_RefDCol0Ideal (hRefDCol0Ideal := hRefDCol0Ideal)
    ∧ quiescent_BranchA (hBranchA := hBranchA)
    ∧ quiescent_BranchAIdeal (hBranchAIdeal := hBranchAIdeal)
    ∧ quiescent_RefBranchAIdeal (hRefBranchAIdeal := hRefBranchAIdeal)
    ∧ quiescent_BranchA0 (hBranchA0 := hBranchA0)
    ∧ quiescent_BranchA0Ideal (hBranchA0Ideal := hBranchA0Ideal)
    ∧ quiescent_RefBranchA0Ideal (hRefBranchA0Ideal := hRefBranchA0Ideal)
    ∧ quiescent_BranchB (hBranchB := hBranchB)
    ∧ quiescent_BranchBIdeal (hBranchBIdeal := hBranchBIdeal)
    ∧ quiescent_RefBranchBIdeal (hRefBranchBIdeal := hRefBranchBIdeal)
    ∧ quiescent_BranchB0 (hBranchB0 := hBranchB0)
    ∧ quiescent_BranchB0Ideal (hBranchB0Ideal := hBranchB0Ideal)
    ∧ quiescent_RefBranchB0Ideal (hRefBranchB0Ideal := hRefBranchB0Ideal)
    ∧ quiescent_BranchC (hBranchC := hBranchC)
    ∧ quiescent_BranchCIdeal (hBranchCIdeal := hBranchCIdeal)
    ∧ quiescent_RefBranchCIdeal (hRefBranchCIdeal := hRefBranchCIdeal)
    ∧ quiescent_BranchC0 (hBranchC0 := hBranchC0)
    ∧ quiescent_BranchC0Ideal (hBranchC0Ideal := hBranchC0Ideal)
    ∧ quiescent_RefBranchC0Ideal (hRefBranchC0Ideal := hRefBranchC0Ideal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_OutProj0 (hOutProj0 := hOutProj0)
    ∧ quiescent_OutProj0Ideal (hOutProj0Ideal := hOutProj0Ideal)
    ∧ quiescent_RefOutProj0Ideal (hRefOutProj0Ideal := hRefOutProj0Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_RefProjIdeal (hProjIdeal := hProjIdeal) (hRefProjIdeal := hRefProjIdeal)
    ∧ preserves_Gates_GatesIdeal
    ∧ algebraic_GatesIdeal_RefGatesIdeal (hGatesIdeal := hGatesIdeal) (hRefGatesIdeal := hRefGatesIdeal)
    ∧ preserves_GradIn_GradInIdeal
    ∧ algebraic_GradInIdeal_RefGradInIdeal (hGradInIdeal := hGradInIdeal) (hRefGradInIdeal := hRefGradInIdeal)
    ∧ preserves_GradGate_GradGateIdeal
    ∧ algebraic_GradGateIdeal_RefGradGateIdeal (hGradGateIdeal := hGradGateIdeal) (hRefGradGateIdeal := hRefGradGateIdeal)
    ∧ preserves_DhIn_DhInIdeal
    ∧ algebraic_DhInIdeal_RefDhInIdeal (hDhInIdeal := hDhInIdeal) (hRefDhInIdeal := hRefDhInIdeal)
    ∧ preserves_DhGate_DhGateIdeal
    ∧ algebraic_DhGateIdeal_RefDhGateIdeal (hDhGateIdeal := hDhGateIdeal) (hRefDhGateIdeal := hRefDhGateIdeal)
    ∧ preserves_Gates0_Gates0Ideal
    ∧ algebraic_Gates0Ideal_RefGates0Ideal (hGates0Ideal := hGates0Ideal) (hRefGates0Ideal := hRefGates0Ideal)
    ∧ preserves_DhIn0_DhIn0Ideal
    ∧ algebraic_DhIn0Ideal_RefDhIn0Ideal (hDhIn0Ideal := hDhIn0Ideal) (hRefDhIn0Ideal := hRefDhIn0Ideal)
    ∧ preserves_DhGate0_DhGate0Ideal
    ∧ algebraic_DhGate0Ideal_RefDhGate0Ideal (hDhGate0Ideal := hDhGate0Ideal) (hRefDhGate0Ideal := hRefDhGate0Ideal)
    ∧ preserves_GradRow_GradRowIdeal
    ∧ algebraic_GradRowIdeal_RefGradRowIdeal (hGradRowIdeal := hGradRowIdeal) (hRefGradRowIdeal := hRefGradRowIdeal)
    ∧ preserves_AdamIn_AdamInIdeal
    ∧ algebraic_AdamInIdeal_RefAdamInIdeal (hAdamInIdeal := hAdamInIdeal) (hRefAdamInIdeal := hRefAdamInIdeal)
    ∧ preserves_AdamGate_AdamGateIdeal
    ∧ algebraic_AdamGateIdeal_RefAdamGateIdeal (hAdamGateIdeal := hAdamGateIdeal) (hRefAdamGateIdeal := hRefAdamGateIdeal)
    ∧ preserves_AdamBranch_AdamBranchIdeal
    ∧ algebraic_AdamBranchIdeal_RefAdamBranchIdeal (hAdamBranchIdeal := hAdamBranchIdeal) (hRefAdamBranchIdeal := hRefAdamBranchIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamBias_AdamBiasIdeal
    ∧ algebraic_AdamBiasIdeal_RefAdamBiasIdeal (hAdamBiasIdeal := hAdamBiasIdeal) (hRefAdamBiasIdeal := hRefAdamBiasIdeal)
    ∧ preserves_AdamNorm_AdamNormIdeal
    ∧ algebraic_AdamNormIdeal_RefAdamNormIdeal (hAdamNormIdeal := hAdamNormIdeal) (hRefAdamNormIdeal := hRefAdamNormIdeal)
    ∧ preserves_AdamScale_AdamScaleIdeal
    ∧ algebraic_AdamScaleIdeal_RefAdamScaleIdeal (hAdamScaleIdeal := hAdamScaleIdeal) (hRefAdamScaleIdeal := hRefAdamScaleIdeal)
    ∧ preserves_AdamFinal_AdamFinalIdeal
    ∧ algebraic_AdamFinalIdeal_RefAdamFinalIdeal (hAdamFinalIdeal := hAdamFinalIdeal) (hRefAdamFinalIdeal := hRefAdamFinalIdeal)
    ∧ preserves_AdamConv_AdamConvIdeal
    ∧ algebraic_AdamConvIdeal_RefAdamConvIdeal (hAdamConvIdeal := hAdamConvIdeal) (hRefAdamConvIdeal := hRefAdamConvIdeal)
    ∧ preserves_AdamPool_AdamPoolIdeal
    ∧ algebraic_AdamPoolIdeal_RefAdamPoolIdeal (hAdamPoolIdeal := hAdamPoolIdeal) (hRefAdamPoolIdeal := hRefAdamPoolIdeal)
    ∧ preserves_GradCol_GradColIdeal
    ∧ algebraic_GradColIdeal_RefGradColIdeal (hGradColIdeal := hGradColIdeal) (hRefGradColIdeal := hRefGradColIdeal)
    ∧ preserves_DRow_DRowIdeal
    ∧ algebraic_DRowIdeal_RefDRowIdeal (hDRowIdeal := hDRowIdeal) (hRefDRowIdeal := hRefDRowIdeal)
    ∧ preserves_DRow0_DRow0Ideal
    ∧ algebraic_DRow0Ideal_RefDRow0Ideal (hDRow0Ideal := hDRow0Ideal) (hRefDRow0Ideal := hRefDRow0Ideal)
    ∧ preserves_DCol_DColIdeal
    ∧ algebraic_DColIdeal_RefDColIdeal (hDColIdeal := hDColIdeal) (hRefDColIdeal := hRefDColIdeal)
    ∧ preserves_DCol0_DCol0Ideal
    ∧ algebraic_DCol0Ideal_RefDCol0Ideal (hDCol0Ideal := hDCol0Ideal) (hRefDCol0Ideal := hRefDCol0Ideal)
    ∧ preserves_BranchA_BranchAIdeal
    ∧ algebraic_BranchAIdeal_RefBranchAIdeal (hBranchAIdeal := hBranchAIdeal) (hRefBranchAIdeal := hRefBranchAIdeal)
    ∧ preserves_BranchA0_BranchA0Ideal
    ∧ algebraic_BranchA0Ideal_RefBranchA0Ideal (hBranchA0Ideal := hBranchA0Ideal) (hRefBranchA0Ideal := hRefBranchA0Ideal)
    ∧ preserves_BranchB_BranchBIdeal
    ∧ algebraic_BranchBIdeal_RefBranchBIdeal (hBranchBIdeal := hBranchBIdeal) (hRefBranchBIdeal := hRefBranchBIdeal)
    ∧ preserves_BranchB0_BranchB0Ideal
    ∧ algebraic_BranchB0Ideal_RefBranchB0Ideal (hBranchB0Ideal := hBranchB0Ideal) (hRefBranchB0Ideal := hRefBranchB0Ideal)
    ∧ preserves_BranchC_BranchCIdeal
    ∧ algebraic_BranchCIdeal_RefBranchCIdeal (hBranchCIdeal := hBranchCIdeal) (hRefBranchCIdeal := hRefBranchCIdeal)
    ∧ preserves_BranchC0_BranchC0Ideal
    ∧ algebraic_BranchC0Ideal_RefBranchC0Ideal (hBranchC0Ideal := hBranchC0Ideal) (hRefBranchC0Ideal := hRefBranchC0Ideal)
    ∧ preserves_OutProj_OutProjIdeal
    ∧ algebraic_OutProjIdeal_RefOutProjIdeal (hOutProjIdeal := hOutProjIdeal) (hRefOutProjIdeal := hRefOutProjIdeal)
    ∧ preserves_OutProj0_OutProj0Ideal
    ∧ algebraic_OutProj0Ideal_RefOutProj0Ideal (hOutProj0Ideal := hOutProj0Ideal) (hRefOutProj0Ideal := hRefOutProj0Ideal)
-- ==== Pre_finite.lean ====
abbrev S4096x14336 : Shape := ⟨2, ![4096, 14336]⟩
abbrev S4096x2048 : Shape := ⟨2, ![4096, 2048]⟩
abbrev S_ : Shape := ⟨0, ![]⟩

class Facts : Prop where
  bcast_S_S4096x14336 : S_.BroadcastsInDim S4096x14336 (![] : Fin 0 → Fin S4096x14336.rank)
  reducesTo_S4096x14336_S_d0_1 : S4096x14336.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x14336 .f32) (main_arg1 : FVec F S4096x2048 .f32) : IVec S_ 1 :=
  let main_v0 : FVec F S4096x14336 .f32 := Host.absf main_arg0
  let main_cst : FVec F S_ .f32 := constant S_ .f32 0x7F800000#32
  let main_v1 : FVec F S4096x14336 .f32 := broadcastInDim S4096x14336 ![] bcast_S_S4096x14336 main_cst
  let main_v2 : IVec S4096x14336 1 := cmpf .olt main_v0 main_v1
  let main_c : IVec S_ 1 := constantI S_ 1 1#1
  let main_v3 : IVec S_ 1 := (fun x v => Host.reduce IntOp.andi x v reducesTo_S4096x14336_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x14336 : Shape := ⟨2, ![4096, 14336]⟩
abbrev S4096x2048 : Shape := ⟨2, ![4096, 2048]⟩
abbrev S1x14336 : Shape := ⟨2, ![1, 14336]⟩
abbrev S_ : Shape := ⟨0, ![]⟩
abbrev S256x512 : Shape := ⟨2, ![256, 512]⟩
abbrev S4096x512 : Shape := ⟨2, ![4096, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 26
  | .vmem => 34
  | .smem => 0
  | _ => 0

abbrev bufTy : (tb : Table) → Fin (tcTables nBuf tb) → BufTy
  | .hbm, ⟨0, _⟩ => ⟨S4096x14336, .f32⟩
  | .hbm, ⟨1, _⟩ => ⟨S4096x2048, .f32⟩
  | .hbm, ⟨2, _⟩ => ⟨S1x14336, .i32⟩
  | .hbm, ⟨3, _⟩ => ⟨S_, .i32⟩
  | .hbm, ⟨4, _⟩ => ⟨S1x14336, .i32⟩
  | .hbm, ⟨5, _⟩ => ⟨S1x14336, .i1⟩
  | .hbm, ⟨6, _⟩ => ⟨S_, .i32⟩
  | .hbm, ⟨7, _⟩ => ⟨S1x14336, .i32⟩
  | .hbm, ⟨8, _⟩ => ⟨S1x14336, .i1⟩
  | .hbm, ⟨9, _⟩ => ⟨S1x14336, .i1⟩
  | .hbm, ⟨10, _⟩ => ⟨S_, .f32⟩
  | .hbm, ⟨11, _⟩ => ⟨S_, .f32⟩
  | .hbm, ⟨12, _⟩ => ⟨S1x14336, .f32⟩
  | .hbm, ⟨13, _⟩ => ⟨S1x14336, .f32⟩
  | .hbm, ⟨14, _⟩ => ⟨S1x14336, .f32⟩
  | .hbm, ⟨15, _⟩ => ⟨S1x14336, .f32⟩
  | .hbm, ⟨16, _⟩ => ⟨S4096x14336, .f32⟩
  | .hbm, ⟨17, _⟩ => ⟨S4096x14336, .f32⟩
  | .hbm, ⟨18, _⟩ => ⟨S4096x14336, .bf16⟩
  | .hbm, ⟨19, _⟩ => ⟨S4096x2048, .f32⟩
  | .hbm, ⟨20, _⟩ => ⟨S4096x2048, .bf16⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .bf16⟩
  | .local _ .vmem, ⟨19, _⟩ => ⟨S4096x512, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S4096x512, .f32⟩
  | .local _ .vmem, ⟨31, _⟩ => ⟨S4096x512, .f32⟩
  | .local _ .vmem, ⟨32, _⟩ => ⟨S256x512, .f32⟩
  | .local _ .vmem, ⟨33, _⟩ => ⟨S256x512, .f32⟩
  | _, _ => ⟨S4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem9_0 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v19 : BitVec 32 := Scalar.muli arg1 c256_i32
  v19
def k0_off1 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v21 : Index := Scalar.indexCast v20
  let c0_6 : Index := 0#32
  ![v21.toNat, 0]
def k0_off2 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v25 : Index := Scalar.indexCast v20
  let c128_8 : Index := 128#32
  ![v25.toNat, 128]
def k0_off3 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v29 : Index := Scalar.indexCast v20
  let c256_10 : Index := 256#32
  ![v29.toNat, 256]
def k0_off4 (i : grid0.Coords) : Fin 2 → Nat :=
  let arg1 : BitVec 32 := BitVec.ofNat 32 (i 1).val
  let c256_i32 : BitVec 32 := 256#32
  let v19 : BitVec 32 := Scalar.muli arg1 c256_i32
  let v20 : BitVec 32 := v19
  let v33 : Index := Scalar.indexCast v20
  let c384_12 : Index := 384#32
  ![v33.toNat, 384]
@[reducible] def k0_t1_loop (i : grid0.Coords) : Scf.Loop 32 :=
  let c0_i32 : BitVec 32 := 0#32
  let arg1 : BitVec 32 := BitVec.ofNat 32 (i 1).val
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let c1_i32_50 : BitVec 32 := 1#32
  ⟨c0_i32, v177, c1_i32_50⟩
def k0_mult2 (i : grid0.Coords) (k0_t1 : Fin (k0_t1_loop i).trips) : BitVec 32 :=
  let arg1 : BitVec 32 := BitVec.ofNat 32 (i 1).val
  let c1_i32_84 : BitVec 32 := 1#32
  let v212 : BitVec 32 := Scalar.subi arg1 c1_i32_84
  let c0_i32 : BitVec 32 := 0#32
  let c1_i32_50 : BitVec 32 := 1#32
  let arg9 : BitVec 32 := Scf.iv c0_i32 c1_i32_50 k0_t1
  let v213 : BitVec 32 := Scalar.subi v212 arg9
  let c256_i32_85 : BitVec 32 := 256#32
  let v214 : BitVec 32 := Scalar.muli v213 c256_i32_85
  v214
def k0_off5 (i : grid0.Coords) (k0_t1 : Fin (k0_t1_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let c1_i32_50 : BitVec 32 := 1#32
  let arg9 : BitVec 32 := Scf.iv c0_i32 c1_i32_50 k0_t1
  let v213 : BitVec 32 := Scalar.subi v212 arg9
  let c256_i32_85 : BitVec 32 := 256#32
  let v214 : BitVec 32 := Scalar.muli v213 c256_i32_85
  let v215 : BitVec 32 := v214
  let v216 : Index := Scalar.indexCast v215
  let c0_86 : Index := 0#32
  ![v216.toNat, 0]
def k0_off6 (i : grid0.Coords) (k0_t1 : Fin (k0_t1_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let c1_i32_50 : BitVec 32 := 1#32
  let arg9 : BitVec 32 := Scf.iv c0_i32 c1_i32_50 k0_t1
  let v213 : BitVec 32 := Scalar.subi v212 arg9
  let c256_i32_85 : BitVec 32 := 256#32
  let v214 : BitVec 32 := Scalar.muli v213 c256_i32_85
  let v215 : BitVec 32 := v214
  let v220 : Index := Scalar.indexCast v215
  let c128_88 : Index := 128#32
  ![v220.toNat, 128]
def k0_off7 (i : grid0.Coords) (k0_t1 : Fin (k0_t1_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let c1_i32_50 : BitVec 32 := 1#32
  let arg9 : BitVec 32 := Scf.iv c0_i32 c1_i32_50 k0_t1
  let v213 : BitVec 32 := Scalar.subi v212 arg9
  let c256_i32_85 : BitVec 32 := 256#32
  let v214 : BitVec 32 := Scalar.muli v213 c256_i32_85
  let v215 : BitVec 32 := v214
  let v224 : Index := Scalar.indexCast v215
  let c256_90 : Index := 256#32
  ![v224.toNat, 256]
def k0_off8 (i : grid0.Coords) (k0_t1 : Fin (k0_t1_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let c1_i32_50 : BitVec 32 := 1#32
  let arg9 : BitVec 32 := Scf.iv c0_i32 c1_i32_50 k0_t1
  let v213 : BitVec 32 := Scalar.subi v212 arg9
  let c256_i32_85 : BitVec 32 := 256#32
  let v214 : BitVec 32 := Scalar.muli v213 c256_i32_85
  let v215 : BitVec 32 := v214
  let v228 : Index := Scalar.indexCast v215
  let c384_92 : Index := 384#32
  ![v228.toNat, 384]
@[reducible] def k0_t2_loop (i : grid0.Coords) : Scf.Loop 32 :=
  let c0_i32 : BitVec 32 := 0#32
  let arg1 : BitVec 32 := BitVec.ofNat 32 (i 1).val
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let v174 : BitVec 32 := Scalar.addi c0_i32 v173
  let c1_i32_51 : BitVec 32 := 1#32
  ⟨v177, v174, c1_i32_51⟩
def k0_mult3 (i : grid0.Coords) (k0_t2 : Fin (k0_t2_loop i).trips) : BitVec 32 :=
  let arg1 : BitVec 32 := BitVec.ofNat 32 (i 1).val
  let c1_i32_84 : BitVec 32 := 1#32
  let v212 : BitVec 32 := Scalar.subi arg1 c1_i32_84
  let c0_i32 : BitVec 32 := 0#32
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let c1_i32_51 : BitVec 32 := 1#32
  let arg9 : BitVec 32 := Scf.iv v177 c1_i32_51 k0_t2
  let v213 : BitVec 32 := Scalar.subi v212 arg9
  let c256_i32_85 : BitVec 32 := 256#32
  let v214 : BitVec 32 := Scalar.muli v213 c256_i32_85
  v214
def k0_off9 (i : grid0.Coords) (k0_t2 : Fin (k0_t2_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let c1_i32_51 : BitVec 32 := 1#32
  let arg9 : BitVec 32 := Scf.iv v177 c1_i32_51 k0_t2
  let v213 : BitVec 32 := Scalar.subi v212 arg9
  let c256_i32_85 : BitVec 32 := 256#32
  let v214 : BitVec 32 := Scalar.muli v213 c256_i32_85
  let v215 : BitVec 32 := v214
  let v216 : Index := Scalar.indexCast v215
  let c0_86 : Index := 0#32
  ![v216.toNat, 0]
def k0_off10 (i : grid0.Coords) (k0_t2 : Fin (k0_t2_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let c1_i32_51 : BitVec 32 := 1#32
  let arg9 : BitVec 32 := Scf.iv v177 c1_i32_51 k0_t2
  let v213 : BitVec 32 := Scalar.subi v212 arg9
  let c256_i32_85 : BitVec 32 := 256#32
  let v214 : BitVec 32 := Scalar.muli v213 c256_i32_85
  let v215 : BitVec 32 := v214
  let v220 : Index := Scalar.indexCast v215
  let c128_88 : Index := 128#32
  ![v220.toNat, 128]
def k0_off11 (i : grid0.Coords) (k0_t2 : Fin (k0_t2_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let c1_i32_51 : BitVec 32 := 1#32
  let arg9 : BitVec 32 := Scf.iv v177 c1_i32_51 k0_t2
  let v213 : BitVec 32 := Scalar.subi v212 arg9
  let c256_i32_85 : BitVec 32 := 256#32
  let v214 : BitVec 32 := Scalar.muli v213 c256_i32_85
  let v215 : BitVec 32 := v214
  let v224 : Index := Scalar.indexCast v215
  let c256_90 : Index := 256#32
  ![v224.toNat, 256]
def k0_off12 (i : grid0.Coords) (k0_t2 : Fin (k0_t2_loop i).trips) : Fin 2 → Nat :=
  let arg1 : BitVec 32 := BitVec.ofNat 32 (i 1).val
  let c1_i32_84 : BitVec 32 := 1#32
  let v212 : BitVec 32 := Scalar.subi arg1 c1_i32_84
  let c0_i32 : BitVec 32 := 0#32
  let v173 : BitVec 32 := Scalar.subi arg1 c0_i32
  let c1_i32 : BitVec 32 := 1#32
  let v175 : BitVec 32 := Scalar.divsi v173 c1_i32
  let v176 : BitVec 32 := Scalar.muli v175 c1_i32
  let v177 : BitVec 32 := Scalar.addi c0_i32 v176
  let c1_i32_51 : BitVec 32 := 1#32
  let arg9 : BitVec 32 := Scf.iv v177 c1_i32_51 k0_t2
  let v213 : BitVec 32 := Scalar.subi v212 arg9
  let c256_i32_85 : BitVec 32 := 256#32
  let v214 : BitVec 32 := Scalar.muli v213 c256_i32_85
  let v215 : BitVec 32 := v214
  let v228 : Index := Scalar.indexCast v215
  let c384_92 : Index := 384#32
  ![v228.toNat, 384]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 16], ![false, false]⟩

@[reducible] def k1_t1_loop (i : grid1.Coords) : Scf.Loop 32 :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let c1_i32_55 : BitVec 32 := 1#32
  ⟨c0_i32_54, v105, c1_i32_55⟩
def k1_mult1 (i : grid1.Coords) (k1_t1 : Fin (k1_t1_loop i).trips) : BitVec 32 :=
  let c0_i32_54 : BitVec 32 := 0#32
  let c1_i32_55 : BitVec 32 := 1#32
  let arg13 : BitVec 32 := Scf.iv c0_i32_54 c1_i32_55 k1_t1
  let c256_i32_161 : BitVec 32 := 256#32
  let v386 : BitVec 32 := Scalar.muli arg13 c256_i32_161
  v386
def k1_off1 (i : grid1.Coords) (k1_t1 : Fin (k1_t1_loop i).trips) : Fin 2 → Nat :=
  let c0_i32_54 : BitVec 32 := 0#32
  let c1_i32_55 : BitVec 32 := 1#32
  let arg13 : BitVec 32 := Scf.iv c0_i32_54 c1_i32_55 k1_t1
  let c256_i32_161 : BitVec 32 := 256#32
  let v386 : BitVec 32 := Scalar.muli arg13 c256_i32_161
  let v387 : BitVec 32 := v386
  let v388 : Index := Scalar.indexCast v387
  let c0_162 : Index := 0#32
  ![v388.toNat, 0]
def k1_off2 (i : grid1.Coords) (k1_t1 : Fin (k1_t1_loop i).trips) : Fin 2 → Nat :=
  let c0_i32_54 : BitVec 32 := 0#32
  let c1_i32_55 : BitVec 32 := 1#32
  let arg13 : BitVec 32 := Scf.iv c0_i32_54 c1_i32_55 k1_t1
  let c256_i32_161 : BitVec 32 := 256#32
  let v386 : BitVec 32 := Scalar.muli arg13 c256_i32_161
  let v387 : BitVec 32 := v386
  let v391 : Index := Scalar.indexCast v387
  let c128_163 : Index := 128#32
  ![v391.toNat, 128]
def k1_off3 (i : grid1.Coords) (k1_t1 : Fin (k1_t1_loop i).trips) : Fin 2 → Nat :=
  let c0_i32_54 : BitVec 32 := 0#32
  let c1_i32_55 : BitVec 32 := 1#32
  let arg13 : BitVec 32 := Scf.iv c0_i32_54 c1_i32_55 k1_t1
  let c256_i32_161 : BitVec 32 := 256#32
  let v386 : BitVec 32 := Scalar.muli arg13 c256_i32_161
  let v387 : BitVec 32 := v386
  let v394 : Index := Scalar.indexCast v387
  let c256_164 : Index := 256#32
  ![v394.toNat, 256]
def k1_off4 (i : grid1.Coords) (k1_t1 : Fin (k1_t1_loop i).trips) : Fin 2 → Nat :=
  let c0_i32_54 : BitVec 32 := 0#32
  let c1_i32_55 : BitVec 32 := 1#32
  let arg13 : BitVec 32 := Scf.iv c0_i32_54 c1_i32_55 k1_t1
  let c256_i32_161 : BitVec 32 := 256#32
  let v386 : BitVec 32 := Scalar.muli arg13 c256_i32_161
  let v387 : BitVec 32 := v386
  let v397 : Index := Scalar.indexCast v387
  let c384_165 : Index := 384#32
  ![v397.toNat, 384]
@[reducible] def k1_t2_loop (i : grid1.Coords) : Scf.Loop 32 :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let v102 : BitVec 32 := Scalar.addi c0_i32_54 v101
  let c1_i32_56 : BitVec 32 := 1#32
  ⟨v105, v102, c1_i32_56⟩
def k1_mult2 (i : grid1.Coords) (k1_t2 : Fin (k1_t2_loop i).trips) : BitVec 32 :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let c1_i32_56 : BitVec 32 := 1#32
  let arg13 : BitVec 32 := Scf.iv v105 c1_i32_56 k1_t2
  let c256_i32_161 : BitVec 32 := 256#32
  let v386 : BitVec 32 := Scalar.muli arg13 c256_i32_161
  v386
def k1_off5 (i : grid1.Coords) (k1_t2 : Fin (k1_t2_loop i).trips) : Fin 2 → Nat :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let c1_i32_56 : BitVec 32 := 1#32
  let arg13 : BitVec 32 := Scf.iv v105 c1_i32_56 k1_t2
  let c256_i32_161 : BitVec 32 := 256#32
  let v386 : BitVec 32 := Scalar.muli arg13 c256_i32_161
  let v387 : BitVec 32 := v386
  let v388 : Index := Scalar.indexCast v387
  let c0_162 : Index := 0#32
  ![v388.toNat, 0]
def k1_off6 (i : grid1.Coords) (k1_t2 : Fin (k1_t2_loop i).trips) : Fin 2 → Nat :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let c1_i32_56 : BitVec 32 := 1#32
  let arg13 : BitVec 32 := Scf.iv v105 c1_i32_56 k1_t2
  let c256_i32_161 : BitVec 32 := 256#32
  let v386 : BitVec 32 := Scalar.muli arg13 c256_i32_161
  let v387 : BitVec 32 := v386
  let v391 : Index := Scalar.indexCast v387
  let c128_163 : Index := 128#32
  ![v391.toNat, 128]
def k1_off7 (i : grid1.Coords) (k1_t2 : Fin (k1_t2_loop i).trips) : Fin 2 → Nat :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let c1_i32_56 : BitVec 32 := 1#32
  let arg13 : BitVec 32 := Scf.iv v105 c1_i32_56 k1_t2
  let c256_i32_161 : BitVec 32 := 256#32
  let v386 : BitVec 32 := Scalar.muli arg13 c256_i32_161
  let v387 : BitVec 32 := v386
  let v394 : Index := Scalar.indexCast v387
  let c256_164 : Index := 256#32
  ![v394.toNat, 256]
def k1_off8 (i : grid1.Coords) (k1_t2 : Fin (k1_t2_loop i).trips) : Fin 2 → Nat :=
  let c0_i32_54 : BitVec 32 := 0#32
  let arg1 : BitVec 32 := BitVec.ofNat 32 (i 1).val
  let v101 : BitVec 32 := Scalar.subi arg1 c0_i32_54
  let c1_i32 : BitVec 32 := 1#32
  let v103 : BitVec 32 := Scalar.divsi v101 c1_i32
  let v104 : BitVec 32 := Scalar.muli v103 c1_i32
  let v105 : BitVec 32 := Scalar.addi c0_i32_54 v104
  let c1_i32_56 : BitVec 32 := 1#32
  let arg13 : BitVec 32 := Scf.iv v105 c1_i32_56 k1_t2
  let c256_i32_161 : BitVec 32 := 256#32
  let v386 : BitVec 32 := Scalar.muli arg13 c256_i32_161
  let v387 : BitVec 32 := v386
  let v397 : Index := Scalar.indexCast v387
  let c384_165 : Index := 384#32
  ![v397.toNat, 384]
def k1_mult3 (i : grid1.Coords) : BitVec 32 :=
  let arg1 : BitVec 32 := BitVec.ofNat 32 (i 1).val
  let c256_i32 : BitVec 32 := 256#32
  let v108 : BitVec 32 := Scalar.muli arg1 c256_i32
  v108
def k1_off9 (i : grid1.Coords) : Fin 2 → Nat :=
  let arg1 : BitVec 32 := BitVec.ofNat 32 (i 1).val
  let c256_i32 : BitVec 32 := 256#32
  let v108 : BitVec 32 := Scalar.muli arg1 c256_i32
  let v109 : BitVec 32 := v108
  let v110 : Index := Scalar.indexCast v109
  let c0_57 : Index := 0#32
  ![v110.toNat, 0]
def k1_off10 (i : grid1.Coords) : Fin 2 → Nat :=
  let arg1 : BitVec 32 := BitVec.ofNat 32 (i 1).val
  let c256_i32 : BitVec 32 := 256#32
  let v108 : BitVec 32 := Scalar.muli arg1 c256_i32
  let v109 : BitVec 32 := v108
  let v113 : Index := Scalar.indexCast v109
  let c128_58 : Index := 128#32
  ![v113.toNat, 128]
def k1_off11 (i : grid1.Coords) : Fin 2 → Nat :=
  let arg1 : BitVec 32 := BitVec.ofNat 32 (i 1).val
  let c256_i32 : BitVec 32 := 256#32
  let v108 : BitVec 32 := Scalar.muli arg1 c256_i32
  let v109 : BitVec 32 := v108
  let v116 : Index := Scalar.indexCast v109
  let c256_59 : Index := 256#32
  ![v116.toNat, 256]
def k1_off12 (i : grid1.Coords) : Fin 2 → Nat :=
  let arg1 : BitVec 32 := BitVec.ofNat 32 (i 1).val
  let c256_i32 : BitVec 32 := 256#32
  let v108 : BitVec 32 := Scalar.muli arg1 c256_i32
  let v109 : BitVec 32 := v108
  let v119 : Index := Scalar.indexCast v109
  let c384_60 : Index := 384#32
  ![v119.toNat, 384]
def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S4096x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]

abbrev stage1_9 : Fin 1 → Memref sig .tc .vmem S4096x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, false]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S4096x14336 : Shape := ⟨2, ![4096, 14336]⟩
abbrev S4096x2048 : Shape := ⟨2, ![4096, 2048]⟩
abbrev S4096x16x128 : Shape := ⟨3, ![4096, 16, 128]⟩
abbrev S_ : Shape := ⟨0, ![]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 192
  | .vmem => 0
  | .smem => 0
  | _ => 0

abbrev hbmTy0_0 (i : Nat) : BufTy := match i % 128 with
  | 0 => ⟨S4096x14336, .f32⟩
  | 1 => ⟨S4096x2048, .f32⟩
  | 2 => ⟨S4096x2048, .f32⟩
  | 3 => ⟨S4096x2048, .f32⟩
  | 4 => ⟨S4096x2048, .f32⟩
  | 5 => ⟨S4096x2048, .f32⟩
  | 6 => ⟨S4096x16x128, .f32⟩
  | 7 => ⟨S4096x16x128, .f32⟩
  | 8 => ⟨S4096x16x128, .f32⟩
  | 9 => ⟨S_, .f32⟩
  | 10 => ⟨S4096x16x128, .f32⟩
  | 11 => ⟨S4096x16x128, .f32⟩
  | 12 => ⟨S16x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .i1⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S_, .f32⟩
  | 35 => ⟨S16x4096x4096, .f32⟩
  | 36 => ⟨S16x4096x4096, .i1⟩
  | 37 => ⟨S_, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .i1⟩
  | 43 => ⟨S_, .f32⟩
  | 44 => ⟨S16x4096x4096, .f32⟩
  | 45 => ⟨S16x4096x4096, .f32⟩
  | 46 => ⟨S16x4096x4096, .f32⟩
  | 47 => ⟨S16x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x4096x4096, .f32⟩
  | 56 => ⟨S16x4096x4096, .i1⟩
  | 57 => ⟨S_, .f32⟩
  | 58 => ⟨S16x4096x4096, .f32⟩
  | 59 => ⟨S16x4096x4096, .f32⟩
  | 60 => ⟨S16x4096x4096, .f32⟩
  | 61 => ⟨S16x4096x4096, .f32⟩
  | 62 => ⟨S16x4096x4096, .f32⟩
  | 63 => ⟨S_, .f32⟩
  | 64 => ⟨S16x4096x4096, .f32⟩
  | 65 => ⟨S16x4096x4096, .f32⟩
  | 66 => ⟨S16x4096x4096, .f32⟩
  | 67 => ⟨S_, .f32⟩
  | 68 => ⟨S_, .f32⟩
  | 69 => ⟨S16x4096x4096, .i1⟩
  | 70 => ⟨S16x4096x4096, .f32⟩
  | 71 => ⟨S16x4096x4096, .f32⟩
  | 72 => ⟨S_, .f32⟩
  | 73 => ⟨S16x4096x4096, .f32⟩
  | 74 => ⟨S_, .f32⟩
  | 75 => ⟨S_, .f32⟩
  | 76 => ⟨S16x4096x4096, .f32⟩
  | 77 => ⟨S16x4096x4096, .f32⟩
  | 78 => ⟨S16x4096x4096, .f32⟩
  | 79 => ⟨S_, .f32⟩
  | 80 => ⟨S16x4096x4096, .f32⟩
  | 81 => ⟨S16x4096x4096, .f32⟩
  | 82 => ⟨S16x4096x4096, .f32⟩
  | 83 => ⟨S16x4096x4096, .f32⟩
  | 84 => ⟨S16x4096x4096, .i1⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S_, .f32⟩
  | 94 => ⟨S16x4096x4096, .f32⟩
  | 95 => ⟨S16x4096x4096, .i1⟩
  | 96 => ⟨S_, .f32⟩
  | 97 => ⟨S16x4096x4096, .f32⟩
  | 98 => ⟨S16x4096x4096, .f32⟩
  | 99 => ⟨S_, .f32⟩
  | 100 => ⟨S16x4096x4096, .f32⟩
  | 101 => ⟨S16x4096x4096, .i1⟩
  | 102 => ⟨S_, .f32⟩
  | 103 => ⟨S16x4096x4096, .f32⟩
  | 104 => ⟨S16x4096x4096, .f32⟩
  | 105 => ⟨S16x4096x4096, .f32⟩
  | 106 => ⟨S16x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S16x4096x4096, .f32⟩
  | 115 => ⟨S16x4096x4096, .i1⟩
  | 116 => ⟨S_, .f32⟩
  | 117 => ⟨S16x4096x4096, .f32⟩
  | 118 => ⟨S16x4096x4096, .f32⟩
  | 119 => ⟨S16x4096x4096, .f32⟩
  | 120 => ⟨S16x4096x4096, .f32⟩
  | 121 => ⟨S16x4096x4096, .f32⟩
  | 122 => ⟨S_, .f32⟩
  | 123 => ⟨S16x4096x4096, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x14336, .f32⟩

abbrev hbmTy0_1 (i : Nat) : BufTy := match i % 128 with
  | 0 => ⟨S_, .f32⟩
  | 1 => ⟨S_, .f32⟩
  | 2 => ⟨S16x4096x4096, .i1⟩
  | 3 => ⟨S16x4096x4096, .f32⟩
  | 4 => ⟨S16x4096x4096, .f32⟩
  | 5 => ⟨S_, .f32⟩
  | 6 => ⟨S16x4096x4096, .f32⟩
  | 7 => ⟨S16x128x4096, .f32⟩
  | 8 => ⟨S4096x16x128, .f32⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S4096x2048, .f32⟩
  | 23 => ⟨S4096x2048, .f32⟩
  | 24 => ⟨S4096x2048, .bf16⟩
  | 25 => ⟨S4096x2048, .f32⟩
  | 26 => ⟨S4096x2048, .f32⟩
  | 27 => ⟨S4096x2048, .f32⟩
  | 28 => ⟨S4096x2048, .f32⟩
  | 29 => ⟨S4096x2048, .f32⟩
  | 30 => ⟨S4096x2048, .f32⟩
  | 31 => ⟨S4096x16x128, .f32⟩
  | 32 => ⟨S16x128x4096, .f32⟩
  | 33 => ⟨S16x4096x4096, .f32⟩
  | 34 => ⟨S16x128x4096, .f32⟩
  | 35 => ⟨S4096x16x128, .f32⟩
  | 36 => ⟨S_, .f32⟩
  | 37 => ⟨S16x4096x4096, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S16x4096x4096, .f32⟩
  | 44 => ⟨S_, .f32⟩
  | 45 => ⟨S_, .f32⟩
  | 46 => ⟨S16x4096x4096, .f32⟩
  | 47 => ⟨S16x4096x4096, .f32⟩
  | 48 => ⟨S_, .f32⟩
  | 49 => ⟨S16x4096x4096, .f32⟩
  | 50 => ⟨S16x4096x4096, .f32⟩
  | 51 => ⟨S16x4096x4096, .f32⟩
  | 52 => ⟨S16x4096x4096, .f32⟩
  | 53 => ⟨S16x4096x4096, .f32⟩
  | 54 => ⟨S16x4096x128, .f32⟩
  | 55 => ⟨S4096x16x128, .f32⟩
  | 56 => ⟨S16x4096x128, .f32⟩
  | 57 => ⟨S4096x16x128, .f32⟩
  | 58 => ⟨S_, .f32⟩
  | 59 => ⟨S4096x16x128, .f32⟩
  | 60 => ⟨S4096x16x128, .f32⟩
  | 61 => ⟨S4096x2048, .f32⟩
  | 62 => ⟨S4096x2048, .f32⟩
  | 63 => ⟨S4096x2048, .f32⟩
  | _ => ⟨S4096x14336, .f32⟩

abbrev hbmTy (i : Nat) : BufTy := match i / 128 with
  | 0 => hbmTy0_0 i
  | 1 => hbmTy0_1 i
  | _ => ⟨S4096x14336, .f32⟩

abbrev bufTy : (tb : Table) → Fin (tcTables nBuf tb) → BufTy
  | .hbm, ⟨i, _⟩ => hbmTy i
  | _, _ => ⟨S4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v17_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v17_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v17_2 : Ref sig .tc := ⟨.hbm, 65, rfl⟩
abbrev main_v18 : Ref sig .tc := ⟨.hbm, 66, rfl⟩
abbrev main_cst_0 : Ref sig .tc := ⟨.hbm, 67, rfl⟩
abbrev main_call1_v0 : Ref sig .tc := ⟨.hbm, 68, rfl⟩
abbrev main_v19_1 : Ref sig .tc := ⟨.hbm, 69, rfl⟩
abbrev main_call1_v2 : Ref sig .tc := ⟨.hbm, 70, rfl⟩
abbrev main_v19_0 : Ref sig .tc := ⟨.hbm, 71, rfl⟩
abbrev main_call1_cst : Ref sig .tc := ⟨.hbm, 72, rfl⟩
abbrev main_v19_2 : Ref sig .tc := ⟨.hbm, 73, rfl⟩
abbrev main_call2_cst : Ref sig .tc := ⟨.hbm, 74, rfl⟩
abbrev main_call2_v0 : Ref sig .tc := ⟨.hbm, 75, rfl⟩
abbrev main_v20 : Ref sig .tc := ⟨.hbm, 76, rfl⟩
abbrev main_v21 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v22_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v22_2 : Ref sig .tc := ⟨.hbm, 124, rfl⟩
abbrev main_v22_0 : Ref sig .tc := ⟨.hbm, 125, rfl⟩
abbrev main_v23 : Ref sig .tc := ⟨.hbm, 126, rfl⟩
abbrev main_v24 : Ref sig .tc := ⟨.hbm, 127, rfl⟩
abbrev main_cst_1 : Ref sig .tc := ⟨.hbm, 128, rfl⟩
abbrev main_call4_v0 : Ref sig .tc := ⟨.hbm, 129, rfl⟩
abbrev main_v25_1 : Ref sig .tc := ⟨.hbm, 130, rfl⟩
abbrev main_call4_v2 : Ref sig .tc := ⟨.hbm, 131, rfl⟩
abbrev main_v25_0 : Ref sig .tc := ⟨.hbm, 132, rfl⟩
abbrev main_call4_cst : Ref sig .tc := ⟨.hbm, 133, rfl⟩
abbrev main_v25_2 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_call5_v0 : Ref sig .tc := ⟨.hbm, 138, rfl⟩
abbrev main_call5_v1 : Ref sig .tc := ⟨.hbm, 139, rfl⟩
abbrev main_call5_cst : Ref sig .tc := ⟨.hbm, 140, rfl⟩
abbrev main_call5_v2 : Ref sig .tc := ⟨.hbm, 141, rfl⟩
abbrev main_call5_v3 : Ref sig .tc := ⟨.hbm, 142, rfl⟩
abbrev main_call5_cst_0 : Ref sig .tc := ⟨.hbm, 143, rfl⟩
abbrev main_call5_v4 : Ref sig .tc := ⟨.hbm, 144, rfl⟩
abbrev main_v29_2 : Ref sig .tc := ⟨.hbm, 145, rfl⟩
abbrev main_call5_cst_1 : Ref sig .tc := ⟨.hbm, 146, rfl⟩
abbrev main_call5_v6 : Ref sig .tc := ⟨.hbm, 147, rfl⟩
abbrev main_call5_v7 : Ref sig .tc := ⟨.hbm, 148, rfl⟩
abbrev main_v29_1 : Ref sig .tc := ⟨.hbm, 149, rfl⟩
abbrev main_v29_0 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_call7_cst : Ref sig .tc := ⟨.hbm, 164, rfl⟩
abbrev main_call7_v0 : Ref sig .tc := ⟨.hbm, 165, rfl⟩
abbrev main_v40 : Ref sig .tc := ⟨.hbm, 166, rfl⟩
abbrev main_v41 : Ref sig .tc := ⟨.hbm, 167, rfl⟩
abbrev main_call8_v0 : Ref sig .tc := ⟨.hbm, 168, rfl⟩
abbrev main_call8_v1 : Ref sig .tc := ⟨.hbm, 169, rfl⟩
abbrev main_v42 : Ref sig .tc := ⟨.hbm, 170, rfl⟩
abbrev main_v43 : Ref sig .tc := ⟨.hbm, 171, rfl⟩
abbrev main_call9_cst : Ref sig .tc := ⟨.hbm, 172, rfl⟩
abbrev main_call9_v0 : Ref sig .tc := ⟨.hbm, 173, rfl⟩
abbrev main_v44 : Ref sig .tc := ⟨.hbm, 174, rfl⟩
abbrev main_v45 : Ref sig .tc := ⟨.hbm, 175, rfl⟩
abbrev main_call10_cst : Ref sig .tc := ⟨.hbm, 176, rfl⟩
abbrev main_call10_v0 : Ref sig .tc := ⟨.hbm, 177, rfl⟩
abbrev main_v46 : Ref sig .tc := ⟨.hbm, 178, rfl⟩
abbrev main_v47 : Ref sig .tc := ⟨.hbm, 179, rfl⟩
abbrev main_v48 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_cst_2 : Ref sig .tc := ⟨.hbm, 186, rfl⟩
abbrev main_v54 : Ref sig .tc := ⟨.hbm, 187, rfl⟩
abbrev main_v55 : Ref sig .tc := ⟨.hbm, 188, rfl⟩
abbrev main_v56 : Ref sig .tc := ⟨.hbm, 189, rfl⟩
abbrev main_v57 : Ref sig .tc := ⟨.hbm, 190, rfl⟩
abbrev main_v58 : Ref sig .tc := ⟨.hbm, 191, rfl⟩

abbrev nD : Nat := 1
abbrev τ : Topo := Topo.v7x

variable {F : FTy → Type} [FloatOps F]
-- ==== Proj.lean ====
abbrev S4096x2048 : Shape := ⟨2, ![4096, 2048]⟩
abbrev S2x2048x14336 : Shape := ⟨3, ![2, 2048, 14336]⟩
abbrev S2x2048x4x3584 : Shape := ⟨4, ![2, 2048, 4, 3584]⟩
abbrev S4x2x2048x3584 : Shape := ⟨4, ![4, 2, 2048, 3584]⟩
abbrev S4096x14336 : Shape := ⟨2, ![4096, 14336]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2x2048x14336, .f32⟩
  | .hbm, ⟨2, _⟩ => ⟨S2x2048x14336, .bf16⟩
  | .hbm, ⟨3, _⟩ => ⟨S2x2048x4x3584, .bf16⟩
  | .hbm, ⟨4, _⟩ => ⟨S4x2x2048x3584, .bf16⟩
  | .hbm, ⟨5, _⟩ => ⟨S4096x2048, .bf16⟩
  | .hbm, ⟨6, _⟩ => ⟨S4096x14336, .f32⟩
  | .hbm, ⟨7, _⟩ => ⟨S4096x14336, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 28, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefProjIdeal.lean ====
abbrev S4096x2048 : Shape := ⟨2, ![4096, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S4096x14336 : Shape := ⟨2, ![4096, 14336]⟩
abbrev S14336 : Shape := ⟨1, ![14336]⟩
abbrev S_ : Shape := ⟨0, ![]⟩
abbrev S1x14336 : Shape := ⟨2, ![1, 14336]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x14336, .f32⟩
  | .hbm, ⟨2, _⟩ => ⟨S1x2048x14336, .f32⟩
  | .hbm, ⟨3, _⟩ => ⟨S2048x14336, .f32⟩
  | .hbm, ⟨4, _⟩ => ⟨S4096x14336, .f32⟩
  | .hbm, ⟨5, _⟩ => ⟨S14336, .i32⟩
  | .hbm, ⟨6, _⟩ => ⟨S_, .i32⟩
  | .hbm, ⟨7, _⟩ => ⟨S14336, .i32⟩
  | .hbm, ⟨8, _⟩ => ⟨S14336, .i1⟩
  | .hbm, ⟨9, _⟩ => ⟨S_, .i32⟩
  | .hbm, ⟨10, _⟩ => ⟨S14336, .i32⟩
  | .hbm, ⟨11, _⟩ => ⟨S14336, .i1⟩
  | .hbm, ⟨12, _⟩ => ⟨S14336, .i1⟩
  | .hbm, ⟨13, _⟩ => ⟨S_, .f32⟩
  | .hbm, ⟨14, _⟩ => ⟨S_, .f32⟩
  | .hbm, ⟨15, _⟩ => ⟨S14336, .f32⟩
  | .hbm, ⟨16, _⟩ => ⟨S14336, .f32⟩
  | .hbm, ⟨17, _⟩ => ⟨S14336, .f32⟩
  | .hbm, ⟨18, _⟩ => ⟨S14336, .f32⟩
  | .hbm, ⟨19, _⟩ => ⟨S1x14336, .f32⟩
  | .hbm, ⟨20, _⟩ => ⟨S4096x14336, .f32⟩
  | .hbm, ⟨21, _⟩ => ⟨S4096x14336, .f32⟩
  | .hbm, ⟨22, _⟩ => ⟨S4096x14336, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Gates.lean ====
abbrev S4096x2048 : Shape := ⟨2, ![4096, 2048]⟩
abbrev S2x2048x6144 : Shape := ⟨3, ![2, 2048, 6144]⟩
abbrev S2x6144 : Shape := ⟨2, ![2, 6144]⟩
abbrev S2x2048x4x1536 : Shape := ⟨4, ![2, 2048, 4, 1536]⟩
abbrev S4x2x2048x1536 : Shape := ⟨4, ![4, 2, 2048, 1536]⟩
abbrev S1x6144 : Shape := ⟨2, ![1, 6144]⟩
abbrev S4096x6144 : Shape := ⟨2, ![4096, 6144]⟩
abbrev S1024x2048 : Shape := ⟨2, ![1024, 2048]⟩
abbrev S1x1x2048x512 : Shape := ⟨4, ![1, 1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2x2048x6144, .f32⟩
  | .hbm, ⟨2, _⟩ => ⟨S2x6144, .f32⟩
  | .hbm, ⟨3, _⟩ => ⟨S2x2048x6144, .bf16⟩
  | .hbm, ⟨4, _⟩ => ⟨S2x2048x4x1536, .bf16⟩
  | .hbm, ⟨5, _⟩ => ⟨S4x2x2048x1536, .bf16⟩
  | .hbm, ⟨6, _⟩ => ⟨S4096x2048, .bf16⟩
  | .hbm, ⟨7, _⟩ => ⟨S1x6144, .f32⟩
  | .hbm, ⟨8, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefGatesIdeal.lean ====
abbrev S4096x2048 : Shape := ⟨2, ![4096, 2048]⟩
abbrev S2x2048x6144 : Shape := ⟨3, ![2, 2048, 6144]⟩
abbrev S2x6144 : Shape := ⟨2, ![2, 6144]⟩
abbrev S1x2048x6144 : Shape := ⟨3, ![1, 2048, 6144]⟩
abbrev S2048x6144 : Shape := ⟨2, ![2048, 6144]⟩
abbrev S4096x6144 : Shape := ⟨2, ![4096, 6144]⟩
abbrev S1x6144 : Shape := ⟨2, ![1, 6144]⟩
abbrev S6144 : Shape := ⟨1, ![6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x6144, .f32⟩
  | .hbm, ⟨2, _⟩ => ⟨S2x6144, .f32⟩
  | .hbm, ⟨3, _⟩ => ⟨S1x2048x6144, .f32⟩
  | .hbm, ⟨4, _⟩ => ⟨S2048x6144, .f32⟩
  | .hbm, ⟨5, _⟩ => ⟨S4096x6144, .f32⟩
  | .hbm, ⟨6, _⟩ => ⟨S1x6144, .f32⟩
  | .hbm, ⟨7, _⟩ => ⟨S6144, .f32⟩
  | .hbm, ⟨8, _⟩ => ⟨S1x6144, .f32⟩
  | .hbm, ⟨9, _⟩ => ⟨S4096x6144, .f32⟩
  | .hbm, ⟨10, _⟩ => ⟨S4096x6144, .f32⟩
  | .hbm, ⟨11, _⟩ => ⟨S4096x6144, .f32⟩
  | .hbm, ⟨12, _⟩ => ⟨S4096x6144, .f32⟩
  | .hbm, ⟨13, _⟩ => ⟨S_, .f32⟩
  | .hbm, ⟨14, _⟩ => ⟨S4096x6144, .f32⟩
  | .hbm, ⟨15, _⟩ => ⟨S4096x6144, .f32⟩
  | .hbm, ⟨16, _⟩ => ⟨S_, .f32⟩
  | .hbm, ⟨17, _⟩ => ⟨S4096x6144, .f32⟩
  | .hbm, ⟨18, _⟩ => ⟨S4096x6144, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GradIn.lean ====
abbrev S4096x2048 : Shape := ⟨2, ![4096, 2048]⟩
abbrev S4096x14336 : Shape := ⟨2, ![4096, 14336]⟩
abbrev S2048x4096 : Shape := ⟨2, ![2048, 4096]⟩
abbrev S4x2048x3584 : Shape := ⟨3, ![4, 2048, 3584]⟩
abbrev S1024x4096 : Shape := ⟨2, ![1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x14336, .f32⟩
  | .hbm, ⟨2, _⟩ => ⟨S2048x4096, .f32⟩
  | .hbm, ⟨3, _⟩ => ⟨S2048x4096, .bf16⟩
  | .hbm, ⟨4, _⟩ => ⟨S4096x14336, .bf16⟩
  | .hbm, ⟨5, _⟩ => ⟨S4x2048x3584, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 28, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradInIdeal.lean ====
abbrev S4096x2048 : Shape := ⟨2, ![4096, 2048]⟩
abbrev S4096x14336 : Shape := ⟨2, ![4096, 14336]⟩
abbrev S_ : Shape := ⟨0, ![]⟩
abbrev S2048x14336 : Shape := ⟨2, ![2048, 14336]⟩
abbrev S14336x2048 : Shape := ⟨2, ![14336, 2048]⟩
abbrev S2048x4x3584 : Shape := ⟨3, ![2048, 4, 3584]⟩
abbrev S4x2048x3584 : Shape := ⟨3, ![4, 2048, 3584]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x14336, .f32⟩
  | .hbm, ⟨2, _⟩ => ⟨S_, .f32⟩
  | .hbm, ⟨3, _⟩ => ⟨S2048x14336, .f32⟩
  | .hbm, ⟨4, _⟩ => ⟨S4096x14336, .f32⟩
  | .hbm, ⟨5, _⟩ => ⟨S14336x2048, .f32⟩
  | .hbm, ⟨6, _⟩ => ⟨S2048x14336, .f32⟩
  | .hbm, ⟨7, _⟩ => ⟨S2048x4x3584, .f32⟩
  | .hbm, ⟨8, _⟩ => ⟨S4x2048x3584, .f32⟩
  | .hbm, ⟨9, _⟩ => ⟨S4x2048x3584, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradGate.lean ====
abbrev S4096x2048 : Shape := ⟨2, ![4096, 2048]⟩
abbrev S4096x6144 : Shape := ⟨2, ![4096, 6144]⟩
abbrev S2048x4096 : Shape := ⟨2, ![2048, 4096]⟩
abbrev S4x2048x1536 : Shape := ⟨3, ![4, 2048, 1536]⟩
abbrev S1024x4096 : Shape := ⟨2, ![1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S2048x4096, .f32⟩
  | .hbm, ⟨3, _⟩ => ⟨S2048x4096, .bf16⟩
  | .hbm, ⟨4, _⟩ => ⟨S4096x6144, .bf16⟩
  | .hbm, ⟨5, _⟩ => ⟨S4x2048x1536, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradGateIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S_, .f32⟩
  | .hbm, ⟨3, _⟩ => ⟨S2048x6144, .f32⟩
  | .hbm, ⟨4, _⟩ => ⟨S4096x6144, .f32⟩
  | .hbm, ⟨5, _⟩ => ⟨S6144x2048, .f32⟩
  | .hbm, ⟨6, _⟩ => ⟨S2048x6144, .f32⟩
  | .hbm, ⟨7, _⟩ => ⟨S2048x4x1536, .f32⟩
  | .hbm, ⟨8, _⟩ => ⟨S4x2048x1536, .f32⟩
  | .hbm, ⟨9, _⟩ => ⟨S4x2048x1536, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhIn.lean ====
abbrev S4096x14336 : Shape := ⟨2, ![4096, 14336]⟩
abbrev S2x2048x14336 : Shape := ⟨3, ![2, 2048, 14336]⟩
abbrev S2x2048x4x3584 : Shape := ⟨4, ![2, 2048, 4, 3584]⟩
abbrev S4x2x2048x3584 : Shape := ⟨4, ![4, 2, 2048, 3584]⟩
abbrev S4096x2048 : Shape := ⟨2, ![4096, 2048]⟩
abbrev S1024x3584 : Shape := ⟨2, ![1024, 3584]⟩
abbrev S1x1x512x3584 : Shape := ⟨4, ![1, 1, 512, 3584]⟩
abbrev S1024x512 : Shape := ⟨2, ![1024, 512]⟩
abbrev S512x3584 : Shape := ⟨2, ![512, 3584]⟩

abbrev nBuf : Space → Nat
  | .hbm => 7
  | .vmem => 7
  | .smem => 0
  | _ => 0

abbrev bufTy : (tb : Table) → Fin (tcTables nBuf tb) → BufTy
  | .hbm, ⟨0, _⟩ => ⟨S4096x14336, .f32⟩
  | .hbm, ⟨1, _⟩ => ⟨S2x2048x14336, .f32⟩
  | .hbm, ⟨2, _⟩ => ⟨S2x2048x14336, .bf16⟩
  | .hbm, ⟨3, _⟩ => ⟨S2x2048x4x3584, .bf16⟩
  | .hbm, ⟨4, _⟩ => ⟨S4x2x2048x3584, .bf16⟩
  | .hbm, ⟨5, _⟩ => ⟨S4096x14336, .bf16⟩
  | .hbm, ⟨6, _⟩ => ⟨S4096x2048, .f32⟩
  | .local _ .vmem, ⟨0, _⟩ => ⟨S1024x3584, .bf16⟩
  | .local _ .vmem, ⟨1, _⟩ => ⟨S1024x3584, .bf16⟩
  | .local _ .vmem, ⟨2, _⟩ => ⟨S1x1x512x3584, .bf16⟩
  | .local _ .vmem, ⟨3, _⟩ => ⟨S1x1x512x3584, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhInIdeal.lean ====
abbrev S4096x14336 : Shape := ⟨2, ![4096, 14336]⟩
abbrev S2x2048x14336 : Shape := ⟨3, ![2, 2048, 14336]⟩
abbrev S_ : Shape := ⟨0, ![]⟩
abbrev S4096x2048 : Shape := ⟨2, ![4096, 2048]⟩
abbrev S1x2048x14336 : Shape := ⟨3, ![1, 2048, 14336]⟩
abbrev S2048x14336 : Shape := ⟨2, ![2048, 14336]⟩

abbrev nBuf : Space → Nat
  | .hbm => 8
  | .vmem => 0
  | .smem => 0
  | _ => 0

abbrev bufTy : (tb : Table) → Fin (tcTables nBuf tb) → BufTy
  | .hbm, ⟨0, _⟩ => ⟨S4096x14336, .f32⟩
  | .hbm, ⟨1, _⟩ => ⟨S2x2048x14336, .f32⟩
  | .hbm, ⟨2, _⟩ => ⟨S_, .f32⟩
  | .hbm, ⟨3, _⟩ => ⟨S4096x2048, .f32⟩
  | .hbm, ⟨4, _⟩ => ⟨S1x2048x14336, .f32⟩
  | .hbm, ⟨5, _⟩ => ⟨S2048x14336, .f32⟩
  | .hbm, ⟨6, _⟩ => ⟨S4096x14336, .f32⟩
  | .hbm, ⟨7, _⟩ => ⟨S4096x2048, .f32⟩
  | _, _ => ⟨S4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhGate.lean ====
abbrev S4096x6144 : Shape := ⟨2, ![4096, 6144]⟩
abbrev S2x2048x6144 : Shape := ⟨3, ![2, 2048, 6144]⟩
abbrev S4096x2048 : Shape := ⟨2, ![4096, 2048]⟩
abbrev S2x2048x4x1536 : Shape := ⟨4, ![2, 2048, 4, 1536]⟩
abbrev S4x2x2048x1536 : Shape := ⟨4, ![4, 2, 2048, 1536]⟩
abbrev S1024x1536 : Shape := ⟨2, ![1024, 1536]⟩
abbrev S1x1x512x1536 : Shape := ⟨4, ![1, 1, 512, 1536]⟩
abbrev S1024x512 : Shape := ⟨2, ![1024, 512]⟩
abbrev S512x1536 : Shape := ⟨2, ![512, 1536]⟩

abbrev nBuf : Space → Nat
  | .hbm => 8
  | .vmem => 9
  | .smem => 0
  | _ => 0

abbrev bufTy : (tb : Table) → Fin (tcTables nBuf tb) → BufTy
  | .hbm, ⟨0, _⟩ => ⟨S4096x6144, .f32⟩
  | .hbm, ⟨1, _⟩ => ⟨S2x2048x6144, .f32⟩
  | .hbm, ⟨2, _⟩ => ⟨S4096x2048, .f32⟩
  | .hbm, ⟨3, _⟩ => ⟨S2x2048x6144, .bf16⟩
  | .hbm, ⟨4, _⟩ => ⟨S2x2048x4x1536, .bf16⟩
  | .hbm, ⟨5, _⟩ => ⟨S4x2x2048x1536, .bf16⟩
  | .hbm, ⟨6, _⟩ => ⟨S4096x6144, .bf16⟩
  | .hbm, ⟨7, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x512x1536, .bf16⟩
  | .local _ .vmem, ⟨3, _⟩ => ⟨S1x1x512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDhGateIdeal.lean ====
abbrev S4096x6144 : Shape := ⟨2, ![4096, 6144]⟩
abbrev S2x2048x6144 : Shape := ⟨3, ![2, 2048, 6144]⟩
abbrev S4096x2048 : Shape := ⟨2, ![4096, 2048]⟩
abbrev S_ : Shape := ⟨0, ![]⟩
abbrev S1x2048x6144 : Shape := ⟨3, ![1, 2048, 6144]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2x2048x6144, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S1x2048x6144, .f32⟩
  | .hbm, ⟨6, _⟩ => ⟨S2048x6144, .f32⟩
  | .hbm, ⟨7, _⟩ => ⟨S4096x6144, .f32⟩
  | .hbm, ⟨8, _⟩ => ⟨S4096x2048, .f32⟩
  | .hbm, ⟨9, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gates0.lean ====
abbrev S4096x2048 : Shape := ⟨2, ![4096, 2048]⟩
abbrev S2x2048x6144 : Shape := ⟨3, ![2, 2048, 6144]⟩
abbrev S2x6144 : Shape := ⟨2, ![2, 6144]⟩
abbrev S2x2048x4x1536 : Shape := ⟨4, ![2, 2048, 4, 1536]⟩
abbrev S4x2x2048x1536 : Shape := ⟨4, ![4, 2, 2048, 1536]⟩
abbrev S1x6144 : Shape := ⟨2, ![1, 6144]⟩
abbrev S4096x6144 : Shape := ⟨2, ![4096, 6144]⟩
abbrev S1024x2048 : Shape := ⟨2, ![1024, 2048]⟩
abbrev S1x1x2048x512 : Shape := ⟨4, ![1, 1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2x2048x6144, .f32⟩
  | .hbm, ⟨2, _⟩ => ⟨S2x6144, .f32⟩
  | .hbm, ⟨3, _⟩ => ⟨S2x2048x6144, .bf16⟩
  | .hbm, ⟨4, _⟩ => ⟨S2x2048x4x1536, .bf16⟩
  | .hbm, ⟨5, _⟩ => ⟨S4x2x2048x1536, .bf16⟩
  | .hbm, ⟨6, _⟩ => ⟨S4096x2048, .bf16⟩
  | .hbm, ⟨7, _⟩ => ⟨S1x6144, .f32⟩
  | .hbm, ⟨8, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefGates0Ideal.lean ====
abbrev S4096x2048 : Shape := ⟨2, ![4096, 2048]⟩
abbrev S2x2048x6144 : Shape := ⟨3, ![2, 2048, 6144]⟩
abbrev S2x6144 : Shape := ⟨2, ![2, 6144]⟩
abbrev S1x2048x6144 : Shape := ⟨3, ![1, 2048, 6144]⟩
abbrev S2048x6144 : Shape := ⟨2, ![2048, 6144]⟩
abbrev S4096x6144 : Shape := ⟨2, ![4096, 6144]⟩
abbrev S1x6144 : Shape := ⟨2, ![1, 6144]⟩
abbrev S6144 : Shape := ⟨1, ![6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x6144, .f32⟩
  | .hbm, ⟨2, _⟩ => ⟨S2x6144, .f32⟩
  | .hbm, ⟨3, _⟩ => ⟨S1x2048x6144, .f32⟩
  | .hbm, ⟨4, _⟩ => ⟨S2048x6144, .f32⟩
  | .hbm, ⟨5, _⟩ => ⟨S4096x6144, .f32⟩
  | .hbm, ⟨6, _⟩ => ⟨S1x6144, .f32⟩
  | .hbm, ⟨7, _⟩ => ⟨S6144, .f32⟩
  | .hbm, ⟨8, _⟩ => ⟨S1x6144, .f32⟩
  | .hbm, ⟨9, _⟩ => ⟨S4096x6144, .f32⟩
  | .hbm, ⟨10, _⟩ => ⟨S4096x6144, .f32⟩
  | .hbm, ⟨11, _⟩ => ⟨S4096x6144, .f32⟩
  | .hbm, ⟨12, _⟩ => ⟨S4096x6144, .f32⟩
  | .hbm, ⟨13, _⟩ => ⟨S_, .f32⟩
  | .hbm, ⟨14, _⟩ => ⟨S4096x6144, .f32⟩
  | .hbm, ⟨15, _⟩ => ⟨S4096x6144, .f32⟩
  | .hbm, ⟨16, _⟩ => ⟨S_, .f32⟩
  | .hbm, ⟨17, _⟩ => ⟨S4096x6144, .f32⟩
  | .hbm, ⟨18, _⟩ => ⟨S4096x6144, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DhIn0.lean ====
abbrev S4096x14336 : Shape := ⟨2, ![4096, 14336]⟩
abbrev S2x2048x14336 : Shape := ⟨3, ![2, 2048, 14336]⟩
abbrev S2x2048x4x3584 : Shape := ⟨4, ![2, 2048, 4, 3584]⟩
abbrev S4x2x2048x3584 : Shape := ⟨4, ![4, 2, 2048, 3584]⟩
abbrev S4096x2048 : Shape := ⟨2, ![4096, 2048]⟩
abbrev S1024x3584 : Shape := ⟨2, ![1024, 3584]⟩
abbrev S1x1x512x3584 : Shape := ⟨4, ![1, 1, 512, 3584]⟩
abbrev S1024x512 : Shape := ⟨2, ![1024, 512]⟩
abbrev S512x3584 : Shape := ⟨2, ![512, 3584]⟩

abbrev nBuf : Space → Nat
  | .hbm => 7
  | .vmem => 7
  | .smem => 0
  | _ => 0

abbrev bufTy : (tb : Table) → Fin (tcTables nBuf tb) → BufTy
  | .hbm, ⟨0, _⟩ => ⟨S4096x14336, .f32⟩
  | .hbm, ⟨1, _⟩ => ⟨S2x2048x14336, .f32⟩
  | .hbm, ⟨2, _⟩ => ⟨S2x2048x14336, .bf16⟩
  | .hbm, ⟨3, _⟩ => ⟨S2x2048x4x3584, .bf16⟩
  | .hbm, ⟨4, _⟩ => ⟨S4x2x2048x3584, .bf16⟩
  | .hbm, ⟨5, _⟩ => ⟨S4096x14336, .bf16⟩
  | .hbm, ⟨6, _⟩ => ⟨S4096x2048, .f32⟩
  | .local _ .vmem, ⟨0, _⟩ => ⟨S1024x3584, .bf16⟩
  | .local _ .vmem, ⟨1, _⟩ => ⟨S1024x3584, .bf16⟩
  | .local _ .vmem, ⟨2, _⟩ => ⟨S1x1x512x3584, .bf16⟩
  | .local _ .vmem, ⟨3, _⟩ => ⟨S1x1x512x3584, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhIn0Ideal.lean ====
abbrev S4096x14336 : Shape := ⟨2, ![4096, 14336]⟩
abbrev S2x2048x14336 : Shape := ⟨3, ![2, 2048, 14336]⟩
abbrev S_ : Shape := ⟨0, ![]⟩
abbrev S4096x2048 : Shape := ⟨2, ![4096, 2048]⟩
abbrev S1x2048x14336 : Shape := ⟨3, ![1, 2048, 14336]⟩
abbrev S2048x14336 : Shape := ⟨2, ![2048, 14336]⟩

abbrev nBuf : Space → Nat
  | .hbm => 8
  | .vmem => 0
  | .smem => 0
  | _ => 0

abbrev bufTy : (tb : Table) → Fin (tcTables nBuf tb) → BufTy
  | .hbm, ⟨0, _⟩ => ⟨S4096x14336, .f32⟩
  | .hbm, ⟨1, _⟩ => ⟨S2x2048x14336, .f32⟩
  | .hbm, ⟨2, _⟩ => ⟨S_, .f32⟩
  | .hbm, ⟨3, _⟩ => ⟨S4096x2048, .f32⟩
  | .hbm, ⟨4, _⟩ => ⟨S1x2048x14336, .f32⟩
  | .hbm, ⟨5, _⟩ => ⟨S2048x14336, .f32⟩
  | .hbm, ⟨6, _⟩ => ⟨S4096x14336, .f32⟩
  | .hbm, ⟨7, _⟩ => ⟨S4096x2048, .f32⟩
  | _, _ => ⟨S4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhGate0.lean ====
abbrev S4096x6144 : Shape := ⟨2, ![4096, 6144]⟩
abbrev S2x2048x6144 : Shape := ⟨3, ![2, 2048, 6144]⟩
abbrev S4096x2048 : Shape := ⟨2, ![4096, 2048]⟩
abbrev S2x2048x4x1536 : Shape := ⟨4, ![2, 2048, 4, 1536]⟩
abbrev S4x2x2048x1536 : Shape := ⟨4, ![4, 2, 2048, 1536]⟩
abbrev S1024x1536 : Shape := ⟨2, ![1024, 1536]⟩
abbrev S1x1x512x1536 : Shape := ⟨4, ![1, 1, 512, 1536]⟩
abbrev S1024x512 : Shape := ⟨2, ![1024, 512]⟩
abbrev S512x1536 : Shape := ⟨2, ![512, 1536]⟩

abbrev nBuf : Space → Nat
  | .hbm => 8
  | .vmem => 9
  | .smem => 0
  | _ => 0

abbrev bufTy : (tb : Table) → Fin (tcTables nBuf tb) → BufTy
  | .hbm, ⟨0, _⟩ => ⟨S4096x6144, .f32⟩
  | .hbm, ⟨1, _⟩ => ⟨S2x2048x6144, .f32⟩
  | .hbm, ⟨2, _⟩ => ⟨S4096x2048, .f32⟩
  | .hbm, ⟨3, _⟩ => ⟨S2x2048x6144, .bf16⟩
  | .hbm, ⟨4, _⟩ => ⟨S2x2048x4x1536, .bf16⟩
  | .hbm, ⟨5, _⟩ => ⟨S4x2x2048x1536, .bf16⟩
  | .hbm, ⟨6, _⟩ => ⟨S4096x6144, .bf16⟩
  | .hbm, ⟨7, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x512x1536, .bf16⟩
  | .local _ .vmem, ⟨3, _⟩ => ⟨S1x1x512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDhGate0Ideal.lean ====
abbrev S4096x6144 : Shape := ⟨2, ![4096, 6144]⟩
abbrev S2x2048x6144 : Shape := ⟨3, ![2, 2048, 6144]⟩
abbrev S4096x2048 : Shape := ⟨2, ![4096, 2048]⟩
abbrev S_ : Shape := ⟨0, ![]⟩
abbrev S1x2048x6144 : Shape := ⟨3, ![1, 2048, 6144]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2x2048x6144, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S1x2048x6144, .f32⟩
  | .hbm, ⟨6, _⟩ => ⟨S2048x6144, .f32⟩
  | .hbm, ⟨7, _⟩ => ⟨S4096x6144, .f32⟩
  | .hbm, ⟨8, _⟩ => ⟨S4096x2048, .f32⟩
  | .hbm, ⟨9, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GradRow.lean ====
abbrev S4096x2048 : Shape := ⟨2, ![4096, 2048]⟩
abbrev S4x512x2048 : Shape := ⟨3, ![4, 512, 2048]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S4x512x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradRowIdeal.lean ====
abbrev S4096x2048 : Shape := ⟨2, ![4096, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S4x512x2048, .f32⟩
  | .hbm, ⟨8, _⟩ => ⟨S4x512x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamIn.lean ====
abbrev S2x2048x3584 : Shape := ⟨3, ![2, 2048, 3584]⟩
abbrev S4096x3584 : Shape := ⟨2, ![4096, 3584]⟩
abbrev S512x896 : Shape := ⟨2, ![512, 896]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3584, .f32⟩
  | .hbm, ⟨1, _⟩ => ⟨S2x2048x3584, .f32⟩
  | .hbm, ⟨2, _⟩ => ⟨S2x2048x3584, .f32⟩
  | .hbm, ⟨3, _⟩ => ⟨S2x2048x3584, .f32⟩
  | .hbm, ⟨4, _⟩ => ⟨S4096x3584, .f32⟩
  | .hbm, ⟨5, _⟩ => ⟨S4096x3584, .f32⟩
  | .hbm, ⟨6, _⟩ => ⟨S4096x3584, .f32⟩
  | .hbm, ⟨7, _⟩ => ⟨S4096x3584, .f32⟩
  | .hbm, ⟨8, _⟩ => ⟨S4096x3584, .f32⟩
  | .hbm, ⟨9, _⟩ => ⟨S4096x3584, .f32⟩
  | .hbm, ⟨10, _⟩ => ⟨S4096x3584, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | _, _ => ⟨S2x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInIdeal.lean ====
abbrev S2x2048x3584 : Shape := ⟨3, ![2, 2048, 3584]⟩
abbrev S4096x3584 : Shape := ⟨2, ![4096, 3584]⟩
abbrev S512x896 : Shape := ⟨2, ![512, 896]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3584, .f32⟩
  | .hbm, ⟨1, _⟩ => ⟨S2x2048x3584, .f32⟩
  | .hbm, ⟨2, _⟩ => ⟨S2x2048x3584, .f32⟩
  | .hbm, ⟨3, _⟩ => ⟨S2x2048x3584, .f32⟩
  | .hbm, ⟨4, _⟩ => ⟨S4096x3584, .f32⟩
  | .hbm, ⟨5, _⟩ => ⟨S4096x3584, .f32⟩
  | .hbm, ⟨6, _⟩ => ⟨S4096x3584, .f32⟩
  | .hbm, ⟨7, _⟩ => ⟨S4096x3584, .f32⟩
  | .hbm, ⟨8, _⟩ => ⟨S4096x3584, .f32⟩
  | .hbm, ⟨9, _⟩ => ⟨S4096x3584, .f32⟩
  | .hbm, ⟨10, _⟩ => ⟨S4096x3584, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | _, _ => ⟨S2x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamInIdeal.lean ====
abbrev S2x2048x3584 : Shape := ⟨3, ![2, 2048, 3584]⟩
abbrev S_ : Shape := ⟨0, ![]⟩
abbrev S4096x3584 : Shape := ⟨2, ![4096, 3584]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x3584, .f32⟩
  | .hbm, ⟨1, _⟩ => ⟨S2x2048x3584, .f32⟩
  | .hbm, ⟨2, _⟩ => ⟨S2x2048x3584, .f32⟩
  | .hbm, ⟨3, _⟩ => ⟨S2x2048x3584, .f32⟩
  | .hbm, ⟨4, _⟩ => ⟨S_, .f32⟩
  | .hbm, ⟨5, _⟩ => ⟨S2x2048x3584, .f32⟩
  | .hbm, ⟨6, _⟩ => ⟨S2x2048x3584, .f32⟩
  | .hbm, ⟨7, _⟩ => ⟨S_, .f32⟩
  | .hbm, ⟨8, _⟩ => ⟨S2x2048x3584, .f32⟩
  | .hbm, ⟨9, _⟩ => ⟨S2x2048x3584, .f32⟩
  | .hbm, ⟨10, _⟩ => ⟨S2x2048x3584, .f32⟩
  | .hbm, ⟨11, _⟩ => ⟨S_, .f32⟩
  | .hbm, ⟨12, _⟩ => ⟨S2x2048x3584, .f32⟩
  | .hbm, ⟨13, _⟩ => ⟨S2x2048x3584, .f32⟩
  | .hbm, ⟨14, _⟩ => ⟨S2x2048x3584, .f32⟩
  | .hbm, ⟨15, _⟩ => ⟨S_, .f32⟩
  | .hbm, ⟨16, _⟩ => ⟨S2x2048x3584, .f32⟩
  | .hbm, ⟨17, _⟩ => ⟨S2x2048x3584, .f32⟩
  | .hbm, ⟨18, _⟩ => ⟨S2x2048x3584, .f32⟩
  | .hbm, ⟨19, _⟩ => ⟨S_, .f32⟩
  | .hbm, ⟨20, _⟩ => ⟨S2x2048x3584, .f32⟩
  | .hbm, ⟨21, _⟩ => ⟨S2x2048x3584, .f32⟩
  | .hbm, ⟨22, _⟩ => ⟨S_, .f32⟩
  | .hbm, ⟨23, _⟩ => ⟨S2x2048x3584, .f32⟩
  | .hbm, ⟨24, _⟩ => ⟨S2x2048x3584, .f32⟩
  | .hbm, ⟨25, _⟩ => ⟨S2x2048x3584, .f32⟩
  | .hbm, ⟨26, _⟩ => ⟨S_, .f32⟩
  | .hbm, ⟨27, _⟩ => ⟨S2x2048x3584, .f32⟩
  | .hbm, ⟨28, _⟩ => ⟨S2x2048x3584, .f32⟩
  | .hbm, ⟨29, _⟩ => ⟨S2x2048x3584, .f32⟩
  | .hbm, ⟨30, _⟩ => ⟨S_, .f32⟩
  | .hbm, ⟨31, _⟩ => ⟨S2x2048x3584, .f32⟩
  | .hbm, ⟨32, _⟩ => ⟨S2x2048x3584, .f32⟩
  | .hbm, ⟨33, _⟩ => ⟨S2x2048x3584, .f32⟩
  | .hbm, ⟨34, _⟩ => ⟨S_, .f32⟩
  | .hbm, ⟨35, _⟩ => ⟨S2x2048x3584, .f32⟩
  | .hbm, ⟨36, _⟩ => ⟨S2x2048x3584, .f32⟩
  | .hbm, ⟨37, _⟩ => ⟨S4096x3584, .f32⟩
  | .hbm, ⟨38, _⟩ => ⟨S4096x3584, .f32⟩
  | .hbm, ⟨39, _⟩ => ⟨S4096x3584, .f32⟩
  | _, _ => ⟨S2x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGate.lean ====
abbrev S2x2048x1536 : Shape := ⟨3, ![2, 2048, 1536]⟩
abbrev S4096x1536 : Shape := ⟨2, ![4096, 1536]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamGateIdeal.lean ====
abbrev S2x2048x1536 : Shape := ⟨3, ![2, 2048, 1536]⟩
abbrev S4096x1536 : Shape := ⟨2, ![4096, 1536]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamGateIdeal.lean ====
abbrev S2x2048x1536 : Shape := ⟨3, ![2, 2048, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S_, .f32⟩
  | .hbm, ⟨5, _⟩ => ⟨S2x2048x1536, .f32⟩
  | .hbm, ⟨6, _⟩ => ⟨S2x2048x1536, .f32⟩
  | .hbm, ⟨7, _⟩ => ⟨S_, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S_, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamBranchIdeal.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamBranchIdeal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S2x512x2048 : Shape := ⟨3, ![2, 512, 2048]⟩
abbrev S1024x2048 : Shape := ⟨2, ![1024, 2048]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutIdeal.lean ====
abbrev S2x512x2048 : Shape := ⟨3, ![2, 512, 2048]⟩
abbrev S1024x2048 : Shape := ⟨2, ![1024, 2048]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamOutIdeal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBias.lean ====
abbrev S2x6144 : Shape := ⟨2, ![2, 6144]⟩
abbrev S2x1024 : Shape := ⟨2, ![2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamBiasIdeal.lean ====
abbrev S2x6144 : Shape := ⟨2, ![2, 6144]⟩
abbrev S2x1024 : Shape := ⟨2, ![2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamBiasIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S2x2048 : Shape := ⟨2, ![2, 2048]⟩
abbrev S2x1024 : Shape := ⟨2, ![2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamNormIdeal.lean ====
abbrev S2x2048 : Shape := ⟨2, ![2, 2048]⟩
abbrev S2x1024 : Shape := ⟨2, ![2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamNormIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamScale.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamScaleIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== RefAdamScaleIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFinal.lean ====
abbrev S2048 : Shape := ⟨1, ![2048]⟩
abbrev S1x2048 : Shape := ⟨2, ![1, 2048]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamFinalIdeal.lean ====
abbrev S2048 : Shape := ⟨1, ![2048]⟩
abbrev S1x2048 : Shape := ⟨2, ![1, 2048]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAdamFinalIdeal.lean ====
abbrev S2048 : Shape := ⟨1, ![2048]⟩
abbrev S_ : Shape := ⟨0, ![]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamConvIdeal.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== RefAdamConvIdeal.lean ====
abbrev S2x3x256 : Shape := ⟨3, ![2, 3, 256]⟩
abbrev S_ : Shape := ⟨0, ![]⟩
abbrev S6x256 : Shape := ⟨2, ![6, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S6x256, .f32⟩
  | .hbm, ⟨38, _⟩ => ⟨S6x256, .f32⟩
  | .hbm, ⟨39, _⟩ => ⟨S6x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPool.lean ====
abbrev S2x4x64x256 : Shape := ⟨4, ![2, 4, 64, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== RefAdamPoolIdeal.lean ====
abbrev S2x4x64x256 : Shape := ⟨4, ![2, 4, 64, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S_, .f32⟩
  | .hbm, ⟨5, _⟩ => ⟨S2x4x64x256, .f32⟩
  | .hbm, ⟨6, _⟩ => ⟨S2x4x64x256, .f32⟩
  | .hbm, ⟨7, _⟩ => ⟨S_, .f32⟩
  | .hbm, ⟨8, _⟩ => ⟨S2x4x64x256, .f32⟩
  | .hbm, ⟨9, _⟩ => ⟨S2x4x64x256, .f32⟩
  | .hbm, ⟨10, _⟩ => ⟨S2x4x64x256, .f32⟩
  | .hbm, ⟨11, _⟩ => ⟨S_, .f32⟩
  | .hbm, ⟨12, _⟩ => ⟨S2x4x64x256, .f32⟩
  | .hbm, ⟨13, _⟩ => ⟨S2x4x64x256, .f32⟩
  | .hbm, ⟨14, _⟩ => ⟨S2x4x64x256, .f32⟩
  | .hbm, ⟨15, _⟩ => ⟨S_, .f32⟩
  | .hbm, ⟨16, _⟩ => ⟨S2x4x64x256, .f32⟩
  | .hbm, ⟨17, _⟩ => ⟨S2x4x64x256, .f32⟩
  | .hbm, ⟨18, _⟩ => ⟨S2x4x64x256, .f32⟩
  | .hbm, ⟨19, _⟩ => ⟨S_, .f32⟩
  | .hbm, ⟨20, _⟩ => ⟨S2x4x64x256, .f32⟩
  | .hbm, ⟨21, _⟩ => ⟨S2x4x64x256, .f32⟩
  | .hbm, ⟨22, _⟩ => ⟨S_, .f32⟩
  | .hbm, ⟨23, _⟩ => ⟨S2x4x64x256, .f32⟩
  | .hbm, ⟨24, _⟩ => ⟨S2x4x64x256, .f32⟩
  | .hbm, ⟨25, _⟩ => ⟨S2x4x64x256, .f32⟩
  | .hbm, ⟨26, _⟩ => ⟨S_, .f32⟩
  | .hbm, ⟨27, _⟩ => ⟨S2x4x64x256, .f32⟩
  | .hbm, ⟨28, _⟩ => ⟨S2x4x64x256, .f32⟩
  | .hbm, ⟨29, _⟩ => ⟨S2x4x64x256, .f32⟩
  | .hbm, ⟨30, _⟩ => ⟨S_, .f32⟩
  | .hbm, ⟨31, _⟩ => ⟨S2x4x64x256, .f32⟩
  | .hbm, ⟨32, _⟩ => ⟨S2x4x64x256, .f32⟩
  | .hbm, ⟨33, _⟩ => ⟨S2x4x64x256, .f32⟩
  | .hbm, ⟨34, _⟩ => ⟨S_, .f32⟩
  | .hbm, ⟨35, _⟩ => ⟨S2x4x64x256, .f32⟩
  | .hbm, ⟨36, _⟩ => ⟨S2x4x64x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== GradCol.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S4x1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradColIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DRow.lean ====
abbrev S4096x2048 : Shape := ⟨2, ![4096, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S2x2048x2048, .bf16⟩
  | .hbm, ⟨3, _⟩ => ⟨S2x4x512x2048, .bf16⟩
  | .hbm, ⟨4, _⟩ => ⟨S4x2x512x2048, .bf16⟩
  | .hbm, ⟨5, _⟩ => ⟨S4096x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDRowIdeal.lean ====
abbrev S4096x2048 : Shape := ⟨2, ![4096, 2048]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S_, .f32⟩
  | .hbm, ⟨3, _⟩ => ⟨S4096x2048, .f32⟩
  | .hbm, ⟨4, _⟩ => ⟨S1x2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DRow0.lean ====
abbrev S4096x2048 : Shape := ⟨2, ![4096, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S2x2048x2048, .bf16⟩
  | .hbm, ⟨3, _⟩ => ⟨S2x4x512x2048, .bf16⟩
  | .hbm, ⟨4, _⟩ => ⟨S4x2x512x2048, .bf16⟩
  | .hbm, ⟨5, _⟩ => ⟨S4096x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDRow0Ideal.lean ====
abbrev S4096x2048 : Shape := ⟨2, ![4096, 2048]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S_, .f32⟩
  | .hbm, ⟨3, _⟩ => ⟨S4096x2048, .f32⟩
  | .hbm, ⟨4, _⟩ => ⟨S1x2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCol.lean ====
abbrev S4096x2048 : Shape := ⟨2, ![4096, 2048]⟩
abbrev S2x1024x2048 : Shape := ⟨3, ![2, 1024, 2048]⟩
abbrev S2x1024x4x512 : Shape := ⟨4, ![2, 1024, 4, 512]⟩
abbrev S4x2x1024x512 : Shape := ⟨4, ![4, 2, 1024, 512]⟩
abbrev S4096x1024 : Shape := ⟨2, ![4096, 1024]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x1024x2048, .f32⟩
  | .hbm, ⟨2, _⟩ => ⟨S2x1024x2048, .bf16⟩
  | .hbm, ⟨3, _⟩ => ⟨S2x1024x4x512, .bf16⟩
  | .hbm, ⟨4, _⟩ => ⟨S4x2x1024x512, .bf16⟩
  | .hbm, ⟨5, _⟩ => ⟨S4096x2048, .bf16⟩
  | .hbm, ⟨6, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDColIdeal.lean ====
abbrev S4096x2048 : Shape := ⟨2, ![4096, 2048]⟩
abbrev S2x1024x2048 : Shape := ⟨3, ![2, 1024, 2048]⟩
abbrev S_ : Shape := ⟨0, ![]⟩
abbrev S4096x1024 : Shape := ⟨2, ![4096, 1024]⟩
abbrev S1x1024x2048 : Shape := ⟨3, ![1, 1024, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x1024x2048, .f32⟩
  | .hbm, ⟨2, _⟩ => ⟨S_, .f32⟩
  | .hbm, ⟨3, _⟩ => ⟨S4096x1024, .f32⟩
  | .hbm, ⟨4, _⟩ => ⟨S1x1024x2048, .f32⟩
  | .hbm, ⟨5, _⟩ => ⟨S1024x2048, .f32⟩
  | .hbm, ⟨6, _⟩ => ⟨S4096x2048, .f32⟩
  | .hbm, ⟨7, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCol0.lean ====
abbrev S4096x2048 : Shape := ⟨2, ![4096, 2048]⟩
abbrev S2x1024x2048 : Shape := ⟨3, ![2, 1024, 2048]⟩
abbrev S2x1024x4x512 : Shape := ⟨4, ![2, 1024, 4, 512]⟩
abbrev S4x2x1024x512 : Shape := ⟨4, ![4, 2, 1024, 512]⟩
abbrev S4096x1024 : Shape := ⟨2, ![4096, 1024]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x1024x2048, .f32⟩
  | .hbm, ⟨2, _⟩ => ⟨S2x1024x2048, .bf16⟩
  | .hbm, ⟨3, _⟩ => ⟨S2x1024x4x512, .bf16⟩
  | .hbm, ⟨4, _⟩ => ⟨S4x2x1024x512, .bf16⟩
  | .hbm, ⟨5, _⟩ => ⟨S4096x2048, .bf16⟩
  | .hbm, ⟨6, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDCol0Ideal.lean ====
abbrev S4096x2048 : Shape := ⟨2, ![4096, 2048]⟩
abbrev S2x1024x2048 : Shape := ⟨3, ![2, 1024, 2048]⟩
abbrev S_ : Shape := ⟨0, ![]⟩
abbrev S4096x1024 : Shape := ⟨2, ![4096, 1024]⟩
abbrev S1x1024x2048 : Shape := ⟨3, ![1, 1024, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x1024x2048, .f32⟩
  | .hbm, ⟨2, _⟩ => ⟨S_, .f32⟩
  | .hbm, ⟨3, _⟩ => ⟨S4096x1024, .f32⟩
  | .hbm, ⟨4, _⟩ => ⟨S1x1024x2048, .f32⟩
  | .hbm, ⟨5, _⟩ => ⟨S1024x2048, .f32⟩
  | .hbm, ⟨6, _⟩ => ⟨S4096x2048, .f32⟩
  | .hbm, ⟨7, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchA.lean ====
abbrev S4096x1024 : Shape := ⟨2, ![4096, 1024]⟩
abbrev S2x1024x2048 : Shape := ⟨3, ![2, 1024, 2048]⟩
abbrev S2x1024x4x512 : Shape := ⟨4, ![2, 1024, 4, 512]⟩
abbrev S4x2x1024x512 : Shape := ⟨4, ![4, 2, 1024, 512]⟩
abbrev S4096x2048 : Shape := ⟨2, ![4096, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S2x1024x2048, .bf16⟩
  | .hbm, ⟨3, _⟩ => ⟨S2x1024x4x512, .bf16⟩
  | .hbm, ⟨4, _⟩ => ⟨S4x2x1024x512, .bf16⟩
  | .hbm, ⟨5, _⟩ => ⟨S4096x1024, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchAIdeal.lean ====
abbrev S4096x1024 : Shape := ⟨2, ![4096, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchA0.lean ====
abbrev S4096x1024 : Shape := ⟨2, ![4096, 1024]⟩
abbrev S2x1024x2048 : Shape := ⟨3, ![2, 1024, 2048]⟩
abbrev S2x1024x4x512 : Shape := ⟨4, ![2, 1024, 4, 512]⟩
abbrev S4x2x1024x512 : Shape := ⟨4, ![4, 2, 1024, 512]⟩
abbrev S4096x2048 : Shape := ⟨2, ![4096, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S2x1024x2048, .bf16⟩
  | .hbm, ⟨3, _⟩ => ⟨S2x1024x4x512, .bf16⟩
  | .hbm, ⟨4, _⟩ => ⟨S4x2x1024x512, .bf16⟩
  | .hbm, ⟨5, _⟩ => ⟨S4096x1024, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchA0Ideal.lean ====
abbrev S4096x1024 : Shape := ⟨2, ![4096, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchB.lean ====
abbrev S4096x2048 : Shape := ⟨2, ![4096, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S2x2048x2048, .bf16⟩
  | .hbm, ⟨3, _⟩ => ⟨S2x4x512x2048, .bf16⟩
  | .hbm, ⟨4, _⟩ => ⟨S4x2x512x2048, .bf16⟩
  | .hbm, ⟨5, _⟩ => ⟨S4096x2048, .bf16⟩
  | .hbm, ⟨6, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchBIdeal.lean ====
abbrev S4096x2048 : Shape := ⟨2, ![4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchB0.lean ====
abbrev S4096x2048 : Shape := ⟨2, ![4096, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S2x2048x2048, .bf16⟩
  | .hbm, ⟨3, _⟩ => ⟨S2x4x512x2048, .bf16⟩
  | .hbm, ⟨4, _⟩ => ⟨S4x2x512x2048, .bf16⟩
  | .hbm, ⟨5, _⟩ => ⟨S4096x2048, .bf16⟩
  | .hbm, ⟨6, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchB0Ideal.lean ====
abbrev S4096x2048 : Shape := ⟨2, ![4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchC.lean ====
abbrev S4096x1024 : Shape := ⟨2, ![4096, 1024]⟩
abbrev S2x1024x2048 : Shape := ⟨3, ![2, 1024, 2048]⟩
abbrev S4096x6144 : Shape := ⟨2, ![4096, 6144]⟩
abbrev S4096x2048 : Shape := ⟨2, ![4096, 2048]⟩
abbrev S2x1024x4x512 : Shape := ⟨4, ![2, 1024, 4, 512]⟩
abbrev S4x2x1024x512 : Shape := ⟨4, ![4, 2, 1024, 512]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S2x1024x2048, .bf16⟩
  | .hbm, ⟨6, _⟩ => ⟨S2x1024x4x512, .bf16⟩
  | .hbm, ⟨7, _⟩ => ⟨S4x2x1024x512, .bf16⟩
  | .hbm, ⟨8, _⟩ => ⟨S4096x1024, .bf16⟩
  | .hbm, ⟨9, _⟩ => ⟨S4096x2048, .f32⟩
  | .hbm, ⟨10, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== RefBranchCIdeal.lean ====
abbrev S4096x1024 : Shape := ⟨2, ![4096, 1024]⟩
abbrev S2x1024x2048 : Shape := ⟨3, ![2, 1024, 2048]⟩
abbrev S4096x6144 : Shape := ⟨2, ![4096, 6144]⟩
abbrev S4096x2048 : Shape := ⟨2, ![4096, 2048]⟩
abbrev S1x1024x2048 : Shape := ⟨3, ![1, 1024, 2048]⟩
abbrev S1024x2048 : Shape := ⟨2, ![1024, 2048]⟩
abbrev S4096x3x2048 : Shape := ⟨3, ![4096, 3, 2048]⟩
abbrev S4096x1x2048 : Shape := ⟨3, ![4096, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S1x1024x2048, .f32⟩
  | .hbm, ⟨6, _⟩ => ⟨S1024x2048, .f32⟩
  | .hbm, ⟨7, _⟩ => ⟨S4096x2048, .f32⟩
  | .hbm, ⟨8, _⟩ => ⟨S4096x3x2048, .f32⟩
  | .hbm, ⟨9, _⟩ => ⟨S4096x1x2048, .f32⟩
  | .hbm, ⟨10, _⟩ => ⟨S4096x2048, .f32⟩
  | .hbm, ⟨11, _⟩ => ⟨S4096x2048, .f32⟩
  | .hbm, ⟨12, _⟩ => ⟨S4096x1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== BranchC0.lean ====
abbrev S4096x1024 : Shape := ⟨2, ![4096, 1024]⟩
abbrev S2x1024x2048 : Shape := ⟨3, ![2, 1024, 2048]⟩
abbrev S4096x6144 : Shape := ⟨2, ![4096, 6144]⟩
abbrev S4096x2048 : Shape := ⟨2, ![4096, 2048]⟩
abbrev S2x1024x4x512 : Shape := ⟨4, ![2, 1024, 4, 512]⟩
abbrev S4x2x1024x512 : Shape := ⟨4, ![4, 2, 1024, 512]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S2x1024x2048, .bf16⟩
  | .hbm, ⟨6, _⟩ => ⟨S2x1024x4x512, .bf16⟩
  | .hbm, ⟨7, _⟩ => ⟨S4x2x1024x512, .bf16⟩
  | .hbm, ⟨8, _⟩ => ⟨S4096x1024, .bf16⟩
  | .hbm, ⟨9, _⟩ => ⟨S4096x2048, .f32⟩
  | .hbm, ⟨10, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== RefBranchC0Ideal.lean ====
abbrev S4096x1024 : Shape := ⟨2, ![4096, 1024]⟩
abbrev S2x1024x2048 : Shape := ⟨3, ![2, 1024, 2048]⟩
abbrev S4096x6144 : Shape := ⟨2, ![4096, 6144]⟩
abbrev S4096x2048 : Shape := ⟨2, ![4096, 2048]⟩
abbrev S1x1024x2048 : Shape := ⟨3, ![1, 1024, 2048]⟩
abbrev S1024x2048 : Shape := ⟨2, ![1024, 2048]⟩
abbrev S4096x3x2048 : Shape := ⟨3, ![4096, 3, 2048]⟩
abbrev S4096x1x2048 : Shape := ⟨3, ![4096, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S1x1024x2048, .f32⟩
  | .hbm, ⟨6, _⟩ => ⟨S1024x2048, .f32⟩
  | .hbm, ⟨7, _⟩ => ⟨S4096x2048, .f32⟩
  | .hbm, ⟨8, _⟩ => ⟨S4096x3x2048, .f32⟩
  | .hbm, ⟨9, _⟩ => ⟨S4096x1x2048, .f32⟩
  | .hbm, ⟨10, _⟩ => ⟨S4096x2048, .f32⟩
  | .hbm, ⟨11, _⟩ => ⟨S4096x2048, .f32⟩
  | .hbm, ⟨12, _⟩ => ⟨S4096x1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== OutProj.lean ====
abbrev S4096x2048 : Shape := ⟨2, ![4096, 2048]⟩
abbrev S2x2048x2048 : Shape := ⟨3, ![2, 2048, 2048]⟩
abbrev S1x2048 : Shape := ⟨2, ![1, 2048]⟩
abbrev S2x4x512x2048 : Shape := ⟨4, ![2, 4, 512, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S1x512 : Shape := ⟨2, ![1, 512]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S4096x2048, .f32⟩
  | .hbm, ⟨3, _⟩ => ⟨S1x2048, .f32⟩
  | .hbm, ⟨4, _⟩ => ⟨S2x2048x2048, .bf16⟩
  | .hbm, ⟨5, _⟩ => ⟨S2x4x512x2048, .bf16⟩
  | .hbm, ⟨6, _⟩ => ⟨S4x2x512x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutProjIdeal.lean ====
abbrev S4096x2048 : Shape := ⟨2, ![4096, 2048]⟩
abbrev S2x2048x2048 : Shape := ⟨3, ![2, 2048, 2048]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S4096x2048, .f32⟩
  | .hbm, ⟨3, _⟩ => ⟨S1x2048, .f32⟩
  | .hbm, ⟨4, _⟩ => ⟨S1x2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutProj0.lean ====
abbrev S4096x2048 : Shape := ⟨2, ![4096, 2048]⟩
abbrev S2x2048x2048 : Shape := ⟨3, ![2, 2048, 2048]⟩
abbrev S1x2048 : Shape := ⟨2, ![1, 2048]⟩
abbrev S2x4x512x2048 : Shape := ⟨4, ![2, 4, 512, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S1x512 : Shape := ⟨2, ![1, 512]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S4096x2048, .f32⟩
  | .hbm, ⟨3, _⟩ => ⟨S1x2048, .f32⟩
  | .hbm, ⟨4, _⟩ => ⟨S2x2048x2048, .bf16⟩
  | .hbm, ⟨5, _⟩ => ⟨S2x4x512x2048, .bf16⟩
  | .hbm, ⟨6, _⟩ => ⟨S4x2x512x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutProj0Ideal.lean ====
abbrev S4096x2048 : Shape := ⟨2, ![4096, 2048]⟩
abbrev S2x2048x2048 : Shape := ⟨3, ![2, 2048, 2048]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S4096x2048, .f32⟩
  | .hbm, ⟨3, _⟩ => ⟨S1x2048, .f32⟩
  | .hbm, ⟨4, _⟩ => ⟨S1x2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Entries.lean ====
/- Arrays of extended reals by natural indices, and sums cut into blocks. -/
module

public import Idealize.ShloMosaic.Lib.Pointwise
public import Idealize.ShloMosaic.Lib.ValueIdx

@[expose] public section

noncomputable section

namespace Cert.Proof

open Idealize.ShloMosaic Idealize.ShloMosaic.Pointwise Finset

/-- The entry of `X` at natural indices, zero outside. -/
def ent2 {m n : ℕ} (X : Shape.Idx ⟨2, ![m, n]⟩ → EReal) (a b : ℕ) : EReal :=
  if h : a < m ∧ b < n then X (ix2 ⟨a, h.1⟩ ⟨b, h.2⟩) else 0

/-- The entry of the layer `l` of `X` at natural indices, zero outside. -/
def ent3 {k m n : ℕ} (X : Shape.Idx ⟨3, ![k, m, n]⟩ → EReal) (l a b : ℕ) : EReal :=
  if h : l < k ∧ a < m ∧ b < n then X (ix3 ⟨l, h.1⟩ ⟨a, h.2.1⟩ ⟨b, h.2.2⟩) else 0

theorem ent2_eq {m n : ℕ} (X : Shape.Idx ⟨2, ![m, n]⟩ → EReal) (i : Shape.Idx ⟨2, ![m, n]⟩) (a b : ℕ)
    (ha : (i 0).val = a) (hb : (i 1).val = b) : X i = ent2 X a b := by
  subst ha hb
  unfold ent2
  rw [dif_pos ⟨(i 0).isLt, (i 1).isLt⟩]
  exact congrArg X (funext fun x => match x with | ⟨0, _⟩ => rfl | ⟨1, _⟩ => rfl)

theorem ent3_eq {k m n : ℕ} (X : Shape.Idx ⟨3, ![k, m, n]⟩ → EReal) (i : Shape.Idx ⟨3, ![k, m, n]⟩) (l a b : ℕ)
    (hl : (i 0).val = l) (ha : (i 1).val = a) (hb : (i 2).val = b) : X i = ent3 X l a b := by
  subst hl ha hb
  unfold ent3
  rw [dif_pos ⟨(i 0).isLt, (i 1).isLt, (i 2).isLt⟩]
  exact congrArg X (funext fun x => match x with | ⟨0, _⟩ => rfl | ⟨1, _⟩ => rfl | ⟨2, _⟩ => rfl)

/-- A sum over `J` blocks of `n` places is the sum over all places. -/
theorem sum_blocks (n : ℕ) (g : ℕ → EReal) : ∀ J : ℕ,
    ∑ k ∈ range J, ∑ q : Fin n, g (n * k + q.val) = ∑ q ∈ range (n * J), g q
  | 0 => by simp
  | J + 1 => by
      rw [sum_range_succ, sum_blocks n g J, Nat.mul_succ, sum_range_add]
      exact congrArg (_ + ·) (Fin.sum_univ_eq_sum_range (fun q => g (n * J + q)) n)

end Cert.Proof

end
-- ==== Proof.ProjVal.lean ====
/- What the kernel of the projections computes: a product with the weights of layer 1, and its copy with the columns of the queries scaled. -/
module

public import proofs.«01_k».proof.Proof.Entries
public import proofs.«01_k».proof.Proof.Gen.ProjIdeal.Frame
public import proofs.«01_k».proof.Defs
public import proofs.«01_k».proof.Proof.Gen.ProjIdeal
public import proofs.«01_k».proof.Proof.Gen.ProjIdeal.Value
public import proofs.«01_k».proof.Proof.Gen.RefProjIdeal
public import proofs.«01_k».proof.Proof.Gen.RefProjIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.ProjIdeal.Spec

open Idealize.ShloMosaic Idealize.ShloMosaic.TcCoe Idealize.ShloMosaic.Pointwise Idealize.SL.Sem Cert.ProjIdeal Cert.ProjIdeal.Gen Finset Cert.Proof
open Idealize.ShloMosaic.Pipeline (Dat)

variable (m : (ℓ : Loc nD τ sig) → Buf (Elt Ideal) ℓ) (c : Dev nD)

/-- The input and the weights as launched. -/
abbrev ht : S4096x2048.Idx → EReal := m ((c : Thread nD τ).loc main_arg0)
abbrev wt : S2x2048x14336.Idx → EReal := m ((c : Thread nD τ).loc main_arg1)

theorem idx : ∀ t : Fin cfg0.N, win0_0.index t = ![t.val / 28, 0] ∧ win0_1.index t = ![t.val % 28 / 7, 1, 0, t.val % 28 % 7]
    ∧ win0_2.index t = ![t.val / 28, t.val % 28] ∧ win0_3.index t = ![t.val / 28, t.val % 28] :=
  (by decide +kernel : ∀ t : Fin grid0.N, _)

/-- The factor a point applies: the queries' scale on the four column blocks of the queries, else one. -/
theorem factor : ∀ t : Fin cfg0.N, Scalar.andi (Scalar.cmpi .sge (BitVec.ofNat 32 (grid0.coords t 1).val) 4#32)
    (Scalar.cmpi .slt (BitVec.ofNat 32 (grid0.coords t 1).val) 8#32) = if 4 ≤ t.val % 28 ∧ t.val % 28 < 8 then 1#1 else 0#1 :=
  (by decide +kernel : ∀ t : Fin grid0.N, _)

theorem column : ∀ n : Fin 14336, IntOp.andi (IntOp.cmpi .sge (BitVec.ofNat 32 n.val) 2048#32) (IntOp.cmpi .slt (BitVec.ofNat 32 n.val) 4096#32)
    = if 2048 ≤ n.val ∧ n.val < 4096 then 1#1 else 0#1 := by
  decide +kernel

theorem lhs (t : Fin cfg0.N) (y : S1024x2048.Idx) : iblk m c 0 t y = ent2 (ht m c) (1024 * (t.val / 28) + (y 0).val) (y 1).val := by
  obtain ⟨e0, e1, e2, e3⟩ := idx t
  blk_simp [iblk, e0]
  entry_read
  pointwise
  refine ent2_eq _ _ _ _ ?_ ?_ <;> blk_simp [e0]
  all_goals ring

theorem rhs (t : Fin cfg0.N) (y : S1x1x2048x512.Idx) : iblk m c 1 t y = ent3 (wt m c) 1 (y 2).val (512 * (t.val % 28) + (y 3).val) := by
  obtain ⟨e0, e1, e2, e3⟩ := idx t
  blk_simp [iblk, e1]
  entry_read
  pointwise
  have h0 : (y 0).val < 1 := (y 0).isLt
  have h1 : (y 1).val < 1 := (y 1).isLt
  have h2 : (y 2).val < 2048 := (y 2).isLt
  have h3 : (y 3).val < 512 := (y 3).isLt
  refine ent3_eq _ _ _ _ _ ?_ ?_ ?_ <;> blk_simp [e1]
  show t.val % 28 / 7 * 3584 + (t.val % 28 % 7 * 512 + (y 3).val) = _
  omega

/-- The projections of layer 1, and the copy of them that the attention reads. -/
def G : FVec Ideal S4096x14336 .f32 := fun i => ∑ k : Fin 2048, ent2 (ht m c) (i 0).val k.val * ent3 (wt m c) 1 k.val (i 1).val
def scale (n : ℕ) : EReal := if 2048 ≤ n ∧ n < 4096 then Ideal.ofBits .f32 0x3DB504F3#32 else 1
def Gb : FVec Ideal S4096x14336 .bf16 := fun i => (G m c i : EReal) * scale (i 1).val

theorem pay (t : Fin cfg0.N) (y : S1024x512.Idx) (i : S4096x14336.Idx) (h0 : (i 0).val = 1024 * (t.val / 28) + (y 0).val)
    (h1 : (i 1).val = 512 * (t.val % 28) + (y 1).val) : k0_pay2 (F := Ideal) (k0_pay1 (F := Ideal)) (iblk m c 0 t) (iblk m c 1 t) y = G m c i := by
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 1 k.val) h1.symm

theorem block (t : Fin cfg0.N) (y : S1024x512.Idx) (i : S4096x14336.Idx) (h0 : (i 0).val = 1024 * (t.val / 28) + (y 0).val)
    (h1 : (i 1).val = 512 * (t.val % 28) + (y 1).val) : (outsAt0 m c t).1 y = G m c i := by
  unfold outsAt0
  frame_out
  exact pay m c t y i h0 h1

theorem blockb (t : Fin cfg0.N) (y : S1024x512.Idx) (i : S4096x14336.Idx) (h0 : (i 0).val = 1024 * (t.val / 28) + (y 0).val)
    (h1 : (i 1).val = 512 * (t.val % 28) + (y 1).val) : (outsAt0 m c t).2 y = Gb m c i := by
  unfold outsAt0
  frame_out
  unfold k0_pay3
  pointwise
  rw [pay m c t y i h0 h1, factor]
  have hy : (y 1).val < 512 := (y 1).isLt
  have e : (4 ≤ t.val % 28 ∧ t.val % 28 < 8) ↔ (2048 ≤ (i 1).val ∧ (i 1).val < 4096) := by omega
  unfold Gb scale
  simp only [e]
  split <;> rfl

theorem final : (dats m 0 c).arrAt 2 cfg0.N = (G m c : S4096x14336.Idx → EReal) := by
  refine (dats m 0 c).arrAt_eq_of_covers 2 _ (by decide +kernel) fun t hf y => ?_
  obtain ⟨e0, e1, e2, e3⟩ := idx t
  blk_simp
  rw [after0_2]
  refine block m c t y _ ?_ ?_ <;> blk_simp [e2] <;> ring

theorem finalb : (dats m 0 c).arrAt 3 cfg0.N = (Gb m c : S4096x14336.Idx → EReal) := by
  refine (dats m 0 c).arrAt_eq_of_covers 3 _ (by decide +kernel) fun t hf y => ?_
  obtain ⟨e0, e1, e2, e3⟩ := idx t
  blk_simp
  rw [after0_3]
  refine blockb m c t y _ ?_ ?_ <;> blk_simp [e3] <;> ring

theorem ref_eq (x0 : S4096x2048.Idx → EReal) (x1 : S2x2048x14336.Idx → EReal) (h0 : x0 = ht m c) (h1 : x1 = wt m c) :
    Cert.RefProjIdeal.Read.val_main_v2 (F := Ideal) x0 x1 = G m c := by
  subst h0 h1
  funext i
  rw [Cert.RefProjIdeal.Read.val_main_v2_apply]
  unfold G
  have h1 : (i 1).val < 14336 := (i 1).isLt
  refine sum_congr rfl fun k _ => congrArg₂ (fun a b : EReal => a * b) (ent2_eq _ _ _ _ rfl rfl) ?_
  have hk : k.val < 2048 := k.isLt
  rw [Cert.RefProjIdeal.Read.val_main_v1_apply, Cert.RefProjIdeal.Read.val_main_v0_apply]
  refine ent3_eq _ _ _ _ _ rfl ?_ ?_
  · show (k.val * 14336 + (i 1).val) / 14336 % 2048 = k.val
    omega
  · show (k.val * 14336 + (i 1).val) % 14336 = (i 1).val
    omega

theorem refb_eq (x0 : S4096x2048.Idx → EReal) (x1 : S2x2048x14336.Idx → EReal) (h0 : x0 = ht m c) (h1 : x1 = wt m c) :
    Cert.RefProjIdeal.Read.val_main_v14 (F := Ideal) x0 x1 = Gb m c := by
  funext i
  open Cert.RefProjIdeal.Read in
  rw [val_main_v14_apply, val_main_v13_apply, ref_eq m c x0 x1 h0 h1, val_main_v12_apply, val_main_v11_apply, val_main_v10_apply, val_main_v9_apply,
    val_main_v8_apply, val_main_v7_apply, val_main_v6_apply, val_main_v5_apply, val_main_v4_apply, val_main_v3_apply, val_main_c_apply, val_main_c_0_apply,
    val_main_call0_v0_apply, val_main_call0_v1_apply, val_main_cst_apply, val_main_cst_1_apply]
  unfold Gb scale
  pointwise
  rw [column (i 1)]
  split <;> rfl

theorem agree : Cert.algebraic_ProjIdeal_RefProjIdeal (hProjIdeal := Cert.ProjIdeal.Gen.facts) (hRefProjIdeal := Cert.RefProjIdeal.Gen.facts) := by
  intro m g m' g' _ hagree
  refine ⟨fun c => G m c, fun c => Gb m c, (θ_run Cert.ProjIdeal.defs _ _).mono (fun r h c => ⟨(h c).1.trans (final m c), (h c).2.1.trans (finalb m c), (h c).2.2⟩)
    (Cert.ProjIdeal.Value.run_blocks (F := Ideal) m g),
    (θ_run Cert.RefProjIdeal.defs _ _).mono (fun r h c => ⟨?_, ?_, (h c).2.2⟩) (Cert.RefProjIdeal.Value.run (F := Ideal) m' g')⟩
  · exact ((h c).1.trans (Cert.RefProjIdeal.Read.val_main_v2_eq _ _)).trans (ref_eq m c _ _ (hagree c).1 (hagree c).2)
  · exact ((h c).2.1.trans (Cert.RefProjIdeal.Read.val_main_v14_eq _ _)).trans (refb_eq m c _ _ (hagree c).1 (hagree c).2)

theorem ref_frame : Cert.quiescent_RefProjIdeal (hRefProjIdeal := Cert.RefProjIdeal.Gen.facts) := fun m ρ _ =>
  (θ_run Cert.RefProjIdeal.defs _ _).mono (fun r h => ⟨fun c => (h c).2.2, sem_eq_zero_of_no_sems (by decide) r.2⟩)
    (Cert.RefProjIdeal.Value.run (F := Ideal) m ρ)

end Cert.ProjIdeal.Spec
-- ==== Proof.GatesVal.lean ====
/- What the kernel of the gates computes: the logistic of a product with the weights of layer 1 plus their bias. -/
module

public import proofs.«01_k».proof.Proof.Entries
public import proofs.«01_k».proof.Proof.Gen.GatesIdeal.Frame
public import proofs.«01_k».proof.Defs
public import proofs.«01_k».proof.Proof.Gen.GatesIdeal
public import proofs.«01_k».proof.Proof.Gen.GatesIdeal.Value
public import proofs.«01_k».proof.Proof.Gen.RefGatesIdeal
public import proofs.«01_k».proof.Proof.Gen.RefGatesIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.GatesIdeal.Spec

open Idealize.ShloMosaic Idealize.ShloMosaic.TcCoe Idealize.ShloMosaic.Pointwise Idealize.SL.Sem Cert.GatesIdeal Cert.GatesIdeal.Gen Finset Cert.Proof
open Idealize.ShloMosaic.Pipeline (Dat)

variable (m : (ℓ : Loc nD τ sig) → Buf (Elt Ideal) ℓ) (c : Dev nD)

/-- The input, the weights and the bias as launched. -/
abbrev ht : S4096x2048.Idx → EReal := m ((c : Thread nD τ).loc main_arg0)
abbrev wt : S2x2048x6144.Idx → EReal := m ((c : Thread nD τ).loc main_arg1)
abbrev bt : S2x6144.Idx → EReal := m ((c : Thread nD τ).loc main_arg2)

theorem idx : ∀ t : Fin cfg0.N, win0_0.index t = ![t.val / 12, 0] ∧ win0_1.index t = ![t.val % 12 / 3, 1, 0, t.val % 12 % 3]
    ∧ win0_2.index t = ![0, t.val % 12] ∧ win0_3.index t = ![t.val / 12, t.val % 12] :=
  (by decide +kernel : ∀ t : Fin grid0.N, _)

theorem lhs (t : Fin cfg0.N) (y : S1024x2048.Idx) : iblk m c 0 t y = ent2 (ht m c) (1024 * (t.val / 12) + (y 0).val) (y 1).val := by
  obtain ⟨e0, e1, e2, e3⟩ := idx t
  blk_simp [iblk, e0]
  entry_read
  pointwise
  refine ent2_eq _ _ _ _ ?_ ?_ <;> blk_simp [e0]
  all_goals ring

theorem rhs (t : Fin cfg0.N) (y : S1x1x2048x512.Idx) : iblk m c 1 t y = ent3 (wt m c) 1 (y 2).val (512 * (t.val % 12) + (y 3).val) := by
  obtain ⟨e0, e1, e2, e3⟩ := idx t
  blk_simp [iblk, e1]
  entry_read
  pointwise
  have h0 : (y 0).val < 1 := (y 0).isLt
  have h1 : (y 1).val < 1 := (y 1).isLt
  have h2 : (y 2).val < 2048 := (y 2).isLt
  have h3 : (y 3).val < 512 := (y 3).isLt
  refine ent3_eq _ _ _ _ _ ?_ ?_ ?_ <;> blk_simp [e1]
  show t.val % 12 / 3 * 1536 + (t.val % 12 % 3 * 512 + (y 3).val) = _
  omega

theorem bias (t : Fin cfg0.N) (y : S1x512.Idx) : iblk m c 2 t y = ent2 (bt m c) 1 (512 * (t.val % 12) + (y 1).val) := by
  obtain ⟨e0, e1, e2, e3⟩ := idx t
  blk_simp [iblk, e2]
  entry_read
  pointwise
  have h0 : (y 0).val < 1 := (y 0).isLt
  refine ent2_eq _ _ _ _ ?_ ?_ <;> blk_simp [e2]
  · rfl
  · ring

/-- The gates of layer 1. -/
def G : FVec Ideal S4096x6144 .f32 := fun i =>
  Ideal.logistic ((∑ k : Fin 2048, ent2 (ht m c) (i 0).val k.val * ent3 (wt m c) 1 k.val (i 1).val) + ent2 (bt m c) 1 (i 1).val)

theorem block (t : Fin cfg0.N) (y : S1024x512.Idx) (i : S4096x6144.Idx) (h0 : (i 0).val = 1024 * (t.val / 12) + (y 0).val)
    (h1 : (i 1).val = 512 * (t.val % 12) + (y 1).val) : outsAt0 m c t y = G m c i := by
  unfold outsAt0
  frame_out
  unfold k0_pay3 k0_pay2 k0_pay1 G
  pointwise
  refine congrArg Ideal.logistic (congrArg₂ (fun a b : EReal => a + b) (sum_congr rfl fun k _ =>
    congrArg₂ (fun a b : EReal => a * b) ((lhs m c t _).trans ?_) ((rhs m c t _).trans ?_)) ((bias m c t _).trans ?_))
  · exact congrArg (ent2 (ht m c) · k.val) h0.symm
  · exact congrArg (ent3 (wt m c) 1 k.val) h1.symm
  · exact congrArg (ent2 (bt m c) 1) h1.symm

theorem final : (dats m 0 c).arrAt 3 cfg0.N = (G m c : S4096x6144.Idx → EReal) := by
  refine (dats m 0 c).arrAt_eq_of_covers 3 _ (by decide +kernel) fun t hf y => ?_
  obtain ⟨e0, e1, e2, e3⟩ := idx t
  blk_simp
  rw [after0_3]
  refine block m c t y _ ?_ ?_ <;> blk_simp [e3] <;> ring

theorem ref_eq (x0 : S4096x2048.Idx → EReal) (x1 : S2x2048x6144.Idx → EReal) (x2 : S2x6144.Idx → EReal) (h0 : x0 = ht m c) (h1 : x1 = wt m c)
    (h2 : x2 = bt m c) : Cert.RefGatesIdeal.Read.val_main_v13 (F := Ideal) x0 x1 x2 = G m c := by
  subst h0 h1 h2
  funext i
  open Cert.RefGatesIdeal.Read in
  rw [val_main_v13_apply, val_main_v12_apply, val_main_cst_0_apply, val_main_v11_apply, val_main_v10_apply, val_main_cst_apply, val_main_v9_apply,
    val_main_v8_apply, val_main_v7_apply, val_main_v6_apply, val_main_v5_apply, val_main_v4_apply, val_main_v3_apply, val_main_v2_apply]
  unfold G
  pointwise
  have h1 : (i 1).val < 6144 := (i 1).isLt
  refine congrArg Ideal.logistic (congrArg₂ (fun a b : EReal => a + b) (sum_congr rfl fun k _ =>
    congrArg₂ (fun a b : EReal => a * b) (ent2_eq _ _ _ _ rfl rfl) ?_) (ent2_eq _ _ _ _ ?_ ?_))
  · have hk : k.val < 2048 := k.isLt
    rw [Cert.RefGatesIdeal.Read.val_main_v1_apply, Cert.RefGatesIdeal.Read.val_main_v0_apply]
    refine ent3_eq _ _ _ _ _ rfl ?_ ?_
    · show (k.val * 6144 + (i 1).val) / 6144 % 2048 = k.val
      omega
    · show (k.val * 6144 + (i 1).val) % 6144 = (i 1).val
      omega
  · rfl
  · exact Nat.mod_eq_of_lt h1

theorem agree : Cert.algebraic_GatesIdeal_RefGatesIdeal (hGatesIdeal := Cert.GatesIdeal.Gen.facts) (hRefGatesIdeal := Cert.RefGatesIdeal.Gen.facts) := by
  intro m g m' g' _ hagree
  refine ⟨fun c => G m c, (θ_run Cert.GatesIdeal.defs _ _).mono (fun r h c => ⟨(h c).1.trans (final m c), (h c).2⟩) (Cert.GatesIdeal.Value.run_blocks (F := Ideal) m g),
    (θ_run Cert.RefGatesIdeal.defs _ _).mono (fun r h c => ⟨?_, (h c).2⟩) (Cert.RefGatesIdeal.Value.run (F := Ideal) m' g')⟩
  exact ((h c).1.trans (Cert.RefGatesIdeal.Read.val_main_v13_eq _ _ _)).trans (ref_eq m c _ _ _ (hagree c).1 (hagree c).2.1 (hagree c).2.2)

theorem ref_frame : Cert.quiescent_RefGatesIdeal (hRefGatesIdeal := Cert.RefGatesIdeal.Gen.facts) := fun m ρ _ =>
  (θ_run Cert.RefGatesIdeal.defs _ _).mono (fun r h => ⟨fun c => (h c).2, sem_eq_zero_of_no_sems (by decide) r.2⟩)
    (Cert.RefGatesIdeal.Value.run (F := Ideal) m ρ)

end Cert.GatesIdeal.Spec
-- ==== Proof.GradInVal.lean ====
/- What the kernel of the gradient of the projections' weights computes: the transposed input times the cotangent, in the layout of the chips. -/
module

public import proofs.«01_k».proof.Proof.Entries
public import proofs.«01_k».proof.Proof.Gen.GradInIdeal.Frame
public import proofs.«01_k».proof.Defs
public import proofs.«01_k».proof.Proof.Gen.GradInIdeal
public import proofs.«01_k».proof.Proof.Gen.GradInIdeal.Value
public import proofs.«01_k».proof.Proof.Gen.RefGradInIdeal
public import proofs.«01_k».proof.Proof.Gen.RefGradInIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.GradInIdeal.Spec

open Idealize.ShloMosaic Idealize.ShloMosaic.TcCoe Idealize.ShloMosaic.Pointwise Idealize.SL.Sem Cert.GradInIdeal Cert.GradInIdeal.Gen Finset Cert.Proof
open Idealize.ShloMosaic.Pipeline (Dat)

variable (m : (ℓ : Loc nD τ sig) → Buf (Elt Ideal) ℓ) (c : Dev nD)

/-- The input and the cotangent as launched. -/
abbrev ht : S4096x2048.Idx → EReal := m ((c : Thread nD τ).loc main_arg0)
abbrev ct : S4096x14336.Idx → EReal := m ((c : Thread nD τ).loc main_arg1)

theorem idx : ∀ t : Fin cfg0.N, win0_0.index t = ![t.val / 28, 0] ∧ win0_1.index t = ![0, t.val % 28]
    ∧ win0_2.index t = ![t.val % 28 / 7, t.val / 28, t.val % 28 % 7] :=
  (by decide +kernel : ∀ t : Fin grid0.N, _)

theorem lhs (t : Fin cfg0.N) (y : S1024x4096.Idx) : iblk m c 0 t y = ent2 (ht m c) (y 1).val (1024 * (t.val / 28) + (y 0).val) := by
  obtain ⟨e0, e1, e2⟩ := idx t
  blk_simp [iblk, e0]
  entry_read
  pointwise
  refine ent2_eq _ _ _ _ ?_ ?_ <;> blk_simp [e0]
  all_goals ring

theorem rhs (t : Fin cfg0.N) (y : S4096x512.Idx) : iblk m c 1 t y = ent2 (ct m c) (y 0).val (512 * (t.val % 28) + (y 1).val) := by
  obtain ⟨e0, e1, e2⟩ := idx t
  blk_simp [iblk, e1]
  entry_read
  pointwise
  refine ent2_eq _ _ _ _ ?_ ?_ <;> blk_simp [e1]
  all_goals ring

/-- The product of the transposed input with the cotangent, chip by chip. -/
def G : FVec Ideal S4x2048x3584 .bf16 := fun i => ∑ k : Fin 4096, ent2 (ht m c) k.val (i 1).val * ent2 (ct m c) k.val (3584 * (i 0).val + (i 2).val)

theorem block (t : Fin cfg0.N) (y : S1x1024x512.Idx) (i : S4x2048x3584.Idx) (h0 : (i 0).val = t.val % 28 / 7) (h1 : (i 1).val = 1024 * (t.val / 28) + (y 1).val)
    (h2 : (i 2).val = 512 * (t.val % 28 % 7) + (y 2).val) : outsAt0 m c t y = G m c i := by
  unfold outsAt0
  frame_out
  unfold k0_pay3 k0_pay2 k0_pay1 G
  pointwise
  refine sum_congr rfl fun k _ => congrArg₂ (fun a b : EReal => a * b) ((lhs m c t _).trans ?_) ((rhs m c t _).trans ?_)
  · exact congrArg (ent2 (ht m c) k.val) h1.symm
  · refine congrArg (ent2 (ct m c) k.val) ?_
    show 512 * (t.val % 28) + (y 2).val = _
    rw [h0, h2]
    omega

theorem final : (dats m 0 c).arrAt 2 cfg0.N = (G m c : S4x2048x3584.Idx → EReal) := by
  refine (dats m 0 c).arrAt_eq_of_covers 2 _ (by decide +kernel) fun t hf y => ?_
  obtain ⟨e0, e1, e2⟩ := idx t
  blk_simp
  rw [after0_2]
  refine block m c t y _ ?_ ?_ ?_ <;> blk_simp [e2]
  all_goals ring

theorem ref_eq (x0 : S4096x2048.Idx → EReal) (x1 : S4096x14336.Idx → EReal) (h0 : x0 = ht m c) (h1 : x1 = ct m c) :
    Cert.RefGradInIdeal.Read.val_main_v6 (F := Ideal) x0 x1 = G m c := by
  subst h0 h1
  funext i
  rw [Cert.RefGradInIdeal.Read.val_main_v6_apply, Cert.RefGradInIdeal.Read.val_main_v5_apply, Cert.RefGradInIdeal.Read.val_main_v4_apply,
    Cert.RefGradInIdeal.Read.val_main_v3_apply, Cert.RefGradInIdeal.Read.val_main_v2_apply]
  unfold G
  have h0 : (i 0).val < 4 := (i 0).isLt
  have h1 : (i 1).val < 2048 := (i 1).isLt
  have h2 : (i 2).val < 3584 := (i 2).isLt
  refine sum_congr rfl fun k _ => (mul_comm _ _).trans (congrArg₂ (· * ·) (ent2_eq _ _ _ _ rfl ?_) (ent2_eq _ _ _ _ rfl ?_))
  · show (((i 1).val * 4 + (i 0).val) * 3584 + (i 2).val) / 14336 = (i 1).val
    omega
  · show (((i 1).val * 4 + (i 0).val) * 3584 + (i 2).val) % 14336 = 3584 * (i 0).val + (i 2).val
    omega

theorem agree : Cert.algebraic_GradInIdeal_RefGradInIdeal (hGradInIdeal := Cert.GradInIdeal.Gen.facts) (hRefGradInIdeal := Cert.RefGradInIdeal.Gen.facts) := by
  intro m g m' g' _ hagree
  refine ⟨fun c => G m c, (θ_run Cert.GradInIdeal.defs _ _).mono (fun r h c => ⟨(h c).1.trans (final m c), (h c).2⟩) (Cert.GradInIdeal.Value.run_blocks (F := Ideal) m g),
    (θ_run Cert.RefGradInIdeal.defs _ _).mono (fun r h c => ⟨?_, (h c).2⟩) (Cert.RefGradInIdeal.Value.run (F := Ideal) m' g')⟩
  exact ((h c).1.trans (Cert.RefGradInIdeal.Read.val_main_v6_eq _ _)).trans (ref_eq m c _ _ (hagree c).1 (hagree c).2)

theorem ref_frame : Cert.quiescent_RefGradInIdeal (hRefGradInIdeal := Cert.RefGradInIdeal.Gen.facts) := fun m ρ _ =>
  (θ_run Cert.RefGradInIdeal.defs _ _).mono (fun r h => ⟨fun c => (h c).2, sem_eq_zero_of_no_sems (by decide) r.2⟩)
    (Cert.RefGradInIdeal.Value.run (F := Ideal) m ρ)

end Cert.GradInIdeal.Spec
-- ==== Proof.GradGateVal.lean ====
/- What the kernel of the gradient of the gates' weights computes: the transposed input times the cotangent, in the layout of the chips. -/
module

public import proofs.«01_k».proof.Proof.Entries
public import proofs.«01_k».proof.Proof.Gen.GradGateIdeal.Frame
public import proofs.«01_k».proof.Defs
public import proofs.«01_k».proof.Proof.Gen.GradGateIdeal
public import proofs.«01_k».proof.Proof.Gen.GradGateIdeal.Value
public import proofs.«01_k».proof.Proof.Gen.RefGradGateIdeal
public import proofs.«01_k».proof.Proof.Gen.RefGradGateIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.GradGateIdeal.Spec

open Idealize.ShloMosaic Idealize.ShloMosaic.TcCoe Idealize.ShloMosaic.Pointwise Idealize.SL.Sem Cert.GradGateIdeal Cert.GradGateIdeal.Gen Finset Cert.Proof
open Idealize.ShloMosaic.Pipeline (Dat)

variable (m : (ℓ : Loc nD τ sig) → Buf (Elt Ideal) ℓ) (c : Dev nD)

/-- The input and the cotangent as launched. -/
abbrev ht : S4096x2048.Idx → EReal := m ((c : Thread nD τ).loc main_arg0)
abbrev ct : S4096x6144.Idx → EReal := m ((c : Thread nD τ).loc main_arg1)

theorem idx : ∀ t : Fin cfg0.N, win0_0.index t = ![t.val / 12, 0] ∧ win0_1.index t = ![0, t.val % 12]
    ∧ win0_2.index t = ![t.val % 12 / 3, t.val / 12, t.val % 12 % 3] :=
  (by decide +kernel : ∀ t : Fin grid0.N, _)

theorem lhs (t : Fin cfg0.N) (y : S1024x4096.Idx) : iblk m c 0 t y = ent2 (ht m c) (y 1).val (1024 * (t.val / 12) + (y 0).val) := by
  obtain ⟨e0, e1, e2⟩ := idx t
  blk_simp [iblk, e0]
  entry_read
  pointwise
  refine ent2_eq _ _ _ _ ?_ ?_ <;> blk_simp [e0]
  all_goals ring

theorem rhs (t : Fin cfg0.N) (y : S4096x512.Idx) : iblk m c 1 t y = ent2 (ct m c) (y 0).val (512 * (t.val % 12) + (y 1).val) := by
  obtain ⟨e0, e1, e2⟩ := idx t
  blk_simp [iblk, e1]
  entry_read
  pointwise
  refine ent2_eq _ _ _ _ ?_ ?_ <;> blk_simp [e1]
  all_goals ring

/-- The product of the transposed input with the cotangent, chip by chip. -/
def G : FVec Ideal S4x2048x1536 .bf16 := fun i => ∑ k : Fin 4096, ent2 (ht m c) k.val (i 1).val * ent2 (ct m c) k.val (1536 * (i 0).val + (i 2).val)

theorem block (t : Fin cfg0.N) (y : S1x1024x512.Idx) (i : S4x2048x1536.Idx) (h0 : (i 0).val = t.val % 12 / 3) (h1 : (i 1).val = 1024 * (t.val / 12) + (y 1).val)
    (h2 : (i 2).val = 512 * (t.val % 12 % 3) + (y 2).val) : outsAt0 m c t y = G m c i := by
  unfold outsAt0
  frame_out
  unfold k0_pay3 k0_pay2 k0_pay1 G
  pointwise
  refine sum_congr rfl fun k _ => congrArg₂ (fun a b : EReal => a * b) ((lhs m c t _).trans ?_) ((rhs m c t _).trans ?_)
  · exact congrArg (ent2 (ht m c) k.val) h1.symm
  · refine congrArg (ent2 (ct m c) k.val) ?_
    show 512 * (t.val % 12) + (y 2).val = _
    rw [h0, h2]
    omega

theorem final : (dats m 0 c).arrAt 2 cfg0.N = (G m c : S4x2048x1536.Idx → EReal) := by
  refine (dats m 0 c).arrAt_eq_of_covers 2 _ (by decide +kernel) fun t hf y => ?_
  obtain ⟨e0, e1, e2⟩ := idx t
  blk_simp
  rw [after0_2]
  refine block m c t y _ ?_ ?_ ?_ <;> blk_simp [e2]
  all_goals ring

theorem ref_eq (x0 : S4096x2048.Idx → EReal) (x1 : S4096x6144.Idx → EReal) (h0 : x0 = ht m c) (h1 : x1 = ct m c) :
    Cert.RefGradGateIdeal.Read.val_main_v6 (F := Ideal) x0 x1 = G m c := by
  subst h0 h1
  funext i
  rw [Cert.RefGradGateIdeal.Read.val_main_v6_apply, Cert.RefGradGateIdeal.Read.val_main_v5_apply, Cert.RefGradGateIdeal.Read.val_main_v4_apply,
    Cert.RefGradGateIdeal.Read.val_main_v3_apply, Cert.RefGradGateIdeal.Read.val_main_v2_apply]
  unfold G
  have h0 : (i 0).val < 4 := (i 0).isLt
  have h1 : (i 1).val < 2048 := (i 1).isLt
  have h2 : (i 2).val < 1536 := (i 2).isLt
  refine sum_congr rfl fun k _ => (mul_comm _ _).trans (congrArg₂ (· * ·) (ent2_eq _ _ _ _ rfl ?_) (ent2_eq _ _ _ _ rfl ?_))
  · show (((i 1).val * 4 + (i 0).val) * 1536 + (i 2).val) / 6144 = (i 1).val
    omega
  · show (((i 1).val * 4 + (i 0).val) * 1536 + (i 2).val) % 6144 = 1536 * (i 0).val + (i 2).val
    omega

theorem agree : Cert.algebraic_GradGateIdeal_RefGradGateIdeal (hGradGateIdeal := Cert.GradGateIdeal.Gen.facts) (hRefGradGateIdeal := Cert.RefGradGateIdeal.Gen.facts) := by
  intro m g m' g' _ hagree
  refine ⟨fun c => G m c, (θ_run Cert.GradGateIdeal.defs _ _).mono (fun r h c => ⟨(h c).1.trans (final m c), (h c).2⟩) (Cert.GradGateIdeal.Value.run_blocks (F := Ideal) m g),
    (θ_run Cert.RefGradGateIdeal.defs _ _).mono (fun r h c => ⟨?_, (h c).2⟩) (Cert.RefGradGateIdeal.Value.run (F := Ideal) m' g')⟩
  exact ((h c).1.trans (Cert.RefGradGateIdeal.Read.val_main_v6_eq _ _)).trans (ref_eq m c _ _ (hagree c).1 (hagree c).2)

theorem ref_frame : Cert.quiescent_RefGradGateIdeal (hRefGradGateIdeal := Cert.RefGradGateIdeal.Gen.facts) := fun m ρ _ =>
  (θ_run Cert.RefGradGateIdeal.defs _ _).mono (fun r h => ⟨fun c => (h c).2, sem_eq_zero_of_no_sems (by decide) r.2⟩)
    (Cert.RefGradGateIdeal.Value.run (F := Ideal) m ρ)

end Cert.GradGateIdeal.Spec
-- ==== Proof.DhInVal.lean ====
/- What the kernel of the gradient of the projections' input computes: a product with the transposed weights. -/
module

public import proofs.«01_k».proof.Proof.Entries
public import proofs.«01_k».proof.Proof.Gen.DhInIdeal.Frame
public import proofs.«01_k».proof.Defs
public import proofs.«01_k».proof.Proof.Gen.DhInIdeal
public import proofs.«01_k».proof.Proof.Gen.DhInIdeal.Value
public import proofs.«01_k».proof.Proof.Gen.RefDhInIdeal
public import proofs.«01_k».proof.Proof.Gen.RefDhInIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DhInIdeal.Spec

open Idealize.ShloMosaic Idealize.ShloMosaic.TcCoe Idealize.ShloMosaic.Pointwise Idealize.SL.Sem Cert.DhInIdeal Cert.DhInIdeal.Gen Finset Cert.Proof
open Idealize.ShloMosaic.Pipeline (Dat)

variable (m : (ℓ : Loc nD τ sig) → Buf (Elt Ideal) ℓ) (c : Dev nD)

/-- The cotangent and the weights as launched. -/
abbrev ct : S4096x14336.Idx → EReal := m ((c : Thread nD τ).loc main_arg0)
abbrev wt : S2x2048x14336.Idx → EReal := m ((c : Thread nD τ).loc main_arg1)

theorem idx : ∀ t : Fin cfg0.N, win0_0.index t = ![t.val / 16, t.val % 4] ∧ win0_1.index t = ![t.val % 4, 1, t.val / 4 % 4, 0]
    ∧ win0_2.index t = ![t.val / 16, t.val / 4 % 4] :=
  (by decide +kernel : ∀ t : Fin grid0.N, _)

theorem lhs (t : Fin cfg0.N) (y : S1024x3584.Idx) :
    iblk m c 0 t y = ent2 (ct m c) (1024 * (t.val / 16) + (y 0).val) (3584 * (t.val % 4) + (y 1).val) := by
  obtain ⟨e0, e1, e2⟩ := idx t
  blk_simp [iblk, e0]
  entry_read
  pointwise
  refine ent2_eq _ _ _ _ ?_ ?_
  · blk_simp [e0]; ring
  · blk_simp [e0]; ring

theorem rhs (t : Fin cfg0.N) (y : S1x1x512x3584.Idx) :
    iblk m c 1 t y = ent3 (wt m c) 1 (512 * (t.val / 4 % 4) + (y 2).val) (3584 * (t.val % 4) + (y 3).val) := by
  obtain ⟨e0, e1, e2⟩ := idx t
  blk_simp [iblk, e1]
  entry_read
  pointwise
  have h0 : (y 0).val < 1 := (y 0).isLt
  have h1 : (y 1).val < 1 := (y 1).isLt
  refine ent3_eq _ _ _ _ _ ?_ ?_ ?_ <;> blk_simp [e1]
  · ring
  · ring

/-- One step's product. -/
def term (n : ℕ) (j : S1024x512.Idx) : EReal :=
  ∑ k : Fin 3584, ent2 (ct m c) (1024 * (n / 16) + (j 0).val) (3584 * (n % 4) + k.val)
    * ent3 (wt m c) 1 (512 * (n / 4 % 4) + (j 1).val) (3584 * (n % 4) + k.val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2 := by
  rw [outsAt0_C m c t (by omega) h]
  frame_out

/-- The product of the cotangent with the transposed weights of layer 1. -/
def G : FVec Ideal S4096x2048 .f32 := fun i => ∑ k ∈ range 14336, ent2 (ct m c) (i 0).val k * ent3 (wt m c) 1 (i 1).val k

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y = G m c i := by
  unfold G term
  refine Eq.trans ?_ (sum_blocks 3584 (fun q => ent2 (ct m c) (i 0).val q * ent3 (wt m c) 1 (i 1).val q) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 2 cfg0.N = (G m c : S4096x2048.Idx → EReal) := by
  refine (dats m 0 c).arrAt_eq_of_covers 2 _ (by decide +kernel) fun t hf y => ?_
  have hm := (flush0_2 t).mp hf
  obtain ⟨e0, e1, e2⟩ := idx t
  blk_simp
  rw [after0_2, written m c t hm, carried, hm, zero_add]
  refine block m c t.val y _ ?_ ?_ <;> blk_simp [e2] <;> ring

theorem ref_eq (x0 : S4096x14336.Idx → EReal) (x1 : S2x2048x14336.Idx → EReal) (h0 : x0 = ct m c) (h1 : x1 = wt m c) :
    Cert.RefDhInIdeal.Read.val_main_v4 (F := Ideal) x0 x1 = G m c := by
  subst h0 h1
  funext i
  rw [Cert.RefDhInIdeal.Read.val_main_v4_apply]
  unfold G
  rw [← Fin.sum_univ_eq_sum_range (fun k => ent2 (ct m c) (i 0).val k * ent3 (wt m c) 1 (i 1).val k)]
  refine sum_congr rfl fun k _ => ?_
  rw [Cert.RefDhInIdeal.Read.val_main_v2_apply, Cert.RefDhInIdeal.Read.val_main_v1_apply]
  have h0 : (i 0).val < 4096 := (i 0).isLt
  have h1 : (i 1).val < 2048 := (i 1).isLt
  have hk := k.isLt
  refine congrArg₂ (· * ·) (ent2_eq _ _ _ _ rfl rfl) (ent3_eq _ _ _ _ _ rfl ?_ ?_)
  · show ((i 1).val * 14336 + k.val) / 14336 % 2048 = (i 1).val
    omega
  · show ((i 1).val * 14336 + k.val) % 14336 = k.val
    omega

theorem agree : Cert.algebraic_DhInIdeal_RefDhInIdeal (hDhInIdeal := Cert.DhInIdeal.Gen.facts) (hRefDhInIdeal := Cert.RefDhInIdeal.Gen.facts) := by
  intro m g m' g' _ hagree
  refine ⟨fun c => G m c, (θ_run Cert.DhInIdeal.defs _ _).mono (fun r h c => ⟨(h c).1.trans (final m c), (h c).2⟩) (Cert.DhInIdeal.Value.run_blocks (F := Ideal) m g),
    (θ_run Cert.RefDhInIdeal.defs _ _).mono (fun r h c => ⟨?_, (h c).2⟩) (Cert.RefDhInIdeal.Value.run (F := Ideal) m' g')⟩
  exact ((h c).1.trans (Cert.RefDhInIdeal.Read.val_main_v4_eq _ _)).trans (ref_eq m c _ _ (hagree c).1 (hagree c).2)

theorem ref_frame : Cert.quiescent_RefDhInIdeal (hRefDhInIdeal := Cert.RefDhInIdeal.Gen.facts) := fun m ρ _ =>
  (θ_run Cert.RefDhInIdeal.defs _ _).mono (fun r h => ⟨fun c => (h c).2, sem_eq_zero_of_no_sems (by decide) r.2⟩)
    (Cert.RefDhInIdeal.Value.run (F := Ideal) m ρ)

end Cert.DhInIdeal.Spec

end
-- ==== Proof.DhGateVal.lean ====
/- What the kernel of the gradient of the gates' input computes: the gradient so far plus a product with the transposed weights. -/
module

public import proofs.«01_k».proof.Proof.Entries
public import proofs.«01_k».proof.Proof.Gen.DhGateIdeal.Frame
public import proofs.«01_k».proof.Defs
public import proofs.«01_k».proof.Proof.Gen.DhGateIdeal
public import proofs.«01_k».proof.Proof.Gen.DhGateIdeal.Value
public import proofs.«01_k».proof.Proof.Gen.RefDhGateIdeal
public import proofs.«01_k».proof.Proof.Gen.RefDhGateIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DhGateIdeal.Spec

open Idealize.ShloMosaic Idealize.ShloMosaic.TcCoe Idealize.ShloMosaic.Pointwise Idealize.SL.Sem Cert.DhGateIdeal Cert.DhGateIdeal.Gen Finset Cert.Proof
open Idealize.ShloMosaic.Pipeline (Dat)

variable (m : (ℓ : Loc nD τ sig) → Buf (Elt Ideal) ℓ) (c : Dev nD)

/-- The cotangent, the gradient so far and the weights as launched. -/
abbrev ct : S4096x6144.Idx → EReal := m ((c : Thread nD τ).loc main_arg0)
abbrev pt : S4096x2048.Idx → EReal := m ((c : Thread nD τ).loc main_arg2)
abbrev wt : S2x2048x6144.Idx → EReal := m ((c : Thread nD τ).loc main_arg1)

theorem idx : ∀ t : Fin cfg0.N, win0_0.index t = ![t.val / 16, t.val % 4] ∧ win0_1.index t = ![t.val % 4, 1, t.val / 4 % 4, 0]
    ∧ win0_2.index t = ![t.val / 16, t.val / 4 % 4] ∧ win0_3.index t = ![t.val / 16, t.val / 4 % 4] :=
  (by decide +kernel : ∀ t : Fin grid0.N, _)

theorem lhs (t : Fin cfg0.N) (y : S1024x1536.Idx) :
    iblk m c 0 t y = ent2 (ct m c) (1024 * (t.val / 16) + (y 0).val) (1536 * (t.val % 4) + (y 1).val) := by
  obtain ⟨e0, e1, e2, e3⟩ := idx t
  blk_simp [iblk, e0]
  entry_read
  pointwise
  refine ent2_eq _ _ _ _ ?_ ?_
  · blk_simp [e0]; ring
  · blk_simp [e0]; ring

theorem rhs (t : Fin cfg0.N) (y : S1x1x512x1536.Idx) :
    iblk m c 1 t y = ent3 (wt m c) 1 (512 * (t.val / 4 % 4) + (y 2).val) (1536 * (t.val % 4) + (y 3).val) := by
  obtain ⟨e0, e1, e2, e3⟩ := idx t
  blk_simp [iblk, e1]
  entry_read
  pointwise
  have h0 : (y 0).val < 1 := (y 0).isLt
  have h1 : (y 1).val < 1 := (y 1).isLt
  refine ent3_eq _ _ _ _ _ ?_ ?_ ?_ <;> blk_simp [e1]
  · ring
  · ring

theorem prev (t : Fin cfg0.N) (y : S1024x512.Idx) :
    iblk m c 2 t y = ent2 (pt m c) (1024 * (t.val / 16) + (y 0).val) (512 * (t.val / 4 % 4) + (y 1).val) := by
  obtain ⟨e0, e1, e2, e3⟩ := idx t
  blk_simp [iblk, e2]
  entry_read
  pointwise
  refine ent2_eq _ _ _ _ ?_ ?_
  · blk_simp [e2]; ring
  · blk_simp [e2]; ring

/-- One step's product. -/
def term (n : ℕ) (j : S1024x512.Idx) : EReal :=
  ∑ k : Fin 1536, ent2 (ct m c) (1024 * (n / 16) + (j 0).val) (1536 * (n % 4) + k.val)
    * ent3 (wt m c) 1 (512 * (n / 4 % 4) + (j 1).val) (1536 * (n % 4) + k.val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) (y : S1024x512.Idx) :
    (outsAt0 m c t.val t.isLt).1 y = ((show EReal from iblk m c 2 t y) + (outsAt0 m c t.val t.isLt).2 y : EReal) := by
  rw [outsAt0_C m c t (by omega) h]
  frame_out
  rfl

/-- The gradient so far plus the product of the cotangent with the transposed weights of layer 1. -/
def G : FVec Ideal S4096x2048 .f32 := fun i => ent2 (pt m c) (i 0).val (i 1).val
  + ∑ k ∈ range 6144, ent2 (ct m c) (i 0).val k * ent3 (wt m c) 1 (i 1).val k

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y
      = ∑ k ∈ range 6144, ent2 (ct m c) (i 0).val k * ent3 (wt m c) 1 (i 1).val k := by
  unfold term
  refine Eq.trans ?_ (sum_blocks 1536 (fun q => ent2 (ct m c) (i 0).val q * ent3 (wt m c) 1 (i 1).val q) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 3 cfg0.N = (G m c : S4096x2048.Idx → EReal) := by
  refine (dats m 0 c).arrAt_eq_of_covers 3 _ (by decide +kernel) fun t hf y => ?_
  have hm := (flush0_3 t).mp hf
  obtain ⟨e0, e1, e2, e3⟩ := idx t
  blk_simp
  rw [after0_3, written m c t hm, carried, hm, zero_add]
  have h0 : (((win0_3.blk t).view.emb y) 0).val = 1024 * (t.val / 16) + (y 0).val := by blk_simp [e3]; ring
  have h1 : (((win0_3.blk t).view.emb y) 1).val = 512 * (t.val / 4 % 4) + (y 1).val := by blk_simp [e3]; ring
  refine congrArg₂ (fun a b : EReal => a + b) ((prev m c t y).trans ?_) (block m c t.val y _ h0 h1)
  exact congrArg₂ (ent2 (pt m c)) h0.symm h1.symm

theorem ref_eq (x0 : S4096x6144.Idx → EReal) (x1 : S2x2048x6144.Idx → EReal) (x2 : S4096x2048.Idx → EReal) (h0 : x0 = ct m c) (h1 : x1 = wt m c)
    (h2 : x2 = pt m c) : Cert.RefDhGateIdeal.Read.val_main_v5 (F := Ideal) x0 x1 x2 = G m c := by
  subst h0 h1 h2
  funext i
  rw [Cert.RefDhGateIdeal.Read.val_main_v5_apply, Cert.RefDhGateIdeal.Read.val_main_v4_apply]
  unfold G
  refine congrArg₂ (fun a b : EReal => a + b) (ent2_eq _ _ _ _ rfl rfl) ?_
  rw [← Fin.sum_univ_eq_sum_range (fun k => ent2 (ct m c) (i 0).val k * ent3 (wt m c) 1 (i 1).val k)]
  refine sum_congr rfl fun k _ => ?_
  rw [Cert.RefDhGateIdeal.Read.val_main_v2_apply, Cert.RefDhGateIdeal.Read.val_main_v1_apply]
  have h0 : (i 0).val < 4096 := (i 0).isLt
  have h1 : (i 1).val < 2048 := (i 1).isLt
  have hk := k.isLt
  refine congrArg₂ (· * ·) (ent2_eq _ _ _ _ rfl rfl) (ent3_eq _ _ _ _ _ rfl ?_ ?_)
  · show ((i 1).val * 6144 + k.val) / 6144 % 2048 = (i 1).val
    omega
  · show ((i 1).val * 6144 + k.val) % 6144 = k.val
    omega

theorem agree : Cert.algebraic_DhGateIdeal_RefDhGateIdeal (hDhGateIdeal := Cert.DhGateIdeal.Gen.facts) (hRefDhGateIdeal := Cert.RefDhGateIdeal.Gen.facts) := by
  intro m g m' g' _ hagree
  refine ⟨fun c => G m c, (θ_run Cert.DhGateIdeal.defs _ _).mono (fun r h c => ⟨(h c).1.trans (final m c), (h c).2⟩) (Cert.DhGateIdeal.Value.run_blocks (F := Ideal) m g),
    (θ_run Cert.RefDhGateIdeal.defs _ _).mono (fun r h c => ⟨?_, (h c).2⟩) (Cert.RefDhGateIdeal.Value.run (F := Ideal) m' g')⟩
  exact ((h c).1.trans (Cert.RefDhGateIdeal.Read.val_main_v5_eq _ _ _)).trans (ref_eq m c _ _ _ (hagree c).1 (hagree c).2.1 (hagree c).2.2)

theorem ref_frame : Cert.quiescent_RefDhGateIdeal (hRefDhGateIdeal := Cert.RefDhGateIdeal.Gen.facts) := fun m ρ _ =>
  (θ_run Cert.RefDhGateIdeal.defs _ _).mono (fun r h => ⟨fun c => (h c).2, sem_eq_zero_of_no_sems (by decide) r.2⟩)
    (Cert.RefDhGateIdeal.Value.run (F := Ideal) m ρ)

end Cert.DhGateIdeal.Spec

end
-- ==== Proof.Gates0Val.lean ====
/- What the kernel of the gates computes: the logistic of a product with the weights of layer 0 plus their bias. -/
module

public import proofs.«01_k».proof.Proof.Entries
public import proofs.«01_k».proof.Proof.Gen.Gates0Ideal.Frame
public import proofs.«01_k».proof.Defs
public import proofs.«01_k».proof.Proof.Gen.Gates0Ideal
public import proofs.«01_k».proof.Proof.Gen.Gates0Ideal.Value
public import proofs.«01_k».proof.Proof.Gen.RefGates0Ideal
public import proofs.«01_k».proof.Proof.Gen.RefGates0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.Gates0Ideal.Spec

open Idealize.ShloMosaic Idealize.ShloMosaic.TcCoe Idealize.ShloMosaic.Pointwise Idealize.SL.Sem Cert.Gates0Ideal Cert.Gates0Ideal.Gen Finset Cert.Proof
open Idealize.ShloMosaic.Pipeline (Dat)

variable (m : (ℓ : Loc nD τ sig) → Buf (Elt Ideal) ℓ) (c : Dev nD)

/-- The input, the weights and the bias as launched. -/
abbrev ht : S4096x2048.Idx → EReal := m ((c : Thread nD τ).loc main_arg0)
abbrev wt : S2x2048x6144.Idx → EReal := m ((c : Thread nD τ).loc main_arg1)
abbrev bt : S2x6144.Idx → EReal := m ((c : Thread nD τ).loc main_arg2)

theorem idx : ∀ t : Fin cfg0.N, win0_0.index t = ![t.val / 12, 0] ∧ win0_1.index t = ![t.val % 12 / 3, 0, 0, t.val % 12 % 3]
    ∧ win0_2.index t = ![0, t.val % 12] ∧ win0_3.index t = ![t.val / 12, t.val % 12] :=
  (by decide +kernel : ∀ t : Fin grid0.N, _)

theorem lhs (t : Fin cfg0.N) (y : S1024x2048.Idx) : iblk m c 0 t y = ent2 (ht m c) (1024 * (t.val / 12) + (y 0).val) (y 1).val := by
  obtain ⟨e0, e1, e2, e3⟩ := idx t
  blk_simp [iblk, e0]
  entry_read
  pointwise
  refine ent2_eq _ _ _ _ ?_ ?_ <;> blk_simp [e0]
  all_goals ring

theorem rhs (t : Fin cfg0.N) (y : S1x1x2048x512.Idx) : iblk m c 1 t y = ent3 (wt m c) 0 (y 2).val (512 * (t.val % 12) + (y 3).val) := by
  obtain ⟨e0, e1, e2, e3⟩ := idx t
  blk_simp [iblk, e1]
  entry_read
  pointwise
  have h0 : (y 0).val < 1 := (y 0).isLt
  have h1 : (y 1).val < 1 := (y 1).isLt
  have h2 : (y 2).val < 2048 := (y 2).isLt
  have h3 : (y 3).val < 512 := (y 3).isLt
  refine ent3_eq _ _ _ _ _ ?_ ?_ ?_ <;> blk_simp [e1]
  show t.val % 12 / 3 * 1536 + (t.val % 12 % 3 * 512 + (y 3).val) = _
  omega

theorem bias (t : Fin cfg0.N) (y : S1x512.Idx) : iblk m c 2 t y = ent2 (bt m c) 0 (512 * (t.val % 12) + (y 1).val) := by
  obtain ⟨e0, e1, e2, e3⟩ := idx t
  blk_simp [iblk, e2]
  entry_read
  pointwise
  have h0 : (y 0).val < 1 := (y 0).isLt
  refine ent2_eq _ _ _ _ ?_ ?_ <;> blk_simp [e2]
  · rfl
  · ring

/-- The gates of layer 0. -/
def G : FVec Ideal S4096x6144 .f32 := fun i =>
  Ideal.logistic ((∑ k : Fin 2048, ent2 (ht m c) (i 0).val k.val * ent3 (wt m c) 0 k.val (i 1).val) + ent2 (bt m c) 0 (i 1).val)

theorem block (t : Fin cfg0.N) (y : S1024x512.Idx) (i : S4096x6144.Idx) (h0 : (i 0).val = 1024 * (t.val / 12) + (y 0).val)
    (h1 : (i 1).val = 512 * (t.val % 12) + (y 1).val) : outsAt0 m c t y = G m c i := by
  unfold outsAt0
  frame_out
  unfold k0_pay3 k0_pay2 k0_pay1 G
  pointwise
  refine congrArg Ideal.logistic (congrArg₂ (fun a b : EReal => a + b) (sum_congr rfl fun k _ =>
    congrArg₂ (fun a b : EReal => a * b) ((lhs m c t _).trans ?_) ((rhs m c t _).trans ?_)) ((bias m c t _).trans ?_))
  · exact congrArg (ent2 (ht m c) · k.val) h0.symm
  · exact congrArg (ent3 (wt m c) 0 k.val) h1.symm
  · exact congrArg (ent2 (bt m c) 0) h1.symm

theorem final : (dats m 0 c).arrAt 3 cfg0.N = (G m c : S4096x6144.Idx → EReal) := by
  refine (dats m 0 c).arrAt_eq_of_covers 3 _ (by decide +kernel) fun t hf y => ?_
  obtain ⟨e0, e1, e2, e3⟩ := idx t
  blk_simp
  rw [after0_3]
  refine block m c t y _ ?_ ?_ <;> blk_simp [e3] <;> ring

theorem ref_eq (x0 : S4096x2048.Idx → EReal) (x1 : S2x2048x6144.Idx → EReal) (x2 : S2x6144.Idx → EReal) (h0 : x0 = ht m c) (h1 : x1 = wt m c)
    (h2 : x2 = bt m c) : Cert.RefGates0Ideal.Read.val_main_v13 (F := Ideal) x0 x1 x2 = G m c := by
  subst h0 h1 h2
  funext i
  open Cert.RefGates0Ideal.Read in
  rw [val_main_v13_apply, val_main_v12_apply, val_main_cst_0_apply, val_main_v11_apply, val_main_v10_apply, val_main_cst_apply, val_main_v9_apply,
    val_main_v8_apply, val_main_v7_apply, val_main_v6_apply, val_main_v5_apply, val_main_v4_apply, val_main_v3_apply, val_main_v2_apply]
  unfold G
  pointwise
  have h1 : (i 1).val < 6144 := (i 1).isLt
  refine congrArg Ideal.logistic (congrArg₂ (fun a b : EReal => a + b) (sum_congr rfl fun k _ =>
    congrArg₂ (fun a b : EReal => a * b) (ent2_eq _ _ _ _ rfl rfl) ?_) (ent2_eq _ _ _ _ ?_ ?_))
  · have hk : k.val < 2048 := k.isLt
    rw [Cert.RefGates0Ideal.Read.val_main_v1_apply, Cert.RefGates0Ideal.Read.val_main_v0_apply]
    refine ent3_eq _ _ _ _ _ rfl ?_ ?_
    · show (k.val * 6144 + (i 1).val) / 6144 % 2048 = k.val
      omega
    · show (k.val * 6144 + (i 1).val) % 6144 = (i 1).val
      omega
  · rfl
  · exact Nat.mod_eq_of_lt h1

theorem agree : Cert.algebraic_Gates0Ideal_RefGates0Ideal (hGates0Ideal := Cert.Gates0Ideal.Gen.facts) (hRefGates0Ideal := Cert.RefGates0Ideal.Gen.facts) := by
  intro m g m' g' _ hagree
  refine ⟨fun c => G m c, (θ_run Cert.Gates0Ideal.defs _ _).mono (fun r h c => ⟨(h c).1.trans (final m c), (h c).2⟩) (Cert.Gates0Ideal.Value.run_blocks (F := Ideal) m g),
    (θ_run Cert.RefGates0Ideal.defs _ _).mono (fun r h c => ⟨?_, (h c).2⟩) (Cert.RefGates0Ideal.Value.run (F := Ideal) m' g')⟩
  exact ((h c).1.trans (Cert.RefGates0Ideal.Read.val_main_v13_eq _ _ _)).trans (ref_eq m c _ _ _ (hagree c).1 (hagree c).2.1 (hagree c).2.2)

theorem ref_frame : Cert.quiescent_RefGates0Ideal (hRefGates0Ideal := Cert.RefGates0Ideal.Gen.facts) := fun m ρ _ =>
  (θ_run Cert.RefGates0Ideal.defs _ _).mono (fun r h => ⟨fun c => (h c).2, sem_eq_zero_of_no_sems (by decide) r.2⟩)
    (Cert.RefGates0Ideal.Value.run (F := Ideal) m ρ)

end Cert.Gates0Ideal.Spec
-- ==== Proof.DhIn0Val.lean ====
/- What the kernel of the gradient of the projections' input computes: a product with the transposed weights. -/
module

public import proofs.«01_k».proof.Proof.Entries
public import proofs.«01_k».proof.Proof.Gen.DhIn0Ideal.Frame
public import proofs.«01_k».proof.Defs
public import proofs.«01_k».proof.Proof.Gen.DhIn0Ideal
public import proofs.«01_k».proof.Proof.Gen.DhIn0Ideal.Value
public import proofs.«01_k».proof.Proof.Gen.RefDhIn0Ideal
public import proofs.«01_k».proof.Proof.Gen.RefDhIn0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DhIn0Ideal.Spec

open Idealize.ShloMosaic Idealize.ShloMosaic.TcCoe Idealize.ShloMosaic.Pointwise Idealize.SL.Sem Cert.DhIn0Ideal Cert.DhIn0Ideal.Gen Finset Cert.Proof
open Idealize.ShloMosaic.Pipeline (Dat)

variable (m : (ℓ : Loc nD τ sig) → Buf (Elt Ideal) ℓ) (c : Dev nD)

/-- The cotangent and the weights as launched. -/
abbrev ct : S4096x14336.Idx → EReal := m ((c : Thread nD τ).loc main_arg0)
abbrev wt : S2x2048x14336.Idx → EReal := m ((c : Thread nD τ).loc main_arg1)

theorem idx : ∀ t : Fin cfg0.N, win0_0.index t = ![t.val / 16, t.val % 4] ∧ win0_1.index t = ![t.val % 4, 0, t.val / 4 % 4, 0]
    ∧ win0_2.index t = ![t.val / 16, t.val / 4 % 4] :=
  (by decide +kernel : ∀ t : Fin grid0.N, _)

theorem lhs (t : Fin cfg0.N) (y : S1024x3584.Idx) :
    iblk m c 0 t y = ent2 (ct m c) (1024 * (t.val / 16) + (y 0).val) (3584 * (t.val % 4) + (y 1).val) := by
  obtain ⟨e0, e1, e2⟩ := idx t
  blk_simp [iblk, e0]
  entry_read
  pointwise
  refine ent2_eq _ _ _ _ ?_ ?_
  · blk_simp [e0]; ring
  · blk_simp [e0]; ring

theorem rhs (t : Fin cfg0.N) (y : S1x1x512x3584.Idx) :
    iblk m c 1 t y = ent3 (wt m c) 0 (512 * (t.val / 4 % 4) + (y 2).val) (3584 * (t.val % 4) + (y 3).val) := by
  obtain ⟨e0, e1, e2⟩ := idx t
  blk_simp [iblk, e1]
  entry_read
  pointwise
  have h0 : (y 0).val < 1 := (y 0).isLt
  have h1 : (y 1).val < 1 := (y 1).isLt
  refine ent3_eq _ _ _ _ _ ?_ ?_ ?_ <;> blk_simp [e1]
  · ring
  · ring

/-- One step's product. -/
def term (n : ℕ) (j : S1024x512.Idx) : EReal :=
  ∑ k : Fin 3584, ent2 (ct m c) (1024 * (n / 16) + (j 0).val) (3584 * (n % 4) + k.val)
    * ent3 (wt m c) 0 (512 * (n / 4 % 4) + (j 1).val) (3584 * (n % 4) + k.val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2 := by
  rw [outsAt0_C m c t (by omega) h]
  frame_out

/-- The product of the cotangent with the transposed weights of layer 0. -/
def G : FVec Ideal S4096x2048 .f32 := fun i => ∑ k ∈ range 14336, ent2 (ct m c) (i 0).val k * ent3 (wt m c) 0 (i 1).val k

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y = G m c i := by
  unfold G term
  refine Eq.trans ?_ (sum_blocks 3584 (fun q => ent2 (ct m c) (i 0).val q * ent3 (wt m c) 0 (i 1).val q) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 2 cfg0.N = (G m c : S4096x2048.Idx → EReal) := by
  refine (dats m 0 c).arrAt_eq_of_covers 2 _ (by decide +kernel) fun t hf y => ?_
  have hm := (flush0_2 t).mp hf
  obtain ⟨e0, e1, e2⟩ := idx t
  blk_simp
  rw [after0_2, written m c t hm, carried, hm, zero_add]
  refine block m c t.val y _ ?_ ?_ <;> blk_simp [e2] <;> ring

theorem ref_eq (x0 : S4096x14336.Idx → EReal) (x1 : S2x2048x14336.Idx → EReal) (h0 : x0 = ct m c) (h1 : x1 = wt m c) :
    Cert.RefDhIn0Ideal.Read.val_main_v4 (F := Ideal) x0 x1 = G m c := by
  subst h0 h1
  funext i
  rw [Cert.RefDhIn0Ideal.Read.val_main_v4_apply]
  unfold G
  rw [← Fin.sum_univ_eq_sum_range (fun k => ent2 (ct m c) (i 0).val k * ent3 (wt m c) 0 (i 1).val k)]
  refine sum_congr rfl fun k _ => ?_
  rw [Cert.RefDhIn0Ideal.Read.val_main_v2_apply, Cert.RefDhIn0Ideal.Read.val_main_v1_apply]
  have h0 : (i 0).val < 4096 := (i 0).isLt
  have h1 : (i 1).val < 2048 := (i 1).isLt
  have hk := k.isLt
  refine congrArg₂ (· * ·) (ent2_eq _ _ _ _ rfl rfl) (ent3_eq _ _ _ _ _ rfl ?_ ?_)
  · show ((i 1).val * 14336 + k.val) / 14336 % 2048 = (i 1).val
    omega
  · show ((i 1).val * 14336 + k.val) % 14336 = k.val
    omega

theorem agree : Cert.algebraic_DhIn0Ideal_RefDhIn0Ideal (hDhIn0Ideal := Cert.DhIn0Ideal.Gen.facts) (hRefDhIn0Ideal := Cert.RefDhIn0Ideal.Gen.facts) := by
  intro m g m' g' _ hagree
  refine ⟨fun c => G m c, (θ_run Cert.DhIn0Ideal.defs _ _).mono (fun r h c => ⟨(h c).1.trans (final m c), (h c).2⟩) (Cert.DhIn0Ideal.Value.run_blocks (F := Ideal) m g),
    (θ_run Cert.RefDhIn0Ideal.defs _ _).mono (fun r h c => ⟨?_, (h c).2⟩) (Cert.RefDhIn0Ideal.Value.run (F := Ideal) m' g')⟩
  exact ((h c).1.trans (Cert.RefDhIn0Ideal.Read.val_main_v4_eq _ _)).trans (ref_eq m c _ _ (hagree c).1 (hagree c).2)

theorem ref_frame : Cert.quiescent_RefDhIn0Ideal (hRefDhIn0Ideal := Cert.RefDhIn0Ideal.Gen.facts) := fun m ρ _ =>
  (θ_run Cert.RefDhIn0Ideal.defs _ _).mono (fun r h => ⟨fun c => (h c).2, sem_eq_zero_of_no_sems (by decide) r.2⟩)
    (Cert.RefDhIn0Ideal.Value.run (F := Ideal) m ρ)

end Cert.DhIn0Ideal.Spec

end
-- ==== Proof.DhGate0Val.lean ====
/- What the kernel of the gradient of the gates' input computes: the gradient so far plus a product with the transposed weights. -/
module

public import proofs.«01_k».proof.Proof.Entries
public import proofs.«01_k».proof.Proof.Gen.DhGate0Ideal.Frame
public import proofs.«01_k».proof.Defs
public import proofs.«01_k».proof.Proof.Gen.DhGate0Ideal
public import proofs.«01_k».proof.Proof.Gen.DhGate0Ideal.Value
public import proofs.«01_k».proof.Proof.Gen.RefDhGate0Ideal
public import proofs.«01_k».proof.Proof.Gen.RefDhGate0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DhGate0Ideal.Spec

open Idealize.ShloMosaic Idealize.ShloMosaic.TcCoe Idealize.ShloMosaic.Pointwise Idealize.SL.Sem Cert.DhGate0Ideal Cert.DhGate0Ideal.Gen Finset Cert.Proof
open Idealize.ShloMosaic.Pipeline (Dat)

variable (m : (ℓ : Loc nD τ sig) → Buf (Elt Ideal) ℓ) (c : Dev nD)

/-- The cotangent, the gradient so far and the weights as launched. -/
abbrev ct : S4096x6144.Idx → EReal := m ((c : Thread nD τ).loc main_arg0)
abbrev pt : S4096x2048.Idx → EReal := m ((c : Thread nD τ).loc main_arg2)
abbrev wt : S2x2048x6144.Idx → EReal := m ((c : Thread nD τ).loc main_arg1)

theorem idx : ∀ t : Fin cfg0.N, win0_0.index t = ![t.val / 16, t.val % 4] ∧ win0_1.index t = ![t.val % 4, 0, t.val / 4 % 4, 0]
    ∧ win0_2.index t = ![t.val / 16, t.val / 4 % 4] ∧ win0_3.index t = ![t.val / 16, t.val / 4 % 4] :=
  (by decide +kernel : ∀ t : Fin grid0.N, _)

theorem lhs (t : Fin cfg0.N) (y : S1024x1536.Idx) :
    iblk m c 0 t y = ent2 (ct m c) (1024 * (t.val / 16) + (y 0).val) (1536 * (t.val % 4) + (y 1).val) := by
  obtain ⟨e0, e1, e2, e3⟩ := idx t
  blk_simp [iblk, e0]
  entry_read
  pointwise
  refine ent2_eq _ _ _ _ ?_ ?_
  · blk_simp [e0]; ring
  · blk_simp [e0]; ring

theorem rhs (t : Fin cfg0.N) (y : S1x1x512x1536.Idx) :
    iblk m c 1 t y = ent3 (wt m c) 0 (512 * (t.val / 4 % 4) + (y 2).val) (1536 * (t.val % 4) + (y 3).val) := by
  obtain ⟨e0, e1, e2, e3⟩ := idx t
  blk_simp [iblk, e1]
  entry_read
  pointwise
  have h0 : (y 0).val < 1 := (y 0).isLt
  have h1 : (y 1).val < 1 := (y 1).isLt
  refine ent3_eq _ _ _ _ _ ?_ ?_ ?_ <;> blk_simp [e1]
  · ring
  · ring

theorem prev (t : Fin cfg0.N) (y : S1024x512.Idx) :
    iblk m c 2 t y = ent2 (pt m c) (1024 * (t.val / 16) + (y 0).val) (512 * (t.val / 4 % 4) + (y 1).val) := by
  obtain ⟨e0, e1, e2, e3⟩ := idx t
  blk_simp [iblk, e2]
  entry_read
  pointwise
  refine ent2_eq _ _ _ _ ?_ ?_
  · blk_simp [e2]; ring
  · blk_simp [e2]; ring

/-- One step's product. -/
def term (n : ℕ) (j : S1024x512.Idx) : EReal :=
  ∑ k : Fin 1536, ent2 (ct m c) (1024 * (n / 16) + (j 0).val) (1536 * (n % 4) + k.val)
    * ent3 (wt m c) 0 (512 * (n / 4 % 4) + (j 1).val) (1536 * (n % 4) + k.val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) (y : S1024x512.Idx) :
    (outsAt0 m c t.val t.isLt).1 y = ((show EReal from iblk m c 2 t y) + (outsAt0 m c t.val t.isLt).2 y : EReal) := by
  rw [outsAt0_C m c t (by omega) h]
  frame_out
  rfl

/-- The gradient so far plus the product of the cotangent with the transposed weights of layer 0. -/
def G : FVec Ideal S4096x2048 .f32 := fun i => ent2 (pt m c) (i 0).val (i 1).val
  + ∑ k ∈ range 6144, ent2 (ct m c) (i 0).val k * ent3 (wt m c) 0 (i 1).val k

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y
      = ∑ k ∈ range 6144, ent2 (ct m c) (i 0).val k * ent3 (wt m c) 0 (i 1).val k := by
  unfold term
  refine Eq.trans ?_ (sum_blocks 1536 (fun q => ent2 (ct m c) (i 0).val q * ent3 (wt m c) 0 (i 1).val q) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 3 cfg0.N = (G m c : S4096x2048.Idx → EReal) := by
  refine (dats m 0 c).arrAt_eq_of_covers 3 _ (by decide +kernel) fun t hf y => ?_
  have hm := (flush0_3 t).mp hf
  obtain ⟨e0, e1, e2, e3⟩ := idx t
  blk_simp
  rw [after0_3, written m c t hm, carried, hm, zero_add]
  have h0 : (((win0_3.blk t).view.emb y) 0).val = 1024 * (t.val / 16) + (y 0).val := by blk_simp [e3]; ring
  have h1 : (((win0_3.blk t).view.emb y) 1).val = 512 * (t.val / 4 % 4) + (y 1).val := by blk_simp [e3]; ring
  refine congrArg₂ (fun a b : EReal => a + b) ((prev m c t y).trans ?_) (block m c t.val y _ h0 h1)
  exact congrArg₂ (ent2 (pt m c)) h0.symm h1.symm

theorem ref_eq (x0 : S4096x6144.Idx → EReal) (x1 : S2x2048x6144.Idx → EReal) (x2 : S4096x2048.Idx → EReal) (h0 : x0 = ct m c) (h1 : x1 = wt m c)
    (h2 : x2 = pt m c) : Cert.RefDhGate0Ideal.Read.val_main_v5 (F := Ideal) x0 x1 x2 = G m c := by
  subst h0 h1 h2
  funext i
  rw [Cert.RefDhGate0Ideal.Read.val_main_v5_apply, Cert.RefDhGate0Ideal.Read.val_main_v4_apply]
  unfold G
  refine congrArg₂ (fun a b : EReal => a + b) (ent2_eq _ _ _ _ rfl rfl) ?_
  rw [← Fin.sum_univ_eq_sum_range (fun k => ent2 (ct m c) (i 0).val k * ent3 (wt m c) 0 (i 1).val k)]
  refine sum_congr rfl fun k _ => ?_
  rw [Cert.RefDhGate0Ideal.Read.val_main_v2_apply, Cert.RefDhGate0Ideal.Read.val_main_v1_apply]
  have h0 : (i 0).val < 4096 := (i 0).isLt
  have h1 : (i 1).val < 2048 := (i 1).isLt
  have hk := k.isLt
  refine congrArg₂ (· * ·) (ent2_eq _ _ _ _ rfl rfl) (ent3_eq _ _ _ _ _ rfl ?_ ?_)
  · show ((i 1).val * 6144 + k.val) / 6144 % 2048 = (i 1).val
    omega
  · show ((i 1).val * 6144 + k.val) % 6144 = k.val
    omega

theorem agree : Cert.algebraic_DhGate0Ideal_RefDhGate0Ideal (hDhGate0Ideal := Cert.DhGate0Ideal.Gen.facts) (hRefDhGate0Ideal := Cert.RefDhGate0Ideal.Gen.facts) := by
  intro m g m' g' _ hagree
  refine ⟨fun c => G m c, (θ_run Cert.DhGate0Ideal.defs _ _).mono (fun r h c => ⟨(h c).1.trans (final m c), (h c).2⟩) (Cert.DhGate0Ideal.Value.run_blocks (F := Ideal) m g),
    (θ_run Cert.RefDhGate0Ideal.defs _ _).mono (fun r h c => ⟨?_, (h c).2⟩) (Cert.RefDhGate0Ideal.Value.run (F := Ideal) m' g')⟩
  exact ((h c).1.trans (Cert.RefDhGate0Ideal.Read.val_main_v5_eq _ _ _)).trans (ref_eq m c _ _ _ (hagree c).1 (hagree c).2.1 (hagree c).2.2)

theorem ref_frame : Cert.quiescent_RefDhGate0Ideal (hRefDhGate0Ideal := Cert.RefDhGate0Ideal.Gen.facts) := fun m ρ _ =>
  (θ_run Cert.RefDhGate0Ideal.defs _ _).mono (fun r h => ⟨fun c => (h c).2, sem_eq_zero_of_no_sems (by decide) r.2⟩)
    (Cert.RefDhGate0Ideal.Value.run (F := Ideal) m ρ)

end Cert.DhGate0Ideal.Spec

end
-- ==== Proof.GradRowVal.lean ====
/- What the kernel of the gradient of a weight sharded by rows computes: the transposed input times the cotangent, in the layout of the chips. -/
module

public import proofs.«01_k».proof.Proof.Entries
public import proofs.«01_k».proof.Proof.Gen.GradRowIdeal.Frame
public import proofs.«01_k».proof.Defs
public import proofs.«01_k».proof.Proof.Gen.GradRowIdeal
public import proofs.«01_k».proof.Proof.Gen.GradRowIdeal.Value
public import proofs.«01_k».proof.Proof.Gen.RefGradRowIdeal
public import proofs.«01_k».proof.Proof.Gen.RefGradRowIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.GradRowIdeal.Spec

open Idealize.ShloMosaic Idealize.ShloMosaic.TcCoe Idealize.ShloMosaic.Pointwise Idealize.SL.Sem Cert.GradRowIdeal Cert.GradRowIdeal.Gen Finset Cert.Proof
open Idealize.ShloMosaic.Pipeline (Dat)

variable (m : (ℓ : Loc nD τ sig) → Buf (Elt Ideal) ℓ) (c : Dev nD)

/-- The input and the cotangent as launched. -/
abbrev ht : S4096x2048.Idx → EReal := m ((c : Thread nD τ).loc main_arg0)
abbrev ct : S4096x2048.Idx → EReal := m ((c : Thread nD τ).loc main_arg1)

theorem idx : ∀ t : Fin cfg0.N, win0_0.index t = ![0, t.val / 4] ∧ win0_1.index t = ![0, t.val % 4]
    ∧ win0_2.index t = ![t.val / 4, 0, t.val % 4] :=
  (by decide +kernel : ∀ t : Fin grid0.N, _)

theorem lhs (t : Fin cfg0.N) (y : S4096x512.Idx) : iblk m c 0 t y = ent2 (ht m c) (y 0).val (512 * (t.val / 4) + (y 1).val) := by
  obtain ⟨e0, e1, e2⟩ := idx t
  blk_simp [iblk, e0]
  entry_read
  pointwise
  refine ent2_eq _ _ _ _ ?_ ?_ <;> blk_simp [e0]
  all_goals first | ring | skip

theorem rhs (t : Fin cfg0.N) (y : S4096x512.Idx) : iblk m c 1 t y = ent2 (ct m c) (y 0).val (512 * (t.val % 4) + (y 1).val) := by
  obtain ⟨e0, e1, e2⟩ := idx t
  blk_simp [iblk, e1]
  entry_read
  pointwise
  refine ent2_eq _ _ _ _ ?_ ?_ <;> blk_simp [e1]
  all_goals first | ring | skip

/-- The product of the transposed input with the cotangent, chip by chip. -/
def G : FVec Ideal S4x512x2048 .bf16 := fun i => ∑ k : Fin 4096, ent2 (ht m c) k.val (512 * (i 0).val + (i 1).val) * ent2 (ct m c) k.val (i 2).val

theorem block (t : Fin cfg0.N) (y : S1x512x512.Idx) (i : S4x512x2048.Idx) (h0 : (i 0).val = t.val / 4) (h1 : (i 1).val = (y 1).val)
    (h2 : (i 2).val = 512 * (t.val % 4) + (y 2).val) : outsAt0 m c t y = G m c i := by
  unfold outsAt0
  frame_out
  unfold k0_pay3 k0_pay2 k0_pay1 G
  pointwise
  refine sum_congr rfl fun k _ => congrArg₂ (fun a b : EReal => a * b) ((lhs m c t _).trans ?_) ((rhs m c t _).trans ?_)
  · refine congrArg (ent2 (ht m c) k.val) ?_
    show 512 * (t.val / 4) + (y 1).val = _
    rw [h0, h1]
  · exact congrArg (ent2 (ct m c) k.val) h2.symm

theorem final : (dats m 0 c).arrAt 2 cfg0.N = (G m c : S4x512x2048.Idx → EReal) := by
  refine (dats m 0 c).arrAt_eq_of_covers 2 _ (by decide +kernel) fun t hf y => ?_
  obtain ⟨e0, e1, e2⟩ := idx t
  blk_simp
  rw [after0_2]
  refine block m c t y _ ?_ ?_ ?_ <;> blk_simp [e2]
  all_goals first | ring | skip

theorem ref_eq (x0 : S4096x2048.Idx → EReal) (x1 : S4096x2048.Idx → EReal) (h0 : x0 = ht m c) (h1 : x1 = ct m c) :
    Cert.RefGradRowIdeal.Read.val_main_v5 (F := Ideal) x0 x1 = G m c := by
  subst h0 h1
  funext i
  rw [Cert.RefGradRowIdeal.Read.val_main_v5_apply, Cert.RefGradRowIdeal.Read.val_main_v4_apply,
    Cert.RefGradRowIdeal.Read.val_main_v3_apply, Cert.RefGradRowIdeal.Read.val_main_v2_apply]
  unfold G
  have h0 : (i 0).val < 4 := (i 0).isLt
  have h1 : (i 1).val < 512 := (i 1).isLt
  have h2 : (i 2).val < 2048 := (i 2).isLt
  refine sum_congr rfl fun k _ => (mul_comm _ _).trans (congrArg₂ (· * ·) (ent2_eq _ _ _ _ rfl ?_) (ent2_eq _ _ _ _ rfl ?_))
  · show (((i 0).val * 512 + (i 1).val) * 2048 + (i 2).val) / 2048 = 512 * (i 0).val + (i 1).val
    omega
  · show (((i 0).val * 512 + (i 1).val) * 2048 + (i 2).val) % 2048 = (i 2).val
    omega

theorem agree : Cert.algebraic_GradRowIdeal_RefGradRowIdeal (hGradRowIdeal := Cert.GradRowIdeal.Gen.facts) (hRefGradRowIdeal := Cert.RefGradRowIdeal.Gen.facts) := by
  intro m g m' g' _ hagree
  refine ⟨fun c => G m c, (θ_run Cert.GradRowIdeal.defs _ _).mono (fun r h c => ⟨(h c).1.trans (final m c), (h c).2⟩) (Cert.GradRowIdeal.Value.run_blocks (F := Ideal) m g),
    (θ_run Cert.RefGradRowIdeal.defs _ _).mono (fun r h c => ⟨?_, (h c).2⟩) (Cert.RefGradRowIdeal.Value.run (F := Ideal) m' g')⟩
  exact ((h c).1.trans (Cert.RefGradRowIdeal.Read.val_main_v5_eq _ _)).trans (ref_eq m c _ _ (hagree c).1 (hagree c).2)

theorem ref_frame : Cert.quiescent_RefGradRowIdeal (hRefGradRowIdeal := Cert.RefGradRowIdeal.Gen.facts) := fun m ρ _ =>
  (θ_run Cert.RefGradRowIdeal.defs _ _).mono (fun r h => ⟨fun c => (h c).2, sem_eq_zero_of_no_sems (by decide) r.2⟩)
    (Cert.RefGradRowIdeal.Value.run (F := Ideal) m ρ)

end Cert.GradRowIdeal.Spec
-- ==== Proof.GradColVal.lean ====
/- What the kernel of the gradient of a branch's weights computes: the transposed input times the cotangent, in the layout of the chips. -/
module

public import proofs.«01_k».proof.Proof.Entries
public import proofs.«01_k».proof.Proof.Gen.GradColIdeal.Frame
public import proofs.«01_k».proof.Defs
public import proofs.«01_k».proof.Proof.Gen.GradColIdeal
public import proofs.«01_k».proof.Proof.Gen.GradColIdeal.Value
public import proofs.«01_k».proof.Proof.Gen.RefGradColIdeal
public import proofs.«01_k».proof.Proof.Gen.RefGradColIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.GradColIdeal.Spec

open Idealize.ShloMosaic Idealize.ShloMosaic.TcCoe Idealize.ShloMosaic.Pointwise Idealize.SL.Sem Cert.GradColIdeal Cert.GradColIdeal.Gen Finset Cert.Proof
open Idealize.ShloMosaic.Pipeline (Dat)

variable (m : (ℓ : Loc nD τ sig) → Buf (Elt Ideal) ℓ) (c : Dev nD)

/-- The input and the cotangent as launched. -/
abbrev ht : S4096x1024.Idx → EReal := m ((c : Thread nD τ).loc main_arg0)
abbrev ct : S4096x2048.Idx → EReal := m ((c : Thread nD τ).loc main_arg1)

theorem idx : ∀ t : Fin cfg0.N, win0_0.index t = ![0, t.val / 4] ∧ win0_1.index t = ![0, t.val % 4]
    ∧ win0_2.index t = ![t.val % 4, t.val / 4, 0] :=
  (by decide +kernel : ∀ t : Fin grid0.N, _)

theorem lhs (t : Fin cfg0.N) (y : S4096x512.Idx) : iblk m c 0 t y = ent2 (ht m c) (y 0).val (512 * (t.val / 4) + (y 1).val) := by
  obtain ⟨e0, e1, e2⟩ := idx t
  blk_simp [iblk, e0]
  entry_read
  pointwise
  refine ent2_eq _ _ _ _ ?_ ?_ <;> blk_simp [e0]
  all_goals first | ring | skip

theorem rhs (t : Fin cfg0.N) (y : S4096x512.Idx) : iblk m c 1 t y = ent2 (ct m c) (y 0).val (512 * (t.val % 4) + (y 1).val) := by
  obtain ⟨e0, e1, e2⟩ := idx t
  blk_simp [iblk, e1]
  entry_read
  pointwise
  refine ent2_eq _ _ _ _ ?_ ?_ <;> blk_simp [e1]
  all_goals first | ring | skip

/-- The product of the transposed input with the cotangent, chip by chip. -/
def G : FVec Ideal S4x1024x512 .bf16 := fun i => ∑ k : Fin 4096, ent2 (ht m c) k.val (i 1).val * ent2 (ct m c) k.val (512 * (i 0).val + (i 2).val)

theorem block (t : Fin cfg0.N) (y : S1x512x512.Idx) (i : S4x1024x512.Idx) (h0 : (i 0).val = t.val % 4) (h1 : (i 1).val = 512 * (t.val / 4) + (y 1).val)
    (h2 : (i 2).val = (y 2).val) : outsAt0 m c t y = G m c i := by
  unfold outsAt0
  frame_out
  unfold k0_pay3 k0_pay2 k0_pay1 G
  pointwise
  refine sum_congr rfl fun k _ => congrArg₂ (fun a b : EReal => a * b) ((lhs m c t _).trans ?_) ((rhs m c t _).trans ?_)
  · exact congrArg (ent2 (ht m c) k.val) h1.symm
  · refine congrArg (ent2 (ct m c) k.val) ?_
    show 512 * (t.val % 4) + (y 2).val = _
    rw [h0, h2]

theorem final : (dats m 0 c).arrAt 2 cfg0.N = (G m c : S4x1024x512.Idx → EReal) := by
  refine (dats m 0 c).arrAt_eq_of_covers 2 _ (by decide +kernel) fun t hf y => ?_
  obtain ⟨e0, e1, e2⟩ := idx t
  blk_simp
  rw [after0_2]
  refine block m c t y _ ?_ ?_ ?_ <;> blk_simp [e2]
  all_goals first | ring | skip

theorem ref_eq (x0 : S4096x1024.Idx → EReal) (x1 : S4096x2048.Idx → EReal) (h0 : x0 = ht m c) (h1 : x1 = ct m c) :
    Cert.RefGradColIdeal.Read.val_main_v6 (F := Ideal) x0 x1 = G m c := by
  subst h0 h1
  funext i
  rw [Cert.RefGradColIdeal.Read.val_main_v6_apply, Cert.RefGradColIdeal.Read.val_main_v5_apply, Cert.RefGradColIdeal.Read.val_main_v4_apply,
    Cert.RefGradColIdeal.Read.val_main_v3_apply, Cert.RefGradColIdeal.Read.val_main_v2_apply]
  unfold G
  have h0 : (i 0).val < 4 := (i 0).isLt
  have h1 : (i 1).val < 1024 := (i 1).isLt
  have h2 : (i 2).val < 512 := (i 2).isLt
  refine sum_congr rfl fun k _ => (mul_comm _ _).trans (congrArg₂ (· * ·) (ent2_eq _ _ _ _ rfl ?_) (ent2_eq _ _ _ _ rfl ?_))
  · show (((i 1).val * 4 + (i 0).val) * 512 + (i 2).val) / 2048 = (i 1).val
    omega
  · show (((i 1).val * 4 + (i 0).val) * 512 + (i 2).val) % 2048 = 512 * (i 0).val + (i 2).val
    omega

theorem agree : Cert.algebraic_GradColIdeal_RefGradColIdeal (hGradColIdeal := Cert.GradColIdeal.Gen.facts) (hRefGradColIdeal := Cert.RefGradColIdeal.Gen.facts) := by
  intro m g m' g' _ hagree
  refine ⟨fun c => G m c, (θ_run Cert.GradColIdeal.defs _ _).mono (fun r h c => ⟨(h c).1.trans (final m c), (h c).2⟩) (Cert.GradColIdeal.Value.run_blocks (F := Ideal) m g),
    (θ_run Cert.RefGradColIdeal.defs _ _).mono (fun r h c => ⟨?_, (h c).2⟩) (Cert.RefGradColIdeal.Value.run (F := Ideal) m' g')⟩
  exact ((h c).1.trans (Cert.RefGradColIdeal.Read.val_main_v6_eq _ _)).trans (ref_eq m c _ _ (hagree c).1 (hagree c).2)

theorem ref_frame : Cert.quiescent_RefGradColIdeal (hRefGradColIdeal := Cert.RefGradColIdeal.Gen.facts) := fun m ρ _ =>
  (θ_run Cert.RefGradColIdeal.defs _ _).mono (fun r h => ⟨fun c => (h c).2, sem_eq_zero_of_no_sems (by decide) r.2⟩)
    (Cert.RefGradColIdeal.Value.run (F := Ideal) m ρ)

end Cert.GradColIdeal.Spec

end
-- ==== Proof.DRowVal.lean ====
/- What the kernel of the gradient of a branch's input computes where the weights are cut by rows: a product with the transposed weights of layer 1. -/
module

public import proofs.«01_k».proof.Proof.Entries
public import proofs.«01_k».proof.Proof.Gen.DRowIdeal.Frame
public import proofs.«01_k».proof.Defs
public import proofs.«01_k».proof.Proof.Gen.DRowIdeal
public import proofs.«01_k».proof.Proof.Gen.DRowIdeal.Value
public import proofs.«01_k».proof.Proof.Gen.RefDRowIdeal
public import proofs.«01_k».proof.Proof.Gen.RefDRowIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DRowIdeal.Spec

open Idealize.ShloMosaic Idealize.ShloMosaic.TcCoe Idealize.ShloMosaic.Pointwise Idealize.SL.Sem Cert.DRowIdeal Cert.DRowIdeal.Gen Finset Cert.Proof
open Idealize.ShloMosaic.Pipeline (Dat)

variable (m : (ℓ : Loc nD τ sig) → Buf (Elt Ideal) ℓ) (c : Dev nD)

/-- The cotangent and the weights as launched. -/
abbrev ht : S4096x2048.Idx → EReal := m ((c : Thread nD τ).loc main_arg0)
abbrev wt : S2x2048x2048.Idx → EReal := m ((c : Thread nD τ).loc main_arg1)

theorem idx : ∀ t : Fin cfg0.N, win0_0.index t = ![t.val / 4, 0]
    ∧ win0_1.index t = ![t.val % 4, 1, 0, 0]
    ∧ win0_2.index t = ![t.val / 4, t.val % 4] :=
  (by decide +kernel : ∀ t : Fin grid0.N, _)

theorem lhs (t : Fin cfg0.N) (y : S1024x2048.Idx) : iblk m c 0 t y = ent2 (ht m c) (1024 * (t.val / 4) + (y 0).val) (y 1).val := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x512x2048.Idx) : iblk m c 1 t y = ent3 (wt m c) 1 (512 * (t.val % 4) + (y 2).val) (y 3).val := by
  obtain ⟨e0, e1, e2⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 2048 := (y 3).isLt
  refine ent3_eq _ _ _ _ _ ?_ ?_ ?_ <;> blk_simp [e1]
  all_goals first | rfl | ring | omega

/-- The product with the transposed weights of layer 1. -/
def G : FVec Ideal S4096x2048 .f32 := fun i => ∑ k : Fin 2048, ent2 (ht m c) (i 0).val k.val * ent3 (wt m c) 1 (i 1).val k.val

theorem block (t : Fin cfg0.N) (y : S1024x512.Idx) (i : S4096x2048.Idx) (h0 : (i 0).val = 1024 * (t.val / 4) + (y 0).val)
    (h1 : (i 1).val = 512 * (t.val % 4) + (y 1).val) : outsAt0 m c t y = G m c i := by
  unfold outsAt0
  frame_out
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 1 · k.val) h1.symm

theorem final : (dats m 0 c).arrAt 2 cfg0.N = (G m c : S4096x2048.Idx → EReal) := by
  refine (dats m 0 c).arrAt_eq_of_covers 2 _ (by decide +kernel) fun t hf y => ?_
  obtain ⟨e0, e1, e2⟩ := idx t
  blk_simp
  rw [after0_2]
  refine block m c t y _ ?_ ?_ <;> blk_simp [e2] <;> ring

theorem ref_eq (x0 : S4096x2048.Idx → EReal) (x1 : S2x2048x2048.Idx → EReal) (h0 : x0 = ht m c) (h1 : x1 = wt m c) :
    Cert.RefDRowIdeal.Read.val_main_v4 (F := Ideal) x0 x1 = G m c := by
  subst h0 h1
  funext i
  rw [Cert.RefDRowIdeal.Read.val_main_v4_apply]
  unfold G
  have h1 : (i 1).val < 2048 := (i 1).isLt
  refine sum_congr rfl fun k _ => ?_
  have hk : k.val < 2048 := k.isLt
  rw [Cert.RefDRowIdeal.Read.val_main_v2_apply, Cert.RefDRowIdeal.Read.val_main_v1_apply]
  refine congrArg₂ (· * ·) (ent2_eq _ _ _ _ rfl rfl) (ent3_eq _ _ _ _ _ rfl ?_ ?_)
  · show ((i 1).val * 2048 + k.val) / 2048 % 2048 = (i 1).val
    omega
  · show ((i 1).val * 2048 + k.val) % 2048 = k.val
    omega

theorem agree : Cert.algebraic_DRowIdeal_RefDRowIdeal (hDRowIdeal := Cert.DRowIdeal.Gen.facts) (hRefDRowIdeal := Cert.RefDRowIdeal.Gen.facts) := by
  intro m g m' g' _ hagree
  refine ⟨fun c => G m c, (θ_run Cert.DRowIdeal.defs _ _).mono (fun r h c => ⟨(h c).1.trans (final m c), (h c).2⟩) (Cert.DRowIdeal.Value.run_blocks (F := Ideal) m g),
    (θ_run Cert.RefDRowIdeal.defs _ _).mono (fun r h c => ⟨?_, (h c).2⟩) (Cert.RefDRowIdeal.Value.run (F := Ideal) m' g')⟩
  exact ((h c).1.trans (Cert.RefDRowIdeal.Read.val_main_v4_eq _ _)).trans (ref_eq m c _ _ (hagree c).1 (hagree c).2)

theorem ref_frame : Cert.quiescent_RefDRowIdeal (hRefDRowIdeal := Cert.RefDRowIdeal.Gen.facts) := fun m ρ _ =>
  (θ_run Cert.RefDRowIdeal.defs _ _).mono (fun r h => ⟨fun c => (h c).2, sem_eq_zero_of_no_sems (by decide) r.2⟩)
    (Cert.RefDRowIdeal.Value.run (F := Ideal) m ρ)

end Cert.DRowIdeal.Spec

end
-- ==== Proof.DRow0Val.lean ====
/- What the kernel of the gradient of a branch's input computes where the weights are cut by rows: a product with the transposed weights of layer 0. -/
module

public import proofs.«01_k».proof.Proof.Entries
public import proofs.«01_k».proof.Proof.Gen.DRow0Ideal.Frame
public import proofs.«01_k».proof.Defs
public import proofs.«01_k».proof.Proof.Gen.DRow0Ideal
public import proofs.«01_k».proof.Proof.Gen.DRow0Ideal.Value
public import proofs.«01_k».proof.Proof.Gen.RefDRow0Ideal
public import proofs.«01_k».proof.Proof.Gen.RefDRow0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DRow0Ideal.Spec

open Idealize.ShloMosaic Idealize.ShloMosaic.TcCoe Idealize.ShloMosaic.Pointwise Idealize.SL.Sem Cert.DRow0Ideal Cert.DRow0Ideal.Gen Finset Cert.Proof
open Idealize.ShloMosaic.Pipeline (Dat)

variable (m : (ℓ : Loc nD τ sig) → Buf (Elt Ideal) ℓ) (c : Dev nD)

/-- The cotangent and the weights as launched. -/
abbrev ht : S4096x2048.Idx → EReal := m ((c : Thread nD τ).loc main_arg0)
abbrev wt : S2x2048x2048.Idx → EReal := m ((c : Thread nD τ).loc main_arg1)

theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

theorem lhs (t : Fin cfg0.N) (y : S1024x2048.Idx) : iblk m c 0 t y = ent2 (ht m c) (1024 * (t.val / 4) + (y 0).val) (y 1).val := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x512x2048.Idx) : iblk m c 1 t y = ent3 (wt m c) 0 (512 * (t.val % 4) + (y 2).val) (y 3).val := by
  obtain ⟨e0, e1, e2⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 2048 := (y 3).isLt
  refine ent3_eq _ _ _ _ _ ?_ ?_ ?_ <;> blk_simp [e1]
  all_goals first | rfl | ring | omega

/-- The product with the transposed weights of layer 0. -/
def G : FVec Ideal S4096x2048 .f32 := fun i => ∑ k : Fin 2048, ent2 (ht m c) (i 0).val k.val * ent3 (wt m c) 0 (i 1).val k.val

theorem block (t : Fin cfg0.N) (y : S1024x512.Idx) (i : S4096x2048.Idx) (h0 : (i 0).val = 1024 * (t.val / 4) + (y 0).val)
    (h1 : (i 1).val = 512 * (t.val % 4) + (y 1).val) : outsAt0 m c t y = G m c i := by
  unfold outsAt0
  frame_out
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 0 · k.val) h1.symm

theorem final : (dats m 0 c).arrAt 2 cfg0.N = (G m c : S4096x2048.Idx → EReal) := by
  refine (dats m 0 c).arrAt_eq_of_covers 2 _ (by decide +kernel) fun t hf y => ?_
  obtain ⟨e0, e1, e2⟩ := idx t
  blk_simp
  rw [after0_2]
  refine block m c t y _ ?_ ?_ <;> blk_simp [e2] <;> ring

theorem ref_eq (x0 : S4096x2048.Idx → EReal) (x1 : S2x2048x2048.Idx → EReal) (h0 : x0 = ht m c) (h1 : x1 = wt m c) :
    Cert.RefDRow0Ideal.Read.val_main_v4 (F := Ideal) x0 x1 = G m c := by
  subst h0 h1
  funext i
  rw [Cert.RefDRow0Ideal.Read.val_main_v4_apply]
  unfold G
  have h1 : (i 1).val < 2048 := (i 1).isLt
  refine sum_congr rfl fun k _ => ?_
  have hk : k.val < 2048 := k.isLt
  rw [Cert.RefDRow0Ideal.Read.val_main_v2_apply, Cert.RefDRow0Ideal.Read.val_main_v1_apply]
  refine congrArg₂ (· * ·) (ent2_eq _ _ _ _ rfl rfl) (ent3_eq _ _ _ _ _ rfl ?_ ?_)
  · show ((i 1).val * 2048 + k.val) / 2048 % 2048 = (i 1).val
    omega
  · show ((i 1).val * 2048 + k.val) % 2048 = k.val
    omega

theorem agree : Cert.algebraic_DRow0Ideal_RefDRow0Ideal (hDRow0Ideal := Cert.DRow0Ideal.Gen.facts) (hRefDRow0Ideal := Cert.RefDRow0Ideal.Gen.facts) := by
  intro m g m' g' _ hagree
  refine ⟨fun c => G m c, (θ_run Cert.DRow0Ideal.defs _ _).mono (fun r h c => ⟨(h c).1.trans (final m c), (h c).2⟩) (Cert.DRow0Ideal.Value.run_blocks (F := Ideal) m g),
    (θ_run Cert.RefDRow0Ideal.defs _ _).mono (fun r h c => ⟨?_, (h c).2⟩) (Cert.RefDRow0Ideal.Value.run (F := Ideal) m' g')⟩
  exact ((h c).1.trans (Cert.RefDRow0Ideal.Read.val_main_v4_eq _ _)).trans (ref_eq m c _ _ (hagree c).1 (hagree c).2)

theorem ref_frame : Cert.quiescent_RefDRow0Ideal (hRefDRow0Ideal := Cert.RefDRow0Ideal.Gen.facts) := fun m ρ _ =>
  (θ_run Cert.RefDRow0Ideal.defs _ _).mono (fun r h => ⟨fun c => (h c).2, sem_eq_zero_of_no_sems (by decide) r.2⟩)
    (Cert.RefDRow0Ideal.Value.run (F := Ideal) m ρ)

end Cert.DRow0Ideal.Spec

end
-- ==== Proof.DColVal.lean ====
/- What the kernel of the gradient of a branch's input computes where the weights are cut by columns: a product with the transposed weights of layer 1. -/
module

public import proofs.«01_k».proof.Proof.Entries
public import proofs.«01_k».proof.Proof.Gen.DColIdeal.Frame
public import proofs.«01_k».proof.Defs
public import proofs.«01_k».proof.Proof.Gen.DColIdeal
public import proofs.«01_k».proof.Proof.Gen.DColIdeal.Value
public import proofs.«01_k».proof.Proof.Gen.RefDColIdeal
public import proofs.«01_k».proof.Proof.Gen.RefDColIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DColIdeal.Spec

open Idealize.ShloMosaic Idealize.ShloMosaic.TcCoe Idealize.ShloMosaic.Pointwise Idealize.SL.Sem Cert.DColIdeal Cert.DColIdeal.Gen Finset Cert.Proof
open Idealize.ShloMosaic.Pipeline (Dat)

variable (m : (ℓ : Loc nD τ sig) → Buf (Elt Ideal) ℓ) (c : Dev nD)

/-- The cotangent and the weights as launched. -/
abbrev ht : S4096x2048.Idx → EReal := m ((c : Thread nD τ).loc main_arg0)
abbrev wt : S2x1024x2048.Idx → EReal := m ((c : Thread nD τ).loc main_arg1)

theorem idx : ∀ t : Fin cfg0.N, win0_0.index t = ![t.val / 8, t.val % 4]
    ∧ win0_1.index t = ![t.val % 4, 1, t.val / 4 % 2, 0]
    ∧ win0_2.index t = ![t.val / 8, t.val / 4 % 2] :=
  (by decide +kernel : ∀ t : Fin grid0.N, _)

theorem lhs (t : Fin cfg0.N) (y : S1024x512.Idx) : iblk m c 0 t y = ent2 (ht m c) (1024 * (t.val / 8) + (y 0).val) (512 * (t.val % 4) + (y 1).val) := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x512x512.Idx) : iblk m c 1 t y = ent3 (wt m c) 1 (512 * (t.val / 4 % 2) + (y 2).val) (512 * (t.val % 4) + (y 3).val) := by
  obtain ⟨e0, e1, e2⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 512 := (y 3).isLt
  refine ent3_eq _ _ _ _ _ ?_ ?_ ?_ <;> blk_simp [e1]
  all_goals first | rfl | ring | omega

/-- One step's product. -/
def term (n : ℕ) (j : S1024x512.Idx) : EReal :=
  ∑ k : Fin 512, ent2 (ht m c) (1024 * (n / 8) + (j 0).val) (512 * (n % 4) + k.val)
    * ent3 (wt m c) 1 (512 * (n / 4 % 2) + (j 1).val) (512 * (n % 4) + k.val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2 := by
  rw [outsAt0_C m c t (by omega) h]
  frame_out

/-- The product with the transposed weights of layer 1. -/
def G : FVec Ideal S4096x1024 .f32 := fun i => ∑ k ∈ range 2048, ent2 (ht m c) (i 0).val k * ent3 (wt m c) 1 (i 1).val k

/-- The four products of one block are the whole product on it. -/
theorem block (n : ℕ) (y : S1024x512.Idx) (i : S4096x1024.Idx) (h0 : (i 0).val = 1024 * (n / 8) + (y 0).val)
    (h1 : (i 1).val = 512 * (n / 4 % 2) + (y 1).val) : ∑ k ∈ range 4, term m c (4 * (n / 4) + k) y = G m c i := by
  unfold G term
  refine Eq.trans ?_ (sum_blocks 512 (fun q => ent2 (ht m c) (i 0).val q * ent3 (wt m c) 1 (i 1).val q) 4)
  refine sum_congr rfl fun k hk => sum_congr rfl fun q _ => ?_
  have hk := mem_range.mp hk
  have a0 : (4 * (n / 4) + k) / 8 = n / 8 := by omega
  have a1 : (4 * (n / 4) + k) % 4 = k := by omega
  have a2 : (4 * (n / 4) + k) / 4 % 2 = n / 4 % 2 := by omega
  rw [a0, a1, a2, h0, h1]

theorem final : (dats m 0 c).arrAt 2 cfg0.N = (G m c : S4096x1024.Idx → EReal) := by
  refine (dats m 0 c).arrAt_eq_of_covers 2 _ (by decide +kernel) fun t hf y => ?_
  have hm := (flush0_2 t).mp hf
  obtain ⟨e0, e1, e2⟩ := idx t
  blk_simp
  rw [after0_2, written m c t hm, carried, hm, zero_add]
  refine block m c t.val y _ ?_ ?_ <;> blk_simp [e2] <;> ring

theorem ref_eq (x0 : S4096x2048.Idx → EReal) (x1 : S2x1024x2048.Idx → EReal) (h0 : x0 = ht m c) (h1 : x1 = wt m c) :
    Cert.RefDColIdeal.Read.val_main_v4 (F := Ideal) x0 x1 = G m c := by
  subst h0 h1
  funext i
  rw [Cert.RefDColIdeal.Read.val_main_v4_apply]
  unfold G
  rw [← Fin.sum_univ_eq_sum_range (fun k => ent2 (ht m c) (i 0).val k * ent3 (wt m c) 1 (i 1).val k)]
  refine sum_congr rfl fun k _ => ?_
  rw [Cert.RefDColIdeal.Read.val_main_v2_apply, Cert.RefDColIdeal.Read.val_main_v1_apply]
  have h1 : (i 1).val < 1024 := (i 1).isLt
  have hk := k.isLt
  refine congrArg₂ (· * ·) (ent2_eq _ _ _ _ rfl rfl) (ent3_eq _ _ _ _ _ rfl ?_ ?_)
  · show ((i 1).val * 2048 + k.val) / 2048 % 1024 = (i 1).val
    omega
  · show ((i 1).val * 2048 + k.val) % 2048 = k.val
    omega

theorem agree : Cert.algebraic_DColIdeal_RefDColIdeal (hDColIdeal := Cert.DColIdeal.Gen.facts) (hRefDColIdeal := Cert.RefDColIdeal.Gen.facts) := by
  intro m g m' g' _ hagree
  refine ⟨fun c => G m c, (θ_run Cert.DColIdeal.defs _ _).mono (fun r h c => ⟨(h c).1.trans (final m c), (h c).2⟩) (Cert.DColIdeal.Value.run_blocks (F := Ideal) m g),
    (θ_run Cert.RefDColIdeal.defs _ _).mono (fun r h c => ⟨?_, (h c).2⟩) (Cert.RefDColIdeal.Value.run (F := Ideal) m' g')⟩
  exact ((h c).1.trans (Cert.RefDColIdeal.Read.val_main_v4_eq _ _)).trans (ref_eq m c _ _ (hagree c).1 (hagree c).2)

theorem ref_frame : Cert.quiescent_RefDColIdeal (hRefDColIdeal := Cert.RefDColIdeal.Gen.facts) := fun m ρ _ =>
  (θ_run Cert.RefDColIdeal.defs _ _).mono (fun r h => ⟨fun c => (h c).2, sem_eq_zero_of_no_sems (by decide) r.2⟩)
    (Cert.RefDColIdeal.Value.run (F := Ideal) m ρ)

end Cert.DColIdeal.Spec

end
-- ==== Proof.DCol0Val.lean ====
/- What the kernel of the gradient of a branch's input computes where the weights are cut by columns: a product with the transposed weights of layer 0. -/
module

public import proofs.«01_k».proof.Proof.Entries
public import proofs.«01_k».proof.Proof.Gen.DCol0Ideal.Frame
public import proofs.«01_k».proof.Defs
public import proofs.«01_k».proof.Proof.Gen.DCol0Ideal
public import proofs.«01_k».proof.Proof.Gen.DCol0Ideal.Value
public import proofs.«01_k».proof.Proof.Gen.RefDCol0Ideal
public import proofs.«01_k».proof.Proof.Gen.RefDCol0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.DCol0Ideal.Spec

open Idealize.ShloMosaic Idealize.ShloMosaic.TcCoe Idealize.ShloMosaic.Pointwise Idealize.SL.Sem Cert.DCol0Ideal Cert.DCol0Ideal.Gen Finset Cert.Proof
open Idealize.ShloMosaic.Pipeline (Dat)

variable (m : (ℓ : Loc nD τ sig) → Buf (Elt Ideal) ℓ) (c : Dev nD)

/-- The cotangent and the weights as launched. -/
abbrev ht : S4096x2048.Idx → EReal := m ((c : Thread nD τ).loc main_arg0)
abbrev wt : S2x1024x2048.Idx → EReal := m ((c : Thread nD τ).loc main_arg1)

theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

theorem lhs (t : Fin cfg0.N) (y : S1024x512.Idx) : iblk m c 0 t y = ent2 (ht m c) (1024 * (t.val / 8) + (y 0).val) (512 * (t.val % 4) + (y 1).val) := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x512x512.Idx) : iblk m c 1 t y = ent3 (wt m c) 0 (512 * (t.val / 4 % 2) + (y 2).val) (512 * (t.val % 4) + (y 3).val) := by
  obtain ⟨e0, e1, e2⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 512 := (y 3).isLt
  refine ent3_eq _ _ _ _ _ ?_ ?_ ?_ <;> blk_simp [e1]
  all_goals first | rfl | ring | omega

/-- One step's product. -/
def term (n : ℕ) (j : S1024x512.Idx) : EReal :=
  ∑ k : Fin 512, ent2 (ht m c) (1024 * (n / 8) + (j 0).val) (512 * (n % 4) + k.val)
    * ent3 (wt m c) 0 (512 * (n / 4 % 2) + (j 1).val) (512 * (n % 4) + k.val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2 := by
  rw [outsAt0_C m c t (by omega) h]
  frame_out

/-- The product with the transposed weights of layer 0. -/
def G : FVec Ideal S4096x1024 .f32 := fun i => ∑ k ∈ range 2048, ent2 (ht m c) (i 0).val k * ent3 (wt m c) 0 (i 1).val k

/-- The four products of one block are the whole product on it. -/
theorem block (n : ℕ) (y : S1024x512.Idx) (i : S4096x1024.Idx) (h0 : (i 0).val = 1024 * (n / 8) + (y 0).val)
    (h1 : (i 1).val = 512 * (n / 4 % 2) + (y 1).val) : ∑ k ∈ range 4, term m c (4 * (n / 4) + k) y = G m c i := by
  unfold G term
  refine Eq.trans ?_ (sum_blocks 512 (fun q => ent2 (ht m c) (i 0).val q * ent3 (wt m c) 0 (i 1).val q) 4)
  refine sum_congr rfl fun k hk => sum_congr rfl fun q _ => ?_
  have hk := mem_range.mp hk
  have a0 : (4 * (n / 4) + k) / 8 = n / 8 := by omega
  have a1 : (4 * (n / 4) + k) % 4 = k := by omega
  have a2 : (4 * (n / 4) + k) / 4 % 2 = n / 4 % 2 := by omega
  rw [a0, a1, a2, h0, h1]

theorem final : (dats m 0 c).arrAt 2 cfg0.N = (G m c : S4096x1024.Idx → EReal) := by
  refine (dats m 0 c).arrAt_eq_of_covers 2 _ (by decide +kernel) fun t hf y => ?_
  have hm := (flush0_2 t).mp hf
  obtain ⟨e0, e1, e2⟩ := idx t
  blk_simp
  rw [after0_2, written m c t hm, carried, hm, zero_add]
  refine block m c t.val y _ ?_ ?_ <;> blk_simp [e2] <;> ring

theorem ref_eq (x0 : S4096x2048.Idx → EReal) (x1 : S2x1024x2048.Idx → EReal) (h0 : x0 = ht m c) (h1 : x1 = wt m c) :
    Cert.RefDCol0Ideal.Read.val_main_v4 (F := Ideal) x0 x1 = G m c := by
  subst h0 h1
  funext i
  rw [Cert.RefDCol0Ideal.Read.val_main_v4_apply]
  unfold G
  rw [← Fin.sum_univ_eq_sum_range (fun k => ent2 (ht m c) (i 0).val k * ent3 (wt m c) 0 (i 1).val k)]
  refine sum_congr rfl fun k _ => ?_
  rw [Cert.RefDCol0Ideal.Read.val_main_v2_apply, Cert.RefDCol0Ideal.Read.val_main_v1_apply]
  have h1 : (i 1).val < 1024 := (i 1).isLt
  have hk := k.isLt
  refine congrArg₂ (· * ·) (ent2_eq _ _ _ _ rfl rfl) (ent3_eq _ _ _ _ _ rfl ?_ ?_)
  · show ((i 1).val * 2048 + k.val) / 2048 % 1024 = (i 1).val
    omega
  · show ((i 1).val * 2048 + k.val) % 2048 = k.val
    omega

theorem agree : Cert.algebraic_DCol0Ideal_RefDCol0Ideal (hDCol0Ideal := Cert.DCol0Ideal.Gen.facts) (hRefDCol0Ideal := Cert.RefDCol0Ideal.Gen.facts) := by
  intro m g m' g' _ hagree
  refine ⟨fun c => G m c, (θ_run Cert.DCol0Ideal.defs _ _).mono (fun r h c => ⟨(h c).1.trans (final m c), (h c).2⟩) (Cert.DCol0Ideal.Value.run_blocks (F := Ideal) m g),
    (θ_run Cert.RefDCol0Ideal.defs _ _).mono (fun r h c => ⟨?_, (h c).2⟩) (Cert.RefDCol0Ideal.Value.run (F := Ideal) m' g')⟩
  exact ((h c).1.trans (Cert.RefDCol0Ideal.Read.val_main_v4_eq _ _)).trans (ref_eq m c _ _ (hagree c).1 (hagree c).2)

theorem ref_frame : Cert.quiescent_RefDCol0Ideal (hRefDCol0Ideal := Cert.RefDCol0Ideal.Gen.facts) := fun m ρ _ =>
  (θ_run Cert.RefDCol0Ideal.defs _ _).mono (fun r h => ⟨fun c => (h c).2, sem_eq_zero_of_no_sems (by decide) r.2⟩)
    (Cert.RefDCol0Ideal.Value.run (F := Ideal) m ρ)

end Cert.DCol0Ideal.Spec

end
-- ==== Proof.BranchAVal.lean ====
/- What the kernel of the first branch computes: a product with the weights of layer 1. -/
module

public import proofs.«01_k».proof.Proof.Entries
public import proofs.«01_k».proof.Proof.Gen.BranchAIdeal.Frame
public import proofs.«01_k».proof.Defs
public import proofs.«01_k».proof.Proof.Gen.BranchAIdeal
public import proofs.«01_k».proof.Proof.Gen.BranchAIdeal.Value
public import proofs.«01_k».proof.Proof.Gen.RefBranchAIdeal
public import proofs.«01_k».proof.Proof.Gen.RefBranchAIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.BranchAIdeal.Spec

open Idealize.ShloMosaic Idealize.ShloMosaic.TcCoe Idealize.ShloMosaic.Pointwise Idealize.SL.Sem Cert.BranchAIdeal Cert.BranchAIdeal.Gen Finset Cert.Proof
open Idealize.ShloMosaic.Pipeline (Dat)

variable (m : (ℓ : Loc nD τ sig) → Buf (Elt Ideal) ℓ) (c : Dev nD)

/-- The branch and the weights as launched. -/
abbrev ht : S4096x1024.Idx → EReal := m ((c : Thread nD τ).loc main_arg0)
abbrev wt : S2x1024x2048.Idx → EReal := m ((c : Thread nD τ).loc main_arg1)

theorem idx : ∀ t : Fin cfg0.N, win0_0.index t = ![t.val / 4, 0]
    ∧ win0_1.index t = ![t.val % 4, 1, 0, 0]
    ∧ win0_2.index t = ![t.val / 4, t.val % 4] :=
  (by decide +kernel : ∀ t : Fin grid0.N, _)

theorem lhs (t : Fin cfg0.N) (y : S1024x1024.Idx) : iblk m c 0 t y = ent2 (ht m c) (1024 * (t.val / 4) + (y 0).val) (y 1).val := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x1024x512.Idx) : iblk m c 1 t y = ent3 (wt m c) 1 (y 2).val (512 * (t.val % 4) + (y 3).val) := by
  obtain ⟨e0, e1, e2⟩ := idx t
  blk_simp [iblk, e1]
  entry_read
  pointwise
  have h0 : (y 0).val < 1 := (y 0).isLt
  have h1 : (y 1).val < 1 := (y 1).isLt
  have h2 : (y 2).val < 1024 := (y 2).isLt
  have h3 : (y 3).val < 512 := (y 3).isLt
  refine ent3_eq _ _ _ _ _ ?_ ?_ ?_ <;> blk_simp [e1]
  all_goals first | rfl | ring | omega

/-- The product with the weights of layer 1. -/
def G : FVec Ideal S4096x2048 .f32 := fun i => ∑ k : Fin 1024, ent2 (ht m c) (i 0).val k.val * ent3 (wt m c) 1 k.val (i 1).val

theorem block (t : Fin cfg0.N) (y : S1024x512.Idx) (i : S4096x2048.Idx) (h0 : (i 0).val = 1024 * (t.val / 4) + (y 0).val)
    (h1 : (i 1).val = 512 * (t.val % 4) + (y 1).val) : outsAt0 m c t y = G m c i := by
  unfold outsAt0
  frame_out
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 1 k.val) h1.symm

theorem final : (dats m 0 c).arrAt 2 cfg0.N = (G m c : S4096x2048.Idx → EReal) := by
  refine (dats m 0 c).arrAt_eq_of_covers 2 _ (by decide +kernel) fun t hf y => ?_
  obtain ⟨e0, e1, e2⟩ := idx t
  blk_simp
  rw [after0_2]
  refine block m c t y _ ?_ ?_ <;> blk_simp [e2] <;> ring

theorem ref_eq (x0 : S4096x1024.Idx → EReal) (x1 : S2x1024x2048.Idx → EReal) (h0 : x0 = ht m c) (h1 : x1 = wt m c) :
    Cert.RefBranchAIdeal.Read.val_main_v2 (F := Ideal) x0 x1 = G m c := by
  subst h0 h1
  funext i
  rw [Cert.RefBranchAIdeal.Read.val_main_v2_apply]
  unfold G
  have h1 : (i 1).val < 2048 := (i 1).isLt
  refine sum_congr rfl fun k _ => ?_
  have hk : k.val < 1024 := k.isLt
  rw [Cert.RefBranchAIdeal.Read.val_main_v1_apply, Cert.RefBranchAIdeal.Read.val_main_v0_apply]
  refine congrArg₂ (· * ·) (ent2_eq _ _ _ _ rfl rfl) (ent3_eq _ _ _ _ _ rfl ?_ ?_)
  · show (k.val * 2048 + (i 1).val) / 2048 % 1024 = k.val
    omega
  · show (k.val * 2048 + (i 1).val) % 2048 = (i 1).val
    omega

theorem agree : Cert.algebraic_BranchAIdeal_RefBranchAIdeal (hBranchAIdeal := Cert.BranchAIdeal.Gen.facts) (hRefBranchAIdeal := Cert.RefBranchAIdeal.Gen.facts) := by
  intro m g m' g' _ hagree
  refine ⟨fun c => G m c, (θ_run Cert.BranchAIdeal.defs _ _).mono (fun r h c => ⟨(h c).1.trans (final m c), (h c).2⟩) (Cert.BranchAIdeal.Value.run_blocks (F := Ideal) m g),
    (θ_run Cert.RefBranchAIdeal.defs _ _).mono (fun r h c => ⟨?_, (h c).2⟩) (Cert.RefBranchAIdeal.Value.run (F := Ideal) m' g')⟩
  exact ((h c).1.trans (Cert.RefBranchAIdeal.Read.val_main_v2_eq _ _)).trans (ref_eq m c _ _ (hagree c).1 (hagree c).2)

theorem ref_frame : Cert.quiescent_RefBranchAIdeal (hRefBranchAIdeal := Cert.RefBranchAIdeal.Gen.facts) := fun m ρ _ =>
  (θ_run Cert.RefBranchAIdeal.defs _ _).mono (fun r h => ⟨fun c => (h c).2, sem_eq_zero_of_no_sems (by decide) r.2⟩)
    (Cert.RefBranchAIdeal.Value.run (F := Ideal) m ρ)

end Cert.BranchAIdeal.Spec

end
-- ==== Proof.BranchA0Val.lean ====
/- What the kernel of the first branch computes: a product with the weights of layer 0. -/
module

public import proofs.«01_k».proof.Proof.Entries
public import proofs.«01_k».proof.Proof.Gen.BranchA0Ideal.Frame
public import proofs.«01_k».proof.Defs
public import proofs.«01_k».proof.Proof.Gen.BranchA0Ideal
public import proofs.«01_k».proof.Proof.Gen.BranchA0Ideal.Value
public import proofs.«01_k».proof.Proof.Gen.RefBranchA0Ideal
public import proofs.«01_k».proof.Proof.Gen.RefBranchA0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.BranchA0Ideal.Spec

open Idealize.ShloMosaic Idealize.ShloMosaic.TcCoe Idealize.ShloMosaic.Pointwise Idealize.SL.Sem Cert.BranchA0Ideal Cert.BranchA0Ideal.Gen Finset Cert.Proof
open Idealize.ShloMosaic.Pipeline (Dat)

variable (m : (ℓ : Loc nD τ sig) → Buf (Elt Ideal) ℓ) (c : Dev nD)

/-- The branch and the weights as launched. -/
abbrev ht : S4096x1024.Idx → EReal := m ((c : Thread nD τ).loc main_arg0)
abbrev wt : S2x1024x2048.Idx → EReal := m ((c : Thread nD τ).loc main_arg1)

theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

theorem lhs (t : Fin cfg0.N) (y : S1024x1024.Idx) : iblk m c 0 t y = ent2 (ht m c) (1024 * (t.val / 4) + (y 0).val) (y 1).val := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x1024x512.Idx) : iblk m c 1 t y = ent3 (wt m c) 0 (y 2).val (512 * (t.val % 4) + (y 3).val) := by
  obtain ⟨e0, e1, e2⟩ := idx t
  blk_simp [iblk, e1]
  entry_read
  pointwise
  have h0 : (y 0).val < 1 := (y 0).isLt
  have h1 : (y 1).val < 1 := (y 1).isLt
  have h2 : (y 2).val < 1024 := (y 2).isLt
  have h3 : (y 3).val < 512 := (y 3).isLt
  refine ent3_eq _ _ _ _ _ ?_ ?_ ?_ <;> blk_simp [e1]
  all_goals first | rfl | ring | omega

/-- The product with the weights of layer 0. -/
def G : FVec Ideal S4096x2048 .f32 := fun i => ∑ k : Fin 1024, ent2 (ht m c) (i 0).val k.val * ent3 (wt m c) 0 k.val (i 1).val

theorem block (t : Fin cfg0.N) (y : S1024x512.Idx) (i : S4096x2048.Idx) (h0 : (i 0).val = 1024 * (t.val / 4) + (y 0).val)
    (h1 : (i 1).val = 512 * (t.val % 4) + (y 1).val) : outsAt0 m c t y = G m c i := by
  unfold outsAt0
  frame_out
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 0 k.val) h1.symm

theorem final : (dats m 0 c).arrAt 2 cfg0.N = (G m c : S4096x2048.Idx → EReal) := by
  refine (dats m 0 c).arrAt_eq_of_covers 2 _ (by decide +kernel) fun t hf y => ?_
  obtain ⟨e0, e1, e2⟩ := idx t
  blk_simp
  rw [after0_2]
  refine block m c t y _ ?_ ?_ <;> blk_simp [e2] <;> ring

theorem ref_eq (x0 : S4096x1024.Idx → EReal) (x1 : S2x1024x2048.Idx → EReal) (h0 : x0 = ht m c) (h1 : x1 = wt m c) :
    Cert.RefBranchA0Ideal.Read.val_main_v2 (F := Ideal) x0 x1 = G m c := by
  subst h0 h1
  funext i
  rw [Cert.RefBranchA0Ideal.Read.val_main_v2_apply]
  unfold G
  have h1 : (i 1).val < 2048 := (i 1).isLt
  refine sum_congr rfl fun k _ => ?_
  have hk : k.val < 1024 := k.isLt
  rw [Cert.RefBranchA0Ideal.Read.val_main_v1_apply, Cert.RefBranchA0Ideal.Read.val_main_v0_apply]
  refine congrArg₂ (· * ·) (ent2_eq _ _ _ _ rfl rfl) (ent3_eq _ _ _ _ _ rfl ?_ ?_)
  · show (k.val * 2048 + (i 1).val) / 2048 % 1024 = k.val
    omega
  · show (k.val * 2048 + (i 1).val) % 2048 = (i 1).val
    omega

theorem agree : Cert.algebraic_BranchA0Ideal_RefBranchA0Ideal (hBranchA0Ideal := Cert.BranchA0Ideal.Gen.facts) (hRefBranchA0Ideal := Cert.RefBranchA0Ideal.Gen.facts) := by
  intro m g m' g' _ hagree
  refine ⟨fun c => G m c, (θ_run Cert.BranchA0Ideal.defs _ _).mono (fun r h c => ⟨(h c).1.trans (final m c), (h c).2⟩) (Cert.BranchA0Ideal.Value.run_blocks (F := Ideal) m g),
    (θ_run Cert.RefBranchA0Ideal.defs _ _).mono (fun r h c => ⟨?_, (h c).2⟩) (Cert.RefBranchA0Ideal.Value.run (F := Ideal) m' g')⟩
  exact ((h c).1.trans (Cert.RefBranchA0Ideal.Read.val_main_v2_eq _ _)).trans (ref_eq m c _ _ (hagree c).1 (hagree c).2)

theorem ref_frame : Cert.quiescent_RefBranchA0Ideal (hRefBranchA0Ideal := Cert.RefBranchA0Ideal.Gen.facts) := fun m ρ _ =>
  (θ_run Cert.RefBranchA0Ideal.defs _ _).mono (fun r h => ⟨fun c => (h c).2, sem_eq_zero_of_no_sems (by decide) r.2⟩)
    (Cert.RefBranchA0Ideal.Value.run (F := Ideal) m ρ)

end Cert.BranchA0Ideal.Spec

end
-- ==== Proof.BranchBVal.lean ====
/- What the kernel of the second branch computes: a product with the weights of layer 1. -/
module

public import proofs.«01_k».proof.Proof.Entries
public import proofs.«01_k».proof.Proof.Gen.BranchBIdeal.Frame
public import proofs.«01_k».proof.Defs
public import proofs.«01_k».proof.Proof.Gen.BranchBIdeal
public import proofs.«01_k».proof.Proof.Gen.BranchBIdeal.Value
public import proofs.«01_k».proof.Proof.Gen.RefBranchBIdeal
public import proofs.«01_k».proof.Proof.Gen.RefBranchBIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.BranchBIdeal.Spec

open Idealize.ShloMosaic Idealize.ShloMosaic.TcCoe Idealize.ShloMosaic.Pointwise Idealize.SL.Sem Cert.BranchBIdeal Cert.BranchBIdeal.Gen Finset Cert.Proof
open Idealize.ShloMosaic.Pipeline (Dat)

variable (m : (ℓ : Loc nD τ sig) → Buf (Elt Ideal) ℓ) (c : Dev nD)

/-- The input and the weights as launched. -/
abbrev ht : S4096x2048.Idx → EReal := m ((c : Thread nD τ).loc main_arg0)
abbrev wt : S2x2048x2048.Idx → EReal := m ((c : Thread nD τ).loc main_arg1)

theorem idx : ∀ t : Fin cfg0.N, win0_0.index t = ![t.val / 16, t.val % 4]
    ∧ win0_1.index t = ![t.val % 4, 1, 0, t.val / 4 % 4]
    ∧ win0_2.index t = ![t.val / 16, t.val / 4 % 4] :=
  (by decide +kernel : ∀ t : Fin grid0.N, _)

theorem lhs (t : Fin cfg0.N) (y : S1024x512.Idx) : iblk m c 0 t y = ent2 (ht m c) (1024 * (t.val / 16) + (y 0).val) (512 * (t.val % 4) + (y 1).val) := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x512x512.Idx) : iblk m c 1 t y = ent3 (wt m c) 1 (512 * (t.val % 4) + (y 2).val) (512 * (t.val / 4 % 4) + (y 3).val) := by
  obtain ⟨e0, e1, e2⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 512 := (y 3).isLt
  refine ent3_eq _ _ _ _ _ ?_ ?_ ?_ <;> blk_simp [e1]
  all_goals first | rfl | ring | omega

/-- One step's product. -/
def term (n : ℕ) (j : S1024x512.Idx) : EReal :=
  ∑ k : Fin 512, ent2 (ht m c) (1024 * (n / 16) + (j 0).val) (512 * (n % 4) + k.val)
    * ent3 (wt m c) 1 (512 * (n % 4) + k.val) (512 * (n / 4 % 4) + (j 1).val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2 := by
  rw [outsAt0_C m c t (by omega) h]
  frame_out

/-- The product with the weights of layer 1. -/
def G : FVec Ideal S4096x2048 .f32 := fun i => ∑ k ∈ range 2048, ent2 (ht m c) (i 0).val k * ent3 (wt m c) 1 k (i 1).val

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y = G m c i := by
  unfold G term
  refine Eq.trans ?_ (sum_blocks 512 (fun q => ent2 (ht m c) (i 0).val q * ent3 (wt m c) 1 q (i 1).val) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 2 cfg0.N = (G m c : S4096x2048.Idx → EReal) := by
  refine (dats m 0 c).arrAt_eq_of_covers 2 _ (by decide +kernel) fun t hf y => ?_
  have hm := (flush0_2 t).mp hf
  obtain ⟨e0, e1, e2⟩ := idx t
  blk_simp
  rw [after0_2, written m c t hm, carried, hm, zero_add]
  refine block m c t.val y _ ?_ ?_ <;> blk_simp [e2] <;> ring

theorem ref_eq (x0 : S4096x2048.Idx → EReal) (x1 : S2x2048x2048.Idx → EReal) (h0 : x0 = ht m c) (h1 : x1 = wt m c) :
    Cert.RefBranchBIdeal.Read.val_main_v2 (F := Ideal) x0 x1 = G m c := by
  subst h0 h1
  funext i
  rw [Cert.RefBranchBIdeal.Read.val_main_v2_apply]
  unfold G
  rw [← Fin.sum_univ_eq_sum_range (fun k => ent2 (ht m c) (i 0).val k * ent3 (wt m c) 1 k (i 1).val)]
  refine sum_congr rfl fun k _ => ?_
  rw [Cert.RefBranchBIdeal.Read.val_main_v1_apply, Cert.RefBranchBIdeal.Read.val_main_v0_apply]
  have h1 : (i 1).val < 2048 := (i 1).isLt
  have hk := k.isLt
  refine congrArg₂ (· * ·) (ent2_eq _ _ _ _ rfl rfl) (ent3_eq _ _ _ _ _ rfl ?_ ?_)
  · show (k.val * 2048 + (i 1).val) / 2048 % 2048 = k.val
    omega
  · show (k.val * 2048 + (i 1).val) % 2048 = (i 1).val
    omega

theorem agree : Cert.algebraic_BranchBIdeal_RefBranchBIdeal (hBranchBIdeal := Cert.BranchBIdeal.Gen.facts) (hRefBranchBIdeal := Cert.RefBranchBIdeal.Gen.facts) := by
  intro m g m' g' _ hagree
  refine ⟨fun c => G m c, (θ_run Cert.BranchBIdeal.defs _ _).mono (fun r h c => ⟨(h c).1.trans (final m c), (h c).2⟩) (Cert.BranchBIdeal.Value.run_blocks (F := Ideal) m g),
    (θ_run Cert.RefBranchBIdeal.defs _ _).mono (fun r h c => ⟨?_, (h c).2⟩) (Cert.RefBranchBIdeal.Value.run (F := Ideal) m' g')⟩
  exact ((h c).1.trans (Cert.RefBranchBIdeal.Read.val_main_v2_eq _ _)).trans (ref_eq m c _ _ (hagree c).1 (hagree c).2)

theorem ref_frame : Cert.quiescent_RefBranchBIdeal (hRefBranchBIdeal := Cert.RefBranchBIdeal.Gen.facts) := fun m ρ _ =>
  (θ_run Cert.RefBranchBIdeal.defs _ _).mono (fun r h => ⟨fun c => (h c).2, sem_eq_zero_of_no_sems (by decide) r.2⟩)
    (Cert.RefBranchBIdeal.Value.run (F := Ideal) m ρ)

end Cert.BranchBIdeal.Spec

end
-- ==== Proof.BranchB0Val.lean ====
/- What the kernel of the second branch computes: a product with the weights of layer 0. -/
module

public import proofs.«01_k».proof.Proof.Entries
public import proofs.«01_k».proof.Proof.Gen.BranchB0Ideal.Frame
public import proofs.«01_k».proof.Defs
public import proofs.«01_k».proof.Proof.Gen.BranchB0Ideal
public import proofs.«01_k».proof.Proof.Gen.BranchB0Ideal.Value
public import proofs.«01_k».proof.Proof.Gen.RefBranchB0Ideal
public import proofs.«01_k».proof.Proof.Gen.RefBranchB0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.BranchB0Ideal.Spec

open Idealize.ShloMosaic Idealize.ShloMosaic.TcCoe Idealize.ShloMosaic.Pointwise Idealize.SL.Sem Cert.BranchB0Ideal Cert.BranchB0Ideal.Gen Finset Cert.Proof
open Idealize.ShloMosaic.Pipeline (Dat)

variable (m : (ℓ : Loc nD τ sig) → Buf (Elt Ideal) ℓ) (c : Dev nD)

/-- The input and the weights as launched. -/
abbrev ht : S4096x2048.Idx → EReal := m ((c : Thread nD τ).loc main_arg0)
abbrev wt : S2x2048x2048.Idx → EReal := m ((c : Thread nD τ).loc main_arg1)

theorem idx : ∀ t : Fin cfg0.N, win0_0.index t = ![t.val / 16, t.val % 4]
    ∧ win0_1.index t = ![t.val % 4, 0, 0, t.val / 4 % 4]
    ∧ win0_2.index t = ![t.val / 16, t.val / 4 % 4] :=
  (by decide +kernel : ∀ t : Fin grid0.N, _)

theorem lhs (t : Fin cfg0.N) (y : S1024x512.Idx) : iblk m c 0 t y = ent2 (ht m c) (1024 * (t.val / 16) + (y 0).val) (512 * (t.val % 4) + (y 1).val) := by
  obtain ⟨e0, e1, e2⟩ := idx t
  blk_simp [iblk, e0]
  entry_read
  pointwise
  refine ent2_eq _ _ _ _ ?_ ?_ <;> blk_simp [e0]
  all_goals first | rfl | ring | omega

theorem rhs (t : Fin cfg0.N) (y : S1x1x512x512.Idx) : iblk m c 1 t y = ent3 (wt m c) 0 (512 * (t.val % 4) + (y 2).val) (512 * (t.val / 4 % 4) + (y 3).val) := by
  obtain ⟨e0, e1, e2⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 512 := (y 3).isLt
  refine ent3_eq _ _ _ _ _ ?_ ?_ ?_ <;> blk_simp [e1]
  all_goals first | rfl | ring | omega

/-- One step's product. -/
def term (n : ℕ) (j : S1024x512.Idx) : EReal :=
  ∑ k : Fin 512, ent2 (ht m c) (1024 * (n / 16) + (j 0).val) (512 * (n % 4) + k.val)
    * ent3 (wt m c) 0 (512 * (n % 4) + k.val) (512 * (n / 4 % 4) + (j 1).val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2 j = 0 + ∑ k ∈ range (t.val % 4 + 1), term m c (4 * (t.val / 4) + k) j :=
  Pipeline.eq_sum_of_reset_step (fun n h => (outsAt0 m c n h).2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2 := by
  rw [outsAt0_C m c t (by omega) h]
  frame_out

/-- The product with the weights of layer 0. -/
def G : FVec Ideal S4096x2048 .f32 := fun i => ∑ k ∈ range 2048, ent2 (ht m c) (i 0).val k * ent3 (wt m c) 0 k (i 1).val

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y = G m c i := by
  unfold G term
  refine Eq.trans ?_ (sum_blocks 512 (fun q => ent2 (ht m c) (i 0).val q * ent3 (wt m c) 0 q (i 1).val) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 2 cfg0.N = (G m c : S4096x2048.Idx → EReal) := by
  refine (dats m 0 c).arrAt_eq_of_covers 2 _ (by decide +kernel) fun t hf y => ?_
  have hm := (flush0_2 t).mp hf
  obtain ⟨e0, e1, e2⟩ := idx t
  blk_simp
  rw [after0_2, written m c t hm, carried, hm, zero_add]
  refine block m c t.val y _ ?_ ?_ <;> blk_simp [e2] <;> ring

theorem ref_eq (x0 : S4096x2048.Idx → EReal) (x1 : S2x2048x2048.Idx → EReal) (h0 : x0 = ht m c) (h1 : x1 = wt m c) :
    Cert.RefBranchB0Ideal.Read.val_main_v2 (F := Ideal) x0 x1 = G m c := by
  subst h0 h1
  funext i
  rw [Cert.RefBranchB0Ideal.Read.val_main_v2_apply]
  unfold G
  rw [← Fin.sum_univ_eq_sum_range (fun k => ent2 (ht m c) (i 0).val k * ent3 (wt m c) 0 k (i 1).val)]
  refine sum_congr rfl fun k _ => ?_
  rw [Cert.RefBranchB0Ideal.Read.val_main_v1_apply, Cert.RefBranchB0Ideal.Read.val_main_v0_apply]
  have h1 : (i 1).val < 2048 := (i 1).isLt
  have hk := k.isLt
  refine congrArg₂ (· * ·) (ent2_eq _ _ _ _ rfl rfl) (ent3_eq _ _ _ _ _ rfl ?_ ?_)
  · show (k.val * 2048 + (i 1).val) / 2048 % 2048 = k.val
    omega
  · show (k.val * 2048 + (i 1).val) % 2048 = (i 1).val
    omega

theorem agree : Cert.algebraic_BranchB0Ideal_RefBranchB0Ideal (hBranchB0Ideal := Cert.BranchB0Ideal.Gen.facts) (hRefBranchB0Ideal := Cert.RefBranchB0Ideal.Gen.facts) := by
  intro m g m' g' _ hagree
  refine ⟨fun c => G m c, (θ_run Cert.BranchB0Ideal.defs _ _).mono (fun r h c => ⟨(h c).1.trans (final m c), (h c).2⟩) (Cert.BranchB0Ideal.Value.run_blocks (F := Ideal) m g),
    (θ_run Cert.RefBranchB0Ideal.defs _ _).mono (fun r h c => ⟨?_, (h c).2⟩) (Cert.RefBranchB0Ideal.Value.run (F := Ideal) m' g')⟩
  exact ((h c).1.trans (Cert.RefBranchB0Ideal.Read.val_main_v2_eq _ _)).trans (ref_eq m c _ _ (hagree c).1 (hagree c).2)

theorem ref_frame : Cert.quiescent_RefBranchB0Ideal (hRefBranchB0Ideal := Cert.RefBranchB0Ideal.Gen.facts) := fun m ρ _ =>
  (θ_run Cert.RefBranchB0Ideal.defs _ _).mono (fun r h => ⟨fun c => (h c).2, sem_eq_zero_of_no_sems (by decide) r.2⟩)
    (Cert.RefBranchB0Ideal.Value.run (F := Ideal) m ρ)

end Cert.BranchB0Ideal.Spec

end
-- ==== Proof.BranchCVal.lean ====
/- What the kernel of the third branch computes: a product with the weights of layer 1, and the gated sum of the three branches. -/
module

public import proofs.«01_k».proof.Proof.Entries
public import proofs.«01_k».proof.Proof.Gen.BranchCIdeal.Frame
public import proofs.«01_k».proof.Defs
public import proofs.«01_k».proof.Proof.Gen.BranchCIdeal
public import proofs.«01_k».proof.Proof.Gen.BranchCIdeal.Value
public import proofs.«01_k».proof.Proof.Gen.RefBranchCIdeal
public import proofs.«01_k».proof.Proof.Gen.RefBranchCIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.BranchCIdeal.Spec

open Idealize.ShloMosaic Idealize.ShloMosaic.TcCoe Idealize.ShloMosaic.Pointwise Idealize.SL.Sem Cert.BranchCIdeal Cert.BranchCIdeal.Gen Finset Cert.Proof
open Idealize.ShloMosaic.Pipeline (Dat)

variable (m : (ℓ : Loc nD τ sig) → Buf (Elt Ideal) ℓ) (c : Dev nD)

/-- The branch, the weights, the gates and the other two branches as launched. -/
abbrev ht : S4096x1024.Idx → EReal := m ((c : Thread nD τ).loc main_arg0)
abbrev wt : S2x1024x2048.Idx → EReal := m ((c : Thread nD τ).loc main_arg1)
abbrev gt : S4096x6144.Idx → EReal := m ((c : Thread nD τ).loc main_arg2)
abbrev pat : S4096x2048.Idx → EReal := m ((c : Thread nD τ).loc main_arg3)
abbrev pbt : S4096x2048.Idx → EReal := m ((c : Thread nD τ).loc main_arg4)

theorem idx : ∀ t : Fin cfg0.N, win0_0.index t = ![t.val / 4, 0]
    ∧ win0_1.index t = ![t.val % 4, 1, 0, 0]
    ∧ win0_2.index t = ![t.val / 4, t.val % 4]
    ∧ win0_3.index t = ![t.val / 4, 4 + t.val % 4]
    ∧ win0_4.index t = ![t.val / 4, 8 + t.val % 4]
    ∧ win0_5.index t = ![t.val / 4, t.val % 4]
    ∧ win0_6.index t = ![t.val / 4, t.val % 4]
    ∧ win0_7.index t = ![t.val / 4, t.val % 4]
    ∧ win0_8.index t = ![t.val / 4, t.val % 4] :=
  (by decide +kernel : ∀ t : Fin grid0.N, _)

theorem lhs (t : Fin cfg0.N) (y : S1024x1024.Idx) : iblk m c 0 t y = ent2 (ht m c) (1024 * (t.val / 4) + (y 0).val) (y 1).val := by
  obtain ⟨e0, e1, e2, e3, e4, e5, e6, e7, e8⟩ := idx t
  blk_simp [iblk, e0]
  entry_read
  pointwise
  refine ent2_eq _ _ _ _ ?_ ?_ <;> blk_simp [e0]
  all_goals first | rfl | ring | omega

theorem rhs (t : Fin cfg0.N) (y : S1x1x1024x512.Idx) : iblk m c 1 t y = ent3 (wt m c) 1 (y 2).val (512 * (t.val % 4) + (y 3).val) := by
  obtain ⟨e0, e1, e2, e3, e4, e5, e6, e7, e8⟩ := idx t
  blk_simp [iblk, e1]
  entry_read
  pointwise
  have h0 : (y 0).val < 1 := (y 0).isLt
  have h1 : (y 1).val < 1 := (y 1).isLt
  have h2 : (y 2).val < 1024 := (y 2).isLt
  have h3 : (y 3).val < 512 := (y 3).isLt
  refine ent3_eq _ _ _ _ _ ?_ ?_ ?_ <;> blk_simp [e1]
  all_goals first | rfl | ring | omega

theorem gate0 (t : Fin cfg0.N) (y : S1024x512.Idx) : iblk m c 2 t y = ent2 (gt m c) (1024 * (t.val / 4) + (y 0).val) (512 * (t.val % 4) + (y 1).val) := by
  obtain ⟨e0, e1, e2, e3, e4, e5, e6, e7, e8⟩ := idx t
  blk_simp [iblk, e2]
  entry_read
  pointwise
  refine ent2_eq _ _ _ _ ?_ ?_ <;> blk_simp [e2]
  all_goals first | rfl | ring | omega

theorem gate1 (t : Fin cfg0.N) (y : S1024x512.Idx) : iblk m c 3 t y = ent2 (gt m c) (1024 * (t.val / 4) + (y 0).val) (2048 + (512 * (t.val % 4) + (y 1).val)) := by
  obtain ⟨e0, e1, e2, e3, e4, e5, e6, e7, e8⟩ := idx t
  blk_simp [iblk, e3]
  entry_read
  pointwise
  refine ent2_eq _ _ _ _ ?_ ?_ <;> blk_simp [e3]
  all_goals first | rfl | ring | omega

theorem gate2 (t : Fin cfg0.N) (y : S1024x512.Idx) : iblk m c 4 t y = ent2 (gt m c) (1024 * (t.val / 4) + (y 0).val) (4096 + (512 * (t.val % 4) + (y 1).val)) := by
  obtain ⟨e0, e1, e2, e3, e4, e5, e6, e7, e8⟩ := idx t
  blk_simp [iblk, e4]
  entry_read
  pointwise
  refine ent2_eq _ _ _ _ ?_ ?_ <;> blk_simp [e4]
  all_goals first | rfl | ring | omega

theorem other0 (t : Fin cfg0.N) (y : S1024x512.Idx) : iblk m c 5 t y = ent2 (pat m c) (1024 * (t.val / 4) + (y 0).val) (512 * (t.val % 4) + (y 1).val) := by
  obtain ⟨e0, e1, e2, e3, e4, e5, e6, e7, e8⟩ := idx t
  blk_simp [iblk, e5]
  entry_read
  pointwise
  refine ent2_eq _ _ _ _ ?_ ?_ <;> blk_simp [e5]
  all_goals first | rfl | ring | omega

theorem other1 (t : Fin cfg0.N) (y : S1024x512.Idx) : iblk m c 6 t y = ent2 (pbt m c) (1024 * (t.val / 4) + (y 0).val) (512 * (t.val % 4) + (y 1).val) := by
  obtain ⟨e0, e1, e2, e3, e4, e5, e6, e7, e8⟩ := idx t
  blk_simp [iblk, e6]
  entry_read
  pointwise
  refine ent2_eq _ _ _ _ ?_ ?_ <;> blk_simp [e6]
  all_goals first | rfl | ring | omega

/-- The product with the weights of layer 1. -/
def G : FVec Ideal S4096x2048 .f32 := fun i => ∑ k : Fin 1024, ent2 (ht m c) (i 0).val k.val * ent3 (wt m c) 1 k.val (i 1).val

/-- The gated sum of the branches. -/
def X : FVec Ideal S4096x2048 .bf16 := fun i =>
  ent2 (gt m c) (i 0).val (i 1).val * ent2 (pat m c) (i 0).val (i 1).val
    + ent2 (gt m c) (i 0).val (2048 + (i 1).val) * ent2 (pbt m c) (i 0).val (i 1).val
    + ent2 (gt m c) (i 0).val (4096 + (i 1).val) * (G m c i : EReal)

theorem pay (t : Fin cfg0.N) (y : S1024x512.Idx) (i : S4096x2048.Idx) (h0 : (i 0).val = 1024 * (t.val / 4) + (y 0).val)
    (h1 : (i 1).val = 512 * (t.val % 4) + (y 1).val) : k0_pay2 (F := Ideal) (k0_pay1 (F := Ideal)) (iblk m c 0 t) (iblk m c 1 t) y = G m c i := by
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 1 k.val) h1.symm

theorem block (t : Fin cfg0.N) (y : S1024x512.Idx) (i : S4096x2048.Idx) (h0 : (i 0).val = 1024 * (t.val / 4) + (y 0).val)
    (h1 : (i 1).val = 512 * (t.val % 4) + (y 1).val) : (outsAt0 m c t).1 y = G m c i := by
  unfold outsAt0
  frame_out
  exact pay m c t y i h0 h1

theorem blockX (t : Fin cfg0.N) (y : S1024x512.Idx) (i : S4096x2048.Idx) (h0 : (i 0).val = 1024 * (t.val / 4) + (y 0).val)
    (h1 : (i 1).val = 512 * (t.val % 4) + (y 1).val) : (outsAt0 m c t).2 y = X m c i := by
  unfold outsAt0
  frame_out
  unfold k0_pay3
  pointwise
  rw [pay m c t y i h0 h1, gate0, gate1, gate2, other0, other1, ← h0, ← h1]
  rfl

theorem final : (dats m 0 c).arrAt 7 cfg0.N = (G m c : S4096x2048.Idx → EReal) := by
  refine (dats m 0 c).arrAt_eq_of_covers 7 _ (by decide +kernel) fun t hf y => ?_
  obtain ⟨e0, e1, e2, e3, e4, e5, e6, e7, e8⟩ := idx t
  blk_simp
  rw [after0_7]
  refine block m c t y _ ?_ ?_ <;> blk_simp [e7] <;> ring

theorem finalX : (dats m 0 c).arrAt 8 cfg0.N = (X m c : S4096x2048.Idx → EReal) := by
  refine (dats m 0 c).arrAt_eq_of_covers 8 _ (by decide +kernel) fun t hf y => ?_
  obtain ⟨e0, e1, e2, e3, e4, e5, e6, e7, e8⟩ := idx t
  blk_simp
  rw [after0_8]
  refine blockX m c t y _ ?_ ?_ <;> blk_simp [e8] <;> ring

theorem ref_eq (x0 : S4096x1024.Idx → EReal) (x1 : S2x1024x2048.Idx → EReal) (h0 : x0 = ht m c) (h1 : x1 = wt m c) :
    Cert.RefBranchCIdeal.Read.val_main_v2 (F := Ideal) x0 x1 = G m c := by
  subst h0 h1
  funext i
  rw [Cert.RefBranchCIdeal.Read.val_main_v2_apply]
  unfold G
  have h1 : (i 1).val < 2048 := (i 1).isLt
  refine sum_congr rfl fun k _ => ?_
  have hk : k.val < 1024 := k.isLt
  rw [Cert.RefBranchCIdeal.Read.val_main_v1_apply, Cert.RefBranchCIdeal.Read.val_main_v0_apply]
  refine congrArg₂ (· * ·) (ent2_eq _ _ _ _ rfl rfl) (ent3_eq _ _ _ _ _ rfl ?_ ?_)
  · show (k.val * 2048 + (i 1).val) / 2048 % 1024 = k.val
    omega
  · show (k.val * 2048 + (i 1).val) % 2048 = (i 1).val
    omega

theorem ref_eqX (x0 : S4096x1024.Idx → EReal) (x1 : S2x1024x2048.Idx → EReal) (x2 : S4096x6144.Idx → EReal) (x3 x4 : S4096x2048.Idx → EReal)
    (h0 : x0 = ht m c) (h1 : x1 = wt m c) (h2 : x2 = gt m c) (h3 : x3 = pat m c) (h4 : x4 = pbt m c) :
    Cert.RefBranchCIdeal.Read.val_main_v15 (F := Ideal) x0 x1 x2 x3 x4 = X m c := by
  funext i
  open Cert.RefBranchCIdeal.Read in
  rw [val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v3_apply, val_main_v3_apply, ref_eq m c x0 x1 h0 h1]
  subst h2 h3 h4
  unfold X
  have h0 : (i 0).val < 4096 := (i 0).isLt
  have h1 : (i 1).val < 2048 := (i 1).isLt
  pointwise
  refine congrArg₂ (fun a b : EReal => a + b) (congrArg₂ (fun a b : EReal => a + b)
    (congrArg₂ (fun a b : EReal => a * b) (ent2_eq _ _ _ _ ?_ ?_) (ent2_eq _ _ _ _ rfl rfl))
    (congrArg₂ (fun a b : EReal => a * b) (ent2_eq _ _ _ _ ?_ ?_) (ent2_eq _ _ _ _ rfl rfl)))
    (congrArg (fun a : EReal => a * (G m c i : EReal)) (ent2_eq _ _ _ _ ?_ ?_))
  · show ((((i 0).val * 2048 + (i 1).val) / 2048 * 3 + 0) * 2048 + ((i 0).val * 2048 + (i 1).val) % 2048) / 6144 = (i 0).val
    omega
  · show ((((i 0).val * 2048 + (i 1).val) / 2048 * 3 + 0) * 2048 + ((i 0).val * 2048 + (i 1).val) % 2048) % 6144 = (i 1).val
    omega
  · show ((((i 0).val * 2048 + (i 1).val) / 2048 * 3 + (1 + 0)) * 2048 + ((i 0).val * 2048 + (i 1).val) % 2048) / 6144 = (i 0).val
    omega
  · show ((((i 0).val * 2048 + (i 1).val) / 2048 * 3 + (1 + 0)) * 2048 + ((i 0).val * 2048 + (i 1).val) % 2048) % 6144 = 2048 + (i 1).val
    omega
  · show ((((i 0).val * 2048 + (i 1).val) / 2048 * 3 + (2 + 0)) * 2048 + ((i 0).val * 2048 + (i 1).val) % 2048) / 6144 = (i 0).val
    omega
  · show ((((i 0).val * 2048 + (i 1).val) / 2048 * 3 + (2 + 0)) * 2048 + ((i 0).val * 2048 + (i 1).val) % 2048) % 6144 = 4096 + (i 1).val
    omega

theorem agree : Cert.algebraic_BranchCIdeal_RefBranchCIdeal (hBranchCIdeal := Cert.BranchCIdeal.Gen.facts) (hRefBranchCIdeal := Cert.RefBranchCIdeal.Gen.facts) := by
  intro m g m' g' _ hagree
  refine ⟨fun c => G m c, fun c => X m c,
    (θ_run Cert.BranchCIdeal.defs _ _).mono (fun r h c => ⟨(h c).1.trans (final m c), (h c).2.1.trans (finalX m c), (h c).2.2⟩)
      (Cert.BranchCIdeal.Value.run_blocks (F := Ideal) m g),
    (θ_run Cert.RefBranchCIdeal.defs _ _).mono (fun r h c => ⟨?_, ?_, (h c).2.2⟩) (Cert.RefBranchCIdeal.Value.run (F := Ideal) m' g')⟩
  · exact ((h c).1.trans (Cert.RefBranchCIdeal.Read.val_main_v2_eq _ _)).trans (ref_eq m c _ _ (hagree c).1 (hagree c).2.1)
  · exact ((h c).2.1.trans (Cert.RefBranchCIdeal.Read.val_main_v15_eq _ _ _ _ _)).trans
      (ref_eqX m c _ _ _ _ _ (hagree c).1 (hagree c).2.1 (hagree c).2.2.1 (hagree c).2.2.2.1 (hagree c).2.2.2.2)

theorem ref_frame : Cert.quiescent_RefBranchCIdeal (hRefBranchCIdeal := Cert.RefBranchCIdeal.Gen.facts) := fun m ρ _ =>
  (θ_run Cert.RefBranchCIdeal.defs _ _).mono (fun r h => ⟨fun c => (h c).2.2, sem_eq_zero_of_no_sems (by decide) r.2⟩)
    (Cert.RefBranchCIdeal.Value.run (F := Ideal) m ρ)

end Cert.BranchCIdeal.Spec

end
-- ==== Proof.BranchC0Val.lean ====
/- What the kernel of the third branch computes: a product with the weights of layer 0, and the gated sum of the three branches. -/
module

public import proofs.«01_k».proof.Proof.Entries
public import proofs.«01_k».proof.Proof.Gen.BranchC0Ideal.Frame
public import proofs.«01_k».proof.Defs
public import proofs.«01_k».proof.Proof.Gen.BranchC0Ideal
public import proofs.«01_k».proof.Proof.Gen.BranchC0Ideal.Value
public import proofs.«01_k».proof.Proof.Gen.RefBranchC0Ideal
public import proofs.«01_k».proof.Proof.Gen.RefBranchC0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.BranchC0Ideal.Spec

open Idealize.ShloMosaic Idealize.ShloMosaic.TcCoe Idealize.ShloMosaic.Pointwise Idealize.SL.Sem Cert.BranchC0Ideal Cert.BranchC0Ideal.Gen Finset Cert.Proof
open Idealize.ShloMosaic.Pipeline (Dat)

variable (m : (ℓ : Loc nD τ sig) → Buf (Elt Ideal) ℓ) (c : Dev nD)

/-- The branch, the weights, the gates and the other two branches as launched. -/
abbrev ht : S4096x1024.Idx → EReal := m ((c : Thread nD τ).loc main_arg0)
abbrev wt : S2x1024x2048.Idx → EReal := m ((c : Thread nD τ).loc main_arg1)
abbrev gt : S4096x6144.Idx → EReal := m ((c : Thread nD τ).loc main_arg2)
abbrev pat : S4096x2048.Idx → EReal := m ((c : Thread nD τ).loc main_arg3)
abbrev pbt : S4096x2048.Idx → EReal := m ((c : Thread nD τ).loc main_arg4)

theorem idx : ∀ t : Fin cfg0.N, win0_0.index t = ![t.val / 4, 0]
    ∧ win0_1.index t = ![t.val % 4, 0, 0, 0]
    ∧ win0_2.index t = ![t.val / 4, t.val % 4]
    ∧ win0_3.index t = ![t.val / 4, 4 + t.val % 4]
    ∧ win0_4.index t = ![t.val / 4, 8 + t.val % 4]
    ∧ win0_5.index t = ![t.val / 4, t.val % 4]
    ∧ win0_6.index t = ![t.val / 4, t.val % 4]
    ∧ win0_7.index t = ![t.val / 4, t.val % 4]
    ∧ win0_8.index t = ![t.val / 4, t.val % 4] :=
  (by decide +kernel : ∀ t : Fin grid0.N, _)

theorem lhs (t : Fin cfg0.N) (y : S1024x1024.Idx) : iblk m c 0 t y = ent2 (ht m c) (1024 * (t.val / 4) + (y 0).val) (y 1).val := by
  obtain ⟨e0, e1, e2, e3, e4, e5, e6, e7, e8⟩ := idx t
  blk_simp [iblk, e0]
  entry_read
  pointwise
  refine ent2_eq _ _ _ _ ?_ ?_ <;> blk_simp [e0]
  all_goals first | rfl | ring | omega

theorem rhs (t : Fin cfg0.N) (y : S1x1x1024x512.Idx) : iblk m c 1 t y = ent3 (wt m c) 0 (y 2).val (512 * (t.val % 4) + (y 3).val) := by
  obtain ⟨e0, e1, e2, e3, e4, e5, e6, e7, e8⟩ := idx t
  blk_simp [iblk, e1]
  entry_read
  pointwise
  have h0 : (y 0).val < 1 := (y 0).isLt
  have h1 : (y 1).val < 1 := (y 1).isLt
  have h2 : (y 2).val < 1024 := (y 2).isLt
  have h3 : (y 3).val < 512 := (y 3).isLt
  refine ent3_eq _ _ _ _ _ ?_ ?_ ?_ <;> blk_simp [e1]
  all_goals first | rfl | ring | omega

theorem gate0 (t : Fin cfg0.N) (y : S1024x512.Idx) : iblk m c 2 t y = ent2 (gt m c) (1024 * (t.val / 4) + (y 0).val) (512 * (t.val % 4) + (y 1).val) := by
  obtain ⟨e0, e1, e2, e3, e4, e5, e6, e7, e8⟩ := idx t
  blk_simp [iblk, e2]
  entry_read
  pointwise
  refine ent2_eq _ _ _ _ ?_ ?_ <;> blk_simp [e2]
  all_goals first | rfl | ring | omega

theorem gate1 (t : Fin cfg0.N) (y : S1024x512.Idx) : iblk m c 3 t y = ent2 (gt m c) (1024 * (t.val / 4) + (y 0).val) (2048 + (512 * (t.val % 4) + (y 1).val)) := by
  obtain ⟨e0, e1, e2, e3, e4, e5, e6, e7, e8⟩ := idx t
  blk_simp [iblk, e3]
  entry_read
  pointwise
  refine ent2_eq _ _ _ _ ?_ ?_ <;> blk_simp [e3]
  all_goals first | rfl | ring | omega

theorem gate2 (t : Fin cfg0.N) (y : S1024x512.Idx) : iblk m c 4 t y = ent2 (gt m c) (1024 * (t.val / 4) + (y 0).val) (4096 + (512 * (t.val % 4) + (y 1).val)) := by
  obtain ⟨e0, e1, e2, e3, e4, e5, e6, e7, e8⟩ := idx t
  blk_simp [iblk, e4]
  entry_read
  pointwise
  refine ent2_eq _ _ _ _ ?_ ?_ <;> blk_simp [e4]
  all_goals first | rfl | ring | omega

theorem other0 (t : Fin cfg0.N) (y : S1024x512.Idx) : iblk m c 5 t y = ent2 (pat m c) (1024 * (t.val / 4) + (y 0).val) (512 * (t.val % 4) + (y 1).val) := by
  obtain ⟨e0, e1, e2, e3, e4, e5, e6, e7, e8⟩ := idx t
  blk_simp [iblk, e5]
  entry_read
  pointwise
  refine ent2_eq _ _ _ _ ?_ ?_ <;> blk_simp [e5]
  all_goals first | rfl | ring | omega

theorem other1 (t : Fin cfg0.N) (y : S1024x512.Idx) : iblk m c 6 t y = ent2 (pbt m c) (1024 * (t.val / 4) + (y 0).val) (512 * (t.val % 4) + (y 1).val) := by
  obtain ⟨e0, e1, e2, e3, e4, e5, e6, e7, e8⟩ := idx t
  blk_simp [iblk, e6]
  entry_read
  pointwise
  refine ent2_eq _ _ _ _ ?_ ?_ <;> blk_simp [e6]
  all_goals first | rfl | ring | omega

/-- The product with the weights of layer 0. -/
def G : FVec Ideal S4096x2048 .f32 := fun i => ∑ k : Fin 1024, ent2 (ht m c) (i 0).val k.val * ent3 (wt m c) 0 k.val (i 1).val

/-- The gated sum of the branches. -/
def X : FVec Ideal S4096x2048 .bf16 := fun i =>
  ent2 (gt m c) (i 0).val (i 1).val * ent2 (pat m c) (i 0).val (i 1).val
    + ent2 (gt m c) (i 0).val (2048 + (i 1).val) * ent2 (pbt m c) (i 0).val (i 1).val
    + ent2 (gt m c) (i 0).val (4096 + (i 1).val) * (G m c i : EReal)

theorem pay (t : Fin cfg0.N) (y : S1024x512.Idx) (i : S4096x2048.Idx) (h0 : (i 0).val = 1024 * (t.val / 4) + (y 0).val)
    (h1 : (i 1).val = 512 * (t.val % 4) + (y 1).val) : k0_pay2 (F := Ideal) (k0_pay1 (F := Ideal)) (iblk m c 0 t) (iblk m c 1 t) y = G m c i := by
  unfold k0_pay2 k0_pay1 G
  pointwise
  refine sum_congr rfl fun k _ => congrArg₂ (fun a b : EReal => a * b) ((lhs m c t _).trans ?_) ((rhs m c t _).trans ?_)
  · exact congrArg (ent2 (ht m c) · k.val) h0.symm
  · exact congrArg (ent3 (wt m c) 0 k.val) h1.symm

theorem block (t : Fin cfg0.N) (y : S1024x512.Idx) (i : S4096x2048.Idx) (h0 : (i 0).val = 1024 * (t.val / 4) + (y 0).val)
    (h1 : (i 1).val = 512 * (t.val % 4) + (y 1).val) : (outsAt0 m c t).1 y = G m c i := by
  unfold outsAt0
  frame_out
  exact pay m c t y i h0 h1

theorem blockX (t : Fin cfg0.N) (y : S1024x512.Idx) (i : S4096x2048.Idx) (h0 : (i 0).val = 1024 * (t.val / 4) + (y 0).val)
    (h1 : (i 1).val = 512 * (t.val % 4) + (y 1).val) : (outsAt0 m c t).2 y = X m c i := by
  unfold outsAt0
  frame_out
  unfold k0_pay3
  pointwise
  rw [pay m c t y i h0 h1, gate0, gate1, gate2, other0, other1, ← h0, ← h1]
  rfl

theorem final : (dats m 0 c).arrAt 7 cfg0.N = (G m c : S4096x2048.Idx → EReal) := by
  refine (dats m 0 c).arrAt_eq_of_covers 7 _ (by decide +kernel) fun t hf y => ?_
  obtain ⟨e0, e1, e2, e3, e4, e5, e6, e7, e8⟩ := idx t
  blk_simp
  rw [after0_7]
  refine block m c t y _ ?_ ?_ <;> blk_simp [e7] <;> ring

theorem finalX : (dats m 0 c).arrAt 8 cfg0.N = (X m c : S4096x2048.Idx → EReal) := by
  refine (dats m 0 c).arrAt_eq_of_covers 8 _ (by decide +kernel) fun t hf y => ?_
  obtain ⟨e0, e1, e2, e3, e4, e5, e6, e7, e8⟩ := idx t
  blk_simp
  rw [after0_8]
  refine blockX m c t y _ ?_ ?_ <;> blk_simp [e8] <;> ring

theorem ref_eq (x0 : S4096x1024.Idx → EReal) (x1 : S2x1024x2048.Idx → EReal) (h0 : x0 = ht m c) (h1 : x1 = wt m c) :
    Cert.RefBranchC0Ideal.Read.val_main_v2 (F := Ideal) x0 x1 = G m c := by
  subst h0 h1
  funext i
  rw [Cert.RefBranchC0Ideal.Read.val_main_v2_apply]
  unfold G
  have h1 : (i 1).val < 2048 := (i 1).isLt
  refine sum_congr rfl fun k _ => ?_
  have hk : k.val < 1024 := k.isLt
  rw [Cert.RefBranchC0Ideal.Read.val_main_v1_apply, Cert.RefBranchC0Ideal.Read.val_main_v0_apply]
  refine congrArg₂ (· * ·) (ent2_eq _ _ _ _ rfl rfl) (ent3_eq _ _ _ _ _ rfl ?_ ?_)
  · show (k.val * 2048 + (i 1).val) / 2048 % 1024 = k.val
    omega
  · show (k.val * 2048 + (i 1).val) % 2048 = (i 1).val
    omega

theorem ref_eqX (x0 : S4096x1024.Idx → EReal) (x1 : S2x1024x2048.Idx → EReal) (x2 : S4096x6144.Idx → EReal) (x3 x4 : S4096x2048.Idx → EReal)
    (h0 : x0 = ht m c) (h1 : x1 = wt m c) (h2 : x2 = gt m c) (h3 : x3 = pat m c) (h4 : x4 = pbt m c) :
    Cert.RefBranchC0Ideal.Read.val_main_v15 (F := Ideal) x0 x1 x2 x3 x4 = X m c := by
  funext i
  open Cert.RefBranchC0Ideal.Read in
  rw [val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v3_apply, val_main_v3_apply, ref_eq m c x0 x1 h0 h1]
  subst h2 h3 h4
  unfold X
  have h0 : (i 0).val < 4096 := (i 0).isLt
  have h1 : (i 1).val < 2048 := (i 1).isLt
  pointwise
  refine congrArg₂ (fun a b : EReal => a + b) (congrArg₂ (fun a b : EReal => a + b)
    (congrArg₂ (fun a b : EReal => a * b) (ent2_eq _ _ _ _ ?_ ?_) (ent2_eq _ _ _ _ rfl rfl))
    (congrArg₂ (fun a b : EReal => a * b) (ent2_eq _ _ _ _ ?_ ?_) (ent2_eq _ _ _ _ rfl rfl)))
    (congrArg (fun a : EReal => a * (G m c i : EReal)) (ent2_eq _ _ _ _ ?_ ?_))
  · show ((((i 0).val * 2048 + (i 1).val) / 2048 * 3 + 0) * 2048 + ((i 0).val * 2048 + (i 1).val) % 2048) / 6144 = (i 0).val
    omega
  · show ((((i 0).val * 2048 + (i 1).val) / 2048 * 3 + 0) * 2048 + ((i 0).val * 2048 + (i 1).val) % 2048) % 6144 = (i 1).val
    omega
  · show ((((i 0).val * 2048 + (i 1).val) / 2048 * 3 + (1 + 0)) * 2048 + ((i 0).val * 2048 + (i 1).val) % 2048) / 6144 = (i 0).val
    omega
  · show ((((i 0).val * 2048 + (i 1).val) / 2048 * 3 + (1 + 0)) * 2048 + ((i 0).val * 2048 + (i 1).val) % 2048) % 6144 = 2048 + (i 1).val
    omega
  · show ((((i 0).val * 2048 + (i 1).val) / 2048 * 3 + (2 + 0)) * 2048 + ((i 0).val * 2048 + (i 1).val) % 2048) / 6144 = (i 0).val
    omega
  · show ((((i 0).val * 2048 + (i 1).val) / 2048 * 3 + (2 + 0)) * 2048 + ((i 0).val * 2048 + (i 1).val) % 2048) % 6144 = 4096 + (i 1).val
    omega

theorem agree : Cert.algebraic_BranchC0Ideal_RefBranchC0Ideal (hBranchC0Ideal := Cert.BranchC0Ideal.Gen.facts) (hRefBranchC0Ideal := Cert.RefBranchC0Ideal.Gen.facts) := by
  intro m g m' g' _ hagree
  refine ⟨fun c => G m c, fun c => X m c,
    (θ_run Cert.BranchC0Ideal.defs _ _).mono (fun r h c => ⟨(h c).1.trans (final m c), (h c).2.1.trans (finalX m c), (h c).2.2⟩)
      (Cert.BranchC0Ideal.Value.run_blocks (F := Ideal) m g),
    (θ_run Cert.RefBranchC0Ideal.defs _ _).mono (fun r h c => ⟨?_, ?_, (h c).2.2⟩) (Cert.RefBranchC0Ideal.Value.run (F := Ideal) m' g')⟩
  · exact ((h c).1.trans (Cert.RefBranchC0Ideal.Read.val_main_v2_eq _ _)).trans (ref_eq m c _ _ (hagree c).1 (hagree c).2.1)
  · exact ((h c).2.1.trans (Cert.RefBranchC0Ideal.Read.val_main_v15_eq _ _ _ _ _)).trans
      (ref_eqX m c _ _ _ _ _ (hagree c).1 (hagree c).2.1 (hagree c).2.2.1 (hagree c).2.2.2.1 (hagree c).2.2.2.2)

theorem ref_frame : Cert.quiescent_RefBranchC0Ideal (hRefBranchC0Ideal := Cert.RefBranchC0Ideal.Gen.facts) := fun m ρ _ =>
  (θ_run Cert.RefBranchC0Ideal.defs _ _).mono (fun r h => ⟨fun c => (h c).2.2, sem_eq_zero_of_no_sems (by decide) r.2⟩)
    (Cert.RefBranchC0Ideal.Value.run (F := Ideal) m ρ)

end Cert.BranchC0Ideal.Spec

end
-- ==== Proof.OutProjVal.lean ====
/- What the kernel of the output computes: a product with the weights of layer 1, and its gated sum with the layer's input. -/
module

public import proofs.«01_k».proof.Proof.Entries
public import proofs.«01_k».proof.Proof.Gen.OutProjIdeal.Frame
public import proofs.«01_k».proof.Defs
public import proofs.«01_k».proof.Proof.Gen.OutProjIdeal
public import proofs.«01_k».proof.Proof.Gen.OutProjIdeal.Value
public import proofs.«01_k».proof.Proof.Gen.RefOutProjIdeal
public import proofs.«01_k».proof.Proof.Gen.RefOutProjIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.OutProjIdeal.Spec

open Idealize.ShloMosaic Idealize.ShloMosaic.TcCoe Idealize.ShloMosaic.Pointwise Idealize.SL.Sem Cert.OutProjIdeal Cert.OutProjIdeal.Gen Finset Cert.Proof
open Idealize.ShloMosaic.Pipeline (Dat)

variable (m : (ℓ : Loc nD τ sig) → Buf (Elt Ideal) ℓ) (c : Dev nD)

/-- The input and the weights, the layer's input and the gate as launched. -/
abbrev ht : S4096x2048.Idx → EReal := m ((c : Thread nD τ).loc main_arg0)
abbrev wt : S2x2048x2048.Idx → EReal := m ((c : Thread nD τ).loc main_arg1)
abbrev xt : S4096x2048.Idx → EReal := m ((c : Thread nD τ).loc main_arg2)
abbrev rt : S1x2048.Idx → EReal := m ((c : Thread nD τ).loc main_arg3)

theorem idx : ∀ t : Fin cfg0.N, win0_0.index t = ![t.val / 16, t.val % 4]
    ∧ win0_1.index t = ![t.val % 4, 1, 0, t.val / 4 % 4]
    ∧ win0_2.index t = ![t.val / 16, t.val / 4 % 4]
    ∧ win0_3.index t = ![0, t.val / 4 % 4]
    ∧ win0_4.index t = ![t.val / 16, t.val / 4 % 4]
    ∧ win0_5.index t = ![t.val / 16, t.val / 4 % 4] :=
  (by decide +kernel : ∀ t : Fin grid0.N, _)

theorem lhs (t : Fin cfg0.N) (y : S1024x512.Idx) : iblk m c 0 t y = ent2 (ht m c) (1024 * (t.val / 16) + (y 0).val) (512 * (t.val % 4) + (y 1).val) := by
  obtain ⟨e0, e1, e2, e3, e4, e5⟩ := idx t
  blk_simp [iblk, e0]
  entry_read
  pointwise
  refine ent2_eq _ _ _ _ ?_ ?_ <;> blk_simp [e0]
  all_goals first | rfl | ring | omega

theorem rhs (t : Fin cfg0.N) (y : S1x1x512x512.Idx) : iblk m c 1 t y = ent3 (wt m c) 1 (512 * (t.val % 4) + (y 2).val) (512 * (t.val / 4 % 4) + (y 3).val) := by
  obtain ⟨e0, e1, e2, e3, e4, e5⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 512 := (y 3).isLt
  refine ent3_eq _ _ _ _ _ ?_ ?_ ?_ <;> blk_simp [e1]
  all_goals first | rfl | ring | omega

theorem prev (t : Fin cfg0.N) (y : S1024x512.Idx) : iblk m c 2 t y = ent2 (xt m c) (1024 * (t.val / 16) + (y 0).val) (512 * (t.val / 4 % 4) + (y 1).val) := by
  obtain ⟨e0, e1, e2, e3, e4, e5⟩ := idx t
  blk_simp [iblk, e2]
  entry_read
  pointwise
  refine ent2_eq _ _ _ _ ?_ ?_ <;> blk_simp [e2]
  all_goals first | rfl | ring | omega

theorem gate (t : Fin cfg0.N) (y : S1x512.Idx) : iblk m c 3 t y = ent2 (rt m c) 0 (512 * (t.val / 4 % 4) + (y 1).val) := by
  obtain ⟨e0, e1, e2, e3, e4, e5⟩ := idx t
  blk_simp [iblk, e3]
  entry_read
  pointwise
  have h0 : (y 0).val < 1 := (y 0).isLt
  refine ent2_eq _ _ _ _ ?_ ?_ <;> blk_simp [e3]
  all_goals first | rfl | ring | omega

/-- One step's product. -/
def term (n : ℕ) (j : S1024x512.Idx) : EReal :=
  ∑ k : Fin 512, ent2 (ht m c) (1024 * (n / 16) + (j 0).val) (512 * (n % 4) + k.val)
    * ent3 (wt m c) 1 (512 * (n % 4) + k.val) (512 * (n / 4 % 4) + (j 1).val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2.2 j = 0 + ∑ k ∈ range (t.val % 4 + 1), term m c (4 * (t.val / 4) + k) j :=
  Pipeline.eq_sum_of_reset_step (fun n h => (outsAt0 m c n h).2.2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2.2 := by
  rw [outsAt0_C m c t (by omega) h]
  frame_out

/-- The product with the weights of layer 1. -/
def G : FVec Ideal S4096x2048 .f32 := fun i => ∑ k ∈ range 2048, ent2 (ht m c) (i 0).val k * ent3 (wt m c) 1 k (i 1).val

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y = G m c i := by
  unfold G term
  refine Eq.trans ?_ (sum_blocks 512 (fun q => ent2 (ht m c) (i 0).val q * ent3 (wt m c) 1 q (i 1).val) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 4 cfg0.N = (G m c : S4096x2048.Idx → EReal) := by
  refine (dats m 0 c).arrAt_eq_of_covers 4 _ (by decide +kernel) fun t hf y => ?_
  have hm := (flush0_4 t).mp hf
  obtain ⟨e0, e1, e2, e3, e4, e5⟩ := idx t
  blk_simp
  rw [after0_4, written m c t hm, carried, hm, zero_add]
  refine block m c t.val y _ ?_ ?_ <;> blk_simp [e4] <;> ring

/-- The gated sum with the layer's input. -/
def X : FVec Ideal S4096x2048 .f32 := fun i => ent2 (xt m c) (i 0).val (i 1).val + ent2 (rt m c) 0 (i 1).val * (G m c i : EReal)

theorem blockX (t : Fin cfg0.N) (h : t.val % 4 = 3) (y : S1024x512.Idx) (i : S4096x2048.Idx) (h0 : (i 0).val = 1024 * (t.val / 16) + (y 0).val)
    (h1 : (i 1).val = 512 * (t.val / 4 % 4) + (y 1).val) : (outsAt0 m c t.val t.isLt).2.1 y = X m c i := by
  have e : (outsAt0 m c t.val t.isLt).2.1 = k0_pay3 (outsAt0 m c t.val t.isLt).2.2 (iblk m c 2 t) (iblk m c 3 t) := by
    rw [outsAt0_C m c t (by omega) h]
    frame_out
  rw [e]
  unfold k0_pay3 X
  pointwise
  refine congrArg₂ (fun a b : EReal => a + b) ((prev m c t y).trans ?_) (congrArg₂ (fun a b : EReal => a * b) ((gate m c t _).trans ?_) ?_)
  · rw [h0, h1]
  · exact congrArg (ent2 (rt m c) 0) h1.symm
  · rw [carried, h, zero_add]
    exact block m c t.val y i h0 h1

theorem finalX : (dats m 0 c).arrAt 5 cfg0.N = (X m c : S4096x2048.Idx → EReal) := by
  refine (dats m 0 c).arrAt_eq_of_covers 5 _ (by decide +kernel) fun t hf y => ?_
  have hm := (flush0_5 t).mp hf
  obtain ⟨e0, e1, e2, e3, e4, e5⟩ := idx t
  blk_simp
  rw [after0_5]
  refine blockX m c t hm y _ ?_ ?_ <;> blk_simp [e5] <;> ring

theorem ref_eq (x0 : S4096x2048.Idx → EReal) (x1 : S2x2048x2048.Idx → EReal) (h0 : x0 = ht m c) (h1 : x1 = wt m c) :
    Cert.RefOutProjIdeal.Read.val_main_v2 (F := Ideal) x0 x1 = G m c := by
  subst h0 h1
  funext i
  rw [Cert.RefOutProjIdeal.Read.val_main_v2_apply]
  unfold G
  rw [← Fin.sum_univ_eq_sum_range (fun k => ent2 (ht m c) (i 0).val k * ent3 (wt m c) 1 k (i 1).val)]
  refine sum_congr rfl fun k _ => ?_
  rw [Cert.RefOutProjIdeal.Read.val_main_v1_apply, Cert.RefOutProjIdeal.Read.val_main_v0_apply]
  have h1 : (i 1).val < 2048 := (i 1).isLt
  have hk := k.isLt
  refine congrArg₂ (· * ·) (ent2_eq _ _ _ _ rfl rfl) (ent3_eq _ _ _ _ _ rfl ?_ ?_)
  · show (k.val * 2048 + (i 1).val) / 2048 % 2048 = k.val
    omega
  · show (k.val * 2048 + (i 1).val) % 2048 = (i 1).val
    omega

theorem ref_eqX (x0 : S4096x2048.Idx → EReal) (x1 : S2x2048x2048.Idx → EReal) (x2 : S4096x2048.Idx → EReal) (x3 : S1x2048.Idx → EReal)
    (h0 : x0 = ht m c) (h1 : x1 = wt m c) (h2 : x2 = xt m c) (h3 : x3 = rt m c) : Cert.RefOutProjIdeal.Read.val_main_v5 (F := Ideal) x0 x1 x2 x3 = X m c := by
  funext i
  rw [Cert.RefOutProjIdeal.Read.val_main_v5_apply, Cert.RefOutProjIdeal.Read.val_main_v4_apply, Cert.RefOutProjIdeal.Read.val_main_v3_apply, ref_eq m c x0 x1 h0 h1]
  subst h2 h3
  unfold X
  exact congrArg₂ (fun a b : EReal => a + b) (ent2_eq _ _ _ _ rfl rfl) (congrArg (fun a : EReal => a * (G m c i : EReal)) (ent2_eq _ _ _ _ rfl rfl))

theorem agree : Cert.algebraic_OutProjIdeal_RefOutProjIdeal (hOutProjIdeal := Cert.OutProjIdeal.Gen.facts) (hRefOutProjIdeal := Cert.RefOutProjIdeal.Gen.facts) := by
  intro m g m' g' _ hagree
  refine ⟨fun c => G m c, fun c => X m c,
    (θ_run Cert.OutProjIdeal.defs _ _).mono (fun r h c => ⟨(h c).1.trans (final m c), (h c).2.1.trans (finalX m c), (h c).2.2⟩)
      (Cert.OutProjIdeal.Value.run_blocks (F := Ideal) m g),
    (θ_run Cert.RefOutProjIdeal.defs _ _).mono (fun r h c => ⟨?_, ?_, (h c).2.2⟩) (Cert.RefOutProjIdeal.Value.run (F := Ideal) m' g')⟩
  · exact ((h c).1.trans (Cert.RefOutProjIdeal.Read.val_main_v2_eq _ _)).trans (ref_eq m c _ _ (hagree c).1 (hagree c).2.1)
  · exact ((h c).2.1.trans (Cert.RefOutProjIdeal.Read.val_main_v5_eq _ _ _ _)).trans
      (ref_eqX m c _ _ _ _ (hagree c).1 (hagree c).2.1 (hagree c).2.2.1 (hagree c).2.2.2)

theorem ref_frame : Cert.quiescent_RefOutProjIdeal (hRefOutProjIdeal := Cert.RefOutProjIdeal.Gen.facts) := fun m ρ _ =>
  (θ_run Cert.RefOutProjIdeal.defs _ _).mono (fun r h => ⟨fun c => (h c).2.2, sem_eq_zero_of_no_sems (by decide) r.2⟩)
    (Cert.RefOutProjIdeal.Value.run (F := Ideal) m ρ)

end Cert.OutProjIdeal.Spec

end
-- ==== Proof.OutProj0Val.lean ====
/- What the kernel of the output computes: a product with the weights of layer 0, and its gated sum with the layer's input. -/
module

public import proofs.«01_k».proof.Proof.Entries
public import proofs.«01_k».proof.Proof.Gen.OutProj0Ideal.Frame
public import proofs.«01_k».proof.Defs
public import proofs.«01_k».proof.Proof.Gen.OutProj0Ideal
public import proofs.«01_k».proof.Proof.Gen.OutProj0Ideal.Value
public import proofs.«01_k».proof.Proof.Gen.RefOutProj0Ideal
public import proofs.«01_k».proof.Proof.Gen.RefOutProj0Ideal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.OutProj0Ideal.Spec

open Idealize.ShloMosaic Idealize.ShloMosaic.TcCoe Idealize.ShloMosaic.Pointwise Idealize.SL.Sem Cert.OutProj0Ideal Cert.OutProj0Ideal.Gen Finset Cert.Proof
open Idealize.ShloMosaic.Pipeline (Dat)

variable (m : (ℓ : Loc nD τ sig) → Buf (Elt Ideal) ℓ) (c : Dev nD)

/-- The input and the weights, the layer's input and the gate as launched. -/
abbrev ht : S4096x2048.Idx → EReal := m ((c : Thread nD τ).loc main_arg0)
abbrev wt : S2x2048x2048.Idx → EReal := m ((c : Thread nD τ).loc main_arg1)
abbrev xt : S4096x2048.Idx → EReal := m ((c : Thread nD τ).loc main_arg2)
abbrev rt : S1x2048.Idx → EReal := m ((c : Thread nD τ).loc main_arg3)

theorem idx : ∀ t : Fin cfg0.N, win0_0.index t = ![t.val / 16, t.val % 4]
    ∧ win0_1.index t = ![t.val % 4, 0, 0, t.val / 4 % 4]
    ∧ win0_2.index t = ![t.val / 16, t.val / 4 % 4]
    ∧ win0_3.index t = ![0, t.val / 4 % 4]
    ∧ win0_4.index t = ![t.val / 16, t.val / 4 % 4]
    ∧ win0_5.index t = ![t.val / 16, t.val / 4 % 4] :=
  (by decide +kernel : ∀ t : Fin grid0.N, _)

theorem lhs (t : Fin cfg0.N) (y : S1024x512.Idx) : iblk m c 0 t y = ent2 (ht m c) (1024 * (t.val / 16) + (y 0).val) (512 * (t.val % 4) + (y 1).val) := by
  obtain ⟨e0, e1, e2, e3, e4, e5⟩ := idx t
  blk_simp [iblk, e0]
  entry_read
  pointwise
  refine ent2_eq _ _ _ _ ?_ ?_ <;> blk_simp [e0]
  all_goals first | rfl | ring | omega

theorem rhs (t : Fin cfg0.N) (y : S1x1x512x512.Idx) : iblk m c 1 t y = ent3 (wt m c) 0 (512 * (t.val % 4) + (y 2).val) (512 * (t.val / 4 % 4) + (y 3).val) := by
  obtain ⟨e0, e1, e2, e3, e4, e5⟩ := idx t
  blk_simp [iblk, e1]
  entry_read
  pointwise
  have h0 : (y 0).val < 1 := (y 0).isLt
  have h1 : (y 1).val < 1 := (y 1).isLt
  have h2 : (y 2).val < 512 := (y 2).isLt
  have h3 : (y 3).val < 512 := (y 3).isLt
  refine ent3_eq _ _ _ _ _ ?_ ?_ ?_ <;> blk_simp [e1]
  all_goals first | rfl | ring | omega

theorem prev (t : Fin cfg0.N) (y : S1024x512.Idx) : iblk m c 2 t y = ent2 (xt m c) (1024 * (t.val / 16) + (y 0).val) (512 * (t.val / 4 % 4) + (y 1).val) := by
  obtain ⟨e0, e1, e2, e3, e4, e5⟩ := idx t
  blk_simp [iblk, e2]
  entry_read
  pointwise
  refine ent2_eq _ _ _ _ ?_ ?_ <;> blk_simp [e2]
  all_goals first | rfl | ring | omega

theorem gate (t : Fin cfg0.N) (y : S1x512.Idx) : iblk m c 3 t y = ent2 (rt m c) 0 (512 * (t.val / 4 % 4) + (y 1).val) := by
  obtain ⟨e0, e1, e2, e3, e4, e5⟩ := idx t
  blk_simp [iblk, e3]
  entry_read
  pointwise
  have h0 : (y 0).val < 1 := (y 0).isLt
  refine ent2_eq _ _ _ _ ?_ ?_ <;> blk_simp [e3]
  all_goals first | rfl | ring | omega

/-- One step's product. -/
def term (n : ℕ) (j : S1024x512.Idx) : EReal :=
  ∑ k : Fin 512, ent2 (ht m c) (1024 * (n / 16) + (j 0).val) (512 * (n % 4) + k.val)
    * ent3 (wt m c) 0 (512 * (n % 4) + k.val) (512 * (n / 4 % 4) + (j 1).val)

theorem pay (t : Fin cfg0.N) (acc : FVec Ideal S1024x512 .f32) (j : S1024x512.Idx) :
    k0_pay2 (F := Ideal) acc (iblk m c 0 t) (iblk m c 1 t) j = acc j + term m c t.val j := by
  unfold k0_pay2
  pointwise
  unfold term
  refine congrArg (_ + ·) (sum_congr rfl fun k _ => ?_)
  rw [lhs, rhs]
  rfl

/-- The accumulator after a point: the products of its run so far. -/
theorem carried (t : Fin cfg0.N) (j : S1024x512.Idx) :
    (outsAt0 m c t.val t.isLt).2.2 j = 0 + ∑ k ∈ range (t.val % 4 + 1), term m c (4 * (t.val / 4) + k) j :=
  Pipeline.eq_sum_of_reset_step (fun n h => (outsAt0 m c n h).2.2 j) 4 0 (fun n => term m c n j)
    (fun t h => by
      have h3 : ¬ t.val % 4 = 3 := by omega
      rw [outsAt0_A m c t h h3]
      frame_out
      rw [pay]
      unfold k0_pay1
      pointwise)
    (fun t h => by
      by_cases h3 : t.val % 4 = 3
      · rw [outsAt0_C m c t h h3]
        frame_out
        simp only [read_unread_whole]
        rw [pay]
      · rw [outsAt0_B m c t h h3]
        frame_out
        simp only [read_unread_whole]
        rw [pay]) t

theorem written (t : Fin cfg0.N) (h : t.val % 4 = 3) : (outsAt0 m c t.val t.isLt).1 = (outsAt0 m c t.val t.isLt).2.2 := by
  rw [outsAt0_C m c t (by omega) h]
  frame_out

/-- The product with the weights of layer 0. -/
def G : FVec Ideal S4096x2048 .f32 := fun i => ∑ k ∈ range 2048, ent2 (ht m c) (i 0).val k * ent3 (wt m c) 0 k (i 1).val

/-- The four products of one block are the whole product on it. -/
theorem block (n : ℕ) (y : S1024x512.Idx) (i : S4096x2048.Idx) (h0 : (i 0).val = 1024 * (n / 16) + (y 0).val)
    (h1 : (i 1).val = 512 * (n / 4 % 4) + (y 1).val) : ∑ k ∈ range 4, term m c (4 * (n / 4) + k) y = G m c i := by
  unfold G term
  refine Eq.trans ?_ (sum_blocks 512 (fun q => ent2 (ht m c) (i 0).val q * ent3 (wt m c) 0 q (i 1).val) 4)
  refine sum_congr rfl fun k hk => sum_congr rfl fun q _ => ?_
  have hk := mem_range.mp hk
  have a0 : (4 * (n / 4) + k) / 16 = n / 16 := by omega
  have a1 : (4 * (n / 4) + k) % 4 = k := by omega
  have a2 : (4 * (n / 4) + k) / 4 % 4 = n / 4 % 4 := by omega
  rw [a0, a1, a2, h0, h1]

theorem final : (dats m 0 c).arrAt 4 cfg0.N = (G m c : S4096x2048.Idx → EReal) := by
  refine (dats m 0 c).arrAt_eq_of_covers 4 _ (by decide +kernel) fun t hf y => ?_
  have hm := (flush0_4 t).mp hf
  obtain ⟨e0, e1, e2, e3, e4, e5⟩ := idx t
  blk_simp
  rw [after0_4, written m c t hm, carried, hm, zero_add]
  refine block m c t.val y _ ?_ ?_ <;> blk_simp [e4] <;> ring

/-- The gated sum with the layer's input. -/
def X : FVec Ideal S4096x2048 .f32 := fun i => ent2 (xt m c) (i 0).val (i 1).val + ent2 (rt m c) 0 (i 1).val * (G m c i : EReal)

theorem blockX (t : Fin cfg0.N) (h : t.val % 4 = 3) (y : S1024x512.Idx) (i : S4096x2048.Idx) (h0 : (i 0).val = 1024 * (t.val / 16) + (y 0).val)
    (h1 : (i 1).val = 512 * (t.val / 4 % 4) + (y 1).val) : (outsAt0 m c t.val t.isLt).2.1 y = X m c i := by
  have e : (outsAt0 m c t.val t.isLt).2.1 = k0_pay3 (outsAt0 m c t.val t.isLt).2.2 (iblk m c 2 t) (iblk m c 3 t) := by
    rw [outsAt0_C m c t (by omega) h]
    frame_out
  rw [e]
  unfold k0_pay3 X
  pointwise
  refine congrArg₂ (fun a b : EReal => a + b) ((prev m c t y).trans ?_) (congrArg₂ (fun a b : EReal => a * b) ((gate m c t _).trans ?_) ?_)
  · rw [h0, h1]
  · exact congrArg (ent2 (rt m c) 0) h1.symm
  · rw [carried, h, zero_add]
    exact block m c t.val y i h0 h1

theorem finalX : (dats m 0 c).arrAt 5 cfg0.N = (X m c : S4096x2048.Idx → EReal) := by
  refine (dats m 0 c).arrAt_eq_of_covers 5 _ (by decide +kernel) fun t hf y => ?_
  have hm := (flush0_5 t).mp hf
  obtain ⟨e0, e1, e2, e3, e4, e5⟩ := idx t
  blk_simp
  rw [after0_5]
  refine blockX m c t hm y _ ?_ ?_ <;> blk_simp [e5] <;> ring

theorem ref_eq (x0 : S4096x2048.Idx → EReal) (x1 : S2x2048x2048.Idx → EReal) (h0 : x0 = ht m c) (h1 : x1 = wt m c) :
    Cert.RefOutProj0Ideal.Read.val_main_v2 (F := Ideal) x0 x1 = G m c := by
  subst h0 h1
  funext i
  rw [Cert.RefOutProj0Ideal.Read.val_main_v2_apply]
  unfold G
  rw [← Fin.sum_univ_eq_sum_range (fun k => ent2 (ht m c) (i 0).val k * ent3 (wt m c) 0 k (i 1).val)]
  refine sum_congr rfl fun k _ => ?_
  rw [Cert.RefOutProj0Ideal.Read.val_main_v1_apply, Cert.RefOutProj0Ideal.Read.val_main_v0_apply]
  have h1 : (i 1).val < 2048 := (i 1).isLt
  have hk := k.isLt
  refine congrArg₂ (· * ·) (ent2_eq _ _ _ _ rfl rfl) (ent3_eq _ _ _ _ _ rfl ?_ ?_)
  · show (k.val * 2048 + (i 1).val) / 2048 % 2048 = k.val
    omega
  · show (k.val * 2048 + (i 1).val) % 2048 = (i 1).val
    omega

theorem ref_eqX (x0 : S4096x2048.Idx → EReal) (x1 : S2x2048x2048.Idx → EReal) (x2 : S4096x2048.Idx → EReal) (x3 : S1x2048.Idx → EReal)
    (h0 : x0 = ht m c) (h1 : x1 = wt m c) (h2 : x2 = xt m c) (h3 : x3 = rt m c) : Cert.RefOutProj0Ideal.Read.val_main_v5 (F := Ideal) x0 x1 x2 x3 = X m c := by
  funext i
  rw [Cert.RefOutProj0Ideal.Read.val_main_v5_apply, Cert.RefOutProj0Ideal.Read.val_main_v4_apply, Cert.RefOutProj0Ideal.Read.val_main_v3_apply, ref_eq m c x0 x1 h0 h1]
  subst h2 h3
  unfold X
  exact congrArg₂ (fun a b : EReal => a + b) (ent2_eq _ _ _ _ rfl rfl) (congrArg (fun a : EReal => a * (G m c i : EReal)) (ent2_eq _ _ _ _ rfl rfl))

theorem agree : Cert.algebraic_OutProj0Ideal_RefOutProj0Ideal (hOutProj0Ideal := Cert.OutProj0Ideal.Gen.facts) (hRefOutProj0Ideal := Cert.RefOutProj0Ideal.Gen.facts) := by
  intro m g m' g' _ hagree
  refine ⟨fun c => G m c, fun c => X m c,
    (θ_run Cert.OutProj0Ideal.defs _ _).mono (fun r h c => ⟨(h c).1.trans (final m c), (h c).2.1.trans (finalX m c), (h c).2.2⟩)
      (Cert.OutProj0Ideal.Value.run_blocks (F := Ideal) m g),
    (θ_run Cert.RefOutProj0Ideal.defs _ _).mono (fun r h c => ⟨?_, ?_, (h c).2.2⟩) (Cert.RefOutProj0Ideal.Value.run (F := Ideal) m' g')⟩
  · exact ((h c).1.trans (Cert.RefOutProj0Ideal.Read.val_main_v2_eq _ _)).trans (ref_eq m c _ _ (hagree c).1 (hagree c).2.1)
  · exact ((h c).2.1.trans (Cert.RefOutProj0Ideal.Read.val_main_v5_eq _ _ _ _)).trans
      (ref_eqX m c _ _ _ _ (hagree c).1 (hagree c).2.1 (hagree c).2.2.1 (hagree c).2.2.2)

theorem ref_frame : Cert.quiescent_RefOutProj0Ideal (hRefOutProj0Ideal := Cert.RefOutProj0Ideal.Gen.facts) := fun m ρ _ =>
  (θ_run Cert.RefOutProj0Ideal.defs _ _).mono (fun r h => ⟨fun c => (h c).2.2, sem_eq_zero_of_no_sems (by decide) r.2⟩)
    (Cert.RefOutProj0Ideal.Value.run (F := Ideal) m ρ)

end Cert.OutProj0Ideal.Spec

end
-- ==== Proof.Adam.lean ====
/- One step of the optimiser on one entry of a parameter. -/
module

public import Idealize.ShloMosaic.Lib.Pointwise
public import Idealize.ShloMosaic.Lib.ValueIdx

@[expose] public section

noncomputable section

namespace Cert.Proof

open Idealize.ShloMosaic

/-- The new first moment of an entry with gradient `g`. -/
def adamM (g m : EReal) : EReal :=
  (FloatOps.ofBits .f32 0x3F666666#32 : Ideal .f32) * m + (FloatOps.ofBits .f32 0x3DCCCCCD#32 : Ideal .f32) * g

/-- The new second moment of an entry with gradient `g`. -/
def adamV (g v : EReal) : EReal :=
  (FloatOps.ofBits .f32 0x3F7FBE77#32 : Ideal .f32) * v + (FloatOps.ofBits .f32 0x3A83126F#32 : Ideal .f32) * (g * g)

/-- The update of an entry `w` with gradient `g`. -/
def adamD (w g m v : EReal) : EReal :=
  (FloatOps.ofBits .f32 0xBA83126F#32 : Ideal .f32)
    * (Ideal.div (Ideal.div (adamM g m) (FloatOps.ofBits .f32 0x3F26BD02#32 : Ideal .f32))
        (Ideal.sqrt (Ideal.div (adamV g v) (FloatOps.ofBits .f32 0x3C231ACC#32 : Ideal .f32))
          + (FloatOps.ofBits .f32 0x322BCC77#32 : Ideal .f32))
      + (FloatOps.ofBits .f32 0x3C23D70A#32 : Ideal .f32) * w)

end Cert.Proof
-- ==== Proof.AdamInVal.lean ====
/- What the kernel of the optimiser computes on a parameter of shape 2x2048x3584: its update and its new moments, entry by entry. -/
module

public import proofs.«01_k».proof.Proof.Adam
public import proofs.«01_k».proof.Proof.Entries
public import proofs.«01_k».proof.Proof.Gen.AdamInIdeal.Frame
public import proofs.«01_k».proof.Defs
public import proofs.«01_k».proof.Proof.Gen.AdamInIdeal
public import proofs.«01_k».proof.Proof.Gen.AdamInIdeal.Value
public import proofs.«01_k».proof.Proof.Gen.RefAdamInIdeal
public import proofs.«01_k».proof.Proof.Gen.RefAdamInIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamInIdeal.Spec

open Idealize.ShloMosaic Idealize.ShloMosaic.TcCoe Idealize.ShloMosaic.Pointwise Idealize.SL.Sem Cert.AdamInIdeal Cert.AdamInIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S4096x3584.Idx → EReal := shapeCast S4096x3584 (m ((c : Thread nD τ).loc main_arg0) : S2x2048x3584.Idx → EReal) shapeCasts_S2x2048x3584_S4096x3584
abbrev gt : S4096x3584.Idx → EReal := shapeCast S4096x3584 (m ((c : Thread nD τ).loc main_arg1) : S2x2048x3584.Idx → EReal) shapeCasts_S2x2048x3584_S4096x3584
abbrev mt : S4096x3584.Idx → EReal := shapeCast S4096x3584 (m ((c : Thread nD τ).loc main_arg2) : S2x2048x3584.Idx → EReal) shapeCasts_S2x2048x3584_S4096x3584
abbrev vt : S4096x3584.Idx → EReal := shapeCast S4096x3584 (m ((c : Thread nD τ).loc main_arg3) : S2x2048x3584.Idx → EReal) shapeCasts_S2x2048x3584_S4096x3584

theorem idx : ∀ t : Fin cfg0.N, win0_0.index t = ![t.val / 4, t.val % 4] ∧ win0_1.index t = ![t.val / 4, t.val % 4] ∧ win0_2.index t = ![t.val / 4, t.val % 4] ∧ win0_3.index t = ![t.val / 4, t.val % 4]
    ∧ win0_4.index t = ![t.val / 4, t.val % 4] ∧ win0_5.index t = ![t.val / 4, t.val % 4] ∧ win0_6.index t = ![t.val / 4, t.val % 4] :=
  (by decide +kernel : ∀ t : Fin grid0.N, _)

theorem blkW (t : Fin cfg0.N) (y : S512x896.Idx) (i : S4096x3584.Idx) (h0 : (i 0).val = 512 * (t.val / 4) + (y 0).val)
    (h1 : (i 1).val = 896 * (t.val % 4) + (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S512x896.Idx) (i : S4096x3584.Idx) (h0 : (i 0).val = 512 * (t.val / 4) + (y 0).val)
    (h1 : (i 1).val = 896 * (t.val % 4) + (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S512x896.Idx) (i : S4096x3584.Idx) (h0 : (i 0).val = 512 * (t.val / 4) + (y 0).val)
    (h1 : (i 1).val = 896 * (t.val % 4) + (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S512x896.Idx) (i : S4096x3584.Idx) (h0 : (i 0).val = 512 * (t.val / 4) + (y 0).val)
    (h1 : (i 1).val = 896 * (t.val % 4) + (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S512x896.Idx → EReal) (y : S512x896.Idx) : k0_pay2 (F := Ideal) g a y = adamM (g y) (a y) := by
  unfold k0_pay2 k0_pay1
  pointwise
  rfl

theorem payV (g a : S512x896.Idx → EReal) (y : S512x896.Idx) : k0_pay3 (F := Ideal) g a y = adamV (g y) (a y) := by
  unfold k0_pay3 k0_pay1
  pointwise
  rfl

theorem payD (g a b w : S512x896.Idx → EReal) (y : S512x896.Idx) : k0_pay4 (F := Ideal) g a b w y = adamD (w y) (g y) (a y) (b y) := by
  unfold k0_pay4
  pointwise
  rw [payM, payV]
  rfl

/-- The new first moments, the new second moments and the updates. -/
def M : FVec Ideal S4096x3584 .f32 := fun i => adamM (gt m c i) (mt m c i)
def V : FVec Ideal S4096x3584 .f32 := fun i => adamV (gt m c i) (vt m c i)
def D : FVec Ideal S4096x3584 .f32 := fun i => adamD (wt m c i) (gt m c i) (mt m c i) (vt m c i)

theorem outD (t : Fin cfg0.N) (y : S512x896.Idx) (i : S4096x3584.Idx) (h0 : (i 0).val = 512 * (t.val / 4) + (y 0).val)
    (h1 : (i 1).val = 896 * (t.val % 4) + (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S4096x3584.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S512x896.Idx) (i : S4096x3584.Idx) (h0 : (i 0).val = 512 * (t.val / 4) + (y 0).val)
    (h1 : (i 1).val = 896 * (t.val % 4) + (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S4096x3584.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S512x896.Idx) (i : S4096x3584.Idx) (h0 : (i 0).val = 512 * (t.val / 4) + (y 0).val)
    (h1 : (i 1).val = 896 * (t.val % 4) + (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S4096x3584.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x2048x3584.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamInIdeal.Read.val_main_v24 (F := Ideal) x0 x1 x2 x3 = D m c := by
  subst h0 h1 h2 h3
  funext i
  rfl

theorem refM (x1 x2 : S2x2048x3584.Idx → EReal)
    (h1 : x1 = m ((c : Thread nD τ).loc main_arg1)) (h2 : x2 = m ((c : Thread nD τ).loc main_arg2)) :
    Cert.RefAdamInIdeal.Read.val_main_v25 (F := Ideal) x1 x2 = M m c := by
  subst h1 h2
  funext i
  rfl

theorem refV (x1 x3 : S2x2048x3584.Idx → EReal)
    (h1 : x1 = m ((c : Thread nD τ).loc main_arg1)) (h3 : x3 = m ((c : Thread nD τ).loc main_arg3)) :
    Cert.RefAdamInIdeal.Read.val_main_v26 (F := Ideal) x1 x3 = V m c := by
  subst h1 h3
  funext i
  rfl

theorem agree : Cert.algebraic_AdamInIdeal_RefAdamInIdeal (hAdamInIdeal := Cert.AdamInIdeal.Gen.facts) (hRefAdamInIdeal := Cert.RefAdamInIdeal.Gen.facts) := by
  intro m g m' g' _ hagree
  refine ⟨fun c => D m c, fun c => M m c, fun c => V m c,
    (θ_run Cert.AdamInIdeal.defs _ _).mono (fun r h c => ⟨(h c).1.trans (finalD m c), (h c).2.1.trans (finalM m c), (h c).2.2.1.trans (finalV m c), (h c).2.2.2⟩)
      (Cert.AdamInIdeal.Value.run_blocks (F := Ideal) m g),
    (θ_run Cert.RefAdamInIdeal.defs _ _).mono (fun r h c => ⟨?_, ?_, ?_, (h c).2.2.2⟩) (Cert.RefAdamInIdeal.Value.run (F := Ideal) m' g')⟩
  · exact ((h c).1.trans (Cert.RefAdamInIdeal.Read.val_main_v24_eq _ _ _ _)).trans
      (refD m c _ _ _ _ (hagree c).1 (hagree c).2.1 (hagree c).2.2.1 (hagree c).2.2.2)
  · exact ((h c).2.1.trans (Cert.RefAdamInIdeal.Read.val_main_v25_eq _ _)).trans (refM m c _ _ (hagree c).2.1 (hagree c).2.2.1)
  · exact ((h c).2.2.1.trans (Cert.RefAdamInIdeal.Read.val_main_v26_eq _ _)).trans (refV m c _ _ (hagree c).2.1 (hagree c).2.2.2)

theorem ref_frame : Cert.quiescent_RefAdamInIdeal (hRefAdamInIdeal := Cert.RefAdamInIdeal.Gen.facts) := fun m ρ _ =>
  (θ_run Cert.RefAdamInIdeal.defs _ _).mono (fun r h => ⟨fun c => (h c).2.2.2, sem_eq_zero_of_no_sems (by decide) r.2⟩)
    (Cert.RefAdamInIdeal.Value.run (F := Ideal) m ρ)

end Cert.AdamInIdeal.Spec

end
-- ==== Proof.AdamGateVal.lean ====
/- What the kernel of the optimiser computes on a parameter of shape 2x2048x1536: its update and its new moments, entry by entry. -/
module

public import proofs.«01_k».proof.Proof.Adam
public import proofs.«01_k».proof.Proof.Entries
public import proofs.«01_k».proof.Proof.Gen.AdamGateIdeal.Frame
public import proofs.«01_k».proof.Defs
public import proofs.«01_k».proof.Proof.Gen.AdamGateIdeal
public import proofs.«01_k».proof.Proof.Gen.AdamGateIdeal.Value
public import proofs.«01_k».proof.Proof.Gen.RefAdamGateIdeal
public import proofs.«01_k».proof.Proof.Gen.RefAdamGateIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamGateIdeal.Spec

open Idealize.ShloMosaic Idealize.ShloMosaic.TcCoe Idealize.ShloMosaic.Pointwise Idealize.SL.Sem Cert.AdamGateIdeal Cert.AdamGateIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S4096x1536.Idx → EReal := shapeCast S4096x1536 (m ((c : Thread nD τ).loc main_arg0) : S2x2048x1536.Idx → EReal) shapeCasts_S2x2048x1536_S4096x1536
abbrev gt : S4096x1536.Idx → EReal := shapeCast S4096x1536 (m ((c : Thread nD τ).loc main_arg1) : S2x2048x1536.Idx → EReal) shapeCasts_S2x2048x1536_S4096x1536
abbrev mt : S4096x1536.Idx → EReal := shapeCast S4096x1536 (m ((c : Thread nD τ).loc main_arg2) : S2x2048x1536.Idx → EReal) shapeCasts_S2x2048x1536_S4096x1536
abbrev vt : S4096x1536.Idx → EReal := shapeCast S4096x1536 (m ((c : Thread nD τ).loc main_arg3) : S2x2048x1536.Idx → EReal) shapeCasts_S2x2048x1536_S4096x1536

theorem idx : ∀ t : Fin cfg0.N, win0_0.index t = ![t.val / 2, t.val % 2] ∧ win0_1.index t = ![t.val / 2, t.val % 2] ∧ win0_2.index t = ![t.val / 2, t.val % 2] ∧ win0_3.index t = ![t.val / 2, t.val % 2]
    ∧ win0_4.index t = ![t.val / 2, t.val % 2] ∧ win0_5.index t = ![t.val / 2, t.val % 2] ∧ win0_6.index t = ![t.val / 2, t.val % 2] :=
  (by decide +kernel : ∀ t : Fin grid0.N, _)

theorem blkW (t : Fin cfg0.N) (y : S512x768.Idx) (i : S4096x1536.Idx) (h0 : (i 0).val = 512 * (t.val / 2) + (y 0).val)
    (h1 : (i 1).val = 768 * (t.val % 2) + (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S512x768.Idx) (i : S4096x1536.Idx) (h0 : (i 0).val = 512 * (t.val / 2) + (y 0).val)
    (h1 : (i 1).val = 768 * (t.val % 2) + (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S512x768.Idx) (i : S4096x1536.Idx) (h0 : (i 0).val = 512 * (t.val / 2) + (y 0).val)
    (h1 : (i 1).val = 768 * (t.val % 2) + (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S512x768.Idx) (i : S4096x1536.Idx) (h0 : (i 0).val = 512 * (t.val / 2) + (y 0).val)
    (h1 : (i 1).val = 768 * (t.val % 2) + (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S512x768.Idx → EReal) (y : S512x768.Idx) : k0_pay2 (F := Ideal) g a y = adamM (g y) (a y) := by
  unfold k0_pay2 k0_pay1
  pointwise
  rfl

theorem payV (g a : S512x768.Idx → EReal) (y : S512x768.Idx) : k0_pay3 (F := Ideal) g a y = adamV (g y) (a y) := by
  unfold k0_pay3 k0_pay1
  pointwise
  rfl

theorem payD (g a b w : S512x768.Idx → EReal) (y : S512x768.Idx) : k0_pay4 (F := Ideal) g a b w y = adamD (w y) (g y) (a y) (b y) := by
  unfold k0_pay4
  pointwise
  rw [payM, payV]
  rfl

/-- The new first moments, the new second moments and the updates. -/
def M : FVec Ideal S4096x1536 .f32 := fun i => adamM (gt m c i) (mt m c i)
def V : FVec Ideal S4096x1536 .f32 := fun i => adamV (gt m c i) (vt m c i)
def D : FVec Ideal S4096x1536 .f32 := fun i => adamD (wt m c i) (gt m c i) (mt m c i) (vt m c i)

theorem outD (t : Fin cfg0.N) (y : S512x768.Idx) (i : S4096x1536.Idx) (h0 : (i 0).val = 512 * (t.val / 2) + (y 0).val)
    (h1 : (i 1).val = 768 * (t.val % 2) + (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S4096x1536.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S512x768.Idx) (i : S4096x1536.Idx) (h0 : (i 0).val = 512 * (t.val / 2) + (y 0).val)
    (h1 : (i 1).val = 768 * (t.val % 2) + (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S4096x1536.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S512x768.Idx) (i : S4096x1536.Idx) (h0 : (i 0).val = 512 * (t.val / 2) + (y 0).val)
    (h1 : (i 1).val = 768 * (t.val % 2) + (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S4096x1536.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x2048x1536.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamGateIdeal.Read.val_main_v24 (F := Ideal) x0 x1 x2 x3 = D m c := by
  subst h0 h1 h2 h3
  funext i
  rfl

theorem refM (x1 x2 : S2x2048x1536.Idx → EReal)
    (h1 : x1 = m ((c : Thread nD τ).loc main_arg1)) (h2 : x2 = m ((c : Thread nD τ).loc main_arg2)) :
    Cert.RefAdamGateIdeal.Read.val_main_v25 (F := Ideal) x1 x2 = M m c := by
  subst h1 h2
  funext i
  rfl

theorem refV (x1 x3 : S2x2048x1536.Idx → EReal)
    (h1 : x1 = m ((c : Thread nD τ).loc main_arg1)) (h3 : x3 = m ((c : Thread nD τ).loc main_arg3)) :
    Cert.RefAdamGateIdeal.Read.val_main_v26 (F := Ideal) x1 x3 = V m c := by
  subst h1 h3
  funext i
  rfl

theorem agree : Cert.algebraic_AdamGateIdeal_RefAdamGateIdeal (hAdamGateIdeal := Cert.AdamGateIdeal.Gen.facts) (hRefAdamGateIdeal := Cert.RefAdamGateIdeal.Gen.facts) := by
  intro m g m' g' _ hagree
  refine ⟨fun c => D m c, fun c => M m c, fun c => V m c,
    (θ_run Cert.AdamGateIdeal.defs _ _).mono (fun r h c => ⟨(h c).1.trans (finalD m c), (h c).2.1.trans (finalM m c), (h c).2.2.1.trans (finalV m c), (h c).2.2.2⟩)
      (Cert.AdamGateIdeal.Value.run_blocks (F := Ideal) m g),
    (θ_run Cert.RefAdamGateIdeal.defs _ _).mono (fun r h c => ⟨?_, ?_, ?_, (h c).2.2.2⟩) (Cert.RefAdamGateIdeal.Value.run (F := Ideal) m' g')⟩
  · exact ((h c).1.trans (Cert.RefAdamGateIdeal.Read.val_main_v24_eq _ _ _ _)).trans
      (refD m c _ _ _ _ (hagree c).1 (hagree c).2.1 (hagree c).2.2.1 (hagree c).2.2.2)
  · exact ((h c).2.1.trans (Cert.RefAdamGateIdeal.Read.val_main_v25_eq _ _)).trans (refM m c _ _ (hagree c).2.1 (hagree c).2.2.1)
  · exact ((h c).2.2.1.trans (Cert.RefAdamGateIdeal.Read.val_main_v26_eq _ _)).trans (refV m c _ _ (hagree c).2.1 (hagree c).2.2.2)

theorem ref_frame : Cert.quiescent_RefAdamGateIdeal (hRefAdamGateIdeal := Cert.RefAdamGateIdeal.Gen.facts) := fun m ρ _ =>
  (θ_run Cert.RefAdamGateIdeal.defs _ _).mono (fun r h => ⟨fun c => (h c).2.2.2, sem_eq_zero_of_no_sems (by decide) r.2⟩)
    (Cert.RefAdamGateIdeal.Value.run (F := Ideal) m ρ)

end Cert.AdamGateIdeal.Spec

end
-- ==== Proof.AdamBranchVal.lean ====
/- What the kernel of the optimiser computes on a parameter of shape 2x1024x512: its update and its new moments, entry by entry. -/
module

public import proofs.«01_k».proof.Proof.Adam
public import proofs.«01_k».proof.Proof.Entries
public import proofs.«01_k».proof.Proof.Gen.AdamBranchIdeal.Frame
public import proofs.«01_k».proof.Defs
public import proofs.«01_k».proof.Proof.Gen.AdamBranchIdeal
public import proofs.«01_k».proof.Proof.Gen.AdamBranchIdeal.Value
public import proofs.«01_k».proof.Proof.Gen.RefAdamBranchIdeal
public import proofs.«01_k».proof.Proof.Gen.RefAdamBranchIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamBranchIdeal.Spec

open Idealize.ShloMosaic Idealize.ShloMosaic.TcCoe Idealize.ShloMosaic.Pointwise Idealize.SL.Sem Cert.AdamBranchIdeal Cert.AdamBranchIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S2048x512.Idx → EReal := shapeCast S2048x512 (m ((c : Thread nD τ).loc main_arg0) : S2x1024x512.Idx → EReal) shapeCasts_S2x1024x512_S2048x512
abbrev gt : S2048x512.Idx → EReal := shapeCast S2048x512 (m ((c : Thread nD τ).loc main_arg1) : S2x1024x512.Idx → EReal) shapeCasts_S2x1024x512_S2048x512
abbrev mt : S2048x512.Idx → EReal := shapeCast S2048x512 (m ((c : Thread nD τ).loc main_arg2) : S2x1024x512.Idx → EReal) shapeCasts_S2x1024x512_S2048x512
abbrev vt : S2048x512.Idx → EReal := shapeCast S2048x512 (m ((c : Thread nD τ).loc main_arg3) : S2x1024x512.Idx → EReal) shapeCasts_S2x1024x512_S2048x512

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem blkW (t : Fin cfg0.N) (y : S512x512.Idx) (i : S2048x512.Idx) (h0 : (i 0).val = 512 * t.val + (y 0).val)
    (h1 : (i 1).val = (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S512x512.Idx) (i : S2048x512.Idx) (h0 : (i 0).val = 512 * t.val + (y 0).val)
    (h1 : (i 1).val = (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S512x512.Idx) (i : S2048x512.Idx) (h0 : (i 0).val = 512 * t.val + (y 0).val)
    (h1 : (i 1).val = (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S512x512.Idx) (i : S2048x512.Idx) (h0 : (i 0).val = 512 * t.val + (y 0).val)
    (h1 : (i 1).val = (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S512x512.Idx → EReal) (y : S512x512.Idx) : k0_pay2 (F := Ideal) g a y = adamM (g y) (a y) := by
  unfold k0_pay2 k0_pay1
  pointwise
  rfl

theorem payV (g a : S512x512.Idx → EReal) (y : S512x512.Idx) : k0_pay3 (F := Ideal) g a y = adamV (g y) (a y) := by
  unfold k0_pay3 k0_pay1
  pointwise
  rfl

theorem payD (g a b w : S512x512.Idx → EReal) (y : S512x512.Idx) : k0_pay4 (F := Ideal) g a b w y = adamD (w y) (g y) (a y) (b y) := by
  unfold k0_pay4
  pointwise
  rw [payM, payV]
  rfl

/-- The new first moments, the new second moments and the updates. -/
def M : FVec Ideal S2048x512 .f32 := fun i => adamM (gt m c i) (mt m c i)
def V : FVec Ideal S2048x512 .f32 := fun i => adamV (gt m c i) (vt m c i)
def D : FVec Ideal S2048x512 .f32 := fun i => adamD (wt m c i) (gt m c i) (mt m c i) (vt m c i)

theorem outD (t : Fin cfg0.N) (y : S512x512.Idx) (i : S2048x512.Idx) (h0 : (i 0).val = 512 * t.val + (y 0).val)
    (h1 : (i 1).val = (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S2048x512.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S512x512.Idx) (i : S2048x512.Idx) (h0 : (i 0).val = 512 * t.val + (y 0).val)
    (h1 : (i 1).val = (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S2048x512.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S512x512.Idx) (i : S2048x512.Idx) (h0 : (i 0).val = 512 * t.val + (y 0).val)
    (h1 : (i 1).val = (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S2048x512.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x1024x512.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamBranchIdeal.Read.val_main_v24 (F := Ideal) x0 x1 x2 x3 = D m c := by
  subst h0 h1 h2 h3
  funext i
  rfl

theorem refM (x1 x2 : S2x1024x512.Idx → EReal)
    (h1 : x1 = m ((c : Thread nD τ).loc main_arg1)) (h2 : x2 = m ((c : Thread nD τ).loc main_arg2)) :
    Cert.RefAdamBranchIdeal.Read.val_main_v25 (F := Ideal) x1 x2 = M m c := by
  subst h1 h2
  funext i
  rfl

theorem refV (x1 x3 : S2x1024x512.Idx → EReal)
    (h1 : x1 = m ((c : Thread nD τ).loc main_arg1)) (h3 : x3 = m ((c : Thread nD τ).loc main_arg3)) :
    Cert.RefAdamBranchIdeal.Read.val_main_v26 (F := Ideal) x1 x3 = V m c := by
  subst h1 h3
  funext i
  rfl

theorem agree : Cert.algebraic_AdamBranchIdeal_RefAdamBranchIdeal (hAdamBranchIdeal := Cert.AdamBranchIdeal.Gen.facts) (hRefAdamBranchIdeal := Cert.RefAdamBranchIdeal.Gen.facts) := by
  intro m g m' g' _ hagree
  refine ⟨fun c => D m c, fun c => M m c, fun c => V m c,
    (θ_run Cert.AdamBranchIdeal.defs _ _).mono (fun r h c => ⟨(h c).1.trans (finalD m c), (h c).2.1.trans (finalM m c), (h c).2.2.1.trans (finalV m c), (h c).2.2.2⟩)
      (Cert.AdamBranchIdeal.Value.run_blocks (F := Ideal) m g),
    (θ_run Cert.RefAdamBranchIdeal.defs _ _).mono (fun r h c => ⟨?_, ?_, ?_, (h c).2.2.2⟩) (Cert.RefAdamBranchIdeal.Value.run (F := Ideal) m' g')⟩
  · exact ((h c).1.trans (Cert.RefAdamBranchIdeal.Read.val_main_v24_eq _ _ _ _)).trans
      (refD m c _ _ _ _ (hagree c).1 (hagree c).2.1 (hagree c).2.2.1 (hagree c).2.2.2)
  · exact ((h c).2.1.trans (Cert.RefAdamBranchIdeal.Read.val_main_v25_eq _ _)).trans (refM m c _ _ (hagree c).2.1 (hagree c).2.2.1)
  · exact ((h c).2.2.1.trans (Cert.RefAdamBranchIdeal.Read.val_main_v26_eq _ _)).trans (refV m c _ _ (hagree c).2.1 (hagree c).2.2.2)

theorem ref_frame : Cert.quiescent_RefAdamBranchIdeal (hRefAdamBranchIdeal := Cert.RefAdamBranchIdeal.Gen.facts) := fun m ρ _ =>
  (θ_run Cert.RefAdamBranchIdeal.defs _ _).mono (fun r h => ⟨fun c => (h c).2.2.2, sem_eq_zero_of_no_sems (by decide) r.2⟩)
    (Cert.RefAdamBranchIdeal.Value.run (F := Ideal) m ρ)

end Cert.AdamBranchIdeal.Spec

end
-- ==== Proof.AdamOutVal.lean ====
/- What the kernel of the optimiser computes on a parameter of shape 2x512x2048: its update and its new moments, entry by entry. -/
module

public import proofs.«01_k».proof.Proof.Adam
public import proofs.«01_k».proof.Proof.Entries
public import proofs.«01_k».proof.Proof.Gen.AdamOutIdeal.Frame
public import proofs.«01_k».proof.Defs
public import proofs.«01_k».proof.Proof.Gen.AdamOutIdeal
public import proofs.«01_k».proof.Proof.Gen.AdamOutIdeal.Value
public import proofs.«01_k».proof.Proof.Gen.RefAdamOutIdeal
public import proofs.«01_k».proof.Proof.Gen.RefAdamOutIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamOutIdeal.Spec

open Idealize.ShloMosaic Idealize.ShloMosaic.TcCoe Idealize.ShloMosaic.Pointwise Idealize.SL.Sem Cert.AdamOutIdeal Cert.AdamOutIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S1024x2048.Idx → EReal := shapeCast S1024x2048 (m ((c : Thread nD τ).loc main_arg0) : S2x512x2048.Idx → EReal) shapeCasts_S2x512x2048_S1024x2048
abbrev gt : S1024x2048.Idx → EReal := shapeCast S1024x2048 (m ((c : Thread nD τ).loc main_arg1) : S2x512x2048.Idx → EReal) shapeCasts_S2x512x2048_S1024x2048
abbrev mt : S1024x2048.Idx → EReal := shapeCast S1024x2048 (m ((c : Thread nD τ).loc main_arg2) : S2x512x2048.Idx → EReal) shapeCasts_S2x512x2048_S1024x2048
abbrev vt : S1024x2048.Idx → EReal := shapeCast S1024x2048 (m ((c : Thread nD τ).loc main_arg3) : S2x512x2048.Idx → EReal) shapeCasts_S2x512x2048_S1024x2048

theorem idx : ∀ t : Fin cfg0.N, win0_0.index t = ![t.val / 2, t.val % 2] ∧ win0_1.index t = ![t.val / 2, t.val % 2] ∧ win0_2.index t = ![t.val / 2, t.val % 2] ∧ win0_3.index t = ![t.val / 2, t.val % 2]
    ∧ win0_4.index t = ![t.val / 2, t.val % 2] ∧ win0_5.index t = ![t.val / 2, t.val % 2] ∧ win0_6.index t = ![t.val / 2, t.val % 2] :=
  (by decide +kernel : ∀ t : Fin grid0.N, _)

theorem blkW (t : Fin cfg0.N) (y : S512x1024.Idx) (i : S1024x2048.Idx) (h0 : (i 0).val = 512 * (t.val / 2) + (y 0).val)
    (h1 : (i 1).val = 1024 * (t.val % 2) + (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S512x1024.Idx) (i : S1024x2048.Idx) (h0 : (i 0).val = 512 * (t.val / 2) + (y 0).val)
    (h1 : (i 1).val = 1024 * (t.val % 2) + (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S512x1024.Idx) (i : S1024x2048.Idx) (h0 : (i 0).val = 512 * (t.val / 2) + (y 0).val)
    (h1 : (i 1).val = 1024 * (t.val % 2) + (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S512x1024.Idx) (i : S1024x2048.Idx) (h0 : (i 0).val = 512 * (t.val / 2) + (y 0).val)
    (h1 : (i 1).val = 1024 * (t.val % 2) + (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S512x1024.Idx → EReal) (y : S512x1024.Idx) : k0_pay2 (F := Ideal) g a y = adamM (g y) (a y) := by
  unfold k0_pay2 k0_pay1
  pointwise
  rfl

theorem payV (g a : S512x1024.Idx → EReal) (y : S512x1024.Idx) : k0_pay3 (F := Ideal) g a y = adamV (g y) (a y) := by
  unfold k0_pay3 k0_pay1
  pointwise
  rfl

theorem payD (g a b w : S512x1024.Idx → EReal) (y : S512x1024.Idx) : k0_pay4 (F := Ideal) g a b w y = adamD (w y) (g y) (a y) (b y) := by
  unfold k0_pay4
  pointwise
  rw [payM, payV]
  rfl

/-- The new first moments, the new second moments and the updates. -/
def M : FVec Ideal S1024x2048 .f32 := fun i => adamM (gt m c i) (mt m c i)
def V : FVec Ideal S1024x2048 .f32 := fun i => adamV (gt m c i) (vt m c i)
def D : FVec Ideal S1024x2048 .f32 := fun i => adamD (wt m c i) (gt m c i) (mt m c i) (vt m c i)

theorem outD (t : Fin cfg0.N) (y : S512x1024.Idx) (i : S1024x2048.Idx) (h0 : (i 0).val = 512 * (t.val / 2) + (y 0).val)
    (h1 : (i 1).val = 1024 * (t.val % 2) + (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S1024x2048.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S512x1024.Idx) (i : S1024x2048.Idx) (h0 : (i 0).val = 512 * (t.val / 2) + (y 0).val)
    (h1 : (i 1).val = 1024 * (t.val % 2) + (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S1024x2048.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S512x1024.Idx) (i : S1024x2048.Idx) (h0 : (i 0).val = 512 * (t.val / 2) + (y 0).val)
    (h1 : (i 1).val = 1024 * (t.val % 2) + (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S1024x2048.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x512x2048.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamOutIdeal.Read.val_main_v24 (F := Ideal) x0 x1 x2 x3 = D m c := by
  subst h0 h1 h2 h3
  funext i
  rfl

theorem refM (x1 x2 : S2x512x2048.Idx → EReal)
    (h1 : x1 = m ((c : Thread nD τ).loc main_arg1)) (h2 : x2 = m ((c : Thread nD τ).loc main_arg2)) :
    Cert.RefAdamOutIdeal.Read.val_main_v25 (F := Ideal) x1 x2 = M m c := by
  subst h1 h2
  funext i
  rfl

theorem refV (x1 x3 : S2x512x2048.Idx → EReal)
    (h1 : x1 = m ((c : Thread nD τ).loc main_arg1)) (h3 : x3 = m ((c : Thread nD τ).loc main_arg3)) :
    Cert.RefAdamOutIdeal.Read.val_main_v26 (F := Ideal) x1 x3 = V m c := by
  subst h1 h3
  funext i
  rfl

theorem agree : Cert.algebraic_AdamOutIdeal_RefAdamOutIdeal (hAdamOutIdeal := Cert.AdamOutIdeal.Gen.facts) (hRefAdamOutIdeal := Cert.RefAdamOutIdeal.Gen.facts) := by
  intro m g m' g' _ hagree
  refine ⟨fun c => D m c, fun c => M m c, fun c => V m c,
    (θ_run Cert.AdamOutIdeal.defs _ _).mono (fun r h c => ⟨(h c).1.trans (finalD m c), (h c).2.1.trans (finalM m c), (h c).2.2.1.trans (finalV m c), (h c).2.2.2⟩)
      (Cert.AdamOutIdeal.Value.run_blocks (F := Ideal) m g),
    (θ_run Cert.RefAdamOutIdeal.defs _ _).mono (fun r h c => ⟨?_, ?_, ?_, (h c).2.2.2⟩) (Cert.RefAdamOutIdeal.Value.run (F := Ideal) m' g')⟩
  · exact ((h c).1.trans (Cert.RefAdamOutIdeal.Read.val_main_v24_eq _ _ _ _)).trans
      (refD m c _ _ _ _ (hagree c).1 (hagree c).2.1 (hagree c).2.2.1 (hagree c).2.2.2)
  · exact ((h c).2.1.trans (Cert.RefAdamOutIdeal.Read.val_main_v25_eq _ _)).trans (refM m c _ _ (hagree c).2.1 (hagree c).2.2.1)
  · exact ((h c).2.2.1.trans (Cert.RefAdamOutIdeal.Read.val_main_v26_eq _ _)).trans (refV m c _ _ (hagree c).2.1 (hagree c).2.2.2)

theorem ref_frame : Cert.quiescent_RefAdamOutIdeal (hRefAdamOutIdeal := Cert.RefAdamOutIdeal.Gen.facts) := fun m ρ _ =>
  (θ_run Cert.RefAdamOutIdeal.defs _ _).mono (fun r h => ⟨fun c => (h c).2.2.2, sem_eq_zero_of_no_sems (by decide) r.2⟩)
    (Cert.RefAdamOutIdeal.Value.run (F := Ideal) m ρ)

end Cert.AdamOutIdeal.Spec

end
-- ==== Proof.AdamBiasVal.lean ====
/- What the kernel of the optimiser computes on a parameter of shape 2x6144: its update and its new moments, entry by entry. -/
module

public import proofs.«01_k».proof.Proof.Adam
public import proofs.«01_k».proof.Proof.Entries
public import proofs.«01_k».proof.Proof.Gen.AdamBiasIdeal.Frame
public import proofs.«01_k».proof.Defs
public import proofs.«01_k».proof.Proof.Gen.AdamBiasIdeal
public import proofs.«01_k».proof.Proof.Gen.AdamBiasIdeal.Value
public import proofs.«01_k».proof.Proof.Gen.RefAdamBiasIdeal
public import proofs.«01_k».proof.Proof.Gen.RefAdamBiasIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamBiasIdeal.Spec

open Idealize.ShloMosaic Idealize.ShloMosaic.TcCoe Idealize.ShloMosaic.Pointwise Idealize.SL.Sem Cert.AdamBiasIdeal Cert.AdamBiasIdeal.Gen Finset Cert.Proof
open Idealize.ShloMosaic.Pipeline (Dat)

variable (m : (ℓ : Loc nD τ sig) → Buf (Elt Ideal) ℓ) (c : Dev nD)

/-- The parameter, its gradient and its moments as launched. -/
abbrev wt : S2x6144.Idx → EReal := m ((c : Thread nD τ).loc main_arg0)
abbrev gt : S2x6144.Idx → EReal := m ((c : Thread nD τ).loc main_arg1)
abbrev mt : S2x6144.Idx → EReal := m ((c : Thread nD τ).loc main_arg2)
abbrev vt : S2x6144.Idx → EReal := m ((c : Thread nD τ).loc main_arg3)

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

theorem blkW (t : Fin cfg0.N) (y : S2x1024.Idx) (i : S2x6144.Idx) (h0 : (i 0).val = (y 0).val)
    (h1 : (i 1).val = 1024 * t.val + (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S2x1024.Idx) (i : S2x6144.Idx) (h0 : (i 0).val = (y 0).val)
    (h1 : (i 1).val = 1024 * t.val + (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S2x1024.Idx) (i : S2x6144.Idx) (h0 : (i 0).val = (y 0).val)
    (h1 : (i 1).val = 1024 * t.val + (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S2x1024.Idx) (i : S2x6144.Idx) (h0 : (i 0).val = (y 0).val)
    (h1 : (i 1).val = 1024 * t.val + (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S2x1024.Idx → EReal) (y : S2x1024.Idx) : k0_pay1 (F := Ideal) g a y = adamM (g y) (a y) := by
  unfold k0_pay1
  pointwise
  rfl

theorem payV (g a : S2x1024.Idx → EReal) (y : S2x1024.Idx) : k0_pay2 (F := Ideal) g a y = adamV (g y) (a y) := by
  unfold k0_pay2
  pointwise
  rfl

theorem payD (g a b w : S2x1024.Idx → EReal) (y : S2x1024.Idx) : k0_pay3 (F := Ideal) g a b w y = adamD (w y) (g y) (a y) (b y) := by
  unfold k0_pay3
  pointwise
  rw [payM, payV]
  rfl

/-- The new first moments, the new second moments and the updates. -/
def M : FVec Ideal S2x6144 .f32 := fun i => adamM (gt m c i) (mt m c i)
def V : FVec Ideal S2x6144 .f32 := fun i => adamV (gt m c i) (vt m c i)
def D : FVec Ideal S2x6144 .f32 := fun i => adamD (wt m c i) (gt m c i) (mt m c i) (vt m c i)

theorem outD (t : Fin cfg0.N) (y : S2x1024.Idx) (i : S2x6144.Idx) (h0 : (i 0).val = (y 0).val)
    (h1 : (i 1).val = 1024 * t.val + (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S2x6144.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S2x1024.Idx) (i : S2x6144.Idx) (h0 : (i 0).val = (y 0).val)
    (h1 : (i 1).val = 1024 * t.val + (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S2x6144.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S2x1024.Idx) (i : S2x6144.Idx) (h0 : (i 0).val = (y 0).val)
    (h1 : (i 1).val = 1024 * t.val + (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S2x6144.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x6144.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamBiasIdeal.Read.val_main_v23 (F := Ideal) x0 x1 x2 x3 = D m c := by
  subst h0 h1 h2 h3
  funext i
  rfl

theorem refM (x1 x2 : S2x6144.Idx → EReal)
    (h1 : x1 = m ((c : Thread nD τ).loc main_arg1)) (h2 : x2 = m ((c : Thread nD τ).loc main_arg2)) :
    Cert.RefAdamBiasIdeal.Read.val_main_v4 (F := Ideal) x1 x2 = M m c := by
  subst h1 h2
  funext i
  rfl

theorem refV (x1 x3 : S2x6144.Idx → EReal)
    (h1 : x1 = m ((c : Thread nD τ).loc main_arg1)) (h3 : x3 = m ((c : Thread nD τ).loc main_arg3)) :
    Cert.RefAdamBiasIdeal.Read.val_main_v10 (F := Ideal) x1 x3 = V m c := by
  subst h1 h3
  funext i
  rfl

theorem agree : Cert.algebraic_AdamBiasIdeal_RefAdamBiasIdeal (hAdamBiasIdeal := Cert.AdamBiasIdeal.Gen.facts) (hRefAdamBiasIdeal := Cert.RefAdamBiasIdeal.Gen.facts) := by
  intro m g m' g' _ hagree
  refine ⟨fun c => D m c, fun c => M m c, fun c => V m c,
    (θ_run Cert.AdamBiasIdeal.defs _ _).mono (fun r h c => ⟨(h c).1.trans (finalD m c), (h c).2.1.trans (finalM m c), (h c).2.2.1.trans (finalV m c), (h c).2.2.2⟩)
      (Cert.AdamBiasIdeal.Value.run_blocks (F := Ideal) m g),
    (θ_run Cert.RefAdamBiasIdeal.defs _ _).mono (fun r h c => ⟨?_, ?_, ?_, (h c).2.2.2⟩) (Cert.RefAdamBiasIdeal.Value.run (F := Ideal) m' g')⟩
  · exact ((h c).1.trans (Cert.RefAdamBiasIdeal.Read.val_main_v23_eq _ _ _ _)).trans
      (refD m c _ _ _ _ (hagree c).1 (hagree c).2.1 (hagree c).2.2.1 (hagree c).2.2.2)
  · exact ((h c).2.1.trans (Cert.RefAdamBiasIdeal.Read.val_main_v4_eq _ _)).trans (refM m c _ _ (hagree c).2.1 (hagree c).2.2.1)
  · exact ((h c).2.2.1.trans (Cert.RefAdamBiasIdeal.Read.val_main_v10_eq _ _)).trans (refV m c _ _ (hagree c).2.1 (hagree c).2.2.2)

theorem ref_frame : Cert.quiescent_RefAdamBiasIdeal (hRefAdamBiasIdeal := Cert.RefAdamBiasIdeal.Gen.facts) := fun m ρ _ =>
  (θ_run Cert.RefAdamBiasIdeal.defs _ _).mono (fun r h => ⟨fun c => (h c).2.2.2, sem_eq_zero_of_no_sems (by decide) r.2⟩)
    (Cert.RefAdamBiasIdeal.Value.run (F := Ideal) m ρ)

end Cert.AdamBiasIdeal.Spec

end
-- ==== Proof.AdamNormVal.lean ====
/- What the kernel of the optimiser computes on a parameter of shape 2x2048: its update and its new moments, entry by entry. -/
module

public import proofs.«01_k».proof.Proof.Adam
public import proofs.«01_k».proof.Proof.Entries
public import proofs.«01_k».proof.Proof.Gen.AdamNormIdeal.Frame
public import proofs.«01_k».proof.Defs
public import proofs.«01_k».proof.Proof.Gen.AdamNormIdeal
public import proofs.«01_k».proof.Proof.Gen.AdamNormIdeal.Value
public import proofs.«01_k».proof.Proof.Gen.RefAdamNormIdeal
public import proofs.«01_k».proof.Proof.Gen.RefAdamNormIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamNormIdeal.Spec

open Idealize.ShloMosaic Idealize.ShloMosaic.TcCoe Idealize.ShloMosaic.Pointwise Idealize.SL.Sem Cert.AdamNormIdeal Cert.AdamNormIdeal.Gen Finset Cert.Proof
open Idealize.ShloMosaic.Pipeline (Dat)

variable (m : (ℓ : Loc nD τ sig) → Buf (Elt Ideal) ℓ) (c : Dev nD)

/-- The parameter, its gradient and its moments as launched. -/
abbrev wt : S2x2048.Idx → EReal := m ((c : Thread nD τ).loc main_arg0)
abbrev gt : S2x2048.Idx → EReal := m ((c : Thread nD τ).loc main_arg1)
abbrev mt : S2x2048.Idx → EReal := m ((c : Thread nD τ).loc main_arg2)
abbrev vt : S2x2048.Idx → EReal := m ((c : Thread nD τ).loc main_arg3)

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

theorem blkW (t : Fin cfg0.N) (y : S2x1024.Idx) (i : S2x2048.Idx) (h0 : (i 0).val = (y 0).val)
    (h1 : (i 1).val = 1024 * t.val + (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S2x1024.Idx) (i : S2x2048.Idx) (h0 : (i 0).val = (y 0).val)
    (h1 : (i 1).val = 1024 * t.val + (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S2x1024.Idx) (i : S2x2048.Idx) (h0 : (i 0).val = (y 0).val)
    (h1 : (i 1).val = 1024 * t.val + (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S2x1024.Idx) (i : S2x2048.Idx) (h0 : (i 0).val = (y 0).val)
    (h1 : (i 1).val = 1024 * t.val + (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S2x1024.Idx → EReal) (y : S2x1024.Idx) : k0_pay1 (F := Ideal) g a y = adamM (g y) (a y) := by
  unfold k0_pay1
  pointwise
  rfl

theorem payV (g a : S2x1024.Idx → EReal) (y : S2x1024.Idx) : k0_pay2 (F := Ideal) g a y = adamV (g y) (a y) := by
  unfold k0_pay2
  pointwise
  rfl

theorem payD (g a b w : S2x1024.Idx → EReal) (y : S2x1024.Idx) : k0_pay3 (F := Ideal) g a b w y = adamD (w y) (g y) (a y) (b y) := by
  unfold k0_pay3
  pointwise
  rw [payM, payV]
  rfl

/-- The new first moments, the new second moments and the updates. -/
def M : FVec Ideal S2x2048 .f32 := fun i => adamM (gt m c i) (mt m c i)
def V : FVec Ideal S2x2048 .f32 := fun i => adamV (gt m c i) (vt m c i)
def D : FVec Ideal S2x2048 .f32 := fun i => adamD (wt m c i) (gt m c i) (mt m c i) (vt m c i)

theorem outD (t : Fin cfg0.N) (y : S2x1024.Idx) (i : S2x2048.Idx) (h0 : (i 0).val = (y 0).val)
    (h1 : (i 1).val = 1024 * t.val + (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S2x2048.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S2x1024.Idx) (i : S2x2048.Idx) (h0 : (i 0).val = (y 0).val)
    (h1 : (i 1).val = 1024 * t.val + (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S2x2048.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S2x1024.Idx) (i : S2x2048.Idx) (h0 : (i 0).val = (y 0).val)
    (h1 : (i 1).val = 1024 * t.val + (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S2x2048.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x2048.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamNormIdeal.Read.val_main_v23 (F := Ideal) x0 x1 x2 x3 = D m c := by
  subst h0 h1 h2 h3
  funext i
  rfl

theorem refM (x1 x2 : S2x2048.Idx → EReal)
    (h1 : x1 = m ((c : Thread nD τ).loc main_arg1)) (h2 : x2 = m ((c : Thread nD τ).loc main_arg2)) :
    Cert.RefAdamNormIdeal.Read.val_main_v4 (F := Ideal) x1 x2 = M m c := by
  subst h1 h2
  funext i
  rfl

theorem refV (x1 x3 : S2x2048.Idx → EReal)
    (h1 : x1 = m ((c : Thread nD τ).loc main_arg1)) (h3 : x3 = m ((c : Thread nD τ).loc main_arg3)) :
    Cert.RefAdamNormIdeal.Read.val_main_v10 (F := Ideal) x1 x3 = V m c := by
  subst h1 h3
  funext i
  rfl

theorem agree : Cert.algebraic_AdamNormIdeal_RefAdamNormIdeal (hAdamNormIdeal := Cert.AdamNormIdeal.Gen.facts) (hRefAdamNormIdeal := Cert.RefAdamNormIdeal.Gen.facts) := by
  intro m g m' g' _ hagree
  refine ⟨fun c => D m c, fun c => M m c, fun c => V m c,
    (θ_run Cert.AdamNormIdeal.defs _ _).mono (fun r h c => ⟨(h c).1.trans (finalD m c), (h c).2.1.trans (finalM m c), (h c).2.2.1.trans (finalV m c), (h c).2.2.2⟩)
      (Cert.AdamNormIdeal.Value.run_blocks (F := Ideal) m g),
    (θ_run Cert.RefAdamNormIdeal.defs _ _).mono (fun r h c => ⟨?_, ?_, ?_, (h c).2.2.2⟩) (Cert.RefAdamNormIdeal.Value.run (F := Ideal) m' g')⟩
  · exact ((h c).1.trans (Cert.RefAdamNormIdeal.Read.val_main_v23_eq _ _ _ _)).trans
      (refD m c _ _ _ _ (hagree c).1 (hagree c).2.1 (hagree c).2.2.1 (hagree c).2.2.2)
  · exact ((h c).2.1.trans (Cert.RefAdamNormIdeal.Read.val_main_v4_eq _ _)).trans (refM m c _ _ (hagree c).2.1 (hagree c).2.2.1)
  · exact ((h c).2.2.1.trans (Cert.RefAdamNormIdeal.Read.val_main_v10_eq _ _)).trans (refV m c _ _ (hagree c).2.1 (hagree c).2.2.2)

theorem ref_frame : Cert.quiescent_RefAdamNormIdeal (hRefAdamNormIdeal := Cert.RefAdamNormIdeal.Gen.facts) := fun m ρ _ =>
  (θ_run Cert.RefAdamNormIdeal.defs _ _).mono (fun r h => ⟨fun c => (h c).2.2.2, sem_eq_zero_of_no_sems (by decide) r.2⟩)
    (Cert.RefAdamNormIdeal.Value.run (F := Ideal) m ρ)

end Cert.AdamNormIdeal.Spec

end
-- ==== Proof.AdamScaleVal.lean ====
/- What the kernel of the optimiser computes on a parameter of shape 2x1024: its update and its new moments, entry by entry. -/
module

public import proofs.«01_k».proof.Proof.Adam
public import proofs.«01_k».proof.Proof.Entries
public import proofs.«01_k».proof.Proof.Gen.AdamScaleIdeal.Frame
public import proofs.«01_k».proof.Defs
public import proofs.«01_k».proof.Proof.Gen.AdamScaleIdeal
public import proofs.«01_k».proof.Proof.Gen.AdamScaleIdeal.Value
public import proofs.«01_k».proof.Proof.Gen.RefAdamScaleIdeal
public import proofs.«01_k».proof.Proof.Gen.RefAdamScaleIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamScaleIdeal.Spec

open Idealize.ShloMosaic Idealize.ShloMosaic.TcCoe Idealize.ShloMosaic.Pointwise Idealize.SL.Sem Cert.AdamScaleIdeal Cert.AdamScaleIdeal.Gen Finset Cert.Proof
open Idealize.ShloMosaic.Pipeline (Dat)

variable (m : (ℓ : Loc nD τ sig) → Buf (Elt Ideal) ℓ) (c : Dev nD)

/-- The parameter, its gradient and its moments as launched. -/
abbrev wt : S2x1024.Idx → EReal := m ((c : Thread nD τ).loc main_arg0)
abbrev gt : S2x1024.Idx → EReal := m ((c : Thread nD τ).loc main_arg1)
abbrev mt : S2x1024.Idx → EReal := m ((c : Thread nD τ).loc main_arg2)
abbrev vt : S2x1024.Idx → EReal := m ((c : Thread nD τ).loc main_arg3)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blkW (t : Fin cfg0.N) (y : S2x1024.Idx) (i : S2x1024.Idx) (h0 : (i 0).val = (y 0).val)
    (h1 : (i 1).val = (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S2x1024.Idx) (i : S2x1024.Idx) (h0 : (i 0).val = (y 0).val)
    (h1 : (i 1).val = (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S2x1024.Idx) (i : S2x1024.Idx) (h0 : (i 0).val = (y 0).val)
    (h1 : (i 1).val = (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S2x1024.Idx) (i : S2x1024.Idx) (h0 : (i 0).val = (y 0).val)
    (h1 : (i 1).val = (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S2x1024.Idx → EReal) (y : S2x1024.Idx) : k0_pay1 (F := Ideal) g a y = adamM (g y) (a y) := by
  unfold k0_pay1
  pointwise
  rfl

theorem payV (g a : S2x1024.Idx → EReal) (y : S2x1024.Idx) : k0_pay2 (F := Ideal) g a y = adamV (g y) (a y) := by
  unfold k0_pay2
  pointwise
  rfl

theorem payD (g a b w : S2x1024.Idx → EReal) (y : S2x1024.Idx) : k0_pay3 (F := Ideal) g a b w y = adamD (w y) (g y) (a y) (b y) := by
  unfold k0_pay3
  pointwise
  rw [payM, payV]
  rfl

/-- The new first moments, the new second moments and the updates. -/
def M : FVec Ideal S2x1024 .f32 := fun i => adamM (gt m c i) (mt m c i)
def V : FVec Ideal S2x1024 .f32 := fun i => adamV (gt m c i) (vt m c i)
def D : FVec Ideal S2x1024 .f32 := fun i => adamD (wt m c i) (gt m c i) (mt m c i) (vt m c i)

theorem outD (t : Fin cfg0.N) (y : S2x1024.Idx) (i : S2x1024.Idx) (h0 : (i 0).val = (y 0).val)
    (h1 : (i 1).val = (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S2x1024.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S2x1024.Idx) (i : S2x1024.Idx) (h0 : (i 0).val = (y 0).val)
    (h1 : (i 1).val = (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S2x1024.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S2x1024.Idx) (i : S2x1024.Idx) (h0 : (i 0).val = (y 0).val)
    (h1 : (i 1).val = (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S2x1024.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x1024.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamScaleIdeal.Read.val_main_v23 (F := Ideal) x0 x1 x2 x3 = D m c := by
  subst h0 h1 h2 h3
  funext i
  rfl

theorem refM (x1 x2 : S2x1024.Idx → EReal)
    (h1 : x1 = m ((c : Thread nD τ).loc main_arg1)) (h2 : x2 = m ((c : Thread nD τ).loc main_arg2)) :
    Cert.RefAdamScaleIdeal.Read.val_main_v4 (F := Ideal) x1 x2 = M m c := by
  subst h1 h2
  funext i
  rfl

theorem refV (x1 x3 : S2x1024.Idx → EReal)
    (h1 : x1 = m ((c : Thread nD τ).loc main_arg1)) (h3 : x3 = m ((c : Thread nD τ).loc main_arg3)) :
    Cert.RefAdamScaleIdeal.Read.val_main_v10 (F := Ideal) x1 x3 = V m c := by
  subst h1 h3
  funext i
  rfl

theorem agree : Cert.algebraic_AdamScaleIdeal_RefAdamScaleIdeal (hAdamScaleIdeal := Cert.AdamScaleIdeal.Gen.facts) (hRefAdamScaleIdeal := Cert.RefAdamScaleIdeal.Gen.facts) := by
  intro m g m' g' _ hagree
  refine ⟨fun c => D m c, fun c => M m c, fun c => V m c,
    (θ_run Cert.AdamScaleIdeal.defs _ _).mono (fun r h c => ⟨(h c).1.trans (finalD m c), (h c).2.1.trans (finalM m c), (h c).2.2.1.trans (finalV m c), (h c).2.2.2⟩)
      (Cert.AdamScaleIdeal.Value.run_blocks (F := Ideal) m g),
    (θ_run Cert.RefAdamScaleIdeal.defs _ _).mono (fun r h c => ⟨?_, ?_, ?_, (h c).2.2.2⟩) (Cert.RefAdamScaleIdeal.Value.run (F := Ideal) m' g')⟩
  · exact ((h c).1.trans (Cert.RefAdamScaleIdeal.Read.val_main_v23_eq _ _ _ _)).trans
      (refD m c _ _ _ _ (hagree c).1 (hagree c).2.1 (hagree c).2.2.1 (hagree c).2.2.2)
  · exact ((h c).2.1.trans (Cert.RefAdamScaleIdeal.Read.val_main_v4_eq _ _)).trans (refM m c _ _ (hagree c).2.1 (hagree c).2.2.1)
  · exact ((h c).2.2.1.trans (Cert.RefAdamScaleIdeal.Read.val_main_v10_eq _ _)).trans (refV m c _ _ (hagree c).2.1 (hagree c).2.2.2)

theorem ref_frame : Cert.quiescent_RefAdamScaleIdeal (hRefAdamScaleIdeal := Cert.RefAdamScaleIdeal.Gen.facts) := fun m ρ _ =>
  (θ_run Cert.RefAdamScaleIdeal.defs _ _).mono (fun r h => ⟨fun c => (h c).2.2.2, sem_eq_zero_of_no_sems (by decide) r.2⟩)
    (Cert.RefAdamScaleIdeal.Value.run (F := Ideal) m ρ)

end Cert.AdamScaleIdeal.Spec

end
-- ==== Proof.AdamFinalVal.lean ====
/- What the kernel of the optimiser computes on a parameter of shape 2048: its update and its new moments, entry by entry. -/
module

public import proofs.«01_k».proof.Proof.Adam
public import proofs.«01_k».proof.Proof.Entries
public import proofs.«01_k».proof.Proof.Gen.AdamFinalIdeal.Frame
public import proofs.«01_k».proof.Defs
public import proofs.«01_k».proof.Proof.Gen.AdamFinalIdeal
public import proofs.«01_k».proof.Proof.Gen.AdamFinalIdeal.Value
public import proofs.«01_k».proof.Proof.Gen.RefAdamFinalIdeal
public import proofs.«01_k».proof.Proof.Gen.RefAdamFinalIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamFinalIdeal.Spec

open Idealize.ShloMosaic Idealize.ShloMosaic.TcCoe Idealize.ShloMosaic.Pointwise Idealize.SL.Sem Cert.AdamFinalIdeal Cert.AdamFinalIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S1x2048.Idx → EReal := shapeCast S1x2048 (m ((c : Thread nD τ).loc main_arg0) : S2048.Idx → EReal) shapeCasts_S2048_S1x2048
abbrev gt : S1x2048.Idx → EReal := shapeCast S1x2048 (m ((c : Thread nD τ).loc main_arg1) : S2048.Idx → EReal) shapeCasts_S2048_S1x2048
abbrev mt : S1x2048.Idx → EReal := shapeCast S1x2048 (m ((c : Thread nD τ).loc main_arg2) : S2048.Idx → EReal) shapeCasts_S2048_S1x2048
abbrev vt : S1x2048.Idx → EReal := shapeCast S1x2048 (m ((c : Thread nD τ).loc main_arg3) : S2048.Idx → EReal) shapeCasts_S2048_S1x2048

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

theorem blkW (t : Fin cfg0.N) (y : S1x1024.Idx) (i : S1x2048.Idx) (h0 : (i 0).val = (y 0).val)
    (h1 : (i 1).val = 1024 * t.val + (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S1x1024.Idx) (i : S1x2048.Idx) (h0 : (i 0).val = (y 0).val)
    (h1 : (i 1).val = 1024 * t.val + (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S1x1024.Idx) (i : S1x2048.Idx) (h0 : (i 0).val = (y 0).val)
    (h1 : (i 1).val = 1024 * t.val + (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S1x1024.Idx) (i : S1x2048.Idx) (h0 : (i 0).val = (y 0).val)
    (h1 : (i 1).val = 1024 * t.val + (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S1x1024.Idx → EReal) (y : S1x1024.Idx) : k0_pay2 (F := Ideal) g a y = adamM (g y) (a y) := by
  unfold k0_pay2 k0_pay1
  pointwise
  rfl

theorem payV (g a : S1x1024.Idx → EReal) (y : S1x1024.Idx) : k0_pay3 (F := Ideal) g a y = adamV (g y) (a y) := by
  unfold k0_pay3 k0_pay1
  pointwise
  rfl

theorem payD (g a b w : S1x1024.Idx → EReal) (y : S1x1024.Idx) : k0_pay4 (F := Ideal) g a b w y = adamD (w y) (g y) (a y) (b y) := by
  unfold k0_pay4
  pointwise
  rw [payM, payV]
  rfl

/-- The new first moments, the new second moments and the updates. -/
def M : FVec Ideal S1x2048 .f32 := fun i => adamM (gt m c i) (mt m c i)
def V : FVec Ideal S1x2048 .f32 := fun i => adamV (gt m c i) (vt m c i)
def D : FVec Ideal S1x2048 .f32 := fun i => adamD (wt m c i) (gt m c i) (mt m c i) (vt m c i)

theorem outD (t : Fin cfg0.N) (y : S1x1024.Idx) (i : S1x2048.Idx) (h0 : (i 0).val = (y 0).val)
    (h1 : (i 1).val = 1024 * t.val + (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S1x2048.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S1x1024.Idx) (i : S1x2048.Idx) (h0 : (i 0).val = (y 0).val)
    (h1 : (i 1).val = 1024 * t.val + (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S1x2048.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S1x1024.Idx) (i : S1x2048.Idx) (h0 : (i 0).val = (y 0).val)
    (h1 : (i 1).val = 1024 * t.val + (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S1x2048.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2048.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamFinalIdeal.Read.val_main_v24 (F := Ideal) x0 x1 x2 x3 = D m c := by
  subst h0 h1 h2 h3
  funext i
  rfl

theorem refM (x1 x2 : S2048.Idx → EReal)
    (h1 : x1 = m ((c : Thread nD τ).loc main_arg1)) (h2 : x2 = m ((c : Thread nD τ).loc main_arg2)) :
    Cert.RefAdamFinalIdeal.Read.val_main_v25 (F := Ideal) x1 x2 = M m c := by
  subst h1 h2
  funext i
  rfl

theorem refV (x1 x3 : S2048.Idx → EReal)
    (h1 : x1 = m ((c : Thread nD τ).loc main_arg1)) (h3 : x3 = m ((c : Thread nD τ).loc main_arg3)) :
    Cert.RefAdamFinalIdeal.Read.val_main_v26 (F := Ideal) x1 x3 = V m c := by
  subst h1 h3
  funext i
  rfl

theorem agree : Cert.algebraic_AdamFinalIdeal_RefAdamFinalIdeal (hAdamFinalIdeal := Cert.AdamFinalIdeal.Gen.facts) (hRefAdamFinalIdeal := Cert.RefAdamFinalIdeal.Gen.facts) := by
  intro m g m' g' _ hagree
  refine ⟨fun c => D m c, fun c => M m c, fun c => V m c,
    (θ_run Cert.AdamFinalIdeal.defs _ _).mono (fun r h c => ⟨(h c).1.trans (finalD m c), (h c).2.1.trans (finalM m c), (h c).2.2.1.trans (finalV m c), (h c).2.2.2⟩)
      (Cert.AdamFinalIdeal.Value.run_blocks (F := Ideal) m g),
    (θ_run Cert.RefAdamFinalIdeal.defs _ _).mono (fun r h c => ⟨?_, ?_, ?_, (h c).2.2.2⟩) (Cert.RefAdamFinalIdeal.Value.run (F := Ideal) m' g')⟩
  · exact ((h c).1.trans (Cert.RefAdamFinalIdeal.Read.val_main_v24_eq _ _ _ _)).trans
      (refD m c _ _ _ _ (hagree c).1 (hagree c).2.1 (hagree c).2.2.1 (hagree c).2.2.2)
  · exact ((h c).2.1.trans (Cert.RefAdamFinalIdeal.Read.val_main_v25_eq _ _)).trans (refM m c _ _ (hagree c).2.1 (hagree c).2.2.1)
  · exact ((h c).2.2.1.trans (Cert.RefAdamFinalIdeal.Read.val_main_v26_eq _ _)).trans (refV m c _ _ (hagree c).2.1 (hagree c).2.2.2)

theorem ref_frame : Cert.quiescent_RefAdamFinalIdeal (hRefAdamFinalIdeal := Cert.RefAdamFinalIdeal.Gen.facts) := fun m ρ _ =>
  (θ_run Cert.RefAdamFinalIdeal.defs _ _).mono (fun r h => ⟨fun c => (h c).2.2.2, sem_eq_zero_of_no_sems (by decide) r.2⟩)
    (Cert.RefAdamFinalIdeal.Value.run (F := Ideal) m ρ)

end Cert.AdamFinalIdeal.Spec

end
-- ==== Proof.AdamConvVal.lean ====
/- What the kernel of the optimiser computes on a parameter of shape 2x3x256: its update and its new moments, entry by entry. -/
module

public import proofs.«01_k».proof.Proof.Adam
public import proofs.«01_k».proof.Proof.Entries
public import proofs.«01_k».proof.Proof.Gen.AdamConvIdeal.Frame
public import proofs.«01_k».proof.Defs
public import proofs.«01_k».proof.Proof.Gen.AdamConvIdeal
public import proofs.«01_k».proof.Proof.Gen.AdamConvIdeal.Value
public import proofs.«01_k».proof.Proof.Gen.RefAdamConvIdeal
public import proofs.«01_k».proof.Proof.Gen.RefAdamConvIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamConvIdeal.Spec

open Idealize.ShloMosaic Idealize.ShloMosaic.TcCoe Idealize.ShloMosaic.Pointwise Idealize.SL.Sem Cert.AdamConvIdeal Cert.AdamConvIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S6x256.Idx → EReal := shapeCast S6x256 (m ((c : Thread nD τ).loc main_arg0) : S2x3x256.Idx → EReal) shapeCasts_S2x3x256_S6x256
abbrev gt : S6x256.Idx → EReal := shapeCast S6x256 (m ((c : Thread nD τ).loc main_arg1) : S2x3x256.Idx → EReal) shapeCasts_S2x3x256_S6x256
abbrev mt : S6x256.Idx → EReal := shapeCast S6x256 (m ((c : Thread nD τ).loc main_arg2) : S2x3x256.Idx → EReal) shapeCasts_S2x3x256_S6x256
abbrev vt : S6x256.Idx → EReal := shapeCast S6x256 (m ((c : Thread nD τ).loc main_arg3) : S2x3x256.Idx → EReal) shapeCasts_S2x3x256_S6x256

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blkW (t : Fin cfg0.N) (y : S6x256.Idx) (i : S6x256.Idx) (h0 : (i 0).val = (y 0).val)
    (h1 : (i 1).val = (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S6x256.Idx) (i : S6x256.Idx) (h0 : (i 0).val = (y 0).val)
    (h1 : (i 1).val = (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S6x256.Idx) (i : S6x256.Idx) (h0 : (i 0).val = (y 0).val)
    (h1 : (i 1).val = (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S6x256.Idx) (i : S6x256.Idx) (h0 : (i 0).val = (y 0).val)
    (h1 : (i 1).val = (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S6x256.Idx → EReal) (y : S6x256.Idx) : k0_pay2 (F := Ideal) g a y = adamM (g y) (a y) := by
  unfold k0_pay2 k0_pay1
  pointwise
  rfl

theorem payV (g a : S6x256.Idx → EReal) (y : S6x256.Idx) : k0_pay3 (F := Ideal) g a y = adamV (g y) (a y) := by
  unfold k0_pay3 k0_pay1
  pointwise
  rfl

theorem payD (g a b w : S6x256.Idx → EReal) (y : S6x256.Idx) : k0_pay4 (F := Ideal) g a b w y = adamD (w y) (g y) (a y) (b y) := by
  unfold k0_pay4
  pointwise
  rw [payM, payV]
  rfl

/-- The new first moments, the new second moments and the updates. -/
def M : FVec Ideal S6x256 .f32 := fun i => adamM (gt m c i) (mt m c i)
def V : FVec Ideal S6x256 .f32 := fun i => adamV (gt m c i) (vt m c i)
def D : FVec Ideal S6x256 .f32 := fun i => adamD (wt m c i) (gt m c i) (mt m c i) (vt m c i)

theorem outD (t : Fin cfg0.N) (y : S6x256.Idx) (i : S6x256.Idx) (h0 : (i 0).val = (y 0).val)
    (h1 : (i 1).val = (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S6x256.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S6x256.Idx) (i : S6x256.Idx) (h0 : (i 0).val = (y 0).val)
    (h1 : (i 1).val = (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S6x256.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S6x256.Idx) (i : S6x256.Idx) (h0 : (i 0).val = (y 0).val)
    (h1 : (i 1).val = (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S6x256.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x3x256.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamConvIdeal.Read.val_main_v24 (F := Ideal) x0 x1 x2 x3 = D m c := by
  subst h0 h1 h2 h3
  funext i
  rfl

theorem refM (x1 x2 : S2x3x256.Idx → EReal)
    (h1 : x1 = m ((c : Thread nD τ).loc main_arg1)) (h2 : x2 = m ((c : Thread nD τ).loc main_arg2)) :
    Cert.RefAdamConvIdeal.Read.val_main_v25 (F := Ideal) x1 x2 = M m c := by
  subst h1 h2
  funext i
  rfl

theorem refV (x1 x3 : S2x3x256.Idx → EReal)
    (h1 : x1 = m ((c : Thread nD τ).loc main_arg1)) (h3 : x3 = m ((c : Thread nD τ).loc main_arg3)) :
    Cert.RefAdamConvIdeal.Read.val_main_v26 (F := Ideal) x1 x3 = V m c := by
  subst h1 h3
  funext i
  rfl

theorem agree : Cert.algebraic_AdamConvIdeal_RefAdamConvIdeal (hAdamConvIdeal := Cert.AdamConvIdeal.Gen.facts) (hRefAdamConvIdeal := Cert.RefAdamConvIdeal.Gen.facts) := by
  intro m g m' g' _ hagree
  refine ⟨fun c => D m c, fun c => M m c, fun c => V m c,
    (θ_run Cert.AdamConvIdeal.defs _ _).mono (fun r h c => ⟨(h c).1.trans (finalD m c), (h c).2.1.trans (finalM m c), (h c).2.2.1.trans (finalV m c), (h c).2.2.2⟩)
      (Cert.AdamConvIdeal.Value.run_blocks (F := Ideal) m g),
    (θ_run Cert.RefAdamConvIdeal.defs _ _).mono (fun r h c => ⟨?_, ?_, ?_, (h c).2.2.2⟩) (Cert.RefAdamConvIdeal.Value.run (F := Ideal) m' g')⟩
  · exact ((h c).1.trans (Cert.RefAdamConvIdeal.Read.val_main_v24_eq _ _ _ _)).trans
      (refD m c _ _ _ _ (hagree c).1 (hagree c).2.1 (hagree c).2.2.1 (hagree c).2.2.2)
  · exact ((h c).2.1.trans (Cert.RefAdamConvIdeal.Read.val_main_v25_eq _ _)).trans (refM m c _ _ (hagree c).2.1 (hagree c).2.2.1)
  · exact ((h c).2.2.1.trans (Cert.RefAdamConvIdeal.Read.val_main_v26_eq _ _)).trans (refV m c _ _ (hagree c).2.1 (hagree c).2.2.2)

theorem ref_frame : Cert.quiescent_RefAdamConvIdeal (hRefAdamConvIdeal := Cert.RefAdamConvIdeal.Gen.facts) := fun m ρ _ =>
  (θ_run Cert.RefAdamConvIdeal.defs _ _).mono (fun r h => ⟨fun c => (h c).2.2.2, sem_eq_zero_of_no_sems (by decide) r.2⟩)
    (Cert.RefAdamConvIdeal.Value.run (F := Ideal) m ρ)

end Cert.AdamConvIdeal.Spec

end
-- ==== Proof.AdamPoolVal.lean ====
/- What the kernel of the optimiser computes on a parameter of shape 2x4x64x256: its update and its new moments, entry by entry. -/
module

public import proofs.«01_k».proof.Proof.Adam
public import proofs.«01_k».proof.Proof.Entries
public import proofs.«01_k».proof.Proof.Gen.AdamPoolIdeal.Frame
public import proofs.«01_k».proof.Defs
public import proofs.«01_k».proof.Proof.Gen.AdamPoolIdeal
public import proofs.«01_k».proof.Proof.Gen.AdamPoolIdeal.Value
public import proofs.«01_k».proof.Proof.Gen.RefAdamPoolIdeal
public import proofs.«01_k».proof.Proof.Gen.RefAdamPoolIdeal.Read
public import Idealize.ShloMosaic.Lib.Claim
public import Idealize.ShloMosaic.Adequacy
public import Idealize.ShloMosaic.Init
public import Idealize.ShloMosaic.Lib.Pipeline.ValueKit
public import Idealize.ShloMosaic.Lib.Pipeline.ReadBack

@[expose] public section

set_option maxRecDepth 16384

noncomputable section

namespace Cert.AdamPoolIdeal.Spec

open Idealize.ShloMosaic Idealize.ShloMosaic.TcCoe Idealize.ShloMosaic.Pointwise Idealize.SL.Sem Cert.AdamPoolIdeal Cert.AdamPoolIdeal.Gen Finset Cert.Proof
open Idealize.ShloMosaic.Pipeline (Dat)

variable (m : (ℓ : Loc nD τ sig) → Buf (Elt Ideal) ℓ) (c : Dev nD)

/-- The parameter, its gradient and its moments as launched, as one matrix. -/
abbrev wt : S512x256.Idx → EReal := shapeCast S512x256 (m ((c : Thread nD τ).loc main_arg0) : S2x4x64x256.Idx → EReal) shapeCasts_S2x4x64x256_S512x256
abbrev gt : S512x256.Idx → EReal := shapeCast S512x256 (m ((c : Thread nD τ).loc main_arg1) : S2x4x64x256.Idx → EReal) shapeCasts_S2x4x64x256_S512x256
abbrev mt : S512x256.Idx → EReal := shapeCast S512x256 (m ((c : Thread nD τ).loc main_arg2) : S2x4x64x256.Idx → EReal) shapeCasts_S2x4x64x256_S512x256
abbrev vt : S512x256.Idx → EReal := shapeCast S512x256 (m ((c : Thread nD τ).loc main_arg3) : S2x4x64x256.Idx → EReal) shapeCasts_S2x4x64x256_S512x256

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blkW (t : Fin cfg0.N) (y : S512x256.Idx) (i : S512x256.Idx) (h0 : (i 0).val = (y 0).val)
    (h1 : (i 1).val = (y 1).val) : iblk m c 0 t y = wt m c i := by
  obtain ⟨e0, e1, e2, e3, e4, e5, e6⟩ := idx t
  blk_simp [iblk, e0]
  entry_read
  refine (ent2_eq (wt m c) _ _ _ ?_ ?_).trans (ent2_eq (wt m c) i _ _ h0 h1).symm <;> blk_simp [e0]
  all_goals first | ring | skip

theorem blkG (t : Fin cfg0.N) (y : S512x256.Idx) (i : S512x256.Idx) (h0 : (i 0).val = (y 0).val)
    (h1 : (i 1).val = (y 1).val) : iblk m c 1 t y = gt m c i := by
  obtain ⟨e0, e1, e2, e3, e4, e5, e6⟩ := idx t
  blk_simp [iblk, e1]
  entry_read
  refine (ent2_eq (gt m c) _ _ _ ?_ ?_).trans (ent2_eq (gt m c) i _ _ h0 h1).symm <;> blk_simp [e1]
  all_goals first | ring | skip

theorem blkM (t : Fin cfg0.N) (y : S512x256.Idx) (i : S512x256.Idx) (h0 : (i 0).val = (y 0).val)
    (h1 : (i 1).val = (y 1).val) : iblk m c 2 t y = mt m c i := by
  obtain ⟨e0, e1, e2, e3, e4, e5, e6⟩ := idx t
  blk_simp [iblk, e2]
  entry_read
  refine (ent2_eq (mt m c) _ _ _ ?_ ?_).trans (ent2_eq (mt m c) i _ _ h0 h1).symm <;> blk_simp [e2]
  all_goals first | ring | skip

theorem blkV (t : Fin cfg0.N) (y : S512x256.Idx) (i : S512x256.Idx) (h0 : (i 0).val = (y 0).val)
    (h1 : (i 1).val = (y 1).val) : iblk m c 3 t y = vt m c i := by
  obtain ⟨e0, e1, e2, e3, e4, e5, e6⟩ := idx t
  blk_simp [iblk, e3]
  entry_read
  refine (ent2_eq (vt m c) _ _ _ ?_ ?_).trans (ent2_eq (vt m c) i _ _ h0 h1).symm <;> blk_simp [e3]
  all_goals first | ring | skip

theorem payM (g a : S512x256.Idx → EReal) (y : S512x256.Idx) : k0_pay2 (F := Ideal) g a y = adamM (g y) (a y) := by
  unfold k0_pay2 k0_pay1
  pointwise
  rfl

theorem payV (g a : S512x256.Idx → EReal) (y : S512x256.Idx) : k0_pay3 (F := Ideal) g a y = adamV (g y) (a y) := by
  unfold k0_pay3 k0_pay1
  pointwise
  rfl

theorem payD (g a b w : S512x256.Idx → EReal) (y : S512x256.Idx) : k0_pay4 (F := Ideal) g a b w y = adamD (w y) (g y) (a y) (b y) := by
  unfold k0_pay4
  pointwise
  rw [payM, payV]
  rfl

/-- The new first moments, the new second moments and the updates. -/
def M : FVec Ideal S512x256 .f32 := fun i => adamM (gt m c i) (mt m c i)
def V : FVec Ideal S512x256 .f32 := fun i => adamV (gt m c i) (vt m c i)
def D : FVec Ideal S512x256 .f32 := fun i => adamD (wt m c i) (gt m c i) (mt m c i) (vt m c i)

theorem outD (t : Fin cfg0.N) (y : S512x256.Idx) (i : S512x256.Idx) (h0 : (i 0).val = (y 0).val)
    (h1 : (i 1).val = (y 1).val) :
    out0_4 (iblk m c 0 t) (iblk m c 1 t) (iblk m c 2 t) (iblk m c 3 t) y = D m c i := by
  frame_out
  refine (payD _ _ _ _ y).trans ?_
  rw [blkW m c t y i h0 h1, blkG m c t y i h0 h1, blkM m c t y i h0 h1, blkV m c t y i h0 h1]
  rfl

theorem finalD : (dats m 0 c).arrAt 4 cfg0.N = (D m c : S512x256.Idx → EReal) := by
  refine (dats m 0 c).arrAt_eq_of_covers 4 _ (by decide +kernel) fun t hf y => ?_
  obtain ⟨e0, e1, e2, e3, e4, e5, e6⟩ := idx t
  blk_simp
  rw [after0_4]
  refine outD m c t y _ ?_ ?_ <;> blk_simp [e4]
  all_goals first | ring | skip

theorem outM (t : Fin cfg0.N) (y : S512x256.Idx) (i : S512x256.Idx) (h0 : (i 0).val = (y 0).val)
    (h1 : (i 1).val = (y 1).val) :
    out0_5 (iblk m c 0 t) (iblk m c 1 t) (iblk m c 2 t) (iblk m c 3 t) y = M m c i := by
  frame_out
  refine (payM _ _ y).trans ?_
  rw [blkG m c t y i h0 h1, blkM m c t y i h0 h1]
  rfl

theorem finalM : (dats m 0 c).arrAt 5 cfg0.N = (M m c : S512x256.Idx → EReal) := by
  refine (dats m 0 c).arrAt_eq_of_covers 5 _ (by decide +kernel) fun t hf y => ?_
  obtain ⟨e0, e1, e2, e3, e4, e5, e6⟩ := idx t
  blk_simp
  rw [after0_5]
  refine outM m c t y _ ?_ ?_ <;> blk_simp [e5]
  all_goals first | ring | skip

theorem outV (t : Fin cfg0.N) (y : S512x256.Idx) (i : S512x256.Idx) (h0 : (i 0).val = (y 0).val)
    (h1 : (i 1).val = (y 1).val) :
    out0_6 (iblk m c 0 t) (iblk m c 1 t) (iblk m c 2 t) (iblk m c 3 t) y = V m c i := by
  frame_out
  refine (payV _ _ y).trans ?_
  rw [blkG m c t y i h0 h1, blkV m c t y i h0 h1]
  rfl

theorem finalV : (dats m 0 c).arrAt 6 cfg0.N = (V m c : S512x256.Idx → EReal) := by
  refine (dats m 0 c).arrAt_eq_of_covers 6 _ (by decide +kernel) fun t hf y => ?_
  obtain ⟨e0, e1, e2, e3, e4, e5, e6⟩ := idx t
  blk_simp
  rw [after0_6]
  refine outV m c t y _ ?_ ?_ <;> blk_simp [e6]
  all_goals first | ring | skip

theorem refD (x0 x1 x2 x3 : S2x4x64x256.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RefAdamPoolIdeal.Read.val_main_v24 (F := Ideal) x0 x1 x2 x3 = D m c := by
  subst h0 h1 h2 h3
  funext i
  rfl

theorem refM (x1 x2 : S2x4x64x256.Idx → EReal)
    (h1 : x1 = m ((c : Thread nD τ).loc main_arg1)) (h2 : x2 = m ((c : Thread nD τ).loc main_arg2)) :
    Cert.RefAdamPoolIdeal.Read.val_main_v25 (F := Ideal) x1 x2 = M m c := by
  subst h1 h2
  funext i
  rfl

theorem refV (x1 x3 : S2x4x64x256.Idx → EReal)
    (h1 : x1 = m ((c : Thread nD τ).loc main_arg1)) (h3 : x3 = m ((c : Thread nD τ).loc main_arg3)) :
    Cert.RefAdamPoolIdeal.Read.val_main_v26 (F := Ideal) x1 x3 = V m c := by
  subst h1 h3
  funext i
  rfl

theorem agree : Cert.algebraic_AdamPoolIdeal_RefAdamPoolIdeal (hAdamPoolIdeal := Cert.AdamPoolIdeal.Gen.facts) (hRefAdamPoolIdeal := Cert.RefAdamPoolIdeal.Gen.facts) := by
  intro m g m' g' _ hagree
  refine ⟨fun c => D m c, fun c => M m c, fun c => V m c,
    (θ_run Cert.AdamPoolIdeal.defs _ _).mono (fun r h c => ⟨(h c).1.trans (finalD m c), (h c).2.1.trans (finalM m c), (h c).2.2.1.trans (finalV m c), (h c).2.2.2⟩)
      (Cert.AdamPoolIdeal.Value.run_blocks (F := Ideal) m g),
    (θ_run Cert.RefAdamPoolIdeal.defs _ _).mono (fun r h c => ⟨?_, ?_, ?_, (h c).2.2.2⟩) (Cert.RefAdamPoolIdeal.Value.run (F := Ideal) m' g')⟩
  · exact ((h c).1.trans (Cert.RefAdamPoolIdeal.Read.val_main_v24_eq _ _ _ _)).trans
      (refD m c _ _ _ _ (hagree c).1 (hagree c).2.1 (hagree c).2.2.1 (hagree c).2.2.2)
  · exact ((h c).2.1.trans (Cert.RefAdamPoolIdeal.Read.val_main_v25_eq _ _)).trans (refM m c _ _ (hagree c).2.1 (hagree c).2.2.1)
  · exact ((h c).2.2.1.trans (Cert.RefAdamPoolIdeal.Read.val_main_v26_eq _ _)).trans (refV m c _ _ (hagree c).2.1 (hagree c).2.2.2)

theorem ref_frame : Cert.quiescent_RefAdamPoolIdeal (hRefAdamPoolIdeal := Cert.RefAdamPoolIdeal.Gen.facts) := fun m ρ _ =>
  (θ_run Cert.RefAdamPoolIdeal.defs _ _).mono (fun r h => ⟨fun c => (h c).2.2.2, sem_eq_zero_of_no_sems (by decide) r.2⟩)
    (Cert.RefAdamPoolIdeal.Value.run (F := Ideal) m ρ)

end Cert.AdamPoolIdeal.Spec

end
-- ==== Proof.Head.lean ====
/- One head's arithmetic in a grid point of the two kernels, as functions of the head's blocks: the four heads of a
   point compute the same terms. -/
module

public import proofs.«01_k».proof.Proof.Gen.KernelIdeal.Loops

@[expose] public section

noncomputable section

namespace Cert.Proof

open Idealize.ShloMosaic Cert.KernelIdeal Cert.KernelIdeal.Facts₀ Cert.KernelIdeal.Facts

variable {F : FTy → Type} [FloatOps F]

/-- The zero block of scores. -/
def zeroS : FVec F S256x256 .f32 := broadcast S256x256 (Scalar.ofBits .f32 0x00000000#32)

/-- The scores of 256 queries against 256 keys. -/
def scores (q kb : FVec F S256x128 .bf16) : FVec F S256x256 .f32 :=
  matmul dot_S256x128_S256x128_S256x256_1_1_0_0_n_n none q
    (shapeCast S256x128 kb shapeCasts_S256x128_S256x128) (constant S256x256 .f32 0x00000000#32)

/-- `-softplus` of the scores. -/
def logKeep (z : FVec F S256x256 .f32) : FVec F S256x256 .f32 :=
  subf zeroS (addf (maximumf z zeroS)
    (log (addf (broadcast S256x256 (Scalar.ofBits .f32 0x3F800000#32)) (exp (subf zeroS (absf z))))))

/-- The strict lower triangle of a diagonal block. -/
def strict : IVec S256x256 1 :=
  cmpi .slt (iota .tc S256x256 32 [1] iota_S256x256_d1_w32) (iota .tc S256x256 32 [0] iota_S256x256_d0_w32)

/-- A diagonal block kept below the diagonal. -/
def below (x : FVec F S256x256 .f32) : FVec F S256x256 .f32 := select strict x zeroS

/-- The carried sum plus the block's running sum along the matrix `tri` of ones. -/
def running (tri : FVec F S256x256 .bf16) (run : FVec F S256x1 .f32) (x : FVec F S256x256 .f32) :
    FVec F S256x256 .f32 :=
  addf (broadcastTo S256x256 run broadcasts_S256x1_S256x256)
    (matmul dot_S256x256_S256x256_S256x256_1_0_0_1_n_n none (truncf .bf16 x bitsLt_bf16_f32) tri
      (constant S256x256 .f32 0x00000000#32))

/-- The attention weights. -/
def weights (z cs : FVec F S256x256 .f32) : FVec F S256x256 .f32 := exp (addf z cs)

/-- An accumulator plus a block of weights times a block of rows. -/
def accum (acc : FVec F S256x128 .f32) (a : FVec F S256x256 .f32) (vb : FVec F S256x128 .bf16) :
    FVec F S256x128 .f32 :=
  addf acc (matmul dot_S256x256_S256x128_S256x128_1_0_0_1_n_n none (truncf .bf16 a bitsLt_bf16_f32)
    (shapeCast S256x128 vb shapeCasts_S256x128_S256x128) (constant S256x128 .f32 0x00000000#32))

/-- The first column of a block. -/
def firstCol (x : FVec F S256x256 .f32) : FVec F S256x1 .f32 :=
  extractStridedSlice S256x1 ![0, 0] x slices_S256x256_o0_0_S256x1

/-- Lane `j` of the saved sums set to the carried sum. -/
def saveRun (lane : IVec S256x128 32) (j : BitVec 32) (run : FVec F S256x1 .f32) (rs : FVec F S256x128 .f32) :
    FVec F S256x128 .f32 :=
  select (cmpi .eq lane (broadcast S256x128 j))
    (broadcastTo S256x128 (shapeCast S256x1 run shapeCasts_S256x1_S256x1) broadcasts_S256x1_S256x128) rs

/-- What the forward kernel carries of one head: the running sum, the output and the saved sums. -/
abbrev FCarry (F : FTy → Type) : Type := FVec F S256x1 .f32 × FVec F S256x128 .f32 × FVec F S256x128 .f32

/-- A block kept below the diagonal if it is the diagonal block (`m`), and whole otherwise. -/
def keep (m : Bool) (x : FVec F S256x256 .f32) : FVec F S256x256 .f32 := bif m then below x else x

/-- One block of keys of the forward kernel; `m` says that it is the diagonal one. -/
def fwdStep (m : Bool) (tri : FVec F S256x256 .bf16) (lane : IVec S256x128 32) (q : FVec F S256x128 .bf16)
    (j : BitVec 32) (kb vb : FVec F S256x128 .bf16) (st : FCarry F) : FCarry F :=
  (firstCol (running tri st.1 (keep m (logKeep (scores q kb)))),
   accum st.2.1 (keep m (weights (scores q kb) (running tri st.1 (keep m (logKeep (scores q kb)))))) vb,
   saveRun lane j st.1 st.2.2)

/-- The running sum saved in lane `j`. -/
def savedRun (lane : IVec S256x128 32) (j : BitVec 32) (rs : FVec F S256x128 .f32) : FVec F S256x1 .f32 :=
  shapeCast S256x1 (multiReduction .add [1] S256
    (select (cmpi .eq lane (broadcast S256x128 j)) rs (broadcast S256x128 (Scalar.ofBits .f32 0x00000000#32)))
    0x00000000#32 reduces_S256x128_S256 (.inl rfl) rfl) shapeCasts_S256_S256x1

/-- `1 - exp (-softplus)` of the scores. -/
def rises (z : FVec F S256x256 .f32) : FVec F S256x256 .f32 :=
  subf (broadcast S256x256 (Scalar.ofBits .f32 0x3F800000#32)) (exp (logKeep z))

/-- The attention weights of a block, from the saved sums. -/
def bwdW (m : Bool) (tri : FVec F S256x256 .bf16) (lane : IVec S256x128 32) (q : FVec F S256x128 .bf16)
    (rs : FVec F S256x128 .f32) (j : BitVec 32) (kb : FVec F S256x128 .bf16) : FVec F S256x256 .f32 :=
  keep m (weights (scores q kb) (running tri (savedRun lane j rs) (keep m (logKeep (scores q kb)))))

/-- The gradient of the log of the weights of a block, `w` the weights. -/
def bwdG (dob vb : FVec F S256x128 .bf16) (w : FVec F S256x256 .f32) : FVec F S256x256 .f32 := mulf w (scores dob vb)

/-- The gradient of the scores of a block; `cum` is the running sum of `g`. -/
def bwdDz (m : Bool) (q kb : FVec F S256x128 .bf16) (g cum : FVec F S256x256 .f32) : FVec F S256x256 .f32 :=
  keep m (subf g (mulf (rises (scores q kb)) cum))

/-- The last column of a block. -/
def lastCol (x : FVec F S256x256 .f32) : FVec F S256x1 .f32 :=
  extractStridedSlice S256x1 ![0, 255] x slices_S256x256_o0_255_S256x1

/-- A tile of an output plus a block transposed times rows. -/
def addT (old : FVec F S256x128 .f32) (a : FVec F S256x256 .f32) (x : FVec F S256x128 .bf16) : FVec F S256x128 .f32 :=
  addf (shapeCast S256x128 old shapeCasts_S256x128_S256x128)
    (matmul dot_S256x256_S256x128_S256x128_0_0_1_1_n_n none (truncf .bf16 a bitsLt_bf16_f32) x
      (constant S256x128 .f32 0x00000000#32))

/-- What the backward kernel reads of one head in a grid point: the queries, the output's gradient, the saved sums. -/
abbrev BHead (F : FTy → Type) : Type := FVec F S256x128 .bf16 × FVec F S256x128 .bf16 × FVec F S256x128 .f32

/-- What the backward kernel carries of one head: the running sum of the weights' gradient, the queries' gradient. -/
abbrev BCarry (F : FTy → Type) : Type := FVec F S256x1 .f32 × FVec F S256x128 .f32

section
variable (m : Bool) (tri triU : FVec F S256x256 .bf16) (lane : IVec S256x128 32) (h : BHead F) (j : BitVec 32)
  (kb vb : FVec F S256x128 .bf16) (st : BCarry F)

/-- The gradient of the log of a block's weights. -/
def bG : FVec F S256x256 .f32 := bwdG h.2.1 vb (bwdW m tri lane h.1 h.2.2 j kb)

/-- The gradient of a block's scores. -/
def bDz : FVec F S256x256 .f32 :=
  bwdDz m h.1 kb (bG m tri lane h j kb vb) (running triU st.1 (bG m tri lane h j kb vb))

/-- One block of keys of the backward kernel: what it carries on. -/
def bwdStep : BCarry F :=
  (lastCol (running triU st.1 (bG m tri lane h j kb vb)), accum st.2 (bDz m tri triU lane h j kb vb st) kb)

/-- What it leaves in the tile of the keys' gradient, `old` the tile before. -/
def bwdK (old : FVec F S256x128 .f32) : FVec F S256x128 .f32 := addT old (bDz m tri triU lane h j kb vb st) h.1

/-- What it leaves in the tile of the values' gradient, `old` the tile before. -/
def bwdV (old : FVec F S256x128 .f32) : FVec F S256x128 .f32 := addT old (bwdW m tri lane h.1 h.2.2 j kb) h.2.1

end

/-- A 256 × 128 tile of a memref's contents. -/
abbrev tile {n : Nat} {e : EltTy} (M : Memref sig .tc .vmem ⟨2, ![n, 512]⟩ e) (X : BufTy.Contents (Elt F) M.view.ty) (off : Fin 2 → Nat)
    (inb : ∀ a, off a + S256x128.size a ≤ (⟨2, ![n, 512]⟩ : Shape).size a) : Vec F S256x128 e :=
  M.view.readAt (Elt F) (Rect.unit (s := ⟨2, ![n, 512]⟩) off S256x128.size inb).toLoadRect X

abbrev pack4 {α β γ : Type} (a b c d : α × β × γ) : α × β × γ × α × β × γ × α × β × γ × α × β × γ :=
  (a.1, a.2.1, a.2.2, b.1, b.2.1, b.2.2, c.1, c.2.1, c.2.2, d.1, d.2.1, d.2.2)

open Cert.KernelIdeal.Gen in
set_option maxRecDepth 65536 in
set_option maxHeartbeats 4000000 in
theorem trip_k0_t1_eq (𝒱 : Variants) (c : Dev nD) (bd : Option 𝒱.V) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole) (arg1 : BitVec 32) (v5 : FVec F S256x256 .bf16) (v7 : IVec S256x128 32) (v9 : FVec F S256x128 .bf16) (v11 : FVec F S256x128 .bf16) (v13 : FVec F S256x128 .bf16) (v15 : FVec F S256x128 .bf16) (v16 : FVec F S256x1 .f32) (v17 : FVec F S256x128 .f32) (v18 : FVec F S256x128 .f32) (v20 : BitVec 32) (v99 : FVec F S256x256 .f32) (v102 : FVec F S256x256 .f32) (v105 : FVec F S256x256 .f32) (v108 : FVec F S256x256 .f32) (v113 : FVec F S256x256 .bf16) (v118 : FVec F S256x256 .bf16) (v123 : FVec F S256x256 .bf16) (v128 : FVec F S256x256 .bf16) (X_arg3 : BufTy.Contents (Elt F) arg3.view.ty) (X_arg4 : BufTy.Contents (Elt F) arg4.view.ty) (k : Fin (k0_t1_loop i).trips)
    (s0 s1 s2 s3 : FCarry F) :
    tripR_k0_t1 (F := F) 𝒱 c bd i arg2 harg2 arg3 harg3 arg4 harg4 arg5 harg5 arg6 harg6 arg7 harg7 arg8 harg8 arg1 v5 v7 v9 v11 v13 v15 v16 v17 v18 v20 v99 v102 v105 v108 v113 v118 v123 v128 X_arg3 X_arg4 k (pack4 s0 s1 s2 s3)
      = pack4
        (fwdStep false v5 v7 v9 (Scalar.subi (Scalar.subi arg1 1#32) (Scf.iv 0#32 1#32 k)) (tile arg3 X_arg3 (k0_off5 i k) (Gen.k0_off5_inb i k)) (tile arg4 X_arg4 (k0_off5 i k) (Gen.k0_off5_inb i k)) s0)
        (fwdStep false v5 v7 v11 (Scalar.subi (Scalar.subi arg1 1#32) (Scf.iv 0#32 1#32 k)) (tile arg3 X_arg3 (k0_off6 i k) (Gen.k0_off6_inb i k)) (tile arg4 X_arg4 (k0_off6 i k) (Gen.k0_off6_inb i k)) s1)
        (fwdStep false v5 v7 v13 (Scalar.subi (Scalar.subi arg1 1#32) (Scf.iv 0#32 1#32 k)) (tile arg3 X_arg3 (k0_off7 i k) (Gen.k0_off7_inb i k)) (tile arg4 X_arg4 (k0_off7 i k) (Gen.k0_off7_inb i k)) s2)
        (fwdStep false v5 v7 v15 (Scalar.subi (Scalar.subi arg1 1#32) (Scf.iv 0#32 1#32 k)) (tile arg3 X_arg3 (k0_off8 i k) (Gen.k0_off8_inb i k)) (tile arg4 X_arg4 (k0_off8 i k) (Gen.k0_off8_inb i k)) s3) := by
  unfold tripR_k0_t1 trip_k0_t1
  rfl

abbrev pack4b {α β : Type} (a b c d : α × β) : α × β × α × β × α × β × α × β :=
  (a.1, a.2, b.1, b.2, c.1, c.2, d.1, d.2)

/-- Four tiles stored one after the other, the last first. -/
abbrev pieces4 {e : EltTy} (o1 o2 o3 o4 : Fin 2 → Nat) (b1 : ∀ a, o1 a + S256x128.size a ≤ S4096x512.size a)
    (b2 : ∀ a, o2 a + S256x128.size a ≤ S4096x512.size a) (b3 : ∀ a, o3 a + S256x128.size a ≤ S4096x512.size a)
    (b4 : ∀ a, o4 a + S256x128.size a ≤ S4096x512.size a) (x1 x2 x3 x4 : Vec F S256x128 e) :
    List (View.Piece (Elt F) S4096x512 e) :=
  [⟨Rect.unit o4 S256x128.size b4, x4⟩, ⟨Rect.unit o3 S256x128.size b3, x3⟩,
   ⟨Rect.unit o2 S256x128.size b2, x2⟩, ⟨Rect.unit o1 S256x128.size b1, x1⟩]

open Cert.KernelIdeal.Gen in
set_option maxRecDepth 65536 in
set_option maxHeartbeats 4000000 in
theorem trip_k1_t1_R (𝒱 : Variants) (c : Dev nD) (bd : Option 𝒱.V) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (arg1 : BitVec 32) (v8 : FVec F S256x256 .bf16) (v12 : FVec F S256x256 .bf16) (v14 : IVec S256x128 32) (v16 : FVec F S256x128 .bf16) (v33 : FVec F S256x128 .bf16) (v35 : FVec F S256x128 .f32) (v37 : FVec F S256x128 .bf16) (v54 : FVec F S256x128 .bf16) (v56 : FVec F S256x128 .f32) (v58 : FVec F S256x128 .bf16) (v59 : Vec F S256x128 .f32) (v60 : Vec F S256x128 .f32) (v61 : FVec F S256x128 .f32) (v71 : FVec F S256x128 .f32) (v76 : Vec F S256x128 .f32) (v78 : Vec F S256x128 .bf16) (v80 : Vec F S256x128 .f32) (v81 : Vec F S256x128 .f32) (v97 : Vec F S256x128 .f32) (X_arg3 : BufTy.Contents (Elt F) arg3.view.ty) (X_arg4 : BufTy.Contents (Elt F) arg4.view.ty) (k : Fin (k1_t1_loop i).trips)
    (s0 s1 s2 s3 : BCarry F) (f10 : BufTy.Contents (Elt F) arg10.view.ty) (f11 : BufTy.Contents (Elt F) arg11.view.ty) :
    (trip_k1_t1 (F := F) 𝒱 c bd i arg2 harg2 arg3 harg3 arg4 harg4 arg5 harg5 arg6 harg6 arg7 harg7 arg8 harg8 arg9 harg9 arg10 harg10 arg11 harg11 arg12 harg12 arg1 v8 v12 v14 v16 v33 v35 v37 v54 v56 v58 v59 v60 v61 v71 v76 v78 v80 v81 v97 X_arg3 X_arg4 k).1 (pack4b s0 s1 s2 s3) f10 f11
      = pack4b
        (bwdStep false v8 v12 v14 (v16, v33, v35) (Scf.iv 0#32 1#32 k) (tile arg3 X_arg3 (k1_off1 i k) (Gen.k1_off1_inb i k)) (tile arg4 X_arg4 (k1_off1 i k) (Gen.k1_off1_inb i k)) s0)
        (bwdStep false v8 v12 v14 (v37, v54, v56) (Scf.iv 0#32 1#32 k) (tile arg3 X_arg3 (k1_off2 i k) (Gen.k1_off2_inb i k)) (tile arg4 X_arg4 (k1_off2 i k) (Gen.k1_off2_inb i k)) s1)
        (bwdStep false v8 v12 v14 (v58, k1_pay142 v59 v60 v61, k1_pay143 v76) (Scf.iv 0#32 1#32 k) (tile arg3 X_arg3 (k1_off3 i k) (Gen.k1_off3_inb i k)) (tile arg4 X_arg4 (k1_off3 i k) (Gen.k1_off3_inb i k)) s2)
        (bwdStep false v8 v12 v14 (k1_pay144 v78, k1_pay147 v80 v81, k1_pay148 v97) (Scf.iv 0#32 1#32 k) (tile arg3 X_arg3 (k1_off4 i k) (Gen.k1_off4_inb i k)) (tile arg4 X_arg4 (k1_off4 i k) (Gen.k1_off4_inb i k)) s3) := by
  unfold trip_k1_t1
  rfl

open Cert.KernelIdeal.Gen in
set_option maxRecDepth 65536 in
set_option maxHeartbeats 4000000 in
theorem trip_k1_t1_K (𝒱 : Variants) (c : Dev nD) (bd : Option 𝒱.V) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (arg1 : BitVec 32) (v8 : FVec F S256x256 .bf16) (v12 : FVec F S256x256 .bf16) (v14 : IVec S256x128 32) (v16 : FVec F S256x128 .bf16) (v33 : FVec F S256x128 .bf16) (v35 : FVec F S256x128 .f32) (v37 : FVec F S256x128 .bf16) (v54 : FVec F S256x128 .bf16) (v56 : FVec F S256x128 .f32) (v58 : FVec F S256x128 .bf16) (v59 : Vec F S256x128 .f32) (v60 : Vec F S256x128 .f32) (v61 : FVec F S256x128 .f32) (v71 : FVec F S256x128 .f32) (v76 : Vec F S256x128 .f32) (v78 : Vec F S256x128 .bf16) (v80 : Vec F S256x128 .f32) (v81 : Vec F S256x128 .f32) (v97 : Vec F S256x128 .f32) (X_arg3 : BufTy.Contents (Elt F) arg3.view.ty) (X_arg4 : BufTy.Contents (Elt F) arg4.view.ty) (k : Fin (k1_t1_loop i).trips)
    (s0 s1 s2 s3 : BCarry F) (f10 : BufTy.Contents (Elt F) arg10.view.ty) (f11 : BufTy.Contents (Elt F) arg11.view.ty) :
    (trip_k1_t1 (F := F) 𝒱 c bd i arg2 harg2 arg3 harg3 arg4 harg4 arg5 harg5 arg6 harg6 arg7 harg7 arg8 harg8 arg9 harg9 arg10 harg10 arg11 harg11 arg12 harg12 arg1 v8 v12 v14 v16 v33 v35 v37 v54 v56 v58 v59 v60 v61 v71 v76 v78 v80 v81 v97 X_arg3 X_arg4 k).2.1 (pack4b s0 s1 s2 s3) f10 f11
      = pieces4 (k1_off1 i k) (k1_off2 i k) (k1_off3 i k) (k1_off4 i k) (Gen.k1_off1_inb i k) (Gen.k1_off2_inb i k) (Gen.k1_off3_inb i k) (Gen.k1_off4_inb i k)
        (bwdK false v8 v12 v14 (v16, v33, v35) (Scf.iv 0#32 1#32 k) (tile arg3 X_arg3 (k1_off1 i k) (Gen.k1_off1_inb i k)) (tile arg4 X_arg4 (k1_off1 i k) (Gen.k1_off1_inb i k)) s0 (tile arg10 f10 (k1_off1 i k) (Gen.k1_off1_inb i k)))
        (bwdK false v8 v12 v14 (v37, v54, v56) (Scf.iv 0#32 1#32 k) (tile arg3 X_arg3 (k1_off2 i k) (Gen.k1_off2_inb i k)) (tile arg4 X_arg4 (k1_off2 i k) (Gen.k1_off2_inb i k)) s1 (tile arg10 f10 (k1_off2 i k) (Gen.k1_off2_inb i k)))
        (bwdK false v8 v12 v14 (v58, k1_pay142 v59 v60 v61, k1_pay143 v76) (Scf.iv 0#32 1#32 k) (tile arg3 X_arg3 (k1_off3 i k) (Gen.k1_off3_inb i k)) (tile arg4 X_arg4 (k1_off3 i k) (Gen.k1_off3_inb i k)) s2 (tile arg10 f10 (k1_off3 i k) (Gen.k1_off3_inb i k)))
        (bwdK false v8 v12 v14 (k1_pay144 v78, k1_pay147 v80 v81, k1_pay148 v97) (Scf.iv 0#32 1#32 k) (tile arg3 X_arg3 (k1_off4 i k) (Gen.k1_off4_inb i k)) (tile arg4 X_arg4 (k1_off4 i k) (Gen.k1_off4_inb i k)) s3 (tile arg10 f10 (k1_off4 i k) (Gen.k1_off4_inb i k))) := by
  unfold trip_k1_t1
  rfl

open Cert.KernelIdeal.Gen in
set_option maxRecDepth 65536 in
set_option maxHeartbeats 4000000 in
theorem trip_k1_t1_V (𝒱 : Variants) (c : Dev nD) (bd : Option 𝒱.V) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (arg1 : BitVec 32) (v8 : FVec F S256x256 .bf16) (v12 : FVec F S256x256 .bf16) (v14 : IVec S256x128 32) (v16 : FVec F S256x128 .bf16) (v33 : FVec F S256x128 .bf16) (v35 : FVec F S256x128 .f32) (v37 : FVec F S256x128 .bf16) (v54 : FVec F S256x128 .bf16) (v56 : FVec F S256x128 .f32) (v58 : FVec F S256x128 .bf16) (v59 : Vec F S256x128 .f32) (v60 : Vec F S256x128 .f32) (v61 : FVec F S256x128 .f32) (v71 : FVec F S256x128 .f32) (v76 : Vec F S256x128 .f32) (v78 : Vec F S256x128 .bf16) (v80 : Vec F S256x128 .f32) (v81 : Vec F S256x128 .f32) (v97 : Vec F S256x128 .f32) (X_arg3 : BufTy.Contents (Elt F) arg3.view.ty) (X_arg4 : BufTy.Contents (Elt F) arg4.view.ty) (k : Fin (k1_t1_loop i).trips)
    (s0 s1 s2 s3 : BCarry F) (f10 : BufTy.Contents (Elt F) arg10.view.ty) (f11 : BufTy.Contents (Elt F) arg11.view.ty) :
    (trip_k1_t1 (F := F) 𝒱 c bd i arg2 harg2 arg3 harg3 arg4 harg4 arg5 harg5 arg6 harg6 arg7 harg7 arg8 harg8 arg9 harg9 arg10 harg10 arg11 harg11 arg12 harg12 arg1 v8 v12 v14 v16 v33 v35 v37 v54 v56 v58 v59 v60 v61 v71 v76 v78 v80 v81 v97 X_arg3 X_arg4 k).2.2.1 (pack4b s0 s1 s2 s3) f10 f11
      = pieces4 (k1_off1 i k) (k1_off2 i k) (k1_off3 i k) (k1_off4 i k) (Gen.k1_off1_inb i k) (Gen.k1_off2_inb i k) (Gen.k1_off3_inb i k) (Gen.k1_off4_inb i k)
        (bwdV false v8 v14 (v16, v33, v35) (Scf.iv 0#32 1#32 k) (tile arg3 X_arg3 (k1_off1 i k) (Gen.k1_off1_inb i k)) (tile arg11 f11 (k1_off1 i k) (Gen.k1_off1_inb i k)))
        (bwdV false v8 v14 (v37, v54, v56) (Scf.iv 0#32 1#32 k) (tile arg3 X_arg3 (k1_off2 i k) (Gen.k1_off2_inb i k)) (tile arg11 f11 (k1_off2 i k) (Gen.k1_off2_inb i k)))
        (bwdV false v8 v14 (v58, k1_pay142 v59 v60 v61, k1_pay143 v76) (Scf.iv 0#32 1#32 k) (tile arg3 X_arg3 (k1_off3 i k) (Gen.k1_off3_inb i k)) (tile arg11 f11 (k1_off3 i k) (Gen.k1_off3_inb i k)))
        (bwdV false v8 v14 (k1_pay144 v78, k1_pay147 v80 v81, k1_pay148 v97) (Scf.iv 0#32 1#32 k) (tile arg3 X_arg3 (k1_off4 i k) (Gen.k1_off4_inb i k)) (tile arg11 f11 (k1_off4 i k) (Gen.k1_off4_inb i k))) := by
  unfold trip_k1_t1
  rfl

end Cert.Proof

end
-- ==== Proof.Ops.lean ====
/- The heads' arithmetic at the extended reals, on blocks whose entries are all real. -/
module

public import proofs.«01_k».proof.Proof.Head
public import Idealize.ShloMosaic.Lib.Pointwise

@[expose] public section

noncomputable section

namespace Cert.Proof

open Idealize.ShloMosaic Idealize.ShloMosaic.Pointwise Cert.KernelIdeal Cert.KernelIdeal.Facts₀ Cert.KernelIdeal.Facts

/-- The array of the real entries `f i j`. -/
def R2 {m n : Nat} {φ : FTy} (f : ℕ → ℕ → ℝ) : FVec Ideal ⟨2, ![m, n]⟩ φ :=
  fun i => ((f (i 0).val (i 1).val : ℝ) : EReal)

theorem R2_congr {m n : Nat} {φ : FTy} {f g : ℕ → ℕ → ℝ} (h : ∀ i < m, ∀ j < n, f i j = g i j) :
    (R2 f : FVec Ideal ⟨2, ![m, n]⟩ φ) = R2 g := by
  funext i
  exact congrArg _ (h _ (i 0).isLt _ (i 1).isLt)

theorem coe_sum_fin (K : Nat) (f : ℕ → ℝ) :
    ∑ k : Fin K, ((f k.val : ℝ) : EReal) = ((∑ k ∈ Finset.range K, f k : ℝ) : EReal) := by
  rw [Finset.sum_range]
  induction (Finset.univ : Finset (Fin K)) using Finset.induction_on with
  | empty => simp
  | insert a s ha ih => rw [Finset.sum_insert ha, Finset.sum_insert ha, ih, EReal.coe_add]

/-- `softplus`, as the programs compute it. -/
def softplus (x : ℝ) : ℝ := max x 0 + Real.log (1 + Real.exp (-|x|))

/-- The logistic function. -/
def sigm (x : ℝ) : ℝ := (1 + Real.exp (-x))⁻¹

theorem R2_ix2 {m n : Nat} {φ : FTy} (f : ℕ → ℕ → ℝ) (a : Fin m) (b : Fin n) :
    (R2 f : FVec Ideal ⟨2, ![m, n]⟩ φ) (ix2 a b) = ((f a.val b.val : ℝ) : EReal) := rfl

theorem coe_dot (K : Nat) (f g : ℕ → ℝ) :
    ∑ k : Fin K, ((f k.val : ℝ) : EReal) * ((g k.val : ℝ) : EReal)
      = ((∑ k ∈ Finset.range K, f k * g k : ℝ) : EReal) := by
  rw [← coe_sum_fin K fun k => f k * g k]
  exact Finset.sum_congr rfl fun k _ => (EReal.coe_mul _ _).symm

theorem scores_R2 (q k : ℕ → ℕ → ℝ) :
    scores (F := Ideal) (R2 q) (R2 k) = R2 fun r c => ∑ d ∈ Finset.range 128, q r d * k c d := by
  funext j
  idx_vars j
  unfold scores
  pointwise
  simp only [R2_ix2]
  exact coe_dot 128 (fun d => q j0 d) fun d => k j1 d

theorem coe_max (x y : ℝ) : max (x : EReal) (y : EReal) = ((max x y : ℝ) : EReal) :=
  (EReal.coe_strictMono.monotone.map_max).symm

theorem coe_abs (x : ℝ) : max (x : EReal) (-(x : EReal)) = ((|x| : ℝ) : EReal) := by
  rw [← EReal.coe_neg, coe_max]
  rfl

theorem log_coe_pos {x : ℝ} (h : 0 < x) : Ideal.log (x : EReal) = ((Real.log x : ℝ) : EReal) := by
  rw [Ideal.log_coe, if_neg (not_le.mpr h)]

theorem softplus_coe (x : ℝ) :
    max (x : EReal) 0 + Ideal.log (1 + Ideal.exp (0 - max (x : EReal) (-(x : EReal)))) = ((softplus x : ℝ) : EReal) := by
  rw [coe_abs, zero_sub, ← EReal.coe_neg, Ideal.exp_coe, ← EReal.coe_one, ← EReal.coe_add,
    log_coe_pos (by positivity), ← EReal.coe_zero, coe_max, ← EReal.coe_add]
  rfl

theorem logKeep_R2 (z : ℕ → ℕ → ℝ) : logKeep (F := Ideal) (R2 z) = R2 fun r c => -softplus (z r c) := by
  funext j
  idx_vars j
  unfold logKeep zeroS
  pointwise
  simp only [R2_ix2, Ideal.ofBits_one_f32, Ideal.absf_def]
  rw [softplus_coe, zero_sub, EReal.coe_neg]

theorem toInt_small {a : ℕ} (h : a < 2 ^ 31) : (BitVec.ofNat 32 a).toInt = (a : Int) := by
  rw [BitVec.toInt_eq_toNat_of_lt (by rw [BitVec.toNat_ofNat]; omega), BitVec.toNat_ofNat]
  congr 1
  omega

theorem slt_iff {a b : ℕ} (ha : a < 2 ^ 31) (hb : b < 2 ^ 31) :
    IntOp.cmpi .slt (BitVec.ofNat 32 a) (BitVec.ofNat 32 b) = 1#1 ↔ a < b := by
  rw [IntOp.cmpi_slt, toInt_small ha, toInt_small hb]
  omega

theorem eq_iff {a b : ℕ} (ha : a < 2 ^ 31) (hb : b < 2 ^ 31) :
    IntOp.cmpi .eq (BitVec.ofNat 32 a) (BitVec.ofNat 32 b) = 1#1 ↔ a = b := by
  rw [IntOp.cmpi_eq]
  refine ⟨fun h => ?_, fun h => h ▸ rfl⟩
  have h' := congrArg BitVec.toNat h
  rw [BitVec.toNat_ofNat, BitVec.toNat_ofNat] at h'
  omega

theorem ite_coe (p : Prop) [Decidable p] (x y : ℝ) :
    (if p then (x : EReal) else (y : EReal)) = ((if p then x else y : ℝ) : EReal) := by
  split <;> rfl

theorem select_iff {α : Type} {w : BitVec 1} {p : Prop} [Decidable p] (h : w = 1#1 ↔ p) (a b : α) :
    Scalar.select w a b = if p then a else b := if_congr h rfl rfl

theorem one_of_iff {w : BitVec 1} {p : Prop} [Decidable p] (h : w = 1#1 ↔ p) :
    ((((w.setWidth 32).toInt : ℤ) : ℝ) : EReal) = ((if p then 1 else 0 : ℝ) : EReal) := by
  by_cases hp : p
  · rw [if_pos hp, h.mpr hp]; simp
  · rw [if_neg hp, show w = 0#1 by have h' := mt h.mp hp; clear h; revert h'; revert w; decide]; simp

theorem below_R2 (x : ℕ → ℕ → ℝ) : below (F := Ideal) (R2 x) = R2 fun r c => if c < r then x r c else 0 := by
  funext j
  idx_vars j
  unfold below zeroS strict
  pointwise
  rw [select_iff (slt_iff (by omega) (by omega))]
  exact ite_coe _ _ 0

theorem running_R2 (tri run x : ℕ → ℕ → ℝ) : running (F := Ideal) (R2 tri) (R2 run) (R2 x)
    = R2 fun r c => run r 0 + ∑ e ∈ Finset.range 256, x r e * tri e c := by
  funext j
  idx_vars j
  unfold running
  pointwise
  simp only [R2_ix2]
  rw [coe_dot 256 (fun d => x j0 d) fun d => tri d j1, ← EReal.coe_add]
  rfl

theorem weights_R2 (z cs : ℕ → ℕ → ℝ) :
    weights (F := Ideal) (R2 z) (R2 cs) = R2 fun r c => Real.exp (z r c + cs r c) := by
  funext j
  idx_vars j
  unfold weights
  pointwise
  simp only [R2_ix2]
  rw [← EReal.coe_add, Ideal.exp_coe]

theorem accum_R2 (acc a v : ℕ → ℕ → ℝ) : accum (F := Ideal) (R2 acc) (R2 a) (R2 v)
    = R2 fun r d => acc r d + ∑ e ∈ Finset.range 256, a r e * v e d := by
  funext j
  idx_vars j
  unfold accum
  pointwise
  simp only [R2_ix2]
  rw [coe_dot 256 (fun d => a j0 d) fun d => v d j1, ← EReal.coe_add]

theorem firstCol_R2 (x : ℕ → ℕ → ℝ) : firstCol (F := Ideal) (R2 x) = R2 fun r _ => x r 0 := by
  funext j
  idx_vars j
  unfold firstCol
  pointwise
  simp only [R2_ix2]
  rfl

theorem lastCol_R2 (x : ℕ → ℕ → ℝ) : lastCol (F := Ideal) (R2 x) = R2 fun r _ => x r 255 := by
  funext j
  idx_vars j
  unfold lastCol
  pointwise
  simp only [R2_ix2]
  rfl

theorem saveRun_R2 (j : ℕ) (hj : j < 16) (run rs : ℕ → ℕ → ℝ) :
    saveRun (F := Ideal) (iota .tc S256x128 32 [1] iota_S256x128_d1_w32) (BitVec.ofNat 32 j) (R2 run) (R2 rs)
      = R2 fun r l => if l = j then run r 0 else rs r l := by
  funext i
  idx_vars i
  unfold saveRun
  pointwise
  simp only [R2_ix2]
  rw [select_iff (eq_iff (by omega) (by omega))]
  exact ite_coe _ _ _

theorem savedRun_R2 (j : ℕ) (hj : j < 16) (rs : ℕ → ℕ → ℝ) :
    savedRun (F := Ideal) (iota .tc S256x128 32 [1] iota_S256x128_d1_w32) (BitVec.ofNat 32 j) (R2 rs)
      = R2 fun r _ => rs r j := by
  funext i
  idx_vars i
  unfold savedRun
  pointwise
  simp only [R2_ix2]
  have h : ∀ x : Fin 128, Scalar.select (IntOp.cmpi .eq (BitVec.ofNat 32 x.val) (BitVec.ofNat 32 j))
      ((rs i0 x : ℝ) : EReal) 0 = if x = ⟨j, by omega⟩ then ((rs i0 j : ℝ) : EReal) else 0 := by
    intro x
    rw [select_iff (eq_iff (by omega) (by omega))]
    by_cases hx : x.val = j
    · subst hx; simp
    · rw [if_neg hx, if_neg fun e => hx (congrArg Fin.val e)]
  rw [Finset.sum_congr rfl fun x _ => h x, Finset.sum_ite_eq' Finset.univ _ _, if_pos (Finset.mem_univ _)]

theorem rises_R2 (z : ℕ → ℕ → ℝ) :
    rises (F := Ideal) (R2 z) = R2 fun r c => 1 - Real.exp (-softplus (z r c)) := by
  funext j
  idx_vars j
  unfold rises
  rw [logKeep_R2]
  pointwise
  simp only [R2_ix2, Ideal.ofBits_one_f32]
  rw [Ideal.exp_coe, ← EReal.coe_one, ← EReal.coe_sub]

theorem addT_R2 (old a x : ℕ → ℕ → ℝ) : addT (F := Ideal) (R2 old) (R2 a) (R2 x)
    = R2 fun c d => old c d + ∑ r ∈ Finset.range 256, a r c * x r d := by
  funext j
  idx_vars j
  unfold addT
  pointwise
  simp only [R2_ix2]
  rw [coe_dot 256 (fun e => a e j0) fun e => x e j1, ← EReal.coe_add]

theorem mulf_R2 {m n : Nat} {φ : FTy} (x y : ℕ → ℕ → ℝ) :
    mulf (R2 x : FVec Ideal ⟨2, ![m, n]⟩ φ) (R2 y) = R2 fun r c => x r c * y r c := by
  funext j
  exact (EReal.coe_mul _ _).symm

theorem subf_R2 {m n : Nat} {φ : FTy} (x y : ℕ → ℕ → ℝ) :
    subf (R2 x : FVec Ideal ⟨2, ![m, n]⟩ φ) (R2 y) = R2 fun r c => x r c - y r c := by
  funext j
  exact (EReal.coe_sub _ _).symm

theorem zero_R2 {m n : Nat} :
    (broadcast ⟨2, ![m, n]⟩ (Scalar.ofBits .f32 0x00000000#32) : FVec Ideal ⟨2, ![m, n]⟩ .f32) = R2 fun _ _ => 0 := by
  funext j
  exact Ideal.ofBits_zero_f32

/-- The matrix of ones on and below the diagonal. -/
def triL {F : FTy → Type} [FloatOps F] : FVec F S256x256 .bf16 :=
  truncf .bf16 (sitofp .f32 (extui 32 (cmpi .sge (iota .tc S256x256 32 [0] iota_S256x256_d0_w32)
    (iota .tc S256x256 32 [1] iota_S256x256_d1_w32)) natLt_1_32)) bitsLt_bf16_f32

/-- The matrix of ones on and above the diagonal. -/
def triU {F : FTy → Type} [FloatOps F] : FVec F S256x256 .bf16 :=
  truncf .bf16 (sitofp .f32 (extui 32 (cmpi .sle (iota .tc S256x256 32 [0] iota_S256x256_d0_w32)
    (iota .tc S256x256 32 [1] iota_S256x256_d1_w32)) natLt_1_32)) bitsLt_bf16_f32

theorem triL_R2 : (triL : FVec Ideal S256x256 .bf16) = R2 fun e c => if c ≤ e then 1 else 0 := by
  funext j
  idx_vars j
  unfold triL
  pointwise
  refine (one_of_iff (p := j1.val ≤ j0.val) ?_).trans rfl
  rw [IntOp.cmpi_sge, toInt_small (by omega), toInt_small (by omega)]
  omega

theorem triU_R2 : (triU : FVec Ideal S256x256 .bf16) = R2 fun e c => if e ≤ c then 1 else 0 := by
  funext j
  idx_vars j
  unfold triU
  pointwise
  refine (one_of_iff (p := j0.val ≤ j1.val) ?_).trans rfl
  rw [IntOp.cmpi_sle, toInt_small (by omega), toInt_small (by omega)]
  omega

/-- The lanes' numbers. -/
abbrev laneV : IVec S256x128 32 := iota .tc S256x128 32 [1] iota_S256x128_d1_w32

end Cert.Proof
end
-- ==== Proof.Blocks.lean ====
/- One head's stick-breaking attention over the reals, and what the kernels' block steps do to it. -/
module

public import proofs.«01_k».proof.Proof.Ops

@[expose] public section

noncomputable section

namespace Cert.Proof

open Idealize.ShloMosaic Cert.KernelIdeal Cert.KernelIdeal.Facts₀ Cert.KernelIdeal.Facts Finset

section
variable (q k v w : ℕ → ℕ → ℝ)

/-- The products of the rows of two matrices of 128 columns. -/
def dotR (t s : ℕ) : ℝ := ∑ d ∈ range 128, q t d * k s d

/-- What a key leaves of the stick, in logarithm. -/
def keepL (t s : ℕ) : ℝ := if s < t then -softplus (dotR q k t s) else 0

/-- Its sum over the keys from `s` on. -/
def tailL (t s : ℕ) : ℝ := ∑ x ∈ Ico s 4096, keepL q k t x

/-- The attention weights. -/
def attA (t s : ℕ) : ℝ := if s < t then Real.exp (dotR q k t s + tailL q k t s) else 0

/-- The attention's output. -/
def attO (t d : ℕ) : ℝ := ∑ s ∈ range 4096, attA q k t s * v s d

/-- The gradient of the logarithm of the weights; `w` is the gradient of the output. -/
def gradG (t s : ℕ) : ℝ := attA q k t s * dotR w v t s

/-- The gradient of the scores. -/
def gradZ (t s : ℕ) : ℝ :=
  if s < t then
    gradG q k v w t s - (1 - Real.exp (-softplus (dotR q k t s))) * ∑ x ∈ range (s + 1), gradG q k v w t x
  else 0

/-- A matrix's rows from `256 * i` on. -/
abbrev rowsFrom (x : ℕ → ℕ → ℝ) (i : ℕ) : ℕ → ℕ → ℝ := fun r d => x (256 * i + r) d

/-- What the forward kernel carries of a head after the blocks of keys from `j` on. -/
def fwdSt (i j : ℕ) : FCarry Ideal :=
  (R2 fun r _ => tailL q k (256 * i + r) (256 * j),
   R2 fun r d => ∑ s ∈ Ico (256 * j) (256 * (i + 1)), attA q k (256 * i + r) s * v s d,
   R2 fun r l => if j ≤ l ∧ l ≤ i then tailL q k (256 * i + r) (256 * (l + 1)) else 0)

/-- What the backward kernel carries of a head after the blocks of keys before `j`. -/
def bwdSt (i j : ℕ) : BCarry Ideal :=
  (R2 fun r _ => ∑ x ∈ range (256 * j), gradG q k v w (256 * i + r) x,
   R2 fun r d => ∑ s ∈ range (256 * j), gradZ q k v w (256 * i + r) s * k s d)

theorem tailL_end (t s : ℕ) (h : t ≤ s) : tailL q k t s = 0 :=
  sum_eq_zero fun x hx => if_neg (by have := mem_Ico.mp hx; omega)

theorem sum_tri (f : ℕ → ℝ) {c : ℕ} (hc : c < 256) :
    ∑ e ∈ range 256, f e * (if c ≤ e then 1 else 0) = ∑ e ∈ Ico c 256, f e := by
  simp only [mul_ite, mul_one, mul_zero]
  rw [← sum_filter]
  congr 1
  ext e
  simp only [mem_filter, mem_range, mem_Ico]
  omega

theorem sum_triU (f : ℕ → ℝ) {c : ℕ} (hc : c < 256) :
    ∑ e ∈ range 256, f e * (if e ≤ c then 1 else 0) = ∑ e ∈ range (c + 1), f e := by
  simp only [mul_ite, mul_one, mul_zero]
  rw [← sum_filter]
  congr 1
  ext e
  simp only [mem_filter, mem_range]
  omega

theorem sum_shift (f : ℕ → ℝ) (b m n : ℕ) : ∑ e ∈ Ico m n, f (b + e) = ∑ x ∈ Ico (b + m) (b + n), f x := by
  rw [sum_Ico_add, add_comm m, add_comm n]

theorem tailL_block (t j c : ℕ) (hj : j < 16) (hc : c < 256) :
    tailL q k t (256 * (j + 1)) + ∑ e ∈ Ico c 256, keepL q k t (256 * j + e) = tailL q k t (256 * j + c) := by
  rw [sum_shift (keepL q k t), add_comm, show 256 * j + 256 = 256 * (j + 1) by ring]
  exact sum_Ico_consecutive _ (by omega) (by omega)

theorem range_block (f : ℕ → ℝ) (j c : ℕ) :
    ∑ x ∈ range (256 * j), f x + ∑ e ∈ range c, f (256 * j + e) = ∑ x ∈ range (256 * j + c), f x :=
  (sum_range_add _ _ _).symm

/-- `m` says whether block `j` is the diagonal block of the rows of block `i`. -/
def Diag (m : Bool) (i j : ℕ) : Prop := (m = true ∧ j = i) ∨ (m = false ∧ j < i)

theorem keep_R2 {m : Bool} {i j : ℕ} (h : Diag m i j) (x : ℕ → ℕ → ℝ) :
    keep (F := Ideal) m (R2 x) = R2 fun r c => if 256 * j + c < 256 * i + r then x r c else 0 := by
  rcases h with ⟨rfl, rfl⟩ | ⟨rfl, h⟩
  · refine (below_R2 x).trans (R2_congr fun r _ c _ => ?_)
    exact if_congr (by omega) rfl rfl
  · exact R2_congr fun r _ c hc => (if_pos (by omega)).symm

theorem scores_rows (i j : ℕ) : scores (F := Ideal) (R2 (rowsFrom q i)) (R2 (rowsFrom k j))
    = R2 fun r c => dotR q k (256 * i + r) (256 * j + c) := scores_R2 _ _

variable {m : Bool} {i j : ℕ} (h : Diag m i j) (hi : i < 16)
include h

theorem keepL_rows : keep (F := Ideal) m (logKeep (scores (R2 (rowsFrom q i)) (R2 (rowsFrom k j))))
    = R2 fun r c => keepL q k (256 * i + r) (256 * j + c) := by
  rw [scores_rows, logKeep_R2, keep_R2 h]
  rfl

include hi

theorem tailL_rows (run : ℕ → ℕ → ℝ) (hr : ∀ r, run r 0 = tailL q k (256 * i + r) (256 * (j + 1))) :
    running (F := Ideal) triL (R2 run) (keep m (logKeep (scores (R2 (rowsFrom q i)) (R2 (rowsFrom k j)))))
      = R2 fun r c => tailL q k (256 * i + r) (256 * j + c) := by
  rw [keepL_rows q k h, triL_R2, running_R2]
  refine R2_congr fun r _ c hc => ?_
  rw [sum_tri _ hc, hr]
  exact tailL_block q k _ j c (by rcases h with h | h <;> omega) hc

theorem attA_rows (run : ℕ → ℕ → ℝ) (hr : ∀ r, run r 0 = tailL q k (256 * i + r) (256 * (j + 1))) :
    keep (F := Ideal) m (weights (scores (R2 (rowsFrom q i)) (R2 (rowsFrom k j)))
      (running triL (R2 run) (keep m (logKeep (scores (R2 (rowsFrom q i)) (R2 (rowsFrom k j)))))))
      = R2 fun r c => attA q k (256 * i + r) (256 * j + c) := by
  rw [tailL_rows q k h hi run hr, scores_rows, weights_R2, keep_R2 h]
  rfl

theorem fwdStep_rows :
    fwdStep (F := Ideal) m triL laneV (R2 (rowsFrom q i)) (BitVec.ofNat 32 j) (R2 (rowsFrom k j)) (R2 (rowsFrom v j))
      (fwdSt q k v i (j + 1)) = fwdSt q k v i j := by
  have hij : j ≤ i := by rcases h with h | h <;> omega
  unfold fwdStep fwdSt
  dsimp only
  rw [attA_rows q k h hi _ fun _ => rfl, tailL_rows q k h hi _ fun _ => rfl, firstCol_R2, accum_R2,
    saveRun_R2 j (by omega)]
  rw [Prod.mk.injEq, Prod.mk.injEq]
  refine ⟨rfl, R2_congr fun r _ d _ => ?_, R2_congr fun r _ l _ => ?_⟩
  · rw [range_eq_Ico, sum_shift (fun s => attA q k (256 * i + r) s * v s d), add_comm,
      show 256 * j + 256 = 256 * (j + 1) by ring]
    exact sum_Ico_consecutive _ (by omega) (by omega)
  · by_cases hl : l = j
    · subst hl
      rw [if_pos rfl, if_pos ⟨le_rfl, hij⟩]
    · rw [if_neg hl]
      exact if_congr (by omega) rfl rfl

variable (rs : ℕ → ℕ → ℝ) (hrs : ∀ r, rs r j = tailL q k (256 * i + r) (256 * (j + 1)))
include hrs

theorem bwdW_rows : bwdW (F := Ideal) m triL laneV (R2 (rowsFrom q i)) (R2 rs) (BitVec.ofNat 32 j) (R2 (rowsFrom k j))
    = R2 fun r c => attA q k (256 * i + r) (256 * j + c) := by
  unfold bwdW
  rw [savedRun_R2 j (by rcases h with h | h <;> omega)]
  exact attA_rows q k h hi _ hrs

theorem bG_rows : bG (F := Ideal) m triL laneV (R2 (rowsFrom q i), R2 (rowsFrom w i), R2 rs) (BitVec.ofNat 32 j)
    (R2 (rowsFrom k j)) (R2 (rowsFrom v j)) = R2 fun r c => gradG q k v w (256 * i + r) (256 * j + c) := by
  unfold bG bwdG
  dsimp only
  rw [bwdW_rows q k h hi rs hrs, scores_rows, mulf_R2]
  rfl

theorem cum_rows : running (F := Ideal) triU (bwdSt q k v w i j).1
    (bG (F := Ideal) m triL laneV (R2 (rowsFrom q i), R2 (rowsFrom w i), R2 rs) (BitVec.ofNat 32 j)
      (R2 (rowsFrom k j)) (R2 (rowsFrom v j)))
    = R2 fun r c => ∑ x ∈ range (256 * j + c + 1), gradG q k v w (256 * i + r) x := by
  rw [bG_rows q k v w h hi rs hrs, triU_R2]
  unfold bwdSt
  rw [running_R2]
  refine R2_congr fun r _ c hc => ?_
  rw [sum_triU _ hc]
  exact range_block (gradG q k v w (256 * i + r)) j (c + 1)

theorem bDz_rows : bDz (F := Ideal) m triL triU laneV (R2 (rowsFrom q i), R2 (rowsFrom w i), R2 rs) (BitVec.ofNat 32 j)
    (R2 (rowsFrom k j)) (R2 (rowsFrom v j)) (bwdSt q k v w i j)
    = R2 fun r c => gradZ q k v w (256 * i + r) (256 * j + c) := by
  unfold bDz bwdDz
  rw [cum_rows q k v w h hi rs hrs, bG_rows q k v w h hi rs hrs]
  dsimp only
  rw [scores_rows, rises_R2, mulf_R2, subf_R2, keep_R2 h]
  rfl

theorem bwdStep_rows :
    bwdStep (F := Ideal) m triL triU laneV (R2 (rowsFrom q i), R2 (rowsFrom w i), R2 rs) (BitVec.ofNat 32 j)
      (R2 (rowsFrom k j)) (R2 (rowsFrom v j)) (bwdSt q k v w i j) = bwdSt q k v w i (j + 1) := by
  unfold bwdStep
  rw [cum_rows q k v w h hi rs hrs, bDz_rows q k v w h hi rs hrs, lastCol_R2]
  unfold bwdSt
  dsimp only
  rw [accum_R2]
  rw [Prod.mk.injEq]
  refine ⟨rfl, R2_congr fun r _ d _ => ?_⟩
  exact range_block (fun s => gradZ q k v w (256 * i + r) s * k s d) j 256

theorem bwdK_rows (old : ℕ → ℕ → ℝ) :
    bwdK (F := Ideal) m triL triU laneV (R2 (rowsFrom q i), R2 (rowsFrom w i), R2 rs) (BitVec.ofNat 32 j)
      (R2 (rowsFrom k j)) (R2 (rowsFrom v j)) (bwdSt q k v w i j) (R2 old)
    = R2 fun c d => old c d
        + ∑ r ∈ range 256, gradZ q k v w (256 * i + r) (256 * j + c) * q (256 * i + r) d := by
  unfold bwdK
  rw [bDz_rows q k v w h hi rs hrs]
  exact addT_R2 _ _ _

theorem bwdV_rows (old : ℕ → ℕ → ℝ) :
    bwdV (F := Ideal) m triL laneV (R2 (rowsFrom q i), R2 (rowsFrom w i), R2 rs) (BitVec.ofNat 32 j)
      (R2 (rowsFrom k j)) (R2 old)
    = R2 fun c d => old c d
        + ∑ r ∈ range 256, attA q k (256 * i + r) (256 * j + c) * w (256 * i + r) d := by
  unfold bwdV
  dsimp only
  rw [bwdW_rows q k h hi rs hrs]
  exact addT_R2 _ _ _

end

end Cert.Proof
end
-- ==== Proof.RefOps.lean ====
/- The reference's operations on arrays of real entries: running sums, the soft-plus and its derivative. -/
module

public import proofs.«01_k».proof.Proof.Blocks
public import Idealize.ShloMosaic.Lib.Pipeline.Value
public import Idealize.ShloMosaic.Lib.ValueIdx

@[expose] public section

noncomputable section

namespace Cert.Proof

open Idealize.ShloMosaic Finset

/-- The array of the real entries `f i j k`. -/
def R3 {m n p : Nat} {φ : FTy} (f : ℕ → ℕ → ℕ → ℝ) : FVec Ideal ⟨3, ![m, n, p]⟩ φ :=
  fun i => ((f (i 0).val (i 1).val (i 2).val : ℝ) : EReal)

theorem R3_congr {m n p : Nat} {φ : FTy} {f g : ℕ → ℕ → ℕ → ℝ} (h : ∀ i < m, ∀ j < n, ∀ k < p, f i j k = g i j k) :
    (R3 f : FVec Ideal ⟨3, ![m, n, p]⟩ φ) = R3 g := by
  funext i
  exact congrArg _ (h _ (i 0).isLt _ (i 1).isLt _ (i 2).isLt)

theorem foldl_coe {ι : Type} (step : EReal → ι → EReal) (g : ι → ℝ) (h : ∀ r n, step r n = r + ((g n : ℝ) : EReal))
    (l : List ι) (z : ℝ) : l.foldl step (z : EReal) = ((z + (l.map g).sum : ℝ) : EReal) := by
  induction l generalizing z with
  | nil => simp
  | cons a l ih => rw [List.foldl_cons, h, ← EReal.coe_add, ih, List.map_cons, List.sum_cons, add_assoc]

/-- A window of length `N` along the last axis, the operand padded by `l` at its low end: each entry is the sum of the
    entries that lie inside. -/
theorem window_sum {A B N l e : Nat} (f : ℕ → ℕ → ℕ → ℝ)
    (h : (⟨3, ![A, B, N]⟩ : Shape).ReduceWindows ![1, 1, N] ![1, 1, 1] ![0, 0, l] ![0, 0, e] ⟨3, ![A, B, N]⟩) :
    Ideal.hostReduceWindowAdd ![1, 1, N] ![1, 1, 1] ![0, 0, l] ![0, 0, e] h (R3 f : FVec Ideal ⟨3, ![A, B, N]⟩ .f32) ((0 : ℝ) : EReal)
      = (R3 fun a b c => ∑ n ∈ range N, if l ≤ c + n ∧ c + n - l < N then f a b (c + n - l) else 0 : FVec Ideal ⟨3, ![A, B, N]⟩ .f32) := by
  funext j
  unfold Ideal.hostReduceWindowAdd Host.reduceWindow R3
  dsimp only
  have hN : (⟨3, ![1, 1, N]⟩ : Shape).numel = N := by simp [Shape.numel, Fin.prod_univ_succ]
  refine (foldl_coe _ (fun n => if l ≤ (j 2).val + n.val ∧ (j 2).val + n.val - l < N then f (j 0).val (j 1).val ((j 2).val + n.val - l) else 0)
    (fun r n => congrArg (r + ·) ?_) _ 0).trans ?_
  · set i := (⟨3, ![1, 1, N]⟩ : Shape).rowMajor.symm n with hi
    have e0 : (i 0).val = 0 := Nat.lt_one_iff.mp (i 0).isLt
    have e1 : (i 1).val = 0 := Nat.lt_one_iff.mp (i 1).isLt
    have e2 : (i 2).val = n.val := by
      have e := Shape.rowMajor_val_three i
      rw [hi, Equiv.apply_symm_apply, ← hi] at e
      change n.val = ((i 0).val * 1 + (i 1).val) * N + (i 2).val at e
      rw [e, e0, e1]
      omega
    have b0 : (j 0).val < A := (j 0).isLt
    have b1 : (j 1).val < B := (j 1).isLt
    split
    · next hin =>
      have h2 := hin 2
      change l ≤ (j 2).val * 1 + (i 2).val ∧ (j 2).val * 1 + (i 2).val - l < N at h2
      rw [e2, Nat.mul_one] at h2
      rw [if_pos h2]
      change ((f ((j 0).val * 1 + (i 0).val - 0) ((j 1).val * 1 + (i 1).val - 0) ((j 2).val * 1 + (i 2).val - l) : ℝ) : EReal) = _
      rw [e0, e1, e2]
      simp only [Nat.mul_one, Nat.add_zero, Nat.sub_zero]
    · next hin =>
      rw [if_neg fun hle => hin fun a => ?_]
      match a with
      | ⟨0, _⟩ =>
        show 0 ≤ (j 0).val * 1 + (i 0).val ∧ (j 0).val * 1 + (i 0).val - 0 < A
        omega
      | ⟨1, _⟩ =>
        show 0 ≤ (j 1).val * 1 + (i 1).val ∧ (j 1).val * 1 + (i 1).val - 0 < B
        omega
      | ⟨2, _⟩ =>
        show l ≤ (j 2).val * 1 + (i 2).val ∧ (j 2).val * 1 + (i 2).val - l < N
        rw [e2, Nat.mul_one]
        exact hle
  · rw [zero_add, ← Fin.sum_univ_def,
      Fin.sum_univ_eq_sum_range (fun n => if l ≤ (j 2).val + n ∧ (j 2).val + n - l < N then f (j 0).val (j 1).val ((j 2).val + n - l) else 0), hN]

theorem host_window {A B N l e : Nat} (f : ℕ → ℕ → ℕ → ℝ) {u : Shape} (init : u.Idx → Ideal .f32) (hu : 0 < u.numel)
    (h : (⟨3, ![A, B, N]⟩ : Shape).ReduceWindows ![1, 1, N] ![1, 1, 1] ![0, 0, l] ![0, 0, e] ⟨3, ![A, B, N]⟩)
    (hi : ∀ i, init i = ((0 : ℝ) : EReal)) :
    Host.reduceWindowAdd ![1, 1, N] ![1, 1, 1] ![0, 0, l] ![0, 0, e] (R3 f : FVec Ideal ⟨3, ![A, B, N]⟩ .f32) init h hu
      = (R3 fun a b c => ∑ n ∈ range N, if l ≤ c + n ∧ c + n - l < N then f a b (c + n - l) else 0 : FVec Ideal ⟨3, ![A, B, N]⟩ .f32) := by
  unfold Host.reduceWindowAdd
  rw [Ideal.hostReduceWindowAdd_def, hi]
  exact window_sum f h

theorem sum_from (g : ℕ → ℝ) {N c : ℕ} (hc : c < N) :
    (∑ n ∈ range N, if 0 ≤ c + n ∧ c + n - 0 < N then g (c + n - 0) else 0) = ∑ x ∈ Ico c N, g x := by
  rw [sum_Ico_eq_sum_range, ← sum_subset (range_subset_range.mpr (show N - c ≤ N by omega)) fun n _ hn => ?_]
  · refine sum_congr rfl fun n hn => ?_
    have := mem_range.mp hn
    rw [if_pos (by omega), Nat.sub_zero]
  · have : ¬n < N - c := fun h => hn (mem_range.mpr h)
    exact if_neg (by omega)

theorem sum_upto (g : ℕ → ℝ) {l c : ℕ} (hc : c < l + 1) :
    (∑ n ∈ range (l + 1), if l ≤ c + n ∧ c + n - l < l + 1 then g (c + n - l) else 0) = ∑ x ∈ range (c + 1), g x := by
  rw [range_eq_Ico, ← sum_Ico_consecutive _ (Nat.zero_le (l - c)) (show l - c ≤ l + 1 by omega), sum_eq_zero, zero_add,
    sum_Ico_eq_sum_range, show l + 1 - (l - c) = c + 1 by omega]
  · refine sum_congr rfl fun n hn => ?_
    have := mem_range.mp hn
    rw [if_pos (by omega), show c + (l - c + n) - l = n by omega]
  · intro n hn
    have := mem_Ico.mp hn
    exact if_neg (by omega)

theorem softplus_log (x : ℝ) : softplus x = Real.log (1 + Real.exp x) := by
  unfold softplus
  rcases le_total 0 x with h | h
  · rw [max_eq_left h, abs_of_nonneg h]
    rw [show 1 + Real.exp x = Real.exp x * (1 + Real.exp (-x)) by rw [mul_add, ← Real.exp_add, add_neg_cancel, Real.exp_zero]; ring,
      Real.log_mul (Real.exp_pos x).ne' (by positivity), Real.log_exp]
  · rw [max_eq_right h, abs_of_nonpos h, neg_neg, zero_add]

theorem exp_softplus (x : ℝ) : Real.exp (softplus x) = 1 + Real.exp x := by
  rw [softplus_log, Real.exp_log (by positivity)]

/-- The derivative of the soft-plus. -/
theorem slope_softplus (x : ℝ) : Real.exp (x - softplus x) = 1 - Real.exp (-softplus x) := by
  rw [sub_eq_add_neg, Real.exp_add, Real.exp_neg, exp_softplus]
  field_simp
  ring

theorem slope_softplus_neg (x : ℝ) : Real.exp (-x - softplus (-x)) = Real.exp (-softplus x) := by
  rw [sub_eq_add_neg, Real.exp_add, Real.exp_neg, Real.exp_neg, Real.exp_neg, exp_softplus, exp_softplus, Real.exp_neg]
  field_simp
  ring

theorem softplus_sub (x : ℝ) : softplus x - softplus (-x) = x := by
  unfold softplus
  rw [abs_neg]
  rcases le_total 0 x with h | h
  · rw [max_eq_left h, max_eq_right (by linarith)]; ring
  · rw [max_eq_right h, max_eq_left (by linarith)]; ring

end Cert.Proof
-- ==== Proof.FwdRun.lean ====
/- What a grid point of the forward kernel leaves in its three output blocks, as functions of the heads' blocks. -/
module

public import proofs.«01_k».proof.Proof.Blocks
public import proofs.«01_k».proof.Proof.Gen.KernelIdeal.Frame

@[expose] public section

noncomputable section

namespace Cert.Proof

open Idealize.ShloMosaic Cert.KernelIdeal Cert.KernelIdeal.Facts₀ Cert.KernelIdeal.Facts Cert.KernelIdeal.Gen

variable {F : FTy → Type} [FloatOps F]

/-- Four tiles of 128 columns, stored from the left, the last first. -/
abbrev cols4 {e : EltTy} (x0 x1 x2 x3 : Vec F S256x128 e) : List (View.Piece (Elt F) S256x512 e) :=
  [⟨Rect.unit ![0, 384] S256x128.size Gen.inb_S256x512_S256x128_0_384, x3⟩,
   ⟨Rect.unit ![0, 256] S256x128.size Gen.inb_S256x512_S256x128_0_256, x2⟩,
   ⟨Rect.unit ![0, 128] S256x128.size Gen.inb_S256x512_S256x128_0_128, x1⟩,
   ⟨Rect.unit ![0, 0] S256x128.size Gen.inb_S256x512_S256x128_0_0, x0⟩]

/-- The output times the gate. -/
def gated (acc zb : FVec F S256x128 .f32) : FVec F S256x128 .bf16 :=
  truncf .bf16 (mulf acc (mulf zb (logistic zb))) Gen.bitsLt_bf16_f32

/-- The queries' tile as the kernel reads it. -/
def asRows (x : FVec F S256x128 .bf16) : FVec F S256x128 .bf16 := shapeCast S256x128 x Gen.shapeCasts_S256x128_S256x128

/-- The zero column and the zero tile. -/
def zero1 : FVec F S256x1 .f32 := broadcast S256x1 (Scalar.ofBits .f32 0x00000000#32)
def zeroD : FVec F S256x128 .f32 := broadcast S256x128 (Scalar.ofBits .f32 0x00000000#32)

/-- What the two loops of a forward point leave, from the diagonal block's. -/
def fwdLoops (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole)
    (x1 : Vec F S4096x512 .bf16) (x2 : Vec F S4096x512 .bf16) (q0 q1 q2 q3 : FVec F S256x128 .bf16)
    (S0 S1 S : FVec F S256x1 .f32 × FVec F S256x128 .f32 × FVec F S256x128 .f32 × FVec F S256x1 .f32 × FVec F S256x128 .f32 × FVec F S256x128 .f32 × FVec F S256x1 .f32 × FVec F S256x128 .f32 × FVec F S256x128 .f32 × FVec F S256x1 .f32 × FVec F S256x128 .f32 × FVec F S256x128 .f32) : Prop :=
  (∃ v16 v17 v18 v20 v99 v102 v105 v108 v113 v118 v123 v128, S1 = st_k0_t1 Variants.none c none i arg2 harg2 arg3 harg3 arg4 harg4 arg5 harg5 arg6 harg6 arg7 harg7 arg8 harg8
    (BitVec.ofNat 32 (i 1).val) triL laneV q0 q1 q2 q3 v16 v17 v18 v20 v99 v102 v105 v108 v113 v118 v123 v128
    (harg3.unread x1) (harg4.unread x2) S0 (k0_t1_loop i).trips)
  ∧ (∃ v177, S = st_k0_t2 Variants.none c none i arg2 harg2 arg3 harg3 arg4 harg4 arg5 harg5 arg6 harg6 arg7 harg7 arg8 harg8
    (BitVec.ofNat 32 (i 1).val) triL laneV q0 q1 q2 q3 v177 (S1.1) (S1.2.1) (S1.2.2.1) (S1.2.2.2.1) (S1.2.2.2.2.1) (S1.2.2.2.2.2.1) (S1.2.2.2.2.2.2.1) (S1.2.2.2.2.2.2.2.1) (S1.2.2.2.2.2.2.2.2.1) (S1.2.2.2.2.2.2.2.2.2.1) (S1.2.2.2.2.2.2.2.2.2.2.1) (S1.2.2.2.2.2.2.2.2.2.2.2)
    (harg3.unread x1) (harg4.unread x2) S1 (k0_t2_loop i).trips)

set_option maxRecDepth 65536 in
set_option maxHeartbeats 4000000 in
theorem run0_eq (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole)
    (x0 : Vec F S256x512 .bf16) (x1 : Vec F S4096x512 .bf16) (x2 : Vec F S4096x512 .bf16) (x3 : Vec F S256x512 .f32) :
    ∃ S1 S, fwdLoops c i arg2 harg2 arg3 harg3 arg4 harg4 arg5 harg5 arg6 harg6 arg7 harg7 arg8 harg8 x1 x2
        (asRows (tile arg2 (harg2.unread x0) ![0, 0] Gen.inb_S256x512_S256x128_0_0))
        (asRows (tile arg2 (harg2.unread x0) ![0, 128] Gen.inb_S256x512_S256x128_0_128))
        (asRows (tile arg2 (harg2.unread x0) ![0, 256] Gen.inb_S256x512_S256x128_0_256))
        (asRows (tile arg2 (harg2.unread x0) ![0, 384] Gen.inb_S256x512_S256x128_0_384))
        (pack4 (fwdStep true triL laneV (asRows (tile arg2 (harg2.unread x0) ![0, 0] Gen.inb_S256x512_S256x128_0_0)) (BitVec.ofNat 32 (i 1).val) (tile arg3 (harg3.unread x1) (k0_off1 i) (Gen.k0_off1_inb i)) (tile arg4 (harg4.unread x2) (k0_off1 i) (Gen.k0_off1_inb i)) (zero1, zeroD, zeroD))
          (fwdStep true triL laneV (asRows (tile arg2 (harg2.unread x0) ![0, 128] Gen.inb_S256x512_S256x128_0_128)) (BitVec.ofNat 32 (i 1).val) (tile arg3 (harg3.unread x1) (k0_off2 i) (Gen.k0_off2_inb i)) (tile arg4 (harg4.unread x2) (k0_off2 i) (Gen.k0_off2_inb i)) (zero1, zeroD, zeroD))
          (fwdStep true triL laneV (asRows (tile arg2 (harg2.unread x0) ![0, 256] Gen.inb_S256x512_S256x128_0_256)) (BitVec.ofNat 32 (i 1).val) (tile arg3 (harg3.unread x1) (k0_off3 i) (Gen.k0_off3_inb i)) (tile arg4 (harg4.unread x2) (k0_off3 i) (Gen.k0_off3_inb i)) (zero1, zeroD, zeroD))
          (fwdStep true triL laneV (asRows (tile arg2 (harg2.unread x0) ![0, 384] Gen.inb_S256x512_S256x128_0_384)) (BitVec.ofNat 32 (i 1).val) (tile arg3 (harg3.unread x1) (k0_off4 i) (Gen.k0_off4_inb i)) (tile arg4 (harg4.unread x2) (k0_off4 i) (Gen.k0_off4_inb i)) (zero1, zeroD, zeroD))) S1 S
      ∧ (kernelRun0_A c i arg2 harg2 arg3 harg3 arg4 harg4 arg5 harg5 arg6 harg6 arg7 harg7 arg8 harg8 x0 x1 x2 x3).1 = cols4 (S.2.1) (S.2.2.2.2.1) (S.2.2.2.2.2.2.2.1) (S.2.2.2.2.2.2.2.2.2.2.1)
      ∧ (kernelRun0_A c i arg2 harg2 arg3 harg3 arg4 harg4 arg5 harg5 arg6 harg6 arg7 harg7 arg8 harg8 x0 x1 x2 x3).2.1 = cols4 (gated (S.2.1) (tile arg5 (harg5.unread x3) ![0, 0] Gen.inb_S256x512_S256x128_0_0)) (gated (S.2.2.2.2.1) (tile arg5 (harg5.unread x3) ![0, 128] Gen.inb_S256x512_S256x128_0_128)) (gated (S.2.2.2.2.2.2.2.1) (tile arg5 (harg5.unread x3) ![0, 256] Gen.inb_S256x512_S256x128_0_256)) (gated (S.2.2.2.2.2.2.2.2.2.2.1) (tile arg5 (harg5.unread x3) ![0, 384] Gen.inb_S256x512_S256x128_0_384))
      ∧ (kernelRun0_A c i arg2 harg2 arg3 harg3 arg4 harg4 arg5 harg5 arg6 harg6 arg7 harg7 arg8 harg8 x0 x1 x2 x3).2.2.1 = cols4 (S.2.2.1) (S.2.2.2.2.2.1) (S.2.2.2.2.2.2.2.2.1) (S.2.2.2.2.2.2.2.2.2.2.2) := by
  unfold kernelRun0_A fwdLoops
  refine ⟨?_, ?_, ⟨⟨?_, ?_, ?_, ?_, ?_, ?_, ?_, ?_, ?_, ?_, ?_, ?_, ?e1⟩, ⟨?_, ?e2⟩⟩, ?h1, ?h2, ?h3⟩
  case h1 => rfl
  case h2 => rfl
  case h3 => rfl
  case e2 => rfl
  case e1 => rfl

end Cert.Proof

end
-- ==== Proof.FwdPoint.lean ====
/- The forward kernel's grid point on real blocks: the loops, and what is left in the output blocks. -/
module

public import proofs.«01_k».proof.Proof.FwdRun
public import Idealize.ShloMosaic.Lib.LoopRemainder
public import Idealize.ShloMosaic.Lib.WholeRead
public import Idealize.ShloMosaic.Lib.Pipeline.ValueKit

@[expose] public section

noncomputable section

namespace Cert.Proof

open Idealize.ShloMosaic Idealize.ShloMosaic.Pointwise Cert.KernelIdeal Cert.KernelIdeal.Gen Finset

/-- The columns of head `h` of a group. -/
abbrev cols (x : ℕ → ℕ → ℝ) (h : ℕ) : ℕ → ℕ → ℝ := fun t d => x t (128 * h + d)

theorem tile_apply {n : Nat} {e : EltTy} (M : Memref sig .tc .vmem ⟨2, ![n, 512]⟩ e) (hM : M.IsWhole)
    (X : (⟨2, ![n, 512]⟩ : Shape).Idx → Elt Ideal e) (off : Fin 2 → Nat)
    (inb : ∀ a, off a + S256x128.size a ≤ (⟨2, ![n, 512]⟩ : Shape).size a) (y : S256x128.Idx) :
    tile (F := Ideal) M (hM.unread X) off inb y
      = X ((Rect.unit (s := ⟨2, ![n, 512]⟩) off S256x128.size inb).emb y) :=
  hM.readAt_unread _ _ _

theorem tile_f32 {n : Nat} (M : Memref sig .tc .vmem ⟨2, ![n, 512]⟩ .f32) (hM : M.IsWhole)
    (f : ℕ → ℕ → ℝ) (off : Fin 2 → Nat) (inb : ∀ a, off a + S256x128.size a ≤ (⟨2, ![n, 512]⟩ : Shape).size a)
    (a b : ℕ) (ho : off = ![a, b]) :
    tile (F := Ideal) M (hM.unread (R2 f : FVec Ideal ⟨2, ![n, 512]⟩ .f32)) off inb
      = (R2 fun r c => f (a + r) (b + c) : FVec Ideal S256x128 .f32) := by
  subst ho
  funext y
  rw [tile_apply]
  exact congrArg _ (congrArg₂ f (ValueKit.rect_emb_unit_val _ _ _ _ 0) (ValueKit.rect_emb_unit_val _ _ _ _ 1))

theorem tile_bf16 {n : Nat} (M : Memref sig .tc .vmem ⟨2, ![n, 512]⟩ .bf16) (hM : M.IsWhole)
    (f : ℕ → ℕ → ℝ) (off : Fin 2 → Nat) (inb : ∀ a, off a + S256x128.size a ≤ (⟨2, ![n, 512]⟩ : Shape).size a)
    (a b : ℕ) (ho : off = ![a, b]) :
    tile (F := Ideal) M (hM.unread (R2 f : FVec Ideal ⟨2, ![n, 512]⟩ .bf16)) off inb
      = (R2 fun r c => f (a + r) (b + c) : FVec Ideal S256x128 .bf16) := by
  subst ho
  funext y
  rw [tile_apply]
  exact congrArg _ (congrArg₂ f (ValueKit.rect_emb_unit_val _ _ _ _ 0) (ValueKit.rect_emb_unit_val _ _ _ _ 1))

theorem word_back : ∀ n k : Fin 16, k.val < n.val →
    Scalar.subi (Scalar.subi (BitVec.ofNat 32 n.val) 1#32) (Scf.iv 0#32 1#32 k.val) = BitVec.ofNat 32 (n.val - 1 - k.val) := by
  decide

theorem word_off : ∀ n : Fin 16, (Scalar.indexCast (Scalar.muli (BitVec.ofNat 32 n.val) 256#32)).toNat = 256 * n.val := by
  decide

theorem trips0 (i : grid0.Coords) : (k0_t1_loop i).trips = (i 1).val := by
  have h : ∀ n : Fin 16, Scf.trips 0#32 (Scalar.addi 0#32 (Scalar.muli (Scalar.divsi (Scalar.subi (BitVec.ofNat 32 n.val) 0#32) 1#32) 1#32)) 1#32 = n.val := by
    decide
  exact h (i 1)

theorem trips0' (i : grid0.Coords) : (k0_t2_loop i).trips = 0 := by
  rcases Nat.eq_zero_or_pos (k0_t2_loop i).trips with h | h
  · exact h
  · exact (Scf.rem_no_trip _ _ ⟨0, h⟩).elim

theorem word_loop (i : grid0.Coords) (k : Fin (k0_t1_loop i).trips) :
    Scalar.subi (Scalar.subi (BitVec.ofNat 32 (i 1).val) 1#32) (Scf.iv 0#32 1#32 k.val)
      = BitVec.ofNat 32 ((i 1).val - 1 - k.val) := by
  have hk := lt_of_lt_of_eq k.isLt (trips0 i)
  exact word_back (i 1) ⟨k.val, hk.trans (i 1).isLt⟩ hk

theorem off_loop (i : grid0.Coords) (k : Fin (k0_t1_loop i).trips) :
    (Scalar.indexCast (Scalar.muli (Scalar.subi (Scalar.subi (BitVec.ofNat 32 (i 1).val) 1#32) (Scf.iv 0#32 1#32 k.val)) 256#32)).toNat
      = 256 * ((i 1).val - 1 - k.val) := by
  have h1 : (i 1).val < 16 := (i 1).isLt
  rw [word_loop, word_off ⟨(i 1).val - 1 - k.val, by omega⟩]

theorem k0_off5_at (i : grid0.Coords) (k : Fin (k0_t1_loop i).trips) :
    k0_off5 i k = ![256 * ((i 1).val - 1 - k.val), 128 * 0] := by
  rw [← off_loop i k]
  rfl

theorem k0_off1_at (i : grid0.Coords) : k0_off1 i = ![256 * (i 1).val, 128 * 0] := by
  rw [← word_off (i 1)]
  rfl

theorem k0_off6_at (i : grid0.Coords) (k : Fin (k0_t1_loop i).trips) :
    k0_off6 i k = ![256 * ((i 1).val - 1 - k.val), 128 * 1] := by
  rw [← off_loop i k]
  rfl

theorem k0_off2_at (i : grid0.Coords) : k0_off2 i = ![256 * (i 1).val, 128 * 1] := by
  rw [← word_off (i 1)]
  rfl

theorem k0_off7_at (i : grid0.Coords) (k : Fin (k0_t1_loop i).trips) :
    k0_off7 i k = ![256 * ((i 1).val - 1 - k.val), 128 * 2] := by
  rw [← off_loop i k]
  rfl

theorem k0_off3_at (i : grid0.Coords) : k0_off3 i = ![256 * (i 1).val, 128 * 2] := by
  rw [← word_off (i 1)]
  rfl

theorem k0_off8_at (i : grid0.Coords) (k : Fin (k0_t1_loop i).trips) :
    k0_off8 i k = ![256 * ((i 1).val - 1 - k.val), 128 * 3] := by
  rw [← off_loop i k]
  rfl

theorem k0_off4_at (i : grid0.Coords) : k0_off4 i = ![256 * (i 1).val, 128 * 3] := by
  rw [← word_off (i 1)]
  rfl

set_option maxHeartbeats 4000000 in
theorem st0_eq (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole) v16 v17 v18 v20 v99 v102 v105 v108 v113 v118 v123 v128
    (Q K V : ℕ → ℕ → ℝ) (n : ℕ) (hn : n ≤ (i 1).val) :
    st_k0_t1 (F := Ideal) Variants.none c none i arg2 harg2 arg3 harg3 arg4 harg4 arg5 harg5 arg6 harg6 arg7 harg7 arg8 harg8
      (BitVec.ofNat 32 (i 1).val) triL laneV (R2 (rowsFrom (cols Q 0) (i 1).val)) (R2 (rowsFrom (cols Q 1) (i 1).val)) (R2 (rowsFrom (cols Q 2) (i 1).val)) (R2 (rowsFrom (cols Q 3) (i 1).val)) v16 v17 v18 v20 v99 v102 v105 v108 v113 v118 v123 v128
      (harg3.unread (R2 K : FVec Ideal S4096x512 .bf16)) (harg4.unread (R2 V : FVec Ideal S4096x512 .bf16))
      (pack4 (fwdSt (cols Q 0) (cols K 0) (cols V 0) (i 1).val (i 1).val) (fwdSt (cols Q 1) (cols K 1) (cols V 1) (i 1).val (i 1).val) (fwdSt (cols Q 2) (cols K 2) (cols V 2) (i 1).val (i 1).val) (fwdSt (cols Q 3) (cols K 3) (cols V 3) (i 1).val (i 1).val)) n = (pack4 (fwdSt (cols Q 0) (cols K 0) (cols V 0) (i 1).val ((i 1).val - n)) (fwdSt (cols Q 1) (cols K 1) (cols V 1) (i 1).val ((i 1).val - n)) (fwdSt (cols Q 2) (cols K 2) (cols V 2) (i 1).val ((i 1).val - n)) (fwdSt (cols Q 3) (cols K 3) (cols V 3) (i 1).val ((i 1).val - n))) := by
  have h16 : (i 1).val < 16 := (i 1).isLt
  induction n with
  | zero => rw [st_k0_t1_zero]; rfl
  | succ n ih =>
    have hk : n < (k0_t1_loop i).trips := by rw [trips0]; omega
    rw [show n + 1 = (⟨n, hk⟩ : Fin (k0_t1_loop i).trips).val + 1 from rfl, st_k0_t1_succ, ih (by omega), trip_k0_t1_eq]
    have hj : (i 1).val - n = (i 1).val - 1 - n + 1 := by omega
    have hj' : (i 1).val - (n + 1) = (i 1).val - 1 - n := by omega
    have hd : Diag false (i 1).val ((i 1).val - 1 - n) := Or.inr ⟨rfl, by omega⟩
    rw [word_loop i ⟨n, hk⟩]
    dsimp only
    rw [hj, hj']
    congr 1
    · rw [tile_bf16 _ _ _ _ _ _ _ (k0_off5_at i ⟨n, hk⟩), tile_bf16 _ _ _ _ _ _ _ (k0_off5_at i ⟨n, hk⟩)]
      exact fwdStep_rows (cols Q 0) (cols K 0) (cols V 0) hd h16
    · rw [tile_bf16 _ _ _ _ _ _ _ (k0_off6_at i ⟨n, hk⟩), tile_bf16 _ _ _ _ _ _ _ (k0_off6_at i ⟨n, hk⟩)]
      exact fwdStep_rows (cols Q 1) (cols K 1) (cols V 1) hd h16
    · rw [tile_bf16 _ _ _ _ _ _ _ (k0_off7_at i ⟨n, hk⟩), tile_bf16 _ _ _ _ _ _ _ (k0_off7_at i ⟨n, hk⟩)]
      exact fwdStep_rows (cols Q 2) (cols K 2) (cols V 2) hd h16
    · rw [tile_bf16 _ _ _ _ _ _ _ (k0_off8_at i ⟨n, hk⟩), tile_bf16 _ _ _ _ _ _ _ (k0_off8_at i ⟨n, hk⟩)]
      exact fwdStep_rows (cols Q 3) (cols K 3) (cols V 3) hd h16

end Cert.Proof

end
-- ==== Proof.Tiles.lean ====
/- Reading a block after tiles of 256 rows and 128 columns were stored into it. -/
module

public import proofs.«01_k».proof.Proof.FwdPoint
public import Idealize.ShloMosaic.Lib.WritesUnit

@[expose] public section

noncomputable section

namespace Cert.Proof

open Idealize.ShloMosaic Idealize.ShloMosaic.Pointwise Cert.KernelIdeal Cert.KernelIdeal.Gen Finset

section
variable {κ : Kind} {sp : Space} {n : Nat} {e : EltTy} (v : View sig κ sp ⟨2, ![n, 512]⟩ e)
  (f0 : v.ty.Contents (Elt Ideal)) (L : List (View.Piece (Elt Ideal) ⟨2, ![n, 512]⟩ e))

theorem read_tile_mem (off : Fin 2 → Nat) (inb : ∀ a, off a + S256x128.size a ≤ (⟨2, ![n, 512]⟩ : Shape).size a)
    (w : Vec Ideal S256x128 e) (a b : ℕ) (ho : off = ![a, b]) (y : (⟨2, ![n, 512]⟩ : Shape).Idx)
    (x : S256x128.Idx) (h0 : (y 0).val = a + (x 0).val) (h1 : (y 1).val = b + (x 1).val) :
    v.read (Elt Ideal) (v.writes (Elt Ideal) f0 (⟨Rect.unit off S256x128.size inb, w⟩ :: L)) y = w x := by
  refine View.read_writes_cons_unit_of_mem v f0 inb w L y x ho fun c => ?_
  fin_cases c
  · exact h0
  · exact h1

theorem read_tile_not_mem (off : Fin 2 → Nat) (inb : ∀ a, off a + S256x128.size a ≤ (⟨2, ![n, 512]⟩ : Shape).size a)
    (w : Vec Ideal S256x128 e) (a b : ℕ) (ho : off = ![a, b]) (y : (⟨2, ![n, 512]⟩ : Shape).Idx)
    (h : ¬(a ≤ (y 0).val ∧ (y 0).val < a + 256 ∧ b ≤ (y 1).val ∧ (y 1).val < b + 128)) :
    v.read (Elt Ideal) (v.writes (Elt Ideal) f0 (⟨Rect.unit off S256x128.size inb, w⟩ :: L)) y
      = v.read (Elt Ideal) (v.writes (Elt Ideal) f0 L) y := by
  by_cases hr : a ≤ (y 0).val ∧ (y 0).val < a + 256
  · refine View.read_writes_cons_unit_of_not_mem v f0 inb w L y ho 1 ?_
    change (y 1).val < b ∨ b + 128 ≤ (y 1).val
    omega
  · refine View.read_writes_cons_unit_of_not_mem v f0 inb w L y ho 0 ?_
    change (y 0).val < a ∨ a + 256 ≤ (y 0).val
    omega

end

theorem read_cols4 {κ : Kind} {sp : Space} {e : EltTy} (v : View sig κ sp S256x512 e)
    (f0 : v.ty.Contents (Elt Ideal)) (x : ℕ → Vec Ideal S256x128 e) (a : Fin 256) (b : Fin 512) :
    v.read (Elt Ideal) (v.writes (Elt Ideal) f0 (cols4 (x 0) (x 1) (x 2) (x 3))) (ix2 a b)
      = x (b.val / 128) (ix2 a ⟨b.val % 128, Nat.mod_lt _ (by norm_num)⟩) := by
  have hb := b.isLt
  by_cases h3 : 384 ≤ b.val
  · rw [show b.val / 128 = 3 by omega]
    exact read_tile_mem v f0 _ _ _ _ 0 384 rfl _ _ (Nat.zero_add _).symm (by show b.val = 384 + b.val % 128; omega)
  · rw [read_tile_not_mem v f0 _ _ _ _ 0 384 rfl _ (by show ¬(_ ∧ _ ∧ 384 ≤ b.val ∧ _); omega)]
    by_cases h2 : 256 ≤ b.val
    · rw [show b.val / 128 = 2 by omega]
      exact read_tile_mem v f0 _ _ _ _ 0 256 rfl _ _ (Nat.zero_add _).symm (by show b.val = 256 + b.val % 128; omega)
    · rw [read_tile_not_mem v f0 _ _ _ _ 0 256 rfl _ (by show ¬(_ ∧ _ ∧ 256 ≤ b.val ∧ _); omega)]
      by_cases h1 : 128 ≤ b.val
      · rw [show b.val / 128 = 1 by omega]
        exact read_tile_mem v f0 _ _ _ _ 0 128 rfl _ _ (Nat.zero_add _).symm
          (by show b.val = 128 + b.val % 128; omega)
      · rw [read_tile_not_mem v f0 _ _ _ _ 0 128 rfl _ (by show ¬(_ ∧ _ ∧ 128 ≤ b.val ∧ _); omega)]
        rw [show b.val / 128 = 0 by omega]
        exact read_tile_mem v f0 _ _ _ _ 0 0 rfl _ _ (Nat.zero_add _).symm (by show b.val = 0 + b.val % 128; omega)

theorem read_cols4_f32 {κ : Kind} {sp : Space} (v : View sig κ sp S256x512 .f32)
    (f0 : v.ty.Contents (Elt Ideal)) (P : ℕ → ℕ → ℕ → ℝ) :
    v.read (Elt Ideal) (v.writes (Elt Ideal) f0 (cols4 (R2 (P 0) : FVec Ideal S256x128 .f32) (R2 (P 1) : FVec Ideal S256x128 .f32)
      (R2 (P 2) : FVec Ideal S256x128 .f32) (R2 (P 3) : FVec Ideal S256x128 .f32)))
      = (R2 fun r c => P (c / 128) r (c % 128) : FVec Ideal S256x512 .f32) := by
  funext y
  idx_vars y
  exact read_cols4 v f0 (fun h => (R2 (P h) : FVec Ideal S256x128 .f32)) y0 y1

theorem read_cols4_bf16 {κ : Kind} {sp : Space} (v : View sig κ sp S256x512 .bf16)
    (f0 : v.ty.Contents (Elt Ideal)) (P : ℕ → ℕ → ℕ → ℝ) :
    v.read (Elt Ideal) (v.writes (Elt Ideal) f0 (cols4 (R2 (P 0) : FVec Ideal S256x128 .bf16) (R2 (P 1) : FVec Ideal S256x128 .bf16)
      (R2 (P 2) : FVec Ideal S256x128 .bf16) (R2 (P 3) : FVec Ideal S256x128 .bf16)))
      = (R2 fun r c => P (c / 128) r (c % 128) : FVec Ideal S256x512 .bf16) := by
  funext y
  idx_vars y
  exact read_cols4 v f0 (fun h => (R2 (P h) : FVec Ideal S256x128 .bf16)) y0 y1

/-- A matrix with a tile replaced. -/
def upd (f g : ℕ → ℕ → ℝ) (a b : ℕ) : ℕ → ℕ → ℝ := fun r c =>
  if a ≤ r ∧ r < a + 256 ∧ b ≤ c ∧ c < b + 128 then g (r - a) (c - b) else f r c

theorem read_upd {κ : Kind} {sp : Space} (v : View sig κ sp S4096x512 .f32)
    (f0 : v.ty.Contents (Elt Ideal)) (L : List (View.Piece (Elt Ideal) S4096x512 .f32)) (f g : ℕ → ℕ → ℝ)
    (off : Fin 2 → Nat) (inb : ∀ a, off a + S256x128.size a ≤ S4096x512.size a)
    (a b : ℕ) (ho : off = ![a, b])
    (hL : v.read (Elt Ideal) (v.writes (Elt Ideal) f0 L) = (R2 f : FVec Ideal S4096x512 .f32)) :
    v.read (Elt Ideal) (v.writes (Elt Ideal) f0 (⟨Rect.unit off S256x128.size inb, (R2 g : FVec Ideal S256x128 .f32)⟩ :: L))
      = (R2 (upd f g a b) : FVec Ideal S4096x512 .f32) := by
  funext y
  idx_vars y
  by_cases h : a ≤ y0.val ∧ y0.val < a + 256 ∧ b ≤ y1.val ∧ y1.val < b + 128
  · rw [read_tile_mem v f0 L off inb _ a b ho _ (ix2 ⟨y0.val - a, by omega⟩ ⟨y1.val - b, by omega⟩)
      (by show y0.val = a + (y0.val - a); omega) (by show y1.val = b + (y1.val - b); omega)]
    exact congrArg (fun z : ℝ => (z : EReal)) (if_pos (c := a ≤ y0.val ∧ y0.val < a + 256 ∧ b ≤ y1.val ∧ y1.val < b + 128) h).symm
  · rw [read_tile_not_mem v f0 L off inb _ a b ho _ h, hL]
    exact congrArg (fun z : ℝ => (z : EReal)) (if_neg (c := a ≤ y0.val ∧ y0.val < a + 256 ∧ b ≤ y1.val ∧ y1.val < b + 128) h).symm

end Cert.Proof

end
-- ==== Proof.FwdOut.lean ====
/- What the forward kernel's grid point leaves in its output blocks, from real blocks. -/
module

public import proofs.«01_k».proof.Proof.Tiles

@[expose] public section

noncomputable section

namespace Cert.Proof

open Idealize.ShloMosaic Idealize.ShloMosaic.Pointwise Cert.KernelIdeal Cert.KernelIdeal.Gen Finset

theorem asRows_R2 (f : ℕ → ℕ → ℝ) : asRows (F := Ideal) (R2 f) = R2 f := by
  unfold asRows
  funext y
  idx_vars y
  pointwise

theorem gated_R2 (f g : ℕ → ℕ → ℝ) : gated (F := Ideal) (R2 f) (R2 g) = R2 fun r c => f r c * (g r c * sigm (g r c)) := by
  unfold gated
  funext y
  idx_vars y
  pointwise [R2_ix2, Ideal.logistic_coe, sigm]
  rw [EReal.coe_mul, EReal.coe_mul]

theorem fwd_start (q k v : ℕ → ℕ → ℝ) {i : ℕ} (hi : i < 16) :
    fwdStep (F := Ideal) true triL laneV (R2 (rowsFrom q i)) (BitVec.ofNat 32 i) (R2 (rowsFrom k i)) (R2 (rowsFrom v i))
      (zero1, zeroD, zeroD) = fwdSt q k v i i := by
  rw [← fwdStep_rows q k v (Or.inl ⟨rfl, rfl⟩ : Diag true i i) hi]
  congr 1
  unfold fwdSt zero1 zeroD
  rw [zero_R2, zero_R2, Prod.mk.injEq, Prod.mk.injEq]
  refine ⟨R2_congr fun r hr _ _ => ?_, R2_congr fun r _ d _ => ?_, R2_congr fun r _ l _ => ?_⟩
  · exact (tailL_end q k _ _ (by omega)).symm
  · rw [Ico_self, sum_empty]
  · exact (if_neg (by omega)).symm

theorem attO_block (q k v : ℕ → ℕ → ℝ) (i r d : ℕ) (hi : i < 16) (hr : r < 256) :
    ∑ s ∈ Ico (256 * 0) (256 * (i + 1)), attA q k (256 * i + r) s * v s d = attO q k v (256 * i + r) d := by
  unfold attO
  rw [mul_zero, ← range_eq_Ico]
  refine sum_subset (range_mono (by omega)) fun s _ hs => ?_
  have hs' : ¬s < 256 * i + r := fun h => hs (mem_range.mpr (by omega))
  rw [attA, if_neg hs', zero_mul]

theorem tileQ (M : Memref sig .tc .vmem S256x512 .bf16) (hM : M.IsWhole) (Q : ℕ → ℕ → ℝ) (i : ℕ)
    (off : Fin 2 → Nat) (inb : ∀ a, off a + S256x128.size a ≤ S256x512.size a) (n : ℕ) (ho : off = ![0, 128 * n]) :
    tile (F := Ideal) M (hM.unread (R2 (rowsFrom Q i) : FVec Ideal S256x512 .bf16)) off inb
      = (R2 (rowsFrom (cols Q n) i) : FVec Ideal S256x128 .bf16) := by
  rw [tile_bf16 M hM _ _ _ _ _ ho]
  exact R2_congr fun r _ c _ => by rw [Nat.zero_add]

theorem tileZ (M : Memref sig .tc .vmem S256x512 .f32) (hM : M.IsWhole) (Q : ℕ → ℕ → ℝ) (i : ℕ)
    (off : Fin 2 → Nat) (inb : ∀ a, off a + S256x128.size a ≤ S256x512.size a) (n : ℕ) (ho : off = ![0, 128 * n]) :
    tile (F := Ideal) M (hM.unread (R2 (rowsFrom Q i) : FVec Ideal S256x512 .f32)) off inb
      = (R2 (rowsFrom (cols Q n) i) : FVec Ideal S256x128 .f32) := by
  rw [tile_f32 M hM _ _ _ _ _ ho]
  exact R2_congr fun r _ c _ => by rw [Nat.zero_add]

theorem tileK (M : Memref sig .tc .vmem S4096x512 .bf16) (hM : M.IsWhole) (K : ℕ → ℕ → ℝ) (i n : ℕ)
    (off : Fin 2 → Nat) (inb : ∀ a, off a + S256x128.size a ≤ S4096x512.size a) (ho : off = ![256 * i, 128 * n]) :
    tile (F := Ideal) M (hM.unread (R2 K : FVec Ideal S4096x512 .bf16)) off inb
      = (R2 (rowsFrom (cols K n) i) : FVec Ideal S256x128 .bf16) := tile_bf16 M hM _ _ _ _ _ ho

attribute [local irreducible] st_k0_t1 st_k0_t2 kernelRun0_A

set_option maxHeartbeats 600000 in
theorem run0_S (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole) v16 v17 v18 v20 v99 v102 v105 v108 v113 v118 v123 v128
    (Q K V : ℕ → ℕ → ℝ) :
    st_k0_t1 (F := Ideal) Variants.none c none i arg2 harg2 arg3 harg3 arg4 harg4 arg5 harg5 arg6 harg6 arg7 harg7 arg8 harg8
      (BitVec.ofNat 32 (i 1).val) triL laneV (R2 (rowsFrom (cols Q 0) (i 1).val)) (R2 (rowsFrom (cols Q 1) (i 1).val)) (R2 (rowsFrom (cols Q 2) (i 1).val)) (R2 (rowsFrom (cols Q 3) (i 1).val)) v16 v17 v18 v20 v99 v102 v105 v108 v113 v118 v123 v128
      (harg3.unread (R2 K : FVec Ideal S4096x512 .bf16)) (harg4.unread (R2 V : FVec Ideal S4096x512 .bf16))
      (pack4 (fwdSt (cols Q 0) (cols K 0) (cols V 0) (i 1).val (i 1).val) (fwdSt (cols Q 1) (cols K 1) (cols V 1) (i 1).val (i 1).val) (fwdSt (cols Q 2) (cols K 2) (cols V 2) (i 1).val (i 1).val) (fwdSt (cols Q 3) (cols K 3) (cols V 3) (i 1).val (i 1).val)) (i 1).val = (pack4 (fwdSt (cols Q 0) (cols K 0) (cols V 0) (i 1).val 0) (fwdSt (cols Q 1) (cols K 1) (cols V 1) (i 1).val 0) (fwdSt (cols Q 2) (cols K 2) (cols V 2) (i 1).val 0) (fwdSt (cols Q 3) (cols K 3) (cols V 3) (i 1).val 0)) := by
  have e := st0_eq c i arg2 harg2 arg3 harg3 arg4 harg4 arg5 harg5 arg6 harg6 arg7 harg7 arg8 harg8 v16 v17 v18 v20 v99 v102 v105 v108 v113 v118 v123 v128 Q K V (i 1).val le_rfl
  rewrite [Nat.sub_self] at e
  exact e

set_option maxHeartbeats 600000 in
theorem run0_out (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole)
    (Q K V Z : ℕ → ℕ → ℝ) :
    (kernelRun0_A (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)).1
      = cols4 (fwdSt (cols Q 0) (cols K 0) (cols V 0) (i 1).val 0).2.1 (fwdSt (cols Q 1) (cols K 1) (cols V 1) (i 1).val 0).2.1 (fwdSt (cols Q 2) (cols K 2) (cols V 2) (i 1).val 0).2.1 (fwdSt (cols Q 3) (cols K 3) (cols V 3) (i 1).val 0).2.1
    ∧ (kernelRun0_A (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)).2.1
      = cols4 (gated (fwdSt (cols Q 0) (cols K 0) (cols V 0) (i 1).val 0).2.1 (R2 (rowsFrom (cols Z 0) (i 1).val))) (gated (fwdSt (cols Q 1) (cols K 1) (cols V 1) (i 1).val 0).2.1 (R2 (rowsFrom (cols Z 1) (i 1).val))) (gated (fwdSt (cols Q 2) (cols K 2) (cols V 2) (i 1).val 0).2.1 (R2 (rowsFrom (cols Z 2) (i 1).val))) (gated (fwdSt (cols Q 3) (cols K 3) (cols V 3) (i 1).val 0).2.1 (R2 (rowsFrom (cols Z 3) (i 1).val)))
    ∧ (kernelRun0_A (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)).2.2.1
      = cols4 (fwdSt (cols Q 0) (cols K 0) (cols V 0) (i 1).val 0).2.2 (fwdSt (cols Q 1) (cols K 1) (cols V 1) (i 1).val 0).2.2 (fwdSt (cols Q 2) (cols K 2) (cols V 2) (i 1).val 0).2.2 (fwdSt (cols Q 3) (cols K 3) (cols V 3) (i 1).val 0).2.2 := by
  have h16 : (i 1).val < 16 := (i 1).isLt
  obtain ⟨S1, S, ⟨⟨v16, v17, v18, v20, v99, v102, v105, v108, v113, v118, v123, v128, h1⟩, ⟨v177, h2⟩⟩, e4, e5, e6⟩ :=
    run0_eq (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)
  rewrite [trips0', st_k0_t2_zero] at h2
  rewrite [trips0] at h1
  rewrite [tileQ arg2 harg2 Q (i 1).val _ _ 0 rfl, asRows_R2, tileK arg3 harg3 K (i 1).val 0 _ _ (k0_off1_at i),
    tileK arg4 harg4 V (i 1).val 0 _ _ (k0_off1_at i), fwd_start (cols Q 0) (cols K 0) (cols V 0) h16] at h1
  rewrite [tileZ arg5 harg5 Z (i 1).val _ _ 0 rfl] at e5
  rewrite [tileQ arg2 harg2 Q (i 1).val _ _ 1 rfl, asRows_R2, tileK arg3 harg3 K (i 1).val 1 _ _ (k0_off2_at i),
    tileK arg4 harg4 V (i 1).val 1 _ _ (k0_off2_at i), fwd_start (cols Q 1) (cols K 1) (cols V 1) h16] at h1
  rewrite [tileZ arg5 harg5 Z (i 1).val _ _ 1 rfl] at e5
  rewrite [tileQ arg2 harg2 Q (i 1).val _ _ 2 rfl, asRows_R2, tileK arg3 harg3 K (i 1).val 2 _ _ (k0_off3_at i),
    tileK arg4 harg4 V (i 1).val 2 _ _ (k0_off3_at i), fwd_start (cols Q 2) (cols K 2) (cols V 2) h16] at h1
  rewrite [tileZ arg5 harg5 Z (i 1).val _ _ 2 rfl] at e5
  rewrite [tileQ arg2 harg2 Q (i 1).val _ _ 3 rfl, asRows_R2, tileK arg3 harg3 K (i 1).val 3 _ _ (k0_off4_at i),
    tileK arg4 harg4 V (i 1).val 3 _ _ (k0_off4_at i), fwd_start (cols Q 3) (cols K 3) (cols V 3) h16] at h1
  rewrite [tileZ arg5 harg5 Z (i 1).val _ _ 3 rfl] at e5
  rewrite [run0_S] at h1
  have hS : S = (pack4 (fwdSt (cols Q 0) (cols K 0) (cols V 0) (i 1).val 0) (fwdSt (cols Q 1) (cols K 1) (cols V 1) (i 1).val 0) (fwdSt (cols Q 2) (cols K 2) (cols V 2) (i 1).val 0) (fwdSt (cols Q 3) (cols K 3) (cols V 3) (i 1).val 0)) := h2.trans h1
  unfold pack4 at hS
  rewrite [hS] at e4 e5 e6
  dsimp only at e4 e5 e6
  refine ⟨?_, ?_, ?_⟩
  · exact e4
  · exact e5
  · exact e6

set_option maxHeartbeats 600000 in
theorem run0_R2 (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .f32) (harg8 : arg8.IsWhole)
    (Q K V Z : ℕ → ℕ → ℝ) :
    out0_A_4 (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)
      = (R2 fun r c => attO (cols Q (c / 128)) (cols K (c / 128)) (cols V (c / 128)) (256 * (i 1).val + r) (c % 128) : FVec Ideal S256x512 .f32)
    ∧ out0_A_5 (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)
      = (R2 fun r c => attO (cols Q (c / 128)) (cols K (c / 128)) (cols V (c / 128)) (256 * (i 1).val + r) (c % 128)
          * (Z (256 * (i 1).val + r) c * sigm (Z (256 * (i 1).val + r) c)) : FVec Ideal S256x512 .bf16)
    ∧ out0_A_6 (F := Ideal) c i arg2 harg2 arg3 harg3 arg4 harg4 arg5 harg5 arg6 harg6 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32)
      = (R2 fun r c => if c % 128 ≤ (i 1).val then
          tailL (cols Q (c / 128)) (cols K (c / 128)) (256 * (i 1).val + r) (256 * (c % 128 + 1)) else 0 : FVec Ideal S256x512 .f32) := by
  have h16 : (i 1).val < 16 := (i 1).isLt
  obtain ⟨e4, e5, e6⟩ := run0_out c i arg2 harg2 arg3 harg3 arg4 harg4 arg5 harg5 arg6 harg6 arg7 harg7 arg8 harg8 Q K V Z
  refine ⟨?_, ?_, ?_⟩
  · refine (congrArg (fun L => VO0_4.read (Elt Ideal) (VO0_4.writes (Elt Ideal) VO0_4.junk L)) e4).trans ?_
    unfold fwdSt
    refine (read_cols4_f32 VO0_4 _ fun h r d => ∑ s ∈ Ico (256 * 0) (256 * ((i 1).val + 1)), attA (cols Q h) (cols K h) (256 * (i 1).val + r) s * cols V h s d).trans ?_
    exact R2_congr fun r hr c _ => attO_block _ _ _ _ _ _ h16 hr
  · refine (congrArg (fun L => VO0_5.read (Elt Ideal) (VO0_5.writes (Elt Ideal) VO0_5.junk L)) e5).trans ?_
    unfold fwdSt
    dsimp only
    rewrite [gated_R2, gated_R2, gated_R2, gated_R2]
    refine (read_cols4_bf16 VO0_5 _ fun h r d => (∑ s ∈ Ico (256 * 0) (256 * ((i 1).val + 1)), attA (cols Q h) (cols K h) (256 * (i 1).val + r) s * cols V h s d)
      * (rowsFrom (cols Z h) (i 1).val r d * sigm (rowsFrom (cols Z h) (i 1).val r d))).trans ?_
    refine R2_congr fun r hr c _ => ?_
    rw [attO_block _ _ _ _ _ _ h16 hr]
    unfold rowsFrom cols
    rw [Nat.div_add_mod]
  · refine (congrArg (fun L => VO0_6.read (Elt Ideal) (VO0_6.writes (Elt Ideal) VO0_6.junk L)) e6).trans ?_
    unfold fwdSt
    refine (read_cols4_f32 VO0_6 _ fun h r l => if 0 ≤ l ∧ l ≤ (i 1).val then tailL (cols Q h) (cols K h) (256 * (i 1).val + r) (256 * (l + 1)) else 0).trans ?_
    exact R2_congr fun r hr c _ => if_congr (by omega) rfl rfl

end Cert.Proof

end
-- ==== Proof.Arrays0.lean ====
/- What the forward kernel leaves in its result arrays, from real arrays of its operands. -/
module

public import proofs.«01_k».proof.Proof.FwdOut
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen Finset
open Idealize.ShloMosaic.Pipeline (Dat)

/-- The columns of `x` from column `o`. -/
def band (x : ℕ → ℕ → ℝ) (o : ℕ) : ℕ → ℕ → ℝ := fun t c => x t (o + c)

/-- The sixteen heads' attention, side by side: the queries' columns start at 2048, the keys' at 4096, the values' at 6144. -/
def attF (X : ℕ → ℕ → ℝ) (t c : ℕ) : ℝ :=
  attO (cols X (16 + c / 128)) (cols X (32 + c / 128)) (cols X (48 + c / 128)) t (c % 128)

/-- The gated attention: the gate's columns of `P` start at 8192. -/
def gatedF (X P : ℕ → ℕ → ℝ) (t c : ℕ) : ℝ := attF X t c * (P t (8192 + c) * sigm (P t (8192 + c)))

/-- The tails that the forward kernel saves: lane `l` of a head's 128 holds the tail past block `l`. -/
def savedF (X : ℕ → ℕ → ℝ) (t c : ℕ) : ℝ :=
  if c % 128 ≤ t / 256 then
    tailL (cols X (16 + c / 128)) (cols X (32 + c / 128)) t (256 * (c % 128 + 1)) else 0

theorem cols_band (x : ℕ → ℕ → ℝ) (n g h : ℕ) : cols (band x (128 * n + 512 * g)) h = cols x (n + (4 * g + h)) := by
  funext t d
  exact congrArg (x t) (by ring)

theorem idx0 : ∀ t : Fin cfg0.N, win0_0.index t = ![t.val % 16, 4 + t.val / 16] ∧ win0_1.index t = ![0, 8 + t.val / 16]
    ∧ win0_2.index t = ![0, 12 + t.val / 16] ∧ win0_3.index t = ![t.val % 16, 16 + t.val / 16]
    ∧ win0_4.index t = ![t.val % 16, t.val / 16] ∧ win0_5.index t = ![t.val % 16, t.val / 16]
    ∧ win0_6.index t = ![t.val % 16, t.val / 16] ∧ (grid0.coords t 1).val = t.val % 16 :=
  (by decide +kernel : ∀ t : Fin grid0.N, _)

section
variable (V : (c : Dev nD) → (b : Ref sig .tc) → Buf (Elt Ideal) ((c : Thread nD τ).loc b)) (c : Dev nD)
  (X P : ℕ → ℕ → ℝ)
  (hX : V c main_v10 = (R2 X : FVec Ideal S4096x14336 .bf16)) (hP : V c main_arg0 = (R2 P : FVec Ideal S4096x14336 .f32))

include hX in
theorem iblk0_0 (t : Fin cfg0.N) : iblk0 V c 0 t
    = (R2 (rowsFrom (band X (128 * 16 + 512 * (t.val / 16))) (grid0.coords t 1).val) : FVec Ideal S256x512 .bf16) := by
  funext y
  obtain ⟨e0, e1, e2, e3, e4, e5, e6, e7⟩ := idx0 t
  blk_simp [iblk0, e0]
  refine (congrFun hX _).trans ?_
  unfold R2 rowsFrom band
  rw [e7]
  blk_simp [e0]
  refine congrArg (fun z : ℝ => (z : EReal)) (congrArg₂ X ?_ ?_) <;> ring

include hX in
theorem iblk0_1 (t : Fin cfg0.N) : iblk0 V c 1 t
    = (R2 (band X (128 * 32 + 512 * (t.val / 16))) : FVec Ideal S4096x512 .bf16) := by
  funext y
  obtain ⟨e0, e1, e2, e3, e4, e5, e6, e7⟩ := idx0 t
  blk_simp [iblk0, e1]
  refine (congrFun hX _).trans ?_
  unfold R2 band

  blk_simp [e1]
  refine congrArg (fun z : ℝ => (z : EReal)) (congrArg₂ X ?_ ?_) <;> ring

include hX in
theorem iblk0_2 (t : Fin cfg0.N) : iblk0 V c 2 t
    = (R2 (band X (128 * 48 + 512 * (t.val / 16))) : FVec Ideal S4096x512 .bf16) := by
  funext y
  obtain ⟨e0, e1, e2, e3, e4, e5, e6, e7⟩ := idx0 t
  blk_simp [iblk0, e2]
  refine (congrFun hX _).trans ?_
  unfold R2 band

  blk_simp [e2]
  refine congrArg (fun z : ℝ => (z : EReal)) (congrArg₂ X ?_ ?_) <;> ring

include hP in
theorem iblk0_3 (t : Fin cfg0.N) : iblk0 V c 3 t
    = (R2 (rowsFrom (band P (128 * 64 + 512 * (t.val / 16))) (grid0.coords t 1).val) : FVec Ideal S256x512 .f32) := by
  funext y
  obtain ⟨e0, e1, e2, e3, e4, e5, e6, e7⟩ := idx0 t
  blk_simp [iblk0, e3]
  refine (congrFun hP _).trans ?_
  unfold R2 rowsFrom band
  rw [e7]
  blk_simp [e3]
  refine congrArg (fun z : ℝ => (z : EReal)) (congrArg₂ P ?_ ?_) <;> ring

include hX hP in
/-- What the outputs' blocks hold after point `t`: the block's rows of the group's columns. -/
theorem outsAt0_R2 (t : Fin cfg0.N) : outsAt0 V c t
    = ((R2 (rowsFrom (band (attF X) (512 * (t.val / 16))) (t.val % 16)) : FVec Ideal S256x512 .f32),
       (R2 (rowsFrom (band (gatedF X P) (512 * (t.val / 16))) (t.val % 16)) : FVec Ideal S256x512 .bf16),
       (R2 (rowsFrom (band (savedF X) (512 * (t.val / 16))) (t.val % 16)) : FVec Ideal S256x512 .f32)) := by
  have h16 : t.val % 16 < 16 := Nat.mod_lt _ (by omega)
  have e7 : (grid0.coords t 1).val = t.val % 16 := (idx0 t).2.2.2.2.2.2.2
  obtain ⟨r4, r5, r6⟩ := run0_R2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (band X (128 * 16 + 512 * (t.val / 16))) (band X (128 * 32 + 512 * (t.val / 16))) (band X (128 * 48 + 512 * (t.val / 16))) (band P (128 * 64 + 512 * (t.val / 16)))
  unfold outsAt0
  rewrite [iblk0_0 V c X hX t, iblk0_1 V c X hX t, iblk0_2 V c X hX t, iblk0_3 V c P hP t, r4, r5, r6, e7, Prod.mk.injEq, Prod.mk.injEq]
  refine ⟨R2_congr fun r hr d hd => ?_, R2_congr fun r hr d hd => ?_, R2_congr fun r hr d hd => ?_⟩
  · unfold rowsFrom attF
    rw [cols_band, cols_band, cols_band]
    unfold band
    beta_reduce
    rw [show (512 * (t.val / 16) + d) / 128 = 4 * (t.val / 16) + d / 128 by omega, show (512 * (t.val / 16) + d) % 128 = d % 128 by omega]
  · unfold rowsFrom gatedF attF
    rw [cols_band, cols_band, cols_band]
    unfold band
    beta_reduce
    rw [show (512 * (t.val / 16) + d) / 128 = 4 * (t.val / 16) + d / 128 by omega, show (512 * (t.val / 16) + d) % 128 = d % 128 by omega,
      show 128 * 64 + 512 * (t.val / 16) + d = 8192 + (512 * (t.val / 16) + d) by omega]
  · unfold rowsFrom savedF
    rw [cols_band, cols_band]
    unfold band
    beta_reduce
    rw [show (512 * (t.val / 16) + d) / 128 = 4 * (t.val / 16) + d / 128 by omega, show (512 * (t.val / 16) + d) % 128 = d % 128 by omega,
      show (256 * (t.val % 16) + r) / 256 = t.val % 16 by omega]

include hX hP in
theorem arr0_4 : (dat0 V c).arrAt 4 cfg0.N = (R2 (attF X) : FVec Ideal S4096x2048 .f32) := by
  refine (dat0 V c).arrAt_eq_of_covers 4 _ (by decide +kernel) fun t hf y => ?_
  obtain ⟨e0, e1, e2, e3, e4, e5, e6, e7⟩ := idx0 t
  blk_simp
  rewrite [after0_4, outsAt0_R2 V c X P hX hP t]
  unfold R2 rowsFrom band
  blk_simp [e4]
  refine congrArg (fun z : ℝ => (z : EReal)) (congrArg₂ (attF X) ?_ ?_) <;> ring

include hX hP in
theorem arr0_5 : (dat0 V c).arrAt 5 cfg0.N = (R2 (gatedF X P) : FVec Ideal S4096x2048 .bf16) := by
  refine (dat0 V c).arrAt_eq_of_covers 5 _ (by decide +kernel) fun t hf y => ?_
  obtain ⟨e0, e1, e2, e3, e4, e5, e6, e7⟩ := idx0 t
  blk_simp
  rewrite [after0_5, outsAt0_R2 V c X P hX hP t]
  unfold R2 rowsFrom band
  blk_simp [e5]
  refine congrArg (fun z : ℝ => (z : EReal)) (congrArg₂ (gatedF X P) ?_ ?_) <;> ring

include hX hP in
theorem arr0_6 : (dat0 V c).arrAt 6 cfg0.N = (R2 (savedF X) : FVec Ideal S4096x2048 .f32) := by
  refine (dat0 V c).arrAt_eq_of_covers 6 _ (by decide +kernel) fun t hf y => ?_
  obtain ⟨e0, e1, e2, e3, e4, e5, e6, e7⟩ := idx0 t
  blk_simp
  rewrite [after0_6, outsAt0_R2 V c X P hX hP t]
  unfold R2 rowsFrom band
  blk_simp [e6]
  refine congrArg (fun z : ℝ => (z : EReal)) (congrArg₂ (savedF X) ?_ ?_) <;> ring

end

end Cert.Proof
-- ==== Proof.Acc.lean ====
/- The keys' and values' gradients as the backward kernel accumulates them, tile by tile. -/
module

public import proofs.«01_k».proof.Proof.Tiles

@[expose] public section

noncomputable section

namespace Cert.Proof

open Idealize.ShloMosaic Idealize.ShloMosaic.Pointwise Cert.KernelIdeal Cert.KernelIdeal.Gen Finset

/-- A buffer after `T` was added to its row blocks before `j` and to the first `n` heads' tiles of row block `j`. -/
def accN (base : ℕ → ℕ → ℝ) (T : ℕ → ℕ → ℕ → ℝ) (j n : ℕ) : ℕ → ℕ → ℝ := fun s c =>
  base s c + if s < 256 * j ∨ (s < 256 * (j + 1) ∧ c < 128 * n) then T (c / 128) s (c % 128) else 0

theorem accN_zero (base : ℕ → ℕ → ℝ) (T : ℕ → ℕ → ℕ → ℝ) : accN base T 0 0 = base := by
  funext s c
  exact (congrArg (base s c + ·) (if_neg (by omega))).trans (add_zero _)

theorem accN_old (base : ℕ → ℕ → ℝ) (T : ℕ → ℕ → ℕ → ℝ) (j n m : ℕ) (h : m ≤ n) (r c : ℕ) :
    accN base T j m (256 * j + r) (128 * n + c) = base (256 * j + r) (128 * n + c) :=
  (congrArg (base _ _ + ·) (if_neg (by omega))).trans (add_zero _)

theorem accN_four (base : ℕ → ℕ → ℝ) (T : ℕ → ℕ → ℕ → ℝ) (j : ℕ) :
    (R2 (accN base T j 4) : FVec Ideal S4096x512 .f32) = R2 (accN base T (j + 1) 0) :=
  R2_congr fun _ _ c hc => congrArg (base _ _ + ·) (if_congr (by omega) rfl rfl)

theorem tile_read (M : Memref sig .tc .vmem S4096x512 .f32) (X : BufTy.Contents (Elt Ideal) M.view.ty) (f : ℕ → ℕ → ℝ)
    (off : Fin 2 → Nat) (inb : ∀ a, off a + S256x128.size a ≤ S4096x512.size a) (a b : ℕ) (ho : off = ![a, b])
    (hX : M.view.read (Elt Ideal) X = (R2 f : FVec Ideal S4096x512 .f32)) :
    tile (F := Ideal) M X off inb = (R2 fun r c => f (a + r) (b + c) : FVec Ideal S256x128 .f32) := by
  subst ho
  funext y
  refine (congrFun hX _).trans ?_
  exact congrArg _ (congrArg₂ f (ValueKit.rect_emb_unit_val _ _ _ _ 0) (ValueKit.rect_emb_unit_val _ _ _ _ 1))

/-- The old tile of a head, whichever of the heads before it were already updated. -/
theorem tile_accN (M : Memref sig .tc .vmem S4096x512 .f32) (X : BufTy.Contents (Elt Ideal) M.view.ty)
    (base : ℕ → ℕ → ℝ) (T : ℕ → ℕ → ℕ → ℝ) (j n m : ℕ) (h : m ≤ n)
    (off : Fin 2 → Nat) (inb : ∀ a, off a + S256x128.size a ≤ S4096x512.size a) (ho : off = ![256 * j, 128 * n])
    (hX : M.view.read (Elt Ideal) X = (R2 (accN base T j m) : FVec Ideal S4096x512 .f32)) :
    tile (F := Ideal) M X off inb = (R2 fun r c => base (256 * j + r) (128 * n + c) : FVec Ideal S256x128 .f32) := by
  rw [tile_read M X _ off inb _ _ ho hX]
  exact R2_congr fun r _ c _ => accN_old base T j n m h r c

theorem read_accN {κ : Kind} {sp : Space} (v : View sig κ sp S4096x512 .f32)
    (f0 : v.ty.Contents (Elt Ideal)) (L : List (View.Piece (Elt Ideal) S4096x512 .f32)) (base : ℕ → ℕ → ℝ)
    (T : ℕ → ℕ → ℕ → ℝ) (j n : ℕ) (hn : n < 4) (x : FVec Ideal S256x128 .f32)
    (off : Fin 2 → Nat) (inb : ∀ a, off a + S256x128.size a ≤ S4096x512.size a) (ho : off = ![256 * j, 128 * n])
    (hx : x = R2 fun r c => base (256 * j + r) (128 * n + c) + T n (256 * j + r) c)
    (hL : v.read (Elt Ideal) (v.writes (Elt Ideal) f0 L) = (R2 (accN base T j n) : FVec Ideal S4096x512 .f32)) :
    v.read (Elt Ideal) (v.writes (Elt Ideal) f0 (⟨Rect.unit off S256x128.size inb, x⟩ :: L))
      = (R2 (accN base T j (n + 1)) : FVec Ideal S4096x512 .f32) := by
  subst hx
  rw [read_upd v f0 L _ _ off inb _ _ ho hL]
  refine R2_congr fun r _ c hc => ?_
  unfold upd
  split
  · rename_i h
    beta_reduce
    rw [show 256 * j + (r - 256 * j) = r by omega, show 128 * n + (c - 128 * n) = c by omega]
    refine congrArg (base r c + ·) ?_
    rw [if_pos (by omega), show c / 128 = n by omega, show c % 128 = c - 128 * n by omega]
  · exact congrArg (base _ _ + ·) (if_congr (by omega) rfl rfl)

theorem read_pieces4 {κ : Kind} {sp : Space} (v : View sig κ sp S4096x512 .f32)
    (f0 : v.ty.Contents (Elt Ideal)) (L : List (View.Piece (Elt Ideal) S4096x512 .f32)) (base : ℕ → ℕ → ℝ)
    (T : ℕ → ℕ → ℕ → ℝ) (j : ℕ) (x : ℕ → FVec Ideal S256x128 .f32)
    (o0 o1 o2 o3 : Fin 2 → Nat) (b0 : ∀ a, o0 a + S256x128.size a ≤ S4096x512.size a)
    (b1 : ∀ a, o1 a + S256x128.size a ≤ S4096x512.size a) (b2 : ∀ a, o2 a + S256x128.size a ≤ S4096x512.size a)
    (b3 : ∀ a, o3 a + S256x128.size a ≤ S4096x512.size a) (h0 : o0 = ![256 * j, 128 * 0])
    (h1 : o1 = ![256 * j, 128 * 1]) (h2 : o2 = ![256 * j, 128 * 2]) (h3 : o3 = ![256 * j, 128 * 3])
    (hx : ∀ n, x n = R2 fun r c => base (256 * j + r) (128 * n + c) + T n (256 * j + r) c)
    (hL : v.read (Elt Ideal) (v.writes (Elt Ideal) f0 L) = (R2 (accN base T j 0) : FVec Ideal S4096x512 .f32)) :
    v.read (Elt Ideal) (v.writes (Elt Ideal) f0 (pieces4 o0 o1 o2 o3 b0 b1 b2 b3 (x 0) (x 1) (x 2) (x 3) ++ L))
      = (R2 (accN base T (j + 1) 0) : FVec Ideal S4096x512 .f32) := by
  rw [← accN_four]
  refine read_accN v f0 _ base T j 3 (by norm_num) (x 3) o3 b3 h3 (hx 3) ?_
  refine read_accN v f0 _ base T j 2 (by norm_num) (x 2) o2 b2 h2 (hx 2) ?_
  refine read_accN v f0 _ base T j 1 (by norm_num) (x 1) o1 b1 h1 (hx 1) ?_
  exact read_accN v f0 _ base T j 0 (by norm_num) (x 0) o0 b0 h0 (hx 0) hL

end Cert.Proof

end
-- ==== Proof.BwdRun.lean ====
/- What a grid point of the backward kernel leaves in its four output blocks, as functions of the heads' blocks. -/
module

public import proofs.«01_k».proof.Proof.FwdRun

@[expose] public section

noncomputable section

namespace Cert.Proof

open Idealize.ShloMosaic Cert.KernelIdeal Cert.KernelIdeal.Facts₀ Cert.KernelIdeal.Facts Cert.KernelIdeal.Gen

variable {F : FTy → Type} [FloatOps F]

/-- The gradient of the attention's output, from the gate and the gradient of the gated output. -/
def gradO (zb dyb : FVec F S256x128 .f32) : FVec F S256x128 .bf16 :=
  truncf .bf16 (mulf dyb (mulf zb (logistic zb))) Gen.bitsLt_bf16_f32

/-- The gradient of the gate. -/
def gradZb (zb dyb att : FVec F S256x128 .f32) : FVec F S256x128 .f32 :=
  mulf (mulf dyb (shapeCast S256x128 att Gen.shapeCasts_S256x128_S256x128))
    (mulf (logistic zb) (addf (broadcast S256x128 (Scalar.ofBits .f32 0x3F800000#32))
      (mulf zb (subf (broadcast S256x128 (Scalar.ofBits .f32 0x3F800000#32)) (logistic zb)))))

/-- The saved sums' tile as the kernel reads it. -/
def asSums (x : FVec F S256x128 .f32) : FVec F S256x128 .f32 := shapeCast S256x128 x Gen.shapeCasts_S256x128_S256x128

/-- The queries' gradient as stored. -/
def scaled (x : FVec F S256x128 .f32) : FVec F S256x128 .f32 :=
  mulf x (broadcast S256x128 (Scalar.ofBits .f32 0x3DB504F3#32))

/-- What a head carries at the start. -/
def carry0 : BCarry F := (zero1, zeroD)

/-- The zeroes stored in the accumulators at a group's first point. -/
def clear : List (View.Piece (Elt F) S4096x512 .f32) :=
  [⟨Rect.unit ![0, 0] S4096x512.size Gen.inb_S4096x512_S4096x512_0_0,
    broadcast S4096x512 (Scalar.ofBits .f32 0x00000000#32)⟩]

section
variable (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole)
    (x0 : Vec F S256x512 .bf16) (x1 : Vec F S4096x512 .bf16) (x2 : Vec F S4096x512 .bf16) (x3 : Vec F S256x512 .f32) (x4 : Vec F S256x512 .f32) (x5 : Vec F S256x512 .f32) (x6 : Vec F S256x512 .f32)

/-- The state after the loop over the blocks before the diagonal, from the accumulators' contents. -/
abbrev loopA (G10 : BufTy.Contents (Elt F) arg10.view.ty) (G11 : BufTy.Contents (Elt F) arg11.view.ty) (n : ℕ) :
    ((FVec F S256x1 .f32 × FVec F S256x128 .f32 × FVec F S256x1 .f32 × FVec F S256x128 .f32 × FVec F S256x1 .f32 × FVec F S256x128 .f32 × FVec F S256x1 .f32 × FVec F S256x128 .f32) × List (View.Piece (Elt F) S4096x512 .f32) × List (View.Piece (Elt F) S4096x512 .f32)) :=
  st_k1_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) triL triU laneV (asRows (tile arg2 (harg2.unread x0) ![0, 0] Gen.inb_S256x512_S256x128_0_0)) (gradO (tile arg5 (harg5.unread x3) ![0, 0] Gen.inb_S256x512_S256x128_0_0) (tile arg7 (harg7.unread x5) ![0, 0] Gen.inb_S256x512_S256x128_0_0)) (asSums (tile arg8 (harg8.unread x6) ![0, 0] Gen.inb_S256x512_S256x128_0_0)) (asRows (tile arg2 (harg2.unread x0) ![0, 128] Gen.inb_S256x512_S256x128_0_128)) (gradO (tile arg5 (harg5.unread x3) ![0, 128] Gen.inb_S256x512_S256x128_0_128) (tile arg7 (harg7.unread x5) ![0, 128] Gen.inb_S256x512_S256x128_0_128)) (asSums (tile arg8 (harg8.unread x6) ![0, 128] Gen.inb_S256x512_S256x128_0_128)) (asRows (tile arg2 (harg2.unread x0) ![0, 256] Gen.inb_S256x512_S256x128_0_256)) (tile arg5 (harg5.unread x3) ![0, 256] Gen.inb_S256x512_S256x128_0_256) (tile arg7 (harg7.unread x5) ![0, 256] Gen.inb_S256x512_S256x128_0_256) (logistic (tile arg5 (harg5.unread x3) ![0, 256] Gen.inb_S256x512_S256x128_0_256)) (gradZb (tile arg5 (harg5.unread x3) ![0, 256] Gen.inb_S256x512_S256x128_0_256) (tile arg7 (harg7.unread x5) ![0, 256] Gen.inb_S256x512_S256x128_0_256) (tile arg6 (harg6.unread x4) ![0, 256] Gen.inb_S256x512_S256x128_0_256)) (tile arg8 (harg8.unread x6) ![0, 256] Gen.inb_S256x512_S256x128_0_256) (tile arg2 (harg2.unread x0) ![0, 384] Gen.inb_S256x512_S256x128_0_384) (tile arg5 (harg5.unread x3) ![0, 384] Gen.inb_S256x512_S256x128_0_384) (tile arg7 (harg7.unread x5) ![0, 384] Gen.inb_S256x512_S256x128_0_384) (tile arg8 (harg8.unread x6) ![0, 384] Gen.inb_S256x512_S256x128_0_384)
    (harg3.unread x1) (harg4.unread x2) G10 G11 (pack4b carry0 carry0 carry0 carry0) n

/-- The state after the loop over what those blocks leave of a multiple of one. -/
abbrev loopB (G10 : BufTy.Contents (Elt F) arg10.view.ty) (G11 : BufTy.Contents (Elt F) arg11.view.ty)
    (S : FVec F S256x1 .f32 × FVec F S256x128 .f32 × FVec F S256x1 .f32 × FVec F S256x128 .f32 × FVec F S256x1 .f32 × FVec F S256x128 .f32 × FVec F S256x1 .f32 × FVec F S256x128 .f32) (n : ℕ) :
    ((FVec F S256x1 .f32 × FVec F S256x128 .f32 × FVec F S256x1 .f32 × FVec F S256x128 .f32 × FVec F S256x1 .f32 × FVec F S256x128 .f32 × FVec F S256x1 .f32 × FVec F S256x128 .f32) × List (View.Piece (Elt F) S4096x512 .f32) × List (View.Piece (Elt F) S4096x512 .f32)) :=
  st_k1_t2 (F := F) Variants.none c none i arg2 harg2 arg3 harg3 arg4 harg4 arg5 harg5 arg6 harg6 arg7 harg7 arg8 harg8 arg9 harg9 arg10 harg10 arg11 harg11 arg12 harg12 (BitVec.ofNat 32 (i 1).val) triL triU laneV (asRows (tile arg2 (harg2.unread x0) ![0, 0] Gen.inb_S256x512_S256x128_0_0)) (gradO (tile arg5 (harg5.unread x3) ![0, 0] Gen.inb_S256x512_S256x128_0_0) (tile arg7 (harg7.unread x5) ![0, 0] Gen.inb_S256x512_S256x128_0_0)) (asSums (tile arg8 (harg8.unread x6) ![0, 0] Gen.inb_S256x512_S256x128_0_0)) (asRows (tile arg2 (harg2.unread x0) ![0, 128] Gen.inb_S256x512_S256x128_0_128)) (gradO (tile arg5 (harg5.unread x3) ![0, 128] Gen.inb_S256x512_S256x128_0_128) (tile arg7 (harg7.unread x5) ![0, 128] Gen.inb_S256x512_S256x128_0_128)) (asSums (tile arg8 (harg8.unread x6) ![0, 128] Gen.inb_S256x512_S256x128_0_128)) (asRows (tile arg2 (harg2.unread x0) ![0, 256] Gen.inb_S256x512_S256x128_0_256)) (tile arg5 (harg5.unread x3) ![0, 256] Gen.inb_S256x512_S256x128_0_256) (tile arg7 (harg7.unread x5) ![0, 256] Gen.inb_S256x512_S256x128_0_256) (logistic (tile arg5 (harg5.unread x3) ![0, 256] Gen.inb_S256x512_S256x128_0_256)) (gradZb (tile arg5 (harg5.unread x3) ![0, 256] Gen.inb_S256x512_S256x128_0_256) (tile arg7 (harg7.unread x5) ![0, 256] Gen.inb_S256x512_S256x128_0_256) (tile arg6 (harg6.unread x4) ![0, 256] Gen.inb_S256x512_S256x128_0_256)) (tile arg8 (harg8.unread x6) ![0, 256] Gen.inb_S256x512_S256x128_0_256) (tile arg2 (harg2.unread x0) ![0, 384] Gen.inb_S256x512_S256x128_0_384) (tile arg5 (harg5.unread x3) ![0, 384] Gen.inb_S256x512_S256x128_0_384) (tile arg7 (harg7.unread x5) ![0, 384] Gen.inb_S256x512_S256x128_0_384) (tile arg8 (harg8.unread x6) ![0, 384] Gen.inb_S256x512_S256x128_0_384)
    (Scalar.addi 0#32 (Scalar.muli (Scalar.divsi (Scalar.subi (BitVec.ofNat 32 (i 1).val) 0#32) 1#32) 1#32))
    (harg3.unread x1) (harg4.unread x2) G10 G11 S n

/-- The diagonal block's store into head 0's tile of the keys' gradient, before the stores `M`. -/
abbrev diagK0 (J : BufTy.Contents (Elt F) arg10.view.ty) (S : BCarry F) (M : List (View.Piece (Elt F) S4096x512 .f32)) : List (View.Piece (Elt F) S4096x512 .f32) :=
  ⟨Rect.unit (k1_off9 i) S256x128.size (Gen.k1_off9_inb i), bwdK true triL triU laneV (asRows (tile arg2 (harg2.unread x0) ![0, 0] Gen.inb_S256x512_S256x128_0_0), gradO (tile arg5 (harg5.unread x3) ![0, 0] Gen.inb_S256x512_S256x128_0_0) (tile arg7 (harg7.unread x5) ![0, 0] Gen.inb_S256x512_S256x128_0_0), asSums (tile arg8 (harg8.unread x6) ![0, 0] Gen.inb_S256x512_S256x128_0_0)) (BitVec.ofNat 32 (i 1).val) (tile arg3 (harg3.unread x1) (k1_off9 i) (Gen.k1_off9_inb i)) (tile arg4 (harg4.unread x2) (k1_off9 i) (Gen.k1_off9_inb i)) S
    (tile arg10 (arg10.view.writes (Elt F) J M) (k1_off9 i) (Gen.k1_off9_inb i))⟩ :: M

/-- The diagonal block's store into head 0's tile of the values' gradient, before the stores `M`. -/
abbrev diagV0 (J : BufTy.Contents (Elt F) arg11.view.ty) (M : List (View.Piece (Elt F) S4096x512 .f32)) : List (View.Piece (Elt F) S4096x512 .f32) :=
  ⟨Rect.unit (k1_off9 i) S256x128.size (Gen.k1_off9_inb i), bwdV true triL laneV (asRows (tile arg2 (harg2.unread x0) ![0, 0] Gen.inb_S256x512_S256x128_0_0), gradO (tile arg5 (harg5.unread x3) ![0, 0] Gen.inb_S256x512_S256x128_0_0) (tile arg7 (harg7.unread x5) ![0, 0] Gen.inb_S256x512_S256x128_0_0), asSums (tile arg8 (harg8.unread x6) ![0, 0] Gen.inb_S256x512_S256x128_0_0)) (BitVec.ofNat 32 (i 1).val) (tile arg3 (harg3.unread x1) (k1_off9 i) (Gen.k1_off9_inb i))
    (tile arg11 (arg11.view.writes (Elt F) J M) (k1_off9 i) (Gen.k1_off9_inb i))⟩ :: M

/-- The diagonal block's store into head 1's tile of the keys' gradient, before the stores `M`. -/
abbrev diagK1 (J : BufTy.Contents (Elt F) arg10.view.ty) (S : BCarry F) (M : List (View.Piece (Elt F) S4096x512 .f32)) : List (View.Piece (Elt F) S4096x512 .f32) :=
  ⟨Rect.unit (k1_off10 i) S256x128.size (Gen.k1_off10_inb i), bwdK true triL triU laneV (asRows (tile arg2 (harg2.unread x0) ![0, 128] Gen.inb_S256x512_S256x128_0_128), gradO (tile arg5 (harg5.unread x3) ![0, 128] Gen.inb_S256x512_S256x128_0_128) (tile arg7 (harg7.unread x5) ![0, 128] Gen.inb_S256x512_S256x128_0_128), asSums (tile arg8 (harg8.unread x6) ![0, 128] Gen.inb_S256x512_S256x128_0_128)) (BitVec.ofNat 32 (i 1).val) (tile arg3 (harg3.unread x1) (k1_off10 i) (Gen.k1_off10_inb i)) (tile arg4 (harg4.unread x2) (k1_off10 i) (Gen.k1_off10_inb i)) S
    (tile arg10 (arg10.view.writes (Elt F) J M) (k1_off10 i) (Gen.k1_off10_inb i))⟩ :: M

/-- The diagonal block's store into head 1's tile of the values' gradient, before the stores `M`. -/
abbrev diagV1 (J : BufTy.Contents (Elt F) arg11.view.ty) (M : List (View.Piece (Elt F) S4096x512 .f32)) : List (View.Piece (Elt F) S4096x512 .f32) :=
  ⟨Rect.unit (k1_off10 i) S256x128.size (Gen.k1_off10_inb i), bwdV true triL laneV (asRows (tile arg2 (harg2.unread x0) ![0, 128] Gen.inb_S256x512_S256x128_0_128), gradO (tile arg5 (harg5.unread x3) ![0, 128] Gen.inb_S256x512_S256x128_0_128) (tile arg7 (harg7.unread x5) ![0, 128] Gen.inb_S256x512_S256x128_0_128), asSums (tile arg8 (harg8.unread x6) ![0, 128] Gen.inb_S256x512_S256x128_0_128)) (BitVec.ofNat 32 (i 1).val) (tile arg3 (harg3.unread x1) (k1_off10 i) (Gen.k1_off10_inb i))
    (tile arg11 (arg11.view.writes (Elt F) J M) (k1_off10 i) (Gen.k1_off10_inb i))⟩ :: M

/-- The diagonal block's store into head 2's tile of the keys' gradient, before the stores `M`. -/
abbrev diagK2 (J : BufTy.Contents (Elt F) arg10.view.ty) (S : BCarry F) (M : List (View.Piece (Elt F) S4096x512 .f32)) : List (View.Piece (Elt F) S4096x512 .f32) :=
  ⟨Rect.unit (k1_off11 i) S256x128.size (Gen.k1_off11_inb i), bwdK true triL triU laneV (asRows (tile arg2 (harg2.unread x0) ![0, 256] Gen.inb_S256x512_S256x128_0_256), gradO (tile arg5 (harg5.unread x3) ![0, 256] Gen.inb_S256x512_S256x128_0_256) (tile arg7 (harg7.unread x5) ![0, 256] Gen.inb_S256x512_S256x128_0_256), asSums (tile arg8 (harg8.unread x6) ![0, 256] Gen.inb_S256x512_S256x128_0_256)) (BitVec.ofNat 32 (i 1).val) (tile arg3 (harg3.unread x1) (k1_off11 i) (Gen.k1_off11_inb i)) (tile arg4 (harg4.unread x2) (k1_off11 i) (Gen.k1_off11_inb i)) S
    (tile arg10 (arg10.view.writes (Elt F) J M) (k1_off11 i) (Gen.k1_off11_inb i))⟩ :: M

/-- The diagonal block's store into head 2's tile of the values' gradient, before the stores `M`. -/
abbrev diagV2 (J : BufTy.Contents (Elt F) arg11.view.ty) (M : List (View.Piece (Elt F) S4096x512 .f32)) : List (View.Piece (Elt F) S4096x512 .f32) :=
  ⟨Rect.unit (k1_off11 i) S256x128.size (Gen.k1_off11_inb i), bwdV true triL laneV (asRows (tile arg2 (harg2.unread x0) ![0, 256] Gen.inb_S256x512_S256x128_0_256), gradO (tile arg5 (harg5.unread x3) ![0, 256] Gen.inb_S256x512_S256x128_0_256) (tile arg7 (harg7.unread x5) ![0, 256] Gen.inb_S256x512_S256x128_0_256), asSums (tile arg8 (harg8.unread x6) ![0, 256] Gen.inb_S256x512_S256x128_0_256)) (BitVec.ofNat 32 (i 1).val) (tile arg3 (harg3.unread x1) (k1_off11 i) (Gen.k1_off11_inb i))
    (tile arg11 (arg11.view.writes (Elt F) J M) (k1_off11 i) (Gen.k1_off11_inb i))⟩ :: M

/-- The diagonal block's store into head 3's tile of the keys' gradient, before the stores `M`. -/
abbrev diagK3 (J : BufTy.Contents (Elt F) arg10.view.ty) (S : BCarry F) (M : List (View.Piece (Elt F) S4096x512 .f32)) : List (View.Piece (Elt F) S4096x512 .f32) :=
  ⟨Rect.unit (k1_off12 i) S256x128.size (Gen.k1_off12_inb i), bwdK true triL triU laneV (asRows (tile arg2 (harg2.unread x0) ![0, 384] Gen.inb_S256x512_S256x128_0_384), gradO (tile arg5 (harg5.unread x3) ![0, 384] Gen.inb_S256x512_S256x128_0_384) (tile arg7 (harg7.unread x5) ![0, 384] Gen.inb_S256x512_S256x128_0_384), asSums (tile arg8 (harg8.unread x6) ![0, 384] Gen.inb_S256x512_S256x128_0_384)) (BitVec.ofNat 32 (i 1).val) (tile arg3 (harg3.unread x1) (k1_off12 i) (Gen.k1_off12_inb i)) (tile arg4 (harg4.unread x2) (k1_off12 i) (Gen.k1_off12_inb i)) S
    (tile arg10 (arg10.view.writes (Elt F) J M) (k1_off12 i) (Gen.k1_off12_inb i))⟩ :: M

/-- The diagonal block's store into head 3's tile of the values' gradient, before the stores `M`. -/
abbrev diagV3 (J : BufTy.Contents (Elt F) arg11.view.ty) (M : List (View.Piece (Elt F) S4096x512 .f32)) : List (View.Piece (Elt F) S4096x512 .f32) :=
  ⟨Rect.unit (k1_off12 i) S256x128.size (Gen.k1_off12_inb i), bwdV true triL laneV (asRows (tile arg2 (harg2.unread x0) ![0, 384] Gen.inb_S256x512_S256x128_0_384), gradO (tile arg5 (harg5.unread x3) ![0, 384] Gen.inb_S256x512_S256x128_0_384) (tile arg7 (harg7.unread x5) ![0, 384] Gen.inb_S256x512_S256x128_0_384), asSums (tile arg8 (harg8.unread x6) ![0, 384] Gen.inb_S256x512_S256x128_0_384)) (BitVec.ofNat 32 (i 1).val) (tile arg3 (harg3.unread x1) (k1_off12 i) (Gen.k1_off12_inb i))
    (tile arg11 (arg11.view.writes (Elt F) J M) (k1_off12 i) (Gen.k1_off12_inb i))⟩ :: M

/-- The queries' gradient stored by the point. -/
abbrev outQ (S : FVec F S256x1 .f32 × FVec F S256x128 .f32 × FVec F S256x1 .f32 × FVec F S256x128 .f32 × FVec F S256x1 .f32 × FVec F S256x128 .f32 × FVec F S256x1 .f32 × FVec F S256x128 .f32) :
    List (View.Piece (Elt F) S256x512 .f32) :=
  cols4 (scaled (bwdStep true triL triU laneV (asRows (tile arg2 (harg2.unread x0) ![0, 0] Gen.inb_S256x512_S256x128_0_0), gradO (tile arg5 (harg5.unread x3) ![0, 0] Gen.inb_S256x512_S256x128_0_0) (tile arg7 (harg7.unread x5) ![0, 0] Gen.inb_S256x512_S256x128_0_0), asSums (tile arg8 (harg8.unread x6) ![0, 0] Gen.inb_S256x512_S256x128_0_0)) (BitVec.ofNat 32 (i 1).val) (tile arg3 (harg3.unread x1) (k1_off9 i) (Gen.k1_off9_inb i)) (tile arg4 (harg4.unread x2) (k1_off9 i) (Gen.k1_off9_inb i)) (S.1, S.2.1)).2) (scaled (bwdStep true triL triU laneV (asRows (tile arg2 (harg2.unread x0) ![0, 128] Gen.inb_S256x512_S256x128_0_128), gradO (tile arg5 (harg5.unread x3) ![0, 128] Gen.inb_S256x512_S256x128_0_128) (tile arg7 (harg7.unread x5) ![0, 128] Gen.inb_S256x512_S256x128_0_128), asSums (tile arg8 (harg8.unread x6) ![0, 128] Gen.inb_S256x512_S256x128_0_128)) (BitVec.ofNat 32 (i 1).val) (tile arg3 (harg3.unread x1) (k1_off10 i) (Gen.k1_off10_inb i)) (tile arg4 (harg4.unread x2) (k1_off10 i) (Gen.k1_off10_inb i)) (S.2.2.1, S.2.2.2.1)).2) (scaled (bwdStep true triL triU laneV (asRows (tile arg2 (harg2.unread x0) ![0, 256] Gen.inb_S256x512_S256x128_0_256), gradO (tile arg5 (harg5.unread x3) ![0, 256] Gen.inb_S256x512_S256x128_0_256) (tile arg7 (harg7.unread x5) ![0, 256] Gen.inb_S256x512_S256x128_0_256), asSums (tile arg8 (harg8.unread x6) ![0, 256] Gen.inb_S256x512_S256x128_0_256)) (BitVec.ofNat 32 (i 1).val) (tile arg3 (harg3.unread x1) (k1_off11 i) (Gen.k1_off11_inb i)) (tile arg4 (harg4.unread x2) (k1_off11 i) (Gen.k1_off11_inb i)) (S.2.2.2.2.1, S.2.2.2.2.2.1)).2) (scaled (bwdStep true triL triU laneV (asRows (tile arg2 (harg2.unread x0) ![0, 384] Gen.inb_S256x512_S256x128_0_384), gradO (tile arg5 (harg5.unread x3) ![0, 384] Gen.inb_S256x512_S256x128_0_384) (tile arg7 (harg7.unread x5) ![0, 384] Gen.inb_S256x512_S256x128_0_384), asSums (tile arg8 (harg8.unread x6) ![0, 384] Gen.inb_S256x512_S256x128_0_384)) (BitVec.ofNat 32 (i 1).val) (tile arg3 (harg3.unread x1) (k1_off12 i) (Gen.k1_off12_inb i)) (tile arg4 (harg4.unread x2) (k1_off12 i) (Gen.k1_off12_inb i)) (S.2.2.2.2.2.2.1, S.2.2.2.2.2.2.2)).2)

/-- The gate's gradient stored by the point. -/
abbrev outZ : List (View.Piece (Elt F) S256x512 .f32) :=
  cols4 (gradZb (tile arg5 (harg5.unread x3) ![0, 0] Gen.inb_S256x512_S256x128_0_0) (tile arg7 (harg7.unread x5) ![0, 0] Gen.inb_S256x512_S256x128_0_0) (tile arg6 (harg6.unread x4) ![0, 0] Gen.inb_S256x512_S256x128_0_0)) (gradZb (tile arg5 (harg5.unread x3) ![0, 128] Gen.inb_S256x512_S256x128_0_128) (tile arg7 (harg7.unread x5) ![0, 128] Gen.inb_S256x512_S256x128_0_128) (tile arg6 (harg6.unread x4) ![0, 128] Gen.inb_S256x512_S256x128_0_128)) (gradZb (tile arg5 (harg5.unread x3) ![0, 256] Gen.inb_S256x512_S256x128_0_256) (tile arg7 (harg7.unread x5) ![0, 256] Gen.inb_S256x512_S256x128_0_256) (tile arg6 (harg6.unread x4) ![0, 256] Gen.inb_S256x512_S256x128_0_256)) (gradZb (tile arg5 (harg5.unread x3) ![0, 384] Gen.inb_S256x512_S256x128_0_384) (tile arg7 (harg7.unread x5) ![0, 384] Gen.inb_S256x512_S256x128_0_384) (tile arg6 (harg6.unread x4) ![0, 384] Gen.inb_S256x512_S256x128_0_384))

end

end Cert.Proof

end
-- ==== Proof.BwdPoint.lean ====
/- The backward kernel's loop over the blocks before the diagonal, on real blocks. -/
module

public import proofs.«01_k».proof.Proof.Acc
public import proofs.«01_k».proof.Proof.FwdOut
public import proofs.«01_k».proof.Proof.BwdRun

@[expose] public section

noncomputable section

namespace Cert.Proof

open Idealize.ShloMosaic Idealize.ShloMosaic.Pointwise Cert.KernelIdeal Cert.KernelIdeal.Gen Finset

theorem trips1 (i : grid1.Coords) : (k1_t1_loop i).trips = (i 1).val := by
  have h : ∀ n : Fin 16, Scf.trips 0#32 (Scalar.addi 0#32 (Scalar.muli (Scalar.divsi (Scalar.subi (BitVec.ofNat 32 n.val) 0#32) 1#32) 1#32)) 1#32 = n.val := by
    decide
  exact h (i 1)

theorem trips1' (i : grid1.Coords) : (k1_t2_loop i).trips = 0 := by
  rcases Nat.eq_zero_or_pos (k1_t2_loop i).trips with h | h
  · exact h
  · exact (Scf.rem_no_trip _ _ ⟨0, h⟩).elim

theorem word_iv : ∀ k : Fin 16, Scf.iv 0#32 1#32 k.val = BitVec.ofNat 32 k.val := by decide

theorem word_loop1 (i : grid1.Coords) (k : Fin (k1_t1_loop i).trips) :
    Scf.iv 0#32 1#32 k.val = BitVec.ofNat 32 k.val :=
  word_iv ⟨k.val, (lt_of_lt_of_eq k.isLt (trips1 i)).trans (i 1).isLt⟩

theorem off_loop1 (i : grid1.Coords) (k : Fin (k1_t1_loop i).trips) :
    (Scalar.indexCast (Scalar.muli (Scf.iv 0#32 1#32 k.val) 256#32)).toNat = 256 * k.val := by
  have h := word_off ⟨k.val, (lt_of_lt_of_eq k.isLt (trips1 i)).trans (i 1).isLt⟩
  rw [word_loop1]
  exact h

theorem k1_off1_at (i : grid1.Coords) (k : Fin (k1_t1_loop i).trips) : k1_off1 i k = ![256 * k.val, 128 * 0] := by
  rw [← off_loop1 i k]
  rfl

theorem k1_off9_at (i : grid1.Coords) : k1_off9 i = ![256 * (i 1).val, 128 * 0] := by
  rw [← word_off (i 1)]
  rfl

theorem k1_off2_at (i : grid1.Coords) (k : Fin (k1_t1_loop i).trips) : k1_off2 i k = ![256 * k.val, 128 * 1] := by
  rw [← off_loop1 i k]
  rfl

theorem k1_off10_at (i : grid1.Coords) : k1_off10 i = ![256 * (i 1).val, 128 * 1] := by
  rw [← word_off (i 1)]
  rfl

theorem k1_off3_at (i : grid1.Coords) (k : Fin (k1_t1_loop i).trips) : k1_off3 i k = ![256 * k.val, 128 * 2] := by
  rw [← off_loop1 i k]
  rfl

theorem k1_off11_at (i : grid1.Coords) : k1_off11 i = ![256 * (i 1).val, 128 * 2] := by
  rw [← word_off (i 1)]
  rfl

theorem k1_off4_at (i : grid1.Coords) (k : Fin (k1_t1_loop i).trips) : k1_off4 i k = ![256 * k.val, 128 * 3] := by
  rw [← off_loop1 i k]
  rfl

theorem k1_off12_at (i : grid1.Coords) : k1_off12 i = ![256 * (i 1).val, 128 * 3] := by
  rw [← word_off (i 1)]
  rfl

section
variable (Q K V W : ℕ → ℕ → ℝ) (i : ℕ)

/-- What the rows of block `i` add to the keys' gradient. -/
def partK (n s d : ℕ) : ℝ :=
  ∑ r ∈ range 256, gradZ (cols Q n) (cols K n) (cols V n) (cols W n) (256 * i + r) s * cols Q n (256 * i + r) d

/-- What the rows of block `i` add to the values' gradient. -/
def partV (n s d : ℕ) : ℝ :=
  ∑ r ∈ range 256, attA (cols Q n) (cols K n) (256 * i + r) s * cols W n (256 * i + r) d

/-- The saved running sums of head `n` are those of the forward kernel. -/
def Saved (rs : ℕ → ℕ → ℕ → ℝ) : Prop :=
  ∀ n r j, j ≤ i → rs n r j = tailL (cols Q n) (cols K n) (256 * i + r) (256 * (j + 1))

variable {i} {m : Bool} {j : ℕ} (hd : Diag m i j) (hi : i < 16) {rs : ℕ → ℕ → ℕ → ℝ} (hrs : Saved Q K i rs) (n : ℕ)
  (M3 M4 : Memref sig .tc .vmem S4096x512 .bf16) (h3 : M3.IsWhole) (h4 : M4.IsWhole) (M : Memref sig .tc .vmem S4096x512 .f32)
  (off : Fin 2 → Nat) (inb : ∀ a, off a + S256x128.size a ≤ S4096x512.size a) (ho : off = ![256 * j, 128 * n])
include hd hi hrs ho

theorem stepQ_at : bwdStep (F := Ideal) m triL triU laneV (R2 (rowsFrom (cols Q n) i), R2 (rowsFrom (cols W n) i), R2 (rs n)) (BitVec.ofNat 32 j)
      (tile (F := Ideal) M3 (h3.unread (R2 K : FVec Ideal S4096x512 .bf16)) off inb) (tile (F := Ideal) M4 (h4.unread (R2 V : FVec Ideal S4096x512 .bf16)) off inb)
      (bwdSt (cols Q n) (cols K n) (cols V n) (cols W n) i j) = bwdSt (cols Q n) (cols K n) (cols V n) (cols W n) i (j + 1) := by
  rw [tileK M3 h3 K j n off inb ho, tileK M4 h4 V j n off inb ho]
  exact bwdStep_rows _ _ _ _ hd hi _ fun r => hrs n r j (by rcases hd with h | h <;> omega)

theorem stepK_at (X : BufTy.Contents (Elt Ideal) M.view.ty) (base : ℕ → ℕ → ℝ) (k : ℕ) (hk : k ≤ n)
    (hX : M.view.read (Elt Ideal) X = (R2 (accN base (partK Q K V W i) j k) : FVec Ideal S4096x512 .f32)) :
    bwdK (F := Ideal) m triL triU laneV (R2 (rowsFrom (cols Q n) i), R2 (rowsFrom (cols W n) i), R2 (rs n)) (BitVec.ofNat 32 j)
      (tile (F := Ideal) M3 (h3.unread (R2 K : FVec Ideal S4096x512 .bf16)) off inb) (tile (F := Ideal) M4 (h4.unread (R2 V : FVec Ideal S4096x512 .bf16)) off inb)
      (bwdSt (cols Q n) (cols K n) (cols V n) (cols W n) i j) (tile (F := Ideal) M X off inb)
    = R2 fun r c => base (256 * j + r) (128 * n + c) + partK Q K V W i n (256 * j + r) c := by
  rw [tileK M3 h3 K j n off inb ho, tileK M4 h4 V j n off inb ho, tile_accN M X base _ j n k hk off inb ho hX]
  exact bwdK_rows _ _ _ _ hd hi _ (fun r => hrs n r j (by rcases hd with h | h <;> omega)) _

theorem stepV_at (X : BufTy.Contents (Elt Ideal) M.view.ty) (base : ℕ → ℕ → ℝ) (k : ℕ) (hk : k ≤ n)
    (hX : M.view.read (Elt Ideal) X = (R2 (accN base (partV Q K W i) j k) : FVec Ideal S4096x512 .f32)) :
    bwdV (F := Ideal) m triL laneV (R2 (rowsFrom (cols Q n) i), R2 (rowsFrom (cols W n) i), R2 (rs n)) (BitVec.ofNat 32 j)
      (tile (F := Ideal) M3 (h3.unread (R2 K : FVec Ideal S4096x512 .bf16)) off inb) (tile (F := Ideal) M X off inb)
    = R2 fun r c => base (256 * j + r) (128 * n + c) + partV Q K W i n (256 * j + r) c := by
  rw [tileK M3 h3 K j n off inb ho, tile_accN M X base _ j n k hk off inb ho hX]
  exact bwdV_rows _ _ _ hd hi _ (fun r => hrs n r j (by rcases hd with h | h <;> omega)) _

end

attribute [local irreducible] st_k1_t1 st_k1_t2 kernelRun1_A kernelRun1_B

set_option maxHeartbeats 1000000 in
theorem st1_eq (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole)
    (Q K V W : ℕ → ℕ → ℝ) (rs : ℕ → ℕ → ℕ → ℝ) (hrs : Saved Q K (i 1).val rs)
    (v59 v60 : Vec Ideal S256x128 .f32) (v61 v71 : FVec Ideal S256x128 .f32) (v76 : Vec Ideal S256x128 .f32)
    (v78 : Vec Ideal S256x128 .bf16) (v80 v81 v97 : Vec Ideal S256x128 .f32)
    (h2w : k1_pay142 v59 v60 v61 = (R2 (rowsFrom (cols W 2) (i 1).val))) (h2r : k1_pay143 v76 = (R2 (rs 2))) (h3q : k1_pay144 v78 = (R2 (rowsFrom (cols Q 3) (i 1).val)))
    (h3w : k1_pay147 v80 v81 = (R2 (rowsFrom (cols W 3) (i 1).val))) (h3r : k1_pay148 v97 = (R2 (rs 3)))
    (G10 : BufTy.Contents (Elt Ideal) arg10.view.ty) (G11 : BufTy.Contents (Elt Ideal) arg11.view.ty) (bK bV : ℕ → ℕ → ℝ)
    (hG10 : arg10.view.read (Elt Ideal) G10 = (R2 bK : FVec Ideal S4096x512 .f32))
    (hG11 : arg11.view.read (Elt Ideal) G11 = (R2 bV : FVec Ideal S4096x512 .f32)) (n : ℕ) (hn : n ≤ (i 1).val) :
    ∃ L10 L11, st_k1_t1 (F := Ideal) Variants.none c none i arg2 harg2 arg3 harg3 arg4 harg4 arg5 harg5 arg6 harg6 arg7 harg7 arg8 harg8 arg9 harg9 arg10 harg10 arg11 harg11 arg12 harg12
      (BitVec.ofNat 32 (i 1).val) triL triU laneV (R2 (rowsFrom (cols Q 0) (i 1).val)) (R2 (rowsFrom (cols W 0) (i 1).val)) (R2 (rs 0)) (R2 (rowsFrom (cols Q 1) (i 1).val)) (R2 (rowsFrom (cols W 1) (i 1).val)) (R2 (rs 1)) (R2 (rowsFrom (cols Q 2) (i 1).val)) v59 v60 v61 v71 v76 v78 v80 v81 v97
      (harg3.unread (R2 K : FVec Ideal S4096x512 .bf16)) (harg4.unread (R2 V : FVec Ideal S4096x512 .bf16))
      G10 G11 (pack4b (bwdSt (cols Q 0) (cols K 0) (cols V 0) (cols W 0) (i 1).val 0) (bwdSt (cols Q 1) (cols K 1) (cols V 1) (cols W 1) (i 1).val 0) (bwdSt (cols Q 2) (cols K 2) (cols V 2) (cols W 2) (i 1).val 0) (bwdSt (cols Q 3) (cols K 3) (cols V 3) (cols W 3) (i 1).val 0)) n = ((pack4b (bwdSt (cols Q 0) (cols K 0) (cols V 0) (cols W 0) (i 1).val n) (bwdSt (cols Q 1) (cols K 1) (cols V 1) (cols W 1) (i 1).val n) (bwdSt (cols Q 2) (cols K 2) (cols V 2) (cols W 2) (i 1).val n) (bwdSt (cols Q 3) (cols K 3) (cols V 3) (cols W 3) (i 1).val n)), L10, L11)
      ∧ arg10.view.read (Elt Ideal) (arg10.view.writes (Elt Ideal) G10 L10) = (R2 (accN bK (partK Q K V W (i 1).val) n 0) : FVec Ideal S4096x512 .f32)
      ∧ arg11.view.read (Elt Ideal) (arg11.view.writes (Elt Ideal) G11 L11) = (R2 (accN bV (partV Q K W (i 1).val) n 0) : FVec Ideal S4096x512 .f32) := by
  have h16 : (i 1).val < 16 := (i 1).isLt
  induction n with
  | zero =>
    refine ⟨[], [], ?_, ?_, ?_⟩
    · exact st_k1_t1.eq_1 ..
    · rw [accN_zero]; exact hG10
    · rw [accN_zero]; exact hG11
  | succ n ih =>
    obtain ⟨L10, L11, e, e10, e11⟩ := ih (by omega)
    have hk : n < (k1_t1_loop i).trips := by rw [trips1]; omega
    have hd : Diag false (i 1).val n := Or.inr ⟨rfl, by omega⟩
    have hs := st_k1_t1_succ (F := Ideal) Variants.none c none i arg2 harg2 arg3 harg3 arg4 harg4 arg5 harg5 arg6 harg6 arg7 harg7 arg8 harg8 arg9 harg9 arg10 harg10 arg11 harg11 arg12 harg12
      (BitVec.ofNat 32 (i 1).val) triL triU laneV (R2 (rowsFrom (cols Q 0) (i 1).val)) (R2 (rowsFrom (cols W 0) (i 1).val)) (R2 (rs 0)) (R2 (rowsFrom (cols Q 1) (i 1).val)) (R2 (rowsFrom (cols W 1) (i 1).val)) (R2 (rs 1)) (R2 (rowsFrom (cols Q 2) (i 1).val)) v59 v60 v61 v71 v76 v78 v80 v81 v97
      (harg3.unread (R2 K : FVec Ideal S4096x512 .bf16)) (harg4.unread (R2 V : FVec Ideal S4096x512 .bf16))
      G10 G11 (pack4b (bwdSt (cols Q 0) (cols K 0) (cols V 0) (cols W 0) (i 1).val 0) (bwdSt (cols Q 1) (cols K 1) (cols V 1) (cols W 1) (i 1).val 0) (bwdSt (cols Q 2) (cols K 2) (cols V 2) (cols W 2) (i 1).val 0) (bwdSt (cols Q 3) (cols K 3) (cols V 3) (cols W 3) (i 1).val 0)) ⟨n, hk⟩
    rewrite [show (⟨n, hk⟩ : Fin (k1_t1_loop i).trips).val = n from rfl, e] at hs
    unfold tripR_k1_t1 tripL_k1_t1 at hs
    dsimp only at hs
    rewrite [trip_k1_t1_R, trip_k1_t1_K, trip_k1_t1_V, h2w, h2r, h3q, h3w, h3r, word_loop1 i ⟨n, hk⟩] at hs
    dsimp only at hs
    refine ⟨_, _, hs.trans (congrArg₂ Prod.mk ?_ rfl), ?_, ?_⟩
    · rewrite [stepQ_at Q K V W hd h16 hrs 0 arg3 arg4 harg3 harg4 (k1_off1 i ⟨n, hk⟩) _ (k1_off1_at i ⟨n, hk⟩), stepQ_at Q K V W hd h16 hrs 1 arg3 arg4 harg3 harg4 (k1_off2 i ⟨n, hk⟩) _ (k1_off2_at i ⟨n, hk⟩), stepQ_at Q K V W hd h16 hrs 2 arg3 arg4 harg3 harg4 (k1_off3 i ⟨n, hk⟩) _ (k1_off3_at i ⟨n, hk⟩), stepQ_at Q K V W hd h16 hrs 3 arg3 arg4 harg3 harg4 (k1_off4 i ⟨n, hk⟩) _ (k1_off4_at i ⟨n, hk⟩)]
      rfl
    · rewrite [stepK_at Q K V W hd h16 hrs 0 arg3 arg4 harg3 harg4 arg10 (k1_off1 i ⟨n, hk⟩) _ (k1_off1_at i ⟨n, hk⟩) _ bK 0 (Nat.zero_le _) e10, stepK_at Q K V W hd h16 hrs 1 arg3 arg4 harg3 harg4 arg10 (k1_off2 i ⟨n, hk⟩) _ (k1_off2_at i ⟨n, hk⟩) _ bK 0 (Nat.zero_le _) e10, stepK_at Q K V W hd h16 hrs 2 arg3 arg4 harg3 harg4 arg10 (k1_off3 i ⟨n, hk⟩) _ (k1_off3_at i ⟨n, hk⟩) _ bK 0 (Nat.zero_le _) e10, stepK_at Q K V W hd h16 hrs 3 arg3 arg4 harg3 harg4 arg10 (k1_off4 i ⟨n, hk⟩) _ (k1_off4_at i ⟨n, hk⟩) _ bK 0 (Nat.zero_le _) e10]
      exact read_pieces4 arg10.view G10 L10 bK _ n (fun h => R2 fun r c => bK (256 * n + r) (128 * h + c) + partK Q K V W (i 1).val h (256 * n + r) c)
        _ _ _ _ _ _ _ _ (k1_off1_at i ⟨n, hk⟩) (k1_off2_at i ⟨n, hk⟩) (k1_off3_at i ⟨n, hk⟩) (k1_off4_at i ⟨n, hk⟩) (fun _ => rfl) e10
    · rewrite [stepV_at Q K W hd h16 hrs 0 arg3 harg3 arg11 (k1_off1 i ⟨n, hk⟩) _ (k1_off1_at i ⟨n, hk⟩) _ bV 0 (Nat.zero_le _) e11, stepV_at Q K W hd h16 hrs 1 arg3 harg3 arg11 (k1_off2 i ⟨n, hk⟩) _ (k1_off2_at i ⟨n, hk⟩) _ bV 0 (Nat.zero_le _) e11, stepV_at Q K W hd h16 hrs 2 arg3 harg3 arg11 (k1_off3 i ⟨n, hk⟩) _ (k1_off3_at i ⟨n, hk⟩) _ bV 0 (Nat.zero_le _) e11, stepV_at Q K W hd h16 hrs 3 arg3 harg3 arg11 (k1_off4 i ⟨n, hk⟩) _ (k1_off4_at i ⟨n, hk⟩) _ bV 0 (Nat.zero_le _) e11]
      exact read_pieces4 arg11.view G11 L11 bV _ n (fun h => R2 fun r c => bV (256 * n + r) (128 * h + c) + partV Q K W (i 1).val h (256 * n + r) c)
        _ _ _ _ _ _ _ _ (k1_off1_at i ⟨n, hk⟩) (k1_off2_at i ⟨n, hk⟩) (k1_off3_at i ⟨n, hk⟩) (k1_off4_at i ⟨n, hk⟩) (fun _ => rfl) e11

end Cert.Proof

end
-- ==== Proof.BwdRunA.lean ====
/- The stores of a grid point of the backward kernel, at a group's first point. -/
module

public import proofs.«01_k».proof.Proof.BwdRun

@[expose] public section

noncomputable section

namespace Cert.Proof

open Idealize.ShloMosaic Cert.KernelIdeal Cert.KernelIdeal.Facts₀ Cert.KernelIdeal.Facts Cert.KernelIdeal.Gen

variable {F : FTy → Type} [FloatOps F]

set_option maxRecDepth 65536 in
set_option maxHeartbeats 4000000 in
theorem run1A_eq (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (hc0 : cond1_0 i)
    (x0 : Vec F S256x512 .bf16) (x1 : Vec F S4096x512 .bf16) (x2 : Vec F S4096x512 .bf16) (x3 : Vec F S256x512 .f32) (x4 : Vec F S256x512 .f32) (x5 : Vec F S256x512 .f32) (x6 : Vec F S256x512 .f32) :
    ∃ (S1 S : ((FVec F S256x1 .f32 × FVec F S256x128 .f32 × FVec F S256x1 .f32 × FVec F S256x128 .f32 × FVec F S256x1 .f32 × FVec F S256x128 .f32 × FVec F S256x1 .f32 × FVec F S256x128 .f32) × List (View.Piece (Elt F) S4096x512 .f32) × List (View.Piece (Elt F) S4096x512 .f32))), S1 = loopA c i arg2 harg2 arg3 harg3 arg4 harg4 arg5 harg5 arg6 harg6 arg7 harg7 arg8 harg8 arg9 harg9 arg10 harg10 arg11 harg11 arg12 harg12 x0 x1 x2 x3 x4 x5 x6 (arg10.view.writes (Elt F) arg10.view.junk clear) (arg11.view.writes (Elt F) arg11.view.junk clear) (k1_t1_loop i).trips
      ∧ S = loopB c i arg2 harg2 arg3 harg3 arg4 harg4 arg5 harg5 arg6 harg6 arg7 harg7 arg8 harg8 arg9 harg9 arg10 harg10 arg11 harg11 arg12 harg12 x0 x1 x2 x3 x4 x5 x6 (arg10.view.writes (Elt F) arg10.view.junk (S1.2.1 ++ clear)) (arg11.view.writes (Elt F) arg11.view.junk (S1.2.2 ++ clear)) S1.1 (k1_t2_loop i).trips
      ∧ (kernelRun1_A c i arg2 harg2 arg3 harg3 arg4 harg4 arg5 harg5 arg6 harg6 arg7 harg7 arg8 harg8 arg9 harg9 arg10 harg10 arg11 harg11 arg12 harg12 hc0 x0 x1 x2 x3 x4 x5 x6).1 = outQ i arg2 harg2 arg3 harg3 arg4 harg4 arg5 harg5 arg7 harg7 arg8 harg8 x0 x1 x2 x3 x5 x6 S.1
      ∧ (kernelRun1_A c i arg2 harg2 arg3 harg3 arg4 harg4 arg5 harg5 arg6 harg6 arg7 harg7 arg8 harg8 arg9 harg9 arg10 harg10 arg11 harg11 arg12 harg12 hc0 x0 x1 x2 x3 x4 x5 x6).2.1 = (diagK3 i arg2 harg2 arg3 harg3 arg4 harg4 arg5 harg5 arg7 harg7 arg8 harg8 arg10 x0 x1 x2 x3 x5 x6 arg10.view.junk (S.1.2.2.2.2.2.2.1, S.1.2.2.2.2.2.2.2) (diagK2 i arg2 harg2 arg3 harg3 arg4 harg4 arg5 harg5 arg7 harg7 arg8 harg8 arg10 x0 x1 x2 x3 x5 x6 arg10.view.junk (S.1.2.2.2.2.1, S.1.2.2.2.2.2.1) (diagK1 i arg2 harg2 arg3 harg3 arg4 harg4 arg5 harg5 arg7 harg7 arg8 harg8 arg10 x0 x1 x2 x3 x5 x6 arg10.view.junk (S.1.2.2.1, S.1.2.2.2.1) (diagK0 i arg2 harg2 arg3 harg3 arg4 harg4 arg5 harg5 arg7 harg7 arg8 harg8 arg10 x0 x1 x2 x3 x5 x6 arg10.view.junk (S.1.1, S.1.2.1) (S.2.1 ++ (S1.2.1 ++ clear))))))
      ∧ (kernelRun1_A c i arg2 harg2 arg3 harg3 arg4 harg4 arg5 harg5 arg6 harg6 arg7 harg7 arg8 harg8 arg9 harg9 arg10 harg10 arg11 harg11 arg12 harg12 hc0 x0 x1 x2 x3 x4 x5 x6).2.2.1 = (diagV3 i arg2 harg2 arg3 harg3 arg5 harg5 arg7 harg7 arg8 harg8 arg11 x0 x1 x3 x5 x6 arg11.view.junk (diagV2 i arg2 harg2 arg3 harg3 arg5 harg5 arg7 harg7 arg8 harg8 arg11 x0 x1 x3 x5 x6 arg11.view.junk (diagV1 i arg2 harg2 arg3 harg3 arg5 harg5 arg7 harg7 arg8 harg8 arg11 x0 x1 x3 x5 x6 arg11.view.junk (diagV0 i arg2 harg2 arg3 harg3 arg5 harg5 arg7 harg7 arg8 harg8 arg11 x0 x1 x3 x5 x6 arg11.view.junk (S.2.2 ++ (S1.2.2 ++ clear))))))
      ∧ (kernelRun1_A c i arg2 harg2 arg3 harg3 arg4 harg4 arg5 harg5 arg6 harg6 arg7 harg7 arg8 harg8 arg9 harg9 arg10 harg10 arg11 harg11 arg12 harg12 hc0 x0 x1 x2 x3 x4 x5 x6).2.2.2.1 = outZ arg5 harg5 arg6 harg6 arg7 harg7 x3 x4 x5 := by
  unfold kernelRun1_A
  refine ⟨?_, ?_, ?e1, ?e2, ?h1, ?h2, ?h3, ?h4⟩
  case h1 => rfl
  case h2 => rfl
  case h3 => rfl
  case h4 => rfl
  case e2 => rfl
  case e1 => rfl

end Cert.Proof

end
-- ==== Proof.BwdRunB.lean ====
/- The stores of a grid point of the backward kernel, at a group's later points. -/
module

public import proofs.«01_k».proof.Proof.BwdRun

@[expose] public section

noncomputable section

namespace Cert.Proof

open Idealize.ShloMosaic Cert.KernelIdeal Cert.KernelIdeal.Facts₀ Cert.KernelIdeal.Facts Cert.KernelIdeal.Gen

variable {F : FTy → Type} [FloatOps F]

set_option maxRecDepth 65536 in
set_option maxHeartbeats 4000000 in
theorem run1B_eq (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (hc0 : ¬cond1_0 i)
    (x0 : Vec F S256x512 .bf16) (x1 : Vec F S4096x512 .bf16) (x2 : Vec F S4096x512 .bf16) (x3 : Vec F S256x512 .f32) (x4 : Vec F S256x512 .f32) (x5 : Vec F S256x512 .f32) (x6 : Vec F S256x512 .f32) (xo8 : Vec F S4096x512 .f32) (xo9 : Vec F S4096x512 .f32) :
    ∃ (S1 S : ((FVec F S256x1 .f32 × FVec F S256x128 .f32 × FVec F S256x1 .f32 × FVec F S256x128 .f32 × FVec F S256x1 .f32 × FVec F S256x128 .f32 × FVec F S256x1 .f32 × FVec F S256x128 .f32) × List (View.Piece (Elt F) S4096x512 .f32) × List (View.Piece (Elt F) S4096x512 .f32))), S1 = loopA c i arg2 harg2 arg3 harg3 arg4 harg4 arg5 harg5 arg6 harg6 arg7 harg7 arg8 harg8 arg9 harg9 arg10 harg10 arg11 harg11 arg12 harg12 x0 x1 x2 x3 x4 x5 x6 (harg10.unread xo8) (harg11.unread xo9) (k1_t1_loop i).trips
      ∧ S = loopB c i arg2 harg2 arg3 harg3 arg4 harg4 arg5 harg5 arg6 harg6 arg7 harg7 arg8 harg8 arg9 harg9 arg10 harg10 arg11 harg11 arg12 harg12 x0 x1 x2 x3 x4 x5 x6 (arg10.view.writes (Elt F) (harg10.unread xo8) S1.2.1) (arg11.view.writes (Elt F) (harg11.unread xo9) S1.2.2) S1.1 (k1_t2_loop i).trips
      ∧ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 xo8 xo9).1 = outQ i arg2 harg2 arg3 harg3 arg4 harg4 arg5 harg5 arg7 harg7 arg8 harg8 x0 x1 x2 x3 x5 x6 S.1
      ∧ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 xo8 xo9).2.1 = (diagK3 i arg2 harg2 arg3 harg3 arg4 harg4 arg5 harg5 arg7 harg7 arg8 harg8 arg10 x0 x1 x2 x3 x5 x6 (harg10.unread xo8) (S.1.2.2.2.2.2.2.1, S.1.2.2.2.2.2.2.2) (diagK2 i arg2 harg2 arg3 harg3 arg4 harg4 arg5 harg5 arg7 harg7 arg8 harg8 arg10 x0 x1 x2 x3 x5 x6 (harg10.unread xo8) (S.1.2.2.2.2.1, S.1.2.2.2.2.2.1) (diagK1 i arg2 harg2 arg3 harg3 arg4 harg4 arg5 harg5 arg7 harg7 arg8 harg8 arg10 x0 x1 x2 x3 x5 x6 (harg10.unread xo8) (S.1.2.2.1, S.1.2.2.2.1) (diagK0 i arg2 harg2 arg3 harg3 arg4 harg4 arg5 harg5 arg7 harg7 arg8 harg8 arg10 x0 x1 x2 x3 x5 x6 (harg10.unread xo8) (S.1.1, S.1.2.1) (S.2.1 ++ S1.2.1)))))
      ∧ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 xo8 xo9).2.2.1 = (diagV3 i arg2 harg2 arg3 harg3 arg5 harg5 arg7 harg7 arg8 harg8 arg11 x0 x1 x3 x5 x6 (harg11.unread xo9) (diagV2 i arg2 harg2 arg3 harg3 arg5 harg5 arg7 harg7 arg8 harg8 arg11 x0 x1 x3 x5 x6 (harg11.unread xo9) (diagV1 i arg2 harg2 arg3 harg3 arg5 harg5 arg7 harg7 arg8 harg8 arg11 x0 x1 x3 x5 x6 (harg11.unread xo9) (diagV0 i arg2 harg2 arg3 harg3 arg5 harg5 arg7 harg7 arg8 harg8 arg11 x0 x1 x3 x5 x6 (harg11.unread xo9) (S.2.2 ++ S1.2.2)))))
      ∧ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 xo8 xo9).2.2.2.1 = outZ arg5 harg5 arg6 harg6 arg7 harg7 x3 x4 x5 := by
  unfold kernelRun1_B
  refine ⟨?_, ?_, ?e1, ?e2, ?h1, ?h2, ?h3, ?h4⟩
  case h1 => rfl
  case h2 => rfl
  case h3 => rfl
  case h4 => rfl
  case e2 => rfl
  case e1 => rfl

end Cert.Proof

end
-- ==== Proof.BwdOut.lean ====
/- What the backward kernel's grid point leaves in its output blocks, from real blocks. -/
module

public import proofs.«01_k».proof.Proof.BwdPoint
public import proofs.«01_k».proof.Proof.BwdRunA
public import proofs.«01_k».proof.Proof.BwdRunB

@[expose] public section

noncomputable section

namespace Cert.Proof

open Idealize.ShloMosaic Idealize.ShloMosaic.Pointwise Cert.KernelIdeal Cert.KernelIdeal.Gen Finset

/-- The factor of the queries, as the kernel and the reference write it. -/
def scaleC : ℝ := (Scalar.ofBits (F := Ideal) .f32 0x3DB504F3#32 : EReal).toReal

theorem scaleC_coe : (Scalar.ofBits (F := Ideal) .f32 0x3DB504F3#32 : EReal) = ((scaleC : ℝ) : EReal) := by
  refine (EReal.coe_toReal ?_ ?_).symm
  · show Ideal.ofBits .f32 0x3DB504F3#32 ≠ ⊤
    simp only [Ideal.ofBits, Ideal.ieee]
    rw [if_neg (by decide), if_neg (by decide)]
    exact EReal.coe_ne_top _
  · show Ideal.ofBits .f32 0x3DB504F3#32 ≠ ⊥
    simp only [Ideal.ofBits, Ideal.ieee]
    rw [if_neg (by decide), if_neg (by decide)]
    exact EReal.coe_ne_bot _

/-- The gradient of the attention's output, from the gate and the gradient of the gated output. -/
abbrev gateGrad (Z Y : ℕ → ℕ → ℝ) : ℕ → ℕ → ℝ := fun t c => Y t c * (Z t c * sigm (Z t c))

/-- The gradient of the gate. -/
abbrev gateZ (Z Y At : ℕ → ℕ → ℝ) : ℕ → ℕ → ℝ := fun t c =>
  Y t c * At t c * (sigm (Z t c) * (1 + Z t c * (1 - sigm (Z t c))))

theorem gradO_R2 (z y : ℕ → ℕ → ℝ) : gradO (F := Ideal) (R2 z) (R2 y) = R2 (gateGrad z y) := by
  unfold gradO
  funext x
  idx_vars x
  pointwise [R2_ix2, Ideal.logistic_coe]
  rw [EReal.coe_mul, EReal.coe_mul]
  rfl

theorem asSums_R2 (f : ℕ → ℕ → ℝ) : asSums (F := Ideal) (R2 f) = R2 f := by
  unfold asSums
  funext y
  idx_vars y
  pointwise

theorem gradZb_R2 (z y a : ℕ → ℕ → ℝ) : gradZb (F := Ideal) (R2 z) (R2 y) (R2 a) = R2 (gateZ z y a) := by
  unfold gradZb
  funext x
  idx_vars x
  pointwise [R2_ix2, Ideal.logistic_coe]
  unfold gateZ
  rw [EReal.coe_mul, EReal.coe_mul, EReal.coe_mul, EReal.coe_add, EReal.coe_mul, EReal.coe_sub]
  rfl

theorem scaled_R2 (f : ℕ → ℕ → ℝ) : scaled (F := Ideal) (R2 f) = R2 fun r c => f r c * scaleC := by
  unfold scaled
  funext x
  idx_vars x
  pointwise [R2_ix2]
  rw [EReal.coe_mul]
  exact congrArg _ scaleC_coe

/-- The saved running sums of a head's rows of block `i`. -/
def savedRows (Q K : ℕ → ℕ → ℝ) (i n : ℕ) : ℕ → ℕ → ℝ := fun r c =>
  if c ≤ i then tailL (cols Q n) (cols K n) (256 * i + r) (256 * (c + 1)) else 0

/-- The saved running sums of a group's heads. -/
def savedBlock (Q K : ℕ → ℕ → ℝ) (i : ℕ) : FVec Ideal S256x512 .f32 :=
  R2 fun r c => savedRows Q K i (c / 128) r (c % 128)

theorem saved_rows (Q K : ℕ → ℕ → ℝ) (i : ℕ) : Saved Q K i (savedRows Q K i) := fun n r j h => if_pos h

theorem tileS (M : Memref sig .tc .vmem S256x512 .f32) (hM : M.IsWhole) (Q K : ℕ → ℕ → ℝ) (i : ℕ)
    (off : Fin 2 → Nat) (inb : ∀ a, off a + S256x128.size a ≤ S256x512.size a) (n : ℕ) (ho : off = ![0, 128 * n]) :
    tile (F := Ideal) M (hM.unread (savedBlock Q K i)) off inb = (R2 (savedRows Q K i n) : FVec Ideal S256x128 .f32) := by
  unfold savedBlock
  rw [tile_f32 M hM _ _ _ _ _ ho]
  refine R2_congr fun r _ c hc => ?_
  rw [Nat.zero_add, show (128 * n + c) / 128 = n by omega, show (128 * n + c) % 128 = c by omega]

theorem read_clear {κ : Kind} {sp : Space} (v : View sig κ sp S4096x512 .f32) (f0 : v.ty.Contents (Elt Ideal)) :
    v.read (Elt Ideal) (v.writes (Elt Ideal) f0 (clear (F := Ideal))) = (R2 fun _ _ => 0 : FVec Ideal S4096x512 .f32) := by
  funext y
  have h : v.read (Elt Ideal) (v.writes (Elt Ideal) f0 (clear (F := Ideal))) y
      = (broadcast S4096x512 (Scalar.ofBits (F := Ideal) .f32 0x00000000#32) : FVec Ideal S4096x512 .f32) y :=
    View.read_writes_cons_unit_of_mem v f0 _ _ [] y y rfl fun c => by fin_cases c <;> exact (Nat.zero_add _).symm
  rw [h, zero_R2]

section
variable (Q K V Z At Y : ℕ → ℕ → ℝ) (i : grid1.Coords)
  (arg2 : Memref sig .tc .vmem S256x512 .bf16) (harg2 : arg2.IsWhole) (arg5 arg7 arg8 : Memref sig .tc .vmem S256x512 .f32)
  (harg5 : arg5.IsWhole) (harg7 : arg7.IsWhole) (harg8 : arg8.IsWhole) (off : Fin 2 → Nat)
  (inb : ∀ a, off a + S256x128.size a ≤ S256x512.size a) (n : ℕ) (ho : off = ![0, 128 * n])
include ho

theorem rows_at : asRows (F := Ideal) (tile (F := Ideal) arg2 (harg2.unread (R2 (rowsFrom Q (i 1).val) : FVec Ideal S256x512 .bf16)) off inb) = R2 (rowsFrom (cols Q n) (i 1).val) := by
  rw [tileQ arg2 harg2 Q _ off inb n ho, asRows_R2]

theorem gradO_at : gradO (F := Ideal) (tile (F := Ideal) arg5 (harg5.unread (R2 (rowsFrom Z (i 1).val) : FVec Ideal S256x512 .f32)) off inb) (tile (F := Ideal) arg7 (harg7.unread (R2 (rowsFrom Y (i 1).val) : FVec Ideal S256x512 .f32)) off inb)
    = R2 (rowsFrom (cols (gateGrad Z Y) n) (i 1).val) := by
  rw [tileZ arg5 harg5 Z _ off inb n ho, tileZ arg7 harg7 Y _ off inb n ho, gradO_R2]

theorem sums_at : asSums (F := Ideal) (tile (F := Ideal) arg8 (harg8.unread (savedBlock Q K (i 1).val)) off inb) = R2 (savedRows Q K (i 1).val n) := by
  rw [tileS arg8 harg8 Q K _ off inb n ho, asSums_R2]

theorem gradZb_at (arg6 : Memref sig .tc .vmem S256x512 .f32) (harg6 : arg6.IsWhole) :
    gradZb (F := Ideal) (tile (F := Ideal) arg5 (harg5.unread (R2 (rowsFrom Z (i 1).val) : FVec Ideal S256x512 .f32)) off inb) (tile (F := Ideal) arg7 (harg7.unread (R2 (rowsFrom Y (i 1).val) : FVec Ideal S256x512 .f32)) off inb)
      (tile (F := Ideal) arg6 (harg6.unread (R2 (rowsFrom At (i 1).val) : FVec Ideal S256x512 .f32)) off inb) = R2 (rowsFrom (cols (gateZ Z Y At) n) (i 1).val) := by
  rw [tileZ arg5 harg5 Z _ off inb n ho, tileZ arg7 harg7 Y _ off inb n ho, tileZ arg6 harg6 At _ off inb n ho, gradZb_R2]

end

section
variable (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole)
  (Q K V Z At Y : ℕ → ℕ → ℝ)

theorem outQ_at (v : View sig .tc .vmem S256x512 .f32) (f0 : v.ty.Contents (Elt Ideal)) :
    v.read (Elt Ideal) (v.writes (Elt Ideal) f0 (outQ (F := Ideal) i arg2 harg2 arg3 harg3 arg4 harg4 arg5 harg5 arg7 harg7 arg8 harg8 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) (pack4b (bwdSt (cols Q 0) (cols K 0) (cols V 0) (cols (gateGrad Z Y) 0) (i 1).val (i 1).val) (bwdSt (cols Q 1) (cols K 1) (cols V 1) (cols (gateGrad Z Y) 1) (i 1).val (i 1).val) (bwdSt (cols Q 2) (cols K 2) (cols V 2) (cols (gateGrad Z Y) 2) (i 1).val (i 1).val) (bwdSt (cols Q 3) (cols K 3) (cols V 3) (cols (gateGrad Z Y) 3) (i 1).val (i 1).val))))
      = (R2 fun r c => (∑ s ∈ range (256 * ((i 1).val + 1)), gradZ (cols Q (c / 128)) (cols K (c / 128)) (cols V (c / 128)) (cols (gateGrad Z Y) (c / 128))
          (256 * (i 1).val + r) s * cols K (c / 128) s (c % 128)) * scaleC : FVec Ideal S256x512 .f32) := by
  have h16 : (i 1).val < 16 := (i 1).isLt
  unfold outQ
  rewrite [rows_at Q i arg2 harg2 _ _ 0 rfl, gradO_at Z Y i arg5 arg7 harg5 harg7 _ _ 0 rfl, sums_at Q K i arg8 harg8 _ _ 0 rfl, rows_at Q i arg2 harg2 _ _ 1 rfl, gradO_at Z Y i arg5 arg7 harg5 harg7 _ _ 1 rfl, sums_at Q K i arg8 harg8 _ _ 1 rfl, rows_at Q i arg2 harg2 _ _ 2 rfl, gradO_at Z Y i arg5 arg7 harg5 harg7 _ _ 2 rfl, sums_at Q K i arg8 harg8 _ _ 2 rfl, rows_at Q i arg2 harg2 _ _ 3 rfl, gradO_at Z Y i arg5 arg7 harg5 harg7 _ _ 3 rfl, sums_at Q K i arg8 harg8 _ _ 3 rfl]
  dsimp only [pack4b]
  have hq (n : ℕ) off inb (ho : off = ![256 * (i 1).val, 128 * n]) :=
    congrArg (fun S : BCarry Ideal => scaled S.2) (stepQ_at Q K V (gateGrad Z Y) (Or.inl ⟨rfl, rfl⟩ : Diag true (i 1).val (i 1).val) h16 (saved_rows Q K (i 1).val) n arg3 arg4 harg3 harg4 off inb ho)
  dsimp only at hq
  rewrite [hq 0 _ _ (k1_off9_at i), hq 1 _ _ (k1_off10_at i), hq 2 _ _ (k1_off11_at i), hq 3 _ _ (k1_off12_at i)]
  unfold bwdSt
  dsimp only
  rewrite [scaled_R2, scaled_R2, scaled_R2, scaled_R2]
  exact read_cols4_f32 v f0 fun h r d => (∑ s ∈ range (256 * ((i 1).val + 1)), gradZ (cols Q h) (cols K h) (cols V h) (cols (gateGrad Z Y) h)
          (256 * (i 1).val + r) s * cols K h s d) * scaleC

theorem outZ_at (v : View sig .tc .vmem S256x512 .f32) (f0 : v.ty.Contents (Elt Ideal)) :
    v.read (Elt Ideal) (v.writes (Elt Ideal) f0 (outZ (F := Ideal) arg5 harg5 arg6 harg6 arg7 harg7 (R2 (rowsFrom Z (i 1).val) : FVec Ideal S256x512 .f32) (R2 (rowsFrom At (i 1).val) : FVec Ideal S256x512 .f32) (R2 (rowsFrom Y (i 1).val) : FVec Ideal S256x512 .f32)))
      = (R2 (rowsFrom (gateZ Z Y At) (i 1).val) : FVec Ideal S256x512 .f32) := by
  unfold outZ
  rewrite [gradZb_at Z At Y i arg5 arg7 harg5 harg7 _ _ 0 rfl arg6 harg6, gradZb_at Z At Y i arg5 arg7 harg5 harg7 _ _ 1 rfl arg6 harg6, gradZb_at Z At Y i arg5 arg7 harg5 harg7 _ _ 2 rfl arg6 harg6, gradZb_at Z At Y i arg5 arg7 harg5 harg7 _ _ 3 rfl arg6 harg6]
  refine (read_cols4_f32 v f0 fun h => rowsFrom (cols (gateZ Z Y At) h) (i 1).val).trans (R2_congr fun r _ c _ => ?_)
  unfold rowsFrom cols
  rw [Nat.div_add_mod]

theorem diagK_read (J : BufTy.Contents (Elt Ideal) arg10.view.ty) (M0 : List (View.Piece (Elt Ideal) S4096x512 .f32)) (base : ℕ → ℕ → ℝ)
    (h0 : arg10.view.read (Elt Ideal) (arg10.view.writes (Elt Ideal) J M0) = (R2 (accN base (partK Q K V (gateGrad Z Y) (i 1).val) (i 1).val 0) : FVec Ideal S4096x512 .f32)) :
    arg10.view.read (Elt Ideal) (arg10.view.writes (Elt Ideal) J (diagK3 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 3) (cols K 3) (cols V 3) (cols (gateGrad Z Y) 3) (i 1).val (i 1).val) (diagK2 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 2) (cols K 2) (cols V 2) (cols (gateGrad Z Y) 2) (i 1).val (i 1).val) (diagK1 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 1) (cols K 1) (cols V 1) (cols (gateGrad Z Y) 1) (i 1).val (i 1).val) (diagK0 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 0) (cols K 0) (cols V 0) (cols (gateGrad Z Y) 0) (i 1).val (i 1).val) M0)))))
      = (R2 (accN base (partK Q K V (gateGrad Z Y) (i 1).val) ((i 1).val + 1) 0) : FVec Ideal S4096x512 .f32) := by
  have h16 : (i 1).val < 16 := (i 1).isLt
  have hd : Diag true (i 1).val (i 1).val := Or.inl ⟨rfl, rfl⟩
  rewrite [← accN_four]
  have h1 : arg10.view.read (Elt Ideal) (arg10.view.writes (Elt Ideal) J (diagK0 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 0) (cols K 0) (cols V 0) (cols (gateGrad Z Y) 0) (i 1).val (i 1).val) M0))
      = (R2 (accN base (partK Q K V (gateGrad Z Y) (i 1).val) (i 1).val 1) : FVec Ideal S4096x512 .f32) :=
    read_accN arg10.view J _ base (partK Q K V (gateGrad Z Y) (i 1).val) (i 1).val 0 (by norm_num) _ _ _ (k1_off9_at i) (by rewrite [rows_at Q i arg2 harg2 _ _ 0 rfl, gradO_at Z Y i arg5 arg7 harg5 harg7 _ _ 0 rfl, sums_at Q K i arg8 harg8 _ _ 0 rfl]; exact stepK_at Q K V (gateGrad Z Y) hd h16 (saved_rows Q K (i 1).val) 0 arg3 arg4 harg3 harg4 arg10 _ _ (k1_off9_at i) _ base 0 le_rfl h0) h0
  have h2 : arg10.view.read (Elt Ideal) (arg10.view.writes (Elt Ideal) J (diagK1 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 1) (cols K 1) (cols V 1) (cols (gateGrad Z Y) 1) (i 1).val (i 1).val) (diagK0 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 0) (cols K 0) (cols V 0) (cols (gateGrad Z Y) 0) (i 1).val (i 1).val) M0)))
      = (R2 (accN base (partK Q K V (gateGrad Z Y) (i 1).val) (i 1).val 2) : FVec Ideal S4096x512 .f32) :=
    read_accN arg10.view J _ base (partK Q K V (gateGrad Z Y) (i 1).val) (i 1).val 1 (by norm_num) _ _ _ (k1_off10_at i) (by rewrite [rows_at Q i arg2 harg2 _ _ 1 rfl, gradO_at Z Y i arg5 arg7 harg5 harg7 _ _ 1 rfl, sums_at Q K i arg8 harg8 _ _ 1 rfl]; exact stepK_at Q K V (gateGrad Z Y) hd h16 (saved_rows Q K (i 1).val) 1 arg3 arg4 harg3 harg4 arg10 _ _ (k1_off10_at i) _ base 1 le_rfl h1) h1
  have h3 : arg10.view.read (Elt Ideal) (arg10.view.writes (Elt Ideal) J (diagK2 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 2) (cols K 2) (cols V 2) (cols (gateGrad Z Y) 2) (i 1).val (i 1).val) (diagK1 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 1) (cols K 1) (cols V 1) (cols (gateGrad Z Y) 1) (i 1).val (i 1).val) (diagK0 (F := Ideal) i arg2 harg2 arg3 harg3 arg4 harg4 arg5 harg5 arg7 harg7 arg8 harg8 arg10 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom Y (i 1).val) : FVec Ideal S256x512 .f32) (savedBlock Q K (i 1).val) J (bwdSt (cols Q 0) (cols K 0) (cols V 0) (cols (gateGrad Z Y) 0) (i 1).val (i 1).val) M0))))
      = (R2 (accN base (partK Q K V (gateGrad Z Y) (i 1).val) (i 1).val 3) : FVec Ideal S4096x512 .f32) :=
    read_accN arg10.view J _ base (partK Q K V (gateGrad Z Y) (i 1).val) (i 1).val 2 (by norm_num) _ _ _ (k1_off11_at i) (by rewrite [rows_at Q i arg2 harg2 _ _ 2 rfl, gradO_at Z Y i arg5 arg7 harg5 harg7 _ _ 2 rfl, sums_at Q K i arg8 harg8 _ _ 2 rfl]; exact stepK_at Q K V (gateGrad Z Y) hd h16 (saved_rows Q K (i 1).val) 2 arg3 arg4 harg3 harg4 arg10 _ _ (k1_off11_at i) _ base 2 le_rfl h2) h2
  exact read_accN arg10.view J _ base (partK Q K V (gateGrad Z Y) (i 1).val) (i 1).val 3 (by norm_num) _ _ _ (k1_off12_at i) (by rewrite [rows_at Q i arg2 harg2 _ _ 3 rfl, gradO_at Z Y i arg5 arg7 harg5 harg7 _ _ 3 rfl, sums_at Q K i arg8 harg8 _ _ 3 rfl]; exact stepK_at Q K V (gateGrad Z Y) hd h16 (saved_rows Q K (i 1).val) 3 arg3 arg4 harg3 harg4 arg10 _ _ (k1_off12_at i) _ base 3 le_rfl h3) h3

theorem diagV_read (J : BufTy.Contents (Elt Ideal) arg11.view.ty) (M0 : List (View.Piece (Elt Ideal) S4096x512 .f32)) (base : ℕ → ℕ → ℝ)
    (h0 : arg11.view.read (Elt Ideal) (arg11.view.writes (Elt Ideal) J M0) = (R2 (accN base (partV Q K (gateGrad Z Y) (i 1).val) (i 1).val 0) : FVec Ideal S4096x512 .f32)) :
    arg11.view.read (Elt Ideal) (arg11.view.writes (Elt Ideal) J (diagV3 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  (diagV2 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  (diagV1 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  (diagV0 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  M0)))))
      = (R2 (accN base (partV Q K (gateGrad Z Y) (i 1).val) ((i 1).val + 1) 0) : FVec Ideal S4096x512 .f32) := by
  have h16 : (i 1).val < 16 := (i 1).isLt
  have hd : Diag true (i 1).val (i 1).val := Or.inl ⟨rfl, rfl⟩
  rewrite [← accN_four]
  have h1 : arg11.view.read (Elt Ideal) (arg11.view.writes (Elt Ideal) J (diagV0 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  M0))
      = (R2 (accN base (partV Q K (gateGrad Z Y) (i 1).val) (i 1).val 1) : FVec Ideal S4096x512 .f32) :=
    read_accN arg11.view J _ base (partV Q K (gateGrad Z Y) (i 1).val) (i 1).val 0 (by norm_num) _ _ _ (k1_off9_at i) (by rewrite [rows_at Q i arg2 harg2 _ _ 0 rfl, gradO_at Z Y i arg5 arg7 harg5 harg7 _ _ 0 rfl, sums_at Q K i arg8 harg8 _ _ 0 rfl]; exact stepV_at Q K (gateGrad Z Y) hd h16 (saved_rows Q K (i 1).val) 0 arg3 harg3 arg11 _ _ (k1_off9_at i) _ base 0 le_rfl h0) h0
  have h2 : arg11.view.read (Elt Ideal) (arg11.view.writes (Elt Ideal) J (diagV1 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  (diagV0 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  M0)))
      = (R2 (accN base (partV Q K (gateGrad Z Y) (i 1).val) (i 1).val 2) : FVec Ideal S4096x512 .f32) :=
    read_accN arg11.view J _ base (partV Q K (gateGrad Z Y) (i 1).val) (i 1).val 1 (by norm_num) _ _ _ (k1_off10_at i) (by rewrite [rows_at Q i arg2 harg2 _ _ 1 rfl, gradO_at Z Y i arg5 arg7 harg5 harg7 _ _ 1 rfl, sums_at Q K i arg8 harg8 _ _ 1 rfl]; exact stepV_at Q K (gateGrad Z Y) hd h16 (saved_rows Q K (i 1).val) 1 arg3 harg3 arg11 _ _ (k1_off10_at i) _ base 1 le_rfl h1) h1
  have h3 : arg11.view.read (Elt Ideal) (arg11.view.writes (Elt Ideal) J (diagV2 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  (diagV1 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  (diagV0 (F := Ideal) i arg2 harg2 arg3 harg3 arg5 harg5 arg7 harg7 arg8 harg8 arg11 (R2 (rowsFrom Q (i 1).val) : FVec Ideal S256x512 .bf16) (R2 K : FVec Ideal S4096x512 .bf16) (R2 (rowsFrom Z (i 1).val) : FVec Ideal S256x512 .f32) (R2 (rowsFrom Y (i 1).val) : FVec Ideal S256x512 .f32) (savedBlock Q K (i 1).val) J  M0))))
      = (R2 (accN base (partV Q K (gateGrad Z Y) (i 1).val) (i 1).val 3) : FVec Ideal S4096x512 .f32) :=
    read_accN arg11.view J _ base (partV Q K (gateGrad Z Y) (i 1).val) (i 1).val 2 (by norm_num) _ _ _ (k1_off11_at i) (by rewrite [rows_at Q i arg2 harg2 _ _ 2 rfl, gradO_at Z Y i arg5 arg7 harg5 harg7 _ _ 2 rfl, sums_at Q K i arg8 harg8 _ _ 2 rfl]; exact stepV_at Q K (gateGrad Z Y) hd h16 (saved_rows Q K (i 1).val) 2 arg3 harg3 arg11 _ _ (k1_off11_at i) _ base 2 le_rfl h2) h2
  exact read_accN arg11.view J _ base (partV Q K (gateGrad Z Y) (i 1).val) (i 1).val 3 (by norm_num) _ _ _ (k1_off12_at i) (by rewrite [rows_at Q i arg2 harg2 _ _ 3 rfl, gradO_at Z Y i arg5 arg7 harg5 harg7 _ _ 3 rfl, sums_at Q K i arg8 harg8 _ _ 3 rfl]; exact stepV_at Q K (gateGrad Z Y) hd h16 (saved_rows Q K (i 1).val) 3 arg3 harg3 arg11 _ _ (k1_off12_at i) _ base 3 le_rfl h3) h3

end

end Cert.Proof

end
-- ==== Proof.BwdR2.lean ====
/- The backward kernel's grid point from real blocks: the two cases of a group's points. -/
module

public import proofs.«01_k».proof.Proof.BwdOut

@[expose] public section

noncomputable section

namespace Cert.Proof

open Idealize.ShloMosaic Idealize.ShloMosaic.Pointwise Cert.KernelIdeal Cert.KernelIdeal.Gen Finset

section
variable (Q K V W : ℕ → ℕ → ℝ)

/-- The keys' gradient after the rows of the blocks before `i`. -/
def accK (i : ℕ) : ℕ → ℕ → ℝ := fun s c =>
  ∑ t ∈ range (256 * i), gradZ (cols Q (c / 128)) (cols K (c / 128)) (cols V (c / 128)) (cols W (c / 128)) t s
    * cols Q (c / 128) t (c % 128)

/-- The values' gradient after the rows of the blocks before `i`. -/
def accV (i : ℕ) : ℕ → ℕ → ℝ := fun s c =>
  ∑ t ∈ range (256 * i), attA (cols Q (c / 128)) (cols K (c / 128)) t s * cols W (c / 128) t (c % 128)

/-- The queries' gradient. -/
def gradQ (t c : ℕ) : ℝ :=
  (∑ s ∈ range 4096, gradZ (cols Q (c / 128)) (cols K (c / 128)) (cols V (c / 128)) (cols W (c / 128)) t s
    * cols K (c / 128) s (c % 128)) * scaleC

theorem bwd_start (q k v w : ℕ → ℕ → ℝ) (i : ℕ) : (carry0 : BCarry Ideal) = bwdSt q k v w i 0 := by
  unfold carry0 bwdSt zero1 zeroD
  rw [zero_R2, zero_R2]
  rfl

theorem accK_zero : accK Q K V W 0 = fun _ _ => 0 := rfl

theorem accV_zero : accV Q K W 0 = fun _ _ => 0 := rfl

theorem accK_succ (i : ℕ) : accN (accK Q K V W i) (partK Q K V W i) (i + 1) 0 = accK Q K V W (i + 1) := by
  funext s c
  unfold accN
  rw [accK, accK, show 256 * (i + 1) = 256 * i + 256 by ring, sum_range_add]
  refine congrArg (_ + ·) ?_
  split
  · rfl
  · refine (sum_eq_zero fun r hr => ?_).symm
    have := mem_range.mp hr
    rw [gradZ, if_neg (by omega), zero_mul]

theorem accV_succ (i : ℕ) : accN (accV Q K W i) (partV Q K W i) (i + 1) 0 = accV Q K W (i + 1) := by
  funext s c
  unfold accN
  rw [accV, accV, show 256 * (i + 1) = 256 * i + 256 by ring, sum_range_add]
  refine congrArg (_ + ·) ?_
  split
  · rfl
  · refine (sum_eq_zero fun r hr => ?_).symm
    have := mem_range.mp hr
    rw [attA, if_neg (by omega), zero_mul]

theorem gradQ_block (i r c : ℕ) (hi : i < 16) (hr : r < 256) :
    (∑ s ∈ range (256 * (i + 1)), gradZ (cols Q (c / 128)) (cols K (c / 128)) (cols V (c / 128)) (cols W (c / 128)) (256 * i + r) s
      * cols K (c / 128) s (c % 128)) * scaleC = gradQ Q K V W (256 * i + r) c := by
  unfold gradQ
  refine congrArg (· * scaleC) (sum_subset (range_mono (by omega)) fun s _ hs => ?_)
  have hs' : ¬s < 256 * i + r := fun h => hs (mem_range.mpr (by omega))
  rw [gradZ, if_neg hs', zero_mul]

end

attribute [local irreducible] st_k1_t1 st_k1_t2 kernelRun1_A kernelRun1_B

set_option maxHeartbeats 1000000 in
theorem run1A_R2 (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (hc0 : cond1_0 i) (h0 : (i 1).val = 0)
    (Q K V Z At Y : ℕ → ℕ → ℝ) :
    out1_A_7 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val)
      = (R2 (rowsFrom (gradQ Q K V (gateGrad Z Y)) (i 1).val) : FVec Ideal S256x512 .f32)
    ∧ out1_A_8 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val)
      = (R2 (accK Q K V (gateGrad Z Y) ((i 1).val + 1)) : FVec Ideal S4096x512 .f32)
    ∧ out1_A_9 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val)
      = (R2 (accV Q K (gateGrad Z Y) ((i 1).val + 1)) : FVec Ideal S4096x512 .f32)
    ∧ out1_A_10 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val)
      = (R2 (rowsFrom (gateZ Z Y At) (i 1).val) : FVec Ideal S256x512 .f32) := by
  have h16 : (i 1).val < 16 := (i 1).isLt
  obtain ⟨S1, S, h1, h2, e7, e8, e9, e10⟩ := run1A_eq (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val)
  unfold loopA at h1
  unfold loopB at h2
  rewrite [trips1] at h1
  rewrite [trips1', st_k1_t2.eq_1] at h2
  rewrite [rows_at Q i arg2 harg2 _ _ 0 rfl, rows_at Q i arg2 harg2 _ _ 1 rfl, rows_at Q i arg2 harg2 _ _ 2 rfl, gradO_at Z Y i arg5 arg7 harg5 harg7 _ _ 0 rfl, sums_at Q K i arg8 harg8 _ _ 0 rfl, gradO_at Z Y i arg5 arg7 harg5 harg7 _ _ 1 rfl, sums_at Q K i arg8 harg8 _ _ 1 rfl] at h1
  obtain ⟨L10, L11, e, r10, r11⟩ := st1_eq c i arg2 harg2 arg3 harg3 arg4 harg4 arg5 harg5 arg6 harg6 arg7 harg7 arg8 harg8 arg9 harg9 arg10 harg10 arg11 harg11 arg12 harg12 Q K V (gateGrad Z Y) (savedRows Q K (i 1).val) (saved_rows Q K (i 1).val)
      (tile (F := Ideal) arg5 (harg5.unread (R2 (rowsFrom Z (i 1).val) : FVec Ideal S256x512 .f32)) ![0, 256] Gen.inb_S256x512_S256x128_0_256) (tile (F := Ideal) arg7 (harg7.unread (R2 (rowsFrom Y (i 1).val) : FVec Ideal S256x512 .f32)) ![0, 256] Gen.inb_S256x512_S256x128_0_256) (logistic (tile (F := Ideal) arg5 (harg5.unread (R2 (rowsFrom Z (i 1).val) : FVec Ideal S256x512 .f32)) ![0, 256] Gen.inb_S256x512_S256x128_0_256)) (gradZb (tile (F := Ideal) arg5 (harg5.unread (R2 (rowsFrom Z (i 1).val) : FVec Ideal S256x512 .f32)) ![0, 256] Gen.inb_S256x512_S256x128_0_256) (tile (F := Ideal) arg7 (harg7.unread (R2 (rowsFrom Y (i 1).val) : FVec Ideal S256x512 .f32)) ![0, 256] Gen.inb_S256x512_S256x128_0_256) (tile (F := Ideal) arg6 (harg6.unread (R2 (rowsFrom At (i 1).val) : FVec Ideal S256x512 .f32)) ![0, 256] Gen.inb_S256x512_S256x128_0_256)) (tile (F := Ideal) arg8 (harg8.unread (savedBlock Q K (i 1).val)) ![0, 256] Gen.inb_S256x512_S256x128_0_256) (tile (F := Ideal) arg2 (harg2.unread (R2 (rowsFrom Q (i 1).val) : FVec Ideal S256x512 .bf16)) ![0, 384] Gen.inb_S256x512_S256x128_0_384) (tile (F := Ideal) arg5 (harg5.unread (R2 (rowsFrom Z (i 1).val) : FVec Ideal S256x512 .f32)) ![0, 384] Gen.inb_S256x512_S256x128_0_384) (tile (F := Ideal) arg7 (harg7.unread (R2 (rowsFrom Y (i 1).val) : FVec Ideal S256x512 .f32)) ![0, 384] Gen.inb_S256x512_S256x128_0_384) (tile (F := Ideal) arg8 (harg8.unread (savedBlock Q K (i 1).val)) ![0, 384] Gen.inb_S256x512_S256x128_0_384)
      (gradO_at Z Y i arg5 arg7 harg5 harg7 _ _ 2 rfl) (sums_at Q K i arg8 harg8 _ _ 2 rfl) (rows_at Q i arg2 harg2 _ _ 3 rfl)
      (gradO_at Z Y i arg5 arg7 harg5 harg7 _ _ 3 rfl) (sums_at Q K i arg8 harg8 _ _ 3 rfl)
      (arg10.view.writes (Elt Ideal) arg10.view.junk (clear (F := Ideal))) (arg11.view.writes (Elt Ideal) arg11.view.junk (clear (F := Ideal))) (accK Q K V (gateGrad Z Y) (i 1).val) (accV Q K (gateGrad Z Y) (i 1).val) (by rewrite [h0]; exact read_clear arg10.view _) (by rewrite [h0]; exact read_clear arg11.view _) (i 1).val le_rfl
  rewrite [← bwd_start (cols Q 0) (cols K 0) (cols V 0) (cols (gateGrad Z Y) 0) (i 1).val, ← bwd_start (cols Q 1) (cols K 1) (cols V 1) (cols (gateGrad Z Y) 1) (i 1).val, ← bwd_start (cols Q 2) (cols K 2) (cols V 2) (cols (gateGrad Z Y) 2) (i 1).val, ← bwd_start (cols Q 3) (cols K 3) (cols V 3) (cols (gateGrad Z Y) 3) (i 1).val] at e
  have hS1 := h1.trans e
  subst h2
  subst hS1
  dsimp only at e7 e8 e9 e10
  refine ⟨?_, ?_, ?_, ?_⟩
  · refine (congrArg (fun L => VO1_7.read (Elt Ideal) (VO1_7.writes (Elt Ideal) VO1_7.junk L)) e7).trans ?_
    refine (outQ_at i arg2 harg2 arg3 harg3 arg4 harg4 arg5 harg5 arg7 harg7 arg8 harg8 Q K V Z Y VO1_7 _).trans ?_
    exact R2_congr fun r hr c _ => gradQ_block Q K V (gateGrad Z Y) (i 1).val r c h16 hr
  · refine (congrArg (fun L => VO1_8.read (Elt Ideal) (VO1_8.writes (Elt Ideal) VO1_8.junk L)) e8).trans ?_
    rewrite [View.read_writes_junk_eq_canon, ← View.read_writes_junk_eq_canon arg10.view, ← accK_succ Q K V (gateGrad Z Y) (i 1).val]
    exact diagK_read i arg2 harg2 arg3 harg3 arg4 harg4 arg5 harg5 arg7 harg7 arg8 harg8 arg10 Q K V Z Y _ _ _ (by rewrite [List.nil_append, View.writes_append]; exact r10)
  · refine (congrArg (fun L => VO1_9.read (Elt Ideal) (VO1_9.writes (Elt Ideal) VO1_9.junk L)) e9).trans ?_
    rewrite [View.read_writes_junk_eq_canon, ← View.read_writes_junk_eq_canon arg11.view, ← accV_succ Q K (gateGrad Z Y) (i 1).val]
    exact diagV_read i arg2 harg2 arg3 harg3 arg5 harg5 arg7 harg7 arg8 harg8 arg11 Q K Z Y _ _ _ (by rewrite [List.nil_append, View.writes_append]; exact r11)
  · refine (congrArg (fun L => VO1_10.read (Elt Ideal) (VO1_10.writes (Elt Ideal) VO1_10.junk L)) e10).trans ?_
    exact outZ_at i arg5 harg5 arg6 harg6 arg7 harg7 Z At Y VO1_10 _

set_option maxHeartbeats 1000000 in
theorem run1B_R2 (c : Dev nD) (i : grid1.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x512 .f32) (harg12 : arg12.IsWhole) (hc0 : ¬cond1_0 i)
    (Q K V Z At Y : ℕ → ℕ → ℝ) :
    out1_B_7 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val) (R2 (accK Q K V (gateGrad Z Y) (i 1).val) : FVec Ideal S4096x512 .f32) (R2 (accV Q K (gateGrad Z Y) (i 1).val) : FVec Ideal S4096x512 .f32)
      = (R2 (rowsFrom (gradQ Q K V (gateGrad Z Y)) (i 1).val) : FVec Ideal S256x512 .f32)
    ∧ out1_B_8 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val) (R2 (accK Q K V (gateGrad Z Y) (i 1).val) : FVec Ideal S4096x512 .f32) (R2 (accV Q K (gateGrad Z Y) (i 1).val) : FVec Ideal S4096x512 .f32)
      = (R2 (accK Q K V (gateGrad Z Y) ((i 1).val + 1)) : FVec Ideal S4096x512 .f32)
    ∧ out1_B_9 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val) (R2 (accK Q K V (gateGrad Z Y) (i 1).val) : FVec Ideal S4096x512 .f32) (R2 (accV Q K (gateGrad Z Y) (i 1).val) : FVec Ideal S4096x512 .f32)
      = (R2 (accV Q K (gateGrad Z Y) ((i 1).val + 1)) : FVec Ideal S4096x512 .f32)
    ∧ out1_B_10 (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val) (R2 (accK Q K V (gateGrad Z Y) (i 1).val) : FVec Ideal S4096x512 .f32) (R2 (accV Q K (gateGrad Z Y) (i 1).val) : FVec Ideal S4096x512 .f32)
      = (R2 (rowsFrom (gateZ Z Y At) (i 1).val) : FVec Ideal S256x512 .f32) := by
  have h16 : (i 1).val < 16 := (i 1).isLt
  obtain ⟨S1, S, h1, h2, e7, e8, e9, e10⟩ := run1B_eq (F := Ideal) c i arg2 harg2 arg3 harg3 arg4 harg4 arg5 harg5 arg6 harg6 arg7 harg7 arg8 harg8 arg9 harg9 arg10 harg10 arg11 harg11 arg12 harg12 hc0 (R2 (rowsFrom Q (i 1).val) : FVec Ideal S256x512 .bf16) (R2 K : FVec Ideal S4096x512 .bf16) (R2 V : FVec Ideal S4096x512 .bf16) (R2 (rowsFrom Z (i 1).val) : FVec Ideal S256x512 .f32) (R2 (rowsFrom At (i 1).val) : FVec Ideal S256x512 .f32) (R2 (rowsFrom Y (i 1).val) : FVec Ideal S256x512 .f32) (savedBlock Q K (i 1).val) (R2 (accK Q K V (gateGrad Z Y) (i 1).val) : FVec Ideal S4096x512 .f32) (R2 (accV Q K (gateGrad Z Y) (i 1).val) : FVec Ideal S4096x512 .f32)
  unfold loopA at h1
  unfold loopB at h2
  rewrite [trips1] at h1
  rewrite [trips1', st_k1_t2.eq_1] at h2
  rewrite [rows_at Q i arg2 harg2 _ _ 0 rfl, rows_at Q i arg2 harg2 _ _ 1 rfl, rows_at Q i arg2 harg2 _ _ 2 rfl, gradO_at Z Y i arg5 arg7 harg5 harg7 _ _ 0 rfl, sums_at Q K i arg8 harg8 _ _ 0 rfl, gradO_at Z Y i arg5 arg7 harg5 harg7 _ _ 1 rfl, sums_at Q K i arg8 harg8 _ _ 1 rfl] at h1
  obtain ⟨L10, L11, e, r10, r11⟩ := st1_eq c i arg2 harg2 arg3 harg3 arg4 harg4 arg5 harg5 arg6 harg6 arg7 harg7 arg8 harg8 arg9 harg9 arg10 harg10 arg11 harg11 arg12 harg12 Q K V (gateGrad Z Y) (savedRows Q K (i 1).val) (saved_rows Q K (i 1).val)
      (tile (F := Ideal) arg5 (harg5.unread (R2 (rowsFrom Z (i 1).val) : FVec Ideal S256x512 .f32)) ![0, 256] Gen.inb_S256x512_S256x128_0_256) (tile (F := Ideal) arg7 (harg7.unread (R2 (rowsFrom Y (i 1).val) : FVec Ideal S256x512 .f32)) ![0, 256] Gen.inb_S256x512_S256x128_0_256) (logistic (tile (F := Ideal) arg5 (harg5.unread (R2 (rowsFrom Z (i 1).val) : FVec Ideal S256x512 .f32)) ![0, 256] Gen.inb_S256x512_S256x128_0_256)) (gradZb (tile (F := Ideal) arg5 (harg5.unread (R2 (rowsFrom Z (i 1).val) : FVec Ideal S256x512 .f32)) ![0, 256] Gen.inb_S256x512_S256x128_0_256) (tile (F := Ideal) arg7 (harg7.unread (R2 (rowsFrom Y (i 1).val) : FVec Ideal S256x512 .f32)) ![0, 256] Gen.inb_S256x512_S256x128_0_256) (tile (F := Ideal) arg6 (harg6.unread (R2 (rowsFrom At (i 1).val) : FVec Ideal S256x512 .f32)) ![0, 256] Gen.inb_S256x512_S256x128_0_256)) (tile (F := Ideal) arg8 (harg8.unread (savedBlock Q K (i 1).val)) ![0, 256] Gen.inb_S256x512_S256x128_0_256) (tile (F := Ideal) arg2 (harg2.unread (R2 (rowsFrom Q (i 1).val) : FVec Ideal S256x512 .bf16)) ![0, 384] Gen.inb_S256x512_S256x128_0_384) (tile (F := Ideal) arg5 (harg5.unread (R2 (rowsFrom Z (i 1).val) : FVec Ideal S256x512 .f32)) ![0, 384] Gen.inb_S256x512_S256x128_0_384) (tile (F := Ideal) arg7 (harg7.unread (R2 (rowsFrom Y (i 1).val) : FVec Ideal S256x512 .f32)) ![0, 384] Gen.inb_S256x512_S256x128_0_384) (tile (F := Ideal) arg8 (harg8.unread (savedBlock Q K (i 1).val)) ![0, 384] Gen.inb_S256x512_S256x128_0_384)
      (gradO_at Z Y i arg5 arg7 harg5 harg7 _ _ 2 rfl) (sums_at Q K i arg8 harg8 _ _ 2 rfl) (rows_at Q i arg2 harg2 _ _ 3 rfl)
      (gradO_at Z Y i arg5 arg7 harg5 harg7 _ _ 3 rfl) (sums_at Q K i arg8 harg8 _ _ 3 rfl)
      (harg10.unread (R2 (accK Q K V (gateGrad Z Y) (i 1).val) : FVec Ideal S4096x512 .f32)) (harg11.unread (R2 (accV Q K (gateGrad Z Y) (i 1).val) : FVec Ideal S4096x512 .f32)) (accK Q K V (gateGrad Z Y) (i 1).val) (accV Q K (gateGrad Z Y) (i 1).val) (harg10.read_unread _) (harg11.read_unread _) (i 1).val le_rfl
  rewrite [← bwd_start (cols Q 0) (cols K 0) (cols V 0) (cols (gateGrad Z Y) 0) (i 1).val, ← bwd_start (cols Q 1) (cols K 1) (cols V 1) (cols (gateGrad Z Y) 1) (i 1).val, ← bwd_start (cols Q 2) (cols K 2) (cols V 2) (cols (gateGrad Z Y) 2) (i 1).val, ← bwd_start (cols Q 3) (cols K 3) (cols V 3) (cols (gateGrad Z Y) 3) (i 1).val] at e
  have hS1 := h1.trans e
  subst h2
  subst hS1
  dsimp only at e7 e8 e9 e10
  refine ⟨?_, ?_, ?_, ?_⟩
  · refine (congrArg (fun L => VO1_7.read (Elt Ideal) (VO1_7.writes (Elt Ideal) VO1_7.junk L)) e7).trans ?_
    refine (outQ_at i arg2 harg2 arg3 harg3 arg4 harg4 arg5 harg5 arg7 harg7 arg8 harg8 Q K V Z Y VO1_7 _).trans ?_
    exact R2_congr fun r hr c _ => gradQ_block Q K V (gateGrad Z Y) (i 1).val r c h16 hr
  · refine (congrArg (fun L => arg10.view.read (Elt Ideal) (arg10.view.writes (Elt Ideal) (harg10.unread (R2 (accK Q K V (gateGrad Z Y) (i 1).val) : FVec Ideal S4096x512 .f32)) L)) e8).trans ?_
    rewrite [← accK_succ Q K V (gateGrad Z Y) (i 1).val]
    exact diagK_read i arg2 harg2 arg3 harg3 arg4 harg4 arg5 harg5 arg7 harg7 arg8 harg8 arg10 Q K V Z Y _ _ _ (by rewrite [List.nil_append]; exact r10)
  · refine (congrArg (fun L => arg11.view.read (Elt Ideal) (arg11.view.writes (Elt Ideal) (harg11.unread (R2 (accV Q K (gateGrad Z Y) (i 1).val) : FVec Ideal S4096x512 .f32)) L)) e9).trans ?_
    rewrite [← accV_succ Q K (gateGrad Z Y) (i 1).val]
    exact diagV_read i arg2 harg2 arg3 harg3 arg5 harg5 arg7 harg7 arg8 harg8 arg11 Q K Z Y _ _ _ (by rewrite [List.nil_append]; exact r11)
  · refine (congrArg (fun L => VO1_10.read (Elt Ideal) (VO1_10.writes (Elt Ideal) VO1_10.junk L)) e10).trans ?_
    exact outZ_at i arg5 harg5 arg6 harg6 arg7 harg7 Z At Y VO1_10 _

end Cert.Proof

end
-- ==== Proof.Arrays1.lean ====
/- What the backward kernel leaves in its result arrays, from real arrays of its operands. -/
module

public import proofs.«01_k».proof.Proof.Arrays0
public import proofs.«01_k».proof.Proof.BwdR2

@[expose] public section

set_option maxRecDepth 16384

noncomputable section

namespace Cert.Proof

open Idealize.ShloMosaic Idealize.ShloMosaic.TcCoe Idealize.SL.Sem Cert.KernelIdeal Cert.KernelIdeal.Gen Finset
open Idealize.ShloMosaic.Pipeline (Dat)

/-- The gate's factor of the upstream gradient. -/
abbrev upF (P Y : ℕ → ℕ → ℝ) : ℕ → ℕ → ℝ := gateGrad (band P 8192) Y

/-- The queries' gradient, the heads side by side. -/
def dqF (X P Y : ℕ → ℕ → ℝ) : ℕ → ℕ → ℝ := gradQ (band X 2048) (band X 4096) (band X 6144) (upF P Y)

/-- The keys' gradient after the rows of the blocks before `i`. -/
def dkF (X P Y : ℕ → ℕ → ℝ) (i : ℕ) : ℕ → ℕ → ℝ := accK (band X 2048) (band X 4096) (band X 6144) (upF P Y) i

/-- The values' gradient after the rows of the blocks before `i`. -/
def dvF (X P Y : ℕ → ℕ → ℝ) (i : ℕ) : ℕ → ℕ → ℝ := accV (band X 2048) (band X 4096) (upF P Y) i

/-- The gate's gradient. -/
def dzF (X P Y : ℕ → ℕ → ℝ) : ℕ → ℕ → ℝ := gateZ (band P 8192) Y (attF X)

theorem cols_group (x : ℕ → ℕ → ℝ) (g h : ℕ) : cols (band x (512 * g)) h = cols x (4 * g + h) := by
  funext t d
  exact congrArg (x t) (by ring)

theorem band_band (x : ℕ → ℕ → ℝ) (a b : ℕ) : band x (a + b) = band (band x a) b := by
  funext t d
  exact congrArg (x t) (Nat.add_assoc a b d)

section
variable (Q K V W : ℕ → ℕ → ℝ) (g : ℕ)

theorem gradQ_group : gradQ (band Q (512 * g)) (band K (512 * g)) (band V (512 * g)) (band W (512 * g)) = band (gradQ Q K V W) (512 * g) := by
  funext t d
  unfold gradQ
  rw [cols_group, cols_group, cols_group, cols_group]
  unfold band
  beta_reduce
  rw [show (512 * g + d) / 128 = 4 * g + d / 128 by omega, show (512 * g + d) % 128 = d % 128 by omega]

theorem accK_group (i : ℕ) : accK (band Q (512 * g)) (band K (512 * g)) (band V (512 * g)) (band W (512 * g)) i = band (accK Q K V W i) (512 * g) := by
  funext t d
  unfold accK
  rw [cols_group, cols_group, cols_group, cols_group]
  unfold band
  beta_reduce
  rw [show (512 * g + d) / 128 = 4 * g + d / 128 by omega, show (512 * g + d) % 128 = d % 128 by omega]

theorem accV_group (i : ℕ) : accV (band Q (512 * g)) (band K (512 * g)) (band W (512 * g)) i = band (accV Q K W i) (512 * g) := by
  funext t d
  unfold accV
  rw [cols_group, cols_group, cols_group]
  unfold band
  beta_reduce
  rw [show (512 * g + d) / 128 = 4 * g + d / 128 by omega, show (512 * g + d) % 128 = d % 128 by omega]

theorem gateGrad_group (Z Y : ℕ → ℕ → ℝ) : gateGrad (band Z (512 * g)) (band Y (512 * g)) = band (gateGrad Z Y) (512 * g) := rfl

theorem gateZ_group (Z Y At : ℕ → ℕ → ℝ) : gateZ (band Z (512 * g)) (band Y (512 * g)) (band At (512 * g)) = band (gateZ Z Y At) (512 * g) := rfl

/-- The forward kernel's saved block is the one the backward kernel reads. -/
theorem saved_group (X : ℕ → ℕ → ℝ) (i : ℕ) (hi : i < 16) :
    (R2 (rowsFrom (band (savedF X) (512 * g)) i) : FVec Ideal S256x512 .f32)
      = savedBlock (band (band X 2048) (512 * g)) (band (band X 4096) (512 * g)) i := by
  refine R2_congr fun r hr d hd => ?_
  unfold rowsFrom savedRows
  rw [cols_group, cols_group]
  unfold band savedF
  beta_reduce
  rw [show (512 * g + d) / 128 = 4 * g + d / 128 by omega, show (512 * g + d) % 128 = d % 128 by omega,
    show (256 * i + r) / 256 = i by omega]
  have e (n : ℕ) : cols X (n + (4 * g + d / 128)) = cols (fun t c => X t (128 * n + c)) (4 * g + d / 128) := by
    funext a b
    exact congrArg (X a) (by ring)
  rw [e 16, e 32]

end

theorem idx1 : ∀ t : Fin cfg1.N, win1_0.index t = ![t.val % 16, 4 + t.val / 16] ∧ win1_1.index t = ![0, 8 + t.val / 16]
    ∧ win1_2.index t = ![0, 12 + t.val / 16] ∧ win1_3.index t = ![t.val % 16, 16 + t.val / 16]
    ∧ win1_4.index t = ![t.val % 16, t.val / 16] ∧ win1_5.index t = ![t.val % 16, t.val / 16]
    ∧ win1_6.index t = ![t.val % 16, t.val / 16] ∧ win1_7.index t = ![t.val % 16, t.val / 16]
    ∧ win1_8.index t = ![0, t.val / 16] ∧ win1_9.index t = ![0, t.val / 16]
    ∧ win1_10.index t = ![t.val % 16, t.val / 16] ∧ (grid1.coords t 1).val = t.val % 16 :=
  (by decide +kernel : ∀ t : Fin grid1.N, _)

section
variable (V : (c : Dev nD) → (b : Ref sig .tc) → Buf (Elt Ideal) ((c : Thread nD τ).loc b)) (c : Dev nD)
  (X P Y : ℕ → ℕ → ℝ)
  (hX : V c main_v10 = (R2 X : FVec Ideal S4096x14336 .bf16)) (hP : V c main_arg0 = (R2 P : FVec Ideal S4096x14336 .f32))
  (hA : V c main_v11_0 = (R2 (attF X) : FVec Ideal S4096x2048 .f32)) (hY : V c main_arg1 = (R2 Y : FVec Ideal S4096x2048 .f32))
  (hS : V c main_v11_2 = (R2 (savedF X) : FVec Ideal S4096x2048 .f32))

include hX in
theorem iblk1_0 (t : Fin cfg1.N) : iblk1 V c 0 t
    = (R2 (rowsFrom (band (band X 2048) (512 * (t.val / 16))) (grid1.coords t 1).val) : FVec Ideal S256x512 .bf16) := by
  funext y
  obtain ⟨e0, e1, e2, e3, e4, e5, e6, e7, e8, e9, e10, e11⟩ := idx1 t
  blk_simp [iblk1, e0]
  refine (congrFun hX _).trans ?_
  unfold R2 rowsFrom band
  rw [e11]
  blk_simp [e0]
  refine congrArg (fun z : ℝ => (z : EReal)) (congrArg₂ X ?_ ?_) <;> ring

include hX in
theorem iblk1_1 (t : Fin cfg1.N) : iblk1 V c 1 t
    = (R2 ((band (band X 4096) (512 * (t.val / 16)))) : FVec Ideal S4096x512 .bf16) := by
  funext y
  obtain ⟨e0, e1, e2, e3, e4, e5, e6, e7, e8, e9, e10, e11⟩ := idx1 t
  blk_simp [iblk1, e1]
  refine (congrFun hX _).trans ?_
  unfold R2 band
  blk_simp [e1]
  refine congrArg (fun z : ℝ => (z : EReal)) (congrArg₂ X ?_ ?_) <;> ring

include hX in
theorem iblk1_2 (t : Fin cfg1.N) : iblk1 V c 2 t
    = (R2 ((band (band X 6144) (512 * (t.val / 16)))) : FVec Ideal S4096x512 .bf16) := by
  funext y
  obtain ⟨e0, e1, e2, e3, e4, e5, e6, e7, e8, e9, e10, e11⟩ := idx1 t
  blk_simp [iblk1, e2]
  refine (congrFun hX _).trans ?_
  unfold R2 band
  blk_simp [e2]
  refine congrArg (fun z : ℝ => (z : EReal)) (congrArg₂ X ?_ ?_) <;> ring

include hP in
theorem iblk1_3 (t : Fin cfg1.N) : iblk1 V c 3 t
    = (R2 (rowsFrom (band (band P 8192) (512 * (t.val / 16))) (grid1.coords t 1).val) : FVec Ideal S256x512 .f32) := by
  funext y
  obtain ⟨e0, e1, e2, e3, e4, e5, e6, e7, e8, e9, e10, e11⟩ := idx1 t
  blk_simp [iblk1, e3]
  refine (congrFun hP _).trans ?_
  unfold R2 rowsFrom band
  rw [e11]
  blk_simp [e3]
  refine congrArg (fun z : ℝ => (z : EReal)) (congrArg₂ P ?_ ?_) <;> ring

include hA in
theorem iblk1_4 (t : Fin cfg1.N) : iblk1 V c 4 t
    = (R2 (rowsFrom (band (attF X) (512 * (t.val / 16))) (grid1.coords t 1).val) : FVec Ideal S256x512 .f32) := by
  funext y
  obtain ⟨e0, e1, e2, e3, e4, e5, e6, e7, e8, e9, e10, e11⟩ := idx1 t
  blk_simp [iblk1, e4]
  refine (congrFun hA _).trans ?_
  unfold R2 rowsFrom band
  rw [e11]
  blk_simp [e4]
  refine congrArg (fun z : ℝ => (z : EReal)) (congrArg₂ (attF X) ?_ ?_) <;> ring

include hY in
theorem iblk1_5 (t : Fin cfg1.N) : iblk1 V c 5 t
    = (R2 (rowsFrom (band Y (512 * (t.val / 16))) (grid1.coords t 1).val) : FVec Ideal S256x512 .f32) := by
  funext y
  obtain ⟨e0, e1, e2, e3, e4, e5, e6, e7, e8, e9, e10, e11⟩ := idx1 t
  blk_simp [iblk1, e5]
  refine (congrFun hY _).trans ?_
  unfold R2 rowsFrom band
  rw [e11]
  blk_simp [e5]
  refine congrArg (fun z : ℝ => (z : EReal)) (congrArg₂ Y ?_ ?_) <;> ring

include hS in
theorem iblk1_6 (t : Fin cfg1.N) : iblk1 V c 6 t
    = savedBlock (band (band X 2048) (512 * (t.val / 16))) (band (band X 4096) (512 * (t.val / 16))) (grid1.coords t 1).val := by
  rw [← saved_group _ _ _ (grid1.coords t 1).isLt]
  funext y
  obtain ⟨e0, e1, e2, e3, e4, e5, e6, e7, e8, e9, e10, e11⟩ := idx1 t
  blk_simp [iblk1, e6]
  refine (congrFun hS _).trans ?_
  unfold R2 rowsFrom band
  rw [e11]
  blk_simp [e6]
  refine congrArg (fun z : ℝ => (z : EReal)) (congrArg₂ (savedF X) ?_ ?_) <;> ring

include hX hP hA hY hS in
theorem outs_first (t : Fin cfg1.N) (h0 : t.val % 16 = 0) : outsAt1 V c t.val t.isLt
    = ((R2 (rowsFrom (band (dqF X P Y) (512 * (t.val / 16))) (t.val % 16)) : FVec Ideal S256x512 .f32),
       (R2 (band (dkF X P Y (t.val % 16 + 1)) (512 * (t.val / 16))) : FVec Ideal S4096x512 .f32),
       (R2 (band (dvF X P Y (t.val % 16 + 1)) (512 * (t.val / 16))) : FVec Ideal S4096x512 .f32),
       (R2 (rowsFrom (band (dzF X P Y) (512 * (t.val / 16))) (t.val % 16)) : FVec Ideal S256x512 .f32)) := by
  have e11 : (grid1.coords t 1).val = t.val % 16 := (idx1 t).2.2.2.2.2.2.2.2.2.2.2
  obtain ⟨r7, r8, r9, r10⟩ := run1A_R2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (e11.trans h0) (band (band X 2048) (512 * (t.val / 16))) (band (band X 4096) (512 * (t.val / 16))) (band (band X 6144) (512 * (t.val / 16))) (band (band P 8192) (512 * (t.val / 16))) (band (attF X) (512 * (t.val / 16))) (band Y (512 * (t.val / 16)))
  rewrite [outsAt1_A V c t h0]
  rewrite [iblk1_0 V c X hX t, iblk1_1 V c X hX t, iblk1_2 V c X hX t, iblk1_3 V c P hP t, iblk1_4 V c X hA t, iblk1_5 V c Y hY t, iblk1_6 V c X hS t, r7, r8, r9, r10, e11, gateGrad_group, gradQ_group, accK_group, accV_group, gateZ_group]
  rfl

include hX hP hA hY hS in
theorem outs_next (t : Fin cfg1.N) (h0 : ¬t.val % 16 = 0)
    (p8 : (outsAt1 V c (t.val - 1) (Nat.lt_of_le_of_lt (Nat.sub_le _ _) t.isLt)).2.1
      = (R2 (band (dkF X P Y (t.val % 16)) (512 * (t.val / 16))) : FVec Ideal S4096x512 .f32))
    (p9 : (outsAt1 V c (t.val - 1) (Nat.lt_of_le_of_lt (Nat.sub_le _ _) t.isLt)).2.2.1
      = (R2 (band (dvF X P Y (t.val % 16)) (512 * (t.val / 16))) : FVec Ideal S4096x512 .f32)) :
    outsAt1 V c t.val t.isLt = ((R2 (rowsFrom (band (dqF X P Y) (512 * (t.val / 16))) (t.val % 16)) : FVec Ideal S256x512 .f32),
       (R2 (band (dkF X P Y (t.val % 16 + 1)) (512 * (t.val / 16))) : FVec Ideal S4096x512 .f32),
       (R2 (band (dvF X P Y (t.val % 16 + 1)) (512 * (t.val / 16))) : FVec Ideal S4096x512 .f32),
       (R2 (rowsFrom (band (dzF X P Y) (512 * (t.val / 16))) (t.val % 16)) : FVec Ideal S256x512 .f32)) := by
  have e11 : (grid1.coords t 1).val = t.val % 16 := (idx1 t).2.2.2.2.2.2.2.2.2.2.2
  obtain ⟨r7, r8, r9, r10⟩ := run1B_R2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (band (band X 2048) (512 * (t.val / 16))) (band (band X 4096) (512 * (t.val / 16))) (band (band X 6144) (512 * (t.val / 16))) (band (band P 8192) (512 * (t.val / 16))) (band (attF X) (512 * (t.val / 16))) (band Y (512 * (t.val / 16)))
  unfold dkF at p8
  unfold dvF at p9
  rewrite [← accK_group, ← e11] at p8
  rewrite [← accV_group, ← e11] at p9
  rewrite [outsAt1_B V c t h0]
  rewrite [iblk1_0 V c X hX t, iblk1_1 V c X hX t, iblk1_2 V c X hX t, iblk1_3 V c P hP t, iblk1_4 V c X hA t, iblk1_5 V c Y hY t, iblk1_6 V c X hS t, p8, p9]
  rewrite [← gateGrad_group, r7, r8, r9, r10, e11, gateGrad_group, gradQ_group, accK_group, accV_group, gateZ_group]
  rfl

include hX hP hA hY hS in
/-- What the outputs' blocks hold after the point at position `n`. -/
theorem outsAt1_R2 (n : ℕ) : ∀ hn : n < cfg1.N, outsAt1 V c n hn = ((R2 (rowsFrom (band (dqF X P Y) (512 * (n / 16))) (n % 16)) : FVec Ideal S256x512 .f32),
       (R2 (band (dkF X P Y (n % 16 + 1)) (512 * (n / 16))) : FVec Ideal S4096x512 .f32),
       (R2 (band (dvF X P Y (n % 16 + 1)) (512 * (n / 16))) : FVec Ideal S4096x512 .f32),
       (R2 (rowsFrom (band (dzF X P Y) (512 * (n / 16))) (n % 16)) : FVec Ideal S256x512 .f32)) := by
  induction n with
  | zero => exact fun hn => outs_first V c X P Y hX hP hA hY hS ⟨0, hn⟩ rfl
  | succ n ih =>
    intro hn
    by_cases h0 : (n + 1) % 16 = 0
    · exact outs_first V c X P Y hX hP hA hY hS ⟨n + 1, hn⟩ h0
    · have e := ih (Nat.lt_of_succ_lt hn)
      rewrite [show n % 16 + 1 = (n + 1) % 16 by omega, show n / 16 = (n + 1) / 16 by omega] at e
      exact outs_next V c X P Y hX hP hA hY hS ⟨n + 1, hn⟩ h0 (congrArg (fun p => p.2.1) e) (congrArg (fun p => p.2.2.1) e)

include hX hP hA hY hS in
theorem arr1_7 : (dat1 V c).arrAt 7 cfg1.N = (R2 (dqF X P Y) : FVec Ideal S4096x2048 .f32) := by
  refine (dat1 V c).arrAt_eq_of_covers 7 _ (by decide +kernel) fun t hf y => ?_
  obtain ⟨e0, e1, e2, e3, e4, e5, e6, e7, e8, e9, e10, e11⟩ := idx1 t
  blk_simp
  rewrite [after1_7, outsAt1_R2 V c X P Y hX hP hA hY hS t.val t.isLt]
  unfold R2 rowsFrom band
  blk_simp [e7]
  refine congrArg (fun z : ℝ => (z : EReal)) (congrArg₂ (dqF X P Y) ?_ ?_) <;> ring

include hX hP hA hY hS in
theorem arr1_8 : (dat1 V c).arrAt 8 cfg1.N = (R2 (dkF X P Y 16) : FVec Ideal S4096x2048 .f32) := by
  refine (dat1 V c).arrAt_eq_of_covers 8 _ (by decide +kernel) fun t hf y => ?_
  obtain ⟨e0, e1, e2, e3, e4, e5, e6, e7, e8, e9, e10, e11⟩ := idx1 t
  have h15 := (flush1_8 t).mp hf
  blk_simp
  rewrite [after1_8, outsAt1_R2 V c X P Y hX hP hA hY hS t.val t.isLt, h15]
  unfold R2 band
  blk_simp [e8]
  refine congrArg (fun z : ℝ => (z : EReal)) (congrArg₂ (dkF X P Y 16) ?_ ?_) <;> ring

include hX hP hA hY hS in
theorem arr1_9 : (dat1 V c).arrAt 9 cfg1.N = (R2 (dvF X P Y 16) : FVec Ideal S4096x2048 .f32) := by
  refine (dat1 V c).arrAt_eq_of_covers 9 _ (by decide +kernel) fun t hf y => ?_
  obtain ⟨e0, e1, e2, e3, e4, e5, e6, e7, e8, e9, e10, e11⟩ := idx1 t
  have h15 := (flush1_9 t).mp hf
  blk_simp
  rewrite [after1_9, outsAt1_R2 V c X P Y hX hP hA hY hS t.val t.isLt, h15]
  unfold R2 band
  blk_simp [e9]
  refine congrArg (fun z : ℝ => (z : EReal)) (congrArg₂ (dvF X P Y 16) ?_ ?_) <;> ring

include hX hP hA hY hS in
theorem arr1_10 : (dat1 V c).arrAt 10 cfg1.N = (R2 (dzF X P Y) : FVec Ideal S4096x2048 .f32) := by
  refine (dat1 V c).arrAt_eq_of_covers 10 _ (by decide +kernel) fun t hf y => ?_
  obtain ⟨e0, e1, e2, e3, e4, e5, e6, e7, e8, e9, e10, e11⟩ := idx1 t
  blk_simp
  rewrite [after1_10, outsAt1_R2 V c X P Y hX hP hA hY hS t.val t.isLt]
  unfold R2 rowsFrom band
  blk_simp [e10]
  refine congrArg (fun z : ℝ => (z : EReal)) (congrArg₂ (dzF X P Y) ?_ ?_) <;> ring

end

end Cert.Proof
-- ==== Proof.RefFwd.lean ====
/- The reference's forward lines on an array of real entries. -/
module

public import proofs.«01_k».proof.Proof.RefOps
public import proofs.«01_k».proof.Proof.Arrays1
public import proofs.«01_k».proof.Proof.Gen.ReferenceIdeal.Read

@[expose] public section

set_option maxRecDepth 16384

noncomputable section

namespace Cert.Proof

open Idealize.ShloMosaic Cert.ReferenceIdeal Cert.ReferenceIdeal.Gen Cert.ReferenceIdeal.Read Finset

theorem top_bits : Ideal.ofBits .f32 0x7F800000#32 = ⊤ := by simp [Ideal.ofBits, Ideal.ieee]

theorem select_false {α : Type} {p : Prop} [Decidable p] (h : ¬p) (a b : α) : Scalar.select (BitVec.ofBool (decide p)) a b = b := by
  rw [decide_eq_false h]
  rfl

/-- The soft-plus, as the reference spells it. -/
theorem soft_at {x : Ideal .f32} {z : ℝ} (h : x = ((z : ℝ) : EReal)) :
    Scalar.select
        (FloatOps.cmpf .une (FloatOps.subf x (FloatOps.ofBits .f32 0x00000000#32)) (FloatOps.subf x (FloatOps.ofBits .f32 0x00000000#32)))
        (FloatOps.addf x (FloatOps.ofBits .f32 0x00000000#32))
        (FloatOps.addf (FloatOps.maximumf x (FloatOps.ofBits .f32 0x00000000#32))
          (FloatOps.hostUnary .log1p (FloatOps.hostUnary .exp (FloatOps.hostNegf (FloatOps.hostAbsf
            (FloatOps.subf x (FloatOps.ofBits .f32 0x00000000#32)))))))
      = ((softplus z : ℝ) : EReal) := by
  subst h
  refine (select_false (p := (z : EReal) - Ideal.ofBits .f32 0x00000000#32 ≠ (z : EReal) - Ideal.ofBits .f32 0x00000000#32)
    (fun h => h rfl) _ _).trans ?_
  change max (z : EReal) (Ideal.ofBits .f32 0x00000000#32)
    + Ideal.log (1 + Ideal.exp (-max ((z : EReal) - Ideal.ofBits .f32 0x00000000#32) (-((z : EReal) - Ideal.ofBits .f32 0x00000000#32)))) = _
  rw [Ideal.ofBits_zero_f32, sub_zero, ← softplus_coe, zero_sub]

/-- An exponential of a difference, either side replaced by zero at infinity. -/
theorem slope_at {x y : Ideal .f32} {z w : ℝ} (hx : x = ((z : ℝ) : EReal)) (hy : y = ((w : ℝ) : EReal)) :
    FloatOps.hostUnary .exp (FloatOps.subf
        (Scalar.select (FloatOps.cmpf .oeq x (FloatOps.ofBits .f32 0x7F800000#32)) (FloatOps.ofBits .f32 0x00000000#32) x)
        (Scalar.select (FloatOps.cmpf .oeq y (FloatOps.ofBits .f32 0x7F800000#32)) (FloatOps.ofBits .f32 0x00000000#32) y))
      = ((Real.exp (z - w) : ℝ) : EReal) := by
  subst hx hy
  have e (r : ℝ) : Scalar.select (FloatOps.cmpf (F := Ideal) (φ := .f32) .oeq (r : EReal) (FloatOps.ofBits .f32 0x7F800000#32))
      (FloatOps.ofBits (F := Ideal) .f32 0x00000000#32) (r : EReal) = (r : EReal) :=
    select_false (p := (r : EReal) = Ideal.ofBits .f32 0x7F800000#32) (by rw [top_bits]; exact EReal.coe_ne_top r) _ _
  rw [e, e]
  change Ideal.exp ((z : EReal) - (w : EReal)) = _
  rw [← EReal.coe_sub, Ideal.exp_coe]

/-- The projected matrix with the queries' columns scaled. -/
def scaledP (P : ℕ → ℕ → ℝ) (t c : ℕ) : ℝ := P t c * if 2048 ≤ c ∧ c < 4096 then scaleC else 1

variable (P : ℕ → ℕ → ℝ)

/-- Head `h`'s queries. -/
abbrev hq (h : ℕ) : ℕ → ℕ → ℝ := cols (scaledP P) (16 + h)
/-- Head `h`'s keys. -/
abbrev hk (h : ℕ) : ℕ → ℕ → ℝ := cols (scaledP P) (32 + h)
/-- Head `h`'s values. -/
abbrev hv (h : ℕ) : ℕ → ℕ → ℝ := cols (scaledP P) (48 + h)

theorem v8_R3 : val_main_v8 (F := Ideal) (R2 (φ := .f32) P) = R3 (φ := .f32) fun t h d => hq P h t d := by
  funext i
  have h0 : (i 0).val < 4096 := (i 0).isLt
  have h1 : (i 1).val < 16 := (i 1).isLt
  have h2 : (i 2).val < 128 := (i 2).isLt
  rewrite [val_main_v8_apply, val_main_v4_apply, val_main_v0_apply, val_main_v7_apply, val_main_cst_apply]
  change ((P ((((i 0).val * 16 + (i 1).val) * 128 + (i 2).val) / 2048) (2048 + (((i 0).val * 16 + (i 1).val) * 128 + (i 2).val) % 2048) : ℝ) : EReal)
    * (Scalar.ofBits (F := Ideal) .f32 0x3DB504F3#32 : EReal) = ((scaledP P (i 0).val (128 * (16 + (i 1).val) + (i 2).val) : ℝ) : EReal)
  rw [scaleC_coe, ← EReal.coe_mul, scaledP, if_pos (by omega), show (((i 0).val * 16 + (i 1).val) * 128 + (i 2).val) / 2048 = (i 0).val by omega,
    show 2048 + (((i 0).val * 16 + (i 1).val) * 128 + (i 2).val) % 2048 = 128 * (16 + (i 1).val) + (i 2).val by omega]

theorem v5_R3 : val_main_v5 (F := Ideal) (R2 (φ := .f32) P) = R3 (φ := .f32) fun t h d => hk P h t d := by
  funext i
  have h0 : (i 0).val < 4096 := (i 0).isLt
  have h1 : (i 1).val < 16 := (i 1).isLt
  have h2 : (i 2).val < 128 := (i 2).isLt
  rewrite [val_main_v5_apply, val_main_v1_apply]
  change ((P ((((i 0).val * 16 + (i 1).val) * 128 + (i 2).val) / 2048) (4096 + (((i 0).val * 16 + (i 1).val) * 128 + (i 2).val) % 2048) : ℝ) : EReal)
    = ((scaledP P (i 0).val (128 * (32 + (i 1).val) + (i 2).val) : ℝ) : EReal)
  rw [scaledP, if_neg (by omega), mul_one, show (((i 0).val * 16 + (i 1).val) * 128 + (i 2).val) / 2048 = (i 0).val by omega,
    show 4096 + (((i 0).val * 16 + (i 1).val) * 128 + (i 2).val) % 2048 = 128 * (32 + (i 1).val) + (i 2).val by omega]

theorem v6_R3 : val_main_v6 (F := Ideal) (R2 (φ := .f32) P) = R3 (φ := .f32) fun t h d => hv P h t d := by
  funext i
  have h0 : (i 0).val < 4096 := (i 0).isLt
  have h1 : (i 1).val < 16 := (i 1).isLt
  have h2 : (i 2).val < 128 := (i 2).isLt
  rewrite [val_main_v6_apply, val_main_v2_apply]
  change ((P ((((i 0).val * 16 + (i 1).val) * 128 + (i 2).val) / 2048) (6144 + (((i 0).val * 16 + (i 1).val) * 128 + (i 2).val) % 2048) : ℝ) : EReal)
    = ((scaledP P (i 0).val (128 * (48 + (i 1).val) + (i 2).val) : ℝ) : EReal)
  rw [scaledP, if_neg (by omega), mul_one, show (((i 0).val * 16 + (i 1).val) * 128 + (i 2).val) / 2048 = (i 0).val by omega,
    show 6144 + (((i 0).val * 16 + (i 1).val) * 128 + (i 2).val) % 2048 = 128 * (48 + (i 1).val) + (i 2).val by omega]

/-- Head `h`'s scores. -/
abbrev hz (h t s : ℕ) : ℝ := dotR (hq P h) (hk P h) t s

theorem v9_R3 : val_main_v9 (F := Ideal) (R2 (φ := .f32) P) = R3 (φ := .f32) fun h t s => hz P h t s := by
  funext i
  rewrite [val_main_v9_apply, v8_R3, v5_R3]
  exact coe_dot 128 (fun d => hq P (i 0).val (i 1).val d) (fun d => hk P (i 0).val (i 2).val d)

theorem mask_iff (i : S4096x4096.Idx) : val_main_v16 (F := Ideal) i = 1#1 ↔ (i 1).val < (i 0).val := by
  have h0 : (i 0).val < 4096 := (i 0).isLt
  have h1 : (i 1).val < 4096 := (i 1).isLt
  rewrite [val_main_v16_apply, val_main_v14_apply, val_main_v11_apply, val_main_v10_apply, val_main_v15_apply, val_main_v13_apply, val_main_v12_apply]
  exact slt_iff (a := (i 1).val) (b := (i 0).val) (by omega) (by omega)

theorem v17_0_R3 : val_main_v17_0 (F := Ideal) (R2 (φ := .f32) P) = R3 (φ := .f32) fun h t s => softplus (hz P h t s) := by
  funext i
  rewrite [val_main_v17_0_apply, val_main_call0_v4_apply, val_main_call0_v6_apply, val_main_call0_v11_apply, val_main_call0_v10_apply,
    val_main_call0_v9_apply, val_main_call0_v8_apply, val_main_call0_v7_apply, val_main_call0_v3_apply, val_main_call0_v1_apply,
    val_main_call0_v0_apply, val_main_call0_v2_apply, val_main_call0_v5_apply]
  exact soft_at (congrFun (v9_R3 P) i)

theorem v17_1_R3 : val_main_v17_1 (F := Ideal) (R2 (φ := .f32) P) = R3 (φ := .f32) fun h t s => 1 - Real.exp (-softplus (hz P h t s)) := by
  funext i
  rewrite [val_main_v17_1_apply, val_main_call0_v21_apply, val_main_call0_v16_apply, val_main_call0_v14_apply, val_main_call0_v20_apply,
    val_main_call0_v18_apply, val_main_call0_v13_apply, val_main_call0_v15_apply, val_main_call0_v17_apply, val_main_call0_v19_apply]
  refine (slope_at (congrFun (v9_R3 P) i) (congrFun (v17_0_R3 P) i)).trans ?_
  exact congrArg (fun z : ℝ => (z : EReal)) (slope_softplus _)

theorem v19_1_iff (i : S16x4096x4096.Idx) : val_main_v19_1 (F := Ideal) i = 1#1 ↔ (i 2).val < (i 1).val := by
  rewrite [val_main_v19_1_apply]
  exact mask_iff _

theorem v25_1_iff (i : S16x4096x4096.Idx) : val_main_v25_1 (F := Ideal) i = 1#1 ↔ (i 2).val < (i 1).val := by
  rewrite [val_main_v25_1_apply]
  exact mask_iff _

theorem zero_bits : (FloatOps.ofBits (F := Ideal) .f32 0x00000000#32 : EReal) = ((0 : ℝ) : EReal) := Ideal.ofBits_zero_f32

theorem v19_0_R3 : val_main_v19_0 (F := Ideal) (R2 (φ := .f32) P) = R3 (φ := .f32) fun h t s => keepL (hq P h) (hk P h) t s := by
  funext i
  rewrite [val_main_v19_0_apply, val_main_call1_v2_apply, val_main_call1_v0_apply, val_main_cst_0_apply, val_main_v18_apply, v17_0_R3]
  refine (select_iff (v19_1_iff i) _ _).trans ?_
  change (if (i 2).val < (i 1).val then -((softplus (hz P (i 0).val (i 1).val (i 2).val) : ℝ) : EReal) else Ideal.ofBits .f32 0x00000000#32) = _
  rw [Ideal.ofBits_zero_f32, ← EReal.coe_neg, ← EReal.coe_zero, ite_coe]
  rfl

theorem v20_R3 : val_main_v20 (F := Ideal) (R2 (φ := .f32) P) = R3 (φ := .f32) fun h t s => tailL (hq P h) (hk P h) t s := by
  unfold val_main_v20
  rewrite [v19_0_R3]
  refine (host_window (A := 16) (B := 4096) (N := 4096) (fun h t s => keepL (hq P h) (hk P h) t s) _ _ _ fun i => ?_).trans ?_
  · rewrite [val_main_call2_v0_apply, val_main_call2_cst_apply]
    exact zero_bits
  · exact R3_congr fun h _ t _ s hs => sum_from _ hs

theorem v22_0_R3 : val_main_call3_v1_0 (F := Ideal) (R2 (φ := .f32) P) = R3 (φ := .f32) fun h t s => softplus (-hz P h t s) := by
  funext i
  rewrite [val_main_call3_v1_0_apply, val_main_call3_call0_v4_apply, val_main_call3_call0_v6_apply, val_main_call3_call0_v11_apply,
    val_main_call3_call0_v10_apply, val_main_call3_call0_v9_apply, val_main_call3_call0_v8_apply, val_main_call3_call0_v7_apply,
    val_main_call3_call0_v3_apply, val_main_call3_call0_v1_apply,
    val_main_call3_call0_v0_apply, val_main_call3_call0_v2_apply, val_main_call3_call0_v5_apply]
  refine soft_at ?_
  rewrite [val_main_call3_v0_apply, v9_R3]
  exact (EReal.coe_neg _).symm

theorem v22_1_R3 : val_main_v22_1 (F := Ideal) (R2 (φ := .f32) P) = R3 (φ := .f32) fun h t s => Real.exp (-softplus (hz P h t s)) := by
  funext i
  rewrite [val_main_v22_1_apply, val_main_call3_call0_v21_apply, val_main_call3_call0_v16_apply, val_main_call3_call0_v14_apply,
    val_main_call3_call0_v20_apply, val_main_call3_call0_v18_apply, val_main_call3_call0_v13_apply, val_main_call3_call0_v15_apply,
    val_main_call3_call0_v17_apply, val_main_call3_call0_v19_apply]
  refine (slope_at (z := -hz P (i 0).val (i 1).val (i 2).val) ?_ (congrFun (v22_0_R3 P) i)).trans ?_
  · rewrite [val_main_call3_v0_apply, v9_R3]
    exact (EReal.coe_neg _).symm
  · exact congrArg (fun z : ℝ => (z : EReal)) (slope_softplus_neg _)

/-- The weights before the mask. -/
abbrev rawA (h t s : ℕ) : ℝ :=
  Real.exp (-softplus (-hz P h t s) + (tailL (hq P h) (hk P h) t s - keepL (hq P h) (hk P h) t s))

theorem v24_R3 : val_main_v24 (F := Ideal) (R2 (φ := .f32) P) = R3 (φ := .f32) fun h t s => rawA P h t s := by
  funext i
  rewrite [val_main_v24_apply, val_main_v23_apply, val_main_v22_0_apply, val_main_v21_apply, v22_0_R3, v20_R3, v19_0_R3]
  change Ideal.exp (-((softplus (-hz P (i 0).val (i 1).val (i 2).val) : ℝ) : EReal)
    + (((tailL (hq P (i 0).val) (hk P (i 0).val) (i 1).val (i 2).val : ℝ) : EReal)
      - ((keepL (hq P (i 0).val) (hk P (i 0).val) (i 1).val (i 2).val : ℝ) : EReal))) = _
  rw [← EReal.coe_neg, ← EReal.coe_sub, ← EReal.coe_add, Ideal.exp_coe]
  rfl

theorem rawA_of_lt (h : ℕ) {t s : ℕ} (hs : s < t) : rawA P h t s = attA (hq P h) (hk P h) t s := by
  have e := softplus_sub (hz P h t s)
  rw [rawA, attA, if_pos hs, keepL, if_pos hs]
  exact congrArg Real.exp (by linarith)

theorem v25_0_R3 : val_main_v25_0 (F := Ideal) (R2 (φ := .f32) P) = R3 (φ := .f32) fun h t s => attA (hq P h) (hk P h) t s := by
  funext i
  rewrite [val_main_v25_0_apply, val_main_call4_v2_apply, val_main_call4_v0_apply, val_main_cst_1_apply, v24_R3]
  refine (select_iff (v25_1_iff i) _ _).trans ?_
  change (if (i 2).val < (i 1).val then ((rawA P (i 0).val (i 1).val (i 2).val : ℝ) : EReal) else Ideal.ofBits .f32 0x00000000#32) = _
  rw [Ideal.ofBits_zero_f32, ← EReal.coe_zero, ite_coe]
  refine congrArg (fun z : ℝ => (z : EReal)) ?_
  split
  · next h => exact rawA_of_lt P _ h
  · next h => exact (if_neg h).symm

theorem v28_R2 : val_main_v28 (F := Ideal) (R2 (φ := .f32) P) = R2 (φ := .f32) (attF (scaledP P)) := by
  funext i
  have h0 : (i 0).val < 4096 := (i 0).isLt
  have h1 : (i 1).val < 2048 := (i 1).isLt
  rewrite [val_main_v28_apply, val_main_v27_apply, val_main_v26_apply, v6_R3, v25_0_R3]
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  refine (coe_dot 4096 (fun s => hv P (((i 0).val * 2048 + (i 1).val) / 128 % 16) s (((i 0).val * 2048 + (i 1).val) % 128))
    (fun s => attA (hq P (((i 0).val * 2048 + (i 1).val) / 128 % 16)) (hk P (((i 0).val * 2048 + (i 1).val) / 128 % 16))
      (((i 0).val * 2048 + (i 1).val) / 2048) s)).trans ?_
  rw [e0, e1, e2]
  exact congrArg (fun z : ℝ => (z : EReal)) (sum_congr rfl fun s _ => mul_comm _ _)

theorem v3_R2 : val_main_v3 (F := Ideal) (R2 (φ := .f32) P) = R2 (φ := .f32) (band P 8192) := by
  funext i
  rewrite [val_main_v3_apply]
  rfl

end Cert.Proof
-- ==== Proof.RefBwd.lean ====
/- The reference's gradients on arrays of real entries. -/
module

public import proofs.«01_k».proof.Proof.RefFwd

@[expose] public section

set_option maxRecDepth 16384

noncomputable section

namespace Cert.Proof

open Idealize.ShloMosaic Cert.ReferenceIdeal Cert.ReferenceIdeal.Gen Cert.ReferenceIdeal.Read Finset

variable (P Y : ℕ → ℕ → ℝ)

theorem one_bits : (FloatOps.ofBits (F := Ideal) .f32 0x3F800000#32 : EReal) = ((1 : ℝ) : EReal) := by
  show Ideal.ofBits .f32 0x3F800000#32 = _
  simp [Ideal.ofBits, Ideal.ieee, -EReal.coe_mul]
  norm_num

theorem v29_2_R2 : val_main_v29_2 (F := Ideal) (R2 (φ := .f32) P) = R2 (φ := .f32) fun t c => sigm (P t (8192 + c)) := by
  funext i
  rewrite [val_main_v29_2_apply, val_main_call5_v4_apply, val_main_call5_cst_0_apply, val_main_call5_v3_apply, val_main_call5_v2_apply,
    val_main_call5_cst_apply, val_main_call5_v1_apply, val_main_call5_v0_apply, v3_R2, one_bits]
  change Ideal.div ((1 : ℝ) : EReal) (((1 : ℝ) : EReal) + Ideal.exp (-((P (i 0).val (8192 + (i 1).val) : ℝ) : EReal)))
    = ((sigm (P (i 0).val (8192 + (i 1).val)) : ℝ) : EReal)
  rw [← EReal.coe_neg, Ideal.exp_coe, ← EReal.coe_add, Ideal.div_coe (by positivity), ← EReal.coe_mul, one_mul, one_div]
  rfl

theorem v29_0_R2 : val_main_v29_0 (F := Ideal) (R2 (φ := .f32) P) = R2 (φ := .f32) fun t c => P t (8192 + c) * sigm (P t (8192 + c)) := by
  funext i
  rewrite [val_main_v29_0_apply, v3_R2, v29_2_R2]
  exact (EReal.coe_mul _ _).symm

theorem v31_R2 : val_main_v31 (F := Ideal) (R2 (φ := .f32) P) = R2 (φ := .bf16) (gatedF (scaledP P) P) := by
  funext i
  rewrite [val_main_v31_apply, val_main_v30_apply, v28_R2, v29_0_R2]
  exact (EReal.coe_mul _ _).symm

theorem v33_R2 : val_main_v33 (F := Ideal) (R2 (φ := .f32) P) (R2 (φ := .f32) Y) = R2 (φ := .f32) (upF P Y) := by
  funext i
  rewrite [val_main_v33_apply, v29_0_R2]
  exact (EReal.coe_mul _ _).symm

theorem v34_R2 : val_main_v34 (F := Ideal) (R2 (φ := .f32) P) (R2 (φ := .f32) Y) = R2 (φ := .f32) (dzF (scaledP P) P Y) := by
  funext i
  rewrite [val_main_v34_apply, val_main_call6_v1_apply, val_main_call6_v2_apply, val_main_call6_v0_apply, val_main_v29_1_apply,
    val_main_call5_v7_apply, val_main_call5_v6_apply, val_main_call5_cst_1_apply, val_main_v32_apply, v28_R2, v3_R2, v29_2_R2, one_bits]
  change ((attF (scaledP P) (i 0).val (i 1).val : ℝ) : EReal) * ((Y (i 0).val (i 1).val : ℝ) : EReal)
      * ((sigm (P (i 0).val (8192 + (i 1).val)) : ℝ) : EReal)
    + ((P (i 0).val (8192 + (i 1).val) : ℝ) : EReal) * (((attF (scaledP P) (i 0).val (i 1).val : ℝ) : EReal) * ((Y (i 0).val (i 1).val : ℝ) : EReal))
      * (((sigm (P (i 0).val (8192 + (i 1).val)) : ℝ) : EReal) * (((1 : ℝ) : EReal) - ((sigm (P (i 0).val (8192 + (i 1).val)) : ℝ) : EReal)))
    = ((Y (i 0).val (i 1).val * attF (scaledP P) (i 0).val (i 1).val * (sigm (P (i 0).val (8192 + (i 1).val))
      * (1 + P (i 0).val (8192 + (i 1).val) * (1 - sigm (P (i 0).val (8192 + (i 1).val))))) : ℝ) : EReal)
  simp only [← EReal.coe_mul, ← EReal.coe_sub, ← EReal.coe_add]
  exact congrArg (fun z : ℝ => (z : EReal)) (by ring)

/-- Head `h`'s upstream gradient. -/
abbrev hw (h : ℕ) : ℕ → ℕ → ℝ := cols (upF P Y) h

theorem v36_R3 : val_main_v36 (F := Ideal) (R2 (φ := .f32) P) (R2 (φ := .f32) Y) = R3 (φ := .f32) fun h d t => hw P Y h t d := by
  funext i
  have h0 : (i 0).val < 16 := (i 0).isLt
  have h1 : (i 1).val < 128 := (i 1).isLt
  have h2 : (i 2).val < 4096 := (i 2).isLt
  rewrite [val_main_v36_apply, val_main_v35_apply, v33_R2]
  change ((upF P Y ((((i 2).val * 16 + (i 0).val) * 128 + (i 1).val) / 2048) ((((i 2).val * 16 + (i 0).val) * 128 + (i 1).val) % 2048) : ℝ) : EReal)
    = ((upF P Y (i 2).val (128 * (i 0).val + (i 1).val) : ℝ) : EReal)
  rw [show (((i 2).val * 16 + (i 0).val) * 128 + (i 1).val) / 2048 = (i 2).val by omega,
    show (((i 2).val * 16 + (i 0).val) * 128 + (i 1).val) % 2048 = 128 * (i 0).val + (i 1).val by omega]

theorem v37_R3 : val_main_v37 (F := Ideal) (R2 (φ := .f32) P) (R2 (φ := .f32) Y)
    = R3 (φ := .f32) fun h t s => dotR (hw P Y h) (hv P h) t s := by
  funext i
  rewrite [val_main_v37_apply, v36_R3, v6_R3]
  exact coe_dot 128 (fun d => hw P Y (i 0).val (i 1).val d) (fun d => hv P (i 0).val (i 2).val d)

/-- Head `h`'s gradient of the logarithm of the weights. -/
abbrev hg (h t s : ℕ) : ℝ := gradG (hq P h) (hk P h) (hv P h) (hw P Y h) t s

theorem v41_R3 : val_main_v41 (F := Ideal) (R2 (φ := .f32) P) (R2 (φ := .f32) Y) = R3 (φ := .f32) fun h t s => hg P Y h t s := by
  funext i
  rewrite [val_main_v41_apply, val_main_v40_apply, val_main_call7_v0_apply, val_main_call7_cst_apply, v37_R3, v24_R3]
  rewrite [select_iff (v25_1_iff i)]
  change (if (i 2).val < (i 1).val then ((dotR (hw P Y (i 0).val) (hv P (i 0).val) (i 1).val (i 2).val : ℝ) : EReal)
    else Ideal.ofBits .f32 0x00000000#32) * ((rawA P (i 0).val (i 1).val (i 2).val : ℝ) : EReal) = _
  rw [Ideal.ofBits_zero_f32, ← EReal.coe_zero, ite_coe, ← EReal.coe_mul]
  refine congrArg (fun z : ℝ => (z : EReal)) ?_
  show _ = attA _ _ _ _ * dotR _ _ _ _
  split
  · next h => rw [rawA_of_lt P _ h, mul_comm]
  · next h => rw [attA, if_neg h, zero_mul, zero_mul]

theorem v44_R3 : val_main_v44 (F := Ideal) (R2 (φ := .f32) P) (R2 (φ := .f32) Y)
    = R3 (φ := .f32) fun h t s => ∑ x ∈ range (s + 1), hg P Y h t x := by
  unfold val_main_v44
  rewrite [v41_R3]
  refine (host_window (A := 16) (B := 4096) (N := 4096) (fun h t s => hg P Y h t s) _ _ _ fun i => ?_).trans ?_
  · rewrite [val_main_call9_v0_apply, val_main_call9_cst_apply]
    exact zero_bits
  · exact R3_congr fun h _ t _ s hs => sum_upto (l := 4095) _ hs

/-- Head `h`'s gradient of the scores. -/
abbrev hd (h t s : ℕ) : ℝ := gradZ (hq P h) (hk P h) (hv P h) (hw P Y h) t s

theorem gradG_of_not_lt (q k v w : ℕ → ℕ → ℝ) {t s : ℕ} (h : ¬s < t) : gradG q k v w t s = 0 := by
  rw [gradG, attA, if_neg h, zero_mul]

theorem v49_R3 : val_main_v49 (F := Ideal) (R2 (φ := .f32) P) (R2 (φ := .f32) Y) = R3 (φ := .f32) fun h t s => hd P Y h t s := by
  funext i
  rewrite [val_main_v49_apply, val_main_v42_apply, val_main_call8_v1_apply, val_main_call8_v0_apply, val_main_v48_apply, val_main_v47_apply,
    val_main_v46_apply, val_main_v45_apply, val_main_v43_apply, val_main_call10_v0_apply, val_main_call10_cst_apply, v44_R3, v41_R3,
    v22_1_R3, v17_1_R3]
  rewrite [select_iff (v19_1_iff i)]
  change -((-((hg P Y (i 0).val (i 1).val (i 2).val : ℝ) : EReal)) * ((Real.exp (-softplus (hz P (i 0).val (i 1).val (i 2).val)) : ℝ) : EReal))
    + (-(if (i 2).val < (i 1).val then -((hg P Y (i 0).val (i 1).val (i 2).val : ℝ) : EReal)
        + ((∑ x ∈ range ((i 2).val + 1), hg P Y (i 0).val (i 1).val x : ℝ) : EReal) else Ideal.ofBits .f32 0x00000000#32))
      * ((1 - Real.exp (-softplus (hz P (i 0).val (i 1).val (i 2).val)) : ℝ) : EReal)
    = ((hd P Y (i 0).val (i 1).val (i 2).val : ℝ) : EReal)
  rw [Ideal.ofBits_zero_f32, ← EReal.coe_zero, ← EReal.coe_neg, ← EReal.coe_mul, ← EReal.coe_neg, ← EReal.coe_add, ite_coe, ← EReal.coe_neg,
    ← EReal.coe_mul, ← EReal.coe_add]
  refine congrArg (fun z : ℝ => (z : EReal)) ?_
  show _ = gradZ _ _ _ _ _ _
  rw [gradZ]
  split
  · ring
  · next h => rw [hg, gradG_of_not_lt _ _ _ _ h]; ring

theorem hq_band (h : ℕ) : cols (band (scaledP P) 2048) h = hq P h := by
  funext t d
  exact congrArg (scaledP P t) (by ring)

theorem hk_band (h : ℕ) : cols (band (scaledP P) 4096) h = hk P h := by
  funext t d
  exact congrArg (scaledP P t) (by ring)

theorem hv_band (h : ℕ) : cols (band (scaledP P) 6144) h = hv P h := by
  funext t d
  exact congrArg (scaledP P t) (by ring)

theorem v58_R2 : val_main_v58 (F := Ideal) (R2 (φ := .f32) P) (R2 (φ := .f32) Y) = R2 (φ := .f32) (dqF (scaledP P) P Y) := by
  funext i
  have h0 : (i 0).val < 4096 := (i 0).isLt
  have h1 : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  rewrite [val_main_v58_apply, val_main_v55_apply, val_main_v53_apply, val_main_v52_apply, val_main_v54_apply, val_main_cst_2_apply, v49_R3, v5_R3]
  refine (congrArg₂ (fun x y : EReal => x * y) (coe_dot 4096
    (fun s => hd P Y (((i 0).val * 2048 + (i 1).val) / 128 % 16) (((i 0).val * 2048 + (i 1).val) / 2048) s)
    (fun s => hk P (((i 0).val * 2048 + (i 1).val) / 128 % 16) s (((i 0).val * 2048 + (i 1).val) % 128))) scaleC_coe).trans ?_
  rw [e0, e1, e2, ← EReal.coe_mul]
  refine congrArg (fun z : ℝ => (z : EReal)) ?_
  show _ = gradQ _ _ _ _ _ _
  rw [gradQ, hq_band, hk_band, hv_band]

theorem v57_R2 : val_main_v57 (F := Ideal) (R2 (φ := .f32) P) (R2 (φ := .f32) Y) = R2 (φ := .f32) (dkF (scaledP P) P Y 16) := by
  funext i
  have h0 : (i 0).val < 4096 := (i 0).isLt
  have h1 : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  rewrite [val_main_v57_apply, val_main_v51_apply, val_main_v50_apply, v49_R3, v8_R3]
  refine (coe_dot 4096
    (fun t => hd P Y (((i 0).val * 2048 + (i 1).val) / 128 % 16) t (((i 0).val * 2048 + (i 1).val) / 2048))
    (fun t => hq P (((i 0).val * 2048 + (i 1).val) / 128 % 16) t (((i 0).val * 2048 + (i 1).val) % 128))).trans ?_
  rw [e0, e1, e2]
  refine congrArg (fun z : ℝ => (z : EReal)) ?_
  show _ = accK _ _ _ _ _ _ _
  rw [accK, hq_band, hk_band, hv_band]

theorem v56_R2 : val_main_v56 (F := Ideal) (R2 (φ := .f32) P) (R2 (φ := .f32) Y) = R2 (φ := .f32) (dvF (scaledP P) P Y 16) := by
  funext i
  have h0 : (i 0).val < 4096 := (i 0).isLt
  have h1 : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  rewrite [val_main_v56_apply, val_main_v39_apply, val_main_v38_apply, v36_R3, v25_0_R3]
  refine (coe_dot 4096
    (fun t => hw P Y (((i 0).val * 2048 + (i 1).val) / 128 % 16) t (((i 0).val * 2048 + (i 1).val) % 128))
    (fun t => attA (hq P (((i 0).val * 2048 + (i 1).val) / 128 % 16)) (hk P (((i 0).val * 2048 + (i 1).val) / 128 % 16)) t
      (((i 0).val * 2048 + (i 1).val) / 2048))).trans ?_
  rw [e0, e1, e2]
  refine congrArg (fun z : ℝ => (z : EReal)) ?_
  show _ = accV _ _ _ _ _ _
  rw [accV, hq_band, hk_band]
  exact sum_congr rfl fun t _ => mul_comm _ _

end Cert.Proof
-- ==== Proof.HostRun.lean ====
/- The kernel program's run on the ideal values: what its results hold at the end. -/
module

public import proofs.«01_k».proof.Proof.RefBwd
public import proofs.«01_k».proof.Proof.Gen.KernelIdeal.Frame
public import Idealize.ShloMosaic.Lib.StableHlo.ReadAt

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer the program leaves, by the contents folded through its calls. -/
theorem final_run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end

variable (m : (ℓ : Loc nD τ sig) → Buf (Elt Ideal) ℓ) (ρ : Dev nD → PrngReg)

theorem sge_iff {a b : ℕ} (ha : a < 2 ^ 31) (hb : b < 2 ^ 31) :
    IntOp.cmpi .sge (BitVec.ofNat 32 a) (BitVec.ofNat 32 b) = 1#1 ↔ b ≤ a := by
  rw [IntOp.cmpi_sge, toInt_small ha, toInt_small hb]
  omega

theorem andi_iff {x y : BitVec 1} {p q : Prop} (hx : x = 1#1 ↔ p) (hy : y = 1#1 ↔ q) : IntOp.andi x y = 1#1 ↔ p ∧ q := by
  rw [← hx, ← hy]
  clear hx hy
  revert x y
  decide

variable (c : Dev nD) (P Y : ℕ → ℕ → ℝ)
  (hP : m ((c.tc : Thread nD τ).loc main_arg0) = (R2 P : FVec Ideal S4096x14336 .f32))
  (hY : m ((c.tc : Thread nD τ).loc main_arg1) = (R2 Y : FVec Ideal S4096x2048 .f32))

include hP in
/-- The host lines scale the queries' columns. -/
theorem proj_R2 : W3 (F := Ideal) m ρ c (Proc.devRef .tc main_v10) = (R2 (scaledP P) : FVec Ideal S4096x14336 .bf16) := by
  show StableHlo.after hostOps0_2 (StableHlo.after hostOps0_1 (StableHlo.after hostOps0 (W0 m ρ c))) (Proc.devRef .tc main_v10) = _
  funext j
  idx_vars j
  after_reads_at
  have h1 : j1.val < 14336 := j1.isLt
  refine (congrArg₂ (fun x y : EReal => x * y) (congrFun ((W0_args m ρ c main_arg0 (by decide)).trans hP) (ix2 j0 j1)) ?_).trans
    (EReal.coe_mul (P j0.val j1.val) (if 2048 ≤ j1.val ∧ j1.val < 4096 then scaleC else 1)).symm
  refine (select_iff (andi_iff (sge_iff (a := j1.val) (b := 2048) (by omega) (by omega)) (slt_iff (a := j1.val) (b := 4096) (by omega) (by omega)))
    (Scalar.ofBits (F := Ideal) .f32 0x3DB504F3#32 : EReal) (FloatOps.ofBits (F := Ideal) .f32 0x3F800000#32 : EReal)).trans ?_
  rw [scaleC_coe, one_bits, ite_coe]

include hP in
theorem proj0 : V3 (F := Ideal) m ρ c main_v10 = (R2 (scaledP P) : FVec Ideal S4096x14336 .bf16) := proj_R2 m ρ c P hP

include hP in
theorem arg0 : V3 (F := Ideal) m ρ c main_arg0 = (R2 P : FVec Ideal S4096x14336 .f32) := (W3_args m ρ c main_arg0 (by decide)).trans hP

include hP in
theorem proj1 : V4 (F := Ideal) m ρ c main_v10 = (R2 (scaledP P) : FVec Ideal S4096x14336 .bf16) :=
  (W4_of m ρ c main_v10 (by decide +kernel)).trans (proj_R2 m ρ c P hP)

include hP in
theorem arg0_1 : V4 (F := Ideal) m ρ c main_arg0 = (R2 P : FVec Ideal S4096x14336 .f32) := (W4_args m ρ c main_arg0 (by decide)).trans hP

include hY in
theorem arg1_1 : V4 (F := Ideal) m ρ c main_arg1 = (R2 Y : FVec Ideal S4096x2048 .f32) := (W4_args m ρ c main_arg1 (by decide)).trans hY

include hP in
theorem att1 : V4 (F := Ideal) m ρ c main_v11_0 = (R2 (attF (scaledP P)) : FVec Ideal S4096x2048 .f32) :=
  (W4_arr m ρ c 4).trans (arr0_4 (V3 m ρ) c (scaledP P) P (proj0 m ρ c P hP) (arg0 m ρ c P hP))

include hP in
theorem saved1 : V4 (F := Ideal) m ρ c main_v11_2 = (R2 (savedF (scaledP P)) : FVec Ideal S4096x2048 .f32) :=
  (W4_arr m ρ c 6).trans (arr0_6 (V3 m ρ) c (scaledP P) P (proj0 m ρ c P hP) (arg0 m ρ c P hP))

include hP in
/-- The gated output at the end. -/
theorem end_yb : W5 (F := Ideal) m ρ c (Proc.devRef .tc main_v11_1) = (R2 (gatedF (scaledP P) P) : FVec Ideal S4096x2048 .bf16) :=
  (W5_of m ρ c main_v11_1 (by decide +kernel)).trans
    ((W4_arr m ρ c 5).trans (arr0_5 (V3 m ρ) c (scaledP P) P (proj0 m ρ c P hP) (arg0 m ρ c P hP)))

include hP hY
/-- The queries' gradient at the end. -/
theorem end_dq : W5 (F := Ideal) m ρ c (Proc.devRef .tc main_v12_0) = (R2 (dqF (scaledP P) P Y) : FVec Ideal S4096x2048 .f32) :=
  (W5_arr m ρ c 7).trans (arr1_7 (V4 m ρ) c (scaledP P) P Y (proj1 m ρ c P hP) (arg0_1 m ρ c P hP) (att1 m ρ c P hP) (arg1_1 m ρ c Y hY) (saved1 m ρ c P hP))

/-- The keys' gradient at the end. -/
theorem end_dk : W5 (F := Ideal) m ρ c (Proc.devRef .tc main_v12_1) = (R2 (dkF (scaledP P) P Y 16) : FVec Ideal S4096x2048 .f32) :=
  (W5_arr m ρ c 8).trans (arr1_8 (V4 m ρ) c (scaledP P) P Y (proj1 m ρ c P hP) (arg0_1 m ρ c P hP) (att1 m ρ c P hP) (arg1_1 m ρ c Y hY) (saved1 m ρ c P hP))

/-- The values' gradient at the end. -/
theorem end_dv : W5 (F := Ideal) m ρ c (Proc.devRef .tc main_v12_2) = (R2 (dvF (scaledP P) P Y 16) : FVec Ideal S4096x2048 .f32) :=
  (W5_arr m ρ c 9).trans (arr1_9 (V4 m ρ) c (scaledP P) P Y (proj1 m ρ c P hP) (arg0_1 m ρ c P hP) (att1 m ρ c P hP) (arg1_1 m ρ c Y hY) (saved1 m ρ c P hP))

/-- The gate's gradient at the end. -/
theorem end_dz : W5 (F := Ideal) m ρ c (Proc.devRef .tc main_v12_3) = (R2 (dzF (scaledP P) P Y) : FVec Ideal S4096x2048 .f32) :=
  (W5_arr m ρ c 10).trans (arr1_10 (V4 m ρ) c (scaledP P) P Y (proj1 m ρ c P hP) (arg0_1 m ρ c P hP) (att1 m ρ c P hP) (arg1_1 m ρ c Y hY) (saved1 m ρ c P hP))

end Cert.Proof
-- ==== Proof.Pre.lean ====
/- Arrays whose entries are all finite are arrays of real entries. -/
module

public import proofs.«01_k».proof.Pre_finite
public import proofs.«01_k».proof.Proof.Ops

@[expose] public section

noncomputable section

namespace Cert.Proof

open Idealize.ShloMosaic

/-- The side conditions of the precondition's operations. -/
theorem finiteFacts : Cert.Pre_finite.Facts where
  bcast_S_S4096x14336 := by decide
  reducesTo_S4096x14336_S_d0_1 := by decide
  h_S_ := by decide
  bcast_S_S4096x2048 := by decide
  reducesTo_S4096x2048_S_d0_1 := by decide

theorem and_one {x y : BitVec 1} (h : IntOp.andi x y = 1#1) : x = 1#1 ∧ y = 1#1 := by
  revert h
  revert x y
  decide

theorem foldl_and {ι : Type} (x : ι → BitVec 1) (l : List ι) (z : BitVec 1)
    (h : l.foldl (fun r n => IntOp.andi r (x n)) z = 1#1) : z = 1#1 ∧ ∀ n ∈ l, x n = 1#1 := by
  induction l generalizing z with
  | nil => exact ⟨h, fun _ hn => absurd hn List.not_mem_nil⟩
  | cons a l ih =>
    obtain ⟨h1, h2⟩ := ih _ h
    obtain ⟨h3, h4⟩ := and_one h1
    exact ⟨h3, fun n hn => (List.mem_cons.mp hn).elim (fun e => e ▸ h4) (h2 n)⟩

/-- An array all of whose entries the reduction by `and` covers. -/
theorem all_one {s u : Shape} {axes : List (Fin s.rank)} (x : s.Idx → BitVec 1) (init : u.Idx → BitVec 1)
    (h : s.ReducesTo axes ⟨0, ![]⟩) (hu : 0 < u.numel) (j : (⟨0, ![]⟩ : Shape).Idx) (e : Host.reduce IntOp.andi x init h hu j = 1#1) (i : s.Idx) :
    x i = 1#1 := by
  have := (foldl_and (fun n => x (s.rowMajor.symm n)) _ _ e).2 (s.rowMajor i)
    (List.mem_filter.mpr ⟨List.mem_finRange _, decide_eq_true (funext fun a => a.elim0)⟩)
  rwa [Equiv.symm_apply_apply] at this

theorem real_of_lt {x : EReal} (h : Ideal.cmp .olt (max x (-x)) (Ideal.ofBits .f32 0x7F800000#32) = 1#1) : ((x.toReal : ℝ) : EReal) = x := by
  have ht : Ideal.ofBits .f32 0x7F800000#32 = ⊤ := by simp [Ideal.ofBits, Ideal.ieee]
  rw [ht] at h
  induction x with
  | bot => simp [Ideal.cmp] at h
  | top => simp [Ideal.cmp] at h
  | coe x => rfl

/-- The real entries of an array. -/
def reals {m n : ℕ} (x : FVec Ideal ⟨2, ![m, n]⟩ .f32) (r c : ℕ) : ℝ :=
  if h : r < m ∧ c < n then (x (ix2 ⟨r, h.1⟩ ⟨c, h.2⟩) : EReal).toReal else 0

theorem R2_reals {m n : ℕ} (x : FVec Ideal ⟨2, ![m, n]⟩ .f32)
    (h : ∀ i, Ideal.cmp .olt (max (x i : EReal) (-(x i : EReal))) (Ideal.ofBits .f32 0x7F800000#32) = 1#1) : x = R2 (reals x) := by
  funext i
  refine (real_of_lt (h i)).symm.trans ?_
  have e : i = ix2 (i 0) (i 1) := funext fun a => match a with | ⟨0, _⟩ => rfl | ⟨1, _⟩ => rfl
  show _ = ((reals x (i 0).val (i 1).val : ℝ) : EReal)
  rw [reals, dif_pos ⟨(i 0).isLt, (i 1).isLt⟩]
  exact congrArg (fun j => ((x j : EReal).toReal : EReal)) e

theorem real_args [Cert.Pre_finite.Facts] (x : FVec Ideal ⟨2, ![4096, 14336]⟩ .f32) (y : FVec Ideal ⟨2, ![4096, 2048]⟩ .f32)
    (h : Cert.Pre_finite.fn (F := Ideal) x y = fun _ => 1#1) :
    x = R2 (reals x) ∧ y = R2 (reals y) := by
  have h0 := congrFun h (fun a : Fin 0 => a.elim0)
  obtain ⟨hx, hy⟩ := and_one h0
  exact ⟨R2_reals x fun i => all_one _ _ _ _ _ hx i, R2_reals y fun i => all_one _ _ _ _ _ hy i⟩

end Cert.Proof
-- ==== Proof.lean ====
/- The proof of the certificate's claims: the frames of the programs, the kernels' idealizations, the agreement of the
   attention's kernels with the reference on arguments of finite entries, and that of the six products with the weights of
   the input on all arguments. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.RefProjIdeal
public import proofs.«01_k».proof.Proof.Gen.RefProjIdeal.Run
public import proofs.«01_k».proof.Proof.Gen.RefProjIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.RefGatesIdeal
public import proofs.«01_k».proof.Proof.Gen.RefGatesIdeal.Run
public import proofs.«01_k».proof.Proof.Gen.RefGatesIdeal.Read
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.RefGradInIdeal
public import proofs.«01_k».proof.Proof.Gen.RefGradInIdeal.Run
public import proofs.«01_k».proof.Proof.Gen.RefGradInIdeal.Read
public import proofs.«01_k».proof.Proof.Gen.GradGate
public import proofs.«01_k».proof.Proof.Gen.GradGate.Skeleton
public import proofs.«01_k».proof.Proof.Gen.GradGate.Launch
public import proofs.«01_k».proof.Proof.Gen.GradGate.Points
public import proofs.«01_k».proof.Proof.Gen.GradGate.Frame
public import proofs.«01_k».proof.Proof.Gen.GradGateIdeal
public import proofs.«01_k».proof.Proof.Gen.GradGateIdeal.Skeleton
public import proofs.«01_k».proof.Proof.Gen.GradGateIdeal.Launch
public import proofs.«01_k».proof.Proof.Gen.GradGateIdeal.Points
public import proofs.«01_k».proof.Proof.Gen.GradGateIdeal.Frame
public import proofs.«01_k».proof.Proof.Gen.GradGateIdeal.Value
public import proofs.«01_k».proof.Proof.Gen.RefGradGateIdeal
public import proofs.«01_k».proof.Proof.Gen.RefGradGateIdeal.Run
public import proofs.«01_k».proof.Proof.Gen.RefGradGateIdeal.Read
public import proofs.«01_k».proof.Proof.Gen.DhIn
public import proofs.«01_k».proof.Proof.Gen.DhIn.Skeleton
public import proofs.«01_k».proof.Proof.Gen.DhIn.Launch
public import proofs.«01_k».proof.Proof.Gen.DhIn.Points
public import proofs.«01_k».proof.Proof.Gen.DhIn.Frame
public import proofs.«01_k».proof.Proof.Gen.DhInIdeal
public import proofs.«01_k».proof.Proof.Gen.DhInIdeal.Skeleton
public import proofs.«01_k».proof.Proof.Gen.DhInIdeal.Launch
public import proofs.«01_k».proof.Proof.Gen.DhInIdeal.Points
public import proofs.«01_k».proof.Proof.Gen.DhInIdeal.Frame
public import proofs.«01_k».proof.Proof.Gen.DhInIdeal.Value
public import proofs.«01_k».proof.Proof.Gen.RefDhInIdeal
public import proofs.«01_k».proof.Proof.Gen.RefDhInIdeal.Run
public import proofs.«01_k».proof.Proof.Gen.RefDhInIdeal.Read
public import proofs.«01_k».proof.Proof.Gen.DhGate
public import proofs.«01_k».proof.Proof.Gen.DhGate.Skeleton
public import proofs.«01_k».proof.Proof.Gen.DhGate.Launch
public import proofs.«01_k».proof.Proof.Gen.DhGate.Points
public import proofs.«01_k».proof.Proof.Gen.DhGate.Frame
public import proofs.«01_k».proof.Proof.Gen.DhGateIdeal
public import proofs.«01_k».proof.Proof.Gen.DhGateIdeal.Skeleton
public import proofs.«01_k».proof.Proof.Gen.DhGateIdeal.Launch
public import proofs.«01_k».proof.Proof.Gen.DhGateIdeal.Points
public import proofs.«01_k».proof.Proof.Gen.DhGateIdeal.Frame
public import proofs.«01_k».proof.Proof.Gen.DhGateIdeal.Value
public import proofs.«01_k».proof.Proof.Gen.RefDhGateIdeal
public import proofs.«01_k».proof.Proof.Gen.RefDhGateIdeal.Run
public import proofs.«01_k».proof.Proof.Gen.RefDhGateIdeal.Read
public import proofs.«01_k».proof.Proof.ProjVal
public import proofs.«01_k».proof.Proof.GatesVal
public import proofs.«01_k».proof.Proof.GradInVal
public import proofs.«01_k».proof.Proof.GradGateVal
public import proofs.«01_k».proof.Proof.DhInVal
public import proofs.«01_k».proof.Proof.DhGateVal
public import proofs.«01_k».proof.Proof.Gates0Val
public import proofs.«01_k».proof.Proof.DhIn0Val
public import proofs.«01_k».proof.Proof.DhGate0Val
public import proofs.«01_k».proof.Proof.GradRowVal
public import proofs.«01_k».proof.Proof.GradColVal
public import proofs.«01_k».proof.Proof.DRowVal
public import proofs.«01_k».proof.Proof.DRow0Val
public import proofs.«01_k».proof.Proof.DColVal
public import proofs.«01_k».proof.Proof.DCol0Val
public import proofs.«01_k».proof.Proof.BranchAVal
public import proofs.«01_k».proof.Proof.BranchA0Val
public import proofs.«01_k».proof.Proof.BranchBVal
public import proofs.«01_k».proof.Proof.BranchB0Val
public import proofs.«01_k».proof.Proof.BranchCVal
public import proofs.«01_k».proof.Proof.BranchC0Val
public import proofs.«01_k».proof.Proof.OutProjVal
public import proofs.«01_k».proof.Proof.OutProj0Val
public import proofs.«01_k».proof.Proof.AdamInVal
public import proofs.«01_k».proof.Proof.AdamGateVal
public import proofs.«01_k».proof.Proof.AdamBranchVal
public import proofs.«01_k».proof.Proof.AdamOutVal
public import proofs.«01_k».proof.Proof.AdamBiasVal
public import proofs.«01_k».proof.Proof.AdamNormVal
public import proofs.«01_k».proof.Proof.AdamScaleVal
public import proofs.«01_k».proof.Proof.AdamFinalVal
public import proofs.«01_k».proof.Proof.AdamConvVal
public import proofs.«01_k».proof.Proof.AdamPoolVal
public import proofs.«01_k».proof.Proof.Gen.Gates0
public import proofs.«01_k».proof.Proof.Gen.Gates0.Skeleton
public import proofs.«01_k».proof.Proof.Gen.Gates0.Launch
public import proofs.«01_k».proof.Proof.Gen.Gates0.Points
public import proofs.«01_k».proof.Proof.Gen.Gates0.Frame
public import proofs.«01_k».proof.Proof.Gen.Gates0Ideal
public import proofs.«01_k».proof.Proof.Gen.Gates0Ideal.Skeleton
public import proofs.«01_k».proof.Proof.Gen.Gates0Ideal.Launch
public import proofs.«01_k».proof.Proof.Gen.Gates0Ideal.Points
public import proofs.«01_k».proof.Proof.Gen.Gates0Ideal.Frame
public import proofs.«01_k».proof.Proof.Gen.Gates0Ideal.Value
public import proofs.«01_k».proof.Proof.Gen.RefGates0Ideal
public import proofs.«01_k».proof.Proof.Gen.RefGates0Ideal.Run
public import proofs.«01_k».proof.Proof.Gen.RefGates0Ideal.Read
public import proofs.«01_k».proof.Proof.Gen.DhIn0
public import proofs.«01_k».proof.Proof.Gen.DhIn0.Skeleton
public import proofs.«01_k».proof.Proof.Gen.DhIn0.Launch
public import proofs.«01_k».proof.Proof.Gen.DhIn0.Points
public import proofs.«01_k».proof.Proof.Gen.DhIn0.Frame
public import proofs.«01_k».proof.Proof.Gen.DhIn0Ideal
public import proofs.«01_k».proof.Proof.Gen.DhIn0Ideal.Skeleton
public import proofs.«01_k».proof.Proof.Gen.DhIn0Ideal.Launch
public import proofs.«01_k».proof.Proof.Gen.DhIn0Ideal.Points
public import proofs.«01_k».proof.Proof.Gen.DhIn0Ideal.Frame
public import proofs.«01_k».proof.Proof.Gen.DhIn0Ideal.Value
public import proofs.«01_k».proof.Proof.Gen.RefDhIn0Ideal
public import proofs.«01_k».proof.Proof.Gen.RefDhIn0Ideal.Run
public import proofs.«01_k».proof.Proof.Gen.RefDhIn0Ideal.Read
public import proofs.«01_k».proof.Proof.Gen.DhGate0
public import proofs.«01_k».proof.Proof.Gen.DhGate0.Skeleton
public import proofs.«01_k».proof.Proof.Gen.DhGate0.Launch
public import proofs.«01_k».proof.Proof.Gen.DhGate0.Points
public import proofs.«01_k».proof.Proof.Gen.DhGate0.Frame
public import proofs.«01_k».proof.Proof.Gen.DhGate0Ideal
public import proofs.«01_k».proof.Proof.Gen.DhGate0Ideal.Skeleton
public import proofs.«01_k».proof.Proof.Gen.DhGate0Ideal.Launch
public import proofs.«01_k».proof.Proof.Gen.DhGate0Ideal.Points
public import proofs.«01_k».proof.Proof.Gen.DhGate0Ideal.Frame
public import proofs.«01_k».proof.Proof.Gen.DhGate0Ideal.Value
public import proofs.«01_k».proof.Proof.Gen.RefDhGate0Ideal
public import proofs.«01_k».proof.Proof.Gen.RefDhGate0Ideal.Run
public import proofs.«01_k».proof.Proof.Gen.RefDhGate0Ideal.Read
public import proofs.«01_k».proof.Proof.Gen.GradRow
public import proofs.«01_k».proof.Proof.Gen.GradRow.Skeleton
public import proofs.«01_k».proof.Proof.Gen.GradRow.Launch
public import proofs.«01_k».proof.Proof.Gen.GradRow.Points
public import proofs.«01_k».proof.Proof.Gen.GradRow.Frame
public import proofs.«01_k».proof.Proof.Gen.GradRowIdeal
public import proofs.«01_k».proof.Proof.Gen.GradRowIdeal.Skeleton
public import proofs.«01_k».proof.Proof.Gen.GradRowIdeal.Launch
public import proofs.«01_k».proof.Proof.Gen.GradRowIdeal.Points
public import proofs.«01_k».proof.Proof.Gen.GradRowIdeal.Frame
public import proofs.«01_k».proof.Proof.Gen.GradRowIdeal.Value
public import proofs.«01_k».proof.Proof.Gen.RefGradRowIdeal
public import proofs.«01_k».proof.Proof.Gen.RefGradRowIdeal.Run
public import proofs.«01_k».proof.Proof.Gen.RefGradRowIdeal.Read
public import proofs.«01_k».proof.Proof.Gen.GradCol
public import proofs.«01_k».proof.Proof.Gen.GradCol.Skeleton
public import proofs.«01_k».proof.Proof.Gen.GradCol.Launch
public import proofs.«01_k».proof.Proof.Gen.GradCol.Points
public import proofs.«01_k».proof.Proof.Gen.GradCol.Frame
public import proofs.«01_k».proof.Proof.Gen.GradColIdeal
public import proofs.«01_k».proof.Proof.Gen.GradColIdeal.Skeleton
public import proofs.«01_k».proof.Proof.Gen.GradColIdeal.Launch
public import proofs.«01_k».proof.Proof.Gen.GradColIdeal.Points
public import proofs.«01_k».proof.Proof.Gen.GradColIdeal.Frame
public import proofs.«01_k».proof.Proof.Gen.GradColIdeal.Value
public import proofs.«01_k».proof.Proof.Gen.RefGradColIdeal
public import proofs.«01_k».proof.Proof.Gen.RefGradColIdeal.Run
public import proofs.«01_k».proof.Proof.Gen.RefGradColIdeal.Read
public import proofs.«01_k».proof.Proof.Gen.DRow
public import proofs.«01_k».proof.Proof.Gen.DRow.Skeleton
public import proofs.«01_k».proof.Proof.Gen.DRow.Launch
public import proofs.«01_k».proof.Proof.Gen.DRow.Points
public import proofs.«01_k».proof.Proof.Gen.DRow.Frame
public import proofs.«01_k».proof.Proof.Gen.DRowIdeal
public import proofs.«01_k».proof.Proof.Gen.DRowIdeal.Skeleton
public import proofs.«01_k».proof.Proof.Gen.DRowIdeal.Launch
public import proofs.«01_k».proof.Proof.Gen.DRowIdeal.Points
public import proofs.«01_k».proof.Proof.Gen.DRowIdeal.Frame
public import proofs.«01_k».proof.Proof.Gen.DRowIdeal.Value
public import proofs.«01_k».proof.Proof.Gen.RefDRowIdeal
public import proofs.«01_k».proof.Proof.Gen.RefDRowIdeal.Run
public import proofs.«01_k».proof.Proof.Gen.RefDRowIdeal.Read
public import proofs.«01_k».proof.Proof.Gen.DRow0
public import proofs.«01_k».proof.Proof.Gen.DRow0.Skeleton
public import proofs.«01_k».proof.Proof.Gen.DRow0.Launch
public import proofs.«01_k».proof.Proof.Gen.DRow0.Points
public import proofs.«01_k».proof.Proof.Gen.DRow0.Frame
public import proofs.«01_k».proof.Proof.Gen.DRow0Ideal
public import proofs.«01_k».proof.Proof.Gen.DRow0Ideal.Skeleton
public import proofs.«01_k».proof.Proof.Gen.DRow0Ideal.Launch
public import proofs.«01_k».proof.Proof.Gen.DRow0Ideal.Points
public import proofs.«01_k».proof.Proof.Gen.DRow0Ideal.Frame
public import proofs.«01_k».proof.Proof.Gen.DRow0Ideal.Value
public import proofs.«01_k».proof.Proof.Gen.RefDRow0Ideal
public import proofs.«01_k».proof.Proof.Gen.RefDRow0Ideal.Run
public import proofs.«01_k».proof.Proof.Gen.RefDRow0Ideal.Read
public import proofs.«01_k».proof.Proof.Gen.DCol
public import proofs.«01_k».proof.Proof.Gen.DCol.Skeleton
public import proofs.«01_k».proof.Proof.Gen.DCol.Launch
public import proofs.«01_k».proof.Proof.Gen.DCol.Points
public import proofs.«01_k».proof.Proof.Gen.DCol.Frame
public import proofs.«01_k».proof.Proof.Gen.DColIdeal
public import proofs.«01_k».proof.Proof.Gen.DColIdeal.Skeleton
public import proofs.«01_k».proof.Proof.Gen.DColIdeal.Launch
public import proofs.«01_k».proof.Proof.Gen.DColIdeal.Points
public import proofs.«01_k».proof.Proof.Gen.DColIdeal.Frame
public import proofs.«01_k».proof.Proof.Gen.DColIdeal.Value
public import proofs.«01_k».proof.Proof.Gen.RefDColIdeal
public import proofs.«01_k».proof.Proof.Gen.RefDColIdeal.Run
public import proofs.«01_k».proof.Proof.Gen.RefDColIdeal.Read
public import proofs.«01_k».proof.Proof.Gen.DCol0
public import proofs.«01_k».proof.Proof.Gen.DCol0.Skeleton
public import proofs.«01_k».proof.Proof.Gen.DCol0.Launch
public import proofs.«01_k».proof.Proof.Gen.DCol0.Points
public import proofs.«01_k».proof.Proof.Gen.DCol0.Frame
public import proofs.«01_k».proof.Proof.Gen.DCol0Ideal
public import proofs.«01_k».proof.Proof.Gen.DCol0Ideal.Skeleton
public import proofs.«01_k».proof.Proof.Gen.DCol0Ideal.Launch
public import proofs.«01_k».proof.Proof.Gen.DCol0Ideal.Points
public import proofs.«01_k».proof.Proof.Gen.DCol0Ideal.Frame
public import proofs.«01_k».proof.Proof.Gen.DCol0Ideal.Value
public import proofs.«01_k».proof.Proof.Gen.RefDCol0Ideal
public import proofs.«01_k».proof.Proof.Gen.RefDCol0Ideal.Run
public import proofs.«01_k».proof.Proof.Gen.RefDCol0Ideal.Read
public import proofs.«01_k».proof.Proof.Gen.BranchA
public import proofs.«01_k».proof.Proof.Gen.BranchA.Skeleton
public import proofs.«01_k».proof.Proof.Gen.BranchA.Launch
public import proofs.«01_k».proof.Proof.Gen.BranchA.Points
public import proofs.«01_k».proof.Proof.Gen.BranchA.Frame
public import proofs.«01_k».proof.Proof.Gen.BranchAIdeal
public import proofs.«01_k».proof.Proof.Gen.BranchAIdeal.Skeleton
public import proofs.«01_k».proof.Proof.Gen.BranchAIdeal.Launch
public import proofs.«01_k».proof.Proof.Gen.BranchAIdeal.Points
public import proofs.«01_k».proof.Proof.Gen.BranchAIdeal.Frame
public import proofs.«01_k».proof.Proof.Gen.BranchAIdeal.Value
public import proofs.«01_k».proof.Proof.Gen.RefBranchAIdeal
public import proofs.«01_k».proof.Proof.Gen.RefBranchAIdeal.Run
public import proofs.«01_k».proof.Proof.Gen.RefBranchAIdeal.Read
public import proofs.«01_k».proof.Proof.Gen.BranchA0
public import proofs.«01_k».proof.Proof.Gen.BranchA0.Skeleton
public import proofs.«01_k».proof.Proof.Gen.BranchA0.Launch
public import proofs.«01_k».proof.Proof.Gen.BranchA0.Points
public import proofs.«01_k».proof.Proof.Gen.BranchA0.Frame
public import proofs.«01_k».proof.Proof.Gen.BranchA0Ideal
public import proofs.«01_k».proof.Proof.Gen.BranchA0Ideal.Skeleton
public import proofs.«01_k».proof.Proof.Gen.BranchA0Ideal.Launch
public import proofs.«01_k».proof.Proof.Gen.BranchA0Ideal.Points
public import proofs.«01_k».proof.Proof.Gen.BranchA0Ideal.Frame
public import proofs.«01_k».proof.Proof.Gen.BranchA0Ideal.Value
public import proofs.«01_k».proof.Proof.Gen.RefBranchA0Ideal
public import proofs.«01_k».proof.Proof.Gen.RefBranchA0Ideal.Run
public import proofs.«01_k».proof.Proof.Gen.RefBranchA0Ideal.Read
public import proofs.«01_k».proof.Proof.Gen.BranchB
public import proofs.«01_k».proof.Proof.Gen.BranchB.Skeleton
public import proofs.«01_k».proof.Proof.Gen.BranchB.Launch
public import proofs.«01_k».proof.Proof.Gen.BranchB.Points
public import proofs.«01_k».proof.Proof.Gen.BranchB.Frame
public import proofs.«01_k».proof.Proof.Gen.BranchBIdeal
public import proofs.«01_k».proof.Proof.Gen.BranchBIdeal.Skeleton
public import proofs.«01_k».proof.Proof.Gen.BranchBIdeal.Launch
public import proofs.«01_k».proof.Proof.Gen.BranchBIdeal.Points
public import proofs.«01_k».proof.Proof.Gen.BranchBIdeal.Frame
public import proofs.«01_k».proof.Proof.Gen.BranchBIdeal.Value
public import proofs.«01_k».proof.Proof.Gen.RefBranchBIdeal
public import proofs.«01_k».proof.Proof.Gen.RefBranchBIdeal.Run
public import proofs.«01_k».proof.Proof.Gen.RefBranchBIdeal.Read
public import proofs.«01_k».proof.Proof.Gen.BranchB0
public import proofs.«01_k».proof.Proof.Gen.BranchB0.Skeleton
public import proofs.«01_k».proof.Proof.Gen.BranchB0.Launch
public import proofs.«01_k».proof.Proof.Gen.BranchB0.Points
public import proofs.«01_k».proof.Proof.Gen.BranchB0.Frame
public import proofs.«01_k».proof.Proof.Gen.BranchB0Ideal
public import proofs.«01_k».proof.Proof.Gen.BranchB0Ideal.Skeleton
public import proofs.«01_k».proof.Proof.Gen.BranchB0Ideal.Launch
public import proofs.«01_k».proof.Proof.Gen.BranchB0Ideal.Points
public import proofs.«01_k».proof.Proof.Gen.BranchB0Ideal.Frame
public import proofs.«01_k».proof.Proof.Gen.BranchB0Ideal.Value
public import proofs.«01_k».proof.Proof.Gen.RefBranchB0Ideal
public import proofs.«01_k».proof.Proof.Gen.RefBranchB0Ideal.Run
public import proofs.«01_k».proof.Proof.Gen.RefBranchB0Ideal.Read
public import proofs.«01_k».proof.Proof.Gen.BranchC
public import proofs.«01_k».proof.Proof.Gen.BranchC.Skeleton
public import proofs.«01_k».proof.Proof.Gen.BranchC.Launch
public import proofs.«01_k».proof.Proof.Gen.BranchC.Points
public import proofs.«01_k».proof.Proof.Gen.BranchC.Frame
public import proofs.«01_k».proof.Proof.Gen.BranchCIdeal
public import proofs.«01_k».proof.Proof.Gen.BranchCIdeal.Skeleton
public import proofs.«01_k».proof.Proof.Gen.BranchCIdeal.Launch
public import proofs.«01_k».proof.Proof.Gen.BranchCIdeal.Points
public import proofs.«01_k».proof.Proof.Gen.BranchCIdeal.Frame
public import proofs.«01_k».proof.Proof.Gen.BranchCIdeal.Value
public import proofs.«01_k».proof.Proof.Gen.RefBranchCIdeal
public import proofs.«01_k».proof.Proof.Gen.RefBranchCIdeal.Run
public import proofs.«01_k».proof.Proof.Gen.RefBranchCIdeal.Read
public import proofs.«01_k».proof.Proof.Gen.BranchC0
public import proofs.«01_k».proof.Proof.Gen.BranchC0.Skeleton
public import proofs.«01_k».proof.Proof.Gen.BranchC0.Launch
public import proofs.«01_k».proof.Proof.Gen.BranchC0.Points
public import proofs.«01_k».proof.Proof.Gen.BranchC0.Frame
public import proofs.«01_k».proof.Proof.Gen.BranchC0Ideal
public import proofs.«01_k».proof.Proof.Gen.BranchC0Ideal.Skeleton
public import proofs.«01_k».proof.Proof.Gen.BranchC0Ideal.Launch
public import proofs.«01_k».proof.Proof.Gen.BranchC0Ideal.Points
public import proofs.«01_k».proof.Proof.Gen.BranchC0Ideal.Frame
public import proofs.«01_k».proof.Proof.Gen.BranchC0Ideal.Value
public import proofs.«01_k».proof.Proof.Gen.RefBranchC0Ideal
public import proofs.«01_k».proof.Proof.Gen.RefBranchC0Ideal.Run
public import proofs.«01_k».proof.Proof.Gen.RefBranchC0Ideal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.RefOutProjIdeal
public import proofs.«01_k».proof.Proof.Gen.RefOutProjIdeal.Run
public import proofs.«01_k».proof.Proof.Gen.RefOutProjIdeal.Read
public import proofs.«01_k».proof.Proof.Gen.OutProj0
public import proofs.«01_k».proof.Proof.Gen.OutProj0.Skeleton
public import proofs.«01_k».proof.Proof.Gen.OutProj0.Launch
public import proofs.«01_k».proof.Proof.Gen.OutProj0.Points
public import proofs.«01_k».proof.Proof.Gen.OutProj0.Frame
public import proofs.«01_k».proof.Proof.Gen.OutProj0Ideal
public import proofs.«01_k».proof.Proof.Gen.OutProj0Ideal.Skeleton
public import proofs.«01_k».proof.Proof.Gen.OutProj0Ideal.Launch
public import proofs.«01_k».proof.Proof.Gen.OutProj0Ideal.Points
public import proofs.«01_k».proof.Proof.Gen.OutProj0Ideal.Frame
public import proofs.«01_k».proof.Proof.Gen.OutProj0Ideal.Value
public import proofs.«01_k».proof.Proof.Gen.RefOutProj0Ideal
public import proofs.«01_k».proof.Proof.Gen.RefOutProj0Ideal.Run
public import proofs.«01_k».proof.Proof.Gen.RefOutProj0Ideal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.RefAdamInIdeal
public import proofs.«01_k».proof.Proof.Gen.RefAdamInIdeal.Run
public import proofs.«01_k».proof.Proof.Gen.RefAdamInIdeal.Read
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.RefAdamGateIdeal
public import proofs.«01_k».proof.Proof.Gen.RefAdamGateIdeal.Run
public import proofs.«01_k».proof.Proof.Gen.RefAdamGateIdeal.Read
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchIdeal.Value
public import proofs.«01_k».proof.Proof.Gen.RefAdamBranchIdeal
public import proofs.«01_k».proof.Proof.Gen.RefAdamBranchIdeal.Run
public import proofs.«01_k».proof.Proof.Gen.RefAdamBranchIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.RefAdamOutIdeal
public import proofs.«01_k».proof.Proof.Gen.RefAdamOutIdeal.Run
public import proofs.«01_k».proof.Proof.Gen.RefAdamOutIdeal.Read
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasIdeal.Value
public import proofs.«01_k».proof.Proof.Gen.RefAdamBiasIdeal
public import proofs.«01_k».proof.Proof.Gen.RefAdamBiasIdeal.Run
public import proofs.«01_k».proof.Proof.Gen.RefAdamBiasIdeal.Read
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.RefAdamNormIdeal
public import proofs.«01_k».proof.Proof.Gen.RefAdamNormIdeal.Run
public import proofs.«01_k».proof.Proof.Gen.RefAdamNormIdeal.Read
public import proofs.«01_k».proof.Proof.Gen.AdamScale
public import proofs.«01_k».proof.Proof.Gen.AdamScale.Skeleton
public import proofs.«01_k».proof.Proof.Gen.AdamScale.Launch
public import proofs.«01_k».proof.Proof.Gen.AdamScale.Points
public import proofs.«01_k».proof.Proof.Gen.AdamScale.Frame
public import proofs.«01_k».proof.Proof.Gen.AdamScaleIdeal
public import proofs.«01_k».proof.Proof.Gen.AdamScaleIdeal.Skeleton
public import proofs.«01_k».proof.Proof.Gen.AdamScaleIdeal.Launch
public import proofs.«01_k».proof.Proof.Gen.AdamScaleIdeal.Points
public import proofs.«01_k».proof.Proof.Gen.AdamScaleIdeal.Frame
public import proofs.«01_k».proof.Proof.Gen.AdamScaleIdeal.Value
public import proofs.«01_k».proof.Proof.Gen.RefAdamScaleIdeal
public import proofs.«01_k».proof.Proof.Gen.RefAdamScaleIdeal.Run
public import proofs.«01_k».proof.Proof.Gen.RefAdamScaleIdeal.Read
public import proofs.«01_k».proof.Proof.Gen.AdamFinal
public import proofs.«01_k».proof.Proof.Gen.AdamFinal.Skeleton
public import proofs.«01_k».proof.Proof.Gen.AdamFinal.Launch
public import proofs.«01_k».proof.Proof.Gen.AdamFinal.Points
public import proofs.«01_k».proof.Proof.Gen.AdamFinal.Frame
public import proofs.«01_k».proof.Proof.Gen.AdamFinalIdeal
public import proofs.«01_k».proof.Proof.Gen.AdamFinalIdeal.Skeleton
public import proofs.«01_k».proof.Proof.Gen.AdamFinalIdeal.Launch
public import proofs.«01_k».proof.Proof.Gen.AdamFinalIdeal.Points
public import proofs.«01_k».proof.Proof.Gen.AdamFinalIdeal.Frame
public import proofs.«01_k».proof.Proof.Gen.AdamFinalIdeal.Value
public import proofs.«01_k».proof.Proof.Gen.RefAdamFinalIdeal
public import proofs.«01_k».proof.Proof.Gen.RefAdamFinalIdeal.Run
public import proofs.«01_k».proof.Proof.Gen.RefAdamFinalIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.RefAdamConvIdeal
public import proofs.«01_k».proof.Proof.Gen.RefAdamConvIdeal.Run
public import proofs.«01_k».proof.Proof.Gen.RefAdamConvIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.RefAdamPoolIdeal
public import proofs.«01_k».proof.Proof.Gen.RefAdamPoolIdeal.Run
public import proofs.«01_k».proof.Proof.Gen.RefAdamPoolIdeal.Read
public import proofs.«01_k».proof.Proof.HostRun
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem

/-- The reference runs and leaves its arguments; it declares no semaphore. -/
theorem frameR (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.2.2.2.2.1, (h c).2.2.2.2.2.2⟩, sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := finiteFacts) := by
  intro m g m' g' hpre hagree
  have := finiteFacts
  obtain ⟨P, hP⟩ : ∃ P : Dev Cert.KernelIdeal.nD → ℕ → ℕ → ℝ, ∀ c : Dev Cert.KernelIdeal.nD, m ((c.tc : Thread Cert.KernelIdeal.nD Cert.KernelIdeal.τ).loc Cert.KernelIdeal.main_arg0)
      = (R2 (P c) : FVec Ideal ⟨2, ![4096, 14336]⟩ .f32) := ⟨_, fun c => (real_args _ _ (hpre c)).1⟩
  obtain ⟨Y, hY⟩ : ∃ Y : Dev Cert.KernelIdeal.nD → ℕ → ℕ → ℝ, ∀ c : Dev Cert.KernelIdeal.nD, m ((c.tc : Thread Cert.KernelIdeal.nD Cert.KernelIdeal.τ).loc Cert.KernelIdeal.main_arg1)
      = (R2 (Y c) : FVec Ideal ⟨2, ![4096, 2048]⟩ .f32) := ⟨_, fun c => (real_args _ _ (hpre c)).2⟩
  have ha c := (hagree c).1.trans (hP c)
  have hb c := (hagree c).2.trans (hY c)
  have uc (b : Ref Cert.KernelIdeal.sig .tc) (h : ¬ (Proc.devRef .tc b : DevRef Cert.KernelIdeal.τ Cert.KernelIdeal.sig).isScoped) :=
    Cert.KernelIdeal.Gen.mem_uc b h
  refine ⟨fun c => R2 (φ := .bf16) (gatedF (scaledP (P c)) (P c)), fun c => R2 (φ := .f32) (dqF (scaledP (P c)) (P c) (Y c)), fun c => R2 (φ := .f32) (dkF (scaledP (P c)) (P c) (Y c) 16),
    fun c => R2 (φ := .f32) (dvF (scaledP (P c)) (P c) (Y c) 16), fun c => R2 (φ := .f32) (dzF (scaledP (P c)) (P c) (Y c)), ?_, ?_⟩
  · refine (θ_run Cert.KernelIdeal.defs _ _).mono (fun r h c => ⟨?_, ?_, ?_, ?_, ?_, ?_, ?_⟩) (final_run (F := Ideal) m g)
    · exact (h c _ (uc _ (by decide))).trans (end_yb m g c _ (hP c))
    · exact (h c _ (uc _ (by decide))).trans (end_dq m g c _ _ (hP c) (hY c))
    · exact (h c _ (uc _ (by decide))).trans (end_dk m g c _ _ (hP c) (hY c))
    · exact (h c _ (uc _ (by decide))).trans (end_dv m g c _ _ (hP c) (hY c))
    · exact (h c _ (uc _ (by decide))).trans (end_dz m g c _ _ (hP c) (hY c))
    · exact (h c _ (uc _ (by decide))).trans (Cert.KernelIdeal.Gen.W5_main_arg0 m g c)
    · exact (h c _ (uc _ (by decide))).trans (Cert.KernelIdeal.Gen.W5_main_arg1 m g c)
  · refine (θ_run Cert.ReferenceIdeal.defs _ _).mono (fun r h c => ⟨?_, ?_, ?_, ?_, ?_, (h c).2.2.2.2.2.1, (h c).2.2.2.2.2.2⟩)
      (Cert.ReferenceIdeal.Value.run (F := Ideal) m' g')
    · exact ((h c).1.trans (Cert.ReferenceIdeal.Read.val_main_v31_eq (StableHlo.launchContents m' c))).trans
        ((congrArg Cert.ReferenceIdeal.Read.val_main_v31 (ha c)).trans (v31_R2 _))
    · exact ((h c).2.1.trans (Cert.ReferenceIdeal.Read.val_main_v58_eq (StableHlo.launchContents m' c))).trans
        ((congrArg₂ Cert.ReferenceIdeal.Read.val_main_v58 (ha c) (hb c)).trans (v58_R2 _ _))
    · exact ((h c).2.2.1.trans (Cert.ReferenceIdeal.Read.val_main_v57_eq (StableHlo.launchContents m' c))).trans
        ((congrArg₂ Cert.ReferenceIdeal.Read.val_main_v57 (ha c) (hb c)).trans (v57_R2 _ _))
    · exact ((h c).2.2.2.1.trans (Cert.ReferenceIdeal.Read.val_main_v56_eq (StableHlo.launchContents m' c))).trans
        ((congrArg₂ Cert.ReferenceIdeal.Read.val_main_v56 (ha c) (hb c)).trans (v56_R2 _ _))
    · exact ((h c).2.2.2.2.1.trans (Cert.ReferenceIdeal.Read.val_main_v34_eq (StableHlo.launchContents m' c))).trans
        ((congrArg₂ Cert.ReferenceIdeal.Read.val_main_v34 (ha c) (hb c)).trans (v34_R2 _ _))

theorem claim : Cert.Claim :=
  ⟨Cert.Kernel.Gen.facts, Cert.KernelIdeal.Gen.facts, Cert.ReferenceIdeal.Gen.facts,
    Cert.Proj.Gen.facts, Cert.ProjIdeal.Gen.facts, Cert.RefProjIdeal.Gen.facts, Cert.Gates.Gen.facts, Cert.GatesIdeal.Gen.facts, Cert.RefGatesIdeal.Gen.facts, Cert.GradIn.Gen.facts, Cert.GradInIdeal.Gen.facts, Cert.RefGradInIdeal.Gen.facts, Cert.GradGate.Gen.facts, Cert.GradGateIdeal.Gen.facts, Cert.RefGradGateIdeal.Gen.facts, Cert.DhIn.Gen.facts, Cert.DhInIdeal.Gen.facts, Cert.RefDhInIdeal.Gen.facts, Cert.DhGate.Gen.facts, Cert.DhGateIdeal.Gen.facts, Cert.RefDhGateIdeal.Gen.facts, Cert.Gates0.Gen.facts, Cert.Gates0Ideal.Gen.facts, Cert.RefGates0Ideal.Gen.facts,
    Cert.DhIn0.Gen.facts, Cert.DhIn0Ideal.Gen.facts, Cert.RefDhIn0Ideal.Gen.facts,
    Cert.DhGate0.Gen.facts, Cert.DhGate0Ideal.Gen.facts, Cert.RefDhGate0Ideal.Gen.facts,
    Cert.GradRow.Gen.facts, Cert.GradRowIdeal.Gen.facts, Cert.RefGradRowIdeal.Gen.facts,
    Cert.AdamIn.Gen.facts, Cert.AdamInIdeal.Gen.facts, Cert.RefAdamInIdeal.Gen.facts,
    Cert.AdamGate.Gen.facts, Cert.AdamGateIdeal.Gen.facts, Cert.RefAdamGateIdeal.Gen.facts,
    Cert.AdamBranch.Gen.facts, Cert.AdamBranchIdeal.Gen.facts, Cert.RefAdamBranchIdeal.Gen.facts,
    Cert.AdamOut.Gen.facts, Cert.AdamOutIdeal.Gen.facts, Cert.RefAdamOutIdeal.Gen.facts,
    Cert.AdamBias.Gen.facts, Cert.AdamBiasIdeal.Gen.facts, Cert.RefAdamBiasIdeal.Gen.facts,
    Cert.AdamNorm.Gen.facts, Cert.AdamNormIdeal.Gen.facts, Cert.RefAdamNormIdeal.Gen.facts,
    Cert.AdamScale.Gen.facts, Cert.AdamScaleIdeal.Gen.facts, Cert.RefAdamScaleIdeal.Gen.facts,
    Cert.AdamFinal.Gen.facts, Cert.AdamFinalIdeal.Gen.facts, Cert.RefAdamFinalIdeal.Gen.facts,
    Cert.AdamConv.Gen.facts, Cert.AdamConvIdeal.Gen.facts, Cert.RefAdamConvIdeal.Gen.facts,
    Cert.AdamPool.Gen.facts, Cert.AdamPoolIdeal.Gen.facts, Cert.RefAdamPoolIdeal.Gen.facts, Cert.GradCol.Gen.facts, Cert.GradColIdeal.Gen.facts, Cert.RefGradColIdeal.Gen.facts,
    Cert.DRow.Gen.facts, Cert.DRowIdeal.Gen.facts, Cert.RefDRowIdeal.Gen.facts,
    Cert.DRow0.Gen.facts, Cert.DRow0Ideal.Gen.facts, Cert.RefDRow0Ideal.Gen.facts,
    Cert.DCol.Gen.facts, Cert.DColIdeal.Gen.facts, Cert.RefDColIdeal.Gen.facts,
    Cert.DCol0.Gen.facts, Cert.DCol0Ideal.Gen.facts, Cert.RefDCol0Ideal.Gen.facts,
    Cert.BranchA.Gen.facts, Cert.BranchAIdeal.Gen.facts, Cert.RefBranchAIdeal.Gen.facts,
    Cert.BranchA0.Gen.facts, Cert.BranchA0Ideal.Gen.facts, Cert.RefBranchA0Ideal.Gen.facts,
    Cert.BranchB.Gen.facts, Cert.BranchBIdeal.Gen.facts, Cert.RefBranchBIdeal.Gen.facts,
    Cert.BranchB0.Gen.facts, Cert.BranchB0Ideal.Gen.facts, Cert.RefBranchB0Ideal.Gen.facts,
    Cert.BranchC.Gen.facts, Cert.BranchCIdeal.Gen.facts, Cert.RefBranchCIdeal.Gen.facts,
    Cert.BranchC0.Gen.facts, Cert.BranchC0Ideal.Gen.facts, Cert.RefBranchC0Ideal.Gen.facts,
    Cert.OutProj.Gen.facts, Cert.OutProjIdeal.Gen.facts, Cert.RefOutProjIdeal.Gen.facts,
    Cert.OutProj0.Gen.facts, Cert.OutProj0Ideal.Gen.facts, Cert.RefOutProj0Ideal.Gen.facts, finiteFacts,
    fun m ρ _ => Cert.Kernel.Gen.frame m ρ, fun m ρ _ => Cert.KernelIdeal.Gen.frame m ρ, fun m ρ _ => Cert.KernelIdeal.Gen.frame m ρ,
    fun m ρ _ => frameR m ρ, fun m ρ _ => frameR m ρ,
    fun m ρ _ => Cert.Proj.Gen.frame m ρ, fun m ρ _ => Cert.ProjIdeal.Gen.frame m ρ, Cert.ProjIdeal.Spec.ref_frame,
    fun m ρ _ => Cert.Gates.Gen.frame m ρ, fun m ρ _ => Cert.GatesIdeal.Gen.frame m ρ, Cert.GatesIdeal.Spec.ref_frame,
    fun m ρ _ => Cert.GradIn.Gen.frame m ρ, fun m ρ _ => Cert.GradInIdeal.Gen.frame m ρ, Cert.GradInIdeal.Spec.ref_frame,
    fun m ρ _ => Cert.GradGate.Gen.frame m ρ, fun m ρ _ => Cert.GradGateIdeal.Gen.frame m ρ, Cert.GradGateIdeal.Spec.ref_frame,
    fun m ρ _ => Cert.DhIn.Gen.frame m ρ, fun m ρ _ => Cert.DhInIdeal.Gen.frame m ρ, Cert.DhInIdeal.Spec.ref_frame,
    fun m ρ _ => Cert.DhGate.Gen.frame m ρ, fun m ρ _ => Cert.DhGateIdeal.Gen.frame m ρ, Cert.DhGateIdeal.Spec.ref_frame,
    fun m ρ _ => Cert.Gates0.Gen.frame m ρ, fun m ρ _ => Cert.Gates0Ideal.Gen.frame m ρ, Cert.Gates0Ideal.Spec.ref_frame,
    fun m ρ _ => Cert.DhIn0.Gen.frame m ρ, fun m ρ _ => Cert.DhIn0Ideal.Gen.frame m ρ, Cert.DhIn0Ideal.Spec.ref_frame,
    fun m ρ _ => Cert.DhGate0.Gen.frame m ρ, fun m ρ _ => Cert.DhGate0Ideal.Gen.frame m ρ, Cert.DhGate0Ideal.Spec.ref_frame,
    fun m ρ _ => Cert.GradRow.Gen.frame m ρ, fun m ρ _ => Cert.GradRowIdeal.Gen.frame m ρ, Cert.GradRowIdeal.Spec.ref_frame,
    fun m ρ _ => Cert.AdamIn.Gen.frame m ρ, fun m ρ _ => Cert.AdamInIdeal.Gen.frame m ρ, Cert.AdamInIdeal.Spec.ref_frame,
    fun m ρ _ => Cert.AdamGate.Gen.frame m ρ, fun m ρ _ => Cert.AdamGateIdeal.Gen.frame m ρ, Cert.AdamGateIdeal.Spec.ref_frame,
    fun m ρ _ => Cert.AdamBranch.Gen.frame m ρ, fun m ρ _ => Cert.AdamBranchIdeal.Gen.frame m ρ, Cert.AdamBranchIdeal.Spec.ref_frame,
    fun m ρ _ => Cert.AdamOut.Gen.frame m ρ, fun m ρ _ => Cert.AdamOutIdeal.Gen.frame m ρ, Cert.AdamOutIdeal.Spec.ref_frame,
    fun m ρ _ => Cert.AdamBias.Gen.frame m ρ, fun m ρ _ => Cert.AdamBiasIdeal.Gen.frame m ρ, Cert.AdamBiasIdeal.Spec.ref_frame,
    fun m ρ _ => Cert.AdamNorm.Gen.frame m ρ, fun m ρ _ => Cert.AdamNormIdeal.Gen.frame m ρ, Cert.AdamNormIdeal.Spec.ref_frame,
    fun m ρ _ => Cert.AdamScale.Gen.frame m ρ, fun m ρ _ => Cert.AdamScaleIdeal.Gen.frame m ρ, Cert.AdamScaleIdeal.Spec.ref_frame,
    fun m ρ _ => Cert.AdamFinal.Gen.frame m ρ, fun m ρ _ => Cert.AdamFinalIdeal.Gen.frame m ρ, Cert.AdamFinalIdeal.Spec.ref_frame,
    fun m ρ _ => Cert.AdamConv.Gen.frame m ρ, fun m ρ _ => Cert.AdamConvIdeal.Gen.frame m ρ, Cert.AdamConvIdeal.Spec.ref_frame,
    fun m ρ _ => Cert.AdamPool.Gen.frame m ρ, fun m ρ _ => Cert.AdamPoolIdeal.Gen.frame m ρ, Cert.AdamPoolIdeal.Spec.ref_frame,
    fun m ρ _ => Cert.GradCol.Gen.frame m ρ, fun m ρ _ => Cert.GradColIdeal.Gen.frame m ρ, Cert.GradColIdeal.Spec.ref_frame,
    fun m ρ _ => Cert.DRow.Gen.frame m ρ, fun m ρ _ => Cert.DRowIdeal.Gen.frame m ρ, Cert.DRowIdeal.Spec.ref_frame,
    fun m ρ _ => Cert.DRow0.Gen.frame m ρ, fun m ρ _ => Cert.DRow0Ideal.Gen.frame m ρ, Cert.DRow0Ideal.Spec.ref_frame,
    fun m ρ _ => Cert.DCol.Gen.frame m ρ, fun m ρ _ => Cert.DColIdeal.Gen.frame m ρ, Cert.DColIdeal.Spec.ref_frame,
    fun m ρ _ => Cert.DCol0.Gen.frame m ρ, fun m ρ _ => Cert.DCol0Ideal.Gen.frame m ρ, Cert.DCol0Ideal.Spec.ref_frame,
    fun m ρ _ => Cert.BranchA.Gen.frame m ρ, fun m ρ _ => Cert.BranchAIdeal.Gen.frame m ρ, Cert.BranchAIdeal.Spec.ref_frame,
    fun m ρ _ => Cert.BranchA0.Gen.frame m ρ, fun m ρ _ => Cert.BranchA0Ideal.Gen.frame m ρ, Cert.BranchA0Ideal.Spec.ref_frame,
    fun m ρ _ => Cert.BranchB.Gen.frame m ρ, fun m ρ _ => Cert.BranchBIdeal.Gen.frame m ρ, Cert.BranchBIdeal.Spec.ref_frame,
    fun m ρ _ => Cert.BranchB0.Gen.frame m ρ, fun m ρ _ => Cert.BranchB0Ideal.Gen.frame m ρ, Cert.BranchB0Ideal.Spec.ref_frame,
    fun m ρ _ => Cert.BranchC.Gen.frame m ρ, fun m ρ _ => Cert.BranchCIdeal.Gen.frame m ρ, Cert.BranchCIdeal.Spec.ref_frame,
    fun m ρ _ => Cert.BranchC0.Gen.frame m ρ, fun m ρ _ => Cert.BranchC0Ideal.Gen.frame m ρ, Cert.BranchC0Ideal.Spec.ref_frame,
    fun m ρ _ => Cert.OutProj.Gen.frame m ρ, fun m ρ _ => Cert.OutProjIdeal.Gen.frame m ρ, Cert.OutProjIdeal.Spec.ref_frame,
    fun m ρ _ => Cert.OutProj0.Gen.frame m ρ, fun m ρ _ => Cert.OutProj0Ideal.Gen.frame m ρ, Cert.OutProj0Ideal.Spec.ref_frame,
    trivial, algebraic, trivial, Cert.ProjIdeal.Spec.agree, trivial, Cert.GatesIdeal.Spec.agree, trivial, Cert.GradInIdeal.Spec.agree, trivial, Cert.GradGateIdeal.Spec.agree, trivial, Cert.DhInIdeal.Spec.agree, trivial, Cert.DhGateIdeal.Spec.agree,
    trivial, Cert.Gates0Ideal.Spec.agree,
    trivial, Cert.DhIn0Ideal.Spec.agree,
    trivial, Cert.DhGate0Ideal.Spec.agree,
    trivial, Cert.GradRowIdeal.Spec.agree,
    trivial, Cert.AdamInIdeal.Spec.agree,
    trivial, Cert.AdamGateIdeal.Spec.agree,
    trivial, Cert.AdamBranchIdeal.Spec.agree,
    trivial, Cert.AdamOutIdeal.Spec.agree,
    trivial, Cert.AdamBiasIdeal.Spec.agree,
    trivial, Cert.AdamNormIdeal.Spec.agree,
    trivial, Cert.AdamScaleIdeal.Spec.agree,
    trivial, Cert.AdamFinalIdeal.Spec.agree,
    trivial, Cert.AdamConvIdeal.Spec.agree,
    trivial, Cert.AdamPoolIdeal.Spec.agree,
    trivial, Cert.GradColIdeal.Spec.agree,
    trivial, Cert.DRowIdeal.Spec.agree,
    trivial, Cert.DRow0Ideal.Spec.agree,
    trivial, Cert.DColIdeal.Spec.agree,
    trivial, Cert.DCol0Ideal.Spec.agree,
    trivial, Cert.BranchAIdeal.Spec.agree,
    trivial, Cert.BranchA0Ideal.Spec.agree,
    trivial, Cert.BranchBIdeal.Spec.agree,
    trivial, Cert.BranchB0Ideal.Spec.agree,
    trivial, Cert.BranchCIdeal.Spec.agree,
    trivial, Cert.BranchC0Ideal.Spec.agree,
    trivial, Cert.OutProjIdeal.Spec.agree,
    trivial, Cert.OutProj0Ideal.Spec.agree⟩

end Cert.Proof

end
